-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_mem_real [hPre_mem_real : Cert.Pre_mem_real.Facts] (m : (ℓ : Loc Cert.MemIdeal.nD Cert.MemIdeal.τ Cert.MemIdeal.sig) → Buf (Elt Ideal) ℓ) : Prop :=
  ∀ c : Dev Cert.MemIdeal.nD,
    (Cert.Pre_mem_real.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).1 = (fun _ => 1#1)
    ∧ (Cert.Pre_mem_real.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2.1 = (fun _ => 1#1)
    ∧ (Cert.Pre_mem_real.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2.2 = (fun _ => 1#1)

def Pre_PlainIdeal (m : (ℓ : Loc Cert.PlainIdeal.nD Cert.PlainIdeal.τ Cert.PlainIdeal.sig) → Buf (Elt Ideal) ℓ) : Prop :=
  True

def Pre_PlainIdeal_mem_real [hPre_mem_real : Cert.Pre_mem_real.Facts] (m : (ℓ : Loc Cert.PlainIdeal.nD Cert.PlainIdeal.τ Cert.PlainIdeal.sig) → Buf (Elt Ideal) ℓ) : Prop :=
  ∀ c : Dev Cert.PlainIdeal.nD,
    (Cert.Pre_mem_real.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2))).1 = (fun _ => 1#1)
    ∧ (Cert.Pre_mem_real.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2))).2.1 = (fun _ => 1#1)
    ∧ (Cert.Pre_mem_real.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2))).2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesDwRefIdeal (m : (ℓ : Loc Cert.GatesDwRefIdeal.nD Cert.GatesDwRefIdeal.τ Cert.GatesDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixO (m : (ℓ : Loc Cert.MixO.nD Cert.MixO.τ Cert.MixO.sig) → Buf (Elt Bits) ℓ) : Prop :=
  True

def Pre_MixOIdeal (m : (ℓ : Loc Cert.MixOIdeal.nD Cert.MixOIdeal.τ Cert.MixOIdeal.sig) → Buf (Elt Ideal) ℓ) : Prop :=
  True

def Pre_MixORefIdeal (m : (ℓ : Loc Cert.MixORefIdeal.nD Cert.MixORefIdeal.τ Cert.MixORefIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxRefIdeal (m : (ℓ : Loc Cert.BrDxRefIdeal.nD Cert.BrDxRefIdeal.τ Cert.BrDxRefIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwRefIdeal (m : (ℓ : Loc Cert.BrDwRefIdeal.nD Cert.BrDwRefIdeal.τ Cert.BrDwRefIdeal.sig) → Buf (Elt Ideal) ℓ) : Prop :=
  True

def Pre_SwaDw (m : (ℓ : Loc Cert.SwaDw.nD Cert.SwaDw.τ Cert.SwaDw.sig) → Buf (Elt Bits) ℓ) : Prop :=
  True

def Pre_SwaDwIdeal (m : (ℓ : Loc Cert.SwaDwIdeal.nD Cert.SwaDwIdeal.τ Cert.SwaDwIdeal.sig) → Buf (Elt Ideal) ℓ) : Prop :=
  True

def Pre_SwaDwRefIdeal (m : (ℓ : Loc Cert.SwaDwRefIdeal.nD Cert.SwaDwRefIdeal.τ Cert.SwaDwRefIdeal.sig) → Buf (Elt Ideal) ℓ) : Prop :=
  True

def Pre_MemDx (m : (ℓ : Loc Cert.MemDx.nD Cert.MemDx.τ Cert.MemDx.sig) → Buf (Elt Bits) ℓ) : Prop :=
  True

def Pre_MemDxIdeal (m : (ℓ : Loc Cert.MemDxIdeal.nD Cert.MemDxIdeal.τ Cert.MemDxIdeal.sig) → Buf (Elt Ideal) ℓ) : Prop :=
  True

def Pre_MemDxRefIdeal (m : (ℓ : Loc Cert.MemDxRefIdeal.nD Cert.MemDxRefIdeal.τ Cert.MemDxRefIdeal.sig) → Buf (Elt Ideal) ℓ) : Prop :=
  True

def Pre_MemDwQ (m : (ℓ : Loc Cert.MemDwQ.nD Cert.MemDwQ.τ Cert.MemDwQ.sig) → Buf (Elt Bits) ℓ) : Prop :=
  True

def Pre_MemDwQIdeal (m : (ℓ : Loc Cert.MemDwQIdeal.nD Cert.MemDwQIdeal.τ Cert.MemDwQIdeal.sig) → Buf (Elt Ideal) ℓ) : Prop :=
  True

def Pre_MemDwQRefIdeal (m : (ℓ : Loc Cert.MemDwQRefIdeal.nD Cert.MemDwQRefIdeal.τ Cert.MemDwQRefIdeal.sig) → Buf (Elt Ideal) ℓ) : Prop :=
  True

def Pre_MemDwKv (m : (ℓ : Loc Cert.MemDwKv.nD Cert.MemDwKv.τ Cert.MemDwKv.sig) → Buf (Elt Bits) ℓ) : Prop :=
  True

def Pre_MemDwKvIdeal (m : (ℓ : Loc Cert.MemDwKvIdeal.nD Cert.MemDwKvIdeal.τ Cert.MemDwKvIdeal.sig) → Buf (Elt Ideal) ℓ) : Prop :=
  True

def Pre_MemDwKvRefIdeal (m : (ℓ : Loc Cert.MemDwKvRefIdeal.nD Cert.MemDwKvRefIdeal.τ Cert.MemDwKvRefIdeal.sig) → Buf (Elt Ideal) ℓ) : Prop :=
  True

def Pre_MemDwO (m : (ℓ : Loc Cert.MemDwO.nD Cert.MemDwO.τ Cert.MemDwO.sig) → Buf (Elt Bits) ℓ) : Prop :=
  True

def Pre_MemDwOIdeal (m : (ℓ : Loc Cert.MemDwOIdeal.nD Cert.MemDwOIdeal.τ Cert.MemDwOIdeal.sig) → Buf (Elt Ideal) ℓ) : Prop :=
  True

def Pre_MemDwORefIdeal (m : (ℓ : Loc Cert.MemDwORefIdeal.nD Cert.MemDwORefIdeal.τ Cert.MemDwORefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemO (m : (ℓ : Loc Cert.MemO.nD Cert.MemO.τ Cert.MemO.sig) → Buf (Elt Bits) ℓ) : Prop :=
  True

def Pre_MemOIdeal (m : (ℓ : Loc Cert.MemOIdeal.nD Cert.MemOIdeal.τ Cert.MemOIdeal.sig) → Buf (Elt Ideal) ℓ) : Prop :=
  True

def Pre_MemORefIdeal (m : (ℓ : Loc Cert.MemORefIdeal.nD Cert.MemORefIdeal.τ Cert.MemORefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_real [hPre_swa_real : Cert.Pre_swa_real.Facts] (m : (ℓ : Loc Cert.SwaIdeal.nD Cert.SwaIdeal.τ Cert.SwaIdeal.sig) → Buf (Elt Ideal) ℓ) : Prop :=
  ∀ c : Dev Cert.SwaIdeal.nD,
    (Cert.Pre_swa_real.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).1 = (fun _ => 1#1)
    ∧ (Cert.Pre_swa_real.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.1 = (fun _ => 1#1)
    ∧ (Cert.Pre_swa_real.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2.1 = (fun _ => 1#1)
    ∧ (Cert.Pre_swa_real.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_real [hPre_swa_real : Cert.Pre_swa_real.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_real.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_swa_real.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_swa_real.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.1 = (fun _ => 1#1)
    ∧ (Cert.Pre_swa_real.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.2 = (fun _ => 1#1)

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_ProjGdn (m : (ℓ : Loc Cert.ProjGdn.nD Cert.ProjGdn.τ Cert.ProjGdn.sig) → Buf (Elt Bits) ℓ) : Prop :=
  True

def Pre_ProjGdnIdeal (m : (ℓ : Loc Cert.ProjGdnIdeal.nD Cert.ProjGdnIdeal.τ Cert.ProjGdnIdeal.sig) → Buf (Elt Ideal) ℓ) : Prop :=
  True

def Pre_ProjGdnRefIdeal (m : (ℓ : Loc Cert.ProjGdnRefIdeal.nD Cert.ProjGdnRefIdeal.τ Cert.ProjGdnRefIdeal.sig) → Buf (Elt Ideal) ℓ) : Prop :=
  True

def Pre_BrFwd (m : (ℓ : Loc Cert.BrFwd.nD Cert.BrFwd.τ Cert.BrFwd.sig) → Buf (Elt Bits) ℓ) : Prop :=
  True

def Pre_BrFwdIdeal (m : (ℓ : Loc Cert.BrFwdIdeal.nD Cert.BrFwdIdeal.τ Cert.BrFwdIdeal.sig) → Buf (Elt Ideal) ℓ) : Prop :=
  True

def Pre_BrFwdRefIdeal (m : (ℓ : Loc Cert.BrFwdRefIdeal.nD Cert.BrFwdRefIdeal.τ Cert.BrFwdRefIdeal.sig) → Buf (Elt Ideal) ℓ) : Prop :=
  True

def Pre_OmDx (m : (ℓ : Loc Cert.OmDx.nD Cert.OmDx.τ Cert.OmDx.sig) → Buf (Elt Bits) ℓ) : Prop :=
  True

def Pre_OmDxIdeal (m : (ℓ : Loc Cert.OmDxIdeal.nD Cert.OmDxIdeal.τ Cert.OmDxIdeal.sig) → Buf (Elt Ideal) ℓ) : Prop :=
  True

def Pre_OmDxRefIdeal (m : (ℓ : Loc Cert.OmDxRefIdeal.nD Cert.OmDxRefIdeal.τ Cert.OmDxRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_SwaDx (m : (ℓ : Loc Cert.SwaDx.nD Cert.SwaDx.τ Cert.SwaDx.sig) → Buf (Elt Bits) ℓ) : Prop :=
  True

def Pre_SwaDxIdeal (m : (ℓ : Loc Cert.SwaDxIdeal.nD Cert.SwaDxIdeal.τ Cert.SwaDxIdeal.sig) → Buf (Elt Ideal) ℓ) : Prop :=
  True

def Pre_SwaDxRefIdeal (m : (ℓ : Loc Cert.SwaDxRefIdeal.nD Cert.SwaDxRefIdeal.τ Cert.SwaDxRefIdeal.sig) → Buf (Elt Ideal) ℓ) : Prop :=
  True

def Pre_GatesDx (m : (ℓ : Loc Cert.GatesDx.nD Cert.GatesDx.τ Cert.GatesDx.sig) → Buf (Elt Bits) ℓ) : Prop :=
  True

def Pre_GatesDxIdeal (m : (ℓ : Loc Cert.GatesDxIdeal.nD Cert.GatesDxIdeal.τ Cert.GatesDxIdeal.sig) → Buf (Elt Ideal) ℓ) : Prop :=
  True

def Pre_GatesDxRefIdeal (m : (ℓ : Loc Cert.GatesDxRefIdeal.nD Cert.GatesDxRefIdeal.τ Cert.GatesDxRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swafwd_real [hPre_swafwd_real : Cert.Pre_swafwd_real.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swafwd_real.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).1 = (fun _ => 1#1)
    ∧ (Cert.Pre_swafwd_real.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).2.1 = (fun _ => 1#1)
    ∧ (Cert.Pre_swafwd_real.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).2.2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swafwd_real [hPre_swafwd_real : Cert.Pre_swafwd_real.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swafwd_real.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).1 = (fun _ => 1#1)
    ∧ (Cert.Pre_swafwd_real.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).2.1 = (fun _ => 1#1)
    ∧ (Cert.Pre_swafwd_real.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).2.2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemIdeal_pre_mem_real [hMemIdeal : Cert.MemIdeal.Facts] [hPre_mem_real : Cert.Pre_mem_real.Facts] : Prop :=
  ∀ (m : (ℓ : Loc Cert.MemIdeal.nD Cert.MemIdeal.τ Cert.MemIdeal.sig) → Buf (Elt Ideal) ℓ) (g : Dev Cert.MemIdeal.nD → PrngReg), Pre_MemIdeal_mem_real m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0)

def quiescent_PlainIdeal_pre_mem_real [hPlainIdeal : Cert.PlainIdeal.Facts] [hPre_mem_real : Cert.Pre_mem_real.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_mem_real m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ r.2.sem = fun _ => 0)

def quiescent_GatesDwRefIdeal [hGatesDwRefIdeal : Cert.GatesDwRefIdeal.Facts] : Prop :=
  ∀ (m : (ℓ : Loc Cert.GatesDwRefIdeal.nD Cert.GatesDwRefIdeal.τ Cert.GatesDwRefIdeal.sig) → Buf (Elt Ideal) ℓ) (g : Dev Cert.GatesDwRefIdeal.nD → PrngReg), Pre_GatesDwRefIdeal m →
    θ_run (Cert.GatesDwRefIdeal.defs (F := Ideal)) (onTc (τ := Cert.GatesDwRefIdeal.τ) (Cert.GatesDwRefIdeal.main (F := Ideal))) ⟨m, fun _ => 0, g⟩ (fun r => (∀ c : Dev Cert.GatesDwRefIdeal.nD,
      r.2.mem ((c.tc : Thread Cert.GatesDwRefIdeal.nD Cert.GatesDwRefIdeal.τ).loc Cert.GatesDwRefIdeal.main_arg0) = m ((c.tc : Thread Cert.GatesDwRefIdeal.nD Cert.GatesDwRefIdeal.τ).loc Cert.GatesDwRefIdeal.main_arg0)
      ∧ r.2.mem ((c.tc : Thread Cert.GatesDwRefIdeal.nD Cert.GatesDwRefIdeal.τ).loc Cert.GatesDwRefIdeal.main_arg1) = m ((c.tc : Thread Cert.GatesDwRefIdeal.nD Cert.GatesDwRefIdeal.τ).loc Cert.GatesDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MixO [hMixO : Cert.MixO.Facts] : Prop :=
  ∀ (m : (ℓ : Loc Cert.MixO.nD Cert.MixO.τ Cert.MixO.sig) → Buf (Elt Bits) ℓ) (g : Dev Cert.MixO.nD → PrngReg), Pre_MixO m →
    θ_run (Cert.MixO.defs (F := Bits)) (onTc (τ := Cert.MixO.τ) (Cert.MixO.main (F := Bits))) ⟨m, fun _ => 0, g⟩ (fun r => (∀ c : Dev Cert.MixO.nD,
      r.2.mem ((c.tc : Thread Cert.MixO.nD Cert.MixO.τ).loc Cert.MixO.main_arg0) = m ((c.tc : Thread Cert.MixO.nD Cert.MixO.τ).loc Cert.MixO.main_arg0)
      ∧ r.2.mem ((c.tc : Thread Cert.MixO.nD Cert.MixO.τ).loc Cert.MixO.main_arg1) = m ((c.tc : Thread Cert.MixO.nD Cert.MixO.τ).loc Cert.MixO.main_arg1)
      ∧ r.2.mem ((c.tc : Thread Cert.MixO.nD Cert.MixO.τ).loc Cert.MixO.main_arg2) = m ((c.tc : Thread Cert.MixO.nD Cert.MixO.τ).loc Cert.MixO.main_arg2))
      ∧ r.2.sem = fun _ => 0)

def quiescent_MixOIdeal [hMixOIdeal : Cert.MixOIdeal.Facts] : Prop :=
  ∀ (m : (ℓ : Loc Cert.MixOIdeal.nD Cert.MixOIdeal.τ Cert.MixOIdeal.sig) → Buf (Elt Ideal) ℓ) (g : Dev Cert.MixOIdeal.nD → PrngReg), Pre_MixOIdeal m →
    θ_run (Cert.MixOIdeal.defs (F := Ideal)) (onTc (τ := Cert.MixOIdeal.τ) (Cert.MixOIdeal.main (F := Ideal))) ⟨m, fun _ => 0, g⟩ (fun r => (∀ c : Dev Cert.MixOIdeal.nD,
      r.2.mem ((c.tc : Thread Cert.MixOIdeal.nD Cert.MixOIdeal.τ).loc Cert.MixOIdeal.main_arg0) = m ((c.tc : Thread Cert.MixOIdeal.nD Cert.MixOIdeal.τ).loc Cert.MixOIdeal.main_arg0)
      ∧ r.2.mem ((c.tc : Thread Cert.MixOIdeal.nD Cert.MixOIdeal.τ).loc Cert.MixOIdeal.main_arg1) = m ((c.tc : Thread Cert.MixOIdeal.nD Cert.MixOIdeal.τ).loc Cert.MixOIdeal.main_arg1)
      ∧ r.2.mem ((c.tc : Thread Cert.MixOIdeal.nD Cert.MixOIdeal.τ).loc Cert.MixOIdeal.main_arg2) = m ((c.tc : Thread Cert.MixOIdeal.nD Cert.MixOIdeal.τ).loc Cert.MixOIdeal.main_arg2))
      ∧ r.2.sem = fun _ => 0)

def quiescent_MixORefIdeal [hMixORefIdeal : Cert.MixORefIdeal.Facts] : Prop :=
  ∀ (m : (ℓ : Loc Cert.MixORefIdeal.nD Cert.MixORefIdeal.τ Cert.MixORefIdeal.sig) → Buf (Elt Ideal) ℓ) (g : Dev Cert.MixORefIdeal.nD → PrngReg), Pre_MixORefIdeal m →
    θ_run (Cert.MixORefIdeal.defs (F := Ideal)) (onTc (τ := Cert.MixORefIdeal.τ) (Cert.MixORefIdeal.main (F := Ideal))) ⟨m, fun _ => 0, g⟩ (fun r => (∀ c : Dev Cert.MixORefIdeal.nD,
      r.2.mem ((c.tc : Thread Cert.MixORefIdeal.nD Cert.MixORefIdeal.τ).loc Cert.MixORefIdeal.main_arg0) = m ((c.tc : Thread Cert.MixORefIdeal.nD Cert.MixORefIdeal.τ).loc Cert.MixORefIdeal.main_arg0)
      ∧ r.2.mem ((c.tc : Thread Cert.MixORefIdeal.nD Cert.MixORefIdeal.τ).loc Cert.MixORefIdeal.main_arg1) = m ((c.tc : Thread Cert.MixORefIdeal.nD Cert.MixORefIdeal.τ).loc Cert.MixORefIdeal.main_arg1)
      ∧ r.2.mem ((c.tc : Thread Cert.MixORefIdeal.nD Cert.MixORefIdeal.τ).loc Cert.MixORefIdeal.main_arg2) = m ((c.tc : Thread Cert.MixORefIdeal.nD Cert.MixORefIdeal.τ).loc Cert.MixORefIdeal.main_arg2))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_BrDxRefIdeal [hBrDxRefIdeal : Cert.BrDxRefIdeal.Facts] : Prop :=
  ∀ (m : (ℓ : Loc Cert.BrDxRefIdeal.nD Cert.BrDxRefIdeal.τ Cert.BrDxRefIdeal.sig) → Buf (Elt Ideal) ℓ) (g : Dev Cert.BrDxRefIdeal.nD → PrngReg), Pre_BrDxRefIdeal m →
    θ_run (Cert.BrDxRefIdeal.defs (F := Ideal)) (onTc (τ := Cert.BrDxRefIdeal.τ) (Cert.BrDxRefIdeal.main (F := Ideal))) ⟨m, fun _ => 0, g⟩ (fun r => (∀ c : Dev Cert.BrDxRefIdeal.nD,
      r.2.mem ((c.tc : Thread Cert.BrDxRefIdeal.nD Cert.BrDxRefIdeal.τ).loc Cert.BrDxRefIdeal.main_arg0) = m ((c.tc : Thread Cert.BrDxRefIdeal.nD Cert.BrDxRefIdeal.τ).loc Cert.BrDxRefIdeal.main_arg0)
      ∧ r.2.mem ((c.tc : Thread Cert.BrDxRefIdeal.nD Cert.BrDxRefIdeal.τ).loc Cert.BrDxRefIdeal.main_arg1) = m ((c.tc : Thread Cert.BrDxRefIdeal.nD Cert.BrDxRefIdeal.τ).loc Cert.BrDxRefIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwRefIdeal [hBrDwRefIdeal : Cert.BrDwRefIdeal.Facts] : Prop :=
  ∀ (m : (ℓ : Loc Cert.BrDwRefIdeal.nD Cert.BrDwRefIdeal.τ Cert.BrDwRefIdeal.sig) → Buf (Elt Ideal) ℓ) (g : Dev Cert.BrDwRefIdeal.nD → PrngReg), Pre_BrDwRefIdeal m →
    θ_run (Cert.BrDwRefIdeal.defs (F := Ideal)) (onTc (τ := Cert.BrDwRefIdeal.τ) (Cert.BrDwRefIdeal.main (F := Ideal))) ⟨m, fun _ => 0, g⟩ (fun r => (∀ c : Dev Cert.BrDwRefIdeal.nD,
      r.2.mem ((c.tc : Thread Cert.BrDwRefIdeal.nD Cert.BrDwRefIdeal.τ).loc Cert.BrDwRefIdeal.main_arg0) = m ((c.tc : Thread Cert.BrDwRefIdeal.nD Cert.BrDwRefIdeal.τ).loc Cert.BrDwRefIdeal.main_arg0)
      ∧ r.2.mem ((c.tc : Thread Cert.BrDwRefIdeal.nD Cert.BrDwRefIdeal.τ).loc Cert.BrDwRefIdeal.main_arg1) = m ((c.tc : Thread Cert.BrDwRefIdeal.nD Cert.BrDwRefIdeal.τ).loc Cert.BrDwRefIdeal.main_arg1))
      ∧ r.2.sem = fun _ => 0)

def quiescent_SwaDw [hSwaDw : Cert.SwaDw.Facts] : Prop :=
  ∀ (m : (ℓ : Loc Cert.SwaDw.nD Cert.SwaDw.τ Cert.SwaDw.sig) → Buf (Elt Bits) ℓ) (g : Dev Cert.SwaDw.nD → PrngReg), Pre_SwaDw m →
    θ_run (Cert.SwaDw.defs (F := Bits)) (onTc (τ := Cert.SwaDw.τ) (Cert.SwaDw.main (F := Bits))) ⟨m, fun _ => 0, g⟩ (fun r => (∀ c : Dev Cert.SwaDw.nD,
      r.2.mem ((c.tc : Thread Cert.SwaDw.nD Cert.SwaDw.τ).loc Cert.SwaDw.main_arg0) = m ((c.tc : Thread Cert.SwaDw.nD Cert.SwaDw.τ).loc Cert.SwaDw.main_arg0)
      ∧ r.2.mem ((c.tc : Thread Cert.SwaDw.nD Cert.SwaDw.τ).loc Cert.SwaDw.main_arg1) = m ((c.tc : Thread Cert.SwaDw.nD Cert.SwaDw.τ).loc Cert.SwaDw.main_arg1))
      ∧ r.2.sem = fun _ => 0)

def quiescent_SwaDwIdeal [hSwaDwIdeal : Cert.SwaDwIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg), Pre_SwaDwIdeal m →
    θ_run (Cert.SwaDwIdeal.defs (F := Ideal)) (onTc (τ := Cert.SwaDwIdeal.τ) (Cert.SwaDwIdeal.main (F := Ideal))) ⟨m, fun _ => 0, g⟩ (fun r => (∀ c : Dev Cert.SwaDwIdeal.nD,
      r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
      ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1))
      ∧ r.2.sem = fun _ => 0)

def quiescent_SwaDwRefIdeal [hSwaDwRefIdeal : Cert.SwaDwRefIdeal.Facts] : Prop :=
  ∀ (m : (ℓ : Loc Cert.SwaDwRefIdeal.nD Cert.SwaDwRefIdeal.τ Cert.SwaDwRefIdeal.sig) → Buf (Elt Ideal) ℓ) (g : Dev Cert.SwaDwRefIdeal.nD → PrngReg), Pre_SwaDwRefIdeal m →
    θ_run (Cert.SwaDwRefIdeal.defs (F := Ideal)) (onTc (τ := Cert.SwaDwRefIdeal.τ) (Cert.SwaDwRefIdeal.main (F := Ideal))) ⟨m, fun _ => 0, g⟩ (fun r => (∀ c : Dev Cert.SwaDwRefIdeal.nD,
      r.2.mem ((c.tc : Thread Cert.SwaDwRefIdeal.nD Cert.SwaDwRefIdeal.τ).loc Cert.SwaDwRefIdeal.main_arg0) = m ((c.tc : Thread Cert.SwaDwRefIdeal.nD Cert.SwaDwRefIdeal.τ).loc Cert.SwaDwRefIdeal.main_arg0)
      ∧ r.2.mem ((c.tc : Thread Cert.SwaDwRefIdeal.nD Cert.SwaDwRefIdeal.τ).loc Cert.SwaDwRefIdeal.main_arg1) = m ((c.tc : Thread Cert.SwaDwRefIdeal.nD Cert.SwaDwRefIdeal.τ).loc Cert.SwaDwRefIdeal.main_arg1))
      ∧ r.2.sem = fun _ => 0)

def quiescent_MemDx [hMemDx : Cert.MemDx.Facts] : Prop :=
  ∀ (m : (ℓ : Loc Cert.MemDx.nD Cert.MemDx.τ Cert.MemDx.sig) → Buf (Elt Bits) ℓ) (g : Dev Cert.MemDx.nD → PrngReg), Pre_MemDx m →
    θ_run (Cert.MemDx.defs (F := Bits)) (onTc (τ := Cert.MemDx.τ) (Cert.MemDx.main (F := Bits))) ⟨m, fun _ => 0, g⟩ (fun r => (∀ c : Dev Cert.MemDx.nD,
      r.2.mem ((c.tc : Thread Cert.MemDx.nD Cert.MemDx.τ).loc Cert.MemDx.main_arg0) = m ((c.tc : Thread Cert.MemDx.nD Cert.MemDx.τ).loc Cert.MemDx.main_arg0)
      ∧ r.2.mem ((c.tc : Thread Cert.MemDx.nD Cert.MemDx.τ).loc Cert.MemDx.main_arg1) = m ((c.tc : Thread Cert.MemDx.nD Cert.MemDx.τ).loc Cert.MemDx.main_arg1)
      ∧ r.2.mem ((c.tc : Thread Cert.MemDx.nD Cert.MemDx.τ).loc Cert.MemDx.main_arg2) = m ((c.tc : Thread Cert.MemDx.nD Cert.MemDx.τ).loc Cert.MemDx.main_arg2))
      ∧ r.2.sem = fun _ => 0)

def quiescent_MemDxIdeal [hMemDxIdeal : Cert.MemDxIdeal.Facts] : Prop :=
  ∀ (m : (ℓ : Loc Cert.MemDxIdeal.nD Cert.MemDxIdeal.τ Cert.MemDxIdeal.sig) → Buf (Elt Ideal) ℓ) (g : Dev Cert.MemDxIdeal.nD → PrngReg), Pre_MemDxIdeal m →
    θ_run (Cert.MemDxIdeal.defs (F := Ideal)) (onTc (τ := Cert.MemDxIdeal.τ) (Cert.MemDxIdeal.main (F := Ideal))) ⟨m, fun _ => 0, g⟩ (fun r => (∀ c : Dev Cert.MemDxIdeal.nD,
      r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
      ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1)
      ∧ r.2.mem ((c.tc : Thread Cert.MemDxIdeal.nD Cert.MemDxIdeal.τ).loc Cert.MemDxIdeal.main_arg2) = m ((c.tc : Thread Cert.MemDxIdeal.nD Cert.MemDxIdeal.τ).loc Cert.MemDxIdeal.main_arg2))
      ∧ r.2.sem = fun _ => 0)

def quiescent_MemDxRefIdeal [hMemDxRefIdeal : Cert.MemDxRefIdeal.Facts] : Prop :=
  ∀ (m : (ℓ : Loc Cert.MemDxRefIdeal.nD Cert.MemDxRefIdeal.τ Cert.MemDxRefIdeal.sig) → Buf (Elt Ideal) ℓ) (g : Dev Cert.MemDxRefIdeal.nD → PrngReg), Pre_MemDxRefIdeal m →
    θ_run (Cert.MemDxRefIdeal.defs (F := Ideal)) (onTc (τ := Cert.MemDxRefIdeal.τ) (Cert.MemDxRefIdeal.main (F := Ideal))) ⟨m, fun _ => 0, g⟩ (fun r => (∀ c : Dev Cert.MemDxRefIdeal.nD,
      r.2.mem ((c.tc : Thread Cert.MemDxRefIdeal.nD Cert.MemDxRefIdeal.τ).loc Cert.MemDxRefIdeal.main_arg0) = m ((c.tc : Thread Cert.MemDxRefIdeal.nD Cert.MemDxRefIdeal.τ).loc Cert.MemDxRefIdeal.main_arg0)
      ∧ r.2.mem ((c.tc : Thread Cert.MemDxRefIdeal.nD Cert.MemDxRefIdeal.τ).loc Cert.MemDxRefIdeal.main_arg1) = m ((c.tc : Thread Cert.MemDxRefIdeal.nD Cert.MemDxRefIdeal.τ).loc Cert.MemDxRefIdeal.main_arg1)
      ∧ r.2.mem ((c.tc : Thread Cert.MemDxRefIdeal.nD Cert.MemDxRefIdeal.τ).loc Cert.MemDxRefIdeal.main_arg2) = m ((c.tc : Thread Cert.MemDxRefIdeal.nD Cert.MemDxRefIdeal.τ).loc Cert.MemDxRefIdeal.main_arg2))
      ∧ r.2.sem = fun _ => 0)

def quiescent_MemDwQ [hMemDwQ : Cert.MemDwQ.Facts] : Prop :=
  ∀ (m : (ℓ : Loc Cert.MemDwQ.nD Cert.MemDwQ.τ Cert.MemDwQ.sig) → Buf (Elt Bits) ℓ) (g : Dev Cert.MemDwQ.nD → PrngReg), Pre_MemDwQ m →
    θ_run (Cert.MemDwQ.defs (F := Bits)) (onTc (τ := Cert.MemDwQ.τ) (Cert.MemDwQ.main (F := Bits))) ⟨m, fun _ => 0, g⟩ (fun r => (∀ c : Dev Cert.MemDwQ.nD,
      r.2.mem ((c.tc : Thread Cert.MemDwQ.nD Cert.MemDwQ.τ).loc Cert.MemDwQ.main_arg0) = m ((c.tc : Thread Cert.MemDwQ.nD Cert.MemDwQ.τ).loc Cert.MemDwQ.main_arg0)
      ∧ r.2.mem ((c.tc : Thread Cert.MemDwQ.nD Cert.MemDwQ.τ).loc Cert.MemDwQ.main_arg1) = m ((c.tc : Thread Cert.MemDwQ.nD Cert.MemDwQ.τ).loc Cert.MemDwQ.main_arg1))
      ∧ r.2.sem = fun _ => 0)

def quiescent_MemDwQIdeal [hMemDwQIdeal : Cert.MemDwQIdeal.Facts] : Prop :=
  ∀ (m : (ℓ : Loc Cert.MemDwQIdeal.nD Cert.MemDwQIdeal.τ Cert.MemDwQIdeal.sig) → Buf (Elt Ideal) ℓ) (g : Dev Cert.MemDwQIdeal.nD → PrngReg), Pre_MemDwQIdeal m →
    θ_run (Cert.MemDwQIdeal.defs (F := Ideal)) (onTc (τ := Cert.MemDwQIdeal.τ) (Cert.MemDwQIdeal.main (F := Ideal))) ⟨m, fun _ => 0, g⟩ (fun r => (∀ c : Dev Cert.MemDwQIdeal.nD,
      r.2.mem ((c.tc : Thread Cert.MemDwQIdeal.nD Cert.MemDwQIdeal.τ).loc Cert.MemDwQIdeal.main_arg0) = m ((c.tc : Thread Cert.MemDwQIdeal.nD Cert.MemDwQIdeal.τ).loc Cert.MemDwQIdeal.main_arg0)
      ∧ r.2.mem ((c.tc : Thread Cert.MemDwQIdeal.nD Cert.MemDwQIdeal.τ).loc Cert.MemDwQIdeal.main_arg1) = m ((c.tc : Thread Cert.MemDwQIdeal.nD Cert.MemDwQIdeal.τ).loc Cert.MemDwQIdeal.main_arg1))
      ∧ r.2.sem = fun _ => 0)

def quiescent_MemDwQRefIdeal [hMemDwQRefIdeal : Cert.MemDwQRefIdeal.Facts] : Prop :=
  ∀ (m : (ℓ : Loc Cert.MemDwQRefIdeal.nD Cert.MemDwQRefIdeal.τ Cert.MemDwQRefIdeal.sig) → Buf (Elt Ideal) ℓ) (g : Dev Cert.MemDwQRefIdeal.nD → PrngReg), Pre_MemDwQRefIdeal m →
    θ_run (Cert.MemDwQRefIdeal.defs (F := Ideal)) (onTc (τ := Cert.MemDwQRefIdeal.τ) (Cert.MemDwQRefIdeal.main (F := Ideal))) ⟨m, fun _ => 0, g⟩ (fun r => (∀ c : Dev Cert.MemDwQRefIdeal.nD,
      r.2.mem ((c.tc : Thread Cert.MemDwQRefIdeal.nD Cert.MemDwQRefIdeal.τ).loc Cert.MemDwQRefIdeal.main_arg0) = m ((c.tc : Thread Cert.MemDwQRefIdeal.nD Cert.MemDwQRefIdeal.τ).loc Cert.MemDwQRefIdeal.main_arg0)
      ∧ r.2.mem ((c.tc : Thread Cert.MemDwQRefIdeal.nD Cert.MemDwQRefIdeal.τ).loc Cert.MemDwQRefIdeal.main_arg1) = m ((c.tc : Thread Cert.MemDwQRefIdeal.nD Cert.MemDwQRefIdeal.τ).loc Cert.MemDwQRefIdeal.main_arg1))
      ∧ r.2.sem = fun _ => 0)

def quiescent_MemDwKv [hMemDwKv : Cert.MemDwKv.Facts] : Prop :=
  ∀ (m : (ℓ : Loc Cert.MemDwKv.nD Cert.MemDwKv.τ Cert.MemDwKv.sig) → Buf (Elt Bits) ℓ) (g : Dev Cert.MemDwKv.nD → PrngReg), Pre_MemDwKv m →
    θ_run (Cert.MemDwKv.defs (F := Bits)) (onTc (τ := Cert.MemDwKv.τ) (Cert.MemDwKv.main (F := Bits))) ⟨m, fun _ => 0, g⟩ (fun r => (∀ c : Dev Cert.MemDwKv.nD,
      r.2.mem ((c.tc : Thread Cert.MemDwKv.nD Cert.MemDwKv.τ).loc Cert.MemDwKv.main_arg0) = m ((c.tc : Thread Cert.MemDwKv.nD Cert.MemDwKv.τ).loc Cert.MemDwKv.main_arg0)
      ∧ r.2.mem ((c.tc : Thread Cert.MemDwKv.nD Cert.MemDwKv.τ).loc Cert.MemDwKv.main_arg1) = m ((c.tc : Thread Cert.MemDwKv.nD Cert.MemDwKv.τ).loc Cert.MemDwKv.main_arg1))
      ∧ r.2.sem = fun _ => 0)

def quiescent_MemDwKvIdeal [hMemDwKvIdeal : Cert.MemDwKvIdeal.Facts] : Prop :=
  ∀ (m : (ℓ : Loc Cert.MemDwKvIdeal.nD Cert.MemDwKvIdeal.τ Cert.MemDwKvIdeal.sig) → Buf (Elt Ideal) ℓ) (g : Dev Cert.MemDwKvIdeal.nD → PrngReg), Pre_MemDwKvIdeal m →
    θ_run (Cert.MemDwKvIdeal.defs (F := Ideal)) (onTc (τ := Cert.MemDwKvIdeal.τ) (Cert.MemDwKvIdeal.main (F := Ideal))) ⟨m, fun _ => 0, g⟩ (fun r => (∀ c : Dev Cert.MemDwKvIdeal.nD,
      r.2.mem ((c.tc : Thread Cert.MemDwKvIdeal.nD Cert.MemDwKvIdeal.τ).loc Cert.MemDwKvIdeal.main_arg0) = m ((c.tc : Thread Cert.MemDwKvIdeal.nD Cert.MemDwKvIdeal.τ).loc Cert.MemDwKvIdeal.main_arg0)
      ∧ r.2.mem ((c.tc : Thread Cert.MemDwKvIdeal.nD Cert.MemDwKvIdeal.τ).loc Cert.MemDwKvIdeal.main_arg1) = m ((c.tc : Thread Cert.MemDwKvIdeal.nD Cert.MemDwKvIdeal.τ).loc Cert.MemDwKvIdeal.main_arg1))
      ∧ r.2.sem = fun _ => 0)

def quiescent_MemDwKvRefIdeal [hMemDwKvRefIdeal : Cert.MemDwKvRefIdeal.Facts] : Prop :=
  ∀ (m : (ℓ : Loc Cert.MemDwKvRefIdeal.nD Cert.MemDwKvRefIdeal.τ Cert.MemDwKvRefIdeal.sig) → Buf (Elt Ideal) ℓ) (g : Dev Cert.MemDwKvRefIdeal.nD → PrngReg), Pre_MemDwKvRefIdeal m →
    θ_run (Cert.MemDwKvRefIdeal.defs (F := Ideal)) (onTc (τ := Cert.MemDwKvRefIdeal.τ) (Cert.MemDwKvRefIdeal.main (F := Ideal))) ⟨m, fun _ => 0, g⟩ (fun r => (∀ c : Dev Cert.MemDwKvRefIdeal.nD,
      r.2.mem ((c.tc : Thread Cert.MemDwKvRefIdeal.nD Cert.MemDwKvRefIdeal.τ).loc Cert.MemDwKvRefIdeal.main_arg0) = m ((c.tc : Thread Cert.MemDwKvRefIdeal.nD Cert.MemDwKvRefIdeal.τ).loc Cert.MemDwKvRefIdeal.main_arg0)
      ∧ r.2.mem ((c.tc : Thread Cert.MemDwKvRefIdeal.nD Cert.MemDwKvRefIdeal.τ).loc Cert.MemDwKvRefIdeal.main_arg1) = m ((c.tc : Thread Cert.MemDwKvRefIdeal.nD Cert.MemDwKvRefIdeal.τ).loc Cert.MemDwKvRefIdeal.main_arg1))
      ∧ r.2.sem = fun _ => 0)

def quiescent_MemDwO [hMemDwO : Cert.MemDwO.Facts] : Prop :=
  ∀ (m : (ℓ : Loc Cert.MemDwO.nD Cert.MemDwO.τ Cert.MemDwO.sig) → Buf (Elt Bits) ℓ) (g : Dev Cert.MemDwO.nD → PrngReg), Pre_MemDwO m →
    θ_run (Cert.MemDwO.defs (F := Bits)) (onTc (τ := Cert.MemDwO.τ) (Cert.MemDwO.main (F := Bits))) ⟨m, fun _ => 0, g⟩ (fun r => (∀ c : Dev Cert.MemDwO.nD,
      r.2.mem ((c.tc : Thread Cert.MemDwO.nD Cert.MemDwO.τ).loc Cert.MemDwO.main_arg0) = m ((c.tc : Thread Cert.MemDwO.nD Cert.MemDwO.τ).loc Cert.MemDwO.main_arg0)
      ∧ r.2.mem ((c.tc : Thread Cert.MemDwO.nD Cert.MemDwO.τ).loc Cert.MemDwO.main_arg1) = m ((c.tc : Thread Cert.MemDwO.nD Cert.MemDwO.τ).loc Cert.MemDwO.main_arg1))
      ∧ r.2.sem = fun _ => 0)

def quiescent_MemDwOIdeal [hMemDwOIdeal : Cert.MemDwOIdeal.Facts] : Prop :=
  ∀ (m : (ℓ : Loc Cert.MemDwOIdeal.nD Cert.MemDwOIdeal.τ Cert.MemDwOIdeal.sig) → Buf (Elt Ideal) ℓ) (g : Dev Cert.MemDwOIdeal.nD → PrngReg), Pre_MemDwOIdeal m →
    θ_run (Cert.MemDwOIdeal.defs (F := Ideal)) (onTc (τ := Cert.MemDwOIdeal.τ) (Cert.MemDwOIdeal.main (F := Ideal))) ⟨m, fun _ => 0, g⟩ (fun r => (∀ c : Dev Cert.MemDwOIdeal.nD,
      r.2.mem ((c.tc : Thread Cert.MemDwOIdeal.nD Cert.MemDwOIdeal.τ).loc Cert.MemDwOIdeal.main_arg0) = m ((c.tc : Thread Cert.MemDwOIdeal.nD Cert.MemDwOIdeal.τ).loc Cert.MemDwOIdeal.main_arg0)
      ∧ r.2.mem ((c.tc : Thread Cert.MemDwOIdeal.nD Cert.MemDwOIdeal.τ).loc Cert.MemDwOIdeal.main_arg1) = m ((c.tc : Thread Cert.MemDwOIdeal.nD Cert.MemDwOIdeal.τ).loc Cert.MemDwOIdeal.main_arg1))
      ∧ r.2.sem = fun _ => 0)

def quiescent_MemDwORefIdeal [hMemDwORefIdeal : Cert.MemDwORefIdeal.Facts] : Prop :=
  ∀ (m : (ℓ : Loc Cert.MemDwORefIdeal.nD Cert.MemDwORefIdeal.τ Cert.MemDwORefIdeal.sig) → Buf (Elt Ideal) ℓ) (g : Dev Cert.MemDwORefIdeal.nD → PrngReg), Pre_MemDwORefIdeal m →
    θ_run (Cert.MemDwORefIdeal.defs (F := Ideal)) (onTc (τ := Cert.MemDwORefIdeal.τ) (Cert.MemDwORefIdeal.main (F := Ideal))) ⟨m, fun _ => 0, g⟩ (fun r => (∀ c : Dev Cert.MemDwORefIdeal.nD,
      r.2.mem ((c.tc : Thread Cert.MemDwORefIdeal.nD Cert.MemDwORefIdeal.τ).loc Cert.MemDwORefIdeal.main_arg0) = m ((c.tc : Thread Cert.MemDwORefIdeal.nD Cert.MemDwORefIdeal.τ).loc Cert.MemDwORefIdeal.main_arg0)
      ∧ r.2.mem ((c.tc : Thread Cert.MemDwORefIdeal.nD Cert.MemDwORefIdeal.τ).loc Cert.MemDwORefIdeal.main_arg1) = m ((c.tc : Thread Cert.MemDwORefIdeal.nD Cert.MemDwORefIdeal.τ).loc Cert.MemDwORefIdeal.main_arg1))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemO [hMemO : Cert.MemO.Facts] : Prop :=
  ∀ (m : (ℓ : Loc Cert.MemO.nD Cert.MemO.τ Cert.MemO.sig) → Buf (Elt Bits) ℓ) (g : Dev Cert.MemO.nD → PrngReg), Pre_MemO m →
    θ_run (Cert.MemO.defs (F := Bits)) (onTc (τ := Cert.MemO.τ) (Cert.MemO.main (F := Bits))) ⟨m, fun _ => 0, g⟩ (fun r => (∀ c : Dev Cert.MemO.nD,
      r.2.mem ((c.tc : Thread Cert.MemO.nD Cert.MemO.τ).loc Cert.MemO.main_arg0) = m ((c.tc : Thread Cert.MemO.nD Cert.MemO.τ).loc Cert.MemO.main_arg0)
      ∧ r.2.mem ((c.tc : Thread Cert.MemO.nD Cert.MemO.τ).loc Cert.MemO.main_arg1) = m ((c.tc : Thread Cert.MemO.nD Cert.MemO.τ).loc Cert.MemO.main_arg1)
      ∧ r.2.mem ((c.tc : Thread Cert.MemO.nD Cert.MemO.τ).loc Cert.MemO.main_arg2) = m ((c.tc : Thread Cert.MemO.nD Cert.MemO.τ).loc Cert.MemO.main_arg2))
      ∧ r.2.sem = fun _ => 0)

def quiescent_MemOIdeal [hMemOIdeal : Cert.MemOIdeal.Facts] : Prop :=
  ∀ (m : (ℓ : Loc Cert.MemOIdeal.nD Cert.MemOIdeal.τ Cert.MemOIdeal.sig) → Buf (Elt Ideal) ℓ) (g : Dev Cert.MemOIdeal.nD → PrngReg), Pre_MemOIdeal m →
    θ_run (Cert.MemOIdeal.defs (F := Ideal)) (onTc (τ := Cert.MemOIdeal.τ) (Cert.MemOIdeal.main (F := Ideal))) ⟨m, fun _ => 0, g⟩ (fun r => (∀ c : Dev Cert.MemOIdeal.nD,
      r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
      ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1)
      ∧ r.2.mem ((c.tc : Thread Cert.MemOIdeal.nD Cert.MemOIdeal.τ).loc Cert.MemOIdeal.main_arg2) = m ((c.tc : Thread Cert.MemOIdeal.nD Cert.MemOIdeal.τ).loc Cert.MemOIdeal.main_arg2))
      ∧ r.2.sem = fun _ => 0)

def quiescent_MemORefIdeal [hMemORefIdeal : Cert.MemORefIdeal.Facts] : Prop :=
  ∀ (m : (ℓ : Loc Cert.MemORefIdeal.nD Cert.MemORefIdeal.τ Cert.MemORefIdeal.sig) → Buf (Elt Ideal) ℓ) (g : Dev Cert.MemORefIdeal.nD → PrngReg), Pre_MemORefIdeal m →
    θ_run (Cert.MemORefIdeal.defs (F := Ideal)) (onTc (τ := Cert.MemORefIdeal.τ) (Cert.MemORefIdeal.main (F := Ideal))) ⟨m, fun _ => 0, g⟩ (fun r => (∀ c : Dev Cert.MemORefIdeal.nD,
      r.2.mem ((c.tc : Thread Cert.MemORefIdeal.nD Cert.MemORefIdeal.τ).loc Cert.MemORefIdeal.main_arg0) = m ((c.tc : Thread Cert.MemORefIdeal.nD Cert.MemORefIdeal.τ).loc Cert.MemORefIdeal.main_arg0)
      ∧ r.2.mem ((c.tc : Thread Cert.MemORefIdeal.nD Cert.MemORefIdeal.τ).loc Cert.MemORefIdeal.main_arg1) = m ((c.tc : Thread Cert.MemORefIdeal.nD Cert.MemORefIdeal.τ).loc Cert.MemORefIdeal.main_arg1)
      ∧ r.2.mem ((c.tc : Thread Cert.MemORefIdeal.nD Cert.MemORefIdeal.τ).loc Cert.MemORefIdeal.main_arg2) = m ((c.tc : Thread Cert.MemORefIdeal.nD Cert.MemORefIdeal.τ).loc Cert.MemORefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_swa_real [hSwaIdeal : Cert.SwaIdeal.Facts] [hPre_swa_real : Cert.Pre_swa_real.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_real m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_swa_real [hSwaRefIdeal : Cert.SwaRefIdeal.Facts] [hPre_swa_real : Cert.Pre_swa_real.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_real m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_ProjGdn [hProjGdn : Cert.ProjGdn.Facts] : Prop :=
  ∀ (m : (ℓ : Loc Cert.ProjGdn.nD Cert.ProjGdn.τ Cert.ProjGdn.sig) → Buf (Elt Bits) ℓ) (g : Dev Cert.ProjGdn.nD → PrngReg), Pre_ProjGdn m →
    θ_run (Cert.ProjGdn.defs (F := Bits)) (onTc (τ := Cert.ProjGdn.τ) (Cert.ProjGdn.main (F := Bits))) ⟨m, fun _ => 0, g⟩ (fun r => (∀ c : Dev Cert.ProjGdn.nD,
      r.2.mem ((c.tc : Thread Cert.ProjGdn.nD Cert.ProjGdn.τ).loc Cert.ProjGdn.main_arg0) = m ((c.tc : Thread Cert.ProjGdn.nD Cert.ProjGdn.τ).loc Cert.ProjGdn.main_arg0)
      ∧ r.2.mem ((c.tc : Thread Cert.ProjGdn.nD Cert.ProjGdn.τ).loc Cert.ProjGdn.main_arg1) = m ((c.tc : Thread Cert.ProjGdn.nD Cert.ProjGdn.τ).loc Cert.ProjGdn.main_arg1))
      ∧ r.2.sem = fun _ => 0)

def quiescent_ProjGdnIdeal [hProjGdnIdeal : Cert.ProjGdnIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg), Pre_ProjGdnIdeal m →
    θ_run (Cert.ProjGdnIdeal.defs (F := Ideal)) (onTc (τ := Cert.ProjGdnIdeal.τ) (Cert.ProjGdnIdeal.main (F := Ideal))) ⟨m, fun _ => 0, g⟩ (fun r => (∀ c : Dev Cert.ProjGdnIdeal.nD,
      r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
      ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ r.2.sem = fun _ => 0)

def quiescent_ProjGdnRefIdeal [hProjGdnRefIdeal : Cert.ProjGdnRefIdeal.Facts] : Prop :=
  ∀ (m : (ℓ : Loc Cert.ProjGdnRefIdeal.nD Cert.ProjGdnRefIdeal.τ Cert.ProjGdnRefIdeal.sig) → Buf (Elt Ideal) ℓ) (g : Dev Cert.ProjGdnRefIdeal.nD → PrngReg), Pre_ProjGdnRefIdeal m →
    θ_run (Cert.ProjGdnRefIdeal.defs (F := Ideal)) (onTc (τ := Cert.ProjGdnRefIdeal.τ) (Cert.ProjGdnRefIdeal.main (F := Ideal))) ⟨m, fun _ => 0, g⟩ (fun r => (∀ c : Dev Cert.ProjGdnRefIdeal.nD,
      r.2.mem ((c.tc : Thread Cert.ProjGdnRefIdeal.nD Cert.ProjGdnRefIdeal.τ).loc Cert.ProjGdnRefIdeal.main_arg0) = m ((c.tc : Thread Cert.ProjGdnRefIdeal.nD Cert.ProjGdnRefIdeal.τ).loc Cert.ProjGdnRefIdeal.main_arg0)
      ∧ r.2.mem ((c.tc : Thread Cert.ProjGdnRefIdeal.nD Cert.ProjGdnRefIdeal.τ).loc Cert.ProjGdnRefIdeal.main_arg1) = m ((c.tc : Thread Cert.ProjGdnRefIdeal.nD Cert.ProjGdnRefIdeal.τ).loc Cert.ProjGdnRefIdeal.main_arg1))
      ∧ r.2.sem = fun _ => 0)

def quiescent_BrFwd [hBrFwd : Cert.BrFwd.Facts] : Prop :=
  ∀ (m : (ℓ : Loc Cert.BrFwd.nD Cert.BrFwd.τ Cert.BrFwd.sig) → Buf (Elt Bits) ℓ) (g : Dev Cert.BrFwd.nD → PrngReg), Pre_BrFwd m →
    θ_run (Cert.BrFwd.defs (F := Bits)) (onTc (τ := Cert.BrFwd.τ) (Cert.BrFwd.main (F := Bits))) ⟨m, fun _ => 0, g⟩ (fun r => (∀ c : Dev Cert.BrFwd.nD,
      r.2.mem ((c.tc : Thread Cert.BrFwd.nD Cert.BrFwd.τ).loc Cert.BrFwd.main_arg0) = m ((c.tc : Thread Cert.BrFwd.nD Cert.BrFwd.τ).loc Cert.BrFwd.main_arg0)
      ∧ r.2.mem ((c.tc : Thread Cert.BrFwd.nD Cert.BrFwd.τ).loc Cert.BrFwd.main_arg1) = m ((c.tc : Thread Cert.BrFwd.nD Cert.BrFwd.τ).loc Cert.BrFwd.main_arg1))
      ∧ r.2.sem = fun _ => 0)

def quiescent_BrFwdIdeal [hBrFwdIdeal : Cert.BrFwdIdeal.Facts] : Prop :=
  ∀ (m : (ℓ : Loc Cert.BrFwdIdeal.nD Cert.BrFwdIdeal.τ Cert.BrFwdIdeal.sig) → Buf (Elt Ideal) ℓ) (g : Dev Cert.BrFwdIdeal.nD → PrngReg), Pre_BrFwdIdeal m →
    θ_run (Cert.BrFwdIdeal.defs (F := Ideal)) (onTc (τ := Cert.BrFwdIdeal.τ) (Cert.BrFwdIdeal.main (F := Ideal))) ⟨m, fun _ => 0, g⟩ (fun r => (∀ c : Dev Cert.BrFwdIdeal.nD,
      r.2.mem ((c.tc : Thread Cert.BrFwdIdeal.nD Cert.BrFwdIdeal.τ).loc Cert.BrFwdIdeal.main_arg0) = m ((c.tc : Thread Cert.BrFwdIdeal.nD Cert.BrFwdIdeal.τ).loc Cert.BrFwdIdeal.main_arg0)
      ∧ r.2.mem ((c.tc : Thread Cert.BrFwdIdeal.nD Cert.BrFwdIdeal.τ).loc Cert.BrFwdIdeal.main_arg1) = m ((c.tc : Thread Cert.BrFwdIdeal.nD Cert.BrFwdIdeal.τ).loc Cert.BrFwdIdeal.main_arg1))
      ∧ r.2.sem = fun _ => 0)

def quiescent_BrFwdRefIdeal [hBrFwdRefIdeal : Cert.BrFwdRefIdeal.Facts] : Prop :=
  ∀ (m : (ℓ : Loc Cert.BrFwdRefIdeal.nD Cert.BrFwdRefIdeal.τ Cert.BrFwdRefIdeal.sig) → Buf (Elt Ideal) ℓ) (g : Dev Cert.BrFwdRefIdeal.nD → PrngReg), Pre_BrFwdRefIdeal m →
    θ_run (Cert.BrFwdRefIdeal.defs (F := Ideal)) (onTc (τ := Cert.BrFwdRefIdeal.τ) (Cert.BrFwdRefIdeal.main (F := Ideal))) ⟨m, fun _ => 0, g⟩ (fun r => (∀ c : Dev Cert.BrFwdRefIdeal.nD,
      r.2.mem ((c.tc : Thread Cert.BrFwdRefIdeal.nD Cert.BrFwdRefIdeal.τ).loc Cert.BrFwdRefIdeal.main_arg0) = m ((c.tc : Thread Cert.BrFwdRefIdeal.nD Cert.BrFwdRefIdeal.τ).loc Cert.BrFwdRefIdeal.main_arg0)
      ∧ r.2.mem ((c.tc : Thread Cert.BrFwdRefIdeal.nD Cert.BrFwdRefIdeal.τ).loc Cert.BrFwdRefIdeal.main_arg1) = m ((c.tc : Thread Cert.BrFwdRefIdeal.nD Cert.BrFwdRefIdeal.τ).loc Cert.BrFwdRefIdeal.main_arg1))
      ∧ r.2.sem = fun _ => 0)

def quiescent_OmDx [hOmDx : Cert.OmDx.Facts] : Prop :=
  ∀ (m : (ℓ : Loc Cert.OmDx.nD Cert.OmDx.τ Cert.OmDx.sig) → Buf (Elt Bits) ℓ) (g : Dev Cert.OmDx.nD → PrngReg), Pre_OmDx m →
    θ_run (Cert.OmDx.defs (F := Bits)) (onTc (τ := Cert.OmDx.τ) (Cert.OmDx.main (F := Bits))) ⟨m, fun _ => 0, g⟩ (fun r => (∀ c : Dev Cert.OmDx.nD,
      r.2.mem ((c.tc : Thread Cert.OmDx.nD Cert.OmDx.τ).loc Cert.OmDx.main_arg0) = m ((c.tc : Thread Cert.OmDx.nD Cert.OmDx.τ).loc Cert.OmDx.main_arg0)
      ∧ r.2.mem ((c.tc : Thread Cert.OmDx.nD Cert.OmDx.τ).loc Cert.OmDx.main_arg1) = m ((c.tc : Thread Cert.OmDx.nD Cert.OmDx.τ).loc Cert.OmDx.main_arg1))
      ∧ r.2.sem = fun _ => 0)

def quiescent_OmDxIdeal [hOmDxIdeal : Cert.OmDxIdeal.Facts] : Prop :=
  ∀ (m : (ℓ : Loc Cert.OmDxIdeal.nD Cert.OmDxIdeal.τ Cert.OmDxIdeal.sig) → Buf (Elt Ideal) ℓ) (g : Dev Cert.OmDxIdeal.nD → PrngReg), Pre_OmDxIdeal m →
    θ_run (Cert.OmDxIdeal.defs (F := Ideal)) (onTc (τ := Cert.OmDxIdeal.τ) (Cert.OmDxIdeal.main (F := Ideal))) ⟨m, fun _ => 0, g⟩ (fun r => (∀ c : Dev Cert.OmDxIdeal.nD,
      r.2.mem ((c.tc : Thread Cert.OmDxIdeal.nD Cert.OmDxIdeal.τ).loc Cert.OmDxIdeal.main_arg0) = m ((c.tc : Thread Cert.OmDxIdeal.nD Cert.OmDxIdeal.τ).loc Cert.OmDxIdeal.main_arg0)
      ∧ r.2.mem ((c.tc : Thread Cert.OmDxIdeal.nD Cert.OmDxIdeal.τ).loc Cert.OmDxIdeal.main_arg1) = m ((c.tc : Thread Cert.OmDxIdeal.nD Cert.OmDxIdeal.τ).loc Cert.OmDxIdeal.main_arg1))
      ∧ r.2.sem = fun _ => 0)

def quiescent_OmDxRefIdeal [hOmDxRefIdeal : Cert.OmDxRefIdeal.Facts] : Prop :=
  ∀ (m : (ℓ : Loc Cert.OmDxRefIdeal.nD Cert.OmDxRefIdeal.τ Cert.OmDxRefIdeal.sig) → Buf (Elt Ideal) ℓ) (g : Dev Cert.OmDxRefIdeal.nD → PrngReg), Pre_OmDxRefIdeal m →
    θ_run (Cert.OmDxRefIdeal.defs (F := Ideal)) (onTc (τ := Cert.OmDxRefIdeal.τ) (Cert.OmDxRefIdeal.main (F := Ideal))) ⟨m, fun _ => 0, g⟩ (fun r => (∀ c : Dev Cert.OmDxRefIdeal.nD,
      r.2.mem ((c.tc : Thread Cert.OmDxRefIdeal.nD Cert.OmDxRefIdeal.τ).loc Cert.OmDxRefIdeal.main_arg0) = m ((c.tc : Thread Cert.OmDxRefIdeal.nD Cert.OmDxRefIdeal.τ).loc Cert.OmDxRefIdeal.main_arg0)
      ∧ r.2.mem ((c.tc : Thread Cert.OmDxRefIdeal.nD Cert.OmDxRefIdeal.τ).loc Cert.OmDxRefIdeal.main_arg1) = m ((c.tc : Thread Cert.OmDxRefIdeal.nD Cert.OmDxRefIdeal.τ).loc Cert.OmDxRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_SwaDx [hSwaDx : Cert.SwaDx.Facts] : Prop :=
  ∀ (m : (ℓ : Loc Cert.SwaDx.nD Cert.SwaDx.τ Cert.SwaDx.sig) → Buf (Elt Bits) ℓ) (g : Dev Cert.SwaDx.nD → PrngReg), Pre_SwaDx m →
    θ_run (Cert.SwaDx.defs (F := Bits)) (onTc (τ := Cert.SwaDx.τ) (Cert.SwaDx.main (F := Bits))) ⟨m, fun _ => 0, g⟩ (fun r => (∀ c : Dev Cert.SwaDx.nD,
      r.2.mem ((c.tc : Thread Cert.SwaDx.nD Cert.SwaDx.τ).loc Cert.SwaDx.main_arg0) = m ((c.tc : Thread Cert.SwaDx.nD Cert.SwaDx.τ).loc Cert.SwaDx.main_arg0)
      ∧ r.2.mem ((c.tc : Thread Cert.SwaDx.nD Cert.SwaDx.τ).loc Cert.SwaDx.main_arg1) = m ((c.tc : Thread Cert.SwaDx.nD Cert.SwaDx.τ).loc Cert.SwaDx.main_arg1)
      ∧ r.2.mem ((c.tc : Thread Cert.SwaDx.nD Cert.SwaDx.τ).loc Cert.SwaDx.main_arg2) = m ((c.tc : Thread Cert.SwaDx.nD Cert.SwaDx.τ).loc Cert.SwaDx.main_arg2))
      ∧ r.2.sem = fun _ => 0)

def quiescent_SwaDxIdeal [hSwaDxIdeal : Cert.SwaDxIdeal.Facts] : Prop :=
  ∀ (m : (ℓ : Loc Cert.SwaDxIdeal.nD Cert.SwaDxIdeal.τ Cert.SwaDxIdeal.sig) → Buf (Elt Ideal) ℓ) (g : Dev Cert.SwaDxIdeal.nD → PrngReg), Pre_SwaDxIdeal m →
    θ_run (Cert.SwaDxIdeal.defs (F := Ideal)) (onTc (τ := Cert.SwaDxIdeal.τ) (Cert.SwaDxIdeal.main (F := Ideal))) ⟨m, fun _ => 0, g⟩ (fun r => (∀ c : Dev Cert.SwaDxIdeal.nD,
      r.2.mem ((c.tc : Thread Cert.SwaDxIdeal.nD Cert.SwaDxIdeal.τ).loc Cert.SwaDxIdeal.main_arg0) = m ((c.tc : Thread Cert.SwaDxIdeal.nD Cert.SwaDxIdeal.τ).loc Cert.SwaDxIdeal.main_arg0)
      ∧ r.2.mem ((c.tc : Thread Cert.SwaDxIdeal.nD Cert.SwaDxIdeal.τ).loc Cert.SwaDxIdeal.main_arg1) = m ((c.tc : Thread Cert.SwaDxIdeal.nD Cert.SwaDxIdeal.τ).loc Cert.SwaDxIdeal.main_arg1)
      ∧ r.2.mem ((c.tc : Thread Cert.SwaDxIdeal.nD Cert.SwaDxIdeal.τ).loc Cert.SwaDxIdeal.main_arg2) = m ((c.tc : Thread Cert.SwaDxIdeal.nD Cert.SwaDxIdeal.τ).loc Cert.SwaDxIdeal.main_arg2))
      ∧ r.2.sem = fun _ => 0)

def quiescent_SwaDxRefIdeal [hSwaDxRefIdeal : Cert.SwaDxRefIdeal.Facts] : Prop :=
  ∀ (m : (ℓ : Loc Cert.SwaDxRefIdeal.nD Cert.SwaDxRefIdeal.τ Cert.SwaDxRefIdeal.sig) → Buf (Elt Ideal) ℓ) (g : Dev Cert.SwaDxRefIdeal.nD → PrngReg), Pre_SwaDxRefIdeal m →
    θ_run (Cert.SwaDxRefIdeal.defs (F := Ideal)) (onTc (τ := Cert.SwaDxRefIdeal.τ) (Cert.SwaDxRefIdeal.main (F := Ideal))) ⟨m, fun _ => 0, g⟩ (fun r => (∀ c : Dev Cert.SwaDxRefIdeal.nD,
      r.2.mem ((c.tc : Thread Cert.SwaDxRefIdeal.nD Cert.SwaDxRefIdeal.τ).loc Cert.SwaDxRefIdeal.main_arg0) = m ((c.tc : Thread Cert.SwaDxRefIdeal.nD Cert.SwaDxRefIdeal.τ).loc Cert.SwaDxRefIdeal.main_arg0)
      ∧ r.2.mem ((c.tc : Thread Cert.SwaDxRefIdeal.nD Cert.SwaDxRefIdeal.τ).loc Cert.SwaDxRefIdeal.main_arg1) = m ((c.tc : Thread Cert.SwaDxRefIdeal.nD Cert.SwaDxRefIdeal.τ).loc Cert.SwaDxRefIdeal.main_arg1)
      ∧ r.2.mem ((c.tc : Thread Cert.SwaDxRefIdeal.nD Cert.SwaDxRefIdeal.τ).loc Cert.SwaDxRefIdeal.main_arg2) = m ((c.tc : Thread Cert.SwaDxRefIdeal.nD Cert.SwaDxRefIdeal.τ).loc Cert.SwaDxRefIdeal.main_arg2))
      ∧ r.2.sem = fun _ => 0)

def quiescent_GatesDx [hGatesDx : Cert.GatesDx.Facts] : Prop :=
  ∀ (m : (ℓ : Loc Cert.GatesDx.nD Cert.GatesDx.τ Cert.GatesDx.sig) → Buf (Elt Bits) ℓ) (g : Dev Cert.GatesDx.nD → PrngReg), Pre_GatesDx m →
    θ_run (Cert.GatesDx.defs (F := Bits)) (onTc (τ := Cert.GatesDx.τ) (Cert.GatesDx.main (F := Bits))) ⟨m, fun _ => 0, g⟩ (fun r => (∀ c : Dev Cert.GatesDx.nD,
      r.2.mem ((c.tc : Thread Cert.GatesDx.nD Cert.GatesDx.τ).loc Cert.GatesDx.main_arg0) = m ((c.tc : Thread Cert.GatesDx.nD Cert.GatesDx.τ).loc Cert.GatesDx.main_arg0)
      ∧ r.2.mem ((c.tc : Thread Cert.GatesDx.nD Cert.GatesDx.τ).loc Cert.GatesDx.main_arg1) = m ((c.tc : Thread Cert.GatesDx.nD Cert.GatesDx.τ).loc Cert.GatesDx.main_arg1)
      ∧ r.2.mem ((c.tc : Thread Cert.GatesDx.nD Cert.GatesDx.τ).loc Cert.GatesDx.main_arg2) = m ((c.tc : Thread Cert.GatesDx.nD Cert.GatesDx.τ).loc Cert.GatesDx.main_arg2))
      ∧ r.2.sem = fun _ => 0)

def quiescent_GatesDxIdeal [hGatesDxIdeal : Cert.GatesDxIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg), Pre_GatesDxIdeal m →
    θ_run (Cert.GatesDxIdeal.defs (F := Ideal)) (onTc (τ := Cert.GatesDxIdeal.τ) (Cert.GatesDxIdeal.main (F := Ideal))) ⟨m, fun _ => 0, g⟩ (fun r => (∀ c : Dev Cert.GatesDxIdeal.nD,
      r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
      ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
      ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2))
      ∧ r.2.sem = fun _ => 0)

def quiescent_GatesDxRefIdeal [hGatesDxRefIdeal : Cert.GatesDxRefIdeal.Facts] : Prop :=
  ∀ (m : (ℓ : Loc Cert.GatesDxRefIdeal.nD Cert.GatesDxRefIdeal.τ Cert.GatesDxRefIdeal.sig) → Buf (Elt Ideal) ℓ) (g : Dev Cert.GatesDxRefIdeal.nD → PrngReg), Pre_GatesDxRefIdeal m →
    θ_run (Cert.GatesDxRefIdeal.defs (F := Ideal)) (onTc (τ := Cert.GatesDxRefIdeal.τ) (Cert.GatesDxRefIdeal.main (F := Ideal))) ⟨m, fun _ => 0, g⟩ (fun r => (∀ c : Dev Cert.GatesDxRefIdeal.nD,
      r.2.mem ((c.tc : Thread Cert.GatesDxRefIdeal.nD Cert.GatesDxRefIdeal.τ).loc Cert.GatesDxRefIdeal.main_arg0) = m ((c.tc : Thread Cert.GatesDxRefIdeal.nD Cert.GatesDxRefIdeal.τ).loc Cert.GatesDxRefIdeal.main_arg0)
      ∧ r.2.mem ((c.tc : Thread Cert.GatesDxRefIdeal.nD Cert.GatesDxRefIdeal.τ).loc Cert.GatesDxRefIdeal.main_arg1) = m ((c.tc : Thread Cert.GatesDxRefIdeal.nD Cert.GatesDxRefIdeal.τ).loc Cert.GatesDxRefIdeal.main_arg1)
      ∧ r.2.mem ((c.tc : Thread Cert.GatesDxRefIdeal.nD Cert.GatesDxRefIdeal.τ).loc Cert.GatesDxRefIdeal.main_arg2) = m ((c.tc : Thread Cert.GatesDxRefIdeal.nD Cert.GatesDxRefIdeal.τ).loc Cert.GatesDxRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2)
      ∧ r.2.mem ((c.tc : Thread Cert.Cols.nD Cert.Cols.τ).loc Cert.Cols.main_arg3) = m ((c.tc : Thread Cert.Cols.nD Cert.Cols.τ).loc Cert.Cols.main_arg3)
      ∧ r.2.mem ((c.tc : Thread Cert.Cols.nD Cert.Cols.τ).loc Cert.Cols.main_arg4) = m ((c.tc : Thread Cert.Cols.nD Cert.Cols.τ).loc Cert.Cols.main_arg4)
      ∧ r.2.mem ((c.tc : Thread Cert.Cols.nD Cert.Cols.τ).loc Cert.Cols.main_arg5) = m ((c.tc : Thread Cert.Cols.nD Cert.Cols.τ).loc Cert.Cols.main_arg5))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
      ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
      ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
      ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2)
      ∧ r.2.mem ((c.tc : Thread Cert.ColsRefIdeal.nD Cert.ColsRefIdeal.τ).loc Cert.ColsRefIdeal.main_arg3) = m ((c.tc : Thread Cert.ColsRefIdeal.nD Cert.ColsRefIdeal.τ).loc Cert.ColsRefIdeal.main_arg3)
      ∧ r.2.mem ((c.tc : Thread Cert.ColsRefIdeal.nD Cert.ColsRefIdeal.τ).loc Cert.ColsRefIdeal.main_arg4) = m ((c.tc : Thread Cert.ColsRefIdeal.nD Cert.ColsRefIdeal.τ).loc Cert.ColsRefIdeal.main_arg4)
      ∧ r.2.mem ((c.tc : Thread Cert.ColsRefIdeal.nD Cert.ColsRefIdeal.τ).loc Cert.ColsRefIdeal.main_arg5) = m ((c.tc : Thread Cert.ColsRefIdeal.nD Cert.ColsRefIdeal.τ).loc Cert.ColsRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_swafwd_real [hSwaFwdIdeal : Cert.SwaFwdIdeal.Facts] [hPre_swafwd_real : Cert.Pre_swafwd_real.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swafwd_real m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaFwdRefIdeal_pre_swafwd_real [hSwaFwdRefIdeal : Cert.SwaFwdRefIdeal.Facts] [hPre_swafwd_real : Cert.Pre_swafwd_real.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swafwd_real m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Mem_MemIdeal : Prop :=
  True

def algebraic_MemIdeal_PlainIdeal_pre_mem_real [hMemIdeal : Cert.MemIdeal.Facts] [hPlainIdeal : Cert.PlainIdeal.Facts] [hPre_mem_real : Cert.Pre_mem_real.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.PlainIdeal.nD Cert.PlainIdeal.τ Cert.PlainIdeal.sig) → Buf (Elt Ideal) ℓ) (g' : Dev Cert.PlainIdeal.nD → PrngReg), Pre_MemIdeal_mem_real m →
    (∀ c : Dev Cert.MemIdeal.nD,
      m' ((c.tc : Thread Cert.PlainIdeal.nD Cert.PlainIdeal.τ).loc Cert.PlainIdeal.main_arg0) = m ((c.tc : Thread Cert.MemIdeal.nD Cert.MemIdeal.τ).loc Cert.MemIdeal.main_arg0)
      ∧ m' ((c.tc : Thread Cert.PlainIdeal.nD Cert.PlainIdeal.τ).loc Cert.PlainIdeal.main_arg1) = m ((c.tc : Thread Cert.MemIdeal.nD Cert.MemIdeal.τ).loc Cert.MemIdeal.main_arg1)
      ∧ m' ((c.tc : Thread Cert.PlainIdeal.nD Cert.PlainIdeal.τ).loc Cert.PlainIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v69) = v0 c
          ∧ r.2.mem ((c.tc : Thread Cert.PlainIdeal.nD Cert.PlainIdeal.τ).loc Cert.PlainIdeal.main_v67) = v1 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m' ((c.tc : Thread Cert.PlainIdeal.nD Cert.PlainIdeal.τ).loc Cert.PlainIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v11) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GatesDw_GatesDwIdeal : Prop :=
  True

def algebraic_GatesDwIdeal_GatesDwRefIdeal [hGatesDwIdeal : Cert.GatesDwIdeal.Facts] [hGatesDwRefIdeal : Cert.GatesDwRefIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesDwRefIdeal.nD Cert.GatesDwRefIdeal.τ Cert.GatesDwRefIdeal.sig) → Buf (Elt Ideal) ℓ) (g' : Dev Cert.GatesDwRefIdeal.nD → PrngReg), Pre_GatesDwIdeal m →
    (∀ c : Dev Cert.GatesDwIdeal.nD,
      m' ((c.tc : Thread Cert.GatesDwRefIdeal.nD Cert.GatesDwRefIdeal.τ).loc Cert.GatesDwRefIdeal.main_arg0) = m ((c.tc : Thread Cert.GatesDwIdeal.nD Cert.GatesDwIdeal.τ).loc Cert.GatesDwIdeal.main_arg0)
      ∧ m' ((c.tc : Thread Cert.GatesDwRefIdeal.nD Cert.GatesDwRefIdeal.τ).loc Cert.GatesDwRefIdeal.main_arg1) = m ((c.tc : Thread Cert.GatesDwIdeal.nD Cert.GatesDwIdeal.τ).loc Cert.GatesDwIdeal.main_arg1)) →
    ∃ (v0 : (c : Dev Cert.GatesDwIdeal.nD) → Buf (Elt Ideal) ((c.tc : Thread Cert.GatesDwIdeal.nD Cert.GatesDwIdeal.τ).loc Cert.GatesDwIdeal.main_v0)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v0) = v0 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ θ_run (Cert.GatesDwRefIdeal.defs (F := Ideal)) (onTc (τ := Cert.GatesDwRefIdeal.τ) (Cert.GatesDwRefIdeal.main (F := Ideal))) ⟨m', fun _ => 0, g'⟩ (fun r => ∀ c : Dev Cert.GatesDwRefIdeal.nD,
          r.2.mem ((c.tc : Thread Cert.GatesDwRefIdeal.nD Cert.GatesDwRefIdeal.τ).loc Cert.GatesDwRefIdeal.main_v5) = v0 c
          ∧ r.2.mem ((c.tc : Thread Cert.GatesDwRefIdeal.nD Cert.GatesDwRefIdeal.τ).loc Cert.GatesDwRefIdeal.main_arg0) = m' ((c.tc : Thread Cert.GatesDwRefIdeal.nD Cert.GatesDwRefIdeal.τ).loc Cert.GatesDwRefIdeal.main_arg0)
          ∧ r.2.mem ((c.tc : Thread Cert.GatesDwRefIdeal.nD Cert.GatesDwRefIdeal.τ).loc Cert.GatesDwRefIdeal.main_arg1) = m' ((c.tc : Thread Cert.GatesDwRefIdeal.nD Cert.GatesDwRefIdeal.τ).loc Cert.GatesDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MixO_MixOIdeal : Prop :=
  True

def algebraic_MixOIdeal_MixORefIdeal [hMixOIdeal : Cert.MixOIdeal.Facts] [hMixORefIdeal : Cert.MixORefIdeal.Facts] : Prop :=
  ∀ (m : (ℓ : Loc Cert.MixOIdeal.nD Cert.MixOIdeal.τ Cert.MixOIdeal.sig) → Buf (Elt Ideal) ℓ) (g : Dev Cert.MixOIdeal.nD → PrngReg)
    (m' : (ℓ : Loc Cert.MixORefIdeal.nD Cert.MixORefIdeal.τ Cert.MixORefIdeal.sig) → Buf (Elt Ideal) ℓ) (g' : Dev Cert.MixORefIdeal.nD → PrngReg), Pre_MixOIdeal m →
    (∀ c : Dev Cert.MixOIdeal.nD,
      m' ((c.tc : Thread Cert.MixORefIdeal.nD Cert.MixORefIdeal.τ).loc Cert.MixORefIdeal.main_arg0) = m ((c.tc : Thread Cert.MixOIdeal.nD Cert.MixOIdeal.τ).loc Cert.MixOIdeal.main_arg0)
      ∧ m' ((c.tc : Thread Cert.MixORefIdeal.nD Cert.MixORefIdeal.τ).loc Cert.MixORefIdeal.main_arg1) = m ((c.tc : Thread Cert.MixOIdeal.nD Cert.MixOIdeal.τ).loc Cert.MixOIdeal.main_arg1)
      ∧ m' ((c.tc : Thread Cert.MixORefIdeal.nD Cert.MixORefIdeal.τ).loc Cert.MixORefIdeal.main_arg2) = m ((c.tc : Thread Cert.MixOIdeal.nD Cert.MixOIdeal.τ).loc Cert.MixOIdeal.main_arg2)) →
    ∃ (v0 : (c : Dev Cert.MixOIdeal.nD) → Buf (Elt Ideal) ((c.tc : Thread Cert.MixOIdeal.nD Cert.MixOIdeal.τ).loc Cert.MixOIdeal.main_v0)),
      θ_run (Cert.MixOIdeal.defs (F := Ideal)) (onTc (τ := Cert.MixOIdeal.τ) (Cert.MixOIdeal.main (F := Ideal))) ⟨m, fun _ => 0, g⟩ (fun r => ∀ c : Dev Cert.MixOIdeal.nD,
          r.2.mem ((c.tc : Thread Cert.MixOIdeal.nD Cert.MixOIdeal.τ).loc Cert.MixOIdeal.main_v0) = v0 c
          ∧ r.2.mem ((c.tc : Thread Cert.MixOIdeal.nD Cert.MixOIdeal.τ).loc Cert.MixOIdeal.main_arg0) = m ((c.tc : Thread Cert.MixOIdeal.nD Cert.MixOIdeal.τ).loc Cert.MixOIdeal.main_arg0)
          ∧ r.2.mem ((c.tc : Thread Cert.MixOIdeal.nD Cert.MixOIdeal.τ).loc Cert.MixOIdeal.main_arg1) = m ((c.tc : Thread Cert.MixOIdeal.nD Cert.MixOIdeal.τ).loc Cert.MixOIdeal.main_arg1)
          ∧ r.2.mem ((c.tc : Thread Cert.MixOIdeal.nD Cert.MixOIdeal.τ).loc Cert.MixOIdeal.main_arg2) = m ((c.tc : Thread Cert.MixOIdeal.nD Cert.MixOIdeal.τ).loc Cert.MixOIdeal.main_arg2))
      ∧ θ_run (Cert.MixORefIdeal.defs (F := Ideal)) (onTc (τ := Cert.MixORefIdeal.τ) (Cert.MixORefIdeal.main (F := Ideal))) ⟨m', fun _ => 0, g'⟩ (fun r => ∀ c : Dev Cert.MixORefIdeal.nD,
          r.2.mem ((c.tc : Thread Cert.MixORefIdeal.nD Cert.MixORefIdeal.τ).loc Cert.MixORefIdeal.main_v5) = v0 c
          ∧ r.2.mem ((c.tc : Thread Cert.MixORefIdeal.nD Cert.MixORefIdeal.τ).loc Cert.MixORefIdeal.main_arg0) = m' ((c.tc : Thread Cert.MixORefIdeal.nD Cert.MixORefIdeal.τ).loc Cert.MixORefIdeal.main_arg0)
          ∧ r.2.mem ((c.tc : Thread Cert.MixORefIdeal.nD Cert.MixORefIdeal.τ).loc Cert.MixORefIdeal.main_arg1) = m' ((c.tc : Thread Cert.MixORefIdeal.nD Cert.MixORefIdeal.τ).loc Cert.MixORefIdeal.main_arg1)
          ∧ r.2.mem ((c.tc : Thread Cert.MixORefIdeal.nD Cert.MixORefIdeal.τ).loc Cert.MixORefIdeal.main_arg2) = m' ((c.tc : Thread Cert.MixORefIdeal.nD Cert.MixORefIdeal.τ).loc Cert.MixORefIdeal.main_arg2))

def preserves_BrDx_BrDxIdeal : Prop :=
  True

def algebraic_BrDxIdeal_BrDxRefIdeal [hBrDxIdeal : Cert.BrDxIdeal.Facts] [hBrDxRefIdeal : Cert.BrDxRefIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxRefIdeal.nD Cert.BrDxRefIdeal.τ Cert.BrDxRefIdeal.sig) → Buf (Elt Ideal) ℓ) (g' : Dev Cert.BrDxRefIdeal.nD → PrngReg), Pre_BrDxIdeal m →
    (∀ c : Dev Cert.BrDxIdeal.nD,
      m' ((c.tc : Thread Cert.BrDxRefIdeal.nD Cert.BrDxRefIdeal.τ).loc Cert.BrDxRefIdeal.main_arg0) = m ((c.tc : Thread Cert.BrDxIdeal.nD Cert.BrDxIdeal.τ).loc Cert.BrDxIdeal.main_arg0)
      ∧ m' ((c.tc : Thread Cert.BrDxRefIdeal.nD Cert.BrDxRefIdeal.τ).loc Cert.BrDxRefIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v0)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v0) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.BrDxRefIdeal.defs (F := Ideal)) (onTc (τ := Cert.BrDxRefIdeal.τ) (Cert.BrDxRefIdeal.main (F := Ideal))) ⟨m', fun _ => 0, g'⟩ (fun r => ∀ c : Dev Cert.BrDxRefIdeal.nD,
          r.2.mem ((c.tc : Thread Cert.BrDxRefIdeal.nD Cert.BrDxRefIdeal.τ).loc Cert.BrDxRefIdeal.main_v4) = v0 c
          ∧ r.2.mem ((c.tc : Thread Cert.BrDxRefIdeal.nD Cert.BrDxRefIdeal.τ).loc Cert.BrDxRefIdeal.main_arg0) = m' ((c.tc : Thread Cert.BrDxRefIdeal.nD Cert.BrDxRefIdeal.τ).loc Cert.BrDxRefIdeal.main_arg0)
          ∧ r.2.mem ((c.tc : Thread Cert.BrDxRefIdeal.nD Cert.BrDxRefIdeal.τ).loc Cert.BrDxRefIdeal.main_arg1) = m' ((c.tc : Thread Cert.BrDxRefIdeal.nD Cert.BrDxRefIdeal.τ).loc Cert.BrDxRefIdeal.main_arg1))

def preserves_BrDw_BrDwIdeal : Prop :=
  True

def algebraic_BrDwIdeal_BrDwRefIdeal [hBrDwIdeal : Cert.BrDwIdeal.Facts] [hBrDwRefIdeal : Cert.BrDwRefIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwRefIdeal.nD Cert.BrDwRefIdeal.τ Cert.BrDwRefIdeal.sig) → Buf (Elt Ideal) ℓ) (g' : Dev Cert.BrDwRefIdeal.nD → PrngReg), Pre_BrDwIdeal m →
    (∀ c : Dev Cert.BrDwIdeal.nD,
      m' ((c.tc : Thread Cert.BrDwRefIdeal.nD Cert.BrDwRefIdeal.τ).loc Cert.BrDwRefIdeal.main_arg0) = m ((c.tc : Thread Cert.BrDwIdeal.nD Cert.BrDwIdeal.τ).loc Cert.BrDwIdeal.main_arg0)
      ∧ m' ((c.tc : Thread Cert.BrDwRefIdeal.nD Cert.BrDwRefIdeal.τ).loc Cert.BrDwRefIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwRefIdeal.defs (F := Ideal)) (onTc (τ := Cert.BrDwRefIdeal.τ) (Cert.BrDwRefIdeal.main (F := Ideal))) ⟨m', fun _ => 0, g'⟩ (fun r => ∀ c : Dev Cert.BrDwRefIdeal.nD,
          r.2.mem ((c.tc : Thread Cert.BrDwRefIdeal.nD Cert.BrDwRefIdeal.τ).loc Cert.BrDwRefIdeal.main_v5) = v0 c
          ∧ r.2.mem ((c.tc : Thread Cert.BrDwRefIdeal.nD Cert.BrDwRefIdeal.τ).loc Cert.BrDwRefIdeal.main_arg0) = m' ((c.tc : Thread Cert.BrDwRefIdeal.nD Cert.BrDwRefIdeal.τ).loc Cert.BrDwRefIdeal.main_arg0)
          ∧ r.2.mem ((c.tc : Thread Cert.BrDwRefIdeal.nD Cert.BrDwRefIdeal.τ).loc Cert.BrDwRefIdeal.main_arg1) = m' ((c.tc : Thread Cert.BrDwRefIdeal.nD Cert.BrDwRefIdeal.τ).loc Cert.BrDwRefIdeal.main_arg1))

def preserves_SwaDw_SwaDwIdeal : Prop :=
  True

def algebraic_SwaDwIdeal_SwaDwRefIdeal [hSwaDwIdeal : Cert.SwaDwIdeal.Facts] [hSwaDwRefIdeal : Cert.SwaDwRefIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg)
    (m' : (ℓ : Loc Cert.SwaDwRefIdeal.nD Cert.SwaDwRefIdeal.τ Cert.SwaDwRefIdeal.sig) → Buf (Elt Ideal) ℓ) (g' : Dev Cert.SwaDwRefIdeal.nD → PrngReg), Pre_SwaDwIdeal m →
    (∀ c : Dev Cert.SwaDwIdeal.nD,
      m' ((c.tc : Thread Cert.SwaDwRefIdeal.nD Cert.SwaDwRefIdeal.τ).loc Cert.SwaDwRefIdeal.main_arg0) = m ((c.tc : Thread Cert.SwaDwIdeal.nD Cert.SwaDwIdeal.τ).loc Cert.SwaDwIdeal.main_arg0)
      ∧ m' ((c.tc : Thread Cert.SwaDwRefIdeal.nD Cert.SwaDwRefIdeal.τ).loc Cert.SwaDwRefIdeal.main_arg1) = m ((c.tc : Thread Cert.SwaDwIdeal.nD Cert.SwaDwIdeal.τ).loc Cert.SwaDwIdeal.main_arg1)) →
    ∃ (v0 : (c : Dev Cert.SwaDwIdeal.nD) → Buf (Elt Ideal) ((c.tc : Thread Cert.SwaDwIdeal.nD Cert.SwaDwIdeal.τ).loc Cert.SwaDwIdeal.main_v0)),
      θ_run (Cert.SwaDwIdeal.defs (F := Ideal)) (onTc (τ := Cert.SwaDwIdeal.τ) (Cert.SwaDwIdeal.main (F := Ideal))) ⟨m, fun _ => 0, g⟩ (fun r => ∀ c : Dev Cert.SwaDwIdeal.nD,
          r.2.mem ((c.tc : Thread Cert.SwaDwIdeal.nD Cert.SwaDwIdeal.τ).loc Cert.SwaDwIdeal.main_v0) = v0 c
          ∧ r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
          ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1))
      ∧ θ_run (Cert.SwaDwRefIdeal.defs (F := Ideal)) (onTc (τ := Cert.SwaDwRefIdeal.τ) (Cert.SwaDwRefIdeal.main (F := Ideal))) ⟨m', fun _ => 0, g'⟩ (fun r => ∀ c : Dev Cert.SwaDwRefIdeal.nD,
          r.2.mem ((c.tc : Thread Cert.SwaDwRefIdeal.nD Cert.SwaDwRefIdeal.τ).loc Cert.SwaDwRefIdeal.main_v5) = v0 c
          ∧ r.2.mem ((c.tc : Thread Cert.SwaDwRefIdeal.nD Cert.SwaDwRefIdeal.τ).loc Cert.SwaDwRefIdeal.main_arg0) = m' ((c.tc : Thread Cert.SwaDwRefIdeal.nD Cert.SwaDwRefIdeal.τ).loc Cert.SwaDwRefIdeal.main_arg0)
          ∧ r.2.mem ((c.tc : Thread Cert.SwaDwRefIdeal.nD Cert.SwaDwRefIdeal.τ).loc Cert.SwaDwRefIdeal.main_arg1) = m' ((c.tc : Thread Cert.SwaDwRefIdeal.nD Cert.SwaDwRefIdeal.τ).loc Cert.SwaDwRefIdeal.main_arg1))

def preserves_MemDx_MemDxIdeal : Prop :=
  True

def algebraic_MemDxIdeal_MemDxRefIdeal [hMemDxIdeal : Cert.MemDxIdeal.Facts] [hMemDxRefIdeal : Cert.MemDxRefIdeal.Facts] : Prop :=
  ∀ (m : (ℓ : Loc Cert.MemDxIdeal.nD Cert.MemDxIdeal.τ Cert.MemDxIdeal.sig) → Buf (Elt Ideal) ℓ) (g : Dev Cert.MemDxIdeal.nD → PrngReg)
    (m' : (ℓ : Loc Cert.MemDxRefIdeal.nD Cert.MemDxRefIdeal.τ Cert.MemDxRefIdeal.sig) → Buf (Elt Ideal) ℓ) (g' : Dev Cert.MemDxRefIdeal.nD → PrngReg), Pre_MemDxIdeal m →
    (∀ c : Dev Cert.MemDxIdeal.nD,
      m' ((c.tc : Thread Cert.MemDxRefIdeal.nD Cert.MemDxRefIdeal.τ).loc Cert.MemDxRefIdeal.main_arg0) = m ((c.tc : Thread Cert.MemDxIdeal.nD Cert.MemDxIdeal.τ).loc Cert.MemDxIdeal.main_arg0)
      ∧ m' ((c.tc : Thread Cert.MemDxRefIdeal.nD Cert.MemDxRefIdeal.τ).loc Cert.MemDxRefIdeal.main_arg1) = m ((c.tc : Thread Cert.MemDxIdeal.nD Cert.MemDxIdeal.τ).loc Cert.MemDxIdeal.main_arg1)
      ∧ m' ((c.tc : Thread Cert.MemDxRefIdeal.nD Cert.MemDxRefIdeal.τ).loc Cert.MemDxRefIdeal.main_arg2) = m ((c.tc : Thread Cert.MemDxIdeal.nD Cert.MemDxIdeal.τ).loc Cert.MemDxIdeal.main_arg2)) →
    ∃ (v0 : (c : Dev Cert.MemDxIdeal.nD) → Buf (Elt Ideal) ((c.tc : Thread Cert.MemDxIdeal.nD Cert.MemDxIdeal.τ).loc Cert.MemDxIdeal.main_v0)),
      θ_run (Cert.MemDxIdeal.defs (F := Ideal)) (onTc (τ := Cert.MemDxIdeal.τ) (Cert.MemDxIdeal.main (F := Ideal))) ⟨m, fun _ => 0, g⟩ (fun r => ∀ c : Dev Cert.MemDxIdeal.nD,
          r.2.mem ((c.tc : Thread Cert.MemDxIdeal.nD Cert.MemDxIdeal.τ).loc Cert.MemDxIdeal.main_v0) = v0 c
          ∧ r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
          ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1)
          ∧ r.2.mem ((c.tc : Thread Cert.MemDxIdeal.nD Cert.MemDxIdeal.τ).loc Cert.MemDxIdeal.main_arg2) = m ((c.tc : Thread Cert.MemDxIdeal.nD Cert.MemDxIdeal.τ).loc Cert.MemDxIdeal.main_arg2))
      ∧ θ_run (Cert.MemDxRefIdeal.defs (F := Ideal)) (onTc (τ := Cert.MemDxRefIdeal.τ) (Cert.MemDxRefIdeal.main (F := Ideal))) ⟨m', fun _ => 0, g'⟩ (fun r => ∀ c : Dev Cert.MemDxRefIdeal.nD,
          r.2.mem ((c.tc : Thread Cert.MemDxRefIdeal.nD Cert.MemDxRefIdeal.τ).loc Cert.MemDxRefIdeal.main_v9) = v0 c
          ∧ r.2.mem ((c.tc : Thread Cert.MemDxRefIdeal.nD Cert.MemDxRefIdeal.τ).loc Cert.MemDxRefIdeal.main_arg0) = m' ((c.tc : Thread Cert.MemDxRefIdeal.nD Cert.MemDxRefIdeal.τ).loc Cert.MemDxRefIdeal.main_arg0)
          ∧ r.2.mem ((c.tc : Thread Cert.MemDxRefIdeal.nD Cert.MemDxRefIdeal.τ).loc Cert.MemDxRefIdeal.main_arg1) = m' ((c.tc : Thread Cert.MemDxRefIdeal.nD Cert.MemDxRefIdeal.τ).loc Cert.MemDxRefIdeal.main_arg1)
          ∧ r.2.mem ((c.tc : Thread Cert.MemDxRefIdeal.nD Cert.MemDxRefIdeal.τ).loc Cert.MemDxRefIdeal.main_arg2) = m' ((c.tc : Thread Cert.MemDxRefIdeal.nD Cert.MemDxRefIdeal.τ).loc Cert.MemDxRefIdeal.main_arg2))

def preserves_MemDwQ_MemDwQIdeal : Prop :=
  True

def algebraic_MemDwQIdeal_MemDwQRefIdeal [hMemDwQIdeal : Cert.MemDwQIdeal.Facts] [hMemDwQRefIdeal : Cert.MemDwQRefIdeal.Facts] : Prop :=
  ∀ (m : (ℓ : Loc Cert.MemDwQIdeal.nD Cert.MemDwQIdeal.τ Cert.MemDwQIdeal.sig) → Buf (Elt Ideal) ℓ) (g : Dev Cert.MemDwQIdeal.nD → PrngReg)
    (m' : (ℓ : Loc Cert.MemDwQRefIdeal.nD Cert.MemDwQRefIdeal.τ Cert.MemDwQRefIdeal.sig) → Buf (Elt Ideal) ℓ) (g' : Dev Cert.MemDwQRefIdeal.nD → PrngReg), Pre_MemDwQIdeal m →
    (∀ c : Dev Cert.MemDwQIdeal.nD,
      m' ((c.tc : Thread Cert.MemDwQRefIdeal.nD Cert.MemDwQRefIdeal.τ).loc Cert.MemDwQRefIdeal.main_arg0) = m ((c.tc : Thread Cert.MemDwQIdeal.nD Cert.MemDwQIdeal.τ).loc Cert.MemDwQIdeal.main_arg0)
      ∧ m' ((c.tc : Thread Cert.MemDwQRefIdeal.nD Cert.MemDwQRefIdeal.τ).loc Cert.MemDwQRefIdeal.main_arg1) = m ((c.tc : Thread Cert.MemDwQIdeal.nD Cert.MemDwQIdeal.τ).loc Cert.MemDwQIdeal.main_arg1)) →
    ∃ (v0 : (c : Dev Cert.MemDwQIdeal.nD) → Buf (Elt Ideal) ((c.tc : Thread Cert.MemDwQIdeal.nD Cert.MemDwQIdeal.τ).loc Cert.MemDwQIdeal.main_v0)),
      θ_run (Cert.MemDwQIdeal.defs (F := Ideal)) (onTc (τ := Cert.MemDwQIdeal.τ) (Cert.MemDwQIdeal.main (F := Ideal))) ⟨m, fun _ => 0, g⟩ (fun r => ∀ c : Dev Cert.MemDwQIdeal.nD,
          r.2.mem ((c.tc : Thread Cert.MemDwQIdeal.nD Cert.MemDwQIdeal.τ).loc Cert.MemDwQIdeal.main_v0) = v0 c
          ∧ r.2.mem ((c.tc : Thread Cert.MemDwQIdeal.nD Cert.MemDwQIdeal.τ).loc Cert.MemDwQIdeal.main_arg0) = m ((c.tc : Thread Cert.MemDwQIdeal.nD Cert.MemDwQIdeal.τ).loc Cert.MemDwQIdeal.main_arg0)
          ∧ r.2.mem ((c.tc : Thread Cert.MemDwQIdeal.nD Cert.MemDwQIdeal.τ).loc Cert.MemDwQIdeal.main_arg1) = m ((c.tc : Thread Cert.MemDwQIdeal.nD Cert.MemDwQIdeal.τ).loc Cert.MemDwQIdeal.main_arg1))
      ∧ θ_run (Cert.MemDwQRefIdeal.defs (F := Ideal)) (onTc (τ := Cert.MemDwQRefIdeal.τ) (Cert.MemDwQRefIdeal.main (F := Ideal))) ⟨m', fun _ => 0, g'⟩ (fun r => ∀ c : Dev Cert.MemDwQRefIdeal.nD,
          r.2.mem ((c.tc : Thread Cert.MemDwQRefIdeal.nD Cert.MemDwQRefIdeal.τ).loc Cert.MemDwQRefIdeal.main_v5) = v0 c
          ∧ r.2.mem ((c.tc : Thread Cert.MemDwQRefIdeal.nD Cert.MemDwQRefIdeal.τ).loc Cert.MemDwQRefIdeal.main_arg0) = m' ((c.tc : Thread Cert.MemDwQRefIdeal.nD Cert.MemDwQRefIdeal.τ).loc Cert.MemDwQRefIdeal.main_arg0)
          ∧ r.2.mem ((c.tc : Thread Cert.MemDwQRefIdeal.nD Cert.MemDwQRefIdeal.τ).loc Cert.MemDwQRefIdeal.main_arg1) = m' ((c.tc : Thread Cert.MemDwQRefIdeal.nD Cert.MemDwQRefIdeal.τ).loc Cert.MemDwQRefIdeal.main_arg1))

def preserves_MemDwKv_MemDwKvIdeal : Prop :=
  True

def algebraic_MemDwKvIdeal_MemDwKvRefIdeal [hMemDwKvIdeal : Cert.MemDwKvIdeal.Facts] [hMemDwKvRefIdeal : Cert.MemDwKvRefIdeal.Facts] : Prop :=
  ∀ (m : (ℓ : Loc Cert.MemDwKvIdeal.nD Cert.MemDwKvIdeal.τ Cert.MemDwKvIdeal.sig) → Buf (Elt Ideal) ℓ) (g : Dev Cert.MemDwKvIdeal.nD → PrngReg)
    (m' : (ℓ : Loc Cert.MemDwKvRefIdeal.nD Cert.MemDwKvRefIdeal.τ Cert.MemDwKvRefIdeal.sig) → Buf (Elt Ideal) ℓ) (g' : Dev Cert.MemDwKvRefIdeal.nD → PrngReg), Pre_MemDwKvIdeal m →
    (∀ c : Dev Cert.MemDwKvIdeal.nD,
      m' ((c.tc : Thread Cert.MemDwKvRefIdeal.nD Cert.MemDwKvRefIdeal.τ).loc Cert.MemDwKvRefIdeal.main_arg0) = m ((c.tc : Thread Cert.MemDwKvIdeal.nD Cert.MemDwKvIdeal.τ).loc Cert.MemDwKvIdeal.main_arg0)
      ∧ m' ((c.tc : Thread Cert.MemDwKvRefIdeal.nD Cert.MemDwKvRefIdeal.τ).loc Cert.MemDwKvRefIdeal.main_arg1) = m ((c.tc : Thread Cert.MemDwKvIdeal.nD Cert.MemDwKvIdeal.τ).loc Cert.MemDwKvIdeal.main_arg1)) →
    ∃ (v0 : (c : Dev Cert.MemDwKvIdeal.nD) → Buf (Elt Ideal) ((c.tc : Thread Cert.MemDwKvIdeal.nD Cert.MemDwKvIdeal.τ).loc Cert.MemDwKvIdeal.main_v0)),
      θ_run (Cert.MemDwKvIdeal.defs (F := Ideal)) (onTc (τ := Cert.MemDwKvIdeal.τ) (Cert.MemDwKvIdeal.main (F := Ideal))) ⟨m, fun _ => 0, g⟩ (fun r => ∀ c : Dev Cert.MemDwKvIdeal.nD,
          r.2.mem ((c.tc : Thread Cert.MemDwKvIdeal.nD Cert.MemDwKvIdeal.τ).loc Cert.MemDwKvIdeal.main_v0) = v0 c
          ∧ r.2.mem ((c.tc : Thread Cert.MemDwKvIdeal.nD Cert.MemDwKvIdeal.τ).loc Cert.MemDwKvIdeal.main_arg0) = m ((c.tc : Thread Cert.MemDwKvIdeal.nD Cert.MemDwKvIdeal.τ).loc Cert.MemDwKvIdeal.main_arg0)
          ∧ r.2.mem ((c.tc : Thread Cert.MemDwKvIdeal.nD Cert.MemDwKvIdeal.τ).loc Cert.MemDwKvIdeal.main_arg1) = m ((c.tc : Thread Cert.MemDwKvIdeal.nD Cert.MemDwKvIdeal.τ).loc Cert.MemDwKvIdeal.main_arg1))
      ∧ θ_run (Cert.MemDwKvRefIdeal.defs (F := Ideal)) (onTc (τ := Cert.MemDwKvRefIdeal.τ) (Cert.MemDwKvRefIdeal.main (F := Ideal))) ⟨m', fun _ => 0, g'⟩ (fun r => ∀ c : Dev Cert.MemDwKvRefIdeal.nD,
          r.2.mem ((c.tc : Thread Cert.MemDwKvRefIdeal.nD Cert.MemDwKvRefIdeal.τ).loc Cert.MemDwKvRefIdeal.main_v4) = v0 c
          ∧ r.2.mem ((c.tc : Thread Cert.MemDwKvRefIdeal.nD Cert.MemDwKvRefIdeal.τ).loc Cert.MemDwKvRefIdeal.main_arg0) = m' ((c.tc : Thread Cert.MemDwKvRefIdeal.nD Cert.MemDwKvRefIdeal.τ).loc Cert.MemDwKvRefIdeal.main_arg0)
          ∧ r.2.mem ((c.tc : Thread Cert.MemDwKvRefIdeal.nD Cert.MemDwKvRefIdeal.τ).loc Cert.MemDwKvRefIdeal.main_arg1) = m' ((c.tc : Thread Cert.MemDwKvRefIdeal.nD Cert.MemDwKvRefIdeal.τ).loc Cert.MemDwKvRefIdeal.main_arg1))

def preserves_MemDwO_MemDwOIdeal : Prop :=
  True

def algebraic_MemDwOIdeal_MemDwORefIdeal [hMemDwOIdeal : Cert.MemDwOIdeal.Facts] [hMemDwORefIdeal : Cert.MemDwORefIdeal.Facts] : Prop :=
  ∀ (m : (ℓ : Loc Cert.MemDwOIdeal.nD Cert.MemDwOIdeal.τ Cert.MemDwOIdeal.sig) → Buf (Elt Ideal) ℓ) (g : Dev Cert.MemDwOIdeal.nD → PrngReg)
    (m' : (ℓ : Loc Cert.MemDwORefIdeal.nD Cert.MemDwORefIdeal.τ Cert.MemDwORefIdeal.sig) → Buf (Elt Ideal) ℓ) (g' : Dev Cert.MemDwORefIdeal.nD → PrngReg), Pre_MemDwOIdeal m →
    (∀ c : Dev Cert.MemDwOIdeal.nD,
      m' ((c.tc : Thread Cert.MemDwORefIdeal.nD Cert.MemDwORefIdeal.τ).loc Cert.MemDwORefIdeal.main_arg0) = m ((c.tc : Thread Cert.MemDwOIdeal.nD Cert.MemDwOIdeal.τ).loc Cert.MemDwOIdeal.main_arg0)
      ∧ m' ((c.tc : Thread Cert.MemDwORefIdeal.nD Cert.MemDwORefIdeal.τ).loc Cert.MemDwORefIdeal.main_arg1) = m ((c.tc : Thread Cert.MemDwOIdeal.nD Cert.MemDwOIdeal.τ).loc Cert.MemDwOIdeal.main_arg1)) →
    ∃ (v0 : (c : Dev Cert.MemDwOIdeal.nD) → Buf (Elt Ideal) ((c.tc : Thread Cert.MemDwOIdeal.nD Cert.MemDwOIdeal.τ).loc Cert.MemDwOIdeal.main_v0)),
      θ_run (Cert.MemDwOIdeal.defs (F := Ideal)) (onTc (τ := Cert.MemDwOIdeal.τ) (Cert.MemDwOIdeal.main (F := Ideal))) ⟨m, fun _ => 0, g⟩ (fun r => ∀ c : Dev Cert.MemDwOIdeal.nD,
          r.2.mem ((c.tc : Thread Cert.MemDwOIdeal.nD Cert.MemDwOIdeal.τ).loc Cert.MemDwOIdeal.main_v0) = v0 c
          ∧ r.2.mem ((c.tc : Thread Cert.MemDwOIdeal.nD Cert.MemDwOIdeal.τ).loc Cert.MemDwOIdeal.main_arg0) = m ((c.tc : Thread Cert.MemDwOIdeal.nD Cert.MemDwOIdeal.τ).loc Cert.MemDwOIdeal.main_arg0)
          ∧ r.2.mem ((c.tc : Thread Cert.MemDwOIdeal.nD Cert.MemDwOIdeal.τ).loc Cert.MemDwOIdeal.main_arg1) = m ((c.tc : Thread Cert.MemDwOIdeal.nD Cert.MemDwOIdeal.τ).loc Cert.MemDwOIdeal.main_arg1))
      ∧ θ_run (Cert.MemDwORefIdeal.defs (F := Ideal)) (onTc (τ := Cert.MemDwORefIdeal.τ) (Cert.MemDwORefIdeal.main (F := Ideal))) ⟨m', fun _ => 0, g'⟩ (fun r => ∀ c : Dev Cert.MemDwORefIdeal.nD,
          r.2.mem ((c.tc : Thread Cert.MemDwORefIdeal.nD Cert.MemDwORefIdeal.τ).loc Cert.MemDwORefIdeal.main_v5) = v0 c
          ∧ r.2.mem ((c.tc : Thread Cert.MemDwORefIdeal.nD Cert.MemDwORefIdeal.τ).loc Cert.MemDwORefIdeal.main_arg0) = m' ((c.tc : Thread Cert.MemDwORefIdeal.nD Cert.MemDwORefIdeal.τ).loc Cert.MemDwORefIdeal.main_arg0)
          ∧ r.2.mem ((c.tc : Thread Cert.MemDwORefIdeal.nD Cert.MemDwORefIdeal.τ).loc Cert.MemDwORefIdeal.main_arg1) = m' ((c.tc : Thread Cert.MemDwORefIdeal.nD Cert.MemDwORefIdeal.τ).loc Cert.MemDwORefIdeal.main_arg1))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)) →
    ∃ (v0 : (c : Dev Cert.SwaInIdeal.nD) → Buf (Elt Ideal) ((c.tc : Thread Cert.SwaInIdeal.nD Cert.SwaInIdeal.τ).loc Cert.SwaInIdeal.main_v0)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v0) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v2) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)) →
    ∃ (v0 : (c : Dev Cert.MemQIdeal.nD) → Buf (Elt Ideal) ((c.tc : Thread Cert.MemQIdeal.nD Cert.MemQIdeal.τ).loc Cert.MemQIdeal.main_v0)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v0) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v2) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemO_MemOIdeal : Prop :=
  True

def algebraic_MemOIdeal_MemORefIdeal [hMemOIdeal : Cert.MemOIdeal.Facts] [hMemORefIdeal : Cert.MemORefIdeal.Facts] : Prop :=
  ∀ (m : (ℓ : Loc Cert.MemOIdeal.nD Cert.MemOIdeal.τ Cert.MemOIdeal.sig) → Buf (Elt Ideal) ℓ) (g : Dev Cert.MemOIdeal.nD → PrngReg)
    (m' : (ℓ : Loc Cert.MemORefIdeal.nD Cert.MemORefIdeal.τ Cert.MemORefIdeal.sig) → Buf (Elt Ideal) ℓ) (g' : Dev Cert.MemORefIdeal.nD → PrngReg), Pre_MemOIdeal m →
    (∀ c : Dev Cert.MemOIdeal.nD,
      m' ((c.tc : Thread Cert.MemORefIdeal.nD Cert.MemORefIdeal.τ).loc Cert.MemORefIdeal.main_arg0) = m ((c.tc : Thread Cert.MemOIdeal.nD Cert.MemOIdeal.τ).loc Cert.MemOIdeal.main_arg0)
      ∧ m' ((c.tc : Thread Cert.MemORefIdeal.nD Cert.MemORefIdeal.τ).loc Cert.MemORefIdeal.main_arg1) = m ((c.tc : Thread Cert.MemOIdeal.nD Cert.MemOIdeal.τ).loc Cert.MemOIdeal.main_arg1)
      ∧ m' ((c.tc : Thread Cert.MemORefIdeal.nD Cert.MemORefIdeal.τ).loc Cert.MemORefIdeal.main_arg2) = m ((c.tc : Thread Cert.MemOIdeal.nD Cert.MemOIdeal.τ).loc Cert.MemOIdeal.main_arg2)) →
    ∃ (v0 : (c : Dev Cert.MemOIdeal.nD) → Buf (Elt Ideal) ((c.tc : Thread Cert.MemOIdeal.nD Cert.MemOIdeal.τ).loc Cert.MemOIdeal.main_v0)),
      θ_run (Cert.MemOIdeal.defs (F := Ideal)) (onTc (τ := Cert.MemOIdeal.τ) (Cert.MemOIdeal.main (F := Ideal))) ⟨m, fun _ => 0, g⟩ (fun r => ∀ c : Dev Cert.MemOIdeal.nD,
          r.2.mem ((c.tc : Thread Cert.MemOIdeal.nD Cert.MemOIdeal.τ).loc Cert.MemOIdeal.main_v0) = v0 c
          ∧ r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
          ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1)
          ∧ r.2.mem ((c.tc : Thread Cert.MemOIdeal.nD Cert.MemOIdeal.τ).loc Cert.MemOIdeal.main_arg2) = m ((c.tc : Thread Cert.MemOIdeal.nD Cert.MemOIdeal.τ).loc Cert.MemOIdeal.main_arg2))
      ∧ θ_run (Cert.MemORefIdeal.defs (F := Ideal)) (onTc (τ := Cert.MemORefIdeal.τ) (Cert.MemORefIdeal.main (F := Ideal))) ⟨m', fun _ => 0, g'⟩ (fun r => ∀ c : Dev Cert.MemORefIdeal.nD,
          r.2.mem ((c.tc : Thread Cert.MemORefIdeal.nD Cert.MemORefIdeal.τ).loc Cert.MemORefIdeal.main_v5) = v0 c
          ∧ r.2.mem ((c.tc : Thread Cert.MemORefIdeal.nD Cert.MemORefIdeal.τ).loc Cert.MemORefIdeal.main_arg0) = m' ((c.tc : Thread Cert.MemORefIdeal.nD Cert.MemORefIdeal.τ).loc Cert.MemORefIdeal.main_arg0)
          ∧ r.2.mem ((c.tc : Thread Cert.MemORefIdeal.nD Cert.MemORefIdeal.τ).loc Cert.MemORefIdeal.main_arg1) = m' ((c.tc : Thread Cert.MemORefIdeal.nD Cert.MemORefIdeal.τ).loc Cert.MemORefIdeal.main_arg1)
          ∧ r.2.mem ((c.tc : Thread Cert.MemORefIdeal.nD Cert.MemORefIdeal.τ).loc Cert.MemORefIdeal.main_arg2) = m' ((c.tc : Thread Cert.MemORefIdeal.nD Cert.MemORefIdeal.τ).loc Cert.MemORefIdeal.main_arg2))

def preserves_Swa_SwaIdeal : Prop :=
  IdealRules.named_const.Statement Cert.SwaIdeal.κ "mask" .f32 0xF149F2CA#32 ⊥

def algebraic_SwaIdeal_SwaRefIdeal_pre_swa_real [hSwaIdeal : Cert.SwaIdeal.Facts] [hSwaRefIdeal : Cert.SwaRefIdeal.Facts] [hPre_swa_real : Cert.Pre_swa_real.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_real m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v0_0)) (v1 : (c : Dev Cert.SwaIdeal.nD) → Buf (Elt Ideal) ((c.tc : Thread Cert.SwaIdeal.nD Cert.SwaIdeal.τ).loc Cert.SwaIdeal.main_v0_1)) (v2 : (c : Dev Cert.SwaIdeal.nD) → Buf (Elt Ideal) ((c.tc : Thread Cert.SwaIdeal.nD Cert.SwaIdeal.τ).loc Cert.SwaIdeal.main_v0_2)) (v3 : (c : Dev Cert.SwaIdeal.nD) → Buf (Elt Ideal) ((c.tc : Thread Cert.SwaIdeal.nD Cert.SwaIdeal.τ).loc Cert.SwaIdeal.main_v0_3)) (v4 : (c : Dev Cert.SwaIdeal.nD) → Buf (Elt Ideal) ((c.tc : Thread Cert.SwaIdeal.nD Cert.SwaIdeal.τ).loc Cert.SwaIdeal.main_v0_4)) (v5 : (c : Dev Cert.SwaIdeal.nD) → Buf (Elt Ideal) ((c.tc : Thread Cert.SwaIdeal.nD Cert.SwaIdeal.τ).loc Cert.SwaIdeal.main_v0_5)) (v6 : (c : Dev Cert.SwaIdeal.nD) → Buf (Elt Ideal) ((c.tc : Thread Cert.SwaIdeal.nD Cert.SwaIdeal.τ).loc Cert.SwaIdeal.main_v0_6)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0_0) = v0 c
          ∧ r.2.mem ((c.tc : Thread Cert.SwaIdeal.nD Cert.SwaIdeal.τ).loc Cert.SwaIdeal.main_v0_1) = v1 c
          ∧ r.2.mem ((c.tc : Thread Cert.SwaIdeal.nD Cert.SwaIdeal.τ).loc Cert.SwaIdeal.main_v0_2) = v2 c
          ∧ r.2.mem ((c.tc : Thread Cert.SwaIdeal.nD Cert.SwaIdeal.τ).loc Cert.SwaIdeal.main_v0_3) = v3 c
          ∧ r.2.mem ((c.tc : Thread Cert.SwaIdeal.nD Cert.SwaIdeal.τ).loc Cert.SwaIdeal.main_v0_4) = v4 c
          ∧ r.2.mem ((c.tc : Thread Cert.SwaIdeal.nD Cert.SwaIdeal.τ).loc Cert.SwaIdeal.main_v0_5) = v5 c
          ∧ r.2.mem ((c.tc : Thread Cert.SwaIdeal.nD Cert.SwaIdeal.τ).loc Cert.SwaIdeal.main_v0_6) = v6 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v120) = v0 c
          ∧ r.2.mem ((c.tc : Thread Cert.SwaRefIdeal.nD Cert.SwaRefIdeal.τ).loc Cert.SwaRefIdeal.main_v122) = v1 c
          ∧ r.2.mem ((c.tc : Thread Cert.SwaRefIdeal.nD Cert.SwaRefIdeal.τ).loc Cert.SwaRefIdeal.main_v124) = v2 c
          ∧ r.2.mem ((c.tc : Thread Cert.SwaRefIdeal.nD Cert.SwaRefIdeal.τ).loc Cert.SwaRefIdeal.main_v126) = v3 c
          ∧ r.2.mem ((c.tc : Thread Cert.SwaRefIdeal.nD Cert.SwaRefIdeal.τ).loc Cert.SwaRefIdeal.main_v128) = v4 c
          ∧ r.2.mem ((c.tc : Thread Cert.SwaRefIdeal.nD Cert.SwaRefIdeal.τ).loc Cert.SwaRefIdeal.main_v112) = v5 c
          ∧ r.2.mem ((c.tc : Thread Cert.SwaRefIdeal.nD Cert.SwaRefIdeal.τ).loc Cert.SwaRefIdeal.main_v129) = v6 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v3) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_ProjGdn_ProjGdnIdeal : Prop :=
  True

def algebraic_ProjGdnIdeal_ProjGdnRefIdeal [hProjGdnIdeal : Cert.ProjGdnIdeal.Facts] [hProjGdnRefIdeal : Cert.ProjGdnRefIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg)
    (m' : (ℓ : Loc Cert.ProjGdnRefIdeal.nD Cert.ProjGdnRefIdeal.τ Cert.ProjGdnRefIdeal.sig) → Buf (Elt Ideal) ℓ) (g' : Dev Cert.ProjGdnRefIdeal.nD → PrngReg), Pre_ProjGdnIdeal m →
    (∀ c : Dev Cert.ProjGdnIdeal.nD,
      m' ((c.tc : Thread Cert.ProjGdnRefIdeal.nD Cert.ProjGdnRefIdeal.τ).loc Cert.ProjGdnRefIdeal.main_arg0) = m ((c.tc : Thread Cert.ProjGdnIdeal.nD Cert.ProjGdnIdeal.τ).loc Cert.ProjGdnIdeal.main_arg0)
      ∧ m' ((c.tc : Thread Cert.ProjGdnRefIdeal.nD Cert.ProjGdnRefIdeal.τ).loc Cert.ProjGdnRefIdeal.main_arg1) = m ((c.tc : Thread Cert.ProjGdnIdeal.nD Cert.ProjGdnIdeal.τ).loc Cert.ProjGdnIdeal.main_arg1)) →
    ∃ (v0 : (c : Dev Cert.ProjGdnIdeal.nD) → Buf (Elt Ideal) ((c.tc : Thread Cert.ProjGdnIdeal.nD Cert.ProjGdnIdeal.τ).loc Cert.ProjGdnIdeal.main_v0)),
      θ_run (Cert.ProjGdnIdeal.defs (F := Ideal)) (onTc (τ := Cert.ProjGdnIdeal.τ) (Cert.ProjGdnIdeal.main (F := Ideal))) ⟨m, fun _ => 0, g⟩ (fun r => ∀ c : Dev Cert.ProjGdnIdeal.nD,
          r.2.mem ((c.tc : Thread Cert.ProjGdnIdeal.nD Cert.ProjGdnIdeal.τ).loc Cert.ProjGdnIdeal.main_v0) = v0 c
          ∧ r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
          ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ θ_run (Cert.ProjGdnRefIdeal.defs (F := Ideal)) (onTc (τ := Cert.ProjGdnRefIdeal.τ) (Cert.ProjGdnRefIdeal.main (F := Ideal))) ⟨m', fun _ => 0, g'⟩ (fun r => ∀ c : Dev Cert.ProjGdnRefIdeal.nD,
          r.2.mem ((c.tc : Thread Cert.ProjGdnRefIdeal.nD Cert.ProjGdnRefIdeal.τ).loc Cert.ProjGdnRefIdeal.main_v2) = v0 c
          ∧ r.2.mem ((c.tc : Thread Cert.ProjGdnRefIdeal.nD Cert.ProjGdnRefIdeal.τ).loc Cert.ProjGdnRefIdeal.main_arg0) = m' ((c.tc : Thread Cert.ProjGdnRefIdeal.nD Cert.ProjGdnRefIdeal.τ).loc Cert.ProjGdnRefIdeal.main_arg0)
          ∧ r.2.mem ((c.tc : Thread Cert.ProjGdnRefIdeal.nD Cert.ProjGdnRefIdeal.τ).loc Cert.ProjGdnRefIdeal.main_arg1) = m' ((c.tc : Thread Cert.ProjGdnRefIdeal.nD Cert.ProjGdnRefIdeal.τ).loc Cert.ProjGdnRefIdeal.main_arg1))

def preserves_BrFwd_BrFwdIdeal : Prop :=
  True

def algebraic_BrFwdIdeal_BrFwdRefIdeal [hBrFwdIdeal : Cert.BrFwdIdeal.Facts] [hBrFwdRefIdeal : Cert.BrFwdRefIdeal.Facts] : Prop :=
  ∀ (m : (ℓ : Loc Cert.BrFwdIdeal.nD Cert.BrFwdIdeal.τ Cert.BrFwdIdeal.sig) → Buf (Elt Ideal) ℓ) (g : Dev Cert.BrFwdIdeal.nD → PrngReg)
    (m' : (ℓ : Loc Cert.BrFwdRefIdeal.nD Cert.BrFwdRefIdeal.τ Cert.BrFwdRefIdeal.sig) → Buf (Elt Ideal) ℓ) (g' : Dev Cert.BrFwdRefIdeal.nD → PrngReg), Pre_BrFwdIdeal m →
    (∀ c : Dev Cert.BrFwdIdeal.nD,
      m' ((c.tc : Thread Cert.BrFwdRefIdeal.nD Cert.BrFwdRefIdeal.τ).loc Cert.BrFwdRefIdeal.main_arg0) = m ((c.tc : Thread Cert.BrFwdIdeal.nD Cert.BrFwdIdeal.τ).loc Cert.BrFwdIdeal.main_arg0)
      ∧ m' ((c.tc : Thread Cert.BrFwdRefIdeal.nD Cert.BrFwdRefIdeal.τ).loc Cert.BrFwdRefIdeal.main_arg1) = m ((c.tc : Thread Cert.BrFwdIdeal.nD Cert.BrFwdIdeal.τ).loc Cert.BrFwdIdeal.main_arg1)) →
    ∃ (v0 : (c : Dev Cert.BrFwdIdeal.nD) → Buf (Elt Ideal) ((c.tc : Thread Cert.BrFwdIdeal.nD Cert.BrFwdIdeal.τ).loc Cert.BrFwdIdeal.main_v0)),
      θ_run (Cert.BrFwdIdeal.defs (F := Ideal)) (onTc (τ := Cert.BrFwdIdeal.τ) (Cert.BrFwdIdeal.main (F := Ideal))) ⟨m, fun _ => 0, g⟩ (fun r => ∀ c : Dev Cert.BrFwdIdeal.nD,
          r.2.mem ((c.tc : Thread Cert.BrFwdIdeal.nD Cert.BrFwdIdeal.τ).loc Cert.BrFwdIdeal.main_v0) = v0 c
          ∧ r.2.mem ((c.tc : Thread Cert.BrFwdIdeal.nD Cert.BrFwdIdeal.τ).loc Cert.BrFwdIdeal.main_arg0) = m ((c.tc : Thread Cert.BrFwdIdeal.nD Cert.BrFwdIdeal.τ).loc Cert.BrFwdIdeal.main_arg0)
          ∧ r.2.mem ((c.tc : Thread Cert.BrFwdIdeal.nD Cert.BrFwdIdeal.τ).loc Cert.BrFwdIdeal.main_arg1) = m ((c.tc : Thread Cert.BrFwdIdeal.nD Cert.BrFwdIdeal.τ).loc Cert.BrFwdIdeal.main_arg1))
      ∧ θ_run (Cert.BrFwdRefIdeal.defs (F := Ideal)) (onTc (τ := Cert.BrFwdRefIdeal.τ) (Cert.BrFwdRefIdeal.main (F := Ideal))) ⟨m', fun _ => 0, g'⟩ (fun r => ∀ c : Dev Cert.BrFwdRefIdeal.nD,
          r.2.mem ((c.tc : Thread Cert.BrFwdRefIdeal.nD Cert.BrFwdRefIdeal.τ).loc Cert.BrFwdRefIdeal.main_v3) = v0 c
          ∧ r.2.mem ((c.tc : Thread Cert.BrFwdRefIdeal.nD Cert.BrFwdRefIdeal.τ).loc Cert.BrFwdRefIdeal.main_arg0) = m' ((c.tc : Thread Cert.BrFwdRefIdeal.nD Cert.BrFwdRefIdeal.τ).loc Cert.BrFwdRefIdeal.main_arg0)
          ∧ r.2.mem ((c.tc : Thread Cert.BrFwdRefIdeal.nD Cert.BrFwdRefIdeal.τ).loc Cert.BrFwdRefIdeal.main_arg1) = m' ((c.tc : Thread Cert.BrFwdRefIdeal.nD Cert.BrFwdRefIdeal.τ).loc Cert.BrFwdRefIdeal.main_arg1))

def preserves_OmDx_OmDxIdeal : Prop :=
  True

def algebraic_OmDxIdeal_OmDxRefIdeal [hOmDxIdeal : Cert.OmDxIdeal.Facts] [hOmDxRefIdeal : Cert.OmDxRefIdeal.Facts] : Prop :=
  ∀ (m : (ℓ : Loc Cert.OmDxIdeal.nD Cert.OmDxIdeal.τ Cert.OmDxIdeal.sig) → Buf (Elt Ideal) ℓ) (g : Dev Cert.OmDxIdeal.nD → PrngReg)
    (m' : (ℓ : Loc Cert.OmDxRefIdeal.nD Cert.OmDxRefIdeal.τ Cert.OmDxRefIdeal.sig) → Buf (Elt Ideal) ℓ) (g' : Dev Cert.OmDxRefIdeal.nD → PrngReg), Pre_OmDxIdeal m →
    (∀ c : Dev Cert.OmDxIdeal.nD,
      m' ((c.tc : Thread Cert.OmDxRefIdeal.nD Cert.OmDxRefIdeal.τ).loc Cert.OmDxRefIdeal.main_arg0) = m ((c.tc : Thread Cert.OmDxIdeal.nD Cert.OmDxIdeal.τ).loc Cert.OmDxIdeal.main_arg0)
      ∧ m' ((c.tc : Thread Cert.OmDxRefIdeal.nD Cert.OmDxRefIdeal.τ).loc Cert.OmDxRefIdeal.main_arg1) = m ((c.tc : Thread Cert.OmDxIdeal.nD Cert.OmDxIdeal.τ).loc Cert.OmDxIdeal.main_arg1)) →
    ∃ (v0 : (c : Dev Cert.OmDxIdeal.nD) → Buf (Elt Ideal) ((c.tc : Thread Cert.OmDxIdeal.nD Cert.OmDxIdeal.τ).loc Cert.OmDxIdeal.main_v0)),
      θ_run (Cert.OmDxIdeal.defs (F := Ideal)) (onTc (τ := Cert.OmDxIdeal.τ) (Cert.OmDxIdeal.main (F := Ideal))) ⟨m, fun _ => 0, g⟩ (fun r => ∀ c : Dev Cert.OmDxIdeal.nD,
          r.2.mem ((c.tc : Thread Cert.OmDxIdeal.nD Cert.OmDxIdeal.τ).loc Cert.OmDxIdeal.main_v0) = v0 c
          ∧ r.2.mem ((c.tc : Thread Cert.OmDxIdeal.nD Cert.OmDxIdeal.τ).loc Cert.OmDxIdeal.main_arg0) = m ((c.tc : Thread Cert.OmDxIdeal.nD Cert.OmDxIdeal.τ).loc Cert.OmDxIdeal.main_arg0)
          ∧ r.2.mem ((c.tc : Thread Cert.OmDxIdeal.nD Cert.OmDxIdeal.τ).loc Cert.OmDxIdeal.main_arg1) = m ((c.tc : Thread Cert.OmDxIdeal.nD Cert.OmDxIdeal.τ).loc Cert.OmDxIdeal.main_arg1))
      ∧ θ_run (Cert.OmDxRefIdeal.defs (F := Ideal)) (onTc (τ := Cert.OmDxRefIdeal.τ) (Cert.OmDxRefIdeal.main (F := Ideal))) ⟨m', fun _ => 0, g'⟩ (fun r => ∀ c : Dev Cert.OmDxRefIdeal.nD,
          r.2.mem ((c.tc : Thread Cert.OmDxRefIdeal.nD Cert.OmDxRefIdeal.τ).loc Cert.OmDxRefIdeal.main_v4) = v0 c
          ∧ r.2.mem ((c.tc : Thread Cert.OmDxRefIdeal.nD Cert.OmDxRefIdeal.τ).loc Cert.OmDxRefIdeal.main_arg0) = m' ((c.tc : Thread Cert.OmDxRefIdeal.nD Cert.OmDxRefIdeal.τ).loc Cert.OmDxRefIdeal.main_arg0)
          ∧ r.2.mem ((c.tc : Thread Cert.OmDxRefIdeal.nD Cert.OmDxRefIdeal.τ).loc Cert.OmDxRefIdeal.main_arg1) = m' ((c.tc : Thread Cert.OmDxRefIdeal.nD Cert.OmDxRefIdeal.τ).loc Cert.OmDxRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v4) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v5) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_SwaDx_SwaDxIdeal : Prop :=
  True

def algebraic_SwaDxIdeal_SwaDxRefIdeal [hSwaDxIdeal : Cert.SwaDxIdeal.Facts] [hSwaDxRefIdeal : Cert.SwaDxRefIdeal.Facts] : Prop :=
  ∀ (m : (ℓ : Loc Cert.SwaDxIdeal.nD Cert.SwaDxIdeal.τ Cert.SwaDxIdeal.sig) → Buf (Elt Ideal) ℓ) (g : Dev Cert.SwaDxIdeal.nD → PrngReg)
    (m' : (ℓ : Loc Cert.SwaDxRefIdeal.nD Cert.SwaDxRefIdeal.τ Cert.SwaDxRefIdeal.sig) → Buf (Elt Ideal) ℓ) (g' : Dev Cert.SwaDxRefIdeal.nD → PrngReg), Pre_SwaDxIdeal m →
    (∀ c : Dev Cert.SwaDxIdeal.nD,
      m' ((c.tc : Thread Cert.SwaDxRefIdeal.nD Cert.SwaDxRefIdeal.τ).loc Cert.SwaDxRefIdeal.main_arg0) = m ((c.tc : Thread Cert.SwaDxIdeal.nD Cert.SwaDxIdeal.τ).loc Cert.SwaDxIdeal.main_arg0)
      ∧ m' ((c.tc : Thread Cert.SwaDxRefIdeal.nD Cert.SwaDxRefIdeal.τ).loc Cert.SwaDxRefIdeal.main_arg1) = m ((c.tc : Thread Cert.SwaDxIdeal.nD Cert.SwaDxIdeal.τ).loc Cert.SwaDxIdeal.main_arg1)
      ∧ m' ((c.tc : Thread Cert.SwaDxRefIdeal.nD Cert.SwaDxRefIdeal.τ).loc Cert.SwaDxRefIdeal.main_arg2) = m ((c.tc : Thread Cert.SwaDxIdeal.nD Cert.SwaDxIdeal.τ).loc Cert.SwaDxIdeal.main_arg2)) →
    ∃ (v0 : (c : Dev Cert.SwaDxIdeal.nD) → Buf (Elt Ideal) ((c.tc : Thread Cert.SwaDxIdeal.nD Cert.SwaDxIdeal.τ).loc Cert.SwaDxIdeal.main_v0)),
      θ_run (Cert.SwaDxIdeal.defs (F := Ideal)) (onTc (τ := Cert.SwaDxIdeal.τ) (Cert.SwaDxIdeal.main (F := Ideal))) ⟨m, fun _ => 0, g⟩ (fun r => ∀ c : Dev Cert.SwaDxIdeal.nD,
          r.2.mem ((c.tc : Thread Cert.SwaDxIdeal.nD Cert.SwaDxIdeal.τ).loc Cert.SwaDxIdeal.main_v0) = v0 c
          ∧ r.2.mem ((c.tc : Thread Cert.SwaDxIdeal.nD Cert.SwaDxIdeal.τ).loc Cert.SwaDxIdeal.main_arg0) = m ((c.tc : Thread Cert.SwaDxIdeal.nD Cert.SwaDxIdeal.τ).loc Cert.SwaDxIdeal.main_arg0)
          ∧ r.2.mem ((c.tc : Thread Cert.SwaDxIdeal.nD Cert.SwaDxIdeal.τ).loc Cert.SwaDxIdeal.main_arg1) = m ((c.tc : Thread Cert.SwaDxIdeal.nD Cert.SwaDxIdeal.τ).loc Cert.SwaDxIdeal.main_arg1)
          ∧ r.2.mem ((c.tc : Thread Cert.SwaDxIdeal.nD Cert.SwaDxIdeal.τ).loc Cert.SwaDxIdeal.main_arg2) = m ((c.tc : Thread Cert.SwaDxIdeal.nD Cert.SwaDxIdeal.τ).loc Cert.SwaDxIdeal.main_arg2))
      ∧ θ_run (Cert.SwaDxRefIdeal.defs (F := Ideal)) (onTc (τ := Cert.SwaDxRefIdeal.τ) (Cert.SwaDxRefIdeal.main (F := Ideal))) ⟨m', fun _ => 0, g'⟩ (fun r => ∀ c : Dev Cert.SwaDxRefIdeal.nD,
          r.2.mem ((c.tc : Thread Cert.SwaDxRefIdeal.nD Cert.SwaDxRefIdeal.τ).loc Cert.SwaDxRefIdeal.main_v9) = v0 c
          ∧ r.2.mem ((c.tc : Thread Cert.SwaDxRefIdeal.nD Cert.SwaDxRefIdeal.τ).loc Cert.SwaDxRefIdeal.main_arg0) = m' ((c.tc : Thread Cert.SwaDxRefIdeal.nD Cert.SwaDxRefIdeal.τ).loc Cert.SwaDxRefIdeal.main_arg0)
          ∧ r.2.mem ((c.tc : Thread Cert.SwaDxRefIdeal.nD Cert.SwaDxRefIdeal.τ).loc Cert.SwaDxRefIdeal.main_arg1) = m' ((c.tc : Thread Cert.SwaDxRefIdeal.nD Cert.SwaDxRefIdeal.τ).loc Cert.SwaDxRefIdeal.main_arg1)
          ∧ r.2.mem ((c.tc : Thread Cert.SwaDxRefIdeal.nD Cert.SwaDxRefIdeal.τ).loc Cert.SwaDxRefIdeal.main_arg2) = m' ((c.tc : Thread Cert.SwaDxRefIdeal.nD Cert.SwaDxRefIdeal.τ).loc Cert.SwaDxRefIdeal.main_arg2))

def preserves_GatesDx_GatesDxIdeal : Prop :=
  True

def algebraic_GatesDxIdeal_GatesDxRefIdeal [hGatesDxIdeal : Cert.GatesDxIdeal.Facts] [hGatesDxRefIdeal : Cert.GatesDxRefIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg)
    (m' : (ℓ : Loc Cert.GatesDxRefIdeal.nD Cert.GatesDxRefIdeal.τ Cert.GatesDxRefIdeal.sig) → Buf (Elt Ideal) ℓ) (g' : Dev Cert.GatesDxRefIdeal.nD → PrngReg), Pre_GatesDxIdeal m →
    (∀ c : Dev Cert.GatesDxIdeal.nD,
      m' ((c.tc : Thread Cert.GatesDxRefIdeal.nD Cert.GatesDxRefIdeal.τ).loc Cert.GatesDxRefIdeal.main_arg0) = m ((c.tc : Thread Cert.GatesDxIdeal.nD Cert.GatesDxIdeal.τ).loc Cert.GatesDxIdeal.main_arg0)
      ∧ m' ((c.tc : Thread Cert.GatesDxRefIdeal.nD Cert.GatesDxRefIdeal.τ).loc Cert.GatesDxRefIdeal.main_arg1) = m ((c.tc : Thread Cert.GatesDxIdeal.nD Cert.GatesDxIdeal.τ).loc Cert.GatesDxIdeal.main_arg1)
      ∧ m' ((c.tc : Thread Cert.GatesDxRefIdeal.nD Cert.GatesDxRefIdeal.τ).loc Cert.GatesDxRefIdeal.main_arg2) = m ((c.tc : Thread Cert.GatesDxIdeal.nD Cert.GatesDxIdeal.τ).loc Cert.GatesDxIdeal.main_arg2)) →
    ∃ (v0 : (c : Dev Cert.GatesDxIdeal.nD) → Buf (Elt Ideal) ((c.tc : Thread Cert.GatesDxIdeal.nD Cert.GatesDxIdeal.τ).loc Cert.GatesDxIdeal.main_v0)),
      θ_run (Cert.GatesDxIdeal.defs (F := Ideal)) (onTc (τ := Cert.GatesDxIdeal.τ) (Cert.GatesDxIdeal.main (F := Ideal))) ⟨m, fun _ => 0, g⟩ (fun r => ∀ c : Dev Cert.GatesDxIdeal.nD,
          r.2.mem ((c.tc : Thread Cert.GatesDxIdeal.nD Cert.GatesDxIdeal.τ).loc Cert.GatesDxIdeal.main_v0) = v0 c
          ∧ r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
          ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
          ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2))
      ∧ θ_run (Cert.GatesDxRefIdeal.defs (F := Ideal)) (onTc (τ := Cert.GatesDxRefIdeal.τ) (Cert.GatesDxRefIdeal.main (F := Ideal))) ⟨m', fun _ => 0, g'⟩ (fun r => ∀ c : Dev Cert.GatesDxRefIdeal.nD,
          r.2.mem ((c.tc : Thread Cert.GatesDxRefIdeal.nD Cert.GatesDxRefIdeal.τ).loc Cert.GatesDxRefIdeal.main_v5) = v0 c
          ∧ r.2.mem ((c.tc : Thread Cert.GatesDxRefIdeal.nD Cert.GatesDxRefIdeal.τ).loc Cert.GatesDxRefIdeal.main_arg0) = m' ((c.tc : Thread Cert.GatesDxRefIdeal.nD Cert.GatesDxRefIdeal.τ).loc Cert.GatesDxRefIdeal.main_arg0)
          ∧ r.2.mem ((c.tc : Thread Cert.GatesDxRefIdeal.nD Cert.GatesDxRefIdeal.τ).loc Cert.GatesDxRefIdeal.main_arg1) = m' ((c.tc : Thread Cert.GatesDxRefIdeal.nD Cert.GatesDxRefIdeal.τ).loc Cert.GatesDxRefIdeal.main_arg1)
          ∧ r.2.mem ((c.tc : Thread Cert.GatesDxRefIdeal.nD Cert.GatesDxRefIdeal.τ).loc Cert.GatesDxRefIdeal.main_arg2) = m' ((c.tc : Thread Cert.GatesDxRefIdeal.nD Cert.GatesDxRefIdeal.τ).loc Cert.GatesDxRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_v39) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)
      ∧ m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1)
      ∧ m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2)
      ∧ m' ((c.tc : Thread Cert.ColsRefIdeal.nD Cert.ColsRefIdeal.τ).loc Cert.ColsRefIdeal.main_arg3) = m ((c.tc : Thread Cert.ColsIdeal.nD Cert.ColsIdeal.τ).loc Cert.ColsIdeal.main_arg3)
      ∧ m' ((c.tc : Thread Cert.ColsRefIdeal.nD Cert.ColsRefIdeal.τ).loc Cert.ColsRefIdeal.main_arg4) = m ((c.tc : Thread Cert.ColsIdeal.nD Cert.ColsIdeal.τ).loc Cert.ColsIdeal.main_arg4)
      ∧ m' ((c.tc : Thread Cert.ColsRefIdeal.nD Cert.ColsRefIdeal.τ).loc Cert.ColsRefIdeal.main_arg5) = m ((c.tc : Thread Cert.ColsIdeal.nD Cert.ColsIdeal.τ).loc Cert.ColsIdeal.main_arg5)) →
    ∃ (v0 : (c : Dev Cert.ColsIdeal.nD) → Buf (Elt Ideal) ((c.tc : Thread Cert.ColsIdeal.nD Cert.ColsIdeal.τ).loc Cert.ColsIdeal.main_v0)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v0) = v0 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
          ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
          ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
          ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v46) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2)
          ∧ r.2.mem ((c.tc : Thread Cert.ColsRefIdeal.nD Cert.ColsRefIdeal.τ).loc Cert.ColsRefIdeal.main_arg3) = m' ((c.tc : Thread Cert.ColsRefIdeal.nD Cert.ColsRefIdeal.τ).loc Cert.ColsRefIdeal.main_arg3)
          ∧ r.2.mem ((c.tc : Thread Cert.ColsRefIdeal.nD Cert.ColsRefIdeal.τ).loc Cert.ColsRefIdeal.main_arg4) = m' ((c.tc : Thread Cert.ColsRefIdeal.nD Cert.ColsRefIdeal.τ).loc Cert.ColsRefIdeal.main_arg4)
          ∧ r.2.mem ((c.tc : Thread Cert.ColsRefIdeal.nD Cert.ColsRefIdeal.τ).loc Cert.ColsRefIdeal.main_arg5) = m' ((c.tc : Thread Cert.ColsRefIdeal.nD Cert.ColsRefIdeal.τ).loc Cert.ColsRefIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v20) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v23) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_SwaFwd_SwaFwdIdeal : Prop :=
  IdealRules.named_const.Statement Cert.SwaFwdIdeal.κ "mask" .f32 0xF149F2CA#32 ⊥

def algebraic_SwaFwdIdeal_SwaFwdRefIdeal_pre_swafwd_real [hSwaFwdIdeal : Cert.SwaFwdIdeal.Facts] [hSwaFwdRefIdeal : Cert.SwaFwdRefIdeal.Facts] [hPre_swafwd_real : Cert.Pre_swafwd_real.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swafwd_real m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v0)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v0) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v68) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v21) = v0 c
          ∧ r.2.mem ((c.tc : Thread Cert.LnFwdRefIdeal.nD Cert.LnFwdRefIdeal.τ).loc Cert.LnFwdRefIdeal.main_v22) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)) →
    ∃ (v0 : (c : Dev Cert.AdamBrIdeal.nD) → Buf (Elt Ideal) ((c.tc : Thread Cert.AdamBrIdeal.nD Cert.AdamBrIdeal.τ).loc Cert.AdamBrIdeal.main_v0_0)) (v1 : (c : Dev Cert.AdamBrIdeal.nD) → Buf (Elt Ideal) ((c.tc : Thread Cert.AdamBrIdeal.nD Cert.AdamBrIdeal.τ).loc Cert.AdamBrIdeal.main_v0_1)) (v2 : (c : Dev Cert.AdamBrIdeal.nD) → Buf (Elt Ideal) ((c.tc : Thread Cert.AdamBrIdeal.nD Cert.AdamBrIdeal.τ).loc Cert.AdamBrIdeal.main_v0_2)) (v3 : (c : Dev Cert.AdamBrIdeal.nD) → Buf (Elt Ideal) ((c.tc : Thread Cert.AdamBrIdeal.nD Cert.AdamBrIdeal.τ).loc Cert.AdamBrIdeal.main_v0_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v0_0) = v0 c
          ∧ r.2.mem ((c.tc : Thread Cert.AdamBrIdeal.nD Cert.AdamBrIdeal.τ).loc Cert.AdamBrIdeal.main_v0_1) = v1 c
          ∧ r.2.mem ((c.tc : Thread Cert.AdamBrIdeal.nD Cert.AdamBrIdeal.τ).loc Cert.AdamBrIdeal.main_v0_2) = v2 c
          ∧ r.2.mem ((c.tc : Thread Cert.AdamBrIdeal.nD Cert.AdamBrIdeal.τ).loc Cert.AdamBrIdeal.main_v0_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_v1) = v0 c
          ∧ r.2.mem ((c.tc : Thread Cert.AdamBrRefIdeal.nD Cert.AdamBrRefIdeal.τ).loc Cert.AdamBrRefIdeal.main_v25) = v1 c
          ∧ r.2.mem ((c.tc : Thread Cert.AdamBrRefIdeal.nD Cert.AdamBrRefIdeal.τ).loc Cert.AdamBrRefIdeal.main_v6) = v2 c
          ∧ r.2.mem ((c.tc : Thread Cert.AdamBrRefIdeal.nD Cert.AdamBrRefIdeal.τ).loc Cert.AdamBrRefIdeal.main_v12) = v3 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v1) = v0 c
          ∧ r.2.mem ((c.tc : Thread Cert.AdamMixRefIdeal.nD Cert.AdamMixRefIdeal.τ).loc Cert.AdamMixRefIdeal.main_v25) = v1 c
          ∧ r.2.mem ((c.tc : Thread Cert.AdamMixRefIdeal.nD Cert.AdamMixRefIdeal.τ).loc Cert.AdamMixRefIdeal.main_v6) = v2 c
          ∧ r.2.mem ((c.tc : Thread Cert.AdamMixRefIdeal.nD Cert.AdamMixRefIdeal.τ).loc Cert.AdamMixRefIdeal.main_v12) = v3 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)) (v3 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_v0_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v1) = v0 c
          ∧ r.2.mem ((c.tc : Thread Cert.AdamQRefIdeal.nD Cert.AdamQRefIdeal.τ).loc Cert.AdamQRefIdeal.main_v25) = v1 c
          ∧ r.2.mem ((c.tc : Thread Cert.AdamQRefIdeal.nD Cert.AdamQRefIdeal.τ).loc Cert.AdamQRefIdeal.main_v6) = v2 c
          ∧ r.2.mem ((c.tc : Thread Cert.AdamQRefIdeal.nD Cert.AdamQRefIdeal.τ).loc Cert.AdamQRefIdeal.main_v12) = v3 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v1) = v0 c
          ∧ r.2.mem ((c.tc : Thread Cert.AdamORefIdeal.nD Cert.AdamORefIdeal.τ).loc Cert.AdamORefIdeal.main_v25) = v1 c
          ∧ r.2.mem ((c.tc : Thread Cert.AdamORefIdeal.nD Cert.AdamORefIdeal.τ).loc Cert.AdamORefIdeal.main_v6) = v2 c
          ∧ r.2.mem ((c.tc : Thread Cert.AdamORefIdeal.nD Cert.AdamORefIdeal.τ).loc Cert.AdamORefIdeal.main_v12) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hMem : Cert.Mem.Facts) (hMemIdeal : Cert.MemIdeal.Facts) (hPlainIdeal : Cert.PlainIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGatesDw : Cert.GatesDw.Facts) (hGatesDwIdeal : Cert.GatesDwIdeal.Facts) (hGatesDwRefIdeal : Cert.GatesDwRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixO : Cert.MixO.Facts) (hMixOIdeal : Cert.MixOIdeal.Facts) (hMixORefIdeal : Cert.MixORefIdeal.Facts) (hBrDx : Cert.BrDx.Facts) (hBrDxIdeal : Cert.BrDxIdeal.Facts) (hBrDxRefIdeal : Cert.BrDxRefIdeal.Facts) (hBrDw : Cert.BrDw.Facts) (hBrDwIdeal : Cert.BrDwIdeal.Facts) (hBrDwRefIdeal : Cert.BrDwRefIdeal.Facts) (hSwaDw : Cert.SwaDw.Facts) (hSwaDwIdeal : Cert.SwaDwIdeal.Facts) (hSwaDwRefIdeal : Cert.SwaDwRefIdeal.Facts) (hMemDx : Cert.MemDx.Facts) (hMemDxIdeal : Cert.MemDxIdeal.Facts) (hMemDxRefIdeal : Cert.MemDxRefIdeal.Facts) (hMemDwQ : Cert.MemDwQ.Facts) (hMemDwQIdeal : Cert.MemDwQIdeal.Facts) (hMemDwQRefIdeal : Cert.MemDwQRefIdeal.Facts) (hMemDwKv : Cert.MemDwKv.Facts) (hMemDwKvIdeal : Cert.MemDwKvIdeal.Facts) (hMemDwKvRefIdeal : Cert.MemDwKvRefIdeal.Facts) (hMemDwO : Cert.MemDwO.Facts) (hMemDwOIdeal : Cert.MemDwOIdeal.Facts) (hMemDwORefIdeal : Cert.MemDwORefIdeal.Facts) (hSwaIn : Cert.SwaIn.Facts) (hSwaInIdeal : Cert.SwaInIdeal.Facts) (hSwaInRefIdeal : Cert.SwaInRefIdeal.Facts) (hMemQ : Cert.MemQ.Facts) (hMemQIdeal : Cert.MemQIdeal.Facts) (hMemQRefIdeal : Cert.MemQRefIdeal.Facts) (hMemKv : Cert.MemKv.Facts) (hMemKvIdeal : Cert.MemKvIdeal.Facts) (hMemKvRefIdeal : Cert.MemKvRefIdeal.Facts) (hMemO : Cert.MemO.Facts) (hMemOIdeal : Cert.MemOIdeal.Facts) (hMemORefIdeal : Cert.MemORefIdeal.Facts) (hSwa : Cert.Swa.Facts) (hSwaIdeal : Cert.SwaIdeal.Facts) (hSwaRefIdeal : Cert.SwaRefIdeal.Facts) (hProjGates : Cert.ProjGates.Facts) (hProjGatesIdeal : Cert.ProjGatesIdeal.Facts) (hProjGatesRefIdeal : Cert.ProjGatesRefIdeal.Facts) (hProjGdn : Cert.ProjGdn.Facts) (hProjGdnIdeal : Cert.ProjGdnIdeal.Facts) (hProjGdnRefIdeal : Cert.ProjGdnRefIdeal.Facts) (hBrFwd : Cert.BrFwd.Facts) (hBrFwdIdeal : Cert.BrFwdIdeal.Facts) (hBrFwdRefIdeal : Cert.BrFwdRefIdeal.Facts) (hOmDx : Cert.OmDx.Facts) (hOmDxIdeal : Cert.OmDxIdeal.Facts) (hOmDxRefIdeal : Cert.OmDxRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hSwaDx : Cert.SwaDx.Facts) (hSwaDxIdeal : Cert.SwaDxIdeal.Facts) (hSwaDxRefIdeal : Cert.SwaDxRefIdeal.Facts) (hGatesDx : Cert.GatesDx.Facts) (hGatesDxIdeal : Cert.GatesDxIdeal.Facts) (hGatesDxRefIdeal : Cert.GatesDxRefIdeal.Facts) (hMerge : Cert.Merge.Facts) (hMergeIdeal : Cert.MergeIdeal.Facts) (hMergeRefIdeal : Cert.MergeRefIdeal.Facts) (hCols : Cert.Cols.Facts) (hColsIdeal : Cert.ColsIdeal.Facts) (hColsRefIdeal : Cert.ColsRefIdeal.Facts) (hMergeFwd : Cert.MergeFwd.Facts) (hMergeFwdIdeal : Cert.MergeFwdIdeal.Facts) (hMergeFwdRefIdeal : Cert.MergeFwdRefIdeal.Facts) (hMemFwd : Cert.MemFwd.Facts) (hMemFwdIdeal : Cert.MemFwdIdeal.Facts) (hMemFwdRefIdeal : Cert.MemFwdRefIdeal.Facts) (hSwaFwd : Cert.SwaFwd.Facts) (hSwaFwdIdeal : Cert.SwaFwdIdeal.Facts) (hSwaFwdRefIdeal : Cert.SwaFwdRefIdeal.Facts) (hLnFwd : Cert.LnFwd.Facts) (hLnFwdIdeal : Cert.LnFwdIdeal.Facts) (hLnFwdRefIdeal : Cert.LnFwdRefIdeal.Facts) (hAdamIn : Cert.AdamIn.Facts) (hAdamInIdeal : Cert.AdamInIdeal.Facts) (hAdamInRefIdeal : Cert.AdamInRefIdeal.Facts) (hAdamBr : Cert.AdamBr.Facts) (hAdamBrIdeal : Cert.AdamBrIdeal.Facts) (hAdamBrRefIdeal : Cert.AdamBrRefIdeal.Facts) (hAdamMix : Cert.AdamMix.Facts) (hAdamMixIdeal : Cert.AdamMixIdeal.Facts) (hAdamMixRefIdeal : Cert.AdamMixRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hAdamO : Cert.AdamO.Facts) (hAdamOIdeal : Cert.AdamOIdeal.Facts) (hAdamORefIdeal : Cert.AdamORefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPre_mem_real : Cert.Pre_mem_real.Facts) (hPre_swa_real : Cert.Pre_swa_real.Facts) (hPre_swafwd_real : Cert.Pre_swafwd_real.Facts),
    quiescent_Mem (hMem := hMem)
    ∧ quiescent_MemIdeal (hMemIdeal := hMemIdeal)
    ∧ quiescent_MemIdeal_pre_mem_real (hMemIdeal := hMemIdeal) (hPre_mem_real := hPre_mem_real)
    ∧ quiescent_PlainIdeal (hPlainIdeal := hPlainIdeal)
    ∧ quiescent_PlainIdeal_pre_mem_real (hPlainIdeal := hPlainIdeal) (hPre_mem_real := hPre_mem_real)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GatesDw (hGatesDw := hGatesDw)
    ∧ quiescent_GatesDwIdeal (hGatesDwIdeal := hGatesDwIdeal)
    ∧ quiescent_GatesDwRefIdeal (hGatesDwRefIdeal := hGatesDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixO (hMixO := hMixO)
    ∧ quiescent_MixOIdeal (hMixOIdeal := hMixOIdeal)
    ∧ quiescent_MixORefIdeal (hMixORefIdeal := hMixORefIdeal)
    ∧ quiescent_BrDx (hBrDx := hBrDx)
    ∧ quiescent_BrDxIdeal (hBrDxIdeal := hBrDxIdeal)
    ∧ quiescent_BrDxRefIdeal (hBrDxRefIdeal := hBrDxRefIdeal)
    ∧ quiescent_BrDw (hBrDw := hBrDw)
    ∧ quiescent_BrDwIdeal (hBrDwIdeal := hBrDwIdeal)
    ∧ quiescent_BrDwRefIdeal (hBrDwRefIdeal := hBrDwRefIdeal)
    ∧ quiescent_SwaDw (hSwaDw := hSwaDw)
    ∧ quiescent_SwaDwIdeal (hSwaDwIdeal := hSwaDwIdeal)
    ∧ quiescent_SwaDwRefIdeal (hSwaDwRefIdeal := hSwaDwRefIdeal)
    ∧ quiescent_MemDx (hMemDx := hMemDx)
    ∧ quiescent_MemDxIdeal (hMemDxIdeal := hMemDxIdeal)
    ∧ quiescent_MemDxRefIdeal (hMemDxRefIdeal := hMemDxRefIdeal)
    ∧ quiescent_MemDwQ (hMemDwQ := hMemDwQ)
    ∧ quiescent_MemDwQIdeal (hMemDwQIdeal := hMemDwQIdeal)
    ∧ quiescent_MemDwQRefIdeal (hMemDwQRefIdeal := hMemDwQRefIdeal)
    ∧ quiescent_MemDwKv (hMemDwKv := hMemDwKv)
    ∧ quiescent_MemDwKvIdeal (hMemDwKvIdeal := hMemDwKvIdeal)
    ∧ quiescent_MemDwKvRefIdeal (hMemDwKvRefIdeal := hMemDwKvRefIdeal)
    ∧ quiescent_MemDwO (hMemDwO := hMemDwO)
    ∧ quiescent_MemDwOIdeal (hMemDwOIdeal := hMemDwOIdeal)
    ∧ quiescent_MemDwORefIdeal (hMemDwORefIdeal := hMemDwORefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemO (hMemO := hMemO)
    ∧ quiescent_MemOIdeal (hMemOIdeal := hMemOIdeal)
    ∧ quiescent_MemORefIdeal (hMemORefIdeal := hMemORefIdeal)
    ∧ quiescent_Swa (hSwa := hSwa)
    ∧ quiescent_SwaIdeal (hSwaIdeal := hSwaIdeal)
    ∧ quiescent_SwaIdeal_pre_swa_real (hSwaIdeal := hSwaIdeal) (hPre_swa_real := hPre_swa_real)
    ∧ quiescent_SwaRefIdeal (hSwaRefIdeal := hSwaRefIdeal)
    ∧ quiescent_SwaRefIdeal_pre_swa_real (hSwaRefIdeal := hSwaRefIdeal) (hPre_swa_real := hPre_swa_real)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_ProjGdn (hProjGdn := hProjGdn)
    ∧ quiescent_ProjGdnIdeal (hProjGdnIdeal := hProjGdnIdeal)
    ∧ quiescent_ProjGdnRefIdeal (hProjGdnRefIdeal := hProjGdnRefIdeal)
    ∧ quiescent_BrFwd (hBrFwd := hBrFwd)
    ∧ quiescent_BrFwdIdeal (hBrFwdIdeal := hBrFwdIdeal)
    ∧ quiescent_BrFwdRefIdeal (hBrFwdRefIdeal := hBrFwdRefIdeal)
    ∧ quiescent_OmDx (hOmDx := hOmDx)
    ∧ quiescent_OmDxIdeal (hOmDxIdeal := hOmDxIdeal)
    ∧ quiescent_OmDxRefIdeal (hOmDxRefIdeal := hOmDxRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_SwaDx (hSwaDx := hSwaDx)
    ∧ quiescent_SwaDxIdeal (hSwaDxIdeal := hSwaDxIdeal)
    ∧ quiescent_SwaDxRefIdeal (hSwaDxRefIdeal := hSwaDxRefIdeal)
    ∧ quiescent_GatesDx (hGatesDx := hGatesDx)
    ∧ quiescent_GatesDxIdeal (hGatesDxIdeal := hGatesDxIdeal)
    ∧ quiescent_GatesDxRefIdeal (hGatesDxRefIdeal := hGatesDxRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cols (hCols := hCols)
    ∧ quiescent_ColsIdeal (hColsIdeal := hColsIdeal)
    ∧ quiescent_ColsRefIdeal (hColsRefIdeal := hColsRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_SwaFwd (hSwaFwd := hSwaFwd)
    ∧ quiescent_SwaFwdIdeal (hSwaFwdIdeal := hSwaFwdIdeal)
    ∧ quiescent_SwaFwdIdeal_pre_swafwd_real (hSwaFwdIdeal := hSwaFwdIdeal) (hPre_swafwd_real := hPre_swafwd_real)
    ∧ quiescent_SwaFwdRefIdeal (hSwaFwdRefIdeal := hSwaFwdRefIdeal)
    ∧ quiescent_SwaFwdRefIdeal_pre_swafwd_real (hSwaFwdRefIdeal := hSwaFwdRefIdeal) (hPre_swafwd_real := hPre_swafwd_real)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Mem_MemIdeal
    ∧ algebraic_MemIdeal_PlainIdeal_pre_mem_real (hMemIdeal := hMemIdeal) (hPlainIdeal := hPlainIdeal) (hPre_mem_real := hPre_mem_real)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GatesDw_GatesDwIdeal
    ∧ algebraic_GatesDwIdeal_GatesDwRefIdeal (hGatesDwIdeal := hGatesDwIdeal) (hGatesDwRefIdeal := hGatesDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixO_MixOIdeal
    ∧ algebraic_MixOIdeal_MixORefIdeal (hMixOIdeal := hMixOIdeal) (hMixORefIdeal := hMixORefIdeal)
    ∧ preserves_BrDx_BrDxIdeal
    ∧ algebraic_BrDxIdeal_BrDxRefIdeal (hBrDxIdeal := hBrDxIdeal) (hBrDxRefIdeal := hBrDxRefIdeal)
    ∧ preserves_BrDw_BrDwIdeal
    ∧ algebraic_BrDwIdeal_BrDwRefIdeal (hBrDwIdeal := hBrDwIdeal) (hBrDwRefIdeal := hBrDwRefIdeal)
    ∧ preserves_SwaDw_SwaDwIdeal
    ∧ algebraic_SwaDwIdeal_SwaDwRefIdeal (hSwaDwIdeal := hSwaDwIdeal) (hSwaDwRefIdeal := hSwaDwRefIdeal)
    ∧ preserves_MemDx_MemDxIdeal
    ∧ algebraic_MemDxIdeal_MemDxRefIdeal (hMemDxIdeal := hMemDxIdeal) (hMemDxRefIdeal := hMemDxRefIdeal)
    ∧ preserves_MemDwQ_MemDwQIdeal
    ∧ algebraic_MemDwQIdeal_MemDwQRefIdeal (hMemDwQIdeal := hMemDwQIdeal) (hMemDwQRefIdeal := hMemDwQRefIdeal)
    ∧ preserves_MemDwKv_MemDwKvIdeal
    ∧ algebraic_MemDwKvIdeal_MemDwKvRefIdeal (hMemDwKvIdeal := hMemDwKvIdeal) (hMemDwKvRefIdeal := hMemDwKvRefIdeal)
    ∧ preserves_MemDwO_MemDwOIdeal
    ∧ algebraic_MemDwOIdeal_MemDwORefIdeal (hMemDwOIdeal := hMemDwOIdeal) (hMemDwORefIdeal := hMemDwORefIdeal)
    ∧ preserves_SwaIn_SwaInIdeal
    ∧ algebraic_SwaInIdeal_SwaInRefIdeal (hSwaInIdeal := hSwaInIdeal) (hSwaInRefIdeal := hSwaInRefIdeal)
    ∧ preserves_MemQ_MemQIdeal
    ∧ algebraic_MemQIdeal_MemQRefIdeal (hMemQIdeal := hMemQIdeal) (hMemQRefIdeal := hMemQRefIdeal)
    ∧ preserves_MemKv_MemKvIdeal
    ∧ algebraic_MemKvIdeal_MemKvRefIdeal (hMemKvIdeal := hMemKvIdeal) (hMemKvRefIdeal := hMemKvRefIdeal)
    ∧ preserves_MemO_MemOIdeal
    ∧ algebraic_MemOIdeal_MemORefIdeal (hMemOIdeal := hMemOIdeal) (hMemORefIdeal := hMemORefIdeal)
    ∧ preserves_Swa_SwaIdeal
    ∧ algebraic_SwaIdeal_SwaRefIdeal_pre_swa_real (hSwaIdeal := hSwaIdeal) (hSwaRefIdeal := hSwaRefIdeal) (hPre_swa_real := hPre_swa_real)
    ∧ preserves_ProjGates_ProjGatesIdeal
    ∧ algebraic_ProjGatesIdeal_ProjGatesRefIdeal (hProjGatesIdeal := hProjGatesIdeal) (hProjGatesRefIdeal := hProjGatesRefIdeal)
    ∧ preserves_ProjGdn_ProjGdnIdeal
    ∧ algebraic_ProjGdnIdeal_ProjGdnRefIdeal (hProjGdnIdeal := hProjGdnIdeal) (hProjGdnRefIdeal := hProjGdnRefIdeal)
    ∧ preserves_BrFwd_BrFwdIdeal
    ∧ algebraic_BrFwdIdeal_BrFwdRefIdeal (hBrFwdIdeal := hBrFwdIdeal) (hBrFwdRefIdeal := hBrFwdRefIdeal)
    ∧ preserves_OmDx_OmDxIdeal
    ∧ algebraic_OmDxIdeal_OmDxRefIdeal (hOmDxIdeal := hOmDxIdeal) (hOmDxRefIdeal := hOmDxRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_SwaDx_SwaDxIdeal
    ∧ algebraic_SwaDxIdeal_SwaDxRefIdeal (hSwaDxIdeal := hSwaDxIdeal) (hSwaDxRefIdeal := hSwaDxRefIdeal)
    ∧ preserves_GatesDx_GatesDxIdeal
    ∧ algebraic_GatesDxIdeal_GatesDxRefIdeal (hGatesDxIdeal := hGatesDxIdeal) (hGatesDxRefIdeal := hGatesDxRefIdeal)
    ∧ preserves_Merge_MergeIdeal
    ∧ algebraic_MergeIdeal_MergeRefIdeal (hMergeIdeal := hMergeIdeal) (hMergeRefIdeal := hMergeRefIdeal)
    ∧ preserves_Cols_ColsIdeal
    ∧ algebraic_ColsIdeal_ColsRefIdeal (hColsIdeal := hColsIdeal) (hColsRefIdeal := hColsRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MemFwd_MemFwdIdeal
    ∧ algebraic_MemFwdIdeal_MemFwdRefIdeal (hMemFwdIdeal := hMemFwdIdeal) (hMemFwdRefIdeal := hMemFwdRefIdeal)
    ∧ preserves_SwaFwd_SwaFwdIdeal
    ∧ algebraic_SwaFwdIdeal_SwaFwdRefIdeal_pre_swafwd_real (hSwaFwdIdeal := hSwaFwdIdeal) (hSwaFwdRefIdeal := hSwaFwdRefIdeal) (hPre_swafwd_real := hPre_swafwd_real)
    ∧ preserves_LnFwd_LnFwdIdeal
    ∧ algebraic_LnFwdIdeal_LnFwdRefIdeal (hLnFwdIdeal := hLnFwdIdeal) (hLnFwdRefIdeal := hLnFwdRefIdeal)
    ∧ preserves_AdamIn_AdamInIdeal
    ∧ algebraic_AdamInIdeal_AdamInRefIdeal (hAdamInIdeal := hAdamInIdeal) (hAdamInRefIdeal := hAdamInRefIdeal)
    ∧ preserves_AdamBr_AdamBrIdeal
    ∧ algebraic_AdamBrIdeal_AdamBrRefIdeal (hAdamBrIdeal := hAdamBrIdeal) (hAdamBrRefIdeal := hAdamBrRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamO_AdamOIdeal
    ∧ algebraic_AdamOIdeal_AdamORefIdeal (hAdamOIdeal := hAdamOIdeal) (hAdamORefIdeal := hAdamORefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_mem_real.lean ====
abbrev S8192x512 : Shape := ⟨2, ![8192, 512]⟩
abbrev S256x1024 : Shape := ⟨2, ![256, 1024]⟩
abbrev S_ : Shape := ⟨0, ![]⟩

class Facts : Prop where
  bcast_S_S8192x512 : S_.BroadcastsInDim S8192x512 (![] : Fin 0 → Fin S8192x512.rank)
  bcast_S_S256x1024 : S_.BroadcastsInDim S256x1024 (![] : Fin 0 → Fin S256x1024.rank)

variable [Facts]

def fn {F : FTy → Type} [FloatOps F] (main_arg0 : FVec F S8192x512 .f32) (main_arg1 : FVec F S256x1024 .f32) (main_arg2 : FVec F S8192x512 .f32) : IVec S8192x512 1 × IVec S256x1024 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_swa_real.lean ====
abbrev S8192x1408 : Shape := ⟨2, ![8192, 1408]⟩
abbrev S16x128x256 : Shape := ⟨3, ![16, 128, 256]⟩
abbrev S1x16 : Shape := ⟨2, ![1, 16]⟩
abbrev S8192x1024 : Shape := ⟨2, ![8192, 1024]⟩
abbrev S8192x1280 : Shape := ⟨2, ![8192, 1280]⟩
abbrev S_ : Shape := ⟨0, ![]⟩

class Facts : Prop where
  slices_S8192x1408_S8192x1280_0_0 : S8192x1408.Slices ![0, 0] S8192x1280
  bcast_S_S8192x1280 : S_.BroadcastsInDim S8192x1280 (![] : Fin 0 → Fin S8192x1280.rank)
  bcast_S_S16x128x256 : S_.BroadcastsInDim S16x128x256 (![] : Fin 0 → Fin S16x128x256.rank)
  bcast_S_S1x16 : S_.BroadcastsInDim S1x16 (![] : Fin 0 → Fin S1x16.rank)
  bcast_S_S8192x1024 : S_.BroadcastsInDim S8192x1024 (![] : Fin 0 → Fin S8192x1024.rank)

variable [Facts]

def fn {F : FTy → Type} [FloatOps F] (main_arg0 : FVec F S8192x1408 .f32) (main_arg1 : FVec F S16x128x256 .f32) (main_arg2 : FVec F S1x16 .f32) (main_arg3 : FVec F S8192x1024 .f32) : IVec S8192x1280 1 × IVec S16x128x256 1 × IVec S1x16 1 × IVec S8192x1024 1 :=
  let main_v0 : FVec F S8192x1280 .f32 := (extractStridedSlice S8192x1280 ![0, 0] · slices_S8192x1408_S8192x1280_0_0) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_v4 : FVec F S16x128x256 .f32 := Host.absf main_arg1
  let main_cst_0 : FVec F S_ .f32 := constant S_ .f32 0x7F800000#32
  let main_v5 : FVec F S16x128x256 .f32 := broadcastInDim S16x128x256 ![] bcast_S_S16x128x256 main_cst_0
  let main_v6 : IVec S16x128x256 1 := cmpf .olt main_v4 main_v5
  let main_v7 : FVec F S1x16 .f32 := Host.absf main_arg2
  let main_cst_1 : FVec F S_ .f32 := constant S_ .f32 0x7F800000#32
  let main_v8 : FVec F S1x16 .f32 := broadcastInDim S1x16 ![] bcast_S_S1x16 main_cst_1
  let main_v9 : IVec S1x16 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v3, main_v6, main_v9, main_v12)
-- ==== Pre_swafwd_real.lean ====
abbrev S8192x1408 : Shape := ⟨2, ![8192, 1408]⟩
abbrev S16x128x256 : Shape := ⟨3, ![16, 128, 256]⟩
abbrev S1x16 : Shape := ⟨2, ![1, 16]⟩
abbrev S8192x1152 : Shape := ⟨2, ![8192, 1152]⟩
abbrev S_ : Shape := ⟨0, ![]⟩

class Facts : Prop where
  slices_S8192x1408_S8192x1152_0_0 : S8192x1408.Slices ![0, 0] S8192x1152
  bcast_S_S8192x1152 : S_.BroadcastsInDim S8192x1152 (![] : Fin 0 → Fin S8192x1152.rank)
  bcast_S_S16x128x256 : S_.BroadcastsInDim S16x128x256 (![] : Fin 0 → Fin S16x128x256.rank)
  bcast_S_S1x16 : S_.BroadcastsInDim S1x16 (![] : Fin 0 → Fin S1x16.rank)

variable [Facts]

def fn {F : FTy → Type} [FloatOps F] (main_arg0 : FVec F S8192x1408 .f32) (main_arg1 : FVec F S16x128x256 .f32) (main_arg2 : FVec F S1x16 .f32) : IVec S8192x1152 1 × IVec S16x128x256 1 × IVec S1x16 1 :=
  let main_v0 : FVec F S8192x1152 .f32 := (extractStridedSlice S8192x1152 ![0, 0] · slices_S8192x1408_S8192x1152_0_0) main_arg0
  let main_v1 : FVec F S8192x1152 .f32 := Host.absf main_v0
  let main_cst : FVec F S_ .f32 := constant S_ .f32 0x7F800000#32
  let main_v2 : FVec F S8192x1152 .f32 := broadcastInDim S8192x1152 ![] bcast_S_S8192x1152 main_cst
  let main_v3 : IVec S8192x1152 1 := cmpf .olt main_v1 main_v2
  let main_v4 : FVec F S16x128x256 .f32 := Host.absf main_arg1
  let main_cst_0 : FVec F S_ .f32 := constant S_ .f32 0x7F800000#32
  let main_v5 : FVec F S16x128x256 .f32 := broadcastInDim S16x128x256 ![] bcast_S_S16x128x256 main_cst_0
  let main_v6 : IVec S16x128x256 1 := cmpf .olt main_v4 main_v5
  let main_v7 : FVec F S1x16 .f32 := Host.absf main_arg2
  let main_cst_1 : FVec F S_ .f32 := constant S_ .f32 0x7F800000#32
  let main_v8 : FVec F S1x16 .f32 := broadcastInDim S1x16 ![] bcast_S_S1x16 main_cst_1
  let main_v9 : IVec S1x16 1 := cmpf .olt main_v7 main_v8
  (main_v3, main_v6, main_v9)
-- ==== Mem.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S8192x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PlainIdeal.lean ====
abbrev S8192x512 : Shape := ⟨2, ![8192, 512]⟩
abbrev S256x1024 : Shape := ⟨2, ![256, 1024]⟩
abbrev S1x8192x4x128 : Shape := ⟨4, ![1, 8192, 4, 128]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S1x8192x4x128, .f32⟩
  | .hbm, ⟨4, _⟩ => ⟨S1x256x1024, .f32⟩
  | .hbm, ⟨5, _⟩ => ⟨S1x256x512, .f32⟩
  | .hbm, ⟨6, _⟩ => ⟨S1x256x512, .f32⟩
  | .hbm, ⟨7, _⟩ => ⟨S1x256x4x128, .f32⟩
  | .hbm, ⟨8, _⟩ => ⟨S1x256x4x128, .f32⟩
  | .hbm, ⟨9, _⟩ => ⟨S1x4x8192x256, .f32⟩
  | .hbm, ⟨10, _⟩ => ⟨S_, .f32⟩
  | .hbm, ⟨11, _⟩ => ⟨S1x4x8192x256, .f32⟩
  | .hbm, ⟨12, _⟩ => ⟨S1x4x8192x256, .f32⟩
  | .hbm, ⟨13, _⟩ => ⟨S_, .f32⟩
  | .hbm, ⟨14, _⟩ => ⟨S1x4x8192, .f32⟩
  | .hbm, ⟨15, _⟩ => ⟨S1x4x8192x1, .f32⟩
  | .hbm, ⟨16, _⟩ => ⟨S1x4x8192x256, .f32⟩
  | .hbm, ⟨17, _⟩ => ⟨S1x4x8192x256, .i1⟩
  | .hbm, ⟨18, _⟩ => ⟨S1x4x8192x256, .f32⟩
  | .hbm, ⟨19, _⟩ => ⟨S_, .f32⟩
  | .hbm, ⟨20, _⟩ => ⟨S1x4x8192, .f32⟩
  | .hbm, ⟨21, _⟩ => ⟨S_, .f32⟩
  | .hbm, ⟨22, _⟩ => ⟨S1x4x8192, .f32⟩
  | .hbm, ⟨23, _⟩ => ⟨S1x4x8192, .f32⟩
  | .hbm, ⟨24, _⟩ => ⟨S_, .f32⟩
  | .hbm, ⟨25, _⟩ => ⟨S1x4x8192, .f32⟩
  | .hbm, ⟨26, _⟩ => ⟨S1x4x8192, .i1⟩
  | .hbm, ⟨27, _⟩ => ⟨S_, .f32⟩
  | .hbm, ⟨28, _⟩ => ⟨S1x4x8192, .f32⟩
  | .hbm, ⟨29, _⟩ => ⟨S1x4x8192, .i1⟩
  | .hbm, ⟨30, _⟩ => ⟨S_, .f32⟩
  | .hbm, ⟨31, _⟩ => ⟨S1x4x8192, .f32⟩
  | .hbm, ⟨32, _⟩ => ⟨S_, .f32⟩
  | .hbm, ⟨33, _⟩ => ⟨S1x4x8192, .f32⟩
  | .hbm, ⟨34, _⟩ => ⟨S_, .f32⟩
  | .hbm, ⟨35, _⟩ => ⟨S1x4x8192, .f32⟩
  | .hbm, ⟨36, _⟩ => ⟨S1x4x8192, .f32⟩
  | .hbm, ⟨37, _⟩ => ⟨S1x4x8192, .f32⟩
  | .hbm, ⟨38, _⟩ => ⟨S1x4x8192x1, .f32⟩
  | .hbm, ⟨39, _⟩ => ⟨S1x4x8192x256, .f32⟩
  | .hbm, ⟨40, _⟩ => ⟨S1x4x8192x256, .f32⟩
  | .hbm, ⟨41, _⟩ => ⟨S1x4x8192x256, .f32⟩
  | .hbm, ⟨42, _⟩ => ⟨S_, .f32⟩
  | .hbm, ⟨43, _⟩ => ⟨S1x4x8192, .f32⟩
  | .hbm, ⟨44, _⟩ => ⟨S1x4x8192x1, .f32⟩
  | .hbm, ⟨45, _⟩ => ⟨S1x4x8192x256, .f32⟩
  | .hbm, ⟨46, _⟩ => ⟨S1x4x8192x256, .f32⟩
  | .hbm, ⟨47, _⟩ => ⟨S1x4x8192x1, .f32⟩
  | .hbm, ⟨48, _⟩ => ⟨S_, .f32⟩
  | .hbm, ⟨49, _⟩ => ⟨S1x4x8192x1, .f32⟩
  | .hbm, ⟨50, _⟩ => ⟨S1x4x8192x1, .f32⟩
  | .hbm, ⟨51, _⟩ => ⟨S1x4x128x8192, .f32⟩
  | .hbm, ⟨52, _⟩ => ⟨S1x8192x4x128, .f32⟩
  | .hbm, ⟨53, _⟩ => ⟨S8192x512, .f32⟩
  | .hbm, ⟨54, _⟩ => ⟨S1x8192x4x128, .f32⟩
  | .hbm, ⟨55, _⟩ => ⟨S1x4x128x8192, .f32⟩
  | .hbm, ⟨56, _⟩ => ⟨S1x4x8192x256, .f32⟩
  | .hbm, ⟨57, _⟩ => ⟨S1x4x128x256, .f32⟩
  | .hbm, ⟨58, _⟩ => ⟨S1x256x4x128, .f32⟩
  | .hbm, ⟨59, _⟩ => ⟨S1x4x8192x256, .f32⟩
  | .hbm, ⟨60, _⟩ => ⟨S1x4x8192x256, .f32⟩
  | .hbm, ⟨61, _⟩ => ⟨S1x4x8192x256, .f32⟩
  | .hbm, ⟨62, _⟩ => ⟨S_, .f32⟩
  | .hbm, ⟨63, _⟩ => ⟨S1x4x8192, .f32⟩
  | .hbm, ⟨64, _⟩ => ⟨S1x4x8192x1, .f32⟩
  | .hbm, ⟨65, _⟩ => ⟨S1x4x8192x1, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S4x8192, .f32⟩
  | .hbm, ⟨70, _⟩ => ⟨S1x4x8192, .f32⟩
  | .hbm, ⟨71, _⟩ => ⟨S1x4x8192x256, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S1x4x8192x256, .f32⟩
  | .hbm, ⟨76, _⟩ => ⟨S1x4x8192x256, .f32⟩
  | .hbm, ⟨77, _⟩ => ⟨S1x4x256x128, .f32⟩
  | .hbm, ⟨78, _⟩ => ⟨S1x256x4x128, .f32⟩
  | .hbm, ⟨79, _⟩ => ⟨S1x4x8192x128, .f32⟩
  | .hbm, ⟨80, _⟩ => ⟨S1x8192x4x128, .f32⟩
  | .hbm, ⟨81, _⟩ => ⟨S1x256x512, .f32⟩
  | .hbm, ⟨82, _⟩ => ⟨S1x256x512, .f32⟩
  | .hbm, ⟨83, _⟩ => ⟨S1x256x1024, .f32⟩
  | .hbm, ⟨84, _⟩ => ⟨S_, .f32⟩
  | .hbm, ⟨85, _⟩ => ⟨S256x1024, .f32⟩
  | .hbm, ⟨86, _⟩ => ⟨S8192x512, .f32⟩
  | .hbm, ⟨87, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== UpDx.lean ====
abbrev S8192x11264 : Shape := ⟨2, ![8192, 11264]⟩
abbrev S8x2048x1408 : Shape := ⟨3, ![8, 2048, 1408]⟩
abbrev S8192x2048 : Shape := ⟨2, ![8192, 2048]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x11264, .bf16⟩
  | .hbm, ⟨1, _⟩ => ⟨S8x2048x1408, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S8192x11264 : Shape := ⟨2, ![8192, 11264]⟩
abbrev S8x2048x1408 : Shape := ⟨3, ![8, 2048, 1408]⟩
abbrev S8192x2048 : Shape := ⟨2, ![8192, 2048]⟩
abbrev S_ : Shape := ⟨0, ![]⟩
abbrev S8192x8x1408 : Shape := ⟨3, ![8192, 8, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8x2048x1408, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8x2048x1408, .f32⟩
  | .hbm, ⟨6, _⟩ => ⟨S8192x8x1408, .f32⟩
  | .hbm, ⟨7, _⟩ => ⟨S8192x11264, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x11264, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x8x1408, .f32⟩
  | .hbm, ⟨16, _⟩ => ⟨S8192x2048, .f32⟩
  | .hbm, ⟨17, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== UpDw.lean ====
abbrev S8192x2048 : Shape := ⟨2, ![8192, 2048]⟩
abbrev S8192x11264 : Shape := ⟨2, ![8192, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x2048 : Shape := ⟨2, ![8192, 2048]⟩
abbrev S8192x11264 : Shape := ⟨2, ![8192, 11264]⟩
abbrev S_ : Shape := ⟨0, ![]⟩
abbrev S8x2048x1408 : Shape := ⟨3, ![8, 2048, 1408]⟩
abbrev S8192x8x1408 : Shape := ⟨3, ![8192, 8, 1408]⟩
abbrev S8x1408x2048 : Shape := ⟨3, ![8, 1408, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S8x2048x1408, .f32⟩
  | .hbm, ⟨4, _⟩ => ⟨S8192x2048, .f32⟩
  | .hbm, ⟨5, _⟩ => ⟨S8192x8x1408, .f32⟩
  | .hbm, ⟨6, _⟩ => ⟨S8192x11264, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x11264, .f32⟩
  | .hbm, ⟨11, _⟩ => ⟨S8192x8x1408, .f32⟩
  | .hbm, ⟨12, _⟩ => ⟨S8x1408x2048, .f32⟩
  | .hbm, ⟨13, _⟩ => ⟨S8x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownDx.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GatesDw.lean ====
abbrev S8192x2048 : Shape := ⟨2, ![8192, 2048]⟩
abbrev S8192x4096 : Shape := ⟨2, ![8192, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesDwRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S8192x2048 : Shape := ⟨2, ![8192, 2048]⟩
abbrev S8x2048x1408 : Shape := ⟨3, ![8, 2048, 1408]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x2048 : Shape := ⟨2, ![8192, 2048]⟩
abbrev S8x2048x1408 : Shape := ⟨3, ![8, 2048, 1408]⟩
abbrev S8192x8x1408 : Shape := ⟨3, ![8192, 8, 1408]⟩
abbrev S8192x11264 : Shape := ⟨2, ![8192, 11264]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x2048, .f32⟩
  | .hbm, ⟨3, _⟩ => ⟨S8x2048x1408, .f32⟩
  | .hbm, ⟨4, _⟩ => ⟨S8192x8x1408, .f32⟩
  | .hbm, ⟨5, _⟩ => ⟨S8192x11264, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixO.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixORefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BrDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BrDw.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwaDw.lean ====
abbrev S8192x2048 : Shape := ⟨2, ![8192, 2048]⟩
abbrev S8192x1408 : Shape := ⟨2, ![8192, 1408]⟩
abbrev S2048x1408 : Shape := ⟨2, ![2048, 1408]⟩
abbrev S2048x1024 : Shape := ⟨2, ![2048, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1408, .bf16⟩
  | .hbm, ⟨2, _⟩ => ⟨S2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDwRefIdeal.lean ====
abbrev S8192x2048 : Shape := ⟨2, ![8192, 2048]⟩
abbrev S8192x1408 : Shape := ⟨2, ![8192, 1408]⟩
abbrev S_ : Shape := ⟨0, ![]⟩
abbrev S2048x1408 : Shape := ⟨2, ![2048, 1408]⟩
abbrev S1408x2048 : Shape := ⟨2, ![1408, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1408, .bf16⟩
  | .hbm, ⟨2, _⟩ => ⟨S_, .f32⟩
  | .hbm, ⟨3, _⟩ => ⟨S2048x1408, .f32⟩
  | .hbm, ⟨4, _⟩ => ⟨S8192x2048, .f32⟩
  | .hbm, ⟨5, _⟩ => ⟨S8192x1408, .f32⟩
  | .hbm, ⟨6, _⟩ => ⟨S8192x1408, .f32⟩
  | .hbm, ⟨7, _⟩ => ⟨S1408x2048, .f32⟩
  | .hbm, ⟨8, _⟩ => ⟨S2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemDx.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MemDxRefIdeal.lean ====
abbrev S8192x512 : Shape := ⟨2, ![8192, 512]⟩
abbrev S2048x512 : Shape := ⟨2, ![2048, 512]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x512, .f32⟩
  | .hbm, ⟨6, _⟩ => ⟨S8192x512, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x512, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MemDwQ.lean ====
abbrev S8192x2048 : Shape := ⟨2, ![8192, 2048]⟩
abbrev S8192x512 : Shape := ⟨2, ![8192, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwQRefIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S_, .f32⟩
  | .hbm, ⟨3, _⟩ => ⟨S2048x512, .f32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S512x2048, .f32⟩
  | .hbm, ⟨8, _⟩ => ⟨S2048x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemDwKv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwKvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemDwO.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwORefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwaIn.lean ====
abbrev S8192x2048 : Shape := ⟨2, ![8192, 2048]⟩
abbrev S2048x1408 : Shape := ⟨2, ![2048, 1408]⟩
abbrev S8192x1408 : Shape := ⟨2, ![8192, 1408]⟩
abbrev S1024x2048 : Shape := ⟨2, ![1024, 2048]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1408, .bf16⟩
  | .hbm, ⟨2, _⟩ => ⟨S8192x1408, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S1024x1408, .f32⟩
  | .local _ .vmem, ⟨4, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInRefIdeal.lean ====
abbrev S8192x2048 : Shape := ⟨2, ![8192, 2048]⟩
abbrev S2048x1408 : Shape := ⟨2, ![2048, 1408]⟩
abbrev S8192x1408 : Shape := ⟨2, ![8192, 1408]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1408, .bf16⟩
  | .hbm, ⟨2, _⟩ => ⟨S8192x2048, .f32⟩
  | .hbm, ⟨3, _⟩ => ⟨S2048x1408, .f32⟩
  | .hbm, ⟨4, _⟩ => ⟨S8192x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemQ.lean ====
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQRefIdeal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x2048, .f32⟩
  | .hbm, ⟨3, _⟩ => ⟨S2048x512, .f32⟩
  | .hbm, ⟨4, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemO.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MemORefIdeal.lean ====
abbrev S8192x512 : Shape := ⟨2, ![8192, 512]⟩
abbrev S512x2048 : Shape := ⟨2, ![512, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S8192x512, .f32⟩
  | .hbm, ⟨4, _⟩ => ⟨S512x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Swa.lean ====
abbrev S8192x1408 : Shape := ⟨2, ![8192, 1408]⟩
abbrev S16x128x256 : Shape := ⟨3, ![16, 128, 256]⟩
abbrev S1x16 : Shape := ⟨2, ![1, 16]⟩
abbrev S8192x1024 : Shape := ⟨2, ![8192, 1024]⟩
abbrev S8192x128 : Shape := ⟨2, ![8192, 128]⟩
abbrev S1x128 : Shape := ⟨2, ![1, 128]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S1x128x256 : Shape := ⟨3, ![1, 128, 256]⟩
abbrev S1x1 : Shape := ⟨2, ![1, 1]⟩
abbrev S128 : Shape := ⟨1, ![128]⟩
abbrev S128x1 : Shape := ⟨2, ![128, 1]⟩
abbrev S1 : Shape := ⟨1, ![1]⟩

abbrev nBuf : Space → Nat
  | .hbm => 11
  | .vmem => 26
  | .smem => 0
  | _ => 0

abbrev bufTy : (tb : Table) → Fin (tcTables nBuf tb) → BufTy
  | .hbm, ⟨0, _⟩ => ⟨S8192x1408, .f32⟩
  | .hbm, ⟨1, _⟩ => ⟨S16x128x256, .f32⟩
  | .hbm, ⟨2, _⟩ => ⟨S1x16, .f32⟩
  | .hbm, ⟨3, _⟩ => ⟨S8192x1024, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S16x128x256, .f32⟩
  | .hbm, ⟨10, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S16x128x256, .f32⟩
  | .local _ .vmem, ⟨11, _⟩ => ⟨S1x16, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S16x128x256, .f32⟩
  | .local _ .vmem, ⟨25, _⟩ => ⟨S1x128, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S8192x1408 : Shape := ⟨2, ![8192, 1408]⟩
abbrev S16x128x256 : Shape := ⟨3, ![16, 128, 256]⟩
abbrev S1x16 : Shape := ⟨2, ![1, 16]⟩
abbrev S8192x1024 : Shape := ⟨2, ![8192, 1024]⟩
abbrev S8192x128 : Shape := ⟨2, ![8192, 128]⟩
abbrev S64x128x2x64 : Shape := ⟨4, ![64, 128, 2, 64]⟩
abbrev S63x128x2x64 : Shape := ⟨4, ![63, 128, 2, 64]⟩
abbrev S_ : Shape := ⟨0, ![]⟩
abbrev S64x256x2x64 : Shape := ⟨4, ![64, 256, 2, 64]⟩
abbrev S64x128x2x8x64 : Shape := ⟨5, ![64, 128, 2, 8, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x8x128x256 : Shape := ⟨4, ![2, 8, 128, 256]⟩
abbrev S64x1x1x128x256 : Shape := ⟨5, ![64, 1, 1, 128, 256]⟩
abbrev S1x2x8x128x256 : Shape := ⟨5, ![1, 2, 8, 128, 256]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩
abbrev S64x2x64x256 : Shape := ⟨4, ![64, 2, 64, 256]⟩
abbrev S2x8 : Shape := ⟨2, ![2, 8]⟩
abbrev S64x2x128x8x64 : Shape := ⟨5, ![64, 2, 128, 8, 64]⟩
abbrev S64x2x256x64 : Shape := ⟨4, ![64, 2, 256, 64]⟩
abbrev S1x128 : Shape := ⟨2, ![1, 128]⟩

abbrev nBuf : Space → Nat
  | .hbm => 171
  | .vmem => 0
  | .smem => 0
  | _ => 0

abbrev hbmTy0_0 (i : Nat) : BufTy := match i % 128 with
  | 0 => ⟨S8192x1408, .f32⟩
  | 1 => ⟨S16x128x256, .f32⟩
  | 2 => ⟨S1x16, .f32⟩
  | 3 => ⟨S8192x1024, .f32⟩
  | 4 => ⟨S8192x1024, .f32⟩
  | 5 => ⟨S8192x128, .f32⟩
  | 6 => ⟨S8192x128, .f32⟩
  | 7 => ⟨S64x128x2x64, .f32⟩
  | 8 => ⟨S63x128x2x64, .f32⟩
  | 9 => ⟨S_, .i32⟩
  | 10 => ⟨S_, .f32⟩
  | 11 => ⟨S64x128x2x64, .f32⟩
  | 12 => ⟨S64x256x2x64, .f32⟩
  | 13 => ⟨S64x128x2x64, .f32⟩
  | 14 => ⟨S63x128x2x64, .f32⟩
  | 15 => ⟨S_, .i32⟩
  | 16 => ⟨S_, .f32⟩
  | 17 => ⟨S64x128x2x64, .f32⟩
  | 18 => ⟨S64x256x2x64, .f32⟩
  | 19 => ⟨S64x128x2x8x64, .f32⟩
  | 20 => ⟨S64x2x256x128x8, .f32⟩
  | 21 => ⟨S64x2x8x128x256, .f32⟩
  | 22 => ⟨S_, .f32⟩
  | 23 => ⟨S64x2x8x128x256, .f32⟩
  | 24 => ⟨S64x2x8x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S64, .i32⟩
  | 43 => ⟨S64x1x1, .i32⟩
  | 44 => ⟨S_, .i32⟩
  | 45 => ⟨S64x1x1, .i32⟩
  | 46 => ⟨S64x1x1, .i1⟩
  | 47 => ⟨S_, .i32⟩
  | 48 => ⟨S1x256, .i32⟩
  | 49 => ⟨S1x256, .i1⟩
  | 50 => ⟨S1x1x256, .i1⟩
  | 51 => ⟨S64x1x256, .i1⟩
  | 52 => ⟨S64x1x256, .i1⟩
  | 53 => ⟨S64x1x256, .i1⟩
  | 54 => ⟨S1x128x256, .i1⟩
  | 55 => ⟨S64x128x256, .i1⟩
  | 56 => ⟨S64x128x256, .i1⟩
  | 57 => ⟨S64x128x256, .i1⟩
  | 58 => ⟨S2x8x128x256, .f32⟩
  | 59 => ⟨S64x1x1x128x256, .i1⟩
  | 60 => ⟨S1x2x8x128x256, .f32⟩
  | 61 => ⟨S64x2x8x128x256, .f32⟩
  | 62 => ⟨S64x2x8x128x256, .f32⟩
  | 63 => ⟨S_, .f32⟩
  | 64 => ⟨S_, .f32⟩
  | 65 => ⟨S64x2x8x128x256, .i1⟩
  | 66 => ⟨S64x2x8x128x256, .f32⟩
  | 67 => ⟨S64x2x8x128x256, .f32⟩
  | 68 => ⟨S_, .f32⟩
  | 69 => ⟨S64x2x8x128x256, .f32⟩
  | 70 => ⟨S1x2x8x1x1, .f32⟩
  | 71 => ⟨S64x2x8x128x1, .f32⟩
  | 72 => ⟨S64x2x8x128x257, .f32⟩
  | 73 => ⟨S_, .f32⟩
  | 74 => ⟨S64x2x8x128, .f32⟩
  | 75 => ⟨S64x2x8x128x1, .f32⟩
  | 76 => ⟨S64x2x8x128x257, .f32⟩
  | 77 => ⟨S64x2x8x128x257, .i1⟩
  | 78 => ⟨S64x2x8x128x257, .f32⟩
  | 79 => ⟨S_, .f32⟩
  | 80 => ⟨S64x2x8x128, .f32⟩
  | 81 => ⟨S_, .f32⟩
  | 82 => ⟨S64x2x8x128, .f32⟩
  | 83 => ⟨S64x2x8x128, .f32⟩
  | 84 => ⟨S_, .f32⟩
  | 85 => ⟨S64x2x8x128, .f32⟩
  | 86 => ⟨S64x2x8x128, .i1⟩
  | 87 => ⟨S_, .f32⟩
  | 88 => ⟨S64x2x8x128, .f32⟩
  | 89 => ⟨S64x2x8x128, .i1⟩
  | 90 => ⟨S_, .f32⟩
  | 91 => ⟨S64x2x8x128, .f32⟩
  | 92 => ⟨S_, .f32⟩
  | 93 => ⟨S64x2x8x128, .f32⟩
  | 94 => ⟨S_, .f32⟩
  | 95 => ⟨S64x2x8x128, .f32⟩
  | 96 => ⟨S64x2x8x128, .f32⟩
  | 97 => ⟨S64x2x8x128, .f32⟩
  | 98 => ⟨S64x2x8x128x1, .f32⟩
  | 99 => ⟨S64x2x8x128x257, .f32⟩
  | 100 => ⟨S64x2x8x128x257, .f32⟩
  | 101 => ⟨S64x2x8x128x257, .f32⟩
  | 102 => ⟨S_, .f32⟩
  | 103 => ⟨S64x2x8x128, .f32⟩
  | 104 => ⟨S64x2x8x128x1, .f32⟩
  | 105 => ⟨S64x2x8x128x257, .f32⟩
  | 106 => ⟨S64x2x8x128x257, .f32⟩
  | 107 => ⟨S64x2x8x128x1, .f32⟩
  | 108 => ⟨S_, .f32⟩
  | 109 => ⟨S64x2x8x128x1, .f32⟩
  | 110 => ⟨S64x2x8x128x1, .f32⟩
  | 111 => ⟨S64x2x8x128x256, .f32⟩
  | 112 => ⟨S64x2x64x8x128, .f32⟩
  | 113 => ⟨S64x128x2x8x64, .f32⟩
  | 114 => ⟨S8192x1024, .f32⟩
  | 115 => ⟨S64x128x2x8x64, .f32⟩
  | 116 => ⟨S64x2x64x8x128, .f32⟩
  | 117 => ⟨S64x2x8x128x256, .f32⟩
  | 118 => ⟨S64x2x64x256, .f32⟩
  | 119 => ⟨S64x256x2x64, .f32⟩
  | 120 => ⟨S_, .f32⟩
  | 121 => ⟨S64x2x8x128x257, .f32⟩
  | 122 => ⟨S64x2x8x128x257, .f32⟩
  | 123 => ⟨S64x2x8x128x257, .f32⟩
  | 124 => ⟨S64x2x8x128x257, .f32⟩
  | 125 => ⟨S_, .f32⟩
  | 126 => ⟨S64x2x8x128, .f32⟩
  | 127 => ⟨S64x2x8x128x1, .f32⟩
  | _ => ⟨S8192x1408, .f32⟩

abbrev hbmTy0_1 (i : Nat) : BufTy := match i % 128 with
  | 0 => ⟨S64x2x8x128x1, .f32⟩
  | 1 => ⟨S64x2x8x128x257, .f32⟩
  | 2 => ⟨S64x2x8x128x257, .f32⟩
  | 3 => ⟨S_, .f32⟩
  | 4 => ⟨S64x2x8x128, .f32⟩
  | 5 => ⟨S64x2x8x128x257, .f32⟩
  | 6 => ⟨S64x2x8x128x257, .f32⟩
  | 7 => ⟨S64x2x8x128x257, .f32⟩
  | 8 => ⟨S64x2x8x128x256, .f32⟩
  | 9 => ⟨S64x2x8x128x1, .f32⟩
  | 10 => ⟨S_, .f32⟩
  | 11 => ⟨S2x8, .f32⟩
  | 12 => ⟨S1x2x8x1x1, .f32⟩
  | 13 => ⟨S1x16, .f32⟩
  | 14 => ⟨S_, .f32⟩
  | 15 => ⟨S64x2x8x128x256, .f32⟩
  | 16 => ⟨S64x2x8x128x256, .f32⟩
  | 17 => ⟨S_, .f32⟩
  | 18 => ⟨S2x8x128x256, .f32⟩
  | 19 => ⟨S1x2x8x128x256, .f32⟩
  | 20 => ⟨S_, .f32⟩
  | 21 => ⟨S2x8x128x256, .f32⟩
  | 22 => ⟨S16x128x256, .f32⟩
  | 23 => ⟨S_, .f32⟩
  | 24 => ⟨S64x2x8x128x256, .f32⟩
  | 25 => ⟨S64x2x8x128x256, .f32⟩
  | 26 => ⟨S64x2x256x128x8, .f32⟩
  | 27 => ⟨S64x2x128x8x64, .f32⟩
  | 28 => ⟨S64x128x2x8x64, .f32⟩
  | 29 => ⟨S64x2x256x64, .f32⟩
  | 30 => ⟨S64x256x2x64, .f32⟩
  | 31 => ⟨S8192x1024, .f32⟩
  | 32 => ⟨S64x128x2x64, .f32⟩
  | 33 => ⟨S8192x128, .f32⟩
  | 34 => ⟨S64x128x2x64, .f32⟩
  | 35 => ⟨S8192x128, .f32⟩
  | 36 => ⟨S64x128x2x64, .f32⟩
  | 37 => ⟨S8192x128, .f32⟩
  | 38 => ⟨S64x128x2x64, .f32⟩
  | 39 => ⟨S8192x128, .f32⟩
  | 40 => ⟨S_, .i32⟩
  | 41 => ⟨S_, .f32⟩
  | 42 => ⟨S1x128, .f32⟩
  | _ => ⟨S8192x1408, .f32⟩

abbrev hbmTy (i : Nat) : BufTy := match i / 128 with
  | 0 => hbmTy0_0 i
  | 1 => hbmTy0_1 i
  | _ => ⟨S8192x1408, .f32⟩

abbrev bufTy : (tb : Table) → Fin (tcTables nBuf tb) → BufTy
  | .hbm, ⟨i, _⟩ => hbmTy i
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_call2_v0 : Ref sig .tc := ⟨.hbm, 64, rfl⟩
abbrev main_v49_1 : Ref sig .tc := ⟨.hbm, 65, rfl⟩
abbrev main_call2_v2 : Ref sig .tc := ⟨.hbm, 66, rfl⟩
abbrev main_v49_0 : Ref sig .tc := ⟨.hbm, 67, rfl⟩
abbrev main_call2_cst : Ref sig .tc := ⟨.hbm, 68, rfl⟩
abbrev main_v49_2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call3_cst : Ref sig .tc := ⟨.hbm, 142, rfl⟩
abbrev main_call3_v0 : Ref sig .tc := ⟨.hbm, 143, rfl⟩
abbrev main_v108 : Ref sig .tc := ⟨.hbm, 144, rfl⟩
abbrev main_cst_21 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_24 : Ref sig .tc := ⟨.hbm, 168, rfl⟩
abbrev main_call4_v0 : Ref sig .tc := ⟨.hbm, 169, rfl⟩
abbrev main_v129 : Ref sig .tc := ⟨.hbm, 170, rfl⟩

abbrev nD : Nat := 1
abbrev τ : Topo := Topo.v7x

variable {F : FTy → Type} [FloatOps F]

def κ : String → Option EReal := fun
  | "mask" => some ⊥
  | _ => none
-- ==== ProjGates.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGdn.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGdnRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BrFwd.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwdRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OmDx.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OmDxRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDw.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwaDx.lean ====
abbrev S8192x1408 : Shape := ⟨2, ![8192, 1408]⟩
abbrev S2048x1408 : Shape := ⟨2, ![2048, 1408]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1408, .bf16⟩
  | .hbm, ⟨1, _⟩ => ⟨S2048x1408, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwaDxRefIdeal.lean ====
abbrev S8192x1408 : Shape := ⟨2, ![8192, 1408]⟩
abbrev S2048x1408 : Shape := ⟨2, ![2048, 1408]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S2048x1408, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x1408, .f32⟩
  | .hbm, ⟨6, _⟩ => ⟨S8192x1408, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x1408, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GatesDx.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesDxRefIdeal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x2048, .f32⟩
  | .hbm, ⟨9, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S512x4096 : Shape := ⟨2, ![512, 4096]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x4096, .bf16⟩
  | .local _ .vmem, ⟨13, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x2048, .bf16⟩
  | .hbm, ⟨50, _⟩ => ⟨S8192x2048, .bf16⟩
  | .hbm, ⟨51, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Cols.lean ====
abbrev S8192x1024 : Shape := ⟨2, ![8192, 1024]⟩
abbrev S8192x128 : Shape := ⟨2, ![8192, 128]⟩
abbrev S8192x1408 : Shape := ⟨2, ![8192, 1408]⟩
abbrev S128x1024 : Shape := ⟨2, ![128, 1024]⟩
abbrev S128x128 : Shape := ⟨2, ![128, 128]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x1408, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1408, .bf16⟩
  | .local _ .vmem, ⟨13, _⟩ => ⟨S128x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ColsRefIdeal.lean ====
abbrev S8192x1024 : Shape := ⟨2, ![8192, 1024]⟩
abbrev S8192x128 : Shape := ⟨2, ![8192, 128]⟩
abbrev S_ : Shape := ⟨0, ![]⟩
abbrev S8192x1408 : Shape := ⟨2, ![8192, 1408]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x1408, .f32⟩
  | .hbm, ⟨8, _⟩ => ⟨S8192x1024, .f32⟩
  | .hbm, ⟨9, _⟩ => ⟨S8192x128, .f32⟩
  | .hbm, ⟨10, _⟩ => ⟨S8192x128, .f32⟩
  | .hbm, ⟨11, _⟩ => ⟨S64x128x2x64, .f32⟩
  | .hbm, ⟨12, _⟩ => ⟨S1x128x2x64, .f32⟩
  | .hbm, ⟨13, _⟩ => ⟨S_, .f32⟩
  | .hbm, ⟨14, _⟩ => ⟨S1x128x2x64, .f32⟩
  | .hbm, ⟨15, _⟩ => ⟨S63x128x2x64, .f32⟩
  | .hbm, ⟨16, _⟩ => ⟨S64x128x2x64, .f32⟩
  | .hbm, ⟨17, _⟩ => ⟨S_, .f32⟩
  | .hbm, ⟨18, _⟩ => ⟨S1x128x2x64, .f32⟩
  | .hbm, ⟨19, _⟩ => ⟨S64x256x2x64, .f32⟩
  | .hbm, ⟨20, _⟩ => ⟨S64x128x2x64, .f32⟩
  | .hbm, ⟨21, _⟩ => ⟨S1x128x2x64, .f32⟩
  | .hbm, ⟨22, _⟩ => ⟨S_, .f32⟩
  | .hbm, ⟨23, _⟩ => ⟨S1x128x2x64, .f32⟩
  | .hbm, ⟨24, _⟩ => ⟨S63x128x2x64, .f32⟩
  | .hbm, ⟨25, _⟩ => ⟨S64x128x2x64, .f32⟩
  | .hbm, ⟨26, _⟩ => ⟨S_, .f32⟩
  | .hbm, ⟨27, _⟩ => ⟨S1x128x2x64, .f32⟩
  | .hbm, ⟨28, _⟩ => ⟨S64x256x2x64, .f32⟩
  | .hbm, ⟨29, _⟩ => ⟨S8192x128, .f32⟩
  | .hbm, ⟨30, _⟩ => ⟨S64x128x2x64, .f32⟩
  | .hbm, ⟨31, _⟩ => ⟨S64x128x2x64, .f32⟩
  | .hbm, ⟨32, _⟩ => ⟨S64x256x2x64, .f32⟩
  | .hbm, ⟨33, _⟩ => ⟨S64x128x2x64, .f32⟩
  | .hbm, ⟨34, _⟩ => ⟨S64x128x2x64, .f32⟩
  | .hbm, ⟨35, _⟩ => ⟨S64x256x2x64, .f32⟩
  | .hbm, ⟨36, _⟩ => ⟨S_, .f32⟩
  | .hbm, ⟨37, _⟩ => ⟨S8192x1408, .f32⟩
  | .hbm, ⟨38, _⟩ => ⟨S64x128x2x64, .f32⟩
  | .hbm, ⟨39, _⟩ => ⟨S64x128x2x64, .f32⟩
  | .hbm, ⟨40, _⟩ => ⟨S1x128x2x64, .f32⟩
  | .hbm, ⟨41, _⟩ => ⟨S63x128x2x64, .f32⟩
  | .hbm, ⟨42, _⟩ => ⟨S_, .f32⟩
  | .hbm, ⟨43, _⟩ => ⟨S64x128x2x64, .f32⟩
  | .hbm, ⟨44, _⟩ => ⟨S64x128x2x64, .f32⟩
  | .hbm, ⟨45, _⟩ => ⟨S8192x128, .f32⟩
  | .hbm, ⟨46, _⟩ => ⟨S64x128x2x64, .f32⟩
  | .hbm, ⟨47, _⟩ => ⟨S64x128x2x64, .f32⟩
  | .hbm, ⟨48, _⟩ => ⟨S1x128x2x64, .f32⟩
  | .hbm, ⟨49, _⟩ => ⟨S63x128x2x64, .f32⟩
  | .hbm, ⟨50, _⟩ => ⟨S_, .f32⟩
  | .hbm, ⟨51, _⟩ => ⟨S64x128x2x64, .f32⟩
  | .hbm, ⟨52, _⟩ => ⟨S64x128x2x64, .f32⟩
  | .hbm, ⟨53, _⟩ => ⟨S8192x128, .f32⟩
  | .hbm, ⟨54, _⟩ => ⟨S_, .f32⟩
  | .hbm, ⟨55, _⟩ => ⟨S8192x1408, .f32⟩
  | .hbm, ⟨56, _⟩ => ⟨S8192x1408, .f32⟩
  | .hbm, ⟨57, _⟩ => ⟨S_, .f32⟩
  | .hbm, ⟨58, _⟩ => ⟨S8192x1408, .f32⟩
  | .hbm, ⟨59, _⟩ => ⟨S8192x1408, .f32⟩
  | .hbm, ⟨60, _⟩ => ⟨S_, .f32⟩
  | .hbm, ⟨61, _⟩ => ⟨S8192x1408, .f32⟩
  | .hbm, ⟨62, _⟩ => ⟨S8192x1408, .f32⟩
  | .hbm, ⟨63, _⟩ => ⟨S8192x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== MergeFwd.lean ====
abbrev S8192x4096 : Shape := ⟨2, ![8192, 4096]⟩
abbrev S8192x2048 : Shape := ⟨2, ![8192, 2048]⟩
abbrev S512x4096 : Shape := ⟨2, ![512, 4096]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeFwdRefIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MemFwd.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFwdRefIdeal.lean ====
abbrev S8192x512 : Shape := ⟨2, ![8192, 512]⟩
abbrev S256x1024 : Shape := ⟨2, ![256, 1024]⟩
abbrev S1x8192x4x128 : Shape := ⟨4, ![1, 8192, 4, 128]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x8192x4x128, .f32⟩
  | .hbm, ⟨3, _⟩ => ⟨S1x256x1024, .f32⟩
  | .hbm, ⟨4, _⟩ => ⟨S1x256x512, .f32⟩
  | .hbm, ⟨5, _⟩ => ⟨S1x256x512, .f32⟩
  | .hbm, ⟨6, _⟩ => ⟨S1x256x4x128, .f32⟩
  | .hbm, ⟨7, _⟩ => ⟨S1x256x4x128, .f32⟩
  | .hbm, ⟨8, _⟩ => ⟨S1x4x8192x256, .f32⟩
  | .hbm, ⟨9, _⟩ => ⟨S_, .f32⟩
  | .hbm, ⟨10, _⟩ => ⟨S1x4x8192x256, .f32⟩
  | .hbm, ⟨11, _⟩ => ⟨S1x4x8192x256, .f32⟩
  | .hbm, ⟨12, _⟩ => ⟨S_, .f32⟩
  | .hbm, ⟨13, _⟩ => ⟨S1x4x8192, .f32⟩
  | .hbm, ⟨14, _⟩ => ⟨S_, .f32⟩
  | .hbm, ⟨15, _⟩ => ⟨S1x4x8192, .f32⟩
  | .hbm, ⟨16, _⟩ => ⟨S1x4x8192, .f32⟩
  | .hbm, ⟨17, _⟩ => ⟨S1x4x8192x1, .f32⟩
  | .hbm, ⟨18, _⟩ => ⟨S1x4x8192x256, .f32⟩
  | .hbm, ⟨19, _⟩ => ⟨S1x4x8192x256, .f32⟩
  | .hbm, ⟨20, _⟩ => ⟨S1x4x8192x256, .f32⟩
  | .hbm, ⟨21, _⟩ => ⟨S_, .f32⟩
  | .hbm, ⟨22, _⟩ => ⟨S1x4x8192, .f32⟩
  | .hbm, ⟨23, _⟩ => ⟨S1x4x8192x1, .f32⟩
  | .hbm, ⟨24, _⟩ => ⟨S1x4x8192x256, .f32⟩
  | .hbm, ⟨25, _⟩ => ⟨S1x4x8192x256, .f32⟩
  | .hbm, ⟨26, _⟩ => ⟨S1x4x128x8192, .f32⟩
  | .hbm, ⟨27, _⟩ => ⟨S1x8192x4x128, .f32⟩
  | .hbm, ⟨28, _⟩ => ⟨S8192x512, .f32⟩
  | .hbm, ⟨29, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== SwaFwd.lean ====
abbrev S8192x1408 : Shape := ⟨2, ![8192, 1408]⟩
abbrev S16x128x256 : Shape := ⟨3, ![16, 128, 256]⟩
abbrev S1x16 : Shape := ⟨2, ![1, 16]⟩
abbrev S8192x1024 : Shape := ⟨2, ![8192, 1024]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S256x64 : Shape := ⟨2, ![256, 64]⟩
abbrev S128x64 : Shape := ⟨2, ![128, 64]⟩
abbrev S1x128x256 : Shape := ⟨3, ![1, 128, 256]⟩
abbrev S1x1 : Shape := ⟨2, ![1, 1]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S16x128x256, .f32⟩
  | .hbm, ⟨2, _⟩ => ⟨S1x16, .f32⟩
  | .hbm, ⟨3, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S16x128x256, .f32⟩
  | .local _ .vmem, ⟨11, _⟩ => ⟨S1x16, .f32⟩
  | .local _ .vmem, ⟨12, _⟩ => ⟨S128x1024, .bf16⟩
  | .local _ .vmem, ⟨13, _⟩ => ⟨S128x1024, .bf16⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S8192x1408 : Shape := ⟨2, ![8192, 1408]⟩
abbrev S16x128x256 : Shape := ⟨3, ![16, 128, 256]⟩
abbrev S1x16 : Shape := ⟨2, ![1, 16]⟩
abbrev S8192x1024 : Shape := ⟨2, ![8192, 1024]⟩
abbrev S8192x128 : Shape := ⟨2, ![8192, 128]⟩
abbrev S64x128x2x64 : Shape := ⟨4, ![64, 128, 2, 64]⟩
abbrev S63x128x2x64 : Shape := ⟨4, ![63, 128, 2, 64]⟩
abbrev S_ : Shape := ⟨0, ![]⟩
abbrev S64x256x2x64 : Shape := ⟨4, ![64, 256, 2, 64]⟩
abbrev S64x128x2x8x64 : Shape := ⟨5, ![64, 128, 2, 8, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x8x128x256 : Shape := ⟨4, ![2, 8, 128, 256]⟩
abbrev S64x1x1x128x256 : Shape := ⟨5, ![64, 1, 1, 128, 256]⟩
abbrev S1x2x8x128x256 : Shape := ⟨5, ![1, 2, 8, 128, 256]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S16x128x256, .f32⟩
  | .hbm, ⟨2, _⟩ => ⟨S1x16, .f32⟩
  | .hbm, ⟨3, _⟩ => ⟨S8192x1024, .f32⟩
  | .hbm, ⟨4, _⟩ => ⟨S8192x128, .f32⟩
  | .hbm, ⟨5, _⟩ => ⟨S8192x128, .f32⟩
  | .hbm, ⟨6, _⟩ => ⟨S64x128x2x64, .f32⟩
  | .hbm, ⟨7, _⟩ => ⟨S63x128x2x64, .f32⟩
  | .hbm, ⟨8, _⟩ => ⟨S_, .i32⟩
  | .hbm, ⟨9, _⟩ => ⟨S_, .f32⟩
  | .hbm, ⟨10, _⟩ => ⟨S64x128x2x64, .f32⟩
  | .hbm, ⟨11, _⟩ => ⟨S64x256x2x64, .f32⟩
  | .hbm, ⟨12, _⟩ => ⟨S64x128x2x64, .f32⟩
  | .hbm, ⟨13, _⟩ => ⟨S63x128x2x64, .f32⟩
  | .hbm, ⟨14, _⟩ => ⟨S_, .i32⟩
  | .hbm, ⟨15, _⟩ => ⟨S_, .f32⟩
  | .hbm, ⟨16, _⟩ => ⟨S64x128x2x64, .f32⟩
  | .hbm, ⟨17, _⟩ => ⟨S64x256x2x64, .f32⟩
  | .hbm, ⟨18, _⟩ => ⟨S64x128x2x8x64, .f32⟩
  | .hbm, ⟨19, _⟩ => ⟨S64x2x256x128x8, .f32⟩
  | .hbm, ⟨20, _⟩ => ⟨S64x2x8x128x256, .f32⟩
  | .hbm, ⟨21, _⟩ => ⟨S_, .f32⟩
  | .hbm, ⟨22, _⟩ => ⟨S64x2x8x128x256, .f32⟩
  | .hbm, ⟨23, _⟩ => ⟨S64x2x8x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S64, .i32⟩
  | .hbm, ⟨42, _⟩ => ⟨S64x1x1, .i32⟩
  | .hbm, ⟨43, _⟩ => ⟨S_, .i32⟩
  | .hbm, ⟨44, _⟩ => ⟨S64x1x1, .i32⟩
  | .hbm, ⟨45, _⟩ => ⟨S64x1x1, .i1⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x1x256, .i1⟩
  | .hbm, ⟨50, _⟩ => ⟨S64x1x256, .i1⟩
  | .hbm, ⟨51, _⟩ => ⟨S64x1x256, .i1⟩
  | .hbm, ⟨52, _⟩ => ⟨S64x1x256, .i1⟩
  | .hbm, ⟨53, _⟩ => ⟨S1x128x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S2x8x128x256, .f32⟩
  | .hbm, ⟨58, _⟩ => ⟨S64x1x1x128x256, .i1⟩
  | .hbm, ⟨59, _⟩ => ⟨S1x2x8x128x256, .f32⟩
  | .hbm, ⟨60, _⟩ => ⟨S64x2x8x128x256, .f32⟩
  | .hbm, ⟨61, _⟩ => ⟨S64x2x8x128x256, .f32⟩
  | .hbm, ⟨62, _⟩ => ⟨S_, .f32⟩
  | .hbm, ⟨63, _⟩ => ⟨S_, .f32⟩
  | .hbm, ⟨64, _⟩ => ⟨S64x2x8x128x256, .i1⟩
  | .hbm, ⟨65, _⟩ => ⟨S64x2x8x128x256, .f32⟩
  | .hbm, ⟨66, _⟩ => ⟨S64x2x8x128x256, .f32⟩
  | .hbm, ⟨67, _⟩ => ⟨S1x2x8x1x1, .f32⟩
  | .hbm, ⟨68, _⟩ => ⟨S64x2x8x128x1, .f32⟩
  | .hbm, ⟨69, _⟩ => ⟨S64x2x8x128x257, .f32⟩
  | .hbm, ⟨70, _⟩ => ⟨S_, .f32⟩
  | .hbm, ⟨71, _⟩ => ⟨S64x2x8x128, .f32⟩
  | .hbm, ⟨72, _⟩ => ⟨S_, .f32⟩
  | .hbm, ⟨73, _⟩ => ⟨S64x2x8x128, .f32⟩
  | .hbm, ⟨74, _⟩ => ⟨S64x2x8x128, .f32⟩
  | .hbm, ⟨75, _⟩ => ⟨S64x2x8x128x1, .f32⟩
  | .hbm, ⟨76, _⟩ => ⟨S64x2x8x128x257, .f32⟩
  | .hbm, ⟨77, _⟩ => ⟨S64x2x8x128x257, .f32⟩
  | .hbm, ⟨78, _⟩ => ⟨S64x2x8x128x257, .f32⟩
  | .hbm, ⟨79, _⟩ => ⟨S_, .f32⟩
  | .hbm, ⟨80, _⟩ => ⟨S64x2x8x128, .f32⟩
  | .hbm, ⟨81, _⟩ => ⟨S64x2x8x128x1, .f32⟩
  | .hbm, ⟨82, _⟩ => ⟨S64x2x8x128x257, .f32⟩
  | .hbm, ⟨83, _⟩ => ⟨S64x2x8x128x257, .f32⟩
  | .hbm, ⟨84, _⟩ => ⟨S64x2x8x128x256, .f32⟩
  | .hbm, ⟨85, _⟩ => ⟨S64x2x64x8x128, .f32⟩
  | .hbm, ⟨86, _⟩ => ⟨S64x128x2x8x64, .f32⟩
  | .hbm, ⟨87, _⟩ => ⟨S8192x1024, .f32⟩
  | .hbm, ⟨88, _⟩ => ⟨S8192x1024, .bf16⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

def κ : String → Option EReal := fun
  | "mask" => some ⊥
  | _ => none
-- ==== LnFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== AdamIn.lean ====
abbrev S2048x1186 : Shape := ⟨2, ![2048, 1186]⟩
abbrev S4x2048x1280 : Shape := ⟨3, ![4, 2048, 1280]⟩
abbrev S256x1186 : Shape := ⟨2, ![256, 1186]⟩
abbrev S4x256x1280 : Shape := ⟨3, ![4, 256, 1280]⟩
abbrev S1x256x1186 : Shape := ⟨3, ![1, 256, 1186]⟩

abbrev nBuf : Space → Nat
  | .hbm => 8
  | .vmem => 16
  | .smem => 0
  | _ => 0

abbrev bufTy : (tb : Table) → Fin (tcTables nBuf tb) → BufTy
  | .hbm, ⟨0, _⟩ => ⟨S2048x1186, .f32⟩
  | .hbm, ⟨1, _⟩ => ⟨S4x2048x1280, .bf16⟩
  | .hbm, ⟨2, _⟩ => ⟨S2048x1186, .f32⟩
  | .hbm, ⟨3, _⟩ => ⟨S2048x1186, .f32⟩
  | .hbm, ⟨4, _⟩ => ⟨S2048x1186, .f32⟩
  | .hbm, ⟨5, _⟩ => ⟨S2048x1186, .f32⟩
  | .hbm, ⟨6, _⟩ => ⟨S2048x1186, .f32⟩
  | .hbm, ⟨7, _⟩ => ⟨S2048x1186, .f32⟩
  | .local _ .vmem, ⟨0, _⟩ => ⟨S256x1186, .f32⟩
  | .local _ .vmem, ⟨1, _⟩ => ⟨S256x1186, .f32⟩
  | .local _ .vmem, ⟨2, _⟩ => ⟨S4x256x1280, .bf16⟩
  | .local _ .vmem, ⟨3, _⟩ => ⟨S4x256x1280, .bf16⟩
  | .local _ .vmem, ⟨4, _⟩ => ⟨S256x1186, .f32⟩
  | .local _ .vmem, ⟨5, _⟩ => ⟨S256x1186, .f32⟩
  | .local _ .vmem, ⟨6, _⟩ => ⟨S256x1186, .f32⟩
  | .local _ .vmem, ⟨7, _⟩ => ⟨S256x1186, .f32⟩
  | .local _ .vmem, ⟨8, _⟩ => ⟨S256x1186, .f32⟩
  | .local _ .vmem, ⟨9, _⟩ => ⟨S256x1186, .f32⟩
  | .local _ .vmem, ⟨10, _⟩ => ⟨S256x1186, .f32⟩
  | .local _ .vmem, ⟨11, _⟩ => ⟨S256x1186, .f32⟩
  | .local _ .vmem, ⟨12, _⟩ => ⟨S256x1186, .f32⟩
  | .local _ .vmem, ⟨13, _⟩ => ⟨S256x1186, .f32⟩
  | .local _ .vmem, ⟨14, _⟩ => ⟨S256x1186, .f32⟩
  | .local _ .vmem, ⟨15, _⟩ => ⟨S256x1186, .f32⟩
  | _, _ => ⟨S2048x1186, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1186 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1186 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1186 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1186 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1186 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1186 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1186 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1186 : Shape := ⟨2, ![2048, 1186]⟩
abbrev S4x2048x1280 : Shape := ⟨3, ![4, 2048, 1280]⟩
abbrev S_ : Shape := ⟨0, ![]⟩
abbrev S2048x1280 : Shape := ⟨2, ![2048, 1280]⟩

abbrev nBuf : Space → Nat
  | .hbm => 41
  | .vmem => 0
  | .smem => 0
  | _ => 0

abbrev bufTy : (tb : Table) → Fin (tcTables nBuf tb) → BufTy
  | .hbm, ⟨0, _⟩ => ⟨S2048x1186, .f32⟩
  | .hbm, ⟨1, _⟩ => ⟨S4x2048x1280, .bf16⟩
  | .hbm, ⟨2, _⟩ => ⟨S2048x1186, .f32⟩
  | .hbm, ⟨3, _⟩ => ⟨S2048x1186, .f32⟩
  | .hbm, ⟨4, _⟩ => ⟨S4x2048x1280, .f32⟩
  | .hbm, ⟨5, _⟩ => ⟨S_, .f32⟩
  | .hbm, ⟨6, _⟩ => ⟨S2048x1280, .f32⟩
  | .hbm, ⟨7, _⟩ => ⟨S2048x1186, .f32⟩
  | .hbm, ⟨8, _⟩ => ⟨S_, .f32⟩
  | .hbm, ⟨9, _⟩ => ⟨S2048x1186, .f32⟩
  | .hbm, ⟨10, _⟩ => ⟨S2048x1186, .f32⟩
  | .hbm, ⟨11, _⟩ => ⟨S_, .f32⟩
  | .hbm, ⟨12, _⟩ => ⟨S2048x1186, .f32⟩
  | .hbm, ⟨13, _⟩ => ⟨S2048x1186, .f32⟩
  | .hbm, ⟨14, _⟩ => ⟨S2048x1186, .f32⟩
  | .hbm, ⟨15, _⟩ => ⟨S_, .f32⟩
  | .hbm, ⟨16, _⟩ => ⟨S2048x1186, .f32⟩
  | .hbm, ⟨17, _⟩ => ⟨S2048x1186, .f32⟩
  | .hbm, ⟨18, _⟩ => ⟨S2048x1186, .f32⟩
  | .hbm, ⟨19, _⟩ => ⟨S_, .f32⟩
  | .hbm, ⟨20, _⟩ => ⟨S2048x1186, .f32⟩
  | .hbm, ⟨21, _⟩ => ⟨S2048x1186, .f32⟩
  | .hbm, ⟨22, _⟩ => ⟨S2048x1186, .f32⟩
  | .hbm, ⟨23, _⟩ => ⟨S_, .f32⟩
  | .hbm, ⟨24, _⟩ => ⟨S2048x1186, .f32⟩
  | .hbm, ⟨25, _⟩ => ⟨S2048x1186, .f32⟩
  | .hbm, ⟨26, _⟩ => ⟨S_, .f32⟩
  | .hbm, ⟨27, _⟩ => ⟨S2048x1186, .f32⟩
  | .hbm, ⟨28, _⟩ => ⟨S2048x1186, .f32⟩
  | .hbm, ⟨29, _⟩ => ⟨S2048x1186, .f32⟩
  | .hbm, ⟨30, _⟩ => ⟨S_, .f32⟩
  | .hbm, ⟨31, _⟩ => ⟨S2048x1186, .f32⟩
  | .hbm, ⟨32, _⟩ => ⟨S2048x1186, .f32⟩
  | .hbm, ⟨33, _⟩ => ⟨S2048x1186, .f32⟩
  | .hbm, ⟨34, _⟩ => ⟨S_, .f32⟩
  | .hbm, ⟨35, _⟩ => ⟨S2048x1186, .f32⟩
  | .hbm, ⟨36, _⟩ => ⟨S2048x1186, .f32⟩
  | .hbm, ⟨37, _⟩ => ⟨S2048x1186, .f32⟩
  | .hbm, ⟨38, _⟩ => ⟨S_, .f32⟩
  | .hbm, ⟨39, _⟩ => ⟨S2048x1186, .f32⟩
  | .hbm, ⟨40, _⟩ => ⟨S2048x1186, .f32⟩
  | _, _ => ⟨S2048x1186, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamBr.lean ====
abbrev S1024x256 : Shape := ⟨2, ![1024, 256]⟩
abbrev S4x1024x256 : Shape := ⟨3, ![4, 1024, 256]⟩
abbrev S256x256 : Shape := ⟨2, ![256, 256]⟩
abbrev S4x256x256 : Shape := ⟨3, ![4, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S4x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S4x256x256, .bf16⟩
  | .local _ .vmem, ⟨3, _⟩ => ⟨S4x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBrRefIdeal.lean ====
abbrev S1024x256 : Shape := ⟨2, ![1024, 256]⟩
abbrev S4x1024x256 : Shape := ⟨3, ![4, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x1024x256, .bf16⟩
  | .hbm, ⟨2, _⟩ => ⟨S1024x256, .f32⟩
  | .hbm, ⟨3, _⟩ => ⟨S1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMix.lean ====
abbrev S256x2048 : Shape := ⟨2, ![256, 2048]⟩
abbrev S4x256x2048 : Shape := ⟨3, ![4, 256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S256x2048, .f32⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMixRefIdeal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamQ.lean ====
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S4x256x512, .bf16⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamQRefIdeal.lean ====
abbrev S256x512 : Shape := ⟨2, ![256, 512]⟩
abbrev S4x256x512 : Shape := ⟨3, ![4, 256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S4x256x512, .bf16⟩
  | .hbm, ⟨2, _⟩ => ⟨S256x512, .f32⟩
  | .hbm, ⟨3, _⟩ => ⟨S256x512, .f32⟩
  | .hbm, ⟨4, _⟩ => ⟨S4x256x512, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamKv.lean ====
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvRefIdeal.lean ====
abbrev S256x1024 : Shape := ⟨2, ![256, 1024]⟩
abbrev S4x256x1024 : Shape := ⟨3, ![4, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamO.lean ====
abbrev S512x256 : Shape := ⟨2, ![512, 256]⟩
abbrev S4x512x256 : Shape := ⟨3, ![4, 512, 256]⟩
abbrev S256x256 : Shape := ⟨2, ![256, 256]⟩
abbrev S4x256x256 : Shape := ⟨3, ![4, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S4x512x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S4x256x256, .bf16⟩
  | .local _ .vmem, ⟨3, _⟩ => ⟨S4x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamORefIdeal.lean ====
abbrev S512x256 : Shape := ⟨2, ![512, 256]⟩
abbrev S4x512x256 : Shape := ⟨3, ![4, 512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S4x512x256, .bf16⟩
  | .hbm, ⟨2, _⟩ => ⟨S512x256, .f32⟩
  | .hbm, ⟨3, _⟩ => ⟨S512x256, .f32⟩
  | .hbm, ⟨4, _⟩ => ⟨S4x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S2048x1376 : Shape := ⟨2, ![2048, 1376]⟩
abbrev S4x2048x1408 : Shape := ⟨3, ![4, 2048, 1408]⟩
abbrev S256x1376 : Shape := ⟨2, ![256, 1376]⟩
abbrev S4x256x1408 : Shape := ⟨3, ![4, 256, 1408]⟩
abbrev S1x256x1376 : Shape := ⟨3, ![1, 256, 1376]⟩

abbrev nBuf : Space → Nat
  | .hbm => 8
  | .vmem => 16
  | .smem => 0
  | _ => 0

abbrev bufTy : (tb : Table) → Fin (tcTables nBuf tb) → BufTy
  | .hbm, ⟨0, _⟩ => ⟨S2048x1376, .f32⟩
  | .hbm, ⟨1, _⟩ => ⟨S4x2048x1408, .bf16⟩
  | .hbm, ⟨2, _⟩ => ⟨S2048x1376, .f32⟩
  | .hbm, ⟨3, _⟩ => ⟨S2048x1376, .f32⟩
  | .hbm, ⟨4, _⟩ => ⟨S2048x1376, .f32⟩
  | .hbm, ⟨5, _⟩ => ⟨S2048x1376, .f32⟩
  | .hbm, ⟨6, _⟩ => ⟨S2048x1376, .f32⟩
  | .hbm, ⟨7, _⟩ => ⟨S2048x1376, .f32⟩
  | .local _ .vmem, ⟨0, _⟩ => ⟨S256x1376, .f32⟩
  | .local _ .vmem, ⟨1, _⟩ => ⟨S256x1376, .f32⟩
  | .local _ .vmem, ⟨2, _⟩ => ⟨S4x256x1408, .bf16⟩
  | .local _ .vmem, ⟨3, _⟩ => ⟨S4x256x1408, .bf16⟩
  | .local _ .vmem, ⟨4, _⟩ => ⟨S256x1376, .f32⟩
  | .local _ .vmem, ⟨5, _⟩ => ⟨S256x1376, .f32⟩
  | .local _ .vmem, ⟨6, _⟩ => ⟨S256x1376, .f32⟩
  | .local _ .vmem, ⟨7, _⟩ => ⟨S256x1376, .f32⟩
  | .local _ .vmem, ⟨8, _⟩ => ⟨S256x1376, .f32⟩
  | .local _ .vmem, ⟨9, _⟩ => ⟨S256x1376, .f32⟩
  | .local _ .vmem, ⟨10, _⟩ => ⟨S256x1376, .f32⟩
  | .local _ .vmem, ⟨11, _⟩ => ⟨S256x1376, .f32⟩
  | .local _ .vmem, ⟨12, _⟩ => ⟨S256x1376, .f32⟩
  | .local _ .vmem, ⟨13, _⟩ => ⟨S256x1376, .f32⟩
  | .local _ .vmem, ⟨14, _⟩ => ⟨S256x1376, .f32⟩
  | .local _ .vmem, ⟨15, _⟩ => ⟨S256x1376, .f32⟩
  | _, _ => ⟨S2048x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x1376 : Shape := ⟨2, ![2048, 1376]⟩
abbrev S4x2048x1408 : Shape := ⟨3, ![4, 2048, 1408]⟩
abbrev S_ : Shape := ⟨0, ![]⟩
abbrev S2048x1408 : Shape := ⟨2, ![2048, 1408]⟩

abbrev nBuf : Space → Nat
  | .hbm => 41
  | .vmem => 0
  | .smem => 0
  | _ => 0

abbrev bufTy : (tb : Table) → Fin (tcTables nBuf tb) → BufTy
  | .hbm, ⟨0, _⟩ => ⟨S2048x1376, .f32⟩
  | .hbm, ⟨1, _⟩ => ⟨S4x2048x1408, .bf16⟩
  | .hbm, ⟨2, _⟩ => ⟨S2048x1376, .f32⟩
  | .hbm, ⟨3, _⟩ => ⟨S2048x1376, .f32⟩
  | .hbm, ⟨4, _⟩ => ⟨S4x2048x1408, .f32⟩
  | .hbm, ⟨5, _⟩ => ⟨S_, .f32⟩
  | .hbm, ⟨6, _⟩ => ⟨S2048x1408, .f32⟩
  | .hbm, ⟨7, _⟩ => ⟨S2048x1376, .f32⟩
  | .hbm, ⟨8, _⟩ => ⟨S_, .f32⟩
  | .hbm, ⟨9, _⟩ => ⟨S2048x1376, .f32⟩
  | .hbm, ⟨10, _⟩ => ⟨S2048x1376, .f32⟩
  | .hbm, ⟨11, _⟩ => ⟨S_, .f32⟩
  | .hbm, ⟨12, _⟩ => ⟨S2048x1376, .f32⟩
  | .hbm, ⟨13, _⟩ => ⟨S2048x1376, .f32⟩
  | .hbm, ⟨14, _⟩ => ⟨S2048x1376, .f32⟩
  | .hbm, ⟨15, _⟩ => ⟨S_, .f32⟩
  | .hbm, ⟨16, _⟩ => ⟨S2048x1376, .f32⟩
  | .hbm, ⟨17, _⟩ => ⟨S2048x1376, .f32⟩
  | .hbm, ⟨18, _⟩ => ⟨S2048x1376, .f32⟩
  | .hbm, ⟨19, _⟩ => ⟨S_, .f32⟩
  | .hbm, ⟨20, _⟩ => ⟨S2048x1376, .f32⟩
  | .hbm, ⟨21, _⟩ => ⟨S2048x1376, .f32⟩
  | .hbm, ⟨22, _⟩ => ⟨S2048x1376, .f32⟩
  | .hbm, ⟨23, _⟩ => ⟨S_, .f32⟩
  | .hbm, ⟨24, _⟩ => ⟨S2048x1376, .f32⟩
  | .hbm, ⟨25, _⟩ => ⟨S2048x1376, .f32⟩
  | .hbm, ⟨26, _⟩ => ⟨S_, .f32⟩
  | .hbm, ⟨27, _⟩ => ⟨S2048x1376, .f32⟩
  | .hbm, ⟨28, _⟩ => ⟨S2048x1376, .f32⟩
  | .hbm, ⟨29, _⟩ => ⟨S2048x1376, .f32⟩
  | .hbm, ⟨30, _⟩ => ⟨S_, .f32⟩
  | .hbm, ⟨31, _⟩ => ⟨S2048x1376, .f32⟩
  | .hbm, ⟨32, _⟩ => ⟨S2048x1376, .f32⟩
  | .hbm, ⟨33, _⟩ => ⟨S2048x1376, .f32⟩
  | .hbm, ⟨34, _⟩ => ⟨S_, .f32⟩
  | .hbm, ⟨35, _⟩ => ⟨S2048x1376, .f32⟩
  | .hbm, ⟨36, _⟩ => ⟨S2048x1376, .f32⟩
  | .hbm, ⟨37, _⟩ => ⟨S2048x1376, .f32⟩
  | .hbm, ⟨38, _⟩ => ⟨S_, .f32⟩
  | .hbm, ⟨39, _⟩ => ⟨S2048x1376, .f32⟩
  | .hbm, ⟨40, _⟩ => ⟨S2048x1376, .f32⟩
  | _, _ => ⟨S2048x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S688x2048 : Shape := ⟨2, ![688, 2048]⟩
abbrev S4x688x2048 : Shape := ⟨3, ![4, 688, 2048]⟩
abbrev S16x2048 : Shape := ⟨2, ![16, 2048]⟩
abbrev S4x16x2048 : Shape := ⟨3, ![4, 16, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S688x2048, .f32⟩
  | .hbm, ⟨1, _⟩ => ⟨S4x688x2048, .bf16⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .local _ .vmem, ⟨0, _⟩ => ⟨S16x2048, .f32⟩
  | .local _ .vmem, ⟨1, _⟩ => ⟨S16x2048, .f32⟩
  | .local _ .vmem, ⟨2, _⟩ => ⟨S4x16x2048, .bf16⟩
  | .local _ .vmem, ⟨3, _⟩ => ⟨S4x16x2048, .bf16⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S688x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S688x2048 : Shape := ⟨2, ![688, 2048]⟩
abbrev S4x688x2048 : Shape := ⟨3, ![4, 688, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S688x2048, .f32⟩
  | .hbm, ⟨1, _⟩ => ⟨S4x688x2048, .bf16⟩
  | .hbm, ⟨2, _⟩ => ⟨S688x2048, .f32⟩
  | .hbm, ⟨3, _⟩ => ⟨S688x2048, .f32⟩
  | .hbm, ⟨4, _⟩ => ⟨S4x688x2048, .f32⟩
  | .hbm, ⟨5, _⟩ => ⟨S_, .f32⟩
  | .hbm, ⟨6, _⟩ => ⟨S688x2048, .f32⟩
  | .hbm, ⟨7, _⟩ => ⟨S_, .f32⟩
  | .hbm, ⟨8, _⟩ => ⟨S688x2048, .f32⟩
  | .hbm, ⟨9, _⟩ => ⟨S688x2048, .f32⟩
  | .hbm, ⟨10, _⟩ => ⟨S_, .f32⟩
  | .hbm, ⟨11, _⟩ => ⟨S688x2048, .f32⟩
  | .hbm, ⟨12, _⟩ => ⟨S688x2048, .f32⟩
  | .hbm, ⟨13, _⟩ => ⟨S688x2048, .f32⟩
  | .hbm, ⟨14, _⟩ => ⟨S_, .f32⟩
  | .hbm, ⟨15, _⟩ => ⟨S688x2048, .f32⟩
  | .hbm, ⟨16, _⟩ => ⟨S688x2048, .f32⟩
  | .hbm, ⟨17, _⟩ => ⟨S688x2048, .f32⟩
  | .hbm, ⟨18, _⟩ => ⟨S_, .f32⟩
  | .hbm, ⟨19, _⟩ => ⟨S688x2048, .f32⟩
  | .hbm, ⟨20, _⟩ => ⟨S688x2048, .f32⟩
  | .hbm, ⟨21, _⟩ => ⟨S688x2048, .f32⟩
  | .hbm, ⟨22, _⟩ => ⟨S_, .f32⟩
  | .hbm, ⟨23, _⟩ => ⟨S688x2048, .f32⟩
  | .hbm, ⟨24, _⟩ => ⟨S688x2048, .f32⟩
  | .hbm, ⟨25, _⟩ => ⟨S_, .f32⟩
  | .hbm, ⟨26, _⟩ => ⟨S688x2048, .f32⟩
  | .hbm, ⟨27, _⟩ => ⟨S688x2048, .f32⟩
  | .hbm, ⟨28, _⟩ => ⟨S688x2048, .f32⟩
  | .hbm, ⟨29, _⟩ => ⟨S_, .f32⟩
  | .hbm, ⟨30, _⟩ => ⟨S688x2048, .f32⟩
  | .hbm, ⟨31, _⟩ => ⟨S688x2048, .f32⟩
  | .hbm, ⟨32, _⟩ => ⟨S688x2048, .f32⟩
  | .hbm, ⟨33, _⟩ => ⟨S_, .f32⟩
  | .hbm, ⟨34, _⟩ => ⟨S688x2048, .f32⟩
  | .hbm, ⟨35, _⟩ => ⟨S688x2048, .f32⟩
  | .hbm, ⟨36, _⟩ => ⟨S688x2048, .f32⟩
  | .hbm, ⟨37, _⟩ => ⟨S_, .f32⟩
  | .hbm, ⟨38, _⟩ => ⟨S688x2048, .f32⟩
  | .hbm, ⟨39, _⟩ => ⟨S688x2048, .f32⟩
  | _, _ => ⟨S688x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.UpDx.lean ====
/- The gradient of the up-projection's input, summed over four pairs of column blocks, with the residual. -/
module

public import proofs.«01_k».proof.Proof.Gen.UpDxIdeal.Value
public import proofs.«01_k».proof.Proof.Gen.UpDxRefIdeal.Read
public import Idealize.ShloMosaic.Lib.Pipeline.ValueKit
public import Idealize.ShloMosaic.Lib.Pipeline.ReadBack

@[expose] public section

set_option maxRecDepth 16384

noncomputable section

namespace Cert.UpDxIdeal.Value

open Cert.UpDxIdeal Cert.UpDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 4] ∧ win0_1.index t = ![t.val % 4, t.val / 4 % 2, 0]
    ∧ win0_2.index t = ![t.val / 8, t.val / 4 % 2] ∧ win0_3.index t = ![t.val / 8, t.val / 4 % 2] :=
  (by decide +kernel : ∀ t : Fin grid0.N, _)

/-- The scaling of the residual. -/
abbrev al : EReal := Ideal.ofBits .f32 0x3F9837F0#32

theorem pay0 (i) : k0_pay1 (F := Ideal) i = 0 := by pointwise [k0_pay1]

theorem pay (acc a b a' b') (i) : k0_pay2 (F := Ideal) acc a b a' b' i
    = acc i + (∑ k : Fin 1408, a (ix2 (i 0) k) * b (ix3 0 (i 1) k) + ∑ k : Fin 1408, a' (ix2 (i 0) k) * b' (ix3 0 (i 1) k)) := by
  pointwise [k0_pay2]

theorem payF (r z) (i) : k0_pay3 (F := Ideal) r z i = r i + al * z i := by
  pointwise [k0_pay3]

/-- A sum over eight blocks, by pairs. -/
theorem pairs (f : Fin 8 → EReal) : ∑ j, f j = ∑ s : Fin 4, (f ⟨2 * (s : ℕ), by omega⟩ + f ⟨2 * (s : ℕ) + 1, by omega⟩) := by
  rw [Fin.sum_univ_eight, Fin.sum_univ_four]
  simp only [add_assoc]
  rfl

/-- What column block `j` adds to an entry of the gradient. -/
def blkTerm (H : Vec Ideal S8192x11264 .bf16) (W : Vec Ideal S8x2048x1408 .bf16) (r : Fin 8192) (d : Fin 2048) (j : Fin 8) : EReal :=
  ∑ k : Fin 1408, H (ix2 r ⟨(j : ℕ) * 1408 + (k : ℕ), by omega⟩) * W (ix3 j d k)

theorem ref (H W Z) (i) : Cert.UpDxRefIdeal.Read.val_main_v11 (F := Ideal) H W Z i
    = (∑ s : Fin 4, (blkTerm H W (i 0) (i 1) ⟨2 * (s : ℕ), by omega⟩ + blkTerm H W (i 0) (i 1) ⟨2 * (s : ℕ) + 1, by omega⟩)) + al * Z i := by
  rw [← pairs]
  unfold blkTerm
  pointwise [Cert.UpDxRefIdeal.Read.val_main_v11, Cert.UpDxRefIdeal.Read.val_main_v10, Cert.UpDxRefIdeal.Read.val_main_v9, Cert.UpDxRefIdeal.Read.val_main_v8, Cert.UpDxRefIdeal.Read.val_main_v7, Cert.UpDxRefIdeal.Read.val_main_cst_1, Cert.UpDxRefIdeal.Read.val_main_v6, Cert.UpDxRefIdeal.Read.val_main_v1]
  exact add_comm _ _

theorem out_last (c : Dev nD) (t : Fin cfg0.N) (h0 : ¬ t.val % 4 = 0) (h1 : t.val % 4 = 3) (i) :
    (outsAt0 m c t.val t.isLt).1 i = (outsAt0 m c t.val t.isLt).2 i + al * iblk m c 2 t i := by
  rw [outsAt0_C m c t h0 h1]; frame_out; rw [payF]

/-- What one of the two column blocks of a point adds to an entry. -/
def half (a : Vec Ideal S1024x2816 .bf16) (b : Vec Ideal S2x1024x1408 .bf16) (r d : Fin 1024) (p : Fin 2) : EReal :=
  ∑ k : Fin 1408, a (ix2 r ⟨(p : ℕ) * 1408 + (k : ℕ), by omega⟩) * b (ix3 p d k)

theorem half_of (a : Vec Ideal S1024x2816 .bf16) (b : Vec Ideal S2x1024x1408 .bf16) (r d : Fin 1024) (p : Fin 2) (off : ℕ) (hoff : off = (p : ℕ) * 1408)
    (ia : ∀ x, ![0, off] x + S1024x1408.size x ≤ S1024x2816.size x) (ib : ∀ x, ![(p : ℕ), 0, 0] x + S1x1024x1408.size x ≤ S2x1024x1408.size x) :
    ∑ k : Fin 1408, View.ld a (Rect.unit ![0, off] ![1024, 1408] ia) (ix2 r k) * View.ld b (Rect.unit ![(p : ℕ), 0, 0] ![1, 1024, 1408] ib) (ix3 0 d k) = half a b r d p := by
  subst hoff
  refine Finset.sum_congr rfl fun k _ => ?_
  refine congrArg₂ (· * ·) ?_ ?_
  · refine View.ld_unit_apply_of a ![0, (p : ℕ) * 1408] ![1024, 1408] ia _ _ (fun x => ?_)
    match x with
    | ⟨0, _⟩ => exact (Nat.zero_add _).symm
    | ⟨1, _⟩ => rfl
  · refine View.ld_unit_apply_of b ![(p : ℕ), 0, 0] ![1, 1024, 1408] ib _ _ (fun x => ?_)
    match x with
    | ⟨0, _⟩ => rfl
    | ⟨1, _⟩ => exact (Nat.zero_add _).symm
    | ⟨2, _⟩ => exact (Nat.zero_add _).symm

theorem stepA (c : Dev nD) (t : Fin cfg0.N) (h : t.val % 4 = 0) (j : S1024x1024.Idx) :
    (outsAt0 m c t.val t.isLt).2 j = 0 + (half (iblk m c 0 t) (iblk m c 1 t) (j 0) (j 1) 0 + half (iblk m c 0 t) (iblk m c 1 t) (j 0) (j 1) 1) := by
  rw [outsAt0_A m c t h (by omega)]; frame_out; rw [pay, pay0]
  exact congrArg (0 + ·) (congrArg₂ (· + ·) (half_of _ _ _ _ 0 0 rfl _ _) (half_of _ _ _ _ 1 1408 rfl _ _))

theorem stepB (c : Dev nD) (t : Fin cfg0.N) (h : ¬ t.val % 4 = 0) (j : S1024x1024.Idx) :
    (outsAt0 m c t.val t.isLt).2 j = (outsAt0 m c (t.val - 1) (by omega)).2 j
      + (half (iblk m c 0 t) (iblk m c 1 t) (j 0) (j 1) 0 + half (iblk m c 0 t) (iblk m c 1 t) (j 0) (j 1) 1) := by
  by_cases h1 : t.val % 4 = 3
  · rw [outsAt0_C m c t h h1]; frame_out; rw [pay]
    exact congrArg₂ (· + ·) (congrFun (read_unread_whole (Val := Elt Ideal) cc0_scratch0 (Memref.isWhole_whole _) (outsAt0 m c (t.val - 1) (by omega)).2) j)
      (congrArg₂ (· + ·) (half_of _ _ _ _ 0 0 rfl _ _) (half_of _ _ _ _ 1 1408 rfl _ _))
  · rw [outsAt0_B m c t h h1]; frame_out; rw [pay]
    exact congrArg₂ (· + ·) (congrFun (read_unread_whole (Val := Elt Ideal) cc0_scratch0 (Memref.isWhole_whole _) (outsAt0 m c (t.val - 1) (by omega)).2) j)
      (congrArg₂ (· + ·) (half_of _ _ _ _ 0 0 rfl _ _) (half_of _ _ _ _ 1 1408 rfl _ _))

theorem final (c : Dev nD) : (dats m 0 c).arrAt 3 (cfgs 0).N
    = Cert.UpDxRefIdeal.Read.val_main_v11 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, out_last m c t (by omega) h3, Pipeline.eq_sum_fin_of_reset_step_apply_of_flush (fun n h => (outsAt0 m c n h).2) 4 (fun _ => 0) _
    (fun t h j => stepA m c t h j) (fun t h j => stepB m c t h j) t h3 _, zero_add, ref]
  unfold half blkTerm
  refine congrArg₂ (· + ·) (Fin.sum_fin_congr fun s => congrArg₂ (· + ·) (Fin.sum_fin_congr fun k => ?_) (Fin.sum_fin_congr fun k => ?_)) (congrArg (al * ·) ?_)
  all_goals blk_point [iblk, V, idx t, idx ⟨_, Pipeline.run_point_lt_of_flush t h3 s⟩]

end Cert.UpDxIdeal.Value

end
-- ==== Proof.UpDw.lean ====
/- The gradient of the up-projection's weight, block by block of its columns, summed over four stretches of the rows. -/
module

public import proofs.«01_k».proof.Proof.Gen.UpDwIdeal.Value
public import proofs.«01_k».proof.Proof.Gen.UpDwRefIdeal.Read
public import Idealize.ShloMosaic.Lib.Pipeline.ValueKit
public import Idealize.ShloMosaic.Lib.Pipeline.ReadBack

@[expose] public section

set_option maxRecDepth 16384

noncomputable section

namespace Cert.UpDwIdeal.Value

open Cert.UpDwIdeal Cert.UpDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 32] ∧ win0_1.index t = ![t.val % 4, t.val / 4 % 8] ∧ win0_2.index t = ![t.val / 4 % 8, t.val / 32, 0] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 k (i 0)) * b (ix2 k (i 1)) := by
  pointwise [k0_pay2]

theorem ref (A Z) (i) : Cert.UpDwRefIdeal.Read.val_main_v9 (F := Ideal) A Z i = ∑ k : Fin 8192, A (ix2 k (i 1)) * Z (ix2 k ⟨(i 0 : ℕ) * 1408 + (i 2 : ℕ), by have := (i 0).isLt; have := (i 2).isLt; simp at *; omega⟩) := by
  pointwise [Cert.UpDwRefIdeal.Read.val_main_v9, Cert.UpDwRefIdeal.Read.val_main_v8, Cert.UpDwRefIdeal.Read.val_main_v7, Cert.UpDwRefIdeal.Read.val_main_v6, Cert.UpDwRefIdeal.Read.val_main_v1]

  exact Finset.sum_congr rfl fun _ _ => mul_comm _ _

theorem out_last (c : Dev nD) (t : Fin cfg0.N) (h0 : ¬ t.val % 4 = 0) (h1 : t.val % 4 = 3) (i) :
    (outsAt0 m c t.val t.isLt).1 i = (outsAt0 m c t.val t.isLt).2 (ix2 (i 1) (i 2)) := by
  rw [outsAt0_C m c t h0 h1]; frame_out; pointwise [k0_pay3]

theorem final (c : Dev nD) : (dats m 0 c).arrAt 2 (cfgs 0).N
    = Cert.UpDwRefIdeal.Read.val_main_v9 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [pay, pay0])
    (fun t h j => by
      by_cases h1 : t.val % 4 = 3
      · rw [outsAt0_C m c t h h1]; frame_out; rw [pay]; exact congrArg (· + _) (congrFun (read_unread_whole (Val := Elt Ideal) cc0_scratch0 (Memref.isWhole_whole _) (outsAt0 m c (t.val - 1) (by omega)).2) j)
      · rw [outsAt0_B m c t h h1]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.UpDwIdeal.Value

end
-- ==== Proof.DownDx.lean ====
/- The down-projection's gradient of its input, tile by tile. -/
module

public import proofs.«01_k».proof.Proof.Gen.DownDxIdeal.Value
public import proofs.«01_k».proof.Proof.Gen.DownDxRefIdeal.Read
public import Idealize.ShloMosaic.Lib.Pipeline.ValueKit
public import Idealize.ShloMosaic.Lib.Pipeline.ReadBack

@[expose] public section

set_option maxRecDepth 16384

noncomputable section

namespace Cert.DownDxIdeal.Value

open Cert.DownDxIdeal Cert.DownDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem pay (a b) (i) : k0_pay1 (F := Ideal) a b i = ∑ k : Fin 2048, a (ix2 (i 0) k) * b (ix2 (i 1) k) := by
  pointwise [k0_pay1]

theorem ref (Z W) (i) : Cert.DownDxRefIdeal.Read.val_main_v5 (F := Ideal) Z W i = ∑ k : Fin 2048, Z (ix2 (i 0) k) * W (ix2 (i 1) k) := by
  pointwise [Cert.DownDxRefIdeal.Read.val_main_v5, Cert.DownDxRefIdeal.Read.val_main_v4, Cert.DownDxRefIdeal.Read.val_main_v3, Cert.DownDxRefIdeal.Read.val_main_v1]

theorem final (c : Dev nD) : (dats m 0 c).arrAt 2 (cfgs 0).N
    = Cert.DownDxRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.DownDxIdeal.Value

end
-- ==== Proof.DownDw.lean ====
/- The gradient of the down-projection's weight, summed over four stretches of the rows. -/
module

public import proofs.«01_k».proof.Proof.Gen.DownDwIdeal.Value
public import proofs.«01_k».proof.Proof.Gen.DownDwRefIdeal.Read
public import Idealize.ShloMosaic.Lib.Pipeline.ValueKit
public import Idealize.ShloMosaic.Lib.Pipeline.ReadBack

@[expose] public section

set_option maxRecDepth 16384

noncomputable section

namespace Cert.DownDwIdeal.Value

open Cert.DownDwIdeal Cert.DownDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 k (i 0)) * b (ix2 k (i 1)) := by
  pointwise [k0_pay2]

theorem ref (A Z) (i) : Cert.DownDwRefIdeal.Read.val_main_v5 (F := Ideal) A Z i = ∑ k : Fin 8192, A (ix2 k (i 0)) * Z (ix2 k (i 1)) := by
  pointwise [Cert.DownDwRefIdeal.Read.val_main_v5, Cert.DownDwRefIdeal.Read.val_main_v4, Cert.DownDwRefIdeal.Read.val_main_v3, Cert.DownDwRefIdeal.Read.val_main_v1]
  exact Finset.sum_congr rfl fun _ _ => mul_comm _ _

theorem out_last (c : Dev nD) (t : Fin cfg0.N) (h0 : ¬ t.val % 4 = 0) (h1 : t.val % 4 = 3) (i) :
    (outsAt0 m c t.val t.isLt).1 i = (outsAt0 m c t.val t.isLt).2 i := by
  rw [outsAt0_C m c t h0 h1]; frame_out

theorem final (c : Dev nD) : (dats m 0 c).arrAt 2 (cfgs 0).N
    = Cert.DownDwRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [pay, pay0])
    (fun t h j => by
      by_cases h1 : t.val % 4 = 3
      · rw [outsAt0_C m c t h h1]; frame_out; rw [pay]; exact congrArg (· + _) (congrFun (read_unread_whole (Val := Elt Ideal) cc0_scratch0 (Memref.isWhole_whole _) (outsAt0 m c (t.val - 1) (by omega)).2) j)
      · rw [outsAt0_B m c t h h1]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.DownDwIdeal.Value

end
-- ==== Proof.GatesDw.lean ====
/- The gradient of the gates' projection weight, summed over two stretches of the rows. -/
module

public import proofs.«01_k».proof.Proof.Gen.GatesDwIdeal.Value
public import proofs.«01_k».proof.Proof.Gen.GatesDwRefIdeal.Read
public import Idealize.ShloMosaic.Lib.Pipeline.ValueKit
public import Idealize.ShloMosaic.Lib.Pipeline.ReadBack

@[expose] public section

set_option maxRecDepth 16384

noncomputable section

namespace Cert.GatesDwIdeal.Value

open Cert.GatesDwIdeal Cert.GatesDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 4096, a (ix2 k (i 0)) * b (ix2 k (i 1)) := by
  pointwise [k0_pay2]

theorem ref (A Z) (i) : Cert.GatesDwRefIdeal.Read.val_main_v5 (F := Ideal) A Z i = ∑ k : Fin 8192, A (ix2 k (i 0)) * Z (ix2 k (i 1)) := by
  pointwise [Cert.GatesDwRefIdeal.Read.val_main_v5, Cert.GatesDwRefIdeal.Read.val_main_v4, Cert.GatesDwRefIdeal.Read.val_main_v3, Cert.GatesDwRefIdeal.Read.val_main_v1]
  exact Finset.sum_congr rfl fun _ _ => mul_comm _ _

theorem out_last (c : Dev nD) (t : Fin cfg0.N) (h0 : ¬ t.val % 2 = 0) (h1 : t.val % 2 = 1) (i) :
    (outsAt0 m c t.val t.isLt).1 i = (outsAt0 m c t.val t.isLt).2 i := by
  rw [outsAt0_B m c t h0 h1]; frame_out

theorem final (c : Dev nD) : (dats m 0 c).arrAt 2 (cfgs 0).N
    = Cert.GatesDwRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 2 (fun _ => 0) _
    (fun t h j => by rw [outsAt0_A m c t h (by omega)]; frame_out; rw [pay, pay0])
    (fun t h j => by rw [outsAt0_B m c t h (by omega)]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.GatesDwIdeal.Value

end
-- ==== Proof.FfnUp.lean ====
/- The up-projection, by its eight blocks of columns. -/
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack

@[expose] public section

set_option maxRecDepth 16384

noncomputable section

namespace Cert.FfnUpIdeal.Value

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem pay (a b) (i) : k0_pay1 (F := Ideal) a b i = ∑ k : Fin 2048, a (ix2 (i 0) k) * b (ix3 0 k (i 1)) := by
  pointwise [k0_pay1]

theorem ref (a b) (i) : Cert.FfnUpRefIdeal.Read.val_main_v6 (F := Ideal) a b i = ∑ k : Fin 2048, a (ix2 (i 0) k) * b (ix3 ⟨(i 1).val / 1408, Nat.div_lt_of_lt_mul (i 1).isLt⟩ k ⟨(i 1).val % 1408, Nat.mod_lt _ (by decide)⟩) := by
  pointwise [Cert.FfnUpRefIdeal.Read.val_main_v6, Cert.FfnUpRefIdeal.Read.val_main_v3, Cert.FfnUpRefIdeal.Read.val_main_v2, Cert.FfnUpRefIdeal.Read.val_main_v1, Cert.FfnUpRefIdeal.Read.val_main_v0]

theorem final (c : Dev nD) : (dats m 0 c).arrAt 2 (cfgs 0).N
    = Cert.FfnUpRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.FfnUpIdeal.Value

end
-- ==== Proof.FfnDown.lean ====
/- The down-projection with the scaled residual, summed over two halves of the hidden columns. -/
module

public import proofs.«01_k».proof.Proof.Gen.FfnDownIdeal.Value
public import proofs.«01_k».proof.Proof.Gen.FfnDownRefIdeal.Read
public import Idealize.ShloMosaic.Lib.Pipeline.ValueKit
public import Idealize.ShloMosaic.Lib.Pipeline.ReadBack

@[expose] public section

set_option maxRecDepth 16384

noncomputable section

namespace Cert.FfnDownIdeal.Value

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

/-- The scaling of the residual. -/
abbrev al : EReal := Ideal.ofBits .f32 0x3F9837F0#32

theorem pay0 (i) : k0_pay1 (F := Ideal) i = 0 := by pointwise [k0_pay1]

theorem pay (acc a b) (i) : k0_pay2 (F := Ideal) acc a b i = acc i + ∑ k : Fin 2816, a (ix2 (i 0) k) * b (ix2 k (i 1)) := by
  pointwise [k0_pay2]

theorem payF (r z) (i) : k0_pay3 (F := Ideal) r z i = r i + al * z i := by
  pointwise [k0_pay3]

theorem ref (a b r) (i) : Cert.FfnDownRefIdeal.Read.val_main_v5 (F := Ideal) a b r i = (∑ k : Fin 5632, a (ix2 (i 0) k) * b (ix2 k (i 1))) + al * r i := by
  pointwise [Cert.FfnDownRefIdeal.Read.val_main_v5, Cert.FfnDownRefIdeal.Read.val_main_v4, Cert.FfnDownRefIdeal.Read.val_main_v3, Cert.FfnDownRefIdeal.Read.val_main_v2, Cert.FfnDownRefIdeal.Read.val_main_cst, Cert.FfnDownRefIdeal.Read.val_main_v1, Cert.FfnDownRefIdeal.Read.val_main_v0]
  exact add_comm _ _

theorem out_last (c : Dev nD) (t : Fin cfg0.N) (h0 : ¬ t.val % 2 = 0) (h1 : t.val % 2 = 1) (i) :
    (outsAt0 m c t.val t.isLt).1 i = (outsAt0 m c t.val t.isLt).2 i + al * iblk m c 2 t i := by
  rw [outsAt0_B m c t h0 h1]; frame_out; rw [payF]

theorem final (c : Dev nD) : (dats m 0 c).arrAt 3 (cfgs 0).N
    = Cert.FfnDownRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, out_last m c t (by omega) h3, Pipeline.eq_sum_fin_of_reset_step_apply_of_flush (fun n h => (outsAt0 m c n h).2) 2 (fun _ => 0) _
    (fun t h j => by rw [outsAt0_A m c t h (by omega)]; frame_out; rw [pay, pay0])
    (fun t h j => by rw [outsAt0_B m c t h (by omega)]; frame_out; rw [pay]; exact congrArg (· + _) (congrFun (read_unread_whole (Val := Elt Ideal) cc0_scratch0 (Memref.isWhole_whole _) (outsAt0 m c (t.val - 1) (by omega)).2) j))
    t h3 _, zero_add, ref]
  refine congrArg₂ (· + ·) (Fin.sum_mul_add_congr fun s k hl => ?_) (congrArg (al * ·) ?_)
  · blk_point [iblk, V, idx t, idx ⟨_, Pipeline.run_point_lt_of_flush t h3 s⟩]
  · blk_point [iblk, V, idx t]

end Cert.FfnDownIdeal.Value

end
-- ==== Proof.MixO.lean ====
/- The projection of the mixed branches with the scaled residual. -/
module

public import proofs.«01_k».proof.Proof.Gen.MixOIdeal.Value
public import proofs.«01_k».proof.Proof.Gen.MixORefIdeal.Read
public import Idealize.ShloMosaic.Lib.Pipeline.ValueKit
public import Idealize.ShloMosaic.Lib.Pipeline.ReadBack

@[expose] public section

set_option maxRecDepth 16384

noncomputable section

namespace Cert.MixOIdeal.Value

open Cert.MixOIdeal Cert.MixOIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The scaling of the residual. -/
abbrev al : EReal := Ideal.ofBits .f32 0x3F9837F0#32

theorem pay (a b r) (i) : k0_pay1 (F := Ideal) a b r i = (∑ k : Fin 2048, a (ix2 (i 0) k) * b (ix2 k (i 1))) + al * r i := by
  pointwise [k0_pay1]

theorem ref (a b r) (i) : Cert.MixORefIdeal.Read.val_main_v5 (F := Ideal) a b r i = (∑ k : Fin 2048, a (ix2 (i 0) k) * b (ix2 k (i 1))) + al * r i := by
  pointwise [Cert.MixORefIdeal.Read.val_main_v5, Cert.MixORefIdeal.Read.val_main_v4, Cert.MixORefIdeal.Read.val_main_v3, Cert.MixORefIdeal.Read.val_main_v2, Cert.MixORefIdeal.Read.val_main_cst, Cert.MixORefIdeal.Read.val_main_v1, Cert.MixORefIdeal.Read.val_main_v0]
  exact add_comm _ _

theorem final (c : Dev nD) : (dats m 0 c).arrAt 3 (cfgs 0).N
    = Cert.MixORefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [pay, ref]
  refine congrArg₂ (· + ·) (Fin.sum_fin_congr fun k => ?_) (congrArg (al * ·) ?_)
  all_goals blk_point [iblk, V, idx t]

end Cert.MixOIdeal.Value

end
-- ==== Proof.BrDx.lean ====
/- The gradient of a branch, from that of its projection. -/
module

public import proofs.«01_k».proof.Proof.Gen.BrDxIdeal.Value
public import proofs.«01_k».proof.Proof.Gen.BrDxRefIdeal.Read
public import Idealize.ShloMosaic.Lib.Pipeline.ValueKit
public import Idealize.ShloMosaic.Lib.Pipeline.ReadBack

@[expose] public section

set_option maxRecDepth 16384

noncomputable section

namespace Cert.BrDxIdeal.Value

open Cert.BrDxIdeal Cert.BrDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay (a b) (i) : k0_pay1 (F := Ideal) a b i = ∑ k : Fin 2048, a (ix2 (i 0) k) * b (ix2 (i 1) k) := by
  pointwise [k0_pay1]

theorem ref (a b) (i) : Cert.BrDxRefIdeal.Read.val_main_v4 (F := Ideal) a b i = ∑ k : Fin 2048, a (ix2 (i 0) k) * b (ix2 (i 1) k) := by
  pointwise [Cert.BrDxRefIdeal.Read.val_main_v4, Cert.BrDxRefIdeal.Read.val_main_v3, Cert.BrDxRefIdeal.Read.val_main_v1]

theorem final (c : Dev nD) : (dats m 0 c).arrAt 2 (cfgs 0).N
    = Cert.BrDxRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.BrDxIdeal.Value

end
-- ==== Proof.BrDw.lean ====
/- The gradient of a branch projection weight, summed over two stretches of the rows. -/
module

public import proofs.«01_k».proof.Proof.Gen.BrDwIdeal.Value
public import proofs.«01_k».proof.Proof.Gen.BrDwRefIdeal.Read
public import Idealize.ShloMosaic.Lib.Pipeline.ValueKit
public import Idealize.ShloMosaic.Lib.Pipeline.ReadBack

@[expose] public section

set_option maxRecDepth 16384

noncomputable section

namespace Cert.BrDwIdeal.Value

open Cert.BrDwIdeal Cert.BrDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 2, 0] ∧ win0_1.index t = ![t.val % 2, t.val / 2] ∧ win0_2.index t = ![0, t.val / 2] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 4096, a (ix2 k (i 0)) * b (ix2 k (i 1)) := by
  pointwise [k0_pay2]

theorem ref (a b) (i) : Cert.BrDwRefIdeal.Read.val_main_v5 (F := Ideal) a b i = ∑ k : Fin 8192, a (ix2 k (i 0)) * b (ix2 k (i 1)) := by
  pointwise [Cert.BrDwRefIdeal.Read.val_main_v5, Cert.BrDwRefIdeal.Read.val_main_v4, Cert.BrDwRefIdeal.Read.val_main_v3, Cert.BrDwRefIdeal.Read.val_main_v1]
  exact Finset.sum_congr rfl fun _ _ => mul_comm _ _

theorem out_last (c : Dev nD) (t : Fin cfg0.N) (h0 : ¬ t.val % 2 = 0) (h1 : t.val % 2 = 1) (i) :
    (outsAt0 m c t.val t.isLt).1 i = (outsAt0 m c t.val t.isLt).2 i := by
  rw [outsAt0_B m c t h0 h1]; frame_out

theorem final (c : Dev nD) : (dats m 0 c).arrAt 2 (cfgs 0).N
    = Cert.BrDwRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 2 (fun _ => 0) _
    (fun t h j => by rw [outsAt0_A m c t h (by omega)]; frame_out; rw [pay, pay0])
    (fun t h j => by rw [outsAt0_B m c t h (by omega)]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.BrDwIdeal.Value

end
-- ==== Proof.SwaDw.lean ====
/- The gradient of the window attention projection weight, summed over four stretches of the rows. -/
module

public import proofs.«01_k».proof.Proof.Gen.SwaDwIdeal.Value
public import proofs.«01_k».proof.Proof.Gen.SwaDwRefIdeal.Read
public import Idealize.ShloMosaic.Lib.Pipeline.ValueKit
public import Idealize.ShloMosaic.Lib.Pipeline.ReadBack

@[expose] public section

set_option maxRecDepth 16384

noncomputable section

namespace Cert.SwaDwIdeal.Value

open Cert.SwaDwIdeal Cert.SwaDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 k (i 0)) * b (ix2 k (i 1)) := by
  pointwise [k0_pay2]

theorem ref (a b) (i) : Cert.SwaDwRefIdeal.Read.val_main_v5 (F := Ideal) a b i = ∑ k : Fin 8192, a (ix2 k (i 0)) * b (ix2 k (i 1)) := by
  pointwise [Cert.SwaDwRefIdeal.Read.val_main_v5, Cert.SwaDwRefIdeal.Read.val_main_v4, Cert.SwaDwRefIdeal.Read.val_main_v3, Cert.SwaDwRefIdeal.Read.val_main_v1]
  exact Finset.sum_congr rfl fun _ _ => mul_comm _ _

theorem out_last (c : Dev nD) (t : Fin cfg0.N) (h0 : ¬ t.val % 4 = 0) (h1 : t.val % 4 = 3) (i) :
    (outsAt0 m c t.val t.isLt).1 i = (outsAt0 m c t.val t.isLt).2 i := by
  rw [outsAt0_C m c t h0 h1]; frame_out

theorem final (c : Dev nD) : (dats m 0 c).arrAt 2 (cfgs 0).N
    = Cert.SwaDwRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [pay, pay0])
    (fun t h j => by
      by_cases h1 : t.val % 4 = 3
      · rw [outsAt0_C m c t h h1]; frame_out; rw [pay]; exact congrArg (· + _) (congrFun (read_unread_whole (Val := Elt Ideal) cc0_scratch0 (Memref.isWhole_whole _) (outsAt0 m c (t.val - 1) (by omega)).2) j)
      · rw [outsAt0_B m c t h h1]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.SwaDwIdeal.Value

end
-- ==== Proof.MemDx.lean ====
/- The gradient of the memory query projection input, with the scaled residual. -/
module

public import proofs.«01_k».proof.Proof.Gen.MemDxIdeal.Value
public import proofs.«01_k».proof.Proof.Gen.MemDxRefIdeal.Read
public import Idealize.ShloMosaic.Lib.Pipeline.ValueKit
public import Idealize.ShloMosaic.Lib.Pipeline.ReadBack

@[expose] public section

set_option maxRecDepth 16384

noncomputable section

namespace Cert.MemDxIdeal.Value

open Cert.MemDxIdeal Cert.MemDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The scaling of the residual. -/
abbrev al : EReal := Ideal.ofBits .f32 0x3F9837F0#32

theorem pay (a b r) (i) : k0_pay1 (F := Ideal) a b r i = (∑ k : Fin 512, a (ix2 (i 0) k) * b (ix2 (i 1) k)) + al * r i := by
  pointwise [k0_pay1]

theorem ref (a b r) (i) : Cert.MemDxRefIdeal.Read.val_main_v9 (F := Ideal) a b r i = (∑ k : Fin 512, a (ix2 (i 0) k) * b (ix2 (i 1) k)) + al * r i := by
  pointwise [Cert.MemDxRefIdeal.Read.val_main_v9, Cert.MemDxRefIdeal.Read.val_main_v8, Cert.MemDxRefIdeal.Read.val_main_v7, Cert.MemDxRefIdeal.Read.val_main_v6, Cert.MemDxRefIdeal.Read.val_main_cst_1, Cert.MemDxRefIdeal.Read.val_main_v5, Cert.MemDxRefIdeal.Read.val_main_v1]
  exact add_comm _ _

theorem final (c : Dev nD) : (dats m 0 c).arrAt 3 (cfgs 0).N
    = Cert.MemDxRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [pay, ref]
  refine congrArg₂ (· + ·) (Fin.sum_fin_congr fun k => ?_) (congrArg (al * ·) ?_)
  all_goals blk_point [iblk, V, idx t]

end Cert.MemDxIdeal.Value

end
-- ==== Proof.MemDwQ.lean ====
/- The gradient of the memory query projection weight, summed over four stretches of the rows. -/
module

public import proofs.«01_k».proof.Proof.Gen.MemDwQIdeal.Value
public import proofs.«01_k».proof.Proof.Gen.MemDwQRefIdeal.Read
public import Idealize.ShloMosaic.Lib.Pipeline.ValueKit
public import Idealize.ShloMosaic.Lib.Pipeline.ReadBack

@[expose] public section

set_option maxRecDepth 16384

noncomputable section

namespace Cert.MemDwQIdeal.Value

open Cert.MemDwQIdeal Cert.MemDwQIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 k (i 0)) * b (ix2 k (i 1)) := by
  pointwise [k0_pay2]

theorem ref (a b) (i) : Cert.MemDwQRefIdeal.Read.val_main_v5 (F := Ideal) a b i = ∑ k : Fin 8192, a (ix2 k (i 0)) * b (ix2 k (i 1)) := by
  pointwise [Cert.MemDwQRefIdeal.Read.val_main_v5, Cert.MemDwQRefIdeal.Read.val_main_v4, Cert.MemDwQRefIdeal.Read.val_main_v3, Cert.MemDwQRefIdeal.Read.val_main_v1]
  exact Finset.sum_congr rfl fun _ _ => mul_comm _ _

theorem out_last (c : Dev nD) (t : Fin cfg0.N) (h0 : ¬ t.val % 4 = 0) (h1 : t.val % 4 = 3) (i) :
    (outsAt0 m c t.val t.isLt).1 i = (outsAt0 m c t.val t.isLt).2 i := by
  rw [outsAt0_C m c t h0 h1]; frame_out

theorem final (c : Dev nD) : (dats m 0 c).arrAt 2 (cfgs 0).N
    = Cert.MemDwQRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [pay, pay0])
    (fun t h j => by
      by_cases h1 : t.val % 4 = 3
      · rw [outsAt0_C m c t h h1]; frame_out; rw [pay]; exact congrArg (· + _) (congrFun (read_unread_whole (Val := Elt Ideal) cc0_scratch0 (Memref.isWhole_whole _) (outsAt0 m c (t.val - 1) (by omega)).2) j)
      · rw [outsAt0_B m c t h h1]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.MemDwQIdeal.Value

end
-- ==== Proof.MemDwKv.lean ====
/- The gradient of the weight of the memory keys and values. -/
module

public import proofs.«01_k».proof.Proof.Gen.MemDwKvIdeal.Value
public import proofs.«01_k».proof.Proof.Gen.MemDwKvRefIdeal.Read
public import Idealize.ShloMosaic.Lib.Pipeline.ValueKit
public import Idealize.ShloMosaic.Lib.Pipeline.ReadBack

@[expose] public section

set_option maxRecDepth 16384

noncomputable section

namespace Cert.MemDwKvIdeal.Value

open Cert.MemDwKvIdeal Cert.MemDwKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

theorem pay (a b) (i) : k0_pay1 (F := Ideal) a b i = ∑ k : Fin 256, a (ix2 k (i 0)) * b (ix2 k (i 1)) := by
  pointwise [k0_pay1]

theorem ref (a b) (i) : Cert.MemDwKvRefIdeal.Read.val_main_v4 (F := Ideal) a b i = ∑ k : Fin 256, a (ix2 k (i 0)) * b (ix2 k (i 1)) := by
  pointwise [Cert.MemDwKvRefIdeal.Read.val_main_v4, Cert.MemDwKvRefIdeal.Read.val_main_v3, Cert.MemDwKvRefIdeal.Read.val_main_v1]
  exact Finset.sum_congr rfl fun _ _ => mul_comm _ _

theorem final (c : Dev nD) : (dats m 0 c).arrAt 2 (cfgs 0).N
    = Cert.MemDwKvRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.MemDwKvIdeal.Value

end
-- ==== Proof.MemDwO.lean ====
/- The gradient of the memory output projection weight, summed over four stretches of the rows. -/
module

public import proofs.«01_k».proof.Proof.Gen.MemDwOIdeal.Value
public import proofs.«01_k».proof.Proof.Gen.MemDwORefIdeal.Read
public import Idealize.ShloMosaic.Lib.Pipeline.ValueKit
public import Idealize.ShloMosaic.Lib.Pipeline.ReadBack

@[expose] public section

set_option maxRecDepth 16384

noncomputable section

namespace Cert.MemDwOIdeal.Value

open Cert.MemDwOIdeal Cert.MemDwOIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 k (i 0)) * b (ix2 k (i 1)) := by
  pointwise [k0_pay2]

theorem ref (a b) (i) : Cert.MemDwORefIdeal.Read.val_main_v5 (F := Ideal) a b i = ∑ k : Fin 8192, a (ix2 k (i 0)) * b (ix2 k (i 1)) := by
  pointwise [Cert.MemDwORefIdeal.Read.val_main_v5, Cert.MemDwORefIdeal.Read.val_main_v4, Cert.MemDwORefIdeal.Read.val_main_v3, Cert.MemDwORefIdeal.Read.val_main_v1]
  exact Finset.sum_congr rfl fun _ _ => mul_comm _ _

theorem out_last (c : Dev nD) (t : Fin cfg0.N) (h0 : ¬ t.val % 4 = 0) (h1 : t.val % 4 = 3) (i) :
    (outsAt0 m c t.val t.isLt).1 i = (outsAt0 m c t.val t.isLt).2 i := by
  rw [outsAt0_C m c t h0 h1]; frame_out

theorem final (c : Dev nD) : (dats m 0 c).arrAt 2 (cfgs 0).N
    = Cert.MemDwORefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [pay, pay0])
    (fun t h j => by
      by_cases h1 : t.val % 4 = 3
      · rw [outsAt0_C m c t h h1]; frame_out; rw [pay]; exact congrArg (· + _) (congrFun (read_unread_whole (Val := Elt Ideal) cc0_scratch0 (Memref.isWhole_whole _) (outsAt0 m c (t.val - 1) (by omega)).2) j)
      · rw [outsAt0_B m c t h h1]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.MemDwOIdeal.Value

end
-- ==== Proof.SwaIn.lean ====
/- The projection to the queries, keys and values of the window attention. -/
module

public import proofs.«01_k».proof.Proof.Gen.SwaInIdeal.Value
public import proofs.«01_k».proof.Proof.Gen.SwaInRefIdeal.Read
public import Idealize.ShloMosaic.Lib.Pipeline.ValueKit
public import Idealize.ShloMosaic.Lib.Pipeline.ReadBack

@[expose] public section

set_option maxRecDepth 16384

noncomputable section

namespace Cert.SwaInIdeal.Value

open Cert.SwaInIdeal Cert.SwaInIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay (a b) (i) : k0_pay1 (F := Ideal) a b i = ∑ k : Fin 2048, a (ix2 (i 0) k) * b (ix2 k (i 1)) := by
  pointwise [k0_pay1]

theorem ref (a b) (i) : Cert.SwaInRefIdeal.Read.val_main_v2 (F := Ideal) a b i = ∑ k : Fin 2048, a (ix2 (i 0) k) * b (ix2 k (i 1)) := by
  pointwise [Cert.SwaInRefIdeal.Read.val_main_v2, Cert.SwaInRefIdeal.Read.val_main_v1, Cert.SwaInRefIdeal.Read.val_main_v0]

theorem final (c : Dev nD) : (dats m 0 c).arrAt 2 (cfgs 0).N
    = Cert.SwaInRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.SwaInIdeal.Value

end
-- ==== Proof.MemQ.lean ====
/- The projection to the memory queries. -/
module

public import proofs.«01_k».proof.Proof.Gen.MemQIdeal.Value
public import proofs.«01_k».proof.Proof.Gen.MemQRefIdeal.Read
public import Idealize.ShloMosaic.Lib.Pipeline.ValueKit
public import Idealize.ShloMosaic.Lib.Pipeline.ReadBack

@[expose] public section

set_option maxRecDepth 16384

noncomputable section

namespace Cert.MemQIdeal.Value

open Cert.MemQIdeal Cert.MemQIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay (a b) (i) : k0_pay1 (F := Ideal) a b i = ∑ k : Fin 2048, a (ix2 (i 0) k) * b (ix2 k (i 1)) := by
  pointwise [k0_pay1]

theorem ref (a b) (i) : Cert.MemQRefIdeal.Read.val_main_v2 (F := Ideal) a b i = ∑ k : Fin 2048, a (ix2 (i 0) k) * b (ix2 k (i 1)) := by
  pointwise [Cert.MemQRefIdeal.Read.val_main_v2, Cert.MemQRefIdeal.Read.val_main_v1, Cert.MemQRefIdeal.Read.val_main_v0]

theorem final (c : Dev nD) : (dats m 0 c).arrAt 2 (cfgs 0).N
    = Cert.MemQRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.MemQIdeal.Value

end
-- ==== Proof.MemKv.lean ====
/- The projection of the memory to its keys and values. -/
module

public import proofs.«01_k».proof.Proof.Gen.MemKvIdeal.Value
public import proofs.«01_k».proof.Proof.Gen.MemKvRefIdeal.Read
public import Idealize.ShloMosaic.Lib.Pipeline.ValueKit
public import Idealize.ShloMosaic.Lib.Pipeline.ReadBack

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem pay (a b) (i) : k0_pay1 (F := Ideal) a b i = ∑ k : Fin 2048, a (ix2 (i 0) k) * b (ix2 k (i 1)) := by
  pointwise [k0_pay1]

theorem ref (a b) (i) : Cert.MemKvRefIdeal.Read.val_main_v2 (F := Ideal) a b i = ∑ k : Fin 2048, a (ix2 (i 0) k) * b (ix2 k (i 1)) := by
  pointwise [Cert.MemKvRefIdeal.Read.val_main_v2, Cert.MemKvRefIdeal.Read.val_main_v1, Cert.MemKvRefIdeal.Read.val_main_v0]

theorem final (c : Dev nD) : (dats m 0 c).arrAt 2 (cfgs 0).N
    = Cert.MemKvRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.MemKvIdeal.Value

end
-- ==== Proof.MemO.lean ====
/- The output projection of the memory attention with the scaled residual. -/
module

public import proofs.«01_k».proof.Proof.Gen.MemOIdeal.Value
public import proofs.«01_k».proof.Proof.Gen.MemORefIdeal.Read
public import Idealize.ShloMosaic.Lib.Pipeline.ValueKit
public import Idealize.ShloMosaic.Lib.Pipeline.ReadBack

@[expose] public section

set_option maxRecDepth 16384

noncomputable section

namespace Cert.MemOIdeal.Value

open Cert.MemOIdeal Cert.MemOIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The scaling of the residual. -/
abbrev al : EReal := Ideal.ofBits .f32 0x3F9837F0#32

theorem pay (a b r) (i) : k0_pay1 (F := Ideal) a b r i = (∑ k : Fin 512, a (ix2 (i 0) k) * b (ix2 k (i 1))) + al * r i := by
  pointwise [k0_pay1]

theorem ref (a b r) (i) : Cert.MemORefIdeal.Read.val_main_v5 (F := Ideal) a b r i = (∑ k : Fin 512, a (ix2 (i 0) k) * b (ix2 k (i 1))) + al * r i := by
  pointwise [Cert.MemORefIdeal.Read.val_main_v5, Cert.MemORefIdeal.Read.val_main_v4, Cert.MemORefIdeal.Read.val_main_v3, Cert.MemORefIdeal.Read.val_main_v2, Cert.MemORefIdeal.Read.val_main_cst, Cert.MemORefIdeal.Read.val_main_v1, Cert.MemORefIdeal.Read.val_main_v0]
  exact add_comm _ _

theorem final (c : Dev nD) : (dats m 0 c).arrAt 3 (cfgs 0).N
    = Cert.MemORefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [pay, ref]
  refine congrArg₂ (· + ·) (Fin.sum_fin_congr fun k => ?_) (congrArg (al * ·) ?_)
  all_goals blk_point [iblk, V, idx t]

end Cert.MemOIdeal.Value

end
-- ==== Proof.ProjGates.lean ====
/- The projection to the gates. -/
module

public import proofs.«01_k».proof.Proof.Gen.ProjGatesIdeal.Value
public import proofs.«01_k».proof.Proof.Gen.ProjGatesRefIdeal.Read
public import Idealize.ShloMosaic.Lib.Pipeline.ValueKit
public import Idealize.ShloMosaic.Lib.Pipeline.ReadBack

@[expose] public section

set_option maxRecDepth 16384

noncomputable section

namespace Cert.ProjGatesIdeal.Value

open Cert.ProjGatesIdeal Cert.ProjGatesIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem pay (a b) (i) : k0_pay1 (F := Ideal) a b i = ∑ k : Fin 2048, a (ix2 (i 0) k) * b (ix2 k (i 1)) := by
  pointwise [k0_pay1]

theorem ref (a b) (i) : Cert.ProjGatesRefIdeal.Read.val_main_v3 (F := Ideal) a b i = ∑ k : Fin 2048, a (ix2 (i 0) k) * b (ix2 k (i 1)) := by
  pointwise [Cert.ProjGatesRefIdeal.Read.val_main_v3, Cert.ProjGatesRefIdeal.Read.val_main_v2, Cert.ProjGatesRefIdeal.Read.val_main_v1, Cert.ProjGatesRefIdeal.Read.val_main_v0]

theorem final (c : Dev nD) : (dats m 0 c).arrAt 2 (cfgs 0).N
    = Cert.ProjGatesRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.ProjGatesIdeal.Value

end
-- ==== Proof.ProjGdn.lean ====
/- The projection to the columns of the gated delta rule. -/
module

public import proofs.«01_k».proof.Proof.Gen.ProjGdnIdeal.Value
public import proofs.«01_k».proof.Proof.Gen.ProjGdnRefIdeal.Read
public import Idealize.ShloMosaic.Lib.Pipeline.ValueKit
public import Idealize.ShloMosaic.Lib.Pipeline.ReadBack

@[expose] public section

set_option maxRecDepth 16384

noncomputable section

namespace Cert.ProjGdnIdeal.Value

open Cert.ProjGdnIdeal Cert.ProjGdnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem pay (a b) (i) : k0_pay1 (F := Ideal) a b i = ∑ k : Fin 2048, a (ix2 (i 0) k) * b (ix2 k (i 1)) := by
  pointwise [k0_pay1]

theorem ref (a b) (i) : Cert.ProjGdnRefIdeal.Read.val_main_v2 (F := Ideal) a b i = ∑ k : Fin 2048, a (ix2 (i 0) k) * b (ix2 k (i 1)) := by
  pointwise [Cert.ProjGdnRefIdeal.Read.val_main_v2, Cert.ProjGdnRefIdeal.Read.val_main_v1, Cert.ProjGdnRefIdeal.Read.val_main_v0]

theorem final (c : Dev nD) : (dats m 0 c).arrAt 2 (cfgs 0).N
    = Cert.ProjGdnRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.ProjGdnIdeal.Value

end
-- ==== Proof.BrFwd.lean ====
/- The projection of a branch. -/
module

public import proofs.«01_k».proof.Proof.Gen.BrFwdIdeal.Value
public import proofs.«01_k».proof.Proof.Gen.BrFwdRefIdeal.Read
public import Idealize.ShloMosaic.Lib.Pipeline.ValueKit
public import Idealize.ShloMosaic.Lib.Pipeline.ReadBack

@[expose] public section

set_option maxRecDepth 16384

noncomputable section

namespace Cert.BrFwdIdeal.Value

open Cert.BrFwdIdeal Cert.BrFwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem pay (a b) (i) : k0_pay1 (F := Ideal) a b i = ∑ k : Fin 1024, a (ix2 (i 0) k) * b (ix2 k (i 1)) := by
  pointwise [k0_pay1]

theorem ref (a b) (i) : Cert.BrFwdRefIdeal.Read.val_main_v3 (F := Ideal) a b i = ∑ k : Fin 1024, a (ix2 (i 0) k) * b (ix2 k (i 1)) := by
  pointwise [Cert.BrFwdRefIdeal.Read.val_main_v3, Cert.BrFwdRefIdeal.Read.val_main_v2, Cert.BrFwdRefIdeal.Read.val_main_v1, Cert.BrFwdRefIdeal.Read.val_main_v0]

theorem final (c : Dev nD) : (dats m 0 c).arrAt 2 (cfgs 0).N
    = Cert.BrFwdRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.BrFwdIdeal.Value

end
-- ==== Proof.OmDx.lean ====
/- The gradient of the memory attention, from that of its output projection. -/
module

public import proofs.«01_k».proof.Proof.Gen.OmDxIdeal.Value
public import proofs.«01_k».proof.Proof.Gen.OmDxRefIdeal.Read
public import Idealize.ShloMosaic.Lib.Pipeline.ValueKit
public import Idealize.ShloMosaic.Lib.Pipeline.ReadBack

@[expose] public section

set_option maxRecDepth 16384

noncomputable section

namespace Cert.OmDxIdeal.Value

open Cert.OmDxIdeal Cert.OmDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay (a b) (i) : k0_pay1 (F := Ideal) a b i = ∑ k : Fin 2048, a (ix2 (i 0) k) * b (ix2 (i 1) k) := by
  pointwise [k0_pay1]

theorem ref (a b) (i) : Cert.OmDxRefIdeal.Read.val_main_v4 (F := Ideal) a b i = ∑ k : Fin 2048, a (ix2 (i 0) k) * b (ix2 (i 1) k) := by
  pointwise [Cert.OmDxRefIdeal.Read.val_main_v4, Cert.OmDxRefIdeal.Read.val_main_v3, Cert.OmDxRefIdeal.Read.val_main_v1]

theorem final (c : Dev nD) : (dats m 0 c).arrAt 2 (cfgs 0).N
    = Cert.OmDxRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.OmDxIdeal.Value

end
-- ==== Proof.MixDx.lean ====
/- The gradient of the mixed branches, from that of their projection. -/
module

public import proofs.«01_k».proof.Proof.Gen.MixDxIdeal.Value
public import proofs.«01_k».proof.Proof.Gen.MixDxRefIdeal.Read
public import Idealize.ShloMosaic.Lib.Pipeline.ValueKit
public import Idealize.ShloMosaic.Lib.Pipeline.ReadBack

@[expose] public section

set_option maxRecDepth 16384

noncomputable section

namespace Cert.MixDxIdeal.Value

open Cert.MixDxIdeal Cert.MixDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem pay (a b) (i) : k0_pay1 (F := Ideal) a b i = ∑ k : Fin 2048, a (ix2 (i 0) k) * b (ix2 (i 1) k) := by
  pointwise [k0_pay1]

theorem ref (a b) (i) : Cert.MixDxRefIdeal.Read.val_main_v4 (F := Ideal) a b i = ∑ k : Fin 2048, a (ix2 (i 0) k) * b (ix2 (i 1) k) := by
  pointwise [Cert.MixDxRefIdeal.Read.val_main_v4, Cert.MixDxRefIdeal.Read.val_main_v3, Cert.MixDxRefIdeal.Read.val_main_v1]

theorem final (c : Dev nD) : (dats m 0 c).arrAt 2 (cfgs 0).N
    = Cert.MixDxRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [pay, ref]
  refine Fin.sum_fin_congr fun k => ?_
  blk_point [iblk, V, idx t]

end Cert.MixDxIdeal.Value

end
-- ==== Proof.MixDw.lean ====
/- The gradient of the weight of the mixed branches projection, summed over two stretches of the rows. -/
module

public import proofs.«01_k».proof.Proof.Gen.MixDwIdeal.Value
public import proofs.«01_k».proof.Proof.Gen.MixDwRefIdeal.Read
public import Idealize.ShloMosaic.Lib.Pipeline.ValueKit
public import Idealize.ShloMosaic.Lib.Pipeline.ReadBack

@[expose] public section

set_option maxRecDepth 16384

noncomputable section

namespace Cert.MixDwIdeal.Value

open Cert.MixDwIdeal Cert.MixDwIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 4096, a (ix2 k (i 0)) * b (ix2 k (i 1)) := by
  pointwise [k0_pay2]

theorem ref (a b) (i) : Cert.MixDwRefIdeal.Read.val_main_v5 (F := Ideal) a b i = ∑ k : Fin 8192, a (ix2 k (i 0)) * b (ix2 k (i 1)) := by
  pointwise [Cert.MixDwRefIdeal.Read.val_main_v5, Cert.MixDwRefIdeal.Read.val_main_v4, Cert.MixDwRefIdeal.Read.val_main_v3, Cert.MixDwRefIdeal.Read.val_main_v1]
  exact Finset.sum_congr rfl fun _ _ => mul_comm _ _

theorem out_last (c : Dev nD) (t : Fin cfg0.N) (h0 : ¬ t.val % 2 = 0) (h1 : t.val % 2 = 1) (i) :
    (outsAt0 m c t.val t.isLt).1 i = (outsAt0 m c t.val t.isLt).2 i := by
  rw [outsAt0_B m c t h0 h1]; frame_out

theorem final (c : Dev nD) : (dats m 0 c).arrAt 2 (cfgs 0).N
    = Cert.MixDwRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_last m c t (by omega) h3, Pipeline.eq_sum_fin_of_reset_step_apply_of_flush (fun n h => (outsAt0 m c n h).2) 2 (fun _ => 0) _
    (fun t h j => by rw [outsAt0_A m c t h (by omega)]; frame_out; rw [pay, pay0])
    (fun t h j => by rw [outsAt0_B m c t h (by omega)]; frame_out; rw [pay]; exact congrArg (· + _) (congrFun (read_unread_whole (Val := Elt Ideal) cc0_scratch0 (Memref.isWhole_whole _) (outsAt0 m c (t.val - 1) (by omega)).2) j))
    t h3 _, zero_add, ref]
  refine Fin.sum_mul_add_congr fun s k hl => ?_
  blk_point [iblk, V, idx t, idx ⟨_, Pipeline.run_point_lt_of_flush t h3 s⟩]

end Cert.MixDwIdeal.Value

end
-- ==== Proof.SwaDx.lean ====
/- The gradient of the window attention projection input, with the scaled residual. -/
module

public import proofs.«01_k».proof.Proof.Gen.SwaDxIdeal.Value
public import proofs.«01_k».proof.Proof.Gen.SwaDxRefIdeal.Read
public import Idealize.ShloMosaic.Lib.Pipeline.ValueKit
public import Idealize.ShloMosaic.Lib.Pipeline.ReadBack

@[expose] public section

set_option maxRecDepth 16384

noncomputable section

namespace Cert.SwaDxIdeal.Value

open Cert.SwaDxIdeal Cert.SwaDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The scaling of the residual. -/
abbrev al : EReal := Ideal.ofBits .f32 0x3F9837F0#32

theorem pay (a b r) (i) : k0_pay1 (F := Ideal) a b r i = (∑ k : Fin 1408, a (ix2 (i 0) k) * b (ix2 (i 1) k)) + al * r i := by
  pointwise [k0_pay1]

theorem ref (a b r) (i) : Cert.SwaDxRefIdeal.Read.val_main_v9 (F := Ideal) a b r i = (∑ k : Fin 1408, a (ix2 (i 0) k) * b (ix2 (i 1) k)) + al * r i := by
  pointwise [Cert.SwaDxRefIdeal.Read.val_main_v9, Cert.SwaDxRefIdeal.Read.val_main_v8, Cert.SwaDxRefIdeal.Read.val_main_v7, Cert.SwaDxRefIdeal.Read.val_main_v6, Cert.SwaDxRefIdeal.Read.val_main_cst_1, Cert.SwaDxRefIdeal.Read.val_main_v5, Cert.SwaDxRefIdeal.Read.val_main_v1]
  exact add_comm _ _

theorem final (c : Dev nD) : (dats m 0 c).arrAt 3 (cfgs 0).N
    = Cert.SwaDxRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [pay, ref]
  refine congrArg₂ (· + ·) (Fin.sum_fin_congr fun k => ?_) (congrArg (al * ·) ?_)
  all_goals blk_point [iblk, V, idx t]

end Cert.SwaDxIdeal.Value

end
-- ==== Proof.GatesDx.lean ====
/- The gradient of the gates projection input, summed over two halves of the columns and added to an array. -/
module

public import proofs.«01_k».proof.Proof.Gen.GatesDxIdeal.Value
public import proofs.«01_k».proof.Proof.Gen.GatesDxRefIdeal.Read
public import Idealize.ShloMosaic.Lib.Pipeline.ValueKit
public import Idealize.ShloMosaic.Lib.Pipeline.ReadBack

@[expose] public section

set_option maxRecDepth 16384

noncomputable section

namespace Cert.GatesDxIdeal.Value

open Cert.GatesDxIdeal Cert.GatesDxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 2] ∧ win0_1.index t = ![t.val / 2 % 2, t.val % 2] ∧ win0_2.index t = ![t.val / 4, t.val / 2 % 2] ∧ win0_3.index t = ![t.val / 4, t.val / 2 % 2] :=
  (by decide +kernel : ∀ t : Fin grid0.N, _)

theorem pay0 (i) : k0_pay1 (F := Ideal) i = 0 := by pointwise [k0_pay1]

theorem pay (acc a b) (i) : k0_pay2 (F := Ideal) acc a b i = acc i + ∑ k : Fin 2048, a (ix2 (i 0) k) * b (ix2 (i 1) k) := by
  pointwise [k0_pay2]

theorem payF (r z) (i) : k0_pay3 (F := Ideal) r z i = r i + z i := by
  pointwise [k0_pay3]

theorem ref (a b r) (i) : Cert.GatesDxRefIdeal.Read.val_main_v5 (F := Ideal) a b r i = (∑ k : Fin 4096, a (ix2 (i 0) k) * b (ix2 (i 1) k)) + r i := by
  pointwise [Cert.GatesDxRefIdeal.Read.val_main_v5, Cert.GatesDxRefIdeal.Read.val_main_v4, Cert.GatesDxRefIdeal.Read.val_main_v3, Cert.GatesDxRefIdeal.Read.val_main_v1]
  exact add_comm _ _

theorem out_last (c : Dev nD) (t : Fin cfg0.N) (h0 : ¬ t.val % 2 = 0) (h1 : t.val % 2 = 1) (i) :
    (outsAt0 m c t.val t.isLt).1 i = (outsAt0 m c t.val t.isLt).2 i + iblk m c 2 t i := by
  rw [outsAt0_B m c t h0 h1]; frame_out; rw [payF]

theorem final (c : Dev nD) : (dats m 0 c).arrAt 3 (cfgs 0).N
    = Cert.GatesDxRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, out_last m c t (by omega) h3, Pipeline.eq_sum_fin_of_reset_step_apply_of_flush (fun n h => (outsAt0 m c n h).2) 2 (fun _ => 0) _
    (fun t h j => by rw [outsAt0_A m c t h (by omega)]; frame_out; rw [pay, pay0])
    (fun t h j => by rw [outsAt0_B m c t h (by omega)]; frame_out; rw [pay]; exact congrArg (· + _) (congrFun (read_unread_whole (Val := Elt Ideal) cc0_scratch0 (Memref.isWhole_whole _) (outsAt0 m c (t.val - 1) (by omega)).2) j))
    t h3 _, zero_add, ref]
  refine congrArg₂ (· + ·) (Fin.sum_mul_add_congr fun s k hl => ?_) ?_
  · blk_point [iblk, V, idx t, idx ⟨_, Pipeline.run_point_lt_of_flush t h3 s⟩]
  · blk_point [iblk, V, idx t]

end Cert.GatesDxIdeal.Value

end
-- ==== Proof.Cols.lean ====
/- The kernel that writes the sliding-window branch's gradient as one array: the query's columns, the two bands folded onto the rows they came from, the bias projection's columns. -/
module

public import proofs.«01_k».proof.Defs
public import proofs.«01_k».proof.Proof.Gen.ColsIdeal
public import proofs.«01_k».proof.Proof.Gen.ColsIdeal.Skeleton
public import proofs.«01_k».proof.Proof.Gen.ColsIdeal.Launch
public import proofs.«01_k».proof.Proof.Gen.ColsIdeal.Points
public import proofs.«01_k».proof.Proof.Gen.ColsIdeal.Frame
public import proofs.«01_k».proof.Proof.Gen.ColsIdeal.Value
public import proofs.«01_k».proof.Proof.Gen.ColsRefIdeal
public import proofs.«01_k».proof.Proof.Gen.ColsRefIdeal.Run
public import proofs.«01_k».proof.Proof.Gen.ColsRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.ColsIdeal.Value

open Cert.ColsIdeal Cert.ColsIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![min (t.val + 1) 63, 0] ∧ win0_3.index t = ![t.val, 0] ∧ win0_4.index t = ![min (t.val + 1) 63, 0] ∧ win0_5.index t = ![t.val, 0] ∧ win0_6.index t = ![t.val, 0] :=
  (by decide +kernel : ∀ t : Fin grid0.N, _)

theorem coords0 : ∀ t : Fin cfg0.N, ((grid0.coords t) 0).val = t.val := (by decide +kernel : ∀ t : Fin grid0.N, _)

theorem pay1 (a) (i) : k0_pay1 (F := Ideal) a i = a i := by
  pointwise [k0_pay1]

theorem pay4 (a) (i) : k0_pay4 (F := Ideal) a i = a i := by
  pointwise [k0_pay4]

theorem cond : ∀ t : Fin cfg0.N, Scalar.cmpi CmpIPredicate.slt (BitVec.ofNat 32 ((grid0.coords t) 0).val) 63#32 = if t.val < 63 then 1#1 else 0#1 :=
  (by decide +kernel : ∀ t : Fin grid0.N, _)

theorem pay2 (t : Fin cfg0.N) (a b) (i) : k0_pay2 (F := Ideal) (grid0.coords t) a b i = a i + (if t.val < 63 then b i else 0) := by
  pointwise [k0_pay2]
  rw [cond t]
  by_cases h : t.val < 63
  · rw [if_pos h, if_pos h]; rfl
  · rw [if_neg h, if_neg h]; rfl

theorem pay3 (t : Fin cfg0.N) (a b) (i) : k0_pay3 (F := Ideal) (grid0.coords t) a b i = a i + (if t.val < 63 then b i else 0) := by
  pointwise [k0_pay3]
  rw [cond t]
  by_cases h : t.val < 63
  · rw [if_pos h, if_pos h]; rfl
  · rw [if_neg h, if_neg h]; rfl

/-- A row's own part and the part that the next block of rows holds for it; the last block has no next one. -/
def fold (a b : Vec Ideal S8192x128 .f32) (i : S8192x128.Idx) : EReal :=
  a i + if h : (i 0 : ℕ) < 8064 then b (ix2 ⟨(i 0 : ℕ) + 128, by omega⟩ (i 1)) else 0

theorem open32 (a b) (i) (v) (hv : fold a b i = v) : Cert.ColsRefIdeal.Read.val_main_v32 (F := Ideal) a b i = v := by
  pointwise [Cert.ColsRefIdeal.Read.val_main_v32, Cert.ColsRefIdeal.Read.val_main_v31, Cert.ColsRefIdeal.Read.val_main_v30, Cert.ColsRefIdeal.Read.val_main_cst_5, Cert.ColsRefIdeal.Read.val_main_v29, Cert.ColsRefIdeal.Read.val_main_v27, Cert.ColsRefIdeal.Read.val_main_v26, Cert.ColsRefIdeal.Read.val_main_v24, Cert.ColsRefIdeal.Read.val_main_v23, Cert.ColsRefIdeal.Read.val_main_v22]
  rw [← hv]; unfold fold
  have h1 : (i 1 : ℕ) < 128 := (i 1).isLt
  have e : (1 + (i 0 : ℕ) / 128) * 128 + (i 0 : ℕ) % 128 = (i 0 : ℕ) + 128 := by omega
  have key : ∀ q q', b (ix2 (⟨(1 + (i 0 : ℕ) / 128) * 128 + (i 0 : ℕ) % 128, q⟩ : Fin 8192) (i 1)) = b (ix2 (⟨(i 0 : ℕ) + 128, q'⟩ : Fin 8192) (i 1)) :=
    fun q q' => congrArg (fun r : Fin 8192 => b (ix2 r (i 1))) (Fin.ext e)
  by_cases h : (i 0 : ℕ) < 8064
  · have c1 : (i 0 : ℕ) / 128 < 63 ∧ (i 0 : ℕ) % 128 < 128 ∧ (i 1 : ℕ) / 64 < 2 ∧ (i 1 : ℕ) % 64 < 64 := by omega
    exact congrArg₂ (fun p q : EReal => p + q) rfl (((dif_pos c1).trans ((dif_pos c1.2.1).trans (key _ (by omega)))).trans (dif_pos h).symm)
  · have c1 : ¬((i 0 : ℕ) / 128 < 63 ∧ (i 0 : ℕ) % 128 < 128 ∧ (i 1 : ℕ) / 64 < 2 ∧ (i 1 : ℕ) % 64 < 64) := by omega
    rw [dif_neg c1, dif_neg h]

theorem ref32 (a b) (i) : Cert.ColsRefIdeal.Read.val_main_v32 (F := Ideal) a b i = fold a b i := open32 a b i _ rfl

theorem open39 (a b) (i) (v) (hv : fold a b i = v) : Cert.ColsRefIdeal.Read.val_main_v39 (F := Ideal) a b i = v := by
  pointwise [Cert.ColsRefIdeal.Read.val_main_v39, Cert.ColsRefIdeal.Read.val_main_v38, Cert.ColsRefIdeal.Read.val_main_v37, Cert.ColsRefIdeal.Read.val_main_cst_6, Cert.ColsRefIdeal.Read.val_main_v36, Cert.ColsRefIdeal.Read.val_main_v34, Cert.ColsRefIdeal.Read.val_main_v33, Cert.ColsRefIdeal.Read.val_main_v21, Cert.ColsRefIdeal.Read.val_main_v20, Cert.ColsRefIdeal.Read.val_main_v19]
  rw [← hv]; unfold fold
  have h1 : (i 1 : ℕ) < 128 := (i 1).isLt
  have e : (1 + (i 0 : ℕ) / 128) * 128 + (i 0 : ℕ) % 128 = (i 0 : ℕ) + 128 := by omega
  have key : ∀ q q', b (ix2 (⟨(1 + (i 0 : ℕ) / 128) * 128 + (i 0 : ℕ) % 128, q⟩ : Fin 8192) (i 1)) = b (ix2 (⟨(i 0 : ℕ) + 128, q'⟩ : Fin 8192) (i 1)) :=
    fun q q' => congrArg (fun r : Fin 8192 => b (ix2 r (i 1))) (Fin.ext e)
  by_cases h : (i 0 : ℕ) < 8064
  · have c1 : (i 0 : ℕ) / 128 < 63 ∧ (i 0 : ℕ) % 128 < 128 ∧ (i 1 : ℕ) / 64 < 2 ∧ (i 1 : ℕ) % 64 < 64 := by omega
    exact congrArg₂ (fun p q : EReal => p + q) rfl (((dif_pos c1).trans ((dif_pos c1.2.1).trans (key _ (by omega)))).trans (dif_pos h).symm)
  · have c1 : ¬((i 0 : ℕ) / 128 < 63 ∧ (i 0 : ℕ) % 128 < 128 ∧ (i 1 : ℕ) / 64 < 2 ∧ (i 1 : ℕ) % 64 < 64) := by omega
    rw [dif_neg c1, dif_neg h]

theorem ref39 (a b) (i) : Cert.ColsRefIdeal.Read.val_main_v39 (F := Ideal) a b i = fold a b i := open39 a b i _ rfl

theorem ref46_q (a b c d e f) (i) (k : Fin 1024) (h : (i 1 : ℕ) = k) : Cert.ColsRefIdeal.Read.val_main_v46 (F := Ideal) a b c d e f i = a (ix2 (i 0) k) := by
  have hk := k.isLt
  have e1 : ∀ q, (⟨(i 1 : ℕ), q⟩ : Fin 1024) = k := fun q => Fin.ext (by show (i 1 : ℕ) = k; omega)
  pointwise [Cert.ColsRefIdeal.Read.val_main_v46, Cert.ColsRefIdeal.Read.val_main_v45, Cert.ColsRefIdeal.Read.val_main_v44, Cert.ColsRefIdeal.Read.val_main_cst_9, Cert.ColsRefIdeal.Read.val_main_v43, Cert.ColsRefIdeal.Read.val_main_v42, Cert.ColsRefIdeal.Read.val_main_cst_8, Cert.ColsRefIdeal.Read.val_main_v41, Cert.ColsRefIdeal.Read.val_main_v40, Cert.ColsRefIdeal.Read.val_main_cst_7, Cert.ColsRefIdeal.Read.val_main_v25, Cert.ColsRefIdeal.Read.val_main_cst_4]
  rw [dif_neg (by omega), dif_neg (by omega), dif_neg (by omega), dif_pos (by omega), add_zero, zero_add, zero_add, e1]

theorem ref46_k (a b c d e f) (i) (k : Fin 128) (h : (i 1 : ℕ) = 1024 + k) : Cert.ColsRefIdeal.Read.val_main_v46 (F := Ideal) a b c d e f i = fold b c (ix2 (i 0) k) := by
  have hk := k.isLt
  have e1 : ∀ q, (⟨(i 1 : ℕ) - 1024, q⟩ : Fin 128) = k := fun q => Fin.ext (by show (i 1 : ℕ) - 1024 = k; omega)
  pointwise [Cert.ColsRefIdeal.Read.val_main_v46, Cert.ColsRefIdeal.Read.val_main_v45, Cert.ColsRefIdeal.Read.val_main_v44, Cert.ColsRefIdeal.Read.val_main_cst_9, Cert.ColsRefIdeal.Read.val_main_v43, Cert.ColsRefIdeal.Read.val_main_v42, Cert.ColsRefIdeal.Read.val_main_cst_8, Cert.ColsRefIdeal.Read.val_main_v41, Cert.ColsRefIdeal.Read.val_main_v40, Cert.ColsRefIdeal.Read.val_main_cst_7, Cert.ColsRefIdeal.Read.val_main_v25, Cert.ColsRefIdeal.Read.val_main_cst_4]
  rw [dif_neg (by omega), dif_neg (by omega), dif_pos (by omega), dif_neg (by omega), add_zero, add_zero, zero_add, e1, ref39]

theorem ref46_v (a b c d e f) (i) (k : Fin 128) (h : (i 1 : ℕ) = 1152 + k) : Cert.ColsRefIdeal.Read.val_main_v46 (F := Ideal) a b c d e f i = fold d e (ix2 (i 0) k) := by
  have hk := k.isLt
  have e1 : ∀ q, (⟨(i 1 : ℕ) - 1152, q⟩ : Fin 128) = k := fun q => Fin.ext (by show (i 1 : ℕ) - 1152 = k; omega)
  pointwise [Cert.ColsRefIdeal.Read.val_main_v46, Cert.ColsRefIdeal.Read.val_main_v45, Cert.ColsRefIdeal.Read.val_main_v44, Cert.ColsRefIdeal.Read.val_main_cst_9, Cert.ColsRefIdeal.Read.val_main_v43, Cert.ColsRefIdeal.Read.val_main_v42, Cert.ColsRefIdeal.Read.val_main_cst_8, Cert.ColsRefIdeal.Read.val_main_v41, Cert.ColsRefIdeal.Read.val_main_v40, Cert.ColsRefIdeal.Read.val_main_cst_7, Cert.ColsRefIdeal.Read.val_main_v25, Cert.ColsRefIdeal.Read.val_main_cst_4]
  rw [dif_neg (by omega), dif_pos (by omega), dif_neg (by omega), dif_neg (by omega), zero_add, add_zero, add_zero, e1, ref32]

theorem ref46_b (a b c d e f) (i) (k : Fin 128) (h : (i 1 : ℕ) = 1280 + k) : Cert.ColsRefIdeal.Read.val_main_v46 (F := Ideal) a b c d e f i = f (ix2 (i 0) k) := by
  have hk := k.isLt
  have e1 : ∀ q, (⟨(i 1 : ℕ) - 1280, q⟩ : Fin 128) = k := fun q => Fin.ext (by show (i 1 : ℕ) - 1280 = k; omega)
  pointwise [Cert.ColsRefIdeal.Read.val_main_v46, Cert.ColsRefIdeal.Read.val_main_v45, Cert.ColsRefIdeal.Read.val_main_v44, Cert.ColsRefIdeal.Read.val_main_cst_9, Cert.ColsRefIdeal.Read.val_main_v43, Cert.ColsRefIdeal.Read.val_main_v42, Cert.ColsRefIdeal.Read.val_main_cst_8, Cert.ColsRefIdeal.Read.val_main_v41, Cert.ColsRefIdeal.Read.val_main_v40, Cert.ColsRefIdeal.Read.val_main_cst_7, Cert.ColsRefIdeal.Read.val_main_v25, Cert.ColsRefIdeal.Read.val_main_cst_4]
  rw [dif_pos (by omega), dif_neg (by omega), dif_neg (by omega), dif_neg (by omega), add_zero, add_zero, add_zero, e1]

variable (c : Dev nD)

theorem is0 (t : Fin cfg0.N) (x : S128x1024.Idx) (i : S8192x1024.Idx) (h0 : (i 0 : ℕ) = t.val * 128 + x 0) (h1 : (i 1 : ℕ) = x 1) :
    iblk m c 0 t x = (m ((c : Thread nD τ).loc main_arg0)) i := by
  blk_ext [iblk, V, idx t]

theorem is1 (t : Fin cfg0.N) (x : S128x128.Idx) (i : S8192x128.Idx) (h0 : (i 0 : ℕ) = t.val * 128 + x 0) (h1 : (i 1 : ℕ) = x 1) :
    iblk m c 1 t x = (m ((c : Thread nD τ).loc main_arg1)) i := by
  blk_ext [iblk, V, idx t]

theorem is2 (t : Fin cfg0.N) (x : S128x128.Idx) (i : S8192x128.Idx) (h0 : (i 0 : ℕ) = min (t.val + 1) 63 * 128 + x 0) (h1 : (i 1 : ℕ) = x 1) :
    iblk m c 2 t x = (m ((c : Thread nD τ).loc main_arg2)) i := by
  blk_ext [iblk, V, idx t]

theorem is3 (t : Fin cfg0.N) (x : S128x128.Idx) (i : S8192x128.Idx) (h0 : (i 0 : ℕ) = t.val * 128 + x 0) (h1 : (i 1 : ℕ) = x 1) :
    iblk m c 3 t x = (m ((c : Thread nD τ).loc main_arg3)) i := by
  blk_ext [iblk, V, idx t]

theorem is4 (t : Fin cfg0.N) (x : S128x128.Idx) (i : S8192x128.Idx) (h0 : (i 0 : ℕ) = min (t.val + 1) 63 * 128 + x 0) (h1 : (i 1 : ℕ) = x 1) :
    iblk m c 4 t x = (m ((c : Thread nD τ).loc main_arg4)) i := by
  blk_ext [iblk, V, idx t]

theorem is5 (t : Fin cfg0.N) (x : S128x128.Idx) (i : S8192x128.Idx) (h0 : (i 0 : ℕ) = t.val * 128 + x 0) (h1 : (i 1 : ℕ) = x 1) :
    iblk m c 5 t x = (m ((c : Thread nD τ).loc main_arg5)) i := by
  blk_ext [iblk, V, idx t]

/-- The next block's part of a row, read at the grid point. -/
theorem next (t : Fin cfg0.N) (x : S128x128.Idx) (r : Fin 8192) (e0 : (r : ℕ) = t.val * 128 + x 0) (v : EReal) (b : Vec Ideal S8192x128 .f32)
    (hv : ∀ j : S8192x128.Idx, (j 0 : ℕ) = min (t.val + 1) 63 * 128 + x 0 → (j 1 : ℕ) = x 1 → v = b j) :
    (if t.val < 63 then v else 0) = if h : (r : ℕ) < 8064 then b (ix2 ⟨(r : ℕ) + 128, by omega⟩ (x 1)) else 0 := by
  have hx : (x 0 : ℕ) < 128 := (x 0).isLt
  by_cases ht : t.val < 63
  · rw [if_pos ht, dif_pos (by omega)]
    exact hv _ (by show (r : ℕ) + 128 = _; omega) rfl
  · rw [if_neg ht, dif_neg (by omega)]

theorem point (t : Fin cfg0.N) (y : S128x1408.Idx) (i : S8192x1408.Idx) (hi0 : (i 0 : ℕ) = t.val * 128 + y 0) (hi1 : (i 1 : ℕ) = y 1) :
    outsAt0 m c t y = Cert.ColsRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold outsAt0
  frame_out
  canon_tiles x h using (View.cover_of_tiledBy _ ![128, 128] (by sl_kernel_rfl) _)
  case piece0 =>
    have e0 : (i 0 : ℕ) = t.val * 128 + x 0 := by omega
    rw [ref46_b _ _ _ _ _ _ i (x 1) (by omega), pay4]
    exact is5 m c t x (ix2 (i 0) (x 1)) e0 rfl
  case piece1 =>
    have e0 : (i 0 : ℕ) = t.val * 128 + x 0 := by omega
    rw [ref46_v _ _ _ _ _ _ i (x 1) (by omega), pay3, is3 m c t x (ix2 (i 0) (x 1)) e0 rfl]
    exact congrArg₂ (fun p q : EReal => p + q) rfl (next t x (i 0) e0 _ (m ((c : Thread nD τ).loc main_arg4)) fun j => is4 m c t x j)
  case piece2 =>
    have e0 : (i 0 : ℕ) = t.val * 128 + x 0 := by omega
    rw [ref46_k _ _ _ _ _ _ i (x 1) (by omega), pay2, is1 m c t x (ix2 (i 0) (x 1)) e0 rfl]
    exact congrArg₂ (fun p q : EReal => p + q) rfl (next t x (i 0) e0 _ (m ((c : Thread nD τ).loc main_arg2)) fun j => is2 m c t x j)
  case piece3 =>
    have e0 : (i 0 : ℕ) = t.val * 128 + x 0 := by omega
    rw [ref46_q _ _ _ _ _ _ i (x 1) (by omega), pay1]
    exact is0 m c t x (ix2 (i 0) (x 1)) e0 rfl

theorem final : (dats m 0 c).arrAt 6 (cfgs 0).N = Cert.ColsRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact point m c t y _ (by blk_simp [idx t]) (by blk_simp [idx t])

end Cert.ColsIdeal.Value

end
-- ==== Proof.MergeFwd.lean ====
/- The kernel of the branch merge: each branch times its half of the gates' logistic, added. -/
module

public import proofs.«01_k».proof.Defs
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.MergeFwdIdeal.Value

open Cert.MergeFwdIdeal Cert.MergeFwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem pay (a b d e) (i) : k0_pay1 (F := Ideal) a b d e i = Ideal.logistic (a i) * b i + Ideal.logistic (d i) * e i := by
  pointwise [k0_pay1]

/-- The gate's column of the sliding-window half. -/
abbrev lo (k : Fin 2048) : Fin 4096 := ⟨k.val, by omega⟩

/-- The gate's column of the delta-rule half. -/
abbrev hi (k : Fin 2048) : Fin 4096 := ⟨2048 + k.val, by omega⟩

theorem ref (a b d) (i) : Cert.MergeFwdRefIdeal.Read.val_main_v20 (F := Ideal) a b d i
    = Ideal.logistic (a (ix2 (i 0) (lo (i 1)))) * b i + Ideal.logistic (a (ix2 (i 0) (hi (i 1)))) * d i := by
  pointwise [Cert.MergeFwdRefIdeal.Read.val_main_v0, Cert.MergeFwdRefIdeal.Read.val_main_v1, Cert.MergeFwdRefIdeal.Read.val_main_v2, Cert.MergeFwdRefIdeal.Read.val_main_v3, Cert.MergeFwdRefIdeal.Read.val_main_v4, Cert.MergeFwdRefIdeal.Read.val_main_v5, Cert.MergeFwdRefIdeal.Read.val_main_v6, Cert.MergeFwdRefIdeal.Read.val_main_v7, Cert.MergeFwdRefIdeal.Read.val_main_v8, Cert.MergeFwdRefIdeal.Read.val_main_v9, Cert.MergeFwdRefIdeal.Read.val_main_v10, Cert.MergeFwdRefIdeal.Read.val_main_v11, Cert.MergeFwdRefIdeal.Read.val_main_v12, Cert.MergeFwdRefIdeal.Read.val_main_v13, Cert.MergeFwdRefIdeal.Read.val_main_v14, Cert.MergeFwdRefIdeal.Read.val_main_v15, Cert.MergeFwdRefIdeal.Read.val_main_v16, Cert.MergeFwdRefIdeal.Read.val_main_v17, Cert.MergeFwdRefIdeal.Read.val_main_v18, Cert.MergeFwdRefIdeal.Read.val_main_v19, Cert.MergeFwdRefIdeal.Read.val_main_v20, Cert.MergeFwdRefIdeal.Read.val_main_cst, Cert.MergeFwdRefIdeal.Read.val_main_cst_0, Cert.MergeFwdRefIdeal.Read.val_main_cst_1, Cert.MergeFwdRefIdeal.Read.val_main_cst_2]
  try rfl

variable (c : Dev nD)

theorem is0 (t : Fin cfg0.N) (x : S512x4096.Idx) (i : S8192x4096.Idx) (h0 : (i 0 : ℕ) = t.val * 512 + x 0) (h1 : (i 1 : ℕ) = x 1) :
    iblk m c 0 t x = (m ((c : Thread nD τ).loc main_arg0)) i := by
  blk_ext [iblk, V, idx t]

theorem is1 (t : Fin cfg0.N) (x : S512x2048.Idx) (i : S8192x2048.Idx) (h0 : (i 0 : ℕ) = t.val * 512 + x 0) (h1 : (i 1 : ℕ) = x 1) :
    iblk m c 1 t x = (m ((c : Thread nD τ).loc main_arg1)) i := by
  blk_ext [iblk, V, idx t]

theorem is2 (t : Fin cfg0.N) (x : S512x2048.Idx) (i : S8192x2048.Idx) (h0 : (i 0 : ℕ) = t.val * 512 + x 0) (h1 : (i 1 : ℕ) = x 1) :
    iblk m c 2 t x = (m ((c : Thread nD τ).loc main_arg2)) i := by
  blk_ext [iblk, V, idx t]

/-- A gate read through the first half of its block. -/
theorem ld_lo (t : Fin cfg0.N) (x : S512x2048.Idx) (i : S8192x4096.Idx) (h0 : (i 0 : ℕ) = t.val * 512 + x 0) (h1 : (i 1 : ℕ) = x 1) :
    View.ld (iblk m c 0 t) (Rect.unit (s := S512x4096) ![0, 0] S512x2048.size inb_S512x4096_S512x2048_0_0) x = (m ((c : Thread nD τ).loc main_arg0)) i := by
  refine is0 m c t _ i (h0.trans (congrArg _ ?_)) (h1.trans ?_)
  · exact ((Rect.idx_unit_val (s := S512x4096) ![0, 0] S512x2048.size inb_S512x4096_S512x2048_0_0 x 0).trans (Nat.zero_add _)).symm
  · exact ((Rect.idx_unit_val (s := S512x4096) ![0, 0] S512x2048.size inb_S512x4096_S512x2048_0_0 x 1).trans (Nat.zero_add _)).symm

/-- A gate read through the second half of its block. -/
theorem ld_hi (t : Fin cfg0.N) (x : S512x2048.Idx) (i : S8192x4096.Idx) (h0 : (i 0 : ℕ) = t.val * 512 + x 0) (h1 : (i 1 : ℕ) = 2048 + x 1) :
    View.ld (iblk m c 0 t) (Rect.unit (s := S512x4096) ![0, 2048] S512x2048.size inb_S512x4096_S512x2048_0_2048) x = (m ((c : Thread nD τ).loc main_arg0)) i := by
  refine is0 m c t _ i (h0.trans (congrArg _ ?_)) (h1.trans ?_)
  · exact ((Rect.idx_unit_val (s := S512x4096) ![0, 2048] S512x2048.size inb_S512x4096_S512x2048_0_2048 x 0).trans (Nat.zero_add _)).symm
  · exact (Rect.idx_unit_val (s := S512x4096) ![0, 2048] S512x2048.size inb_S512x4096_S512x2048_0_2048 x 1).symm

theorem final : (dats m 0 c).arrAt 3 (cfgs 0).N = Cert.MergeFwdRefIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [pay, ref]
  exact congrArg₂ (· + ·)
    (congrArg₂ (· * ·) (congrArg Ideal.logistic (ld_lo m c t y _ (by blk_simp [idx t]) (by simp only [lo]; blk_simp [idx t]))) (is1 m c t y _ (by blk_simp [idx t]) (by blk_simp [idx t])))
    (congrArg₂ (· * ·) (congrArg Ideal.logistic (ld_hi m c t y _ (by blk_simp [idx t]) (by simp only [hi]; blk_simp [idx t]))) (is2 m c t y _ (by blk_simp [idx t]) (by blk_simp [idx t])))

end Cert.MergeFwdIdeal.Value

end
-- ==== Proof.Soft.lean ====
/- The derivative of a row's softmax, written two ways, over the extended reals.

   A row of scores `a` and a row of incoming gradients `d`. The kernel forms `p = e / Σ e` and then
   `p · (d − Σ p · d)`. The derivative of the reference's softmax is
   `(d / Σ e + (0 + −(Σ d · (1 / (Σ e · Σ e)) · e))) · e`. They agree once every score and every gradient is a real number. -/
module

public import Idealize.ShloMosaic.PureOps.Ideal.Laws
public import Idealize.ShloMosaic.Lib.IdealHost

@[expose] public section

noncomputable section

namespace Cert.Soft

open Idealize.ShloMosaic

/-- A value that is a real number. -/
def Fin' (x : EReal) : Prop := ∃ r : ℝ, x = (r : EReal)

theorem Fin'.coe (r : ℝ) : Fin' (r : EReal) := ⟨r, rfl⟩

theorem Fin'.mul {x y : EReal} : Fin' x → Fin' y → Fin' (x * y) := by
  rintro ⟨a, rfl⟩ ⟨b, rfl⟩; exact ⟨a * b, by rw [EReal.coe_mul]⟩

theorem Fin'.add {x y : EReal} : Fin' x → Fin' y → Fin' (x + y) := by
  rintro ⟨a, rfl⟩ ⟨b, rfl⟩; exact ⟨a + b, by rw [EReal.coe_add]⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} {s : Finset ι} {f : ι → EReal} (h : ∀ i, Fin' (f i)) : Fin' (∑ i ∈ s, f i) := by
  choose g hg using h
  exact ⟨∑ i ∈ s, g i, by rw [coe_sum]; exact Finset.sum_congr rfl fun i _ => hg i⟩

theorem div_coe_coe (x y : ℝ) (h : y ≠ 0) : Ideal.div (x : EReal) (y : EReal) = ((x / y : ℝ) : EReal) := by
  rw [Ideal.div_coe h, ← EReal.coe_mul, mul_one_div]

variable {ι : Type} [Fintype ι]

/-- The greatest score, from `−∞`. -/
def top (a : ι → EReal) : EReal := Finset.univ.fold max ⊥ a

theorem top_fin [Nonempty ι] {a : ι → EReal} (h : ∀ j, Fin' (a j)) : Fin' (top a) := by
  classical
  choose g hg using h
  have key : ∀ s : Finset ι, s.Nonempty → Fin' (s.fold max ⊥ a) := by
    intro s hs
    induction hs using Finset.Nonempty.cons_induction with
    | singleton i => rw [Finset.fold_singleton, hg i]; exact ⟨g i, by simp⟩
    | cons i s hi hs ih =>
      rw [Finset.fold_cons, hg i]
      obtain ⟨r, hr⟩ := ih
      rw [hr]
      exact ⟨max (g i) r, (EReal.coe_strictMono.monotone.map_max).symm⟩
  exact key _ Finset.univ_nonempty

/-- `e`: the exponential of a score less the greatest. -/
def ex (a : ι → EReal) (j : ι) : EReal := Ideal.exp (a j - top a)

/-- `Σ e`. -/
def tot (a : ι → EReal) : EReal := ∑ j, ex a j

/-- `p = e / Σ e`. -/
def pr (a : ι → EReal) (j : ι) : EReal := Ideal.div (ex a j) (tot a)

/-- The kernel's gradient of the scores before the scaling. -/
def ds (a d : ι → EReal) (j : ι) : EReal := pr a j * (d j - ∑ i, pr a i * d i)

/-- The reference's. -/
def dsRef (a d : ι → EReal) (j : ι) : EReal :=
  (Ideal.div (d j) (tot a) + (0 + -(0 + ∑ i, d i * Ideal.div 1 (tot a * tot a) * ex a i))) * ex a j

theorem ex_real [Nonempty ι] {a : ι → EReal} (h : ∀ j, Fin' (a j)) : ∃ e : ι → ℝ, (∀ j, 0 < e j) ∧ ∀ j, ex a j = (e j : EReal) := by
  obtain ⟨t, ht⟩ := top_fin h
  choose g hg using h
  refine ⟨fun j => Real.exp (g j - t), fun j => Real.exp_pos _, fun j => ?_⟩
  rw [ex, ht, hg j, ← EReal.coe_sub, Ideal.exp_coe]

theorem tot_real [Nonempty ι] {a : ι → EReal} {e : ι → ℝ} (he : ∀ j, ex a j = (e j : EReal)) : tot a = ((∑ j, e j : ℝ) : EReal) := by
  rw [tot, coe_sum]; exact Finset.sum_congr rfl fun j _ => he j

theorem dsRef_eq [Nonempty ι] {a d : ι → EReal} (ha : ∀ j, Fin' (a j)) (hd : ∀ j, Fin' (d j)) (j : ι) : dsRef a d j = ds a d j := by
  obtain ⟨e, hpos, he⟩ := ex_real ha
  have ht := tot_real he
  choose g hg using hd
  have hL : (0 : ℝ) < ∑ j, e j := Finset.sum_pos (fun j _ => hpos j) Finset.univ_nonempty
  set L : ℝ := ∑ j, e j with hLdef
  have hp : ∀ i, pr a i = ((e i / L : ℝ) : EReal) := fun i => by rw [pr, he, ht, div_coe_coe _ _ hL.ne']
  have h1 : Ideal.div 1 (tot a * tot a) = ((1 / (L * L) : ℝ) : EReal) := by
    rw [ht, ← EReal.coe_mul, ← EReal.coe_one, div_coe_coe _ _ (mul_pos hL hL).ne']
  have hs : ∑ i, pr a i * d i = ((∑ i, e i / L * g i : ℝ) : EReal) := by
    rw [coe_sum]; exact Finset.sum_congr rfl fun i _ => by rw [hp, hg, ← EReal.coe_mul]
  have hs' : ∑ i, d i * Ideal.div 1 (tot a * tot a) * ex a i = ((∑ i, g i * (1 / (L * L)) * e i : ℝ) : EReal) := by
    rw [coe_sum]; exact Finset.sum_congr rfl fun i _ => by rw [h1, he, hg, ← EReal.coe_mul, ← EReal.coe_mul]
  rw [dsRef, ds, hs, hs', hp, ht, he, hg, div_coe_coe _ _ hL.ne', zero_add, zero_add, ← EReal.coe_neg, ← EReal.coe_add, ← EReal.coe_mul,
    ← EReal.coe_sub, ← EReal.coe_mul]
  congr 1
  have hsum : ∑ i, g i * (1 / (L * L)) * e i = (∑ i, e i / L * g i) / L := by
    rw [Finset.sum_div]; exact Finset.sum_congr rfl fun i _ => by field_simp
  rw [hsum]
  field_simp
  ring

end Cert.Soft

end
-- ==== Proof.MemTile.lean ====
module

public import proofs.«01_k».proof.Proof.Gen.MemIdeal.Value
public import proofs.«01_k».proof.Proof.Soft
public import Idealize.ShloMosaic.Lib.Pipeline.ValueKit

@[expose] public section

set_option maxRecDepth 16384

noncomputable section

namespace Cert.MemIdeal.Value

open Cert.MemIdeal Cert.MemIdeal.Gen Idealize.ShloMosaic Idealize.ShloMosaic.TcCoe Idealize.SL.Sem
open Idealize.ShloMosaic.Pipeline (Dat)

/-- The scaling of the scores. -/
abbrev sc : EReal := Ideal.ofBits .f32 0x3DB504F3#32

/-- A row of scores. -/
def score (q : Fin 128 → EReal) (k : Fin 256 → Fin 128 → EReal) (m : Fin 256) : EReal := (∑ d : Fin 128, q d * k m d) * sc

/-- A row of the weights' gradients. -/
def wgrad (o : Fin 128 → EReal) (v : Fin 256 → Fin 128 → EReal) (m : Fin 256) : EReal := ∑ d : Fin 128, o d * v m d

theorem bits_bot : Ideal.ofBits .f32 0xFF800000#32 = ⊥ := by simp [Ideal.ofBits, Ideal.ieee]

theorem pay_p (q : Vec Ideal S512x128 .f32) (k : Vec Ideal S256x128 .f32) (r : Fin 512) (m : Fin 256) :
    k0_pay4 q k (ix2 r m) = Soft.pr (score (fun d => q (ix2 r d)) (fun m d => k (ix2 m d))) m := by
  pointwise [k0_pay4]
  rw [bits_bot]
  rfl

theorem pay_ds (q o : Vec Ideal S512x128 .f32) (k v : Vec Ideal S256x128 .f32) (r : Fin 512) (m : Fin 256) :
    k0_pay5 q k v o (ix2 r m)
      = Soft.ds (score (fun d => q (ix2 r d)) (fun m d => k (ix2 m d))) (wgrad (fun d => o (ix2 r d)) (fun m d => v (ix2 m d))) m * sc := by
  pointwise [k0_pay5]
  simp only [pay_p]
  rfl

theorem pay_dq (q o : Vec Ideal S512x128 .f32) (k v : Vec Ideal S256x128 .f32) (r : Fin 512) (d : Fin 128) :
    k0_pay6 q k v o (ix2 r d) = ∑ m : Fin 256,
      Soft.ds (score (fun d => q (ix2 r d)) (fun m d => k (ix2 m d))) (wgrad (fun d => o (ix2 r d)) (fun m d => v (ix2 m d))) m * sc * k (ix2 m d) := by
  pointwise [k0_pay6]
  simp only [pay_ds]

theorem pay_dk (q : Vec Ideal S512x128 .f32) (w : FVec Ideal S512x256 .f32) (a : Vec Ideal S256x128 .f32) (m : Fin 256) (d : Fin 128) :
    k0_pay7 q w a (ix2 m d) = a (ix2 m d) + ∑ r : Fin 512, w (ix2 r m) * q (ix2 r d) := by
  pointwise [k0_pay7]

theorem pay_zero (j : S256x1024.Idx) : k0_pay3 (F := Ideal) j = 0 := by
  pointwise [k0_pay3]

/- The other heads' arithmetic is the first's. -/
theorem h1_p : k0_pay9 (F := Ideal) = k0_pay4 := rfl
theorem h1_ds (q o : Vec Ideal S512x128 .f32) (k v : Vec Ideal S256x128 .f32) :
    k0_pay11 (F := Ideal) (k0_pay4 q k) (k0_pay10 v o) = k0_pay5 q k v o := rfl
theorem h1_dq (q o : Vec Ideal S512x128 .f32) (k v : Vec Ideal S256x128 .f32) :
    k0_pay12 (F := Ideal) k (k0_pay4 q k) (k0_pay10 v o) = k0_pay6 q k v o := rfl
theorem h1_dk (q o : Vec Ideal S512x128 .f32) (k v a : Vec Ideal S256x128 .f32) :
    k0_pay13 (F := Ideal) q (k0_pay4 q k) (k0_pay10 v o) a = k0_pay7 q (k0_pay5 q k v o) a := rfl
theorem h1_dv : k0_pay14 (F := Ideal) = k0_pay7 := rfl
theorem h0_dv : k0_pay8 (F := Ideal) = k0_pay7 := rfl
theorem h3_dk : k0_pay1 (F := Ideal) = k0_pay7 := rfl
theorem h3_dv : k0_pay2 (F := Ideal) = k0_pay7 := rfl
theorem h2_dq (q o : Vec Ideal S512x128 .f32) (k v : Vec Ideal S256x128 .f32) :
    k0_pay19 (F := Ideal) k v o (k0_pay15 q) (k0_pay16 k) (constant S512x256 .f32 0x00000000#32) = k0_pay6 q k v o := rfl
theorem h2_dk (q o : Vec Ideal S512x128 .f32) (k v a : Vec Ideal S256x128 .f32) :
    k0_pay20 (F := Ideal) q v o (k0_pay15 q) (k0_pay16 k) (constant S512x256 .f32 0x00000000#32) a = k0_pay7 q (k0_pay5 q k v o) a := rfl
theorem h2_dv (q o : Vec Ideal S512x128 .f32) (k a : Vec Ideal S256x128 .f32) :
    k0_pay21 (F := Ideal) o (k0_pay15 q) (k0_pay16 k) (constant S512x256 .f32 0x00000000#32) a = k0_pay7 o (k0_pay4 q k) a := rfl
theorem h3_p : k0_pay22 (F := Ideal) = k0_pay4 := rfl
theorem h3_ds : k0_pay23 (F := Ideal) = k0_pay5 := rfl
theorem h3_dq : k0_pay24 (F := Ideal) = k0_pay6 := rfl

end Cert.MemIdeal.Value

end
-- ==== Proof.MemPiece.lean ====
module

public import proofs.«01_k».proof.Proof.MemTile
public import Idealize.ShloMosaic.Lib.Pipeline.ReadBack

@[expose] public section

set_option maxRecDepth 16384

noncomputable section

namespace Cert.MemIdeal.Value

open Cert.MemIdeal Cert.MemIdeal.Gen Idealize.ShloMosaic Idealize.ShloMosaic.TcCoe Idealize.SL.Sem
open Idealize.ShloMosaic.Pipeline (Dat)

variable (m : (ℓ : Loc nD τ sig) → Buf (Elt Ideal) ℓ)

/-- Column `d` of head `h`. -/
def col (h : Fin 4) (d : Fin 128) : Fin 512 := ⟨128 * h.val + d.val, by omega⟩
/-- The same column among the keys. -/
def kcol (h : Fin 4) (d : Fin 128) : Fin 1024 := ⟨128 * h.val + d.val, by omega⟩
/-- The same column among the values. -/
def vcol (h : Fin 4) (d : Fin 128) : Fin 1024 := ⟨512 + (128 * h.val + d.val), by omega⟩

/-- The scores of query row `r` in head `h`. -/
def SC (Q : Vec Ideal S8192x512 .f32) (KV : Vec Ideal S256x1024 .f32) (h : Fin 4) (r : Fin 8192) : Fin 256 → EReal :=
  score (fun d => Q (ix2 r (col h d))) (fun m d => KV (ix2 m (kcol h d)))

/-- The gradients of the weights of query row `r` in head `h`. -/
def DP (KV : Vec Ideal S256x1024 .f32) (O : Vec Ideal S8192x512 .f32) (h : Fin 4) (r : Fin 8192) : Fin 256 → EReal :=
  wgrad (fun d => O (ix2 r (col h d))) (fun m d => KV (ix2 m (vcol h d)))

/-- The scaled gradient of the scores. -/
def DS (Q : Vec Ideal S8192x512 .f32) (KV : Vec Ideal S256x1024 .f32) (O : Vec Ideal S8192x512 .f32) (h : Fin 4) (r : Fin 8192) (m : Fin 256) : EReal :=
  Soft.ds (SC Q KV h r) (DP KV O h r) m * sc

/-- The gradient of the queries. -/
def DQ (Q : Vec Ideal S8192x512 .f32) (KV : Vec Ideal S256x1024 .f32) (O : Vec Ideal S8192x512 .f32) (h : Fin 4) (r : Fin 8192) (d : Fin 128) : EReal :=
  ∑ m : Fin 256, DS Q KV O h r m * KV (ix2 m (kcol h d))

/-- The head of a column, and its place in the head. -/
def hd (x : Fin 512) : Fin 4 := ⟨x.val / 128, by omega⟩
def ln (x : Fin 512) : Fin 128 := ⟨x.val % 128, by omega⟩

/-- What query row `R` adds to entry `(a, x)` of the gradient of the keys and values. -/
def rowTerm (Q : Vec Ideal S8192x512 .f32) (KV : Vec Ideal S256x1024 .f32) (O : Vec Ideal S8192x512 .f32) (a : Fin 256) (x : Fin 1024) (R : Fin 8192) : EReal :=
  if h : x.val < 512 then DS Q KV O (hd ⟨x.val, h⟩) R a * Q (ix2 R ⟨x.val, h⟩)
  else Soft.pr (SC Q KV (hd ⟨x.val - 512, by omega⟩) R) a * O (ix2 R ⟨x.val - 512, by omega⟩)

/-- Row `r` of point `t`'s block. -/
def row (t : Fin cfg0.N) (r : Fin 512) : Fin 8192 := ⟨t.val * 512 + r.val, by have h := t.isLt; have e : cfg0.N = 16 := N_0; omega⟩

/-- What point `t` adds. -/
def part (Q : Vec Ideal S8192x512 .f32) (KV : Vec Ideal S256x1024 .f32) (O : Vec Ideal S8192x512 .f32) (t : Fin cfg0.N) (a : Fin 256) (x : Fin 1024) : EReal :=
  ∑ r : Fin 512, rowTerm Q KV O a x (row t r)

/-- The arguments of the call on device `c`. -/
abbrev argQ (c : Dev nD) : Vec Ideal S8192x512 .f32 := m ((c : Thread nD τ).loc main_arg0)
abbrev argKV (c : Dev nD) : Vec Ideal S256x1024 .f32 := m ((c : Thread nD τ).loc main_arg1)
abbrev argO (c : Dev nD) : Vec Ideal S8192x512 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] ∧ win0_4.index t = ![0, 0] := (by decide +kernel : ∀ t : Fin grid0.N, _)

theorem blk_q (c : Dev nD) (t : Fin cfg0.N) (x : S512x512.Idx) (i : S8192x512.Idx) (h0 : (i 0 : ℕ) = t.val * 512 + x 0) (h1 : (i 1 : ℕ) = x 1) :
    (iblk m c 0 t : Vec Ideal S512x512 .f32) x = argQ m c i := by
  blk_ext [iblk, V, idx t]

theorem blk_o (c : Dev nD) (t : Fin cfg0.N) (x : S512x512.Idx) (i : S8192x512.Idx) (h0 : (i 0 : ℕ) = t.val * 512 + x 0) (h1 : (i 1 : ℕ) = x 1) :
    (iblk m c 2 t : Vec Ideal S512x512 .f32) x = argO m c i := by
  blk_ext [iblk, V, idx t]

theorem blk_kv (c : Dev nD) (t : Fin cfg0.N) (x : S256x1024.Idx) :
    (iblk m c 1 t : Vec Ideal S256x1024 .f32) x = argKV m c x := by
  blk_ext [iblk, V, idx t]

/-- The columns of one head, as a point loads them. -/
abbrev qCols (c : Dev nD) (t : Fin cfg0.N) (off : ℕ) (iq : ∀ a, ![0, off] a + S512x128.size a ≤ S512x512.size a) : Vec Ideal S512x128 .f32 :=
  View.ld (iblk m c 0 t : Vec Ideal S512x512 .f32) (Rect.unit ![0, off] ![512, 128] iq)
abbrev oCols (c : Dev nD) (t : Fin cfg0.N) (off : ℕ) (iq : ∀ a, ![0, off] a + S512x128.size a ≤ S512x512.size a) : Vec Ideal S512x128 .f32 :=
  View.ld (iblk m c 2 t : Vec Ideal S512x512 .f32) (Rect.unit ![0, off] ![512, 128] iq)
abbrev kvCols (c : Dev nD) (t : Fin cfg0.N) (off : ℕ) (ik : ∀ a, ![0, off] a + S256x128.size a ≤ S256x1024.size a) : Vec Ideal S256x128 .f32 :=
  View.ld (iblk m c 1 t : Vec Ideal S256x1024 .f32) (Rect.unit ![0, off] ![256, 128] ik)

section Pieces

variable (c : Dev nD) (t : Fin cfg0.N) (h : Fin 4) (off vof : ℕ) (hoff : off = 128 * h.val) (hvof : vof = 512 + 128 * h.val)
  (iq : ∀ a, ![0, off] a + S512x128.size a ≤ S512x512.size a) (ik : ∀ a, ![0, off] a + S256x128.size a ≤ S256x1024.size a)
  (iv : ∀ a, ![0, vof] a + S256x128.size a ≤ S256x1024.size a)
include hoff

omit hoff in
theorem at_rows (X : Vec Ideal S512x512 .f32) (r : Fin 512) (d : Fin 128) (e : Fin 512) (he : e.val = off + d.val) :
    View.ld X (Rect.unit ![0, off] ![512, 128] iq) (ix2 r d) = X (ix2 r e) :=
  View.ld_unit_apply_of X ![0, off] ![512, 128] iq (ix2 r d) (ix2 r e) (fun a => match a with
    | ⟨0, _⟩ => by show r.val = 0 + r.val; omega
    | ⟨1, _⟩ => by show e.val = off + d.val; omega)

omit hoff in
theorem at_slots (X : Vec Ideal S256x1024 .f32) (r : Fin 256) (d : Fin 128) (e : Fin 1024) (he : e.val = off + d.val) :
    View.ld X (Rect.unit ![0, off] ![256, 128] ik) (ix2 r d) = X (ix2 r e) :=
  View.ld_unit_apply_of X ![0, off] ![256, 128] ik (ix2 r d) (ix2 r e) (fun a => match a with
    | ⟨0, _⟩ => by show r.val = 0 + r.val; omega
    | ⟨1, _⟩ => by show e.val = off + d.val; omega)

theorem ld_q (r : Fin 512) (d : Fin 128) (R : Fin 8192) (hR : R.val = t.val * 512 + r.val) :
    qCols m c t off iq (ix2 r d) = argQ m c (ix2 R (col h d)) :=
  (at_rows off iq (iblk m c 0 t) r d (col h d) (by show 128 * h.val + d.val = _; omega)).trans (blk_q m c t _ _ hR rfl)

theorem ld_o (r : Fin 512) (d : Fin 128) (R : Fin 8192) (hR : R.val = t.val * 512 + r.val) :
    oCols m c t off iq (ix2 r d) = argO m c (ix2 R (col h d)) :=
  (at_rows off iq (iblk m c 2 t) r d (col h d) (by show 128 * h.val + d.val = _; omega)).trans (blk_o m c t _ _ hR rfl)

theorem ld_k (a : Fin 256) (d : Fin 128) : kvCols m c t off ik (ix2 a d) = argKV m c (ix2 a (kcol h d)) :=
  (at_slots off ik (iblk m c 1 t) a d (kcol h d) (by show 128 * h.val + d.val = _; omega)).trans (blk_kv m c t _)

omit hoff in
include hvof in
theorem ld_v (a : Fin 256) (d : Fin 128) : kvCols m c t vof iv (ix2 a d) = argKV m c (ix2 a (vcol h d)) :=
  (at_slots vof iv (iblk m c 1 t) a d (vcol h d) (by show 512 + (128 * h.val + d.val) = _; omega)).trans (blk_kv m c t _)

include hvof

theorem tile_dq (r : Fin 512) (d : Fin 128) (R : Fin 8192) (hR : R.val = t.val * 512 + r.val) :
    k0_pay6 (qCols m c t off iq) (kvCols m c t off ik) (kvCols m c t vof iv) (oCols m c t off iq) (ix2 r d) = DQ (argQ m c) (argKV m c) (argO m c) h R d := by
  refine (pay_dq _ _ _ _ r d).trans ?_
  rw [DQ]
  refine Finset.sum_congr rfl fun a _ => ?_
  simp only [ld_k m c t h off hoff ik, ld_v m c t h vof hvof iv, ld_q m c t h off hoff iq r _ R hR, ld_o m c t h off hoff iq r _ R hR]
  rfl

theorem piece_dq (x : S512x128.Idx) (i : S8192x512.Idx) (h0 : (i 0 : ℕ) = t.val * 512 + x 0) (h1 : (i 1 : ℕ) = off + x 1) :
    k0_pay6 (qCols m c t off iq) (kvCols m c t off ik) (kvCols m c t vof iv) (oCols m c t off iq) x
      = DQ (argQ m c) (argKV m c) (argO m c) (hd (i 1)) (i 0) (ln (i 1)) := by
  have hx : x = ix2 (x 0) (x 1) := funext fun a => match a with | ⟨0, _⟩ => rfl | ⟨1, _⟩ => rfl
  have hx1 : (x 1 : ℕ) < 128 := (x 1).isLt
  have e1 : hd (i 1) = h := Fin.ext (by show (i 1 : ℕ) / 128 = h; omega)
  have e2 : ln (i 1) = x 1 := Fin.ext (by show (i 1 : ℕ) % 128 = x 1; omega)
  rw [e1, e2]
  exact (congrArg (k0_pay6 (qCols m c t off iq) (kvCols m c t off ik) (kvCols m c t vof iv) (oCols m c t off iq)) hx).trans
    (tile_dq m c t h off vof hoff hvof iq ik iv (x 0) (x 1) (i 0) h0)

theorem tile_dk (acc : Vec Ideal S256x128 .f32) (a : Fin 256) (d : Fin 128) (X : Fin 1024) (hX : X.val = off + d.val) :
    k0_pay7 (qCols m c t off iq) (k0_pay5 (qCols m c t off iq) (kvCols m c t off ik) (kvCols m c t vof iv) (oCols m c t off iq)) acc (ix2 a d)
      = acc (ix2 a d) + part (argQ m c) (argKV m c) (argO m c) t a X := by
  have hlt : X.val < 512 := by omega
  have e1 : hd ⟨X.val, hlt⟩ = h := Fin.ext (by show X.val / 128 = h; omega)
  have e2 : (⟨X.val, hlt⟩ : Fin 512) = col h d := Fin.ext (by show X.val = 128 * h.val + d.val; omega)
  refine (pay_dk _ _ _ a d).trans (congrArg _ (Finset.sum_congr rfl fun r _ => ?_))
  rw [pay_ds, rowTerm, dif_pos hlt, e1, e2, ld_q m c t h off hoff iq r d (row t r) rfl]
  refine congrArg (· * _) ?_
  simp only [ld_k m c t h off hoff ik, ld_v m c t h vof hvof iv, ld_q m c t h off hoff iq r _ (row t r) rfl, ld_o m c t h off hoff iq r _ (row t r) rfl]
  rfl

theorem piece_dk (acc : Vec Ideal S256x128 .f32) (x : S256x128.Idx) (y : S256x1024.Idx) (h0 : (y 0 : ℕ) = x 0) (h1 : (y 1 : ℕ) = off + x 1) :
    k0_pay7 (qCols m c t off iq) (k0_pay5 (qCols m c t off iq) (kvCols m c t off ik) (kvCols m c t vof iv) (oCols m c t off iq)) acc x
      = acc x + part (argQ m c) (argKV m c) (argO m c) t (y 0) (y 1) := by
  have hx : ix2 (x 0) (x 1) = x := funext fun a => match a with | ⟨0, _⟩ => rfl | ⟨1, _⟩ => rfl
  have e0 : y 0 = x 0 := Fin.ext h0
  have := tile_dk m c t h off vof hoff hvof iq ik iv acc (x 0) (x 1) (y 1) h1
  rw [e0]
  exact (congrArg _ hx.symm).trans (this.trans (congrArg (acc · + _) hx))

omit hvof in
theorem tile_dv (acc : Vec Ideal S256x128 .f32) (a : Fin 256) (d : Fin 128) (X : Fin 1024) (hX : X.val = 512 + off + d.val) :
    k0_pay7 (oCols m c t off iq) (k0_pay4 (qCols m c t off iq) (kvCols m c t off ik)) acc (ix2 a d)
      = acc (ix2 a d) + part (argQ m c) (argKV m c) (argO m c) t a X := by
  have hlt : ¬ X.val < 512 := by omega
  have hs : X.val - 512 < 512 := by omega
  have e1 : hd ⟨X.val - 512, hs⟩ = h := Fin.ext (by show (X.val - 512) / 128 = h; omega)
  have e2 : (⟨X.val - 512, hs⟩ : Fin 512) = col h d := Fin.ext (by show X.val - 512 = 128 * h.val + d.val; omega)
  refine (pay_dk _ _ _ a d).trans (congrArg _ (Finset.sum_congr rfl fun r _ => ?_))
  rw [pay_p, rowTerm, dif_neg hlt, e1, e2, ld_o m c t h off hoff iq r d (row t r) rfl]
  refine congrArg (· * _) ?_
  simp only [ld_k m c t h off hoff ik, ld_q m c t h off hoff iq r _ (row t r) rfl]
  rfl

omit hvof in
theorem piece_dv (acc : Vec Ideal S256x128 .f32) (x : S256x128.Idx) (y : S256x1024.Idx) (h0 : (y 0 : ℕ) = x 0) (h1 : (y 1 : ℕ) = 512 + off + x 1) :
    k0_pay7 (oCols m c t off iq) (k0_pay4 (qCols m c t off iq) (kvCols m c t off ik)) acc x
      = acc x + part (argQ m c) (argKV m c) (argO m c) t (y 0) (y 1) := by
  have hx : ix2 (x 0) (x 1) = x := funext fun a => match a with | ⟨0, _⟩ => rfl | ⟨1, _⟩ => rfl
  have e0 : y 0 = x 0 := Fin.ext h0
  have := tile_dv m c t h off hoff iq ik acc (x 0) (x 1) (y 1) h1
  rw [e0]
  exact (congrArg _ hx.symm).trans (this.trans (congrArg (acc · + _) hx))

end Pieces

end Cert.MemIdeal.Value

end
-- ==== Proof.MemFwd.lean ====
/- The kernel of the memory attention: each head's weights, a softmax of the scaled scores, times its values. -/
module

public import proofs.«01_k».proof.Defs
public import proofs.«01_k».proof.Proof.Gen.MemFwdIdeal
public import proofs.«01_k».proof.Proof.Gen.MemFwdIdeal.Skeleton
public import proofs.«01_k».proof.Proof.Gen.MemFwdIdeal.Launch
public import proofs.«01_k».proof.Proof.Gen.MemFwdIdeal.Points
public import proofs.«01_k».proof.Proof.Gen.MemFwdIdeal.Frame
public import proofs.«01_k».proof.Proof.Gen.MemFwdIdeal.Value
public import proofs.«01_k».proof.Proof.Gen.MemFwdRefIdeal
public import proofs.«01_k».proof.Proof.Gen.MemFwdRefIdeal.Run
public import proofs.«01_k».proof.Proof.Gen.MemFwdRefIdeal.Read
public import proofs.«01_k».proof.Proof.MemPiece
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.MemFwdIdeal.Value

open Cert.MemFwdIdeal Cert.MemFwdIdeal.Gen Idealize.ShloMosaic Idealize.ShloMosaic.TcCoe Idealize.SL.Sem
open Idealize.ShloMosaic.Pipeline (Dat)

variable (m : (ℓ : Loc nD τ sig) → Buf (Elt Ideal) ℓ)

open Cert.MemIdeal.Value (score SC sc col kcol vcol hd ln bits_bot)

theorem idx : ∀ t : Fin cfg0.N, win0_0.index t = ![t.val, 0] ∧ win0_1.index t = ![0, 0] ∧ win0_2.index t = ![t.val, 0] :=
  (by decide +kernel : ∀ t : Fin grid0.N, _)

theorem pay (q : Vec Ideal S512x128 .f32) (k v : Vec Ideal S256x128 .f32) (r : Fin 512) (d : Fin 128) :
    k0_pay2 q k v (ix2 r d) = ∑ a : Fin 256, Soft.pr (score (fun d => q (ix2 r d)) (fun a d => k (ix2 a d))) a * v (ix2 a d) := by
  pointwise [k0_pay2]
  rw [bits_bot]
  rfl

theorem h1 (q : Vec Ideal S512x128 .f32) (k v : Vec Ideal S256x128 .f32) : k0_pay4 (F := Ideal) v (k0_pay3 q k) = k0_pay2 q k v := rfl
theorem h2 : k0_pay5 (F := Ideal) = k0_pay2 := rfl
theorem h3 (q : Vec Ideal S512x128 .f32) (k v : Vec Ideal S256x128 .f32) : k0_pay1 (F := Ideal) v (k0_pay6 q) (k0_pay7 k) = k0_pay2 q k v := rfl

/-- The output of query row `R` in head `h`. -/
def OUT (Q : Vec Ideal S8192x512 .f32) (KV : Vec Ideal S256x1024 .f32) (h : Fin 4) (R : Fin 8192) (d : Fin 128) : EReal :=
  ∑ a : Fin 256, Soft.pr (SC Q KV h R) a * KV (ix2 a (vcol h d))

variable (c : Dev nD)

/-- The arguments of the call on device `c`. -/
abbrev argQ : Vec Ideal S8192x512 .f32 := m ((c : Thread nD τ).loc main_arg0)
abbrev argKV : Vec Ideal S256x1024 .f32 := m ((c : Thread nD τ).loc main_arg1)

theorem blk_q (t : Fin cfg0.N) (x : S512x512.Idx) (i : S8192x512.Idx) (h0 : (i 0 : ℕ) = t.val * 512 + x 0) (h1 : (i 1 : ℕ) = x 1) :
    (iblk m c 0 t : Vec Ideal S512x512 .f32) x = argQ m c i := by
  blk_ext [iblk, V, idx t]

theorem blk_kv (t : Fin cfg0.N) (x : S256x1024.Idx) : (iblk m c 1 t : Vec Ideal S256x1024 .f32) x = argKV m c x := by
  blk_ext [iblk, V, idx t]

section Pieces

variable (t : Fin cfg0.N) (h : Fin 4) (off vof : ℕ) (hoff : off = 128 * h.val) (hvof : vof = 512 + 128 * h.val)
  (iq : ∀ a, ![0, off] a + S512x128.size a ≤ S512x512.size a) (ik : ∀ a, ![0, off] a + S256x128.size a ≤ S256x1024.size a)
  (iv : ∀ a, ![0, vof] a + S256x128.size a ≤ S256x1024.size a)

/-- The columns of one head, as a point loads them. -/
abbrev qCols : Vec Ideal S512x128 .f32 := View.ld (iblk m c 0 t : Vec Ideal S512x512 .f32) (Rect.unit ![0, off] ![512, 128] iq)
abbrev kvCols : Vec Ideal S256x128 .f32 := View.ld (iblk m c 1 t : Vec Ideal S256x1024 .f32) (Rect.unit ![0, off] ![256, 128] ik)

include hoff in
theorem ld_q (r : Fin 512) (d : Fin 128) (R : Fin 8192) (hR : R.val = t.val * 512 + r.val) :
    qCols m c t off iq (ix2 r d) = argQ m c (ix2 R (col h d)) :=
  (Cert.MemIdeal.Value.at_rows off iq (iblk m c 0 t) r d (col h d) (by show 128 * h.val + d.val = _; omega)).trans (blk_q m c t _ _ hR rfl)

include hoff in
theorem ld_k (a : Fin 256) (d : Fin 128) : kvCols m c t off ik (ix2 a d) = argKV m c (ix2 a (kcol h d)) :=
  (Cert.MemIdeal.Value.at_slots off ik (iblk m c 1 t) a d (kcol h d) (by show 128 * h.val + d.val = _; omega)).trans (blk_kv m c t _)

include hvof in
theorem ld_v (a : Fin 256) (d : Fin 128) : kvCols m c t vof iv (ix2 a d) = argKV m c (ix2 a (vcol h d)) :=
  (Cert.MemIdeal.Value.at_slots vof iv (iblk m c 1 t) a d (vcol h d) (by show 512 + (128 * h.val + d.val) = _; omega)).trans (blk_kv m c t _)

include hoff hvof in
theorem tile (r : Fin 512) (d : Fin 128) (R : Fin 8192) (hR : R.val = t.val * 512 + r.val) :
    k0_pay2 (qCols m c t off iq) (kvCols m c t off ik) (kvCols m c t vof iv) (ix2 r d) = OUT (argQ m c) (argKV m c) h R d := by
  refine (pay _ _ _ r d).trans ?_
  rw [OUT]
  refine Finset.sum_congr rfl fun a _ => ?_
  simp only [ld_k m c t h off hoff ik, ld_v m c t h vof hvof iv, ld_q m c t h off hoff iq r _ R hR]
  rfl

include hoff hvof in
theorem piece (x : S512x128.Idx) (i : S8192x512.Idx) (h0 : (i 0 : ℕ) = t.val * 512 + x 0) (h1 : (i 1 : ℕ) = off + x 1) :
    k0_pay2 (qCols m c t off iq) (kvCols m c t off ik) (kvCols m c t vof iv) x = OUT (argQ m c) (argKV m c) (hd (i 1)) (i 0) (ln (i 1)) := by
  have hx : x = ix2 (x 0) (x 1) := funext fun a => match a with | ⟨0, _⟩ => rfl | ⟨1, _⟩ => rfl
  have hx1 : (x 1 : ℕ) < 128 := (x 1).isLt
  have e1 : hd (i 1) = h := Fin.ext (by show (i 1 : ℕ) / 128 = h; omega)
  have e2 : ln (i 1) = x 1 := Fin.ext (by show (i 1 : ℕ) % 128 = x 1; omega)
  rw [e1, e2]
  exact (congrArg (k0_pay2 (qCols m c t off iq) (kvCols m c t off ik) (kvCols m c t vof iv)) hx).trans
    (tile m c t h off vof hoff hvof iq ik iv (x 0) (x 1) (i 0) h0)

end Pieces

theorem point (t : Fin cfg0.N) (y : S512x512.Idx) (i : S8192x512.Idx) (hi0 : (i 0 : ℕ) = t.val * 512 + y 0) (hi1 : (i 1 : ℕ) = y 1) :
    out0_2 (iblk m c 0 t) (iblk m c 1 t) y = OUT (argQ m c) (argKV m c) (hd (i 1)) (i 0) (ln (i 1)) := by
  frame_out
  simp only [h1, h2, h3]
  canon_tiles x h
  case piece0 => exact piece m c t 3 384 896 rfl rfl _ _ _ x i (by omega) (by omega)
  case piece1 => exact piece m c t 2 256 768 rfl rfl _ _ _ x i (by omega) (by omega)
  case piece2 => exact piece m c t 1 128 640 rfl rfl _ _ _ x i (by omega) (by omega)
  case piece3 => exact piece m c t 0 0 512 rfl rfl _ _ _ x i (by omega) (by omega)

section Reference

open Cert.MemFwdRefIdeal.Read

variable (Q : Vec Ideal S8192x512 .f32) (KV : Vec Ideal S256x1024 .f32)

theorem at_v8 (h : Fin 4) (r : Fin 8192) (a : Fin 256) : val_main_v8 (F := Ideal) Q KV (ix4 0 h r a) = SC Q KV h r a := by
  pointwise [val_main_v8, val_main_v7, val_main_cst, val_main_v6, val_main_v0, val_main_v4, val_main_v2, val_main_v1]
  refine congrArg (· * _) (Finset.sum_congr rfl fun x _ => congrArg₂ (· * ·) (congrArg Q ?_) (congrArg KV ?_))
  · exact congrArg (ix2 r) (Fin.ext (by show h.val * 128 + x.val = 128 * h.val + x.val; omega))
  · exact congrArg (ix2 a) (Fin.ext (by show h.val * 128 + x.val = 128 * h.val + x.val; omega))

theorem at_v9 (h : Fin 4) (r : Fin 8192) : val_main_v9 (F := Ideal) Q KV (ix3 0 h r) = Soft.top (SC Q KV h r) := by
  pointwise [val_main_v9, val_main_cst_0]
  simp only [at_v8, bits_bot]
  rfl

/-- The places a broadcast along the last axis reads. -/
theorem e_v13 (h : Fin 4) (r : Fin 8192) (a : Fin 256) : idx_main_v12 (idx_main_v13 (ix4 0 h r a)) = ix3 0 h r :=
  funext fun b => match b with | ⟨0, _⟩ => rfl | ⟨1, _⟩ => rfl | ⟨2, _⟩ => rfl
theorem e_v18 (h : Fin 4) (r : Fin 8192) (a : Fin 256) : idx_main_v17 (idx_main_v18 (ix4 0 h r a)) = ix3 0 h r :=
  funext fun b => match b with | ⟨0, _⟩ => rfl | ⟨1, _⟩ => rfl | ⟨2, _⟩ => rfl
theorem e_v16 (h : Fin 4) (r : Fin 8192) (a : Fin 256) : idx_main_v16 (ix3 0 h r) a = ix4 0 h r a :=
  funext fun b => match b with | ⟨0, _⟩ => rfl | ⟨1, _⟩ => rfl | ⟨2, _⟩ => rfl | ⟨3, _⟩ => rfl

theorem at_v15 (h : Fin 4) (r : Fin 8192) (a : Fin 256) : val_main_v15 (F := Ideal) Q KV (ix4 0 h r a) = Soft.ex (SC Q KV h r) a := by
  rw [val_main_v15_apply, val_main_v14_apply, val_main_v13_apply, val_main_v12_apply, e_v13, val_main_v11_apply, val_main_v10_apply,
    val_main_cst_1_apply, at_v9, at_v8]
  show Ideal.exp (SC Q KV h r a - max (Ideal.ofBits .f32 0xFF800000#32) (Soft.top (SC Q KV h r))) = _
  rw [bits_bot, max_eq_right bot_le]
  rfl

theorem at_v16 (h : Fin 4) (r : Fin 8192) : val_main_v16 (F := Ideal) Q KV (ix3 0 h r) = Soft.tot (SC Q KV h r) := by
  rw [val_main_v16_apply, val_main_cst_2_apply]
  show Ideal.ofBits .f32 0x00000000#32 + _ = _
  rw [show Ideal.ofBits .f32 0x00000000#32 = 0 by simp [Ideal.ofBits, Ideal.ieee], zero_add]
  exact Finset.sum_congr rfl fun a _ => (congrArg _ (e_v16 h r a)).trans (at_v15 Q KV h r a)

theorem at_v19 (h : Fin 4) (r : Fin 8192) (a : Fin 256) : val_main_v19 (F := Ideal) Q KV (ix4 0 h r a) = Soft.pr (SC Q KV h r) a := by
  rw [val_main_v19_apply, val_main_v18_apply, val_main_v17_apply, e_v18, at_v15, at_v16]
  rfl

theorem ref (i : S8192x512.Idx) : val_main_v23 (F := Ideal) Q KV i = OUT Q KV (hd (i 1)) (i 0) (ln (i 1)) := by
  rw [← ix2_eta i]
  pointwise [val_main_v23, val_main_v22, val_main_v21, val_main_v20, val_main_v5, val_main_v3, val_main_v1]
  refine Finset.sum_congr rfl fun a _ => ?_
  refine (mul_comm (G := EReal) _ _).trans ?_
  exact congrArg₂ (· * ·) (at_v19 Q KV _ _ a) (congrArg KV (congrArg (ix2 a) (Fin.ext (by simp [vcol, hd, ln] <;> omega))))

end Reference

theorem final : (dats m 0 c).arrAt 2 (cfgs 0).N = Cert.MemFwdRefIdeal.Read.val_main_v23 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (point m c t y _ (by blk_simp [idx t]) (by blk_simp [idx t])).trans (ref _ _ _).symm

end Cert.MemFwdIdeal.Value

end
-- ==== Proof.MemFinal.lean ====
module

public import proofs.«01_k».proof.Proof.MemPiece

@[expose] public section

set_option maxRecDepth 16384

noncomputable section

namespace Cert.MemIdeal.Value

open Cert.MemIdeal Cert.MemIdeal.Gen Idealize.ShloMosaic Idealize.ShloMosaic.TcCoe Idealize.SL.Sem
open Idealize.ShloMosaic.Pipeline (Dat)

variable (m : (ℓ : Loc nD τ sig) → Buf (Elt Ideal) ℓ)

theorem point_dq (c : Dev nD) (t : Fin cfg0.N) (y : S512x512.Idx) (i : S8192x512.Idx) (hi0 : (i 0 : ℕ) = t.val * 512 + y 0) (hi1 : (i 1 : ℕ) = y 1) :
    (outsAt0 m c t.val t.isLt).1 y
      = DQ (argQ m c) (argKV m c) (argO m c) (hd (i 1)) (i 0) (ln (i 1)) := by
  by_cases h0 : t.val % 16 = 0
  · rw [outsAt0_A m c t h0]
    frame_out
    simp only [h1_p, h1_dq, h2_dq, h3_dq]
    canon_tiles x h
    case piece0 => exact piece_dq m c t 3 384 896 rfl rfl _ _ _ x i (by omega) (by omega)
    case piece1 => exact piece_dq m c t 2 256 768 rfl rfl _ _ _ x i (by omega) (by omega)
    case piece2 => exact piece_dq m c t 1 128 640 rfl rfl _ _ _ x i (by omega) (by omega)
    case piece3 => exact piece_dq m c t 0 0 512 rfl rfl _ _ _ x i (by omega) (by omega)
  · rw [outsAt0_B m c t h0]
    frame_out
    simp only [h1_p, h1_dq, h2_dq, h3_dq]
    canon_tiles x h
    case piece0 => exact piece_dq m c t 3 384 896 rfl rfl _ _ _ x i (by omega) (by omega)
    case piece1 => exact piece_dq m c t 2 256 768 rfl rfl _ _ _ x i (by omega) (by omega)
    case piece2 => exact piece_dq m c t 1 128 640 rfl rfl _ _ _ x i (by omega) (by omega)
    case piece3 => exact piece_dq m c t 0 0 512 rfl rfl _ _ _ x i (by omega) (by omega)

section Slots

variable (off : ℕ) (ik : ∀ a, ![0, off] a + S256x128.size a ≤ S256x1024.size a) (x : S256x128.Idx)

theorem emb_slot : ((Rect.unit (s := S256x1024) ![0, off] ![256, 128] ik).emb x 0 : ℕ) = x 0 :=
  (ValueKit.rect_emb_unit_val (s := S256x1024) ![0, off] ![256, 128] ik x 0).trans (Nat.zero_add _)

theorem emb_lane : ((Rect.unit (s := S256x1024) ![0, off] ![256, 128] ik).emb x 1 : ℕ) = off + x 1 :=
  ValueKit.rect_emb_unit_val (s := S256x1024) ![0, off] ![256, 128] ik x 1

theorem ld_slot (X : Vec Ideal S256x1024 .f32) :
    View.ld X (Rect.unit ![0, off] ![256, 128] ik) x = X ((Rect.unit (s := S256x1024) ![0, off] ![256, 128] ik).emb x) :=
  View.ld_unit_apply_of X ![0, off] ![256, 128] ik x _ (fun a => ValueKit.rect_emb_unit_val (s := S256x1024) ![0, off] ![256, 128] ik x a)

theorem zero_slot (X : Vec Ideal S256x1024 .f32) (hX : ∀ i, X i = 0) : View.ld X (Rect.unit ![0, off] ![256, 128] ik) x = 0 :=
  (ld_slot off ik x X).trans (hX _)

end Slots

theorem point_kvA (c : Dev nD) (t : Fin cfg0.N) (h0 : t.val % 16 = 0) (y : S256x1024.Idx) :
    (outsAt0 m c t.val t.isLt).2 y = 0 + part (argQ m c) (argKV m c) (argO m c) t (y 0) (y 1) := by
  rw [outsAt0_A m c t h0]
  frame_open
  simp (disch := decide) only [↓ View.readCov_skip, ↓ View.readCov_cons_toLoadRect, ↓ View.readCov_fill]
  frame_out
  simp only [h1_p, h1_dk, h1_ds, h1_dv, h0_dv, h2_dk, h2_dv, h3_p, h3_ds, h3_dk, h3_dv]
  refine View.canon_append_of_piecesOf (Val := Elt Ideal) (e := .f32) (fun y : S256x1024.Idx => (0 : EReal) + part (argQ m c) (argKV m c) (argO m c) t (y 0) (y 1)) [_] [_, _, _, _, _, _, _, _]
    ⟨?_, ?_, ?_, ?_, ?_, ?_, ?_, ?_, trivial⟩ y ?_
  · exact fun x => (piece_dv m c t 3 384 rfl _ _ _ x _ (emb_slot 896 inb_S256x1024_S256x128_0_896 x) (emb_lane 896 inb_S256x1024_S256x128_0_896 x)).trans (congrArg (· + _) (zero_slot 896 inb_S256x1024_S256x128_0_896 x (k0_pay3 (F := Ideal)) pay_zero))
  · exact fun x => (piece_dk m c t 3 384 896 rfl rfl _ _ _ _ x _ (emb_slot 384 inb_S256x1024_S256x128_0_384 x) (emb_lane 384 inb_S256x1024_S256x128_0_384 x)).trans (congrArg (· + _) (zero_slot 384 inb_S256x1024_S256x128_0_384 x (k0_pay3 (F := Ideal)) pay_zero))
  · exact fun x => (piece_dv m c t 2 256 rfl _ _ _ x _ (emb_slot 768 inb_S256x1024_S256x128_0_768 x) (emb_lane 768 inb_S256x1024_S256x128_0_768 x)).trans (congrArg (· + _) (zero_slot 768 inb_S256x1024_S256x128_0_768 x (k0_pay3 (F := Ideal)) pay_zero))
  · exact fun x => (piece_dk m c t 2 256 768 rfl rfl _ _ _ _ x _ (emb_slot 256 inb_S256x1024_S256x128_0_256 x) (emb_lane 256 inb_S256x1024_S256x128_0_256 x)).trans (congrArg (· + _) (zero_slot 256 inb_S256x1024_S256x128_0_256 x (k0_pay3 (F := Ideal)) pay_zero))
  · exact fun x => (piece_dv m c t 1 128 rfl _ _ _ x _ (emb_slot 640 inb_S256x1024_S256x128_0_640 x) (emb_lane 640 inb_S256x1024_S256x128_0_640 x)).trans (congrArg (· + _) (zero_slot 640 inb_S256x1024_S256x128_0_640 x (k0_pay3 (F := Ideal)) pay_zero))
  · exact fun x => (piece_dk m c t 1 128 640 rfl rfl _ _ _ _ x _ (emb_slot 128 inb_S256x1024_S256x128_0_128 x) (emb_lane 128 inb_S256x1024_S256x128_0_128 x)).trans (congrArg (· + _) (zero_slot 128 inb_S256x1024_S256x128_0_128 x (k0_pay3 (F := Ideal)) pay_zero))
  · exact fun x => (piece_dv m c t 0 0 rfl _ _ _ x _ (emb_slot 512 inb_S256x1024_S256x128_0_512 x) (emb_lane 512 inb_S256x1024_S256x128_0_512 x)).trans (congrArg (· + _) (zero_slot 512 inb_S256x1024_S256x128_0_512 x (k0_pay3 (F := Ideal)) pay_zero))
  · exact fun x => (piece_dk m c t 0 0 512 rfl rfl _ _ _ _ x _ (emb_slot 0 inb_S256x1024_S256x128_0_0 x) (emb_lane 0 inb_S256x1024_S256x128_0_0 x)).trans (congrArg (· + _) (zero_slot 0 inb_S256x1024_S256x128_0_0 x (k0_pay3 (F := Ideal)) pay_zero))
  · exact View.cover_of_tiledL _ ![256, 128] (by sl_kernel_rfl) y

theorem point_kvB (c : Dev nD) (t : Fin cfg0.N) (h0 : ¬ t.val % 16 = 0) (y : S256x1024.Idx) :
    (outsAt0 m c t.val t.isLt).2 y = (outsAt0 m c (t.val - 1) (by omega)).2 y + part (argQ m c) (argKV m c) (argO m c) t (y 0) (y 1) := by
  rw [outsAt0_B m c t h0]
  frame_open
  simp (disch := decide) only [↓ View.readCov_skip, ↓ View.readCov_cons_toLoadRect, ↓ View.readCov_fill]
  frame_out
  simp only [h1_p, h1_dk, h1_ds, h1_dv, h0_dv, h2_dk, h2_dv, h3_p, h3_ds, h3_dk, h3_dv]
  refine View.canon_append_of_piecesOf (Val := Elt Ideal) (e := .f32) (fun y : S256x1024.Idx => (outsAt0 m c (t.val - 1) (by omega)).2 y + part (argQ m c) (argKV m c) (argO m c) t (y 0) (y 1)) [] [_, _, _, _, _, _, _, _]
    ⟨?_, ?_, ?_, ?_, ?_, ?_, ?_, ?_, trivial⟩ y ?_
  · exact fun x => (piece_dv m c t 3 384 rfl _ _ _ x _ (emb_slot 896 inb_S256x1024_S256x128_0_896 x) (emb_lane 896 inb_S256x1024_S256x128_0_896 x)).trans (congrArg (· + _) (ld_slot 896 inb_S256x1024_S256x128_0_896 x _))
  · exact fun x => (piece_dk m c t 3 384 896 rfl rfl _ _ _ _ x _ (emb_slot 384 inb_S256x1024_S256x128_0_384 x) (emb_lane 384 inb_S256x1024_S256x128_0_384 x)).trans (congrArg (· + _) (ld_slot 384 inb_S256x1024_S256x128_0_384 x _))
  · exact fun x => (piece_dv m c t 2 256 rfl _ _ _ x _ (emb_slot 768 inb_S256x1024_S256x128_0_768 x) (emb_lane 768 inb_S256x1024_S256x128_0_768 x)).trans (congrArg (· + _) (ld_slot 768 inb_S256x1024_S256x128_0_768 x _))
  · exact fun x => (piece_dk m c t 2 256 768 rfl rfl _ _ _ _ x _ (emb_slot 256 inb_S256x1024_S256x128_0_256 x) (emb_lane 256 inb_S256x1024_S256x128_0_256 x)).trans (congrArg (· + _) (ld_slot 256 inb_S256x1024_S256x128_0_256 x _))
  · exact fun x => (piece_dv m c t 1 128 rfl _ _ _ x _ (emb_slot 640 inb_S256x1024_S256x128_0_640 x) (emb_lane 640 inb_S256x1024_S256x128_0_640 x)).trans (congrArg (· + _) (ld_slot 640 inb_S256x1024_S256x128_0_640 x _))
  · exact fun x => (piece_dk m c t 1 128 640 rfl rfl _ _ _ _ x _ (emb_slot 128 inb_S256x1024_S256x128_0_128 x) (emb_lane 128 inb_S256x1024_S256x128_0_128 x)).trans (congrArg (· + _) (ld_slot 128 inb_S256x1024_S256x128_0_128 x _))
  · exact fun x => (piece_dv m c t 0 0 rfl _ _ _ x _ (emb_slot 512 inb_S256x1024_S256x128_0_512 x) (emb_lane 512 inb_S256x1024_S256x128_0_512 x)).trans (congrArg (· + _) (ld_slot 512 inb_S256x1024_S256x128_0_512 x _))
  · exact fun x => (piece_dk m c t 0 0 512 rfl rfl _ _ _ _ x _ (emb_slot 0 inb_S256x1024_S256x128_0_0 x) (emb_lane 0 inb_S256x1024_S256x128_0_0 x)).trans (congrArg (· + _) (ld_slot 0 inb_S256x1024_S256x128_0_0 x _))
  · exact View.cover_of_tiledL _ ![256, 128] (by sl_kernel_rfl) y

/-- The gradient of the keys and values. -/
def DKV (Q : Vec Ideal S8192x512 .f32) (KV : Vec Ideal S256x1024 .f32) (O : Vec Ideal S8192x512 .f32) (a : Fin 256) (x : Fin 1024) : EReal :=
  ∑ R : Fin 8192, rowTerm Q KV O a x R

theorem sum_part (Q : Vec Ideal S8192x512 .f32) (KV : Vec Ideal S256x1024 .f32) (O : Vec Ideal S8192x512 .f32) (a : Fin 256) (x : Fin 1024) :
    ∑ t : Fin cfg0.N, part Q KV O t a x = DKV Q KV O a x :=
  Fin.sum_mul_add_congr fun s k hl => rfl

theorem final_kv (c : Dev nD) : (dats m 0 c).arrAt 4 (cfgs 0).N
    = (fun j => DKV (argQ m c) (argKV m c) (argO m c) (j 0) (j 1) : Vec Ideal S256x1024 .f32) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => point_kvA m c t h j) (fun t h j => point_kvB m c t h j) (le_of_eq N_0) t0_15 rfl j, zero_add]
  exact sum_part _ _ _ _ _

theorem final_q (c : Dev nD) : (dats m 0 c).arrAt 3 (cfgs 0).N
    = (fun i => DQ (argQ m c) (argKV m c) (argO m c) (hd (i 1)) (i 0) (ln (i 1)) : Vec Ideal S8192x512 .f32) := by
  refine (dats m 0 c).arrAt_eq_of_covers 3 _ (by decide +kernel) fun t hf y => ?_
  blk_simp
  rw [after0_3]
  exact point_dq m c t y _ (by blk_simp [idx t]) (by blk_simp [idx t])

end Cert.MemIdeal.Value

end
-- ==== Proof.MemPlain.lean ====
module

public import proofs.«01_k».proof.Proof.MemFinal
public import proofs.«01_k».proof.Proof.Gen.PlainIdeal.Read

@[expose] public section

set_option maxRecDepth 16384

noncomputable section

namespace Cert.PlainIdeal.Value

open Cert.PlainIdeal Cert.PlainIdeal.Gen Idealize.ShloMosaic
open Cert.PlainIdeal.Read
open Cert.MemIdeal.Value (col kcol vcol SC DP DS DQ DKV hd ln sc rowTerm)

variable (Q : Vec Ideal S8192x512 .f32) (KV : Vec Ideal S256x1024 .f32) (O : Vec Ideal S8192x512 .f32)

theorem at_v8 (h : Fin 4) (r : Fin 8192) (a : Fin 256) : val_main_v8 (F := Ideal) Q KV (ix4 0 h r a) = SC Q KV h r a := by
  pointwise [val_main_v8, val_main_v7, val_main_cst, val_main_v6, val_main_v0, val_main_v4, val_main_v2, val_main_v1]
  refine congrArg (· * _) (Finset.sum_congr rfl fun x _ => congrArg₂ (· * ·) (congrArg Q ?_) (congrArg KV ?_))
  · exact congrArg (ix2 r) (Fin.ext (by show h.val * 128 + x.val = 128 * h.val + x.val; omega))
  · exact congrArg (ix2 a) (Fin.ext (by show h.val * 128 + x.val = 128 * h.val + x.val; omega))

theorem at_v42 (h : Fin 4) (r : Fin 8192) (a : Fin 256) : val_main_v42 (F := Ideal) KV O (ix4 0 h r a) = DP KV O h r a := by
  pointwise [val_main_v42, val_main_v41, val_main_v40, val_main_v5, val_main_v3, val_main_v1]
  rw [DP, Cert.MemIdeal.Value.wgrad]
  refine Finset.sum_congr rfl fun x _ => congrArg₂ (· * ·) (congrArg O ?_) (congrArg KV ?_)
  · exact congrArg (ix2 r) (Fin.ext (by show h.val * 128 + x.val = 128 * h.val + x.val; omega))
  · exact congrArg (ix2 a) (Fin.ext (by show 512 + (h.val * 128 + x.val) = 512 + (128 * h.val + x.val); omega))

theorem at_v9 (h : Fin 4) (r : Fin 8192) : val_main_v9 (F := Ideal) Q KV (ix3 0 h r) = Soft.top (SC Q KV h r) := by
  pointwise [val_main_v9, val_main_cst_0]
  simp only [at_v8, Cert.MemIdeal.Value.bits_bot]
  rfl

/-- The places a broadcast along the last axis reads. -/
theorem e_v27 (h : Fin 4) (r : Fin 8192) (a : Fin 256) : idx_main_v26 (idx_main_v27 (ix4 0 h r a)) = ix3 0 h r :=
  funext fun b => match b with | ⟨0, _⟩ => rfl | ⟨1, _⟩ => rfl | ⟨2, _⟩ => rfl
theorem e_v32 (h : Fin 4) (r : Fin 8192) (a : Fin 256) : idx_main_v31 (idx_main_v32 (ix4 0 h r a)) = ix3 0 h r :=
  funext fun b => match b with | ⟨0, _⟩ => rfl | ⟨1, _⟩ => rfl | ⟨2, _⟩ => rfl
theorem e_v51 (h : Fin 4) (r : Fin 8192) (a : Fin 256) : idx_main_v31 (idx_main_v51 (ix4 0 h r a)) = ix3 0 h r :=
  funext fun b => match b with | ⟨0, _⟩ => rfl | ⟨1, _⟩ => rfl | ⟨2, _⟩ => rfl
theorem e_v45 (h : Fin 4) (r : Fin 8192) (a : Fin 256) : idx_main_v31 (idx_main_v45 (ix4 0 h r a)) = ix3 0 h r :=
  funext fun b => match b with | ⟨0, _⟩ => rfl | ⟨1, _⟩ => rfl | ⟨2, _⟩ => rfl
theorem e_v30 (h : Fin 4) (r : Fin 8192) (a : Fin 256) : idx_main_v30 (ix3 0 h r) a = ix4 0 h r a :=
  funext fun b => match b with | ⟨0, _⟩ => rfl | ⟨1, _⟩ => rfl | ⟨2, _⟩ => rfl | ⟨3, _⟩ => rfl
theorem e_v48 (h : Fin 4) (r : Fin 8192) (a : Fin 256) : idx_main_v48 (ix3 0 h r) a = ix4 0 h r a :=
  funext fun b => match b with | ⟨0, _⟩ => rfl | ⟨1, _⟩ => rfl | ⟨2, _⟩ => rfl | ⟨3, _⟩ => rfl

theorem bits_zero : Ideal.ofBits .f32 0x00000000#32 = 0 := by simp [Ideal.ofBits, Ideal.ieee]
theorem bits_one : Ideal.ofBits .f32 0x3F800000#32 = 1 := Ideal.ofBits_one_f32

theorem at_v29 (h : Fin 4) (r : Fin 8192) (a : Fin 256) : val_main_v29 (F := Ideal) Q KV (ix4 0 h r a) = Soft.ex (SC Q KV h r) a := by
  rw [val_main_v29_apply, val_main_v28_apply, val_main_v27_apply, val_main_v26_apply, e_v27, val_main_v16_apply, val_main_v15_apply,
    val_main_cst_2_apply, at_v9, at_v8]
  show Ideal.exp (SC Q KV h r a - max (Ideal.ofBits .f32 0xFF800000#32) (Soft.top (SC Q KV h r))) = _
  rw [Cert.MemIdeal.Value.bits_bot, max_eq_right bot_le]
  rfl

theorem at_v30 (h : Fin 4) (r : Fin 8192) : val_main_v30 (F := Ideal) Q KV (ix3 0 h r) = Soft.tot (SC Q KV h r) := by
  rw [val_main_v30_apply, val_main_cst_8_apply]
  show Ideal.ofBits .f32 0x00000000#32 + _ = _
  rw [bits_zero, zero_add]
  exact Finset.sum_congr rfl fun a _ => (congrArg _ (e_v30 h r a)).trans (at_v29 Q KV h r a)

theorem at_v33 (h : Fin 4) (r : Fin 8192) (a : Fin 256) : val_main_v33 (F := Ideal) Q KV (ix4 0 h r a) = Soft.pr (SC Q KV h r) a := by
  rw [val_main_v33_apply, val_main_v32_apply, val_main_v31_apply, e_v32, at_v29, at_v30]
  rfl

theorem at_v45 (h : Fin 4) (r : Fin 8192) (a : Fin 256) :
    val_main_v45 (F := Ideal) Q KV (ix4 0 h r a) = Ideal.div 1 (Soft.tot (SC Q KV h r) * Soft.tot (SC Q KV h r)) := by
  rw [val_main_v45_apply, val_main_v36_apply, val_main_v35_apply, val_main_cst_9_apply, val_main_v34_apply, val_main_v31_apply, e_v45, at_v30]
  show Ideal.div (Ideal.ofBits .f32 0x3F800000#32) _ = _
  rw [bits_one]
  rfl

theorem at_v48 (h : Fin 4) (r : Fin 8192) : val_main_v48 (F := Ideal) Q KV O (ix3 0 h r)
    = 0 + ∑ i, DP KV O h r i * Ideal.div 1 (Soft.tot (SC Q KV h r) * Soft.tot (SC Q KV h r)) * Soft.ex (SC Q KV h r) i := by
  rw [val_main_v48_apply, val_main_cst_10_apply]
  show Ideal.ofBits .f32 0x00000000#32 + _ = _
  rw [bits_zero]
  refine congrArg (0 + ·) (Finset.sum_congr rfl fun a _ => (congrArg _ (e_v48 h r a)).trans ?_)
  rw [val_main_v47_apply, val_main_v46_apply, at_v42, at_v45, at_v29]
  rfl

/-- Axes of one element: the sum over them is the element. -/
theorem sum_ones (x : Vec Ideal S1x4x8192x1 .f32) (h : Fin 4) (r : Fin 8192) :
    Ideal.hostReduceAdd reducesTo_S1x4x8192x1_S4x8192_d0_3 x 0 (ix2 h r) = 0 + x (ix4 0 h r 0) := by
  have e : Finset.univ.filter (fun i => reducesTo_S1x4x8192x1_S4x8192_d0_3.drop i = ix2 h r) = {ix4 0 h r 0} := by
    ext i
    rw [Finset.mem_filter, Finset.mem_singleton]
    constructor
    · intro hi
      funext b
      match b with
      | ⟨0, _⟩ => exact Subsingleton.elim (α := Fin 1) _ _
      | ⟨1, _⟩ => exact congrFun hi.2 0
      | ⟨2, _⟩ => exact congrFun hi.2 1
      | ⟨3, _⟩ => exact Subsingleton.elim (α := Fin 1) _ _
    · intro hi
      refine ⟨Finset.mem_univ _, ?_⟩
      rw [hi]
      funext b
      match b with
      | ⟨0, _⟩ => rfl
      | ⟨1, _⟩ => rfl
  rw [Ideal.hostReduceAdd, e, Finset.sum_singleton]

theorem at_v53 (h : Fin 4) (r : Fin 8192) : val_main_v53 (F := Ideal) Q KV O (ix2 h r)
    = 0 + -(0 + ∑ i, DP KV O h r i * Ideal.div 1 (Soft.tot (SC Q KV h r) * Soft.tot (SC Q KV h r)) * Soft.ex (SC Q KV h r) i) := by
  have e : idx_main_v49 (ix4 0 h r 0) = ix3 0 h r := funext fun b => Fin.ext (match b with
    | ⟨0, _⟩ => rfl
    | ⟨1, _⟩ => by simp [idx_main_v49, ix3, ix4] <;> omega
    | ⟨2, _⟩ => by simp [idx_main_v49, ix3, ix4] <;> omega)
  rw [← at_v48, ← e, ← val_main_v49_apply]
  refine Eq.trans ?_ ((sum_ones (val_main_v50 (F := Ideal) Q KV O) h r).trans ?_)
  · show Ideal.hostReduceAdd _ _ (Ideal.ofBits .f32 0x00000000#32) _ = _
    rw [bits_zero]
  · rw [val_main_v50_apply]
    rfl

theorem at_v57 (h : Fin 4) (r : Fin 8192) (a : Fin 256) : val_main_v57 (F := Ideal) Q KV O (ix4 0 h r a) = Soft.dsRef (SC Q KV h r) (DP KV O h r) a := by
  have e : idx_main_v54 (idx_main_v55 (ix4 0 h r a)) = ix2 h r := funext fun b => match b with | ⟨0, _⟩ => rfl | ⟨1, _⟩ => rfl
  rw [val_main_v57_apply, val_main_v56_apply, val_main_v52_apply, val_main_v51_apply, val_main_v31_apply, e_v51, at_v30, at_v42, at_v29,
    val_main_v55_apply, val_main_v54_apply, e, at_v53]
  rfl

/-- Every entry of an argument is a real number. -/
def Real' {s : Shape} (x : Vec Ideal s .f32) : Prop := ∀ i, Soft.Fin' (x i)

variable (hQ : Real' Q) (hKV : Real' KV) (hO : Real' O)

include hQ hKV in
theorem real_SC (h : Fin 4) (r : Fin 8192) (a : Fin 256) : Soft.Fin' (SC Q KV h r a) :=
  (Soft.Fin'.sum fun d => (hQ _).mul (hKV _)).mul ⟨_, rfl⟩

include hKV hO in
theorem real_DP (h : Fin 4) (r : Fin 8192) (a : Fin 256) : Soft.Fin' (DP KV O h r a) :=
  by rw [DP, Cert.MemIdeal.Value.wgrad]; exact Soft.Fin'.sum fun d => (hO _).mul (hKV _)

include hQ hKV hO

theorem at_v59 (h : Fin 4) (r : Fin 8192) (a : Fin 256) : val_main_v59 (F := Ideal) Q KV O (ix4 0 h r a) = DS Q KV O h r a := by
  rw [val_main_v59_apply, val_main_v58_apply, val_main_cst_12_apply, at_v57, Soft.dsRef_eq (real_SC Q KV hQ hKV h r) (real_DP KV O hKV hO h r)]
  rfl

theorem at_v62 (h : Fin 4) (r : Fin 8192) (d : Fin 128) : val_main_v62 (F := Ideal) Q KV O (ix4 0 h r d) = DQ Q KV O h r d := by
  rw [val_main_v62_apply, DQ]
  refine Finset.sum_congr rfl fun a _ => ?_
  have e1 : lidx_main_v62 (ix4 0 h r d) a = ix4 0 h r a := funext fun b => match b with | ⟨0, _⟩ => rfl | ⟨1, _⟩ => rfl | ⟨2, _⟩ => rfl | ⟨3, _⟩ => rfl
  have e2 : ridx_main_v62 (ix4 0 h r d) a = ix4 0 a h d := funext fun b => match b with | ⟨0, _⟩ => rfl | ⟨1, _⟩ => rfl | ⟨2, _⟩ => rfl | ⟨3, _⟩ => rfl
  rw [e1, e2, at_v59 Q KV O hQ hKV hO]
  refine congrArg (DS Q KV O h r a * ·) ?_
  pointwise [val_main_v4, val_main_v2, val_main_v1]
  exact congrArg KV (congrArg (ix2 a) (Fin.ext (by show h.val * 128 + d.val = 128 * h.val + d.val; omega)))

theorem at_v60 (h : Fin 4) (a : Fin 256) (d : Fin 128) : val_main_v60 (F := Ideal) Q KV O (ix4 0 h a d) = ∑ R : Fin 8192, DS Q KV O h R a * Q (ix2 R (col h d)) := by
  rw [val_main_v60_apply]
  refine Finset.sum_congr rfl fun R _ => ?_
  have e1 : lidx_main_v60 (ix4 0 h a d) R = ix4 0 h R a := funext fun b => match b with | ⟨0, _⟩ => rfl | ⟨1, _⟩ => rfl | ⟨2, _⟩ => rfl | ⟨3, _⟩ => rfl
  have e2 : ridx_main_v60 (ix4 0 h a d) R = ix4 0 R h d := funext fun b => match b with | ⟨0, _⟩ => rfl | ⟨1, _⟩ => rfl | ⟨2, _⟩ => rfl | ⟨3, _⟩ => rfl
  rw [e1, e2, at_v59 Q KV O hQ hKV hO]
  refine congrArg (DS Q KV O h R a * ·) ?_
  pointwise [val_main_v0]
  exact congrArg Q (congrArg (ix2 R) (Fin.ext (by show h.val * 128 + d.val = 128 * h.val + d.val; omega)))

omit hQ hKV hO in
theorem at_v43 (h : Fin 4) (a : Fin 256) (d : Fin 128) : val_main_v43 (F := Ideal) Q KV O (ix4 0 h d a) = ∑ R : Fin 8192, Soft.pr (SC Q KV h R) a * O (ix2 R (col h d)) := by
  rw [val_main_v43_apply]
  refine Finset.sum_congr rfl fun R _ => ?_
  have e1 : lidx_main_v43 (ix4 0 h d a) R = ix4 0 h d R := funext fun b => match b with | ⟨0, _⟩ => rfl | ⟨1, _⟩ => rfl | ⟨2, _⟩ => rfl | ⟨3, _⟩ => rfl
  have e2 : ridx_main_v43 (ix4 0 h d a) R = ix4 0 h R a := funext fun b => match b with | ⟨0, _⟩ => rfl | ⟨1, _⟩ => rfl | ⟨2, _⟩ => rfl | ⟨3, _⟩ => rfl
  rw [e1, e2, at_v33, mul_comm]
  refine congrArg (Soft.pr (SC Q KV h R) a * ·) ?_
  pointwise [val_main_v41, val_main_v40]
  exact congrArg O (congrArg (ix2 R) (Fin.ext (by show h.val * 128 + d.val = 128 * h.val + d.val; omega)))

theorem at_v69 (R : Fin 8192) (x : Fin 512) : val_main_v69 (F := Ideal) Q KV O (ix2 R x) = DQ Q KV O (hd x) R (ln x) := by
  rw [← at_v62 Q KV O hQ hKV hO]
  pointwise [val_main_v69, val_main_v68, val_main_v63]
  rfl

theorem at_v67 (a : Fin 256) (x : Fin 1024) : val_main_v67 (F := Ideal) Q KV O (ix2 a x) = DKV Q KV O a x := by
  pointwise [val_main_v67, val_main_cst_13, val_main_v66]
  rw [Fin.sum_univ_one]
  by_cases hx : x.val < 512
  · have e : (⟨x.val, hx⟩ : Fin 512) = col (hd ⟨x.val, hx⟩) (ln ⟨x.val, hx⟩) := Fin.ext (by show x.val = 128 * (x.val / 128) + x.val % 128; omega)
    refine (dif_pos hx).trans (Eq.trans ?_ ((at_v60 Q KV O hQ hKV hO (hd ⟨x.val, hx⟩) a (ln ⟨x.val, hx⟩)).trans (Finset.sum_congr rfl fun R _ => ?_)))
    · pointwise [val_main_v65, val_main_v61]
      rfl
    · rw [rowTerm, dif_pos hx, ← e]
  · have hs : x.val - 512 < 512 := by omega
    have e : (⟨x.val - 512, hs⟩ : Fin 512) = col (hd ⟨x.val - 512, hs⟩) (ln ⟨x.val - 512, hs⟩) := Fin.ext (by show x.val - 512 = 128 * ((x.val - 512) / 128) + (x.val - 512) % 128; omega)
    refine (dif_neg hx).trans (Eq.trans ?_ ((at_v43 Q KV O (hd ⟨x.val - 512, hs⟩) a (ln ⟨x.val - 512, hs⟩)).trans (Finset.sum_congr rfl fun R _ => ?_)))
    · pointwise [val_main_v64, val_main_v44]
      rfl
    · rw [rowTerm, dif_neg hx, ← e]

/-- The two results of the reference. -/
theorem ref_q : val_main_v69 (F := Ideal) Q KV O = (fun i => DQ Q KV O (hd (i 1)) (i 0) (ln (i 1)) : Vec Ideal S8192x512 .f32) :=
  funext fun i => (congrArg (val_main_v69 (F := Ideal) Q KV O) (show i = ix2 (i 0) (i 1) from funext fun b => match b with | ⟨0, _⟩ => rfl | ⟨1, _⟩ => rfl)).trans (at_v69 Q KV O hQ hKV hO (i 0) (i 1))

theorem ref_kv : val_main_v67 (F := Ideal) Q KV O = (fun j => DKV Q KV O (j 0) (j 1) : Vec Ideal S256x1024 .f32) :=
  funext fun i => (congrArg (val_main_v67 (F := Ideal) Q KV O) (show i = ix2 (i 0) (i 1) from funext fun b => match b with | ⟨0, _⟩ => rfl | ⟨1, _⟩ => rfl)).trans (at_v67 Q KV O hQ hKV hO (i 0) (i 1))

end Cert.PlainIdeal.Value

end
-- ==== Proof.MemReal.lean ====
/- Arguments whose absolute values lie below infinity are arrays of reals. -/
module

public import proofs.«01_k».proof.Pre_mem_real
public import proofs.«01_k».proof.Proof.MemPlain

@[expose] public section

noncomputable section

namespace Cert.PlainIdeal.Value

open Idealize.ShloMosaic

/-- The shape conditions of the precondition. -/
instance preFacts : Cert.Pre_mem_real.Facts := ⟨by decide, by decide⟩

/-- An extended real whose absolute value compares below infinity is a real. -/
theorem fin_of_cmp (a : EReal) (h : (FloatOps.cmpf (F := Ideal) .olt (FloatOps.absf a) (FloatOps.ofBits .f32 0x7F800000#32)) = 1#1) : Soft.Fin' a := by
  have hv : (FloatOps.ofBits (F := Ideal) .f32 0x7F800000#32 : EReal) = ⊤ := by
    simp [FloatOps.ofBits, Ideal.ofBits, Ideal.ieee]
  rw [hv] at h
  simp only [FloatOps.cmpf, Ideal.cmp, FloatOps.absf] at h
  induction a with
  | bot => simp at h
  | coe r => exact ⟨r, rfl⟩
  | top => simp at h

/-- The precondition says every entry of the three arguments is a real. -/
theorem real_of_pre (Q KV O) (h : (Cert.Pre_mem_real.fn (F := Ideal) Q KV O).1 = (fun _ => 1#1)
    ∧ (Cert.Pre_mem_real.fn (F := Ideal) Q KV O).2.1 = (fun _ => 1#1) ∧ (Cert.Pre_mem_real.fn (F := Ideal) Q KV O).2.2 = (fun _ => 1#1)) :
    Real' Q ∧ Real' KV ∧ Real' O := by
  obtain ⟨h0, h1, h2⟩ := h
  refine ⟨fun i => ?_, fun i => ?_, fun i => ?_⟩
  · exact fin_of_cmp _ (congrFun h0 i)
  · exact fin_of_cmp _ (congrFun h1 i)
  · exact fin_of_cmp _ (congrFun h2 i)

end Cert.PlainIdeal.Value

end
-- ==== Proof.SwaHead.lean ====
module

public import proofs.«01_k».proof.Proof.Gen.SwaIdeal.Skeleton
public import proofs.«01_k».proof.Proof.Soft
public import Idealize.ShloMosaic.Lib.Pipeline.ValueKit

@[expose] public section

set_option maxRecDepth 16384

noncomputable section

namespace Cert.SwaIdeal.Value

open Cert.SwaIdeal Cert.SwaIdeal.Gen Idealize.ShloMosaic Idealize.ShloMosaic.TcCoe Idealize.SL.Sem

/- The sixteen heads share their arithmetic: each head's operations are the first's. -/
theorem e252 : k0_pay252 (F := Ideal) = k0_pay3 := rfl
theorem e6 : k0_pay6 (F := Ideal) = k0_pay5 := rfl
theorem e9 : k0_pay9 (F := Ideal) = k0_pay7 := rfl
theorem e10 : k0_pay10 (F := Ideal) = k0_pay8 := rfl
theorem e12 : k0_pay12 (F := Ideal) = k0_pay11 := rfl
theorem e13 : k0_pay13 (F := Ideal) = k0_pay11 := rfl
theorem e14 : k0_pay14 (F := Ideal) = k0_pay11 := rfl
theorem e15 : k0_pay15 (F := Ideal) = k0_pay11 := rfl
theorem e16 : k0_pay16 (F := Ideal) = k0_pay11 := rfl
theorem e17 : k0_pay17 (F := Ideal) = k0_pay11 := rfl
theorem e18 : k0_pay18 (F := Ideal) = k0_pay11 := rfl
theorem e19 : k0_pay19 (F := Ideal) = k0_pay11 := rfl
theorem e20 : k0_pay20 (F := Ideal) = k0_pay11 := rfl
theorem e21 : k0_pay21 (F := Ideal) = k0_pay11 := rfl
theorem e22 : k0_pay22 (F := Ideal) = k0_pay11 := rfl
theorem e23 : k0_pay23 (F := Ideal) = k0_pay11 := rfl
theorem e24 : k0_pay24 (F := Ideal) = k0_pay11 := rfl
theorem e25 : k0_pay25 (F := Ideal) = k0_pay11 := rfl
theorem e26 : k0_pay26 (F := Ideal) = k0_pay11 := rfl
theorem e28 : k0_pay28 (F := Ideal) = k0_pay27 := rfl
theorem e31 : k0_pay31 (F := Ideal) = k0_pay27 := rfl
theorem e32 : k0_pay32 (F := Ideal) = k0_pay27 := rfl
theorem e33 : k0_pay33 (F := Ideal) = k0_pay27 := rfl
theorem e34 : k0_pay34 (F := Ideal) = k0_pay27 := rfl
theorem e35 : k0_pay35 (F := Ideal) = k0_pay27 := rfl
theorem e38 : k0_pay38 (F := Ideal) = k0_pay27 := rfl
theorem e39 : k0_pay39 (F := Ideal) = k0_pay27 := rfl
theorem e40 : k0_pay40 (F := Ideal) = k0_pay27 := rfl
theorem e41 : k0_pay41 (F := Ideal) = k0_pay27 := rfl
theorem e45 : k0_pay45 (F := Ideal) = k0_pay27 := rfl
theorem e46 : k0_pay46 (F := Ideal) = k0_pay27 := rfl
theorem e136 : k0_pay136 (F := Ideal) = k0_pay36 := rfl
theorem e42 : k0_pay42 (F := Ideal) = k0_pay133 := rfl
theorem e134 : k0_pay134 (F := Ideal) = k0_pay133 := rfl
theorem e135 : k0_pay135 (F := Ideal) = k0_pay133 := rfl
theorem e138 : k0_pay138 (F := Ideal) = k0_pay133 := rfl
theorem e139 : k0_pay139 (F := Ideal) = k0_pay133 := rfl
theorem e140 : k0_pay140 (F := Ideal) = k0_pay133 := rfl
theorem e141 : k0_pay141 (F := Ideal) = k0_pay133 := rfl
theorem e142 : k0_pay142 (F := Ideal) = k0_pay133 := rfl
theorem e143 : k0_pay143 (F := Ideal) = k0_pay133 := rfl
theorem e144 : k0_pay144 (F := Ideal) = k0_pay133 := rfl
theorem e145 : k0_pay145 (F := Ideal) = k0_pay133 := rfl
theorem e146 : k0_pay146 (F := Ideal) = k0_pay133 := rfl
theorem e147 : k0_pay147 (F := Ideal) = k0_pay133 := rfl
theorem e148 : k0_pay148 (F := Ideal) = k0_pay133 := rfl
theorem e149 : k0_pay149 (F := Ideal) = k0_pay133 := rfl
theorem e189 : k0_pay189 (F := Ideal) = k0_pay43 := rfl
theorem e48 : k0_pay48 (F := Ideal) = k0_pay47 := rfl
theorem e49 : k0_pay49 (F := Ideal) = k0_pay47 := rfl
theorem e50 : k0_pay50 (F := Ideal) = k0_pay47 := rfl
theorem e51 : k0_pay51 (F := Ideal) = k0_pay47 := rfl
theorem e52 : k0_pay52 (F := Ideal) = k0_pay47 := rfl
theorem e55 : k0_pay55 (F := Ideal) = k0_pay47 := rfl
theorem e56 : k0_pay56 (F := Ideal) = k0_pay47 := rfl
theorem e57 : k0_pay57 (F := Ideal) = k0_pay47 := rfl
theorem e58 : k0_pay58 (F := Ideal) = k0_pay47 := rfl
theorem e59 : k0_pay59 (F := Ideal) = k0_pay47 := rfl
theorem e60 : k0_pay60 (F := Ideal) = k0_pay47 := rfl
theorem e61 : k0_pay61 (F := Ideal) = k0_pay47 := rfl
theorem e62 : k0_pay62 (F := Ideal) = k0_pay47 := rfl
theorem e63 : k0_pay63 (F := Ideal) = k0_pay47 := rfl
theorem e65 : k0_pay65 (F := Ideal) = k0_pay64 := rfl
theorem e66 : k0_pay66 (F := Ideal) = k0_pay64 := rfl
theorem e67 : k0_pay67 (F := Ideal) = k0_pay64 := rfl
theorem e70 : k0_pay70 (F := Ideal) = k0_pay64 := rfl
theorem e71 : k0_pay71 (F := Ideal) = k0_pay64 := rfl
theorem e72 : k0_pay72 (F := Ideal) = k0_pay64 := rfl
theorem e73 : k0_pay73 (F := Ideal) = k0_pay64 := rfl
theorem e74 : k0_pay74 (F := Ideal) = k0_pay64 := rfl
theorem e75 : k0_pay75 (F := Ideal) = k0_pay64 := rfl
theorem e76 : k0_pay76 (F := Ideal) = k0_pay64 := rfl
theorem e77 : k0_pay77 (F := Ideal) = k0_pay64 := rfl
theorem e78 : k0_pay78 (F := Ideal) = k0_pay64 := rfl
theorem e79 : k0_pay79 (F := Ideal) = k0_pay64 := rfl
theorem e80 : k0_pay80 (F := Ideal) = k0_pay64 := rfl
theorem e82 : k0_pay82 (F := Ideal) = k0_pay81 := rfl
theorem e83 : k0_pay83 (F := Ideal) = k0_pay81 := rfl
theorem e84 : k0_pay84 (F := Ideal) = k0_pay81 := rfl
theorem e85 : k0_pay85 (F := Ideal) = k0_pay81 := rfl
theorem e86 : k0_pay86 (F := Ideal) = k0_pay81 := rfl
theorem e87 : k0_pay87 (F := Ideal) = k0_pay81 := rfl
theorem e88 : k0_pay88 (F := Ideal) = k0_pay81 := rfl
theorem e91 : k0_pay91 (F := Ideal) = k0_pay81 := rfl
theorem e92 : k0_pay92 (F := Ideal) = k0_pay81 := rfl
theorem e93 : k0_pay93 (F := Ideal) = k0_pay81 := rfl
theorem e94 : k0_pay94 (F := Ideal) = k0_pay81 := rfl
theorem e95 : k0_pay95 (F := Ideal) = k0_pay81 := rfl
theorem e96 : k0_pay96 (F := Ideal) = k0_pay81 := rfl
theorem e97 : k0_pay97 (F := Ideal) = k0_pay81 := rfl
theorem e99 : k0_pay99 (F := Ideal) = k0_pay98 := rfl
theorem e100 : k0_pay100 (F := Ideal) = k0_pay98 := rfl
theorem e101 : k0_pay101 (F := Ideal) = k0_pay98 := rfl
theorem e102 : k0_pay102 (F := Ideal) = k0_pay98 := rfl
theorem e105 : k0_pay105 (F := Ideal) = k0_pay98 := rfl
theorem e106 : k0_pay106 (F := Ideal) = k0_pay98 := rfl
theorem e107 : k0_pay107 (F := Ideal) = k0_pay98 := rfl
theorem e108 : k0_pay108 (F := Ideal) = k0_pay98 := rfl
theorem e109 : k0_pay109 (F := Ideal) = k0_pay98 := rfl
theorem e110 : k0_pay110 (F := Ideal) = k0_pay98 := rfl
theorem e111 : k0_pay111 (F := Ideal) = k0_pay98 := rfl
theorem e115 : k0_pay115 (F := Ideal) = k0_pay98 := rfl
theorem e116 : k0_pay116 (F := Ideal) = k0_pay98 := rfl
theorem e118 : k0_pay118 (F := Ideal) = k0_pay117 := rfl
theorem e119 : k0_pay119 (F := Ideal) = k0_pay117 := rfl
theorem e120 : k0_pay120 (F := Ideal) = k0_pay117 := rfl
theorem e121 : k0_pay121 (F := Ideal) = k0_pay117 := rfl
theorem e122 : k0_pay122 (F := Ideal) = k0_pay117 := rfl
theorem e123 : k0_pay123 (F := Ideal) = k0_pay117 := rfl
theorem e124 : k0_pay124 (F := Ideal) = k0_pay117 := rfl
theorem e125 : k0_pay125 (F := Ideal) = k0_pay117 := rfl
theorem e126 : k0_pay126 (F := Ideal) = k0_pay117 := rfl
theorem e127 : k0_pay127 (F := Ideal) = k0_pay117 := rfl
theorem e128 : k0_pay128 (F := Ideal) = k0_pay117 := rfl
theorem e129 : k0_pay129 (F := Ideal) = k0_pay117 := rfl
theorem e151 : k0_pay151 (F := Ideal) = k0_pay150 := rfl
theorem e154 : k0_pay154 (F := Ideal) = k0_pay150 := rfl
theorem e155 : k0_pay155 (F := Ideal) = k0_pay150 := rfl
theorem e156 : k0_pay156 (F := Ideal) = k0_pay150 := rfl
theorem e157 : k0_pay157 (F := Ideal) = k0_pay150 := rfl
theorem e158 : k0_pay158 (F := Ideal) = k0_pay150 := rfl
theorem e159 : k0_pay159 (F := Ideal) = k0_pay150 := rfl
theorem e160 : k0_pay160 (F := Ideal) = k0_pay150 := rfl
theorem e161 : k0_pay161 (F := Ideal) = k0_pay150 := rfl
theorem e162 : k0_pay162 (F := Ideal) = k0_pay150 := rfl
theorem e163 : k0_pay163 (F := Ideal) = k0_pay150 := rfl
theorem e164 : k0_pay164 (F := Ideal) = k0_pay150 := rfl
theorem e165 : k0_pay165 (F := Ideal) = k0_pay150 := rfl
theorem e166 : k0_pay166 (F := Ideal) = k0_pay150 := rfl
theorem e169 : k0_pay169 (F := Ideal) = k0_pay152 := rfl
theorem e190 : k0_pay190 (F := Ideal) = k0_pay152 := rfl
theorem e170 : k0_pay170 (F := Ideal) = k0_pay167 := rfl
theorem e171 : k0_pay171 (F := Ideal) = k0_pay167 := rfl
theorem e172 : k0_pay172 (F := Ideal) = k0_pay167 := rfl
theorem e173 : k0_pay173 (F := Ideal) = k0_pay167 := rfl
theorem e174 : k0_pay174 (F := Ideal) = k0_pay167 := rfl
theorem e175 : k0_pay175 (F := Ideal) = k0_pay167 := rfl
theorem e176 : k0_pay176 (F := Ideal) = k0_pay167 := rfl
theorem e177 : k0_pay177 (F := Ideal) = k0_pay167 := rfl
theorem e178 : k0_pay178 (F := Ideal) = k0_pay167 := rfl
theorem e179 : k0_pay179 (F := Ideal) = k0_pay167 := rfl
theorem e180 : k0_pay180 (F := Ideal) = k0_pay167 := rfl
theorem e181 : k0_pay181 (F := Ideal) = k0_pay167 := rfl
theorem e182 : k0_pay182 (F := Ideal) = k0_pay167 := rfl
theorem e183 : k0_pay183 (F := Ideal) = k0_pay167 := rfl
theorem e191 : k0_pay191 (F := Ideal) = k0_pay184 := rfl
theorem e192 : k0_pay192 (F := Ideal) = k0_pay184 := rfl
theorem e193 : k0_pay193 (F := Ideal) = k0_pay184 := rfl
theorem e194 : k0_pay194 (F := Ideal) = k0_pay184 := rfl
theorem e195 : k0_pay195 (F := Ideal) = k0_pay184 := rfl
theorem e196 : k0_pay196 (F := Ideal) = k0_pay184 := rfl
theorem e197 : k0_pay197 (F := Ideal) = k0_pay184 := rfl
theorem e198 : k0_pay198 (F := Ideal) = k0_pay184 := rfl
theorem e199 : k0_pay199 (F := Ideal) = k0_pay184 := rfl
theorem e200 : k0_pay200 (F := Ideal) = k0_pay184 := rfl
theorem e202 : k0_pay202 (F := Ideal) = k0_pay201 := rfl
theorem e203 : k0_pay203 (F := Ideal) = k0_pay201 := rfl
theorem e204 : k0_pay204 (F := Ideal) = k0_pay201 := rfl
theorem e205 : k0_pay205 (F := Ideal) = k0_pay201 := rfl
theorem e210 : k0_pay210 (F := Ideal) = k0_pay201 := rfl
theorem e211 : k0_pay211 (F := Ideal) = k0_pay201 := rfl
theorem e212 : k0_pay212 (F := Ideal) = k0_pay201 := rfl
theorem e213 : k0_pay213 (F := Ideal) = k0_pay201 := rfl
theorem e214 : k0_pay214 (F := Ideal) = k0_pay201 := rfl
theorem e215 : k0_pay215 (F := Ideal) = k0_pay201 := rfl
theorem e216 : k0_pay216 (F := Ideal) = k0_pay201 := rfl
theorem e217 : k0_pay217 (F := Ideal) = k0_pay201 := rfl
theorem e219 : k0_pay219 (F := Ideal) = k0_pay218 := rfl
theorem e220 : k0_pay220 (F := Ideal) = k0_pay218 := rfl
theorem e221 : k0_pay221 (F := Ideal) = k0_pay218 := rfl
theorem e222 : k0_pay222 (F := Ideal) = k0_pay218 := rfl
theorem e223 : k0_pay223 (F := Ideal) = k0_pay218 := rfl
theorem e226 : k0_pay226 (F := Ideal) = k0_pay218 := rfl
theorem e227 : k0_pay227 (F := Ideal) = k0_pay218 := rfl
theorem e228 : k0_pay228 (F := Ideal) = k0_pay218 := rfl
theorem e229 : k0_pay229 (F := Ideal) = k0_pay218 := rfl
theorem e230 : k0_pay230 (F := Ideal) = k0_pay218 := rfl
theorem e231 : k0_pay231 (F := Ideal) = k0_pay218 := rfl
theorem e232 : k0_pay232 (F := Ideal) = k0_pay218 := rfl
theorem e233 : k0_pay233 (F := Ideal) = k0_pay218 := rfl
theorem e234 : k0_pay234 (F := Ideal) = k0_pay218 := rfl
theorem e235 : k0_pay235 (F := Ideal) = k0_pay218 := rfl
theorem e236 : k0_pay236 (F := Ideal) = k0_pay218 := rfl
theorem e237 : k0_pay237 (F := Ideal) = k0_pay218 := rfl
theorem e238 : k0_pay238 (F := Ideal) = k0_pay218 := rfl
theorem e239 : k0_pay239 (F := Ideal) = k0_pay218 := rfl
theorem e242 : k0_pay242 (F := Ideal) = k0_pay218 := rfl
theorem e243 : k0_pay243 (F := Ideal) = k0_pay218 := rfl
theorem e244 : k0_pay244 (F := Ideal) = k0_pay218 := rfl
theorem e245 : k0_pay245 (F := Ideal) = k0_pay218 := rfl
theorem e246 : k0_pay246 (F := Ideal) = k0_pay218 := rfl
theorem e247 : k0_pay247 (F := Ideal) = k0_pay218 := rfl
theorem e248 : k0_pay248 (F := Ideal) = k0_pay218 := rfl
theorem e249 : k0_pay249 (F := Ideal) = k0_pay218 := rfl
theorem e250 : k0_pay250 (F := Ideal) = k0_pay218 := rfl
theorem e251 : k0_pay251 (F := Ideal) = k0_pay218 := rfl
theorem e240 : k0_pay240 (F := Ideal) = k0_pay224 := rfl
theorem e241 : k0_pay241 (F := Ideal) = k0_pay225 := rfl
theorem e254 : k0_pay254 (F := Ideal) = k0_pay253 := rfl
theorem e259 : k0_pay259 (F := Ideal) = k0_pay253 := rfl
theorem e261 : k0_pay261 (F := Ideal) = k0_pay253 := rfl
theorem e263 : k0_pay263 (F := Ideal) = k0_pay253 := rfl
theorem e266 : k0_pay266 (F := Ideal) = k0_pay253 := rfl
theorem e268 : k0_pay268 (F := Ideal) = k0_pay253 := rfl
theorem e269 : k0_pay269 (F := Ideal) = k0_pay253 := rfl
theorem e273 : k0_pay273 (F := Ideal) = k0_pay253 := rfl
theorem e275 : k0_pay275 (F := Ideal) = k0_pay253 := rfl
theorem e277 : k0_pay277 (F := Ideal) = k0_pay253 := rfl
theorem e281 : k0_pay281 (F := Ideal) = k0_pay253 := rfl
theorem e283 : k0_pay283 (F := Ideal) = k0_pay253 := rfl
theorem e285 : k0_pay285 (F := Ideal) = k0_pay253 := rfl
theorem e271 : k0_pay271 (F := Ideal) = k0_pay256 := rfl
theorem e272 : k0_pay272 (F := Ideal) = k0_pay257 := rfl
theorem e279 : k0_pay279 (F := Ideal) = k0_pay265 := rfl
theorem e294 : k0_pay294 (F := Ideal) = k0_pay287 := rfl
theorem e295 : k0_pay295 (F := Ideal) = k0_pay287 := rfl
theorem i30 (w : IVec S128x256 1) (q : Vec Ideal S128x64 .f32) (k : FVec Ideal S256x64 .f32) (b : FVec Ideal S128x256 .f32) :
    k0_pay30 w b (k0_pay29 q k) = k0_pay27 w q k b := rfl
theorem i37 (w : IVec S128x256 1) (q : Vec Ideal S128x64 .f32) (k : FVec Ideal S256x64 .f32) (b : FVec Ideal S128x256 .f32) :
    k0_pay37 w k b (k0_pay36 q) = k0_pay27 w q k b := rfl
theorem i44 (w : IVec S128x256 1) (q : Vec Ideal S128x64 .f32) (k : FVec Ideal S256x64 .f32) (b : FVec Ideal S128x256 .f32) :
    k0_pay44 w b (k0_pay133 q k) k0_pay43 = k0_pay27 w q k b := rfl
theorem i54 (s : Vec Ideal S1x1 .f32) (x : FVec Ideal S128x256 .f32) :
    k0_pay54 s (k0_pay53 x) = k0_pay47 s x := rfl
theorem i69 (x : FVec Ideal S128x256 .f32) (y : FVec Ideal S128x1 .f32) :
    k0_pay69 x (k0_pay68 y) = k0_pay64 x y := rfl
theorem i90 (s : Vec Ideal S1x1 .f32) (y : FVec Ideal S128x1 .f32) :
    k0_pay90 y (k0_pay89 s) = k0_pay81 s y := rfl
theorem i104 (x : FVec Ideal S128x256 .f32) (y : FVec Ideal S128x1 .f32) :
    k0_pay104 y (k0_pay103 x) = k0_pay98 x y := rfl
theorem i114 (x : FVec Ideal S128x256 .f32) (y : FVec Ideal S128x1 .f32) :
    k0_pay114 (k0_pay112 x y) k0_pay113 = k0_pay98 x y := rfl
theorem i130 (x : FVec Ideal S128x256 .f32) (y z : FVec Ideal S128x1 .f32) :
    k0_pay130 x y z = k0_pay117 x (k0_pay114 y z) := rfl
theorem i131 (x : FVec Ideal S128x256 .f32) (y : FVec Ideal S128x1 .f32) :
    k0_pay131 x y = k0_pay117 x (k0_pay98 x y) := rfl
theorem i132 (x : FVec Ideal S128x256 .f32) (y : FVec Ideal S128x1 .f32) :
    k0_pay132 x y = k0_pay117 x (k0_pay98 x y) := rfl
theorem i137 (o : Vec Ideal S128x64 .f32) (v : FVec Ideal S256x64 .f32) :
    k0_pay137 v (k0_pay36 o) = k0_pay133 o v := rfl
theorem i153 (x y : FVec Ideal S128x256 .f32) :
    k0_pay153 (k0_pay152 x y) = k0_pay150 x y := rfl
theorem i152 (x y : FVec Ideal S128x256 .f32) (z : FVec Ideal S128x1 .f32) :
    k0_pay152 x (k0_pay168 y z) = k0_pay167 x y z := rfl
theorem i185 (x y : FVec Ideal S128x256 .f32) :
    k0_pay185 x y = k0_pay184 (k0_pay152 x y) := rfl
theorem i186 (x y : FVec Ideal S128x256 .f32) (z : FVec Ideal S128x1 .f32) :
    k0_pay186 x y z = k0_pay184 (k0_pay167 x y z) := rfl
theorem i187 (x y : FVec Ideal S128x256 .f32) (z : FVec Ideal S128x1 .f32) :
    k0_pay187 x y z = k0_pay184 (k0_pay167 x y z) := rfl
theorem i188 (x y : FVec Ideal S128x256 .f32) (z : FVec Ideal S128x1 .f32) :
    k0_pay188 x y z = k0_pay184 (k0_pay167 x y z) := rfl
theorem i190 (x : FVec Ideal S128x256 .f32) :
    k0_pay152 x k0_pay43 = k0_pay184 x := rfl
theorem i206 (k : FVec Ideal S256x64 .f32) (x y : FVec Ideal S128x256 .f32) :
    k0_pay206 k x y = k0_pay201 k (k0_pay152 x y) := rfl
theorem i207 (k : FVec Ideal S256x64 .f32) (x : FVec Ideal S128x256 .f32) :
    k0_pay207 k x = k0_pay201 k (k0_pay184 x) := rfl
theorem i209 (k : FVec Ideal S256x64 .f32) (x : FVec Ideal S128x256 .f32) :
    k0_pay209 k (k0_pay208 x) = k0_pay201 k (k0_pay184 x) := rfl
theorem i225 (q : Vec Ideal S128x64 .f32) (x : FVec Ideal S128x256 .f32) :
    k0_pay225 q (k0_pay224 x) = k0_pay218 q x := rfl
theorem i257 (x : FVec Ideal S128x256 .f32) (y : Vec Ideal S1x128x256 .f32) :
    k0_pay257 (k0_pay256 x y) = k0_pay253 x y := rfl
theorem i292 (a b c d : FVec Ideal S256x64 .f32) :
    k0_pay292 a b c d = k0_pay290 (k0_pay289 a b c d) := rfl
theorem i293 (a b c d : FVec Ideal S256x64 .f32) :
    k0_pay293 a b c d = k0_pay291 (k0_pay289 a b c d) := rfl
theorem i289 (a b c d e f g h : FVec Ideal S256x64 .f32) :
    k0_pay289 f g h (k0_pay288 a b c d e) = k0_pay287 a b c d e f g h := rfl
theorem i296 (a b c d e f g h : FVec Ideal S256x64 .f32) :
    k0_pay296 a b c d e f g h = k0_pay290 (k0_pay287 a b c d e f g h) := rfl
theorem i297 (a b c d e f g h : FVec Ideal S256x64 .f32) :
    k0_pay297 a b c d e f g h = k0_pay291 (k0_pay287 a b c d e f g h) := rfl
theorem i298 (a b c d e f g h : FVec Ideal S256x64 .f32) :
    k0_pay298 a b c d e f g h = k0_pay290 (k0_pay287 a b c d e f g h) := rfl
theorem i299 (a b c d e f g h : FVec Ideal S256x64 .f32) :
    k0_pay299 a b c d e f g h = k0_pay291 (k0_pay287 a b c d e f g h) := rfl

/-- A head's share of the sinks' gradient, placed in the lane `k`. -/
def lz (k : BitVec 32) (v : IVec S1x128 32) (t : FVec Ideal S1x1 .f32) : FVec Ideal S1x128 .f32 :=
  select (cmpi .eq v (broadcast S1x128 k))
    (broadcastTo S1x128 (shapeCast S1x1 (subf (broadcast S1x1 (Scalar.ofBits .f32 0x00000000#32)) t) shapeCasts_S1x1_S1x1) broadcasts_S1x1_S1x128)
    (broadcast S1x128 (Scalar.ofBits .f32 0x00000000#32))

theorem l255 (v : IVec S1x128 32) (a a' b b' c c' : FVec Ideal S128x1 .f32) (x : FVec Ideal S1x128 .f32) :
    k0_pay255 (F := Ideal) v a a' b b' c c' x = addf (addf x (lz 0#32 v (k0_pay265 a b c))) (lz 1#32 v (k0_pay265 a' b' c')) := rfl
theorem l258 (v : IVec S1x128 32) (a b c : FVec Ideal S128x1 .f32) (x : FVec Ideal S1x128 .f32) :
    k0_pay258 (F := Ideal) v a b c x = addf x (lz 2#32 v (k0_pay265 a b c)) := rfl
theorem l262 (v : IVec S1x128 32) (a a' b b' c c' : FVec Ideal S128x1 .f32) (x : FVec Ideal S1x128 .f32) :
    k0_pay262 (F := Ideal) v a b c x (k0_pay260 v a' b' c') = addf (addf x (lz 3#32 v (k0_pay265 a' b' c'))) (lz 4#32 v (k0_pay265 a b c)) := rfl
theorem l267 (v : IVec S1x128 32) (a b c : FVec Ideal S128x1 .f32) (t : FVec Ideal S1x1 .f32) (x : FVec Ideal S1x128 .f32) :
    k0_pay267 (F := Ideal) v a b c x (k0_pay264 v) t = addf (addf x (lz 5#32 v t)) (lz 6#32 v (k0_pay265 a b c)) := rfl
theorem l282 (v : IVec S1x128 32) (a b c : FVec Ideal S128x1 .f32) (t : FVec Ideal S1x1 .f32) (x : FVec Ideal S1x128 .f32) :
    k0_pay282 (F := Ideal) v a b c x (k0_pay278 v) t k0_pay280 = addf (addf x (lz 12#32 v t)) (lz 13#32 v (k0_pay265 a b c)) := rfl
theorem l270 (v : IVec S1x128 32) (a a' b b' c c' : FVec Ideal S128x1 .f32) (x : FVec Ideal S1x128 .f32) :
    k0_pay270 (F := Ideal) v a a' b b' c c' x = addf (addf x (lz 7#32 v (k0_pay265 a b c))) (lz 8#32 v (k0_pay265 a' b' c')) := rfl
theorem l274 (v : IVec S1x128 32) (a a' b b' c c' : FVec Ideal S128x1 .f32) (x : FVec Ideal S1x128 .f32) :
    k0_pay274 (F := Ideal) v a a' b b' c c' x = addf (addf x (lz 9#32 v (k0_pay265 a b c))) (lz 10#32 v (k0_pay265 a' b' c')) := rfl
theorem l276 (v : IVec S1x128 32) (a b c : FVec Ideal S128x1 .f32) (x : FVec Ideal S1x128 .f32) :
    k0_pay276 (F := Ideal) v a b c x = addf x (lz 11#32 v (k0_pay265 a b c)) := rfl
theorem l286 (v : IVec S1x128 32) (a a' b b' c c' : FVec Ideal S128x1 .f32) (x : FVec Ideal S1x128 .f32) :
    k0_pay286 (F := Ideal) v a a' b b' c c' x k0_pay284 = addf (addf x (lz 14#32 v (k0_pay265 a b c))) (lz 15#32 v (k0_pay265 a' b' c')) := rfl

/- A head's weights, and the gradient of its scores. -/
def hP (s : Vec Ideal S1x1 .f32) (S : FVec Ideal S128x256 .f32) : FVec Ideal S128x256 .f32 :=
  k0_pay117 (k0_pay64 S (k0_pay47 s S)) (k0_pay98 (k0_pay64 S (k0_pay47 s S)) (k0_pay81 s (k0_pay47 s S)))
def hD (s : Vec Ideal S1x1 .f32) (S D : FVec Ideal S128x256 .f32) : FVec Ideal S128x256 .f32 :=
  k0_pay167 (hP s S) D (k0_pay150 (hP s S) D)
def hT (s : Vec Ideal S1x1 .f32) (S D : FVec Ideal S128x256 .f32) : FVec Ideal S1x1 .f32 :=
  k0_pay265 (k0_pay81 s (k0_pay47 s S)) (k0_pay98 (k0_pay64 S (k0_pay47 s S)) (k0_pay81 s (k0_pay47 s S))) (k0_pay150 (hP s S) D)

theorem fP (s : Vec Ideal S1x1 .f32) (S : FVec Ideal S128x256 .f32) :
    k0_pay117 (F := Ideal) (k0_pay64 S (k0_pay47 s S)) (k0_pay98 (k0_pay64 S (k0_pay47 s S)) (k0_pay81 s (k0_pay47 s S))) = hP s S := rfl
theorem fD (s : Vec Ideal S1x1 .f32) (S D : FVec Ideal S128x256 .f32) :
    k0_pay167 (F := Ideal) (hP s S) D (k0_pay150 (hP s S) D) = hD s S D := rfl
theorem fT (s : Vec Ideal S1x1 .f32) (S D : FVec Ideal S128x256 .f32) :
    k0_pay265 (F := Ideal) (k0_pay81 s (k0_pay47 s S)) (k0_pay98 (k0_pay64 S (k0_pay47 s S)) (k0_pay81 s (k0_pay47 s S))) (k0_pay150 (hP s S) D)
      = hT s S D := rfl

/-- The greatest of a row's scores and its sink. -/
def rtop (a : Fin 256 → EReal) (s : EReal) : EReal := max (Soft.top a) s
/-- The row's weights. -/
def rinv (a : Fin 256 → EReal) (s : EReal) : EReal :=
  Ideal.div 1 ((∑ j, Ideal.exp (a j - rtop a s)) + Ideal.exp (s - rtop a s))
def rP (a : Fin 256 → EReal) (s : EReal) (j : Fin 256) : EReal := Ideal.exp (a j - rtop a s) * rinv a s
/-- The gradient of the row's scores, and of its sink up to the sign. -/
def rD (a : Fin 256 → EReal) (s : EReal) (d : Fin 256 → EReal) (j : Fin 256) : EReal := rP a s j * (d j - ∑ i, rP a s i * d i)
def rT (a : Fin 256 → EReal) (s : EReal) (d : Fin 256 → EReal) : EReal := Ideal.exp (s - rtop a s) * rinv a s * ∑ i, rP a s i * d i

/-- The scaling of the scores. -/
abbrev sc : EReal := Ideal.ofBits .f32 0x3E000000#32

theorem bits_bot : Ideal.ofBits .f32 0xFF800000#32 = ⊥ := by simp [Ideal.ofBits, Ideal.ieee]

theorem read_P (s : Vec Ideal S1x1 .f32) (S : FVec Ideal S128x256 .f32) (r : Fin 128) (j : Fin 256) :
    hP s S (ix2 r j) = rP (fun j => S (ix2 r j)) (s (ix2 0 0)) j := by
  pointwise [hP, k0_pay117, k0_pay64, k0_pay47, k0_pay98, k0_pay81]
  rw [bits_bot]
  rfl

theorem read_D (s : Vec Ideal S1x1 .f32) (S D : FVec Ideal S128x256 .f32) (r : Fin 128) (j : Fin 256) :
    hD s S D (ix2 r j) = rD (fun j => S (ix2 r j)) (s (ix2 0 0)) (fun j => D (ix2 r j)) j := by
  pointwise [hD, k0_pay167, k0_pay150]
  simp only [read_P]
  rfl

theorem read_T (s : Vec Ideal S1x1 .f32) (S D : FVec Ideal S128x256 .f32) :
    hT s S D (ix2 0 0) = ∑ r : Fin 128, rT (fun j => S (ix2 r j)) (s (ix2 0 0)) (fun j => D (ix2 r j)) := by
  pointwise [hT, k0_pay265, k0_pay81, k0_pay47, k0_pay98, k0_pay64, k0_pay150]
  rw [bits_bot]
  simp only [read_P]
  rfl

theorem cmpi_iff (p : Prop) [Decidable p] (q : Bool) (h : q = true ↔ p) : BitVec.ofBool q = 1#1 ↔ p := by
  cases q <;> simp_all

theorem and_iff (x y : BitVec 1) : x &&& y = 1#1 ↔ x = 1#1 ∧ y = 1#1 := by
  revert x y; decide

theorem or_iff (x y : BitVec 1) : x ||| y = 1#1 ↔ x = 1#1 ∨ y = 1#1 := by
  revert x y; decide

theorem dist_int (r : Fin 128) (j : Fin 256) :
    (BitVec.ofNat 32 r.val + 128#32 - BitVec.ofNat 32 j.val).toInt = (r.val : ℤ) + 128 - j.val := by
  have h1 := r.isLt
  have h2 := j.isLt
  rw [BitVec.toInt_eq_toNat_cond]
  simp only [BitVec.toNat_sub, BitVec.toNat_add, BitVec.toNat_ofNat]
  split <;> omega

theorem small_int (n : ℕ) (h : n < 1024) : (BitVec.ofNat 32 n).toInt = n := by
  rw [BitVec.toInt_eq_toNat_cond]
  simp only [BitVec.toNat_ofNat]
  split <;> omega

theorem read_S (w : IVec S128x256 1) (q : Vec Ideal S128x64 .f32) (k : FVec Ideal S256x64 .f32) (b : FVec Ideal S128x256 .f32) (r : Fin 128) (j : Fin 256) :
    k0_pay27 (F := Ideal) w q k b (ix2 r j) = if w (ix2 r j) = 1#1 then (∑ d : Fin 64, q (ix2 r d) * k (ix2 j d)) * sc + b (ix2 r j) else ⊥ := by
  pointwise [k0_pay27]
  have hm : (Named.named (F := Ideal) (φ := .f32) κ "mask" 0xF149F2CA#32 : EReal) = ⊥ := IdealRules.named_const.ideal_named_scalar _ _ _ _ rfl
  rw [show ∀ x : EReal, Scalar.select (w (ix2 r j)) x (Named.named (F := Ideal) (φ := .f32) κ "mask" 0xF149F2CA#32 : EReal) = if w (ix2 r j) = 1#1 then x else ⊥
    from fun x => congrArg (Scalar.select (w (ix2 r j)) x) hm]

theorem read_dp (o : Vec Ideal S128x64 .f32) (v : FVec Ideal S256x64 .f32) (r : Fin 128) (j : Fin 256) :
    k0_pay133 (F := Ideal) o v (ix2 r j) = ∑ d : Fin 64, o (ix2 r d) * v (ix2 j d) := by
  pointwise [k0_pay133]

theorem read_dq (k : FVec Ideal S256x64 .f32) (D : FVec Ideal S128x256 .f32) (r : Fin 128) (d : Fin 64) :
    k0_pay201 (F := Ideal) k (k0_pay184 D) (ix2 r d) = ∑ j : Fin 256, D (ix2 r j) * sc * k (ix2 j d) := by
  pointwise [k0_pay201, k0_pay184]

theorem read_dk (q : Vec Ideal S128x64 .f32) (D : FVec Ideal S128x256 .f32) (j : Fin 256) (d : Fin 64) :
    k0_pay218 (F := Ideal) q (k0_pay184 D) (ix2 j d) = ∑ r : Fin 128, D (ix2 r j) * sc * q (ix2 r d) := by
  pointwise [k0_pay218, k0_pay184]

theorem read_dv (o : Vec Ideal S128x64 .f32) (P : FVec Ideal S128x256 .f32) (j : Fin 256) (d : Fin 64) :
    k0_pay218 (F := Ideal) o P (ix2 j d) = ∑ r : Fin 128, P (ix2 r j) * o (ix2 r d) := by
  pointwise [k0_pay218]

theorem read_db (D : FVec Ideal S128x256 .f32) (a : Vec Ideal S1x128x256 .f32) (r : Fin 128) (j : Fin 256) :
    k0_pay253 (F := Ideal) D a (ix3 0 r j) = a (ix3 0 r j) + D (ix2 r j) := by
  pointwise [k0_pay253]

theorem read_b (b : Vec Ideal S1x128x256 .f32) (r : Fin 128) (j : Fin 256) : k0_pay11 (F := Ideal) b (ix2 r j) = b (ix3 0 r j) := by
  pointwise [k0_pay11]

theorem read_sum (a b c d e f g h : FVec Ideal S256x64 .f32) (i : S256x64.Idx) :
    k0_pay287 (F := Ideal) a b c d e f g h i = a i + b i + c i + d i + e i + f i + g i + h i := by
  pointwise [k0_pay287]

theorem read_lo (a : FVec Ideal S256x64 .f32) (r : Fin 128) (d : Fin 64) : k0_pay290 (F := Ideal) a (ix2 r d) = a (ix2 ⟨r.val, by omega⟩ d) := by
  pointwise [k0_pay290]

theorem read_hi (a : FVec Ideal S256x64 .f32) (r : Fin 128) (d : Fin 64) : k0_pay291 (F := Ideal) a (ix2 r d) = a (ix2 ⟨128 + r.val, by omega⟩ d) := by
  pointwise [k0_pay291]

theorem read_g0 (x y : Vec Ideal S128x128 .f32) (j : Fin 256) (d : Fin 64) :
    k0_pay7 (F := Ideal) (k0_pay5 x y) (ix2 j d)
      = if h : j.val < 128 then x (ix2 ⟨j.val, h⟩ ⟨d.val, by omega⟩) else y (ix2 ⟨j.val - 128, by omega⟩ ⟨d.val, by omega⟩) := by
  pointwise [k0_pay7, k0_pay5]

theorem read_g1 (x y : Vec Ideal S128x128 .f32) (j : Fin 256) (d : Fin 64) :
    k0_pay8 (F := Ideal) (k0_pay5 x y) (ix2 j d)
      = if h : j.val < 128 then x (ix2 ⟨j.val, h⟩ ⟨64 + d.val, by omega⟩) else y (ix2 ⟨j.val - 128, by omega⟩ ⟨64 + d.val, by omega⟩) := by
  pointwise [k0_pay8, k0_pay5]

theorem read_lz (k : BitVec 32) (v : IVec S1x128 32) (t : FVec Ideal S1x1 .f32) (l : Fin 128) :
    lz k v t (ix2 0 l) = if v (ix2 0 l) = k then 0 - t (ix2 0 0) else 0 := by
  pointwise [lz]
  simp only [Scalar.select, IntOp.cmpi]
  exact if_congr (cmpi_iff _ _ beq_iff_eq) rfl rfl

theorem read_mask (i : grid0.Coords) (r : Fin 128) (j : Fin 256) :
    k0_pay4 i (ix2 r j) = 1#1 ↔ (j.val ≤ r.val + 128 ∧ r.val < j.val ∧ (0 < (i 0).val ∨ 128 ≤ j.val)) := by
  pointwise [k0_pay4]
  simp only [IntOp.andi, IntOp.ori, and_iff, or_iff, IntOp.cmpi, Scalar.cmpi, IntOp.subi, IntOp.addi]
  have hi : (i 0).val < 64 := (i 0).isLt
  have h1 := dist_int r j
  have h2 := small_int j.val (by omega)
  have z0 : (0#32).toInt = 0 := by decide
  have z1 : (128#32).toInt = 128 := by decide
  have h3 := small_int (i 0).val (by omega)
  simp only [cmpi_iff _ _ Iff.rfl, BitVec.sle_iff_toInt_le, BitVec.slt_iff_toInt_lt, h1, h2, h3, z0, z1]
  omega

end Cert.SwaIdeal.Value

end
-- ==== Proof.SwaPiece.lean ====
module

public import proofs.«01_k».proof.Proof.Gen.SwaIdeal.Value
public import proofs.«01_k».proof.Proof.SwaHead
public import Idealize.ShloMosaic.Lib.Pipeline.ValueKit
public import Idealize.ShloMosaic.Lib.Pipeline.ReadBack

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

/-- Row `r` of block `n`, and the row of slot `j` of its band. -/
def qrow (n : Fin 64) (r : Fin 128) : Fin 8192 := ⟨n.val * 128 + r.val, by omega⟩
def krow (n : Fin 64) (j : Fin 256) : Fin 8192 := ⟨if j.val < 128 then (n.val - 1) * 128 + j.val else n.val * 128 + (j.val - 128), by split <;> omega⟩
/-- The columns of head `h`: its queries, its keys, its values, its outputs. -/
def qcol (h : Fin 16) (d : Fin 64) : Fin 1408 := ⟨64 * h.val + d.val, by omega⟩
def ocol (h : Fin 16) (d : Fin 64) : Fin 1024 := ⟨64 * h.val + d.val, by omega⟩
def kcol (h : Fin 16) (d : Fin 64) : Fin 1408 := ⟨1024 + (64 * (h.val / 8) + d.val), by omega⟩
def vcol (h : Fin 16) (d : Fin 64) : Fin 1408 := ⟨1152 + (64 * (h.val / 8) + d.val), by omega⟩

/-- Slot `j` lies in row `r`'s window of block `n`. -/
abbrev Seen (n : Fin 64) (r : Fin 128) (j : Fin 256) : Prop := j.val ≤ r.val + 128 ∧ r.val < j.val ∧ (0 < n.val ∨ 128 ≤ j.val)

section Spec

variable (A : Vec Ideal S8192x1408 .f32) (B : Vec Ideal S16x128x256 .f32) (S : Vec Ideal S1x16 .f32) (O : Vec Ideal S8192x1024 .f32)

/-- The scores of a row. -/
def SC (n : Fin 64) (h : Fin 16) (r : Fin 128) (j : Fin 256) : EReal :=
  if Seen n r j then (∑ d : Fin 64, A (ix2 (qrow n r) (qcol h d)) * A (ix2 (krow n j) (kcol h d))) * sc + B (ix3 h r j) else ⊥
/-- The gradients of a row's weights. -/
def WG (n : Fin 64) (h : Fin 16) (r : Fin 128) (j : Fin 256) : EReal :=
  ∑ d : Fin 64, O (ix2 (qrow n r) (ocol h d)) * A (ix2 (krow n j) (vcol h d))
/-- The weights. -/
def PW (n : Fin 64) (h : Fin 16) (r : Fin 128) (j : Fin 256) : EReal := rP (SC A B n h r) (S (ix2 0 h)) j
/-- The gradients of the scores. -/
def DW (n : Fin 64) (h : Fin 16) (r : Fin 128) (j : Fin 256) : EReal := rD (SC A B n h r) (S (ix2 0 h)) (WG A O n h r) j
/-- The gradient of the sink, up to the sign. -/
def TW (n : Fin 64) (h : Fin 16) (r : Fin 128) : EReal := rT (SC A B n h r) (S (ix2 0 h)) (WG A O n h r)

/-- The block and the place of a row; the head and the place of a column. -/
def blkOf (R : Fin 8192) : Fin 64 := ⟨R.val / 128, by omega⟩
def rowOf (R : Fin 8192) : Fin 128 := ⟨R.val % 128, by omega⟩
def headOf (x : Fin 1024) : Fin 16 := ⟨x.val / 64, by omega⟩
def laneOf (x : Fin 1024) : Fin 64 := ⟨x.val % 64, by omega⟩
/-- Head `e` of the group whose keys hold column `x`, and the column's place. -/
def member (x : Fin 128) (e : Fin 8) : Fin 16 := ⟨8 * (x.val / 64) + e.val, by omega⟩
def place (x : Fin 128) : Fin 64 := ⟨x.val % 64, by omega⟩

/-- The gradient of the queries. -/
def DQ (R : Fin 8192) (x : Fin 1024) : EReal :=
  ∑ j : Fin 256, DW A B S O (blkOf R) (headOf x) (rowOf R) j * sc * A (ix2 (krow (blkOf R) j) (kcol (headOf x) (laneOf x)))
/-- The gradients of a band's keys and values. -/
def DK (n : Fin 64) (j : Fin 256) (x : Fin 128) : EReal :=
  ∑ e : Fin 8, ∑ r : Fin 128, DW A B S O n (member x e) r j * sc * A (ix2 (qrow n r) (qcol (member x e) (place x)))
def DV (n : Fin 64) (j : Fin 256) (x : Fin 128) : EReal :=
  ∑ e : Fin 8, ∑ r : Fin 128, PW A B S n (member x e) r j * O (ix2 (qrow n r) (ocol (member x e) (place x)))
/-- What block `n` adds to the sinks' gradient in lane `l`. -/
def TS (n : Fin 64) (l : Fin 128) : EReal := ∑ h : Fin 16, if l.val = h.val then 0 - ∑ r : Fin 128, TW A B S O n h r else 0

end Spec

variable (m : (ℓ : Loc nD τ sig) → Buf (Elt Ideal) ℓ)

/-- The arguments of the call on device `c`. -/
abbrev argA (c : Dev nD) : Vec Ideal S8192x1408 .f32 := m ((c : Thread nD τ).loc main_arg0)
abbrev argB (c : Dev nD) : Vec Ideal S16x128x256 .f32 := m ((c : Thread nD τ).loc main_arg1)
abbrev argS (c : Dev nD) : Vec Ideal S1x16 .f32 := m ((c : Thread nD τ).loc main_arg2)
abbrev argO (c : Dev nD) : Vec Ideal S8192x1024 .f32 := m ((c : Thread nD τ).loc main_arg3)

/-- A point's block. -/
def nn (t : Fin cfg0.N) : Fin 64 := ⟨t.val, by have h := t.isLt; have e : cfg0.N = 64 := N_0; omega⟩

theorem idx : ∀ t : Fin cfg0.N, win0_0.index t = ![t.val, 0] ∧ win0_1.index t = ![t.val - 1, 8] ∧ win0_2.index t = ![t.val, 8]
    ∧ win0_3.index t = ![t.val - 1, 9] ∧ win0_4.index t = ![t.val, 9] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0, 0] ∧ win0_14.index t = ![0, 0] :=
  (by decide +kernel : ∀ t : Fin grid0.N, _)

theorem coords0 : ∀ t : Fin cfg0.N, ((grid0.coords t) 0).val = t.val := (by decide +kernel : ∀ t : Fin grid0.N, _)

theorem blk_q (c : Dev nD) (t : Fin cfg0.N) (x : S128x1024.Idx) (i : S8192x1408.Idx) (h0 : (i 0 : ℕ) = t.val * 128 + x 0) (h1 : (i 1 : ℕ) = x 1) :
    (X0_0 m c t : Vec Ideal S128x1024 .f32) x = argA m c i := by
  unfold X0_0 Pipeline.Window.fill
  rw [dif_pos (moved0_0 t x)]
  blk_ext [iblk, V, idx t]

theorem blk_kp (c : Dev nD) (t : Fin cfg0.N) (x : S128x128.Idx) (i : S8192x1408.Idx) (h0 : (i 0 : ℕ) = (t.val - 1) * 128 + x 0) (h1 : (i 1 : ℕ) = 1024 + x 1) :
    (iblk m c 1 t : Vec Ideal S128x128 .f32) x = argA m c i := by
  blk_ext [iblk, V, idx t]

theorem blk_kc (c : Dev nD) (t : Fin cfg0.N) (x : S128x128.Idx) (i : S8192x1408.Idx) (h0 : (i 0 : ℕ) = t.val * 128 + x 0) (h1 : (i 1 : ℕ) = 1024 + x 1) :
    (iblk m c 2 t : Vec Ideal S128x128 .f32) x = argA m c i := by
  blk_ext [iblk, V, idx t]

theorem blk_vp (c : Dev nD) (t : Fin cfg0.N) (x : S128x128.Idx) (i : S8192x1408.Idx) (h0 : (i 0 : ℕ) = (t.val - 1) * 128 + x 0) (h1 : (i 1 : ℕ) = 1152 + x 1) :
    (iblk m c 3 t : Vec Ideal S128x128 .f32) x = argA m c i := by
  blk_ext [iblk, V, idx t]

theorem blk_vc (c : Dev nD) (t : Fin cfg0.N) (x : S128x128.Idx) (i : S8192x1408.Idx) (h0 : (i 0 : ℕ) = t.val * 128 + x 0) (h1 : (i 1 : ℕ) = 1152 + x 1) :
    (iblk m c 4 t : Vec Ideal S128x128 .f32) x = argA m c i := by
  blk_ext [iblk, V, idx t]

theorem blk_b (c : Dev nD) (t : Fin cfg0.N) (x : S16x128x256.Idx) : (iblk m c 5 t : Vec Ideal S16x128x256 .f32) x = argB m c x := by
  blk_ext [iblk, V, idx t]

theorem blk_s (c : Dev nD) (t : Fin cfg0.N) (x : S1x16.Idx) : (iblk m c 6 t : Vec Ideal S1x16 .f32) x = argS m c x := by
  blk_ext [iblk, V, idx t]

theorem blk_o (c : Dev nD) (t : Fin cfg0.N) (x : S128x1024.Idx) (i : S8192x1024.Idx) (h0 : (i 0 : ℕ) = t.val * 128 + x 0) (h1 : (i 1 : ℕ) = x 1) :
    (iblk m c 7 t : Vec Ideal S128x1024 .f32) x = argO m c i := by
  blk_ext [iblk, V, idx t]

/-- A head's operands, as a point loads them. -/
abbrev qC (c : Dev nD) (t : Fin cfg0.N) (off : ℕ) (iq : ∀ a, ![0, off] a + S128x64.size a ≤ S128x1024.size a) : Vec Ideal S128x64 .f32 :=
  View.ld (X0_0 m c t : Vec Ideal S128x1024 .f32) (Rect.unit ![0, off] ![128, 64] iq)
abbrev oC (c : Dev nD) (t : Fin cfg0.N) (off : ℕ) (iq : ∀ a, ![0, off] a + S128x64.size a ≤ S128x1024.size a) : Vec Ideal S128x64 .f32 :=
  View.ld (iblk m c 7 t : Vec Ideal S128x1024 .f32) (Rect.unit ![0, off] ![128, 64] iq)
abbrev sC (c : Dev nD) (t : Fin cfg0.N) (hh : ℕ) (is : ∀ a, ![0, hh] a + S1x1.size a ≤ S1x16.size a) : Vec Ideal S1x1 .f32 :=
  View.ld (iblk m c 6 t : Vec Ideal S1x16 .f32) (Rect.unit ![0, hh] ![1, 1] is)
abbrev bC (c : Dev nD) (t : Fin cfg0.N) (hh : ℕ) (ib : ∀ a, ![hh, 0, 0] a + S1x128x256.size a ≤ S16x128x256.size a) : Vec Ideal S1x128x256 .f32 :=
  View.ld (iblk m c 5 t : Vec Ideal S16x128x256 .f32) (Rect.unit ![hh, 0, 0] ![1, 128, 256] ib)

/-- A head's scores and the gradients of its weights, as a point forms them. -/
abbrev sV (c : Dev nD) (t : Fin cfg0.N) (off hh : ℕ) (K : FVec Ideal S256x64 .f32) (iq : ∀ a, ![0, off] a + S128x64.size a ≤ S128x1024.size a)
    (ib : ∀ a, ![hh, 0, 0] a + S1x128x256.size a ≤ S16x128x256.size a) : FVec Ideal S128x256 .f32 :=
  k0_pay27 (k0_pay4 (grid0.coords t)) (qC m c t off iq) K (k0_pay11 (bC m c t hh ib))
abbrev gV (c : Dev nD) (t : Fin cfg0.N) (off : ℕ) (V' : FVec Ideal S256x64 .f32) (iq : ∀ a, ![0, off] a + S128x64.size a ≤ S128x1024.size a) :
    FVec Ideal S128x256 .f32 := k0_pay133 (oC m c t off iq) V'

/-- The band's keys and values, of the first group of heads and of the second. -/
abbrev kA (c : Dev nD) (t : Fin cfg0.N) : FVec Ideal S256x64 .f32 := k0_pay7 (F := Ideal) (k0_pay5 (iblk m c 1 t) (iblk m c 2 t))
abbrev kB (c : Dev nD) (t : Fin cfg0.N) : FVec Ideal S256x64 .f32 := k0_pay8 (F := Ideal) (k0_pay5 (iblk m c 1 t) (iblk m c 2 t))
abbrev vA (c : Dev nD) (t : Fin cfg0.N) : FVec Ideal S256x64 .f32 := k0_pay7 (F := Ideal) (k0_pay5 (iblk m c 3 t) (iblk m c 4 t))
abbrev vB (c : Dev nD) (t : Fin cfg0.N) : FVec Ideal S256x64 .f32 := k0_pay8 (F := Ideal) (k0_pay5 (iblk m c 3 t) (iblk m c 4 t))

theorem is_kA (c : Dev nD) (t : Fin cfg0.N) (h : Fin 16) (hg : h.val / 8 = 0) (j : Fin 256) (d : Fin 64) :
    kA m c t (ix2 j d) = argA m c (ix2 (krow (nn t) j) (kcol h d)) := by
  refine (read_g0 _ _ j d).trans ?_
  split
  · exact blk_kp m c t _ _ (by show (if j.val < 128 then (t.val - 1) * 128 + j.val else _) = (t.val - 1) * 128 + j.val; rw [if_pos (by omega)])
      (by show 1024 + (64 * (h.val / 8) + d.val) = 1024 + d.val; omega)
  · exact blk_kc m c t _ _ (by show (if j.val < 128 then _ else t.val * 128 + (j.val - 128)) = t.val * 128 + (j.val - 128); rw [if_neg (by omega)])
      (by show 1024 + (64 * (h.val / 8) + d.val) = 1024 + d.val; omega)

theorem is_kB (c : Dev nD) (t : Fin cfg0.N) (h : Fin 16) (hg : h.val / 8 = 1) (j : Fin 256) (d : Fin 64) :
    kB m c t (ix2 j d) = argA m c (ix2 (krow (nn t) j) (kcol h d)) := by
  refine (read_g1 _ _ j d).trans ?_
  split
  · exact blk_kp m c t _ _ (by show (if j.val < 128 then (t.val - 1) * 128 + j.val else _) = (t.val - 1) * 128 + j.val; rw [if_pos (by omega)])
      (by show 1024 + (64 * (h.val / 8) + d.val) = 1024 + (64 + d.val); omega)
  · exact blk_kc m c t _ _ (by show (if j.val < 128 then _ else t.val * 128 + (j.val - 128)) = t.val * 128 + (j.val - 128); rw [if_neg (by omega)])
      (by show 1024 + (64 * (h.val / 8) + d.val) = 1024 + (64 + d.val); omega)

theorem is_vA (c : Dev nD) (t : Fin cfg0.N) (h : Fin 16) (hg : h.val / 8 = 0) (j : Fin 256) (d : Fin 64) :
    vA m c t (ix2 j d) = argA m c (ix2 (krow (nn t) j) (vcol h d)) := by
  refine (read_g0 _ _ j d).trans ?_
  split
  · exact blk_vp m c t _ _ (by show (if j.val < 128 then (t.val - 1) * 128 + j.val else _) = (t.val - 1) * 128 + j.val; rw [if_pos (by omega)])
      (by show 1152 + (64 * (h.val / 8) + d.val) = 1152 + d.val; omega)
  · exact blk_vc m c t _ _ (by show (if j.val < 128 then _ else t.val * 128 + (j.val - 128)) = t.val * 128 + (j.val - 128); rw [if_neg (by omega)])
      (by show 1152 + (64 * (h.val / 8) + d.val) = 1152 + d.val; omega)

theorem is_vB (c : Dev nD) (t : Fin cfg0.N) (h : Fin 16) (hg : h.val / 8 = 1) (j : Fin 256) (d : Fin 64) :
    vB m c t (ix2 j d) = argA m c (ix2 (krow (nn t) j) (vcol h d)) := by
  refine (read_g1 _ _ j d).trans ?_
  split
  · exact blk_vp m c t _ _ (by show (if j.val < 128 then (t.val - 1) * 128 + j.val else _) = (t.val - 1) * 128 + j.val; rw [if_pos (by omega)])
      (by show 1152 + (64 * (h.val / 8) + d.val) = 1152 + (64 + d.val); omega)
  · exact blk_vc m c t _ _ (by show (if j.val < 128 then _ else t.val * 128 + (j.val - 128)) = t.val * 128 + (j.val - 128); rw [if_neg (by omega)])
      (by show 1152 + (64 * (h.val / 8) + d.val) = 1152 + (64 + d.val); omega)

section Head

variable (c : Dev nD) (t : Fin cfg0.N) (h : Fin 16) (off hh : ℕ) (hoff : off = 64 * h.val) (hhh : hh = h.val)
  (K V' : FVec Ideal S256x64 .f32)
  (hK : ∀ j d, K (ix2 j d) = argA m c (ix2 (krow (nn t) j) (kcol h d)))
  (hV : ∀ j d, V' (ix2 j d) = argA m c (ix2 (krow (nn t) j) (vcol h d)))
  (iq : ∀ a, ![0, off] a + S128x64.size a ≤ S128x1024.size a) (is : ∀ a, ![0, hh] a + S1x1.size a ≤ S1x16.size a)
  (ib : ∀ a, ![hh, 0, 0] a + S1x128x256.size a ≤ S16x128x256.size a)

theorem at_cols (X : Vec Ideal S128x1024 .f32) (r : Fin 128) (d : Fin 64) (e : Fin 1024) (he : e.val = off + d.val) :
    View.ld X (Rect.unit ![0, off] ![128, 64] iq) (ix2 r d) = X (ix2 r e) :=
  View.ld_unit_apply_of X ![0, off] ![128, 64] iq (ix2 r d) (ix2 r e) (fun a => match a with
    | ⟨0, _⟩ => by show r.val = 0 + r.val; omega
    | ⟨1, _⟩ => by show e.val = off + d.val; omega)

include hoff in
theorem ld_q (r : Fin 128) (d : Fin 64) : qC m c t off iq (ix2 r d) = argA m c (ix2 (qrow (nn t) r) (qcol h d)) :=
  (at_cols off iq (X0_0 m c t) r d (ocol h d) (by show 64 * h.val + d.val = _; omega)).trans (blk_q m c t _ _ rfl rfl)

include hoff in
theorem ld_o (r : Fin 128) (d : Fin 64) : oC m c t off iq (ix2 r d) = argO m c (ix2 (qrow (nn t) r) (ocol h d)) :=
  (at_cols off iq (iblk m c 7 t) r d (ocol h d) (by show 64 * h.val + d.val = _; omega)).trans (blk_o m c t _ _ rfl rfl)

include hhh in
theorem ld_s : sC m c t hh is (ix2 0 0) = argS m c (ix2 0 h) :=
  (View.ld_unit_apply_of (iblk m c 6 t : Vec Ideal S1x16 .f32) ![0, hh] ![1, 1] is (ix2 0 0) (ix2 0 h) (fun a => match a with
    | ⟨0, _⟩ => rfl
    | ⟨1, _⟩ => by show h.val = hh + 0; omega)).trans (blk_s m c t _)

include hhh in
theorem ld_b (r : Fin 128) (j : Fin 256) : bC m c t hh ib (ix3 0 r j) = argB m c (ix3 h r j) :=
  (View.ld_unit_apply_of (iblk m c 5 t : Vec Ideal S16x128x256 .f32) ![hh, 0, 0] ![1, 128, 256] ib (ix3 0 r j) (ix3 h r j) (fun a => match a with
    | ⟨0, _⟩ => by show h.val = hh + 0; omega
    | ⟨1, _⟩ => by show r.val = 0 + r.val; omega
    | ⟨2, _⟩ => by show j.val = 0 + j.val; omega)).trans (blk_b m c t _)

include hoff hhh hK in
theorem rowS (r : Fin 128) : (fun j => sV m c t off hh K iq ib (ix2 r j)) = SC (argA m c) (argB m c) (nn t) h r := by
  funext j
  refine (read_S _ _ _ _ r j).trans ?_
  rw [SC]
  refine if_congr ((read_mask _ r j).trans (by rw [coords0 t]; exact Iff.rfl)) ?_ rfl
  rw [read_b, ld_b m c t h hh hhh ib r j]
  simp only [hK, ld_q m c t h off hoff iq r]

include hoff hV in
theorem rowG (r : Fin 128) : (fun j => gV m c t off V' iq (ix2 r j)) = WG (argA m c) (argO m c) (nn t) h r := by
  funext j
  refine (read_dp _ _ r j).trans ?_
  simp only [hV, ld_o m c t h off hoff iq r]
  rfl

include hoff hhh hK in
theorem headP (r : Fin 128) (j : Fin 256) :
    hP (sC m c t hh is) (sV m c t off hh K iq ib) (ix2 r j) = PW (argA m c) (argB m c) (argS m c) (nn t) h r j := by
  rw [read_P, rowS m c t h off hh hoff hhh K hK iq ib r, ld_s m c t h hh hhh is]
  rfl

include hoff hhh hK hV in
theorem headD (r : Fin 128) (j : Fin 256) :
    hD (sC m c t hh is) (sV m c t off hh K iq ib) (gV m c t off V' iq) (ix2 r j) = DW (argA m c) (argB m c) (argS m c) (argO m c) (nn t) h r j := by
  rw [read_D, rowS m c t h off hh hoff hhh K hK iq ib r, ld_s m c t h hh hhh is, rowG m c t h off hoff V' hV iq r]
  rfl

include hoff hhh hK hV in
theorem headT : hT (sC m c t hh is) (sV m c t off hh K iq ib) (gV m c t off V' iq) (ix2 0 0)
    = ∑ r : Fin 128, TW (argA m c) (argB m c) (argS m c) (argO m c) (nn t) h r := by
  rw [read_T]
  refine Finset.sum_congr rfl fun r _ => ?_
  rw [rowS m c t h off hh hoff hhh K hK iq ib r, ld_s m c t h hh hhh is, rowG m c t h off hoff V' hV iq r]
  rfl

include hoff hhh hK hV in
theorem tile_dq (r : Fin 128) (d : Fin 64) :
    k0_pay201 K (k0_pay184 (hD (sC m c t hh is) (sV m c t off hh K iq ib) (gV m c t off V' iq))) (ix2 r d)
      = ∑ j : Fin 256, DW (argA m c) (argB m c) (argS m c) (argO m c) (nn t) h r j * sc * argA m c (ix2 (krow (nn t) j) (kcol h d)) := by
  refine (read_dq _ _ r d).trans (Finset.sum_congr rfl fun j _ => ?_)
  rw [headD m c t h off hh hoff hhh K V' hK hV iq is ib, hK]

include hoff hhh hK hV in
theorem piece_dq (x : S128x64.Idx) (i : S8192x1024.Idx) (h0 : (i 0 : ℕ) = t.val * 128 + x 0) (h1 : (i 1 : ℕ) = off + x 1) :
    k0_pay201 K (k0_pay184 (hD (sC m c t hh is) (sV m c t off hh K iq ib) (gV m c t off V' iq))) x
      = DQ (argA m c) (argB m c) (argS m c) (argO m c) (i 0) (i 1) := by
  have hx : x = ix2 (x 0) (x 1) := funext fun a => match a with | ⟨0, _⟩ => rfl | ⟨1, _⟩ => rfl
  have hx0 : (x 0 : ℕ) < 128 := (x 0).isLt
  have hx1 : (x 1 : ℕ) < 64 := (x 1).isLt
  have e1 : headOf (i 1) = h := Fin.ext (by show (i 1 : ℕ) / 64 = h; omega)
  have e2 : laneOf (i 1) = x 1 := Fin.ext (by show (i 1 : ℕ) % 64 = x 1; omega)
  have e3 : blkOf (i 0) = nn t := Fin.ext (by show (i 0 : ℕ) / 128 = t.val; omega)
  have e4 : rowOf (i 0) = x 0 := Fin.ext (by show (i 0 : ℕ) % 128 = x 0; omega)
  refine (congrArg _ hx).trans ((tile_dq m c t h off hh hoff hhh K V' hK hV iq is ib (x 0) (x 1)).trans ?_)
  rw [← e1, ← e2, ← e3, ← e4]
  rfl

include hoff hhh hK hV in
theorem tile_dk (j : Fin 256) (d : Fin 64) :
    k0_pay218 (qC m c t off iq) (k0_pay184 (hD (sC m c t hh is) (sV m c t off hh K iq ib) (gV m c t off V' iq))) (ix2 j d)
      = ∑ r : Fin 128, DW (argA m c) (argB m c) (argS m c) (argO m c) (nn t) h r j * sc * argA m c (ix2 (qrow (nn t) r) (qcol h d)) := by
  refine (read_dk _ _ j d).trans (Finset.sum_congr rfl fun r _ => ?_)
  rw [headD m c t h off hh hoff hhh K V' hK hV iq is ib, ld_q m c t h off hoff iq]

include hoff hhh hK in
theorem tile_dv (j : Fin 256) (d : Fin 64) :
    k0_pay218 (oC m c t off iq) (hP (sC m c t hh is) (sV m c t off hh K iq ib)) (ix2 j d)
      = ∑ r : Fin 128, PW (argA m c) (argB m c) (argS m c) (nn t) h r j * argO m c (ix2 (qrow (nn t) r) (ocol h d)) := by
  refine (read_dv _ _ j d).trans (Finset.sum_congr rfl fun r _ => ?_)
  rw [headP m c t h off hh hoff hhh K hK iq is ib, ld_o m c t h off hoff iq]

include hoff hhh hK hV in
theorem tile_db (acc : Vec Ideal S1x128x256 .f32) (r : Fin 128) (j : Fin 256) :
    k0_pay253 (hD (sC m c t hh is) (sV m c t off hh K iq ib) (gV m c t off V' iq)) acc (ix3 0 r j)
      = acc (ix3 0 r j) + DW (argA m c) (argB m c) (argS m c) (argO m c) (nn t) h r j := by
  rw [read_db, headD m c t h off hh hoff hhh K V' hK hV iq is ib]

include hoff hhh hK hV in
theorem piece_db (acc : Vec Ideal S1x128x256 .f32) (x : S1x128x256.Idx) (y : S16x128x256.Idx) (h0 : (y 0 : ℕ) = hh + x 0) (h1 : (y 1 : ℕ) = x 1) (h2 : (y 2 : ℕ) = x 2) :
    k0_pay253 (hD (sC m c t hh is) (sV m c t off hh K iq ib) (gV m c t off V' iq)) acc x
      = acc x + DW (argA m c) (argB m c) (argS m c) (argO m c) (nn t) (y 0) (y 1) (y 2) := by
  have hx0 : (x 0 : ℕ) < 1 := (x 0).isLt
  have hx : x = ix3 0 (x 1) (x 2) := funext fun a => match a with | ⟨0, _⟩ => Fin.ext (by show (x 0 : ℕ) = 0; omega) | ⟨1, _⟩ => rfl | ⟨2, _⟩ => rfl
  have e0 : y 0 = h := Fin.ext (by omega)
  have e1 : y 1 = x 1 := Fin.ext h1
  have e2 : y 2 = x 2 := Fin.ext h2
  rw [e0, e1, e2]
  exact (congrArg _ hx).trans ((tile_db m c t h off hh hoff hhh K V' hK hV iq is ib acc (x 1) (x 2)).trans (congrArg (acc · + _) hx.symm))

end Head

theorem lo_sum (f : Fin 8 → Fin 256 → Fin 64 → EReal) (a : Fin 8 → FVec Ideal S256x64 .f32) (ha : ∀ e j d, a e (ix2 j d) = f e j d) (r : Fin 128) (d : Fin 64) :
    k0_pay290 (F := Ideal) (k0_pay287 (a 0) (a 1) (a 2) (a 3) (a 4) (a 5) (a 6) (a 7)) (ix2 r d) = ∑ e, f e ⟨r.val, by omega⟩ d := by
  rw [read_lo, read_sum, Fin.sum_univ_eight]
  simp only [ha]

theorem hi_sum (f : Fin 8 → Fin 256 → Fin 64 → EReal) (a : Fin 8 → FVec Ideal S256x64 .f32) (ha : ∀ e j d, a e (ix2 j d) = f e j d) (r : Fin 128) (d : Fin 64) :
    k0_pay291 (F := Ideal) (k0_pay287 (a 0) (a 1) (a 2) (a 3) (a 4) (a 5) (a 6) (a 7)) (ix2 r d) = ∑ e, f e ⟨128 + r.val, by omega⟩ d := by
  rw [read_hi, read_sum, Fin.sum_univ_eight]
  simp only [ha]

end Cert.SwaIdeal.Value

end
-- ==== Proof.SwaPoint.lean ====
module

public import proofs.«01_k».proof.Proof.SwaPiece

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ)

/-- Head `e` of group `g`. -/
def hd (g : Fin 2) (e : Fin 8) : Fin 16 := ⟨8 * g.val + e.val, by omega⟩
/-- A row's slot as a key of its own block, and as a key of the next. -/
def curSlot (R : Fin 8192) : Fin 256 := ⟨128 + R.val % 128, by omega⟩
def prevSlot (R : Fin 8192) : Fin 256 := ⟨R.val % 128, by omega⟩

section Group

variable (A : Vec Ideal S8192x1408 .f32) (B : Vec Ideal S16x128x256 .f32) (S : Vec Ideal S1x16 .f32) (O : Vec Ideal S8192x1024 .f32)

/-- A head's share of the gradients of its keys and values. -/
def hK (n : Fin 64) (h : Fin 16) (j : Fin 256) (d : Fin 64) : EReal :=
  ∑ r : Fin 128, DW A B S O n h r j * sc * A (ix2 (qrow n r) (qcol h d))
def hV (n : Fin 64) (h : Fin 16) (j : Fin 256) (d : Fin 64) : EReal :=
  ∑ r : Fin 128, PW A B S n h r j * O (ix2 (qrow n r) (ocol h d))

theorem DK_of (n : Fin 64) (j : Fin 256) (x : Fin 128) (g : Fin 2) (d : Fin 64) (hx : x.val = 64 * g.val + d.val) :
    DK A B S O n j x = ∑ e, hK A B S O n (hd g e) j d := by
  refine Finset.sum_congr rfl fun e _ => ?_
  have e1 : member x e = hd g e := Fin.ext (by show 8 * (x.val / 64) + e.val = 8 * g.val + e.val; omega)
  have e2 : place x = d := Fin.ext (by show x.val % 64 = d.val; omega)
  rw [e1, e2]
  rfl

theorem DV_of (n : Fin 64) (j : Fin 256) (x : Fin 128) (g : Fin 2) (d : Fin 64) (hx : x.val = 64 * g.val + d.val) :
    DV A B S O n j x = ∑ e, hV A B S O n (hd g e) j d := by
  refine Finset.sum_congr rfl fun e _ => ?_
  have e1 : member x e = hd g e := Fin.ext (by show 8 * (x.val / 64) + e.val = 8 * g.val + e.val; omega)
  have e2 : place x = d := Fin.ext (by show x.val % 64 = d.val; omega)
  rw [e1, e2]
  rfl

end Group

section Sums

variable (t : Fin cfg0.N) (f : Fin 16 → Fin 256 → Fin 64 → EReal) (g : Fin 2) (a0 a1 a2 a3 a4 a5 a6 a7 : FVec Ideal S256x64 .f32)
  (G : Fin 64 → Fin 256 → Fin 128 → EReal) (hG : ∀ n j (x : Fin 128) d, n = nn t → x.val = 64 * g.val + d.val → G n j x = ∑ e, f (hd g e) j d)
  (h0 : ∀ j d, a0 (ix2 j d) = f (hd g 0) j d) (h1 : ∀ j d, a1 (ix2 j d) = f (hd g 1) j d) (h2 : ∀ j d, a2 (ix2 j d) = f (hd g 2) j d)
  (h3 : ∀ j d, a3 (ix2 j d) = f (hd g 3) j d) (h4 : ∀ j d, a4 (ix2 j d) = f (hd g 4) j d) (h5 : ∀ j d, a5 (ix2 j d) = f (hd g 5) j d)
  (h6 : ∀ j d, a6 (ix2 j d) = f (hd g 6) j d) (h7 : ∀ j d, a7 (ix2 j d) = f (hd g 7) j d)
  (x : S128x64.Idx) (i : S8192x128.Idx) (hi0 : (i 0 : ℕ) = t.val * 128 + x 0) (hi1 : (i 1 : ℕ) = 64 * g.val + x 1)
include hG h0 h1 h2 h3 h4 h5 h6 h7 hi0 hi1

theorem piece_lo : k0_pay290 (F := Ideal) (k0_pay287 a0 a1 a2 a3 a4 a5 a6 a7) x = G (blkOf (i 0)) (prevSlot (i 0)) (i 1) := by
  have hx : x = ix2 (x 0) (x 1) := funext fun a => match a with | ⟨0, _⟩ => rfl | ⟨1, _⟩ => rfl
  have hx0 : (x 0 : ℕ) < 128 := (x 0).isLt
  have e3 : blkOf (i 0) = nn t := Fin.ext (by show (i 0 : ℕ) / 128 = t.val; omega)
  have e4 : prevSlot (i 0) = ⟨(x 0 : ℕ), by omega⟩ := Fin.ext (by show (i 0 : ℕ) % 128 = x 0; omega)
  refine (congrArg _ hx).trans ((lo_sum (fun e => f (hd g e)) ![a0, a1, a2, a3, a4, a5, a6, a7] (fun e => ?_) (x 0) (x 1)).trans ?_)
  · fin_cases e
    exacts [h0, h1, h2, h3, h4, h5, h6, h7]
  · exact ((hG _ _ _ (x 1) e3 hi1).trans (by rw [e4])).symm

theorem piece_hi : k0_pay291 (F := Ideal) (k0_pay287 a0 a1 a2 a3 a4 a5 a6 a7) x = G (blkOf (i 0)) (curSlot (i 0)) (i 1) := by
  have hx : x = ix2 (x 0) (x 1) := funext fun a => match a with | ⟨0, _⟩ => rfl | ⟨1, _⟩ => rfl
  have hx0 : (x 0 : ℕ) < 128 := (x 0).isLt
  have e3 : blkOf (i 0) = nn t := Fin.ext (by show (i 0 : ℕ) / 128 = t.val; omega)
  have e4 : curSlot (i 0) = ⟨128 + (x 0 : ℕ), by omega⟩ := Fin.ext (by show 128 + (i 0 : ℕ) % 128 = 128 + x 0; omega)
  refine (congrArg _ hx).trans ((hi_sum (fun e => f (hd g e)) ![a0, a1, a2, a3, a4, a5, a6, a7] (fun e => ?_) (x 0) (x 1)).trans ?_)
  · fin_cases e
    exacts [h0, h1, h2, h3, h4, h5, h6, h7]
  · exact ((hG _ _ _ (x 1) e3 hi1).trans (by rw [e4])).symm

end Sums

theorem point_dq (c : Dev nD) (t : Fin cfg0.N) (y : S128x1024.Idx) (i : S8192x1024.Idx) (hi0 : (i 0 : ℕ) = t.val * 128 + y 0) (hi1 : (i 1 : ℕ) = y 1) :
    (outsAt0 m c t.val t.isLt).1 y = DQ (argA m c) (argB m c) (argS m c) (argO m c) (i 0) (i 1) := by
  by_cases h0 : t.val % 64 = 0
  · rw [outsAt0_A m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 => exact piece_dq m c t 15 960 15 rfl rfl _ _ (is_kB m c t 15 rfl) (is_vB m c t 15 rfl) _ _ _ x i (by omega) (by omega)
    case piece1 => exact piece_dq m c t 14 896 14 rfl rfl _ _ (is_kB m c t 14 rfl) (is_vB m c t 14 rfl) _ _ _ x i (by omega) (by omega)
    case piece2 => exact piece_dq m c t 13 832 13 rfl rfl _ _ (is_kB m c t 13 rfl) (is_vB m c t 13 rfl) _ _ _ x i (by omega) (by omega)
    case piece3 => exact piece_dq m c t 12 768 12 rfl rfl _ _ (is_kB m c t 12 rfl) (is_vB m c t 12 rfl) _ _ _ x i (by omega) (by omega)
    case piece4 => exact piece_dq m c t 11 704 11 rfl rfl _ _ (is_kB m c t 11 rfl) (is_vB m c t 11 rfl) _ _ _ x i (by omega) (by omega)
    case piece5 => exact piece_dq m c t 10 640 10 rfl rfl _ _ (is_kB m c t 10 rfl) (is_vB m c t 10 rfl) _ _ _ x i (by omega) (by omega)
    case piece6 => exact piece_dq m c t 9 576 9 rfl rfl _ _ (is_kB m c t 9 rfl) (is_vB m c t 9 rfl) _ _ _ x i (by omega) (by omega)
    case piece7 => exact piece_dq m c t 8 512 8 rfl rfl _ _ (is_kB m c t 8 rfl) (is_vB m c t 8 rfl) _ _ _ x i (by omega) (by omega)
    case piece8 => exact piece_dq m c t 7 448 7 rfl rfl _ _ (is_kA m c t 7 rfl) (is_vA m c t 7 rfl) _ _ _ x i (by omega) (by omega)
    case piece9 => exact piece_dq m c t 6 384 6 rfl rfl _ _ (is_kA m c t 6 rfl) (is_vA m c t 6 rfl) _ _ _ x i (by omega) (by omega)
    case piece10 => exact piece_dq m c t 5 320 5 rfl rfl _ _ (is_kA m c t 5 rfl) (is_vA m c t 5 rfl) _ _ _ x i (by omega) (by omega)
    case piece11 => exact piece_dq m c t 4 256 4 rfl rfl _ _ (is_kA m c t 4 rfl) (is_vA m c t 4 rfl) _ _ _ x i (by omega) (by omega)
    case piece12 => exact piece_dq m c t 3 192 3 rfl rfl _ _ (is_kA m c t 3 rfl) (is_vA m c t 3 rfl) _ _ _ x i (by omega) (by omega)
    case piece13 => exact piece_dq m c t 2 128 2 rfl rfl _ _ (is_kA m c t 2 rfl) (is_vA m c t 2 rfl) _ _ _ x i (by omega) (by omega)
    case piece14 => exact piece_dq m c t 1 64 1 rfl rfl _ _ (is_kA m c t 1 rfl) (is_vA m c t 1 rfl) _ _ _ x i (by omega) (by omega)
    case piece15 => exact piece_dq m c t 0 0 0 rfl rfl _ _ (is_kA m c t 0 rfl) (is_vA m c t 0 rfl) _ _ _ x i (by omega) (by omega)
  · rw [outsAt0_B m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 => exact piece_dq m c t 15 960 15 rfl rfl _ _ (is_kB m c t 15 rfl) (is_vB m c t 15 rfl) _ _ _ x i (by omega) (by omega)
    case piece1 => exact piece_dq m c t 14 896 14 rfl rfl _ _ (is_kB m c t 14 rfl) (is_vB m c t 14 rfl) _ _ _ x i (by omega) (by omega)
    case piece2 => exact piece_dq m c t 13 832 13 rfl rfl _ _ (is_kB m c t 13 rfl) (is_vB m c t 13 rfl) _ _ _ x i (by omega) (by omega)
    case piece3 => exact piece_dq m c t 12 768 12 rfl rfl _ _ (is_kB m c t 12 rfl) (is_vB m c t 12 rfl) _ _ _ x i (by omega) (by omega)
    case piece4 => exact piece_dq m c t 11 704 11 rfl rfl _ _ (is_kB m c t 11 rfl) (is_vB m c t 11 rfl) _ _ _ x i (by omega) (by omega)
    case piece5 => exact piece_dq m c t 10 640 10 rfl rfl _ _ (is_kB m c t 10 rfl) (is_vB m c t 10 rfl) _ _ _ x i (by omega) (by omega)
    case piece6 => exact piece_dq m c t 9 576 9 rfl rfl _ _ (is_kB m c t 9 rfl) (is_vB m c t 9 rfl) _ _ _ x i (by omega) (by omega)
    case piece7 => exact piece_dq m c t 8 512 8 rfl rfl _ _ (is_kB m c t 8 rfl) (is_vB m c t 8 rfl) _ _ _ x i (by omega) (by omega)
    case piece8 => exact piece_dq m c t 7 448 7 rfl rfl _ _ (is_kA m c t 7 rfl) (is_vA m c t 7 rfl) _ _ _ x i (by omega) (by omega)
    case piece9 => exact piece_dq m c t 6 384 6 rfl rfl _ _ (is_kA m c t 6 rfl) (is_vA m c t 6 rfl) _ _ _ x i (by omega) (by omega)
    case piece10 => exact piece_dq m c t 5 320 5 rfl rfl _ _ (is_kA m c t 5 rfl) (is_vA m c t 5 rfl) _ _ _ x i (by omega) (by omega)
    case piece11 => exact piece_dq m c t 4 256 4 rfl rfl _ _ (is_kA m c t 4 rfl) (is_vA m c t 4 rfl) _ _ _ x i (by omega) (by omega)
    case piece12 => exact piece_dq m c t 3 192 3 rfl rfl _ _ (is_kA m c t 3 rfl) (is_vA m c t 3 rfl) _ _ _ x i (by omega) (by omega)
    case piece13 => exact piece_dq m c t 2 128 2 rfl rfl _ _ (is_kA m c t 2 rfl) (is_vA m c t 2 rfl) _ _ _ x i (by omega) (by omega)
    case piece14 => exact piece_dq m c t 1 64 1 rfl rfl _ _ (is_kA m c t 1 rfl) (is_vA m c t 1 rfl) _ _ _ x i (by omega) (by omega)
    case piece15 => exact piece_dq m c t 0 0 0 rfl rfl _ _ (is_kA m c t 0 rfl) (is_vA m c t 0 rfl) _ _ _ x i (by omega) (by omega)

theorem point_dkc (c : Dev nD) (t : Fin cfg0.N) (y : S128x128.Idx) (i : S8192x128.Idx) (hi0 : (i 0 : ℕ) = t.val * 128 + y 0) (hi1 : (i 1 : ℕ) = y 1) :
    (outsAt0 m c t.val t.isLt).2.1 y = DK (argA m c) (argB m c) (argS m c) (argO m c) (blkOf (i 0)) (curSlot (i 0)) (i 1) := by
  by_cases h0 : t.val % 64 = 0
  · rw [outsAt0_A m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_hi t (hK (argA m c) (argB m c) (argS m c) (argO m c) (nn t)) 1 _ _ _ _ _ _ _ _ (DK (argA m c) (argB m c) (argS m c) (argO m c))
        (fun n j x d hn hx => by rw [hn]; exact DK_of _ _ _ _ _ _ _ 1 d hx)
        (tile_dk m c t 8 512 8 rfl rfl _ _ (is_kB m c t 8 rfl) (is_vB m c t 8 rfl) _ _ _)
        (tile_dk m c t 9 576 9 rfl rfl _ _ (is_kB m c t 9 rfl) (is_vB m c t 9 rfl) _ _ _)
        (tile_dk m c t 10 640 10 rfl rfl _ _ (is_kB m c t 10 rfl) (is_vB m c t 10 rfl) _ _ _)
        (tile_dk m c t 11 704 11 rfl rfl _ _ (is_kB m c t 11 rfl) (is_vB m c t 11 rfl) _ _ _)
        (tile_dk m c t 12 768 12 rfl rfl _ _ (is_kB m c t 12 rfl) (is_vB m c t 12 rfl) _ _ _)
        (tile_dk m c t 13 832 13 rfl rfl _ _ (is_kB m c t 13 rfl) (is_vB m c t 13 rfl) _ _ _)
        (tile_dk m c t 14 896 14 rfl rfl _ _ (is_kB m c t 14 rfl) (is_vB m c t 14 rfl) _ _ _)
        (tile_dk m c t 15 960 15 rfl rfl _ _ (is_kB m c t 15 rfl) (is_vB m c t 15 rfl) _ _ _) x i (by omega) (by show (i 1 : ℕ) = 64 * 1 + x 1; omega)
    case piece1 =>
      exact piece_hi t (hK (argA m c) (argB m c) (argS m c) (argO m c) (nn t)) 0 _ _ _ _ _ _ _ _ (DK (argA m c) (argB m c) (argS m c) (argO m c))
        (fun n j x d hn hx => by rw [hn]; exact DK_of _ _ _ _ _ _ _ 0 d hx)
        (tile_dk m c t 0 0 0 rfl rfl _ _ (is_kA m c t 0 rfl) (is_vA m c t 0 rfl) _ _ _)
        (tile_dk m c t 1 64 1 rfl rfl _ _ (is_kA m c t 1 rfl) (is_vA m c t 1 rfl) _ _ _)
        (tile_dk m c t 2 128 2 rfl rfl _ _ (is_kA m c t 2 rfl) (is_vA m c t 2 rfl) _ _ _)
        (tile_dk m c t 3 192 3 rfl rfl _ _ (is_kA m c t 3 rfl) (is_vA m c t 3 rfl) _ _ _)
        (tile_dk m c t 4 256 4 rfl rfl _ _ (is_kA m c t 4 rfl) (is_vA m c t 4 rfl) _ _ _)
        (tile_dk m c t 5 320 5 rfl rfl _ _ (is_kA m c t 5 rfl) (is_vA m c t 5 rfl) _ _ _)
        (tile_dk m c t 6 384 6 rfl rfl _ _ (is_kA m c t 6 rfl) (is_vA m c t 6 rfl) _ _ _)
        (tile_dk m c t 7 448 7 rfl rfl _ _ (is_kA m c t 7 rfl) (is_vA m c t 7 rfl) _ _ _) x i (by omega) (by show (i 1 : ℕ) = 64 * 0 + x 1; omega)
  · rw [outsAt0_B m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_hi t (hK (argA m c) (argB m c) (argS m c) (argO m c) (nn t)) 1 _ _ _ _ _ _ _ _ (DK (argA m c) (argB m c) (argS m c) (argO m c))
        (fun n j x d hn hx => by rw [hn]; exact DK_of _ _ _ _ _ _ _ 1 d hx)
        (tile_dk m c t 8 512 8 rfl rfl _ _ (is_kB m c t 8 rfl) (is_vB m c t 8 rfl) _ _ _)
        (tile_dk m c t 9 576 9 rfl rfl _ _ (is_kB m c t 9 rfl) (is_vB m c t 9 rfl) _ _ _)
        (tile_dk m c t 10 640 10 rfl rfl _ _ (is_kB m c t 10 rfl) (is_vB m c t 10 rfl) _ _ _)
        (tile_dk m c t 11 704 11 rfl rfl _ _ (is_kB m c t 11 rfl) (is_vB m c t 11 rfl) _ _ _)
        (tile_dk m c t 12 768 12 rfl rfl _ _ (is_kB m c t 12 rfl) (is_vB m c t 12 rfl) _ _ _)
        (tile_dk m c t 13 832 13 rfl rfl _ _ (is_kB m c t 13 rfl) (is_vB m c t 13 rfl) _ _ _)
        (tile_dk m c t 14 896 14 rfl rfl _ _ (is_kB m c t 14 rfl) (is_vB m c t 14 rfl) _ _ _)
        (tile_dk m c t 15 960 15 rfl rfl _ _ (is_kB m c t 15 rfl) (is_vB m c t 15 rfl) _ _ _) x i (by omega) (by show (i 1 : ℕ) = 64 * 1 + x 1; omega)
    case piece1 =>
      exact piece_hi t (hK (argA m c) (argB m c) (argS m c) (argO m c) (nn t)) 0 _ _ _ _ _ _ _ _ (DK (argA m c) (argB m c) (argS m c) (argO m c))
        (fun n j x d hn hx => by rw [hn]; exact DK_of _ _ _ _ _ _ _ 0 d hx)
        (tile_dk m c t 0 0 0 rfl rfl _ _ (is_kA m c t 0 rfl) (is_vA m c t 0 rfl) _ _ _)
        (tile_dk m c t 1 64 1 rfl rfl _ _ (is_kA m c t 1 rfl) (is_vA m c t 1 rfl) _ _ _)
        (tile_dk m c t 2 128 2 rfl rfl _ _ (is_kA m c t 2 rfl) (is_vA m c t 2 rfl) _ _ _)
        (tile_dk m c t 3 192 3 rfl rfl _ _ (is_kA m c t 3 rfl) (is_vA m c t 3 rfl) _ _ _)
        (tile_dk m c t 4 256 4 rfl rfl _ _ (is_kA m c t 4 rfl) (is_vA m c t 4 rfl) _ _ _)
        (tile_dk m c t 5 320 5 rfl rfl _ _ (is_kA m c t 5 rfl) (is_vA m c t 5 rfl) _ _ _)
        (tile_dk m c t 6 384 6 rfl rfl _ _ (is_kA m c t 6 rfl) (is_vA m c t 6 rfl) _ _ _)
        (tile_dk m c t 7 448 7 rfl rfl _ _ (is_kA m c t 7 rfl) (is_vA m c t 7 rfl) _ _ _) x i (by omega) (by show (i 1 : ℕ) = 64 * 0 + x 1; omega)

theorem point_dkp (c : Dev nD) (t : Fin cfg0.N) (y : S128x128.Idx) (i : S8192x128.Idx) (hi0 : (i 0 : ℕ) = t.val * 128 + y 0) (hi1 : (i 1 : ℕ) = y 1) :
    (outsAt0 m c t.val t.isLt).2.2.1 y = DK (argA m c) (argB m c) (argS m c) (argO m c) (blkOf (i 0)) (prevSlot (i 0)) (i 1) := by
  by_cases h0 : t.val % 64 = 0
  · rw [outsAt0_A m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_lo t (hK (argA m c) (argB m c) (argS m c) (argO m c) (nn t)) 1 _ _ _ _ _ _ _ _ (DK (argA m c) (argB m c) (argS m c) (argO m c))
        (fun n j x d hn hx => by rw [hn]; exact DK_of _ _ _ _ _ _ _ 1 d hx)
        (tile_dk m c t 8 512 8 rfl rfl _ _ (is_kB m c t 8 rfl) (is_vB m c t 8 rfl) _ _ _)
        (tile_dk m c t 9 576 9 rfl rfl _ _ (is_kB m c t 9 rfl) (is_vB m c t 9 rfl) _ _ _)
        (tile_dk m c t 10 640 10 rfl rfl _ _ (is_kB m c t 10 rfl) (is_vB m c t 10 rfl) _ _ _)
        (tile_dk m c t 11 704 11 rfl rfl _ _ (is_kB m c t 11 rfl) (is_vB m c t 11 rfl) _ _ _)
        (tile_dk m c t 12 768 12 rfl rfl _ _ (is_kB m c t 12 rfl) (is_vB m c t 12 rfl) _ _ _)
        (tile_dk m c t 13 832 13 rfl rfl _ _ (is_kB m c t 13 rfl) (is_vB m c t 13 rfl) _ _ _)
        (tile_dk m c t 14 896 14 rfl rfl _ _ (is_kB m c t 14 rfl) (is_vB m c t 14 rfl) _ _ _)
        (tile_dk m c t 15 960 15 rfl rfl _ _ (is_kB m c t 15 rfl) (is_vB m c t 15 rfl) _ _ _) x i (by omega) (by show (i 1 : ℕ) = 64 * 1 + x 1; omega)
    case piece1 =>
      exact piece_lo t (hK (argA m c) (argB m c) (argS m c) (argO m c) (nn t)) 0 _ _ _ _ _ _ _ _ (DK (argA m c) (argB m c) (argS m c) (argO m c))
        (fun n j x d hn hx => by rw [hn]; exact DK_of _ _ _ _ _ _ _ 0 d hx)
        (tile_dk m c t 0 0 0 rfl rfl _ _ (is_kA m c t 0 rfl) (is_vA m c t 0 rfl) _ _ _)
        (tile_dk m c t 1 64 1 rfl rfl _ _ (is_kA m c t 1 rfl) (is_vA m c t 1 rfl) _ _ _)
        (tile_dk m c t 2 128 2 rfl rfl _ _ (is_kA m c t 2 rfl) (is_vA m c t 2 rfl) _ _ _)
        (tile_dk m c t 3 192 3 rfl rfl _ _ (is_kA m c t 3 rfl) (is_vA m c t 3 rfl) _ _ _)
        (tile_dk m c t 4 256 4 rfl rfl _ _ (is_kA m c t 4 rfl) (is_vA m c t 4 rfl) _ _ _)
        (tile_dk m c t 5 320 5 rfl rfl _ _ (is_kA m c t 5 rfl) (is_vA m c t 5 rfl) _ _ _)
        (tile_dk m c t 6 384 6 rfl rfl _ _ (is_kA m c t 6 rfl) (is_vA m c t 6 rfl) _ _ _)
        (tile_dk m c t 7 448 7 rfl rfl _ _ (is_kA m c t 7 rfl) (is_vA m c t 7 rfl) _ _ _) x i (by omega) (by show (i 1 : ℕ) = 64 * 0 + x 1; omega)
  · rw [outsAt0_B m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_lo t (hK (argA m c) (argB m c) (argS m c) (argO m c) (nn t)) 1 _ _ _ _ _ _ _ _ (DK (argA m c) (argB m c) (argS m c) (argO m c))
        (fun n j x d hn hx => by rw [hn]; exact DK_of _ _ _ _ _ _ _ 1 d hx)
        (tile_dk m c t 8 512 8 rfl rfl _ _ (is_kB m c t 8 rfl) (is_vB m c t 8 rfl) _ _ _)
        (tile_dk m c t 9 576 9 rfl rfl _ _ (is_kB m c t 9 rfl) (is_vB m c t 9 rfl) _ _ _)
        (tile_dk m c t 10 640 10 rfl rfl _ _ (is_kB m c t 10 rfl) (is_vB m c t 10 rfl) _ _ _)
        (tile_dk m c t 11 704 11 rfl rfl _ _ (is_kB m c t 11 rfl) (is_vB m c t 11 rfl) _ _ _)
        (tile_dk m c t 12 768 12 rfl rfl _ _ (is_kB m c t 12 rfl) (is_vB m c t 12 rfl) _ _ _)
        (tile_dk m c t 13 832 13 rfl rfl _ _ (is_kB m c t 13 rfl) (is_vB m c t 13 rfl) _ _ _)
        (tile_dk m c t 14 896 14 rfl rfl _ _ (is_kB m c t 14 rfl) (is_vB m c t 14 rfl) _ _ _)
        (tile_dk m c t 15 960 15 rfl rfl _ _ (is_kB m c t 15 rfl) (is_vB m c t 15 rfl) _ _ _) x i (by omega) (by show (i 1 : ℕ) = 64 * 1 + x 1; omega)
    case piece1 =>
      exact piece_lo t (hK (argA m c) (argB m c) (argS m c) (argO m c) (nn t)) 0 _ _ _ _ _ _ _ _ (DK (argA m c) (argB m c) (argS m c) (argO m c))
        (fun n j x d hn hx => by rw [hn]; exact DK_of _ _ _ _ _ _ _ 0 d hx)
        (tile_dk m c t 0 0 0 rfl rfl _ _ (is_kA m c t 0 rfl) (is_vA m c t 0 rfl) _ _ _)
        (tile_dk m c t 1 64 1 rfl rfl _ _ (is_kA m c t 1 rfl) (is_vA m c t 1 rfl) _ _ _)
        (tile_dk m c t 2 128 2 rfl rfl _ _ (is_kA m c t 2 rfl) (is_vA m c t 2 rfl) _ _ _)
        (tile_dk m c t 3 192 3 rfl rfl _ _ (is_kA m c t 3 rfl) (is_vA m c t 3 rfl) _ _ _)
        (tile_dk m c t 4 256 4 rfl rfl _ _ (is_kA m c t 4 rfl) (is_vA m c t 4 rfl) _ _ _)
        (tile_dk m c t 5 320 5 rfl rfl _ _ (is_kA m c t 5 rfl) (is_vA m c t 5 rfl) _ _ _)
        (tile_dk m c t 6 384 6 rfl rfl _ _ (is_kA m c t 6 rfl) (is_vA m c t 6 rfl) _ _ _)
        (tile_dk m c t 7 448 7 rfl rfl _ _ (is_kA m c t 7 rfl) (is_vA m c t 7 rfl) _ _ _) x i (by omega) (by show (i 1 : ℕ) = 64 * 0 + x 1; omega)

theorem point_dvc (c : Dev nD) (t : Fin cfg0.N) (y : S128x128.Idx) (i : S8192x128.Idx) (hi0 : (i 0 : ℕ) = t.val * 128 + y 0) (hi1 : (i 1 : ℕ) = y 1) :
    (outsAt0 m c t.val t.isLt).2.2.2.1 y = DV (argA m c) (argB m c) (argS m c) (argO m c) (blkOf (i 0)) (curSlot (i 0)) (i 1) := by
  by_cases h0 : t.val % 64 = 0
  · rw [outsAt0_A m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_hi t (hV (argA m c) (argB m c) (argS m c) (argO m c) (nn t)) 1 _ _ _ _ _ _ _ _ (DV (argA m c) (argB m c) (argS m c) (argO m c))
        (fun n j x d hn hx => by rw [hn]; exact DV_of _ _ _ _ _ _ _ 1 d hx)
        (tile_dv m c t 8 512 8 rfl rfl _ (is_kB m c t 8 rfl) _ _ _)
        (tile_dv m c t 9 576 9 rfl rfl _ (is_kB m c t 9 rfl) _ _ _)
        (tile_dv m c t 10 640 10 rfl rfl _ (is_kB m c t 10 rfl) _ _ _)
        (tile_dv m c t 11 704 11 rfl rfl _ (is_kB m c t 11 rfl) _ _ _)
        (tile_dv m c t 12 768 12 rfl rfl _ (is_kB m c t 12 rfl) _ _ _)
        (tile_dv m c t 13 832 13 rfl rfl _ (is_kB m c t 13 rfl) _ _ _)
        (tile_dv m c t 14 896 14 rfl rfl _ (is_kB m c t 14 rfl) _ _ _)
        (tile_dv m c t 15 960 15 rfl rfl _ (is_kB m c t 15 rfl) _ _ _) x i (by omega) (by show (i 1 : ℕ) = 64 * 1 + x 1; omega)
    case piece1 =>
      exact piece_hi t (hV (argA m c) (argB m c) (argS m c) (argO m c) (nn t)) 0 _ _ _ _ _ _ _ _ (DV (argA m c) (argB m c) (argS m c) (argO m c))
        (fun n j x d hn hx => by rw [hn]; exact DV_of _ _ _ _ _ _ _ 0 d hx)
        (tile_dv m c t 0 0 0 rfl rfl _ (is_kA m c t 0 rfl) _ _ _)
        (tile_dv m c t 1 64 1 rfl rfl _ (is_kA m c t 1 rfl) _ _ _)
        (tile_dv m c t 2 128 2 rfl rfl _ (is_kA m c t 2 rfl) _ _ _)
        (tile_dv m c t 3 192 3 rfl rfl _ (is_kA m c t 3 rfl) _ _ _)
        (tile_dv m c t 4 256 4 rfl rfl _ (is_kA m c t 4 rfl) _ _ _)
        (tile_dv m c t 5 320 5 rfl rfl _ (is_kA m c t 5 rfl) _ _ _)
        (tile_dv m c t 6 384 6 rfl rfl _ (is_kA m c t 6 rfl) _ _ _)
        (tile_dv m c t 7 448 7 rfl rfl _ (is_kA m c t 7 rfl) _ _ _) x i (by omega) (by show (i 1 : ℕ) = 64 * 0 + x 1; omega)
  · rw [outsAt0_B m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_hi t (hV (argA m c) (argB m c) (argS m c) (argO m c) (nn t)) 1 _ _ _ _ _ _ _ _ (DV (argA m c) (argB m c) (argS m c) (argO m c))
        (fun n j x d hn hx => by rw [hn]; exact DV_of _ _ _ _ _ _ _ 1 d hx)
        (tile_dv m c t 8 512 8 rfl rfl _ (is_kB m c t 8 rfl) _ _ _)
        (tile_dv m c t 9 576 9 rfl rfl _ (is_kB m c t 9 rfl) _ _ _)
        (tile_dv m c t 10 640 10 rfl rfl _ (is_kB m c t 10 rfl) _ _ _)
        (tile_dv m c t 11 704 11 rfl rfl _ (is_kB m c t 11 rfl) _ _ _)
        (tile_dv m c t 12 768 12 rfl rfl _ (is_kB m c t 12 rfl) _ _ _)
        (tile_dv m c t 13 832 13 rfl rfl _ (is_kB m c t 13 rfl) _ _ _)
        (tile_dv m c t 14 896 14 rfl rfl _ (is_kB m c t 14 rfl) _ _ _)
        (tile_dv m c t 15 960 15 rfl rfl _ (is_kB m c t 15 rfl) _ _ _) x i (by omega) (by show (i 1 : ℕ) = 64 * 1 + x 1; omega)
    case piece1 =>
      exact piece_hi t (hV (argA m c) (argB m c) (argS m c) (argO m c) (nn t)) 0 _ _ _ _ _ _ _ _ (DV (argA m c) (argB m c) (argS m c) (argO m c))
        (fun n j x d hn hx => by rw [hn]; exact DV_of _ _ _ _ _ _ _ 0 d hx)
        (tile_dv m c t 0 0 0 rfl rfl _ (is_kA m c t 0 rfl) _ _ _)
        (tile_dv m c t 1 64 1 rfl rfl _ (is_kA m c t 1 rfl) _ _ _)
        (tile_dv m c t 2 128 2 rfl rfl _ (is_kA m c t 2 rfl) _ _ _)
        (tile_dv m c t 3 192 3 rfl rfl _ (is_kA m c t 3 rfl) _ _ _)
        (tile_dv m c t 4 256 4 rfl rfl _ (is_kA m c t 4 rfl) _ _ _)
        (tile_dv m c t 5 320 5 rfl rfl _ (is_kA m c t 5 rfl) _ _ _)
        (tile_dv m c t 6 384 6 rfl rfl _ (is_kA m c t 6 rfl) _ _ _)
        (tile_dv m c t 7 448 7 rfl rfl _ (is_kA m c t 7 rfl) _ _ _) x i (by omega) (by show (i 1 : ℕ) = 64 * 0 + x 1; omega)

theorem point_dvp (c : Dev nD) (t : Fin cfg0.N) (y : S128x128.Idx) (i : S8192x128.Idx) (hi0 : (i 0 : ℕ) = t.val * 128 + y 0) (hi1 : (i 1 : ℕ) = y 1) :
    (outsAt0 m c t.val t.isLt).2.2.2.2.1 y = DV (argA m c) (argB m c) (argS m c) (argO m c) (blkOf (i 0)) (prevSlot (i 0)) (i 1) := by
  by_cases h0 : t.val % 64 = 0
  · rw [outsAt0_A m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_lo t (hV (argA m c) (argB m c) (argS m c) (argO m c) (nn t)) 1 _ _ _ _ _ _ _ _ (DV (argA m c) (argB m c) (argS m c) (argO m c))
        (fun n j x d hn hx => by rw [hn]; exact DV_of _ _ _ _ _ _ _ 1 d hx)
        (tile_dv m c t 8 512 8 rfl rfl _ (is_kB m c t 8 rfl) _ _ _)
        (tile_dv m c t 9 576 9 rfl rfl _ (is_kB m c t 9 rfl) _ _ _)
        (tile_dv m c t 10 640 10 rfl rfl _ (is_kB m c t 10 rfl) _ _ _)
        (tile_dv m c t 11 704 11 rfl rfl _ (is_kB m c t 11 rfl) _ _ _)
        (tile_dv m c t 12 768 12 rfl rfl _ (is_kB m c t 12 rfl) _ _ _)
        (tile_dv m c t 13 832 13 rfl rfl _ (is_kB m c t 13 rfl) _ _ _)
        (tile_dv m c t 14 896 14 rfl rfl _ (is_kB m c t 14 rfl) _ _ _)
        (tile_dv m c t 15 960 15 rfl rfl _ (is_kB m c t 15 rfl) _ _ _) x i (by omega) (by show (i 1 : ℕ) = 64 * 1 + x 1; omega)
    case piece1 =>
      exact piece_lo t (hV (argA m c) (argB m c) (argS m c) (argO m c) (nn t)) 0 _ _ _ _ _ _ _ _ (DV (argA m c) (argB m c) (argS m c) (argO m c))
        (fun n j x d hn hx => by rw [hn]; exact DV_of _ _ _ _ _ _ _ 0 d hx)
        (tile_dv m c t 0 0 0 rfl rfl _ (is_kA m c t 0 rfl) _ _ _)
        (tile_dv m c t 1 64 1 rfl rfl _ (is_kA m c t 1 rfl) _ _ _)
        (tile_dv m c t 2 128 2 rfl rfl _ (is_kA m c t 2 rfl) _ _ _)
        (tile_dv m c t 3 192 3 rfl rfl _ (is_kA m c t 3 rfl) _ _ _)
        (tile_dv m c t 4 256 4 rfl rfl _ (is_kA m c t 4 rfl) _ _ _)
        (tile_dv m c t 5 320 5 rfl rfl _ (is_kA m c t 5 rfl) _ _ _)
        (tile_dv m c t 6 384 6 rfl rfl _ (is_kA m c t 6 rfl) _ _ _)
        (tile_dv m c t 7 448 7 rfl rfl _ (is_kA m c t 7 rfl) _ _ _) x i (by omega) (by show (i 1 : ℕ) = 64 * 0 + x 1; omega)
  · rw [outsAt0_B m c t h0]
    frame_open
    frame_out
    simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
    canon_tiles x h
    case piece0 =>
      exact piece_lo t (hV (argA m c) (argB m c) (argS m c) (argO m c) (nn t)) 1 _ _ _ _ _ _ _ _ (DV (argA m c) (argB m c) (argS m c) (argO m c))
        (fun n j x d hn hx => by rw [hn]; exact DV_of _ _ _ _ _ _ _ 1 d hx)
        (tile_dv m c t 8 512 8 rfl rfl _ (is_kB m c t 8 rfl) _ _ _)
        (tile_dv m c t 9 576 9 rfl rfl _ (is_kB m c t 9 rfl) _ _ _)
        (tile_dv m c t 10 640 10 rfl rfl _ (is_kB m c t 10 rfl) _ _ _)
        (tile_dv m c t 11 704 11 rfl rfl _ (is_kB m c t 11 rfl) _ _ _)
        (tile_dv m c t 12 768 12 rfl rfl _ (is_kB m c t 12 rfl) _ _ _)
        (tile_dv m c t 13 832 13 rfl rfl _ (is_kB m c t 13 rfl) _ _ _)
        (tile_dv m c t 14 896 14 rfl rfl _ (is_kB m c t 14 rfl) _ _ _)
        (tile_dv m c t 15 960 15 rfl rfl _ (is_kB m c t 15 rfl) _ _ _) x i (by omega) (by show (i 1 : ℕ) = 64 * 1 + x 1; omega)
    case piece1 =>
      exact piece_lo t (hV (argA m c) (argB m c) (argS m c) (argO m c) (nn t)) 0 _ _ _ _ _ _ _ _ (DV (argA m c) (argB m c) (argS m c) (argO m c))
        (fun n j x d hn hx => by rw [hn]; exact DV_of _ _ _ _ _ _ _ 0 d hx)
        (tile_dv m c t 0 0 0 rfl rfl _ (is_kA m c t 0 rfl) _ _ _)
        (tile_dv m c t 1 64 1 rfl rfl _ (is_kA m c t 1 rfl) _ _ _)
        (tile_dv m c t 2 128 2 rfl rfl _ (is_kA m c t 2 rfl) _ _ _)
        (tile_dv m c t 3 192 3 rfl rfl _ (is_kA m c t 3 rfl) _ _ _)
        (tile_dv m c t 4 256 4 rfl rfl _ (is_kA m c t 4 rfl) _ _ _)
        (tile_dv m c t 5 320 5 rfl rfl _ (is_kA m c t 5 rfl) _ _ _)
        (tile_dv m c t 6 384 6 rfl rfl _ (is_kA m c t 6 rfl) _ _ _)
        (tile_dv m c t 7 448 7 rfl rfl _ (is_kA m c t 7 rfl) _ _ _) x i (by omega) (by show (i 1 : ℕ) = 64 * 0 + x 1; omega)

end Cert.SwaIdeal.Value

end
-- ==== Proof.SwaAcc.lean ====
module

public import proofs.«01_k».proof.Proof.SwaPoint

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ)

section Slots

variable (off : ℕ) (ik : ∀ a, ![off, 0, 0] a + S1x128x256.size a ≤ S16x128x256.size a) (x : S1x128x256.Idx)

theorem emb_head : ((Rect.unit (s := S16x128x256) ![off, 0, 0] ![1, 128, 256] ik).emb x 0 : ℕ) = off + x 0 :=
  ValueKit.rect_emb_unit_val (s := S16x128x256) ![off, 0, 0] ![1, 128, 256] ik x 0

theorem emb_row : ((Rect.unit (s := S16x128x256) ![off, 0, 0] ![1, 128, 256] ik).emb x 1 : ℕ) = x 1 :=
  (ValueKit.rect_emb_unit_val (s := S16x128x256) ![off, 0, 0] ![1, 128, 256] ik x 1).trans (Nat.zero_add _)

theorem emb_key : ((Rect.unit (s := S16x128x256) ![off, 0, 0] ![1, 128, 256] ik).emb x 2 : ℕ) = x 2 :=
  (ValueKit.rect_emb_unit_val (s := S16x128x256) ![off, 0, 0] ![1, 128, 256] ik x 2).trans (Nat.zero_add _)

theorem ld_slot (X : Vec Ideal S16x128x256 .f32) :
    View.ld X (Rect.unit ![off, 0, 0] ![1, 128, 256] ik) x = X ((Rect.unit (s := S16x128x256) ![off, 0, 0] ![1, 128, 256] ik).emb x) :=
  View.ld_unit_apply_of X ![off, 0, 0] ![1, 128, 256] ik x _ (fun a => ValueKit.rect_emb_unit_val (s := S16x128x256) ![off, 0, 0] ![1, 128, 256] ik x a)

theorem zero_slot (X : Vec Ideal S16x128x256 .f32) (hX : ∀ i, X i = 0) : View.ld X (Rect.unit ![off, 0, 0] ![1, 128, 256] ik) x = 0 :=
  (ld_slot off ik x X).trans (hX _)

end Slots

/-- The arrays a first point starts from hold zeros. -/
theorem zero_bias (i : S16x128x256.Idx) : k0_pay2 (F := Ideal) i = 0 := Ideal.ofBits_zero_f32
theorem zero_lane (i : S1x128.Idx) : k0_pay3 (F := Ideal) i = 0 := Ideal.ofBits_zero_f32

theorem point_dbA (c : Dev nD) (t : Fin cfg0.N) (h0 : t.val % 64 = 0) (y : S16x128x256.Idx) :
    (outsAt0 m c t.val t.isLt).2.2.2.2.2.1 y = (0 : EReal) + DW (argA m c) (argB m c) (argS m c) (argO m c) (nn t) (y 0) (y 1) (y 2) := by
  rw [outsAt0_A m c t h0]
  frame_open
  simp (disch := decide) only [↓ View.readCov_skip, ↓ View.readCov_cons_toLoadRect, ↓ View.readCov_fill]
  frame_out
  simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
  refine View.canon_append_of_piecesOf (Val := Elt Ideal) (e := .f32) (fun y : S16x128x256.Idx => (0 : EReal) + DW (argA m c) (argB m c) (argS m c) (argO m c) (nn t) (y 0) (y 1) (y 2)) [_] [_, _, _, _, _, _, _, _, _, _, _, _, _, _, _, _]
    ⟨?_, ?_, ?_, ?_, ?_, ?_, ?_, ?_, ?_, ?_, ?_, ?_, ?_, ?_, ?_, ?_, trivial⟩ y ?_
  · exact fun x => (piece_db m c t 15 960 15 rfl rfl _ _ (is_kB m c t 15 rfl) (is_vB m c t 15 rfl) _ _ _ _ x _ (emb_head 15 inb_S16x128x256_S1x128x256_15_0_0 x) (emb_row 15 inb_S16x128x256_S1x128x256_15_0_0 x) (emb_key 15 inb_S16x128x256_S1x128x256_15_0_0 x)).trans (congrArg (· + _) (zero_slot 15 inb_S16x128x256_S1x128x256_15_0_0 x _ zero_bias))
  · exact fun x => (piece_db m c t 14 896 14 rfl rfl _ _ (is_kB m c t 14 rfl) (is_vB m c t 14 rfl) _ _ _ _ x _ (emb_head 14 inb_S16x128x256_S1x128x256_14_0_0 x) (emb_row 14 inb_S16x128x256_S1x128x256_14_0_0 x) (emb_key 14 inb_S16x128x256_S1x128x256_14_0_0 x)).trans (congrArg (· + _) (zero_slot 14 inb_S16x128x256_S1x128x256_14_0_0 x _ zero_bias))
  · exact fun x => (piece_db m c t 13 832 13 rfl rfl _ _ (is_kB m c t 13 rfl) (is_vB m c t 13 rfl) _ _ _ _ x _ (emb_head 13 inb_S16x128x256_S1x128x256_13_0_0 x) (emb_row 13 inb_S16x128x256_S1x128x256_13_0_0 x) (emb_key 13 inb_S16x128x256_S1x128x256_13_0_0 x)).trans (congrArg (· + _) (zero_slot 13 inb_S16x128x256_S1x128x256_13_0_0 x _ zero_bias))
  · exact fun x => (piece_db m c t 12 768 12 rfl rfl _ _ (is_kB m c t 12 rfl) (is_vB m c t 12 rfl) _ _ _ _ x _ (emb_head 12 inb_S16x128x256_S1x128x256_12_0_0 x) (emb_row 12 inb_S16x128x256_S1x128x256_12_0_0 x) (emb_key 12 inb_S16x128x256_S1x128x256_12_0_0 x)).trans (congrArg (· + _) (zero_slot 12 inb_S16x128x256_S1x128x256_12_0_0 x _ zero_bias))
  · exact fun x => (piece_db m c t 11 704 11 rfl rfl _ _ (is_kB m c t 11 rfl) (is_vB m c t 11 rfl) _ _ _ _ x _ (emb_head 11 inb_S16x128x256_S1x128x256_11_0_0 x) (emb_row 11 inb_S16x128x256_S1x128x256_11_0_0 x) (emb_key 11 inb_S16x128x256_S1x128x256_11_0_0 x)).trans (congrArg (· + _) (zero_slot 11 inb_S16x128x256_S1x128x256_11_0_0 x _ zero_bias))
  · exact fun x => (piece_db m c t 10 640 10 rfl rfl _ _ (is_kB m c t 10 rfl) (is_vB m c t 10 rfl) _ _ _ _ x _ (emb_head 10 inb_S16x128x256_S1x128x256_10_0_0 x) (emb_row 10 inb_S16x128x256_S1x128x256_10_0_0 x) (emb_key 10 inb_S16x128x256_S1x128x256_10_0_0 x)).trans (congrArg (· + _) (zero_slot 10 inb_S16x128x256_S1x128x256_10_0_0 x _ zero_bias))
  · exact fun x => (piece_db m c t 9 576 9 rfl rfl _ _ (is_kB m c t 9 rfl) (is_vB m c t 9 rfl) _ _ _ _ x _ (emb_head 9 inb_S16x128x256_S1x128x256_9_0_0 x) (emb_row 9 inb_S16x128x256_S1x128x256_9_0_0 x) (emb_key 9 inb_S16x128x256_S1x128x256_9_0_0 x)).trans (congrArg (· + _) (zero_slot 9 inb_S16x128x256_S1x128x256_9_0_0 x _ zero_bias))
  · exact fun x => (piece_db m c t 8 512 8 rfl rfl _ _ (is_kB m c t 8 rfl) (is_vB m c t 8 rfl) _ _ _ _ x _ (emb_head 8 inb_S16x128x256_S1x128x256_8_0_0 x) (emb_row 8 inb_S16x128x256_S1x128x256_8_0_0 x) (emb_key 8 inb_S16x128x256_S1x128x256_8_0_0 x)).trans (congrArg (· + _) (zero_slot 8 inb_S16x128x256_S1x128x256_8_0_0 x _ zero_bias))
  · exact fun x => (piece_db m c t 7 448 7 rfl rfl _ _ (is_kA m c t 7 rfl) (is_vA m c t 7 rfl) _ _ _ _ x _ (emb_head 7 inb_S16x128x256_S1x128x256_7_0_0 x) (emb_row 7 inb_S16x128x256_S1x128x256_7_0_0 x) (emb_key 7 inb_S16x128x256_S1x128x256_7_0_0 x)).trans (congrArg (· + _) (zero_slot 7 inb_S16x128x256_S1x128x256_7_0_0 x _ zero_bias))
  · exact fun x => (piece_db m c t 6 384 6 rfl rfl _ _ (is_kA m c t 6 rfl) (is_vA m c t 6 rfl) _ _ _ _ x _ (emb_head 6 inb_S16x128x256_S1x128x256_6_0_0 x) (emb_row 6 inb_S16x128x256_S1x128x256_6_0_0 x) (emb_key 6 inb_S16x128x256_S1x128x256_6_0_0 x)).trans (congrArg (· + _) (zero_slot 6 inb_S16x128x256_S1x128x256_6_0_0 x _ zero_bias))
  · exact fun x => (piece_db m c t 5 320 5 rfl rfl _ _ (is_kA m c t 5 rfl) (is_vA m c t 5 rfl) _ _ _ _ x _ (emb_head 5 inb_S16x128x256_S1x128x256_5_0_0 x) (emb_row 5 inb_S16x128x256_S1x128x256_5_0_0 x) (emb_key 5 inb_S16x128x256_S1x128x256_5_0_0 x)).trans (congrArg (· + _) (zero_slot 5 inb_S16x128x256_S1x128x256_5_0_0 x _ zero_bias))
  · exact fun x => (piece_db m c t 4 256 4 rfl rfl _ _ (is_kA m c t 4 rfl) (is_vA m c t 4 rfl) _ _ _ _ x _ (emb_head 4 inb_S16x128x256_S1x128x256_4_0_0 x) (emb_row 4 inb_S16x128x256_S1x128x256_4_0_0 x) (emb_key 4 inb_S16x128x256_S1x128x256_4_0_0 x)).trans (congrArg (· + _) (zero_slot 4 inb_S16x128x256_S1x128x256_4_0_0 x _ zero_bias))
  · exact fun x => (piece_db m c t 3 192 3 rfl rfl _ _ (is_kA m c t 3 rfl) (is_vA m c t 3 rfl) _ _ _ _ x _ (emb_head 3 inb_S16x128x256_S1x128x256_3_0_0 x) (emb_row 3 inb_S16x128x256_S1x128x256_3_0_0 x) (emb_key 3 inb_S16x128x256_S1x128x256_3_0_0 x)).trans (congrArg (· + _) (zero_slot 3 inb_S16x128x256_S1x128x256_3_0_0 x _ zero_bias))
  · exact fun x => (piece_db m c t 2 128 2 rfl rfl _ _ (is_kA m c t 2 rfl) (is_vA m c t 2 rfl) _ _ _ _ x _ (emb_head 2 inb_S16x128x256_S1x128x256_2_0_0 x) (emb_row 2 inb_S16x128x256_S1x128x256_2_0_0 x) (emb_key 2 inb_S16x128x256_S1x128x256_2_0_0 x)).trans (congrArg (· + _) (zero_slot 2 inb_S16x128x256_S1x128x256_2_0_0 x _ zero_bias))
  · exact fun x => (piece_db m c t 1 64 1 rfl rfl _ _ (is_kA m c t 1 rfl) (is_vA m c t 1 rfl) _ _ _ _ x _ (emb_head 1 inb_S16x128x256_S1x128x256_1_0_0 x) (emb_row 1 inb_S16x128x256_S1x128x256_1_0_0 x) (emb_key 1 inb_S16x128x256_S1x128x256_1_0_0 x)).trans (congrArg (· + _) (zero_slot 1 inb_S16x128x256_S1x128x256_1_0_0 x _ zero_bias))
  · exact fun x => (piece_db m c t 0 0 0 rfl rfl _ _ (is_kA m c t 0 rfl) (is_vA m c t 0 rfl) _ _ _ _ x _ (emb_head 0 inb_S16x128x256_S1x128x256_0_0_0 x) (emb_row 0 inb_S16x128x256_S1x128x256_0_0_0 x) (emb_key 0 inb_S16x128x256_S1x128x256_0_0_0 x)).trans (congrArg (· + _) (zero_slot 0 inb_S16x128x256_S1x128x256_0_0_0 x _ zero_bias))
  · exact View.cover_of_tiledL _ ![1, 128, 256] (by sl_kernel_rfl) y

theorem point_dbB (c : Dev nD) (t : Fin cfg0.N) (h0 : ¬ t.val % 64 = 0) (y : S16x128x256.Idx) :
    (outsAt0 m c t.val t.isLt).2.2.2.2.2.1 y = (outsAt0 m c (t.val - 1) (by omega)).2.2.2.2.2.1 y + DW (argA m c) (argB m c) (argS m c) (argO m c) (nn t) (y 0) (y 1) (y 2) := by
  rw [outsAt0_B m c t h0]
  frame_open
  simp (disch := decide) only [↓ View.readCov_skip, ↓ View.readCov_cons_toLoadRect, ↓ View.readCov_fill]
  frame_out
  simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
  refine View.canon_append_of_piecesOf (Val := Elt Ideal) (e := .f32) (fun y : S16x128x256.Idx => (outsAt0 m c (t.val - 1) (by omega)).2.2.2.2.2.1 y + DW (argA m c) (argB m c) (argS m c) (argO m c) (nn t) (y 0) (y 1) (y 2)) [] [_, _, _, _, _, _, _, _, _, _, _, _, _, _, _, _]
    ⟨?_, ?_, ?_, ?_, ?_, ?_, ?_, ?_, ?_, ?_, ?_, ?_, ?_, ?_, ?_, ?_, trivial⟩ y ?_
  · exact fun x => (piece_db m c t 15 960 15 rfl rfl _ _ (is_kB m c t 15 rfl) (is_vB m c t 15 rfl) _ _ _ _ x _ (emb_head 15 inb_S16x128x256_S1x128x256_15_0_0 x) (emb_row 15 inb_S16x128x256_S1x128x256_15_0_0 x) (emb_key 15 inb_S16x128x256_S1x128x256_15_0_0 x)).trans (congrArg (· + _) (ld_slot 15 inb_S16x128x256_S1x128x256_15_0_0 x _))
  · exact fun x => (piece_db m c t 14 896 14 rfl rfl _ _ (is_kB m c t 14 rfl) (is_vB m c t 14 rfl) _ _ _ _ x _ (emb_head 14 inb_S16x128x256_S1x128x256_14_0_0 x) (emb_row 14 inb_S16x128x256_S1x128x256_14_0_0 x) (emb_key 14 inb_S16x128x256_S1x128x256_14_0_0 x)).trans (congrArg (· + _) (ld_slot 14 inb_S16x128x256_S1x128x256_14_0_0 x _))
  · exact fun x => (piece_db m c t 13 832 13 rfl rfl _ _ (is_kB m c t 13 rfl) (is_vB m c t 13 rfl) _ _ _ _ x _ (emb_head 13 inb_S16x128x256_S1x128x256_13_0_0 x) (emb_row 13 inb_S16x128x256_S1x128x256_13_0_0 x) (emb_key 13 inb_S16x128x256_S1x128x256_13_0_0 x)).trans (congrArg (· + _) (ld_slot 13 inb_S16x128x256_S1x128x256_13_0_0 x _))
  · exact fun x => (piece_db m c t 12 768 12 rfl rfl _ _ (is_kB m c t 12 rfl) (is_vB m c t 12 rfl) _ _ _ _ x _ (emb_head 12 inb_S16x128x256_S1x128x256_12_0_0 x) (emb_row 12 inb_S16x128x256_S1x128x256_12_0_0 x) (emb_key 12 inb_S16x128x256_S1x128x256_12_0_0 x)).trans (congrArg (· + _) (ld_slot 12 inb_S16x128x256_S1x128x256_12_0_0 x _))
  · exact fun x => (piece_db m c t 11 704 11 rfl rfl _ _ (is_kB m c t 11 rfl) (is_vB m c t 11 rfl) _ _ _ _ x _ (emb_head 11 inb_S16x128x256_S1x128x256_11_0_0 x) (emb_row 11 inb_S16x128x256_S1x128x256_11_0_0 x) (emb_key 11 inb_S16x128x256_S1x128x256_11_0_0 x)).trans (congrArg (· + _) (ld_slot 11 inb_S16x128x256_S1x128x256_11_0_0 x _))
  · exact fun x => (piece_db m c t 10 640 10 rfl rfl _ _ (is_kB m c t 10 rfl) (is_vB m c t 10 rfl) _ _ _ _ x _ (emb_head 10 inb_S16x128x256_S1x128x256_10_0_0 x) (emb_row 10 inb_S16x128x256_S1x128x256_10_0_0 x) (emb_key 10 inb_S16x128x256_S1x128x256_10_0_0 x)).trans (congrArg (· + _) (ld_slot 10 inb_S16x128x256_S1x128x256_10_0_0 x _))
  · exact fun x => (piece_db m c t 9 576 9 rfl rfl _ _ (is_kB m c t 9 rfl) (is_vB m c t 9 rfl) _ _ _ _ x _ (emb_head 9 inb_S16x128x256_S1x128x256_9_0_0 x) (emb_row 9 inb_S16x128x256_S1x128x256_9_0_0 x) (emb_key 9 inb_S16x128x256_S1x128x256_9_0_0 x)).trans (congrArg (· + _) (ld_slot 9 inb_S16x128x256_S1x128x256_9_0_0 x _))
  · exact fun x => (piece_db m c t 8 512 8 rfl rfl _ _ (is_kB m c t 8 rfl) (is_vB m c t 8 rfl) _ _ _ _ x _ (emb_head 8 inb_S16x128x256_S1x128x256_8_0_0 x) (emb_row 8 inb_S16x128x256_S1x128x256_8_0_0 x) (emb_key 8 inb_S16x128x256_S1x128x256_8_0_0 x)).trans (congrArg (· + _) (ld_slot 8 inb_S16x128x256_S1x128x256_8_0_0 x _))
  · exact fun x => (piece_db m c t 7 448 7 rfl rfl _ _ (is_kA m c t 7 rfl) (is_vA m c t 7 rfl) _ _ _ _ x _ (emb_head 7 inb_S16x128x256_S1x128x256_7_0_0 x) (emb_row 7 inb_S16x128x256_S1x128x256_7_0_0 x) (emb_key 7 inb_S16x128x256_S1x128x256_7_0_0 x)).trans (congrArg (· + _) (ld_slot 7 inb_S16x128x256_S1x128x256_7_0_0 x _))
  · exact fun x => (piece_db m c t 6 384 6 rfl rfl _ _ (is_kA m c t 6 rfl) (is_vA m c t 6 rfl) _ _ _ _ x _ (emb_head 6 inb_S16x128x256_S1x128x256_6_0_0 x) (emb_row 6 inb_S16x128x256_S1x128x256_6_0_0 x) (emb_key 6 inb_S16x128x256_S1x128x256_6_0_0 x)).trans (congrArg (· + _) (ld_slot 6 inb_S16x128x256_S1x128x256_6_0_0 x _))
  · exact fun x => (piece_db m c t 5 320 5 rfl rfl _ _ (is_kA m c t 5 rfl) (is_vA m c t 5 rfl) _ _ _ _ x _ (emb_head 5 inb_S16x128x256_S1x128x256_5_0_0 x) (emb_row 5 inb_S16x128x256_S1x128x256_5_0_0 x) (emb_key 5 inb_S16x128x256_S1x128x256_5_0_0 x)).trans (congrArg (· + _) (ld_slot 5 inb_S16x128x256_S1x128x256_5_0_0 x _))
  · exact fun x => (piece_db m c t 4 256 4 rfl rfl _ _ (is_kA m c t 4 rfl) (is_vA m c t 4 rfl) _ _ _ _ x _ (emb_head 4 inb_S16x128x256_S1x128x256_4_0_0 x) (emb_row 4 inb_S16x128x256_S1x128x256_4_0_0 x) (emb_key 4 inb_S16x128x256_S1x128x256_4_0_0 x)).trans (congrArg (· + _) (ld_slot 4 inb_S16x128x256_S1x128x256_4_0_0 x _))
  · exact fun x => (piece_db m c t 3 192 3 rfl rfl _ _ (is_kA m c t 3 rfl) (is_vA m c t 3 rfl) _ _ _ _ x _ (emb_head 3 inb_S16x128x256_S1x128x256_3_0_0 x) (emb_row 3 inb_S16x128x256_S1x128x256_3_0_0 x) (emb_key 3 inb_S16x128x256_S1x128x256_3_0_0 x)).trans (congrArg (· + _) (ld_slot 3 inb_S16x128x256_S1x128x256_3_0_0 x _))
  · exact fun x => (piece_db m c t 2 128 2 rfl rfl _ _ (is_kA m c t 2 rfl) (is_vA m c t 2 rfl) _ _ _ _ x _ (emb_head 2 inb_S16x128x256_S1x128x256_2_0_0 x) (emb_row 2 inb_S16x128x256_S1x128x256_2_0_0 x) (emb_key 2 inb_S16x128x256_S1x128x256_2_0_0 x)).trans (congrArg (· + _) (ld_slot 2 inb_S16x128x256_S1x128x256_2_0_0 x _))
  · exact fun x => (piece_db m c t 1 64 1 rfl rfl _ _ (is_kA m c t 1 rfl) (is_vA m c t 1 rfl) _ _ _ _ x _ (emb_head 1 inb_S16x128x256_S1x128x256_1_0_0 x) (emb_row 1 inb_S16x128x256_S1x128x256_1_0_0 x) (emb_key 1 inb_S16x128x256_S1x128x256_1_0_0 x)).trans (congrArg (· + _) (ld_slot 1 inb_S16x128x256_S1x128x256_1_0_0 x _))
  · exact fun x => (piece_db m c t 0 0 0 rfl rfl _ _ (is_kA m c t 0 rfl) (is_vA m c t 0 rfl) _ _ _ _ x _ (emb_head 0 inb_S16x128x256_S1x128x256_0_0_0 x) (emb_row 0 inb_S16x128x256_S1x128x256_0_0_0 x) (emb_key 0 inb_S16x128x256_S1x128x256_0_0_0 x)).trans (congrArg (· + _) (ld_slot 0 inb_S16x128x256_S1x128x256_0_0_0 x _))
  · exact View.cover_of_tiledL _ ![1, 128, 256] (by sl_kernel_rfl) y

theorem lane_is (l : Fin 128) (k : ℕ) (hk : k < 128) : (iota Kind.tc S1x128 32 [1] iota_S1x128_d1_w32 : IVec S1x128 32) (ix2 0 l) = BitVec.ofNat 32 k ↔ l.val = k := by
  have e : (iota Kind.tc S1x128 32 [1] iota_S1x128_d1_w32 : IVec S1x128 32) (ix2 0 l) = BitVec.ofNat 32 l.val := by pointwise []
  rw [e]
  constructor
  · intro h
    have h' := congrArg BitVec.toNat h
    rw [BitVec.toNat_ofNat, BitVec.toNat_ofNat, Nat.mod_eq_of_lt (by omega), Nat.mod_eq_of_lt (by omega)] at h'
    exact h'
  · intro h
    rw [h]

theorem lane_at (l : Fin 128) (k : ℕ) (hk : k < 128) (T : FVec Ideal S1x1 .f32) (v : EReal) (hv : T (ix2 0 0) = v) :
    lz (BitVec.ofNat 32 k) (iota Kind.tc S1x128 32 [1] iota_S1x128_d1_w32) T (ix2 0 l) = if l.val = k then 0 - v else 0 := by
  rw [read_lz, hv]
  exact if_congr (lane_is l k hk) rfl rfl

theorem lane_sum (T0 T1 T2 T3 T4 T5 T6 T7 T8 T9 T10 T11 T12 T13 T14 T15 : FVec Ideal S1x1 .f32) (acc : FVec Ideal S1x128 .f32) (f : Fin 16 → EReal)
    (h0 : T0 (ix2 0 0) = f 0) (h1 : T1 (ix2 0 0) = f 1) (h2 : T2 (ix2 0 0) = f 2) (h3 : T3 (ix2 0 0) = f 3) (h4 : T4 (ix2 0 0) = f 4) (h5 : T5 (ix2 0 0) = f 5) (h6 : T6 (ix2 0 0) = f 6) (h7 : T7 (ix2 0 0) = f 7) (h8 : T8 (ix2 0 0) = f 8) (h9 : T9 (ix2 0 0) = f 9) (h10 : T10 (ix2 0 0) = f 10) (h11 : T11 (ix2 0 0) = f 11) (h12 : T12 (ix2 0 0) = f 12) (h13 : T13 (ix2 0 0) = f 13) (h14 : T14 (ix2 0 0) = f 14) (h15 : T15 (ix2 0 0) = f 15) (y : S1x128.Idx) :
    k0_pay1 (F := Ideal) (addf (addf (addf (addf (addf (addf (addf (addf (addf (addf (addf (addf (addf (addf (addf (addf (k0_pay3 (F := Ideal)) (lz 0#32 (iota Kind.tc S1x128 32 [1] iota_S1x128_d1_w32) T0)) (lz 1#32 (iota Kind.tc S1x128 32 [1] iota_S1x128_d1_w32) T1)) (lz 2#32 (iota Kind.tc S1x128 32 [1] iota_S1x128_d1_w32) T2)) (lz 3#32 (iota Kind.tc S1x128 32 [1] iota_S1x128_d1_w32) T3)) (lz 4#32 (iota Kind.tc S1x128 32 [1] iota_S1x128_d1_w32) T4)) (lz 5#32 (iota Kind.tc S1x128 32 [1] iota_S1x128_d1_w32) T5)) (lz 6#32 (iota Kind.tc S1x128 32 [1] iota_S1x128_d1_w32) T6)) (lz 7#32 (iota Kind.tc S1x128 32 [1] iota_S1x128_d1_w32) T7)) (lz 8#32 (iota Kind.tc S1x128 32 [1] iota_S1x128_d1_w32) T8)) (lz 9#32 (iota Kind.tc S1x128 32 [1] iota_S1x128_d1_w32) T9)) (lz 10#32 (iota Kind.tc S1x128 32 [1] iota_S1x128_d1_w32) T10)) (lz 11#32 (iota Kind.tc S1x128 32 [1] iota_S1x128_d1_w32) T11)) (lz 12#32 (iota Kind.tc S1x128 32 [1] iota_S1x128_d1_w32) T12)) (lz 13#32 (iota Kind.tc S1x128 32 [1] iota_S1x128_d1_w32) T13)) (lz 14#32 (iota Kind.tc S1x128 32 [1] iota_S1x128_d1_w32) T14)) (lz 15#32 (iota Kind.tc S1x128 32 [1] iota_S1x128_d1_w32) T15)) acc y = acc y + ∑ h : Fin 16, if (y 1 : ℕ) = h.val then 0 - f h else 0 := by
  have hy0 : (y 0 : ℕ) < 1 := (y 0).isLt
  have hy : y = ix2 0 (y 1) := funext fun a => match a with | ⟨0, _⟩ => Fin.ext (by show (y 0 : ℕ) = 0; omega) | ⟨1, _⟩ => rfl
  have e0 : (shapeCast S1x128 acc shapeCasts_S1x128_S1x128 : FVec Ideal S1x128 .f32) y = acc y := by pointwise []
  refine congrArg₂ (· + ·) e0 ?_
  have e16 : ∀ F : Fin 16 → EReal, ∑ h, F h = F 0 + F 1 + F 2 + F 3 + F 4 + F 5 + F 6 + F 7 + F 8 + F 9 + F 10 + F 11 + F 12 + F 13 + F 14 + F 15 := fun F => by
    rw [Fin.sum_univ_castSucc, Fin.sum_univ_castSucc, Fin.sum_univ_castSucc, Fin.sum_univ_castSucc, Fin.sum_univ_castSucc, Fin.sum_univ_castSucc, Fin.sum_univ_castSucc, Fin.sum_univ_castSucc,
      Fin.sum_univ_eight]
    rfl
  rw [hy, e16]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((congrArg₂ (· + ·) (zero_lane _) (lane_at (y 1) 0 (by omega) T0 _ h0)).trans (zero_add _)) (lane_at (y 1) 1 (by omega) T1 _ h1)) (lane_at (y 1) 2 (by omega) T2 _ h2)) (lane_at (y 1) 3 (by omega) T3 _ h3)) (lane_at (y 1) 4 (by omega) T4 _ h4)) (lane_at (y 1) 5 (by omega) T5 _ h5)) (lane_at (y 1) 6 (by omega) T6 _ h6)) (lane_at (y 1) 7 (by omega) T7 _ h7)) (lane_at (y 1) 8 (by omega) T8 _ h8)) (lane_at (y 1) 9 (by omega) T9 _ h9)) (lane_at (y 1) 10 (by omega) T10 _ h10)) (lane_at (y 1) 11 (by omega) T11 _ h11)) (lane_at (y 1) 12 (by omega) T12 _ h12)) (lane_at (y 1) 13 (by omega) T13 _ h13)) (lane_at (y 1) 14 (by omega) T14 _ h14)) (lane_at (y 1) 15 (by omega) T15 _ h15)

theorem point_dsA (c : Dev nD) (t : Fin cfg0.N) (h0 : t.val % 64 = 0) (y : S1x128.Idx) :
    (outsAt0 m c t.val t.isLt).2.2.2.2.2.2 y = 0 + TS (argA m c) (argB m c) (argS m c) (argO m c) (nn t) (y 1) := by
  rw [outsAt0_A m c t h0]
  frame_open
  simp (disch := decide) only [↓ View.readCov_skip, ↓ View.readCov_cons_toLoadRect, ↓ View.readCov_fill]
  frame_out
  simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
  refine (lane_sum _ _ _ _ _ _ _ _ _ _ _ _ _ _ _ _ _ (fun h => ∑ r : Fin 128, TW (argA m c) (argB m c) (argS m c) (argO m c) (nn t) h r)
    ?_ ?_ ?_ ?_ ?_ ?_ ?_ ?_ ?_ ?_ ?_ ?_ ?_ ?_ ?_ ?_ y).trans (congrArg (· + _) ?_)
  · exact headT m c t 0 0 0 rfl rfl _ _ (is_kA m c t 0 rfl) (is_vA m c t 0 rfl) _ _ _
  · exact headT m c t 1 64 1 rfl rfl _ _ (is_kA m c t 1 rfl) (is_vA m c t 1 rfl) _ _ _
  · exact headT m c t 2 128 2 rfl rfl _ _ (is_kA m c t 2 rfl) (is_vA m c t 2 rfl) _ _ _
  · exact headT m c t 3 192 3 rfl rfl _ _ (is_kA m c t 3 rfl) (is_vA m c t 3 rfl) _ _ _
  · exact headT m c t 4 256 4 rfl rfl _ _ (is_kA m c t 4 rfl) (is_vA m c t 4 rfl) _ _ _
  · exact headT m c t 5 320 5 rfl rfl _ _ (is_kA m c t 5 rfl) (is_vA m c t 5 rfl) _ _ _
  · exact headT m c t 6 384 6 rfl rfl _ _ (is_kA m c t 6 rfl) (is_vA m c t 6 rfl) _ _ _
  · exact headT m c t 7 448 7 rfl rfl _ _ (is_kA m c t 7 rfl) (is_vA m c t 7 rfl) _ _ _
  · exact headT m c t 8 512 8 rfl rfl _ _ (is_kB m c t 8 rfl) (is_vB m c t 8 rfl) _ _ _
  · exact headT m c t 9 576 9 rfl rfl _ _ (is_kB m c t 9 rfl) (is_vB m c t 9 rfl) _ _ _
  · exact headT m c t 10 640 10 rfl rfl _ _ (is_kB m c t 10 rfl) (is_vB m c t 10 rfl) _ _ _
  · exact headT m c t 11 704 11 rfl rfl _ _ (is_kB m c t 11 rfl) (is_vB m c t 11 rfl) _ _ _
  · exact headT m c t 12 768 12 rfl rfl _ _ (is_kB m c t 12 rfl) (is_vB m c t 12 rfl) _ _ _
  · exact headT m c t 13 832 13 rfl rfl _ _ (is_kB m c t 13 rfl) (is_vB m c t 13 rfl) _ _ _
  · exact headT m c t 14 896 14 rfl rfl _ _ (is_kB m c t 14 rfl) (is_vB m c t 14 rfl) _ _ _
  · exact headT m c t 15 960 15 rfl rfl _ _ (is_kB m c t 15 rfl) (is_vB m c t 15 rfl) _ _ _
  · exact zero_lane y

theorem point_dsB (c : Dev nD) (t : Fin cfg0.N) (h0 : ¬ t.val % 64 = 0) (y : S1x128.Idx) :
    (outsAt0 m c t.val t.isLt).2.2.2.2.2.2 y = (outsAt0 m c (t.val - 1) (by omega)).2.2.2.2.2.2 y + TS (argA m c) (argB m c) (argS m c) (argO m c) (nn t) (y 1) := by
  rw [outsAt0_B m c t h0]
  frame_open
  simp (disch := decide) only [↓ View.readCov_skip, ↓ View.readCov_cons_toLoadRect, ↓ View.readCov_fill]
  frame_out
  simp only [e252, e6, e9, e10, e12, e13, e14, e15, e16, e17, e18, e19, e20, e21, e22, e23, e24, e25, e26, e28, e31, e32, e33, e34, e35, e38, e39, e40, e41, e45, e46, e136, e42, e134, e135, e138, e139, e140, e141, e142, e143, e144, e145, e146, e147, e148, e149, e189, e48, e49, e50, e51, e52, e55, e56, e57, e58, e59, e60, e61, e62, e63, e65, e66, e67, e70, e71, e72, e73, e74, e75, e76, e77, e78, e79, e80, e82, e83, e84, e85, e86, e87, e88, e91, e92, e93, e94, e95, e96, e97, e99, e100, e101, e102, e105, e106, e107, e108, e109, e110, e111, e115, e116, e118, e119, e120, e121, e122, e123, e124, e125, e126, e127, e128, e129, e151, e154, e155, e156, e157, e158, e159, e160, e161, e162, e163, e164, e165, e166, e169, e190, e170, e171, e172, e173, e174, e175, e176, e177, e178, e179, e180, e181, e182, e183, e191, e192, e193, e194, e195, e196, e197, e198, e199, e200, e202, e203, e204, e205, e210, e211, e212, e213, e214, e215, e216, e217, e219, e220, e221, e222, e223, e226, e227, e228, e229, e230, e231, e232, e233, e234, e235, e236, e237, e238, e239, e242, e243, e244, e245, e246, e247, e248, e249, e250, e251, e240, e241, e254, e259, e261, e263, e266, e268, e269, e273, e275, e277, e281, e283, e285, e271, e272, e279, e294, e295, i30, i37, i44, i54, i69, i90, i104, i114, i130, i131, i132, i137, i153, i152, i185, i186, i187, i188, i190, i206, i207, i209, i225, i257, i292, i293, i289, i296, i297, i298, i299, l255, l258, l262, l267, l282, l270, l274, l276, l286, fP, fD, fT]
  refine (lane_sum _ _ _ _ _ _ _ _ _ _ _ _ _ _ _ _ _ (fun h => ∑ r : Fin 128, TW (argA m c) (argB m c) (argS m c) (argO m c) (nn t) h r)
    ?_ ?_ ?_ ?_ ?_ ?_ ?_ ?_ ?_ ?_ ?_ ?_ ?_ ?_ ?_ ?_ y).trans (congrArg (· + _) ?_)
  · exact headT m c t 0 0 0 rfl rfl _ _ (is_kA m c t 0 rfl) (is_vA m c t 0 rfl) _ _ _
  · exact headT m c t 1 64 1 rfl rfl _ _ (is_kA m c t 1 rfl) (is_vA m c t 1 rfl) _ _ _
  · exact headT m c t 2 128 2 rfl rfl _ _ (is_kA m c t 2 rfl) (is_vA m c t 2 rfl) _ _ _
  · exact headT m c t 3 192 3 rfl rfl _ _ (is_kA m c t 3 rfl) (is_vA m c t 3 rfl) _ _ _
  · exact headT m c t 4 256 4 rfl rfl _ _ (is_kA m c t 4 rfl) (is_vA m c t 4 rfl) _ _ _
  · exact headT m c t 5 320 5 rfl rfl _ _ (is_kA m c t 5 rfl) (is_vA m c t 5 rfl) _ _ _
  · exact headT m c t 6 384 6 rfl rfl _ _ (is_kA m c t 6 rfl) (is_vA m c t 6 rfl) _ _ _
  · exact headT m c t 7 448 7 rfl rfl _ _ (is_kA m c t 7 rfl) (is_vA m c t 7 rfl) _ _ _
  · exact headT m c t 8 512 8 rfl rfl _ _ (is_kB m c t 8 rfl) (is_vB m c t 8 rfl) _ _ _
  · exact headT m c t 9 576 9 rfl rfl _ _ (is_kB m c t 9 rfl) (is_vB m c t 9 rfl) _ _ _
  · exact headT m c t 10 640 10 rfl rfl _ _ (is_kB m c t 10 rfl) (is_vB m c t 10 rfl) _ _ _
  · exact headT m c t 11 704 11 rfl rfl _ _ (is_kB m c t 11 rfl) (is_vB m c t 11 rfl) _ _ _
  · exact headT m c t 12 768 12 rfl rfl _ _ (is_kB m c t 12 rfl) (is_vB m c t 12 rfl) _ _ _
  · exact headT m c t 13 832 13 rfl rfl _ _ (is_kB m c t 13 rfl) (is_vB m c t 13 rfl) _ _ _
  · exact headT m c t 14 896 14 rfl rfl _ _ (is_kB m c t 14 rfl) (is_vB m c t 14 rfl) _ _ _
  · exact headT m c t 15 960 15 rfl rfl _ _ (is_kB m c t 15 rfl) (is_vB m c t 15 rfl) _ _ _
  · rfl

theorem final_q (c : Dev nD) : (dats m 0 c).arrAt 8 (cfgs 0).N = (fun i => DQ (argA m c) (argB m c) (argS m c) (argO m c) (i 0) (i 1) : Vec Ideal S8192x1024 .f32) := by
  refine (dats m 0 c).arrAt_eq_of_covers 8 _ (by decide +kernel) fun t hf y => ?_
  blk_simp
  rw [after0_8]
  exact point_dq m c t y _ (by blk_simp [idx t]) (by blk_simp [idx t])

theorem final_kc (c : Dev nD) : (dats m 0 c).arrAt 9 (cfgs 0).N = (fun i => DK (argA m c) (argB m c) (argS m c) (argO m c) (blkOf (i 0)) (curSlot (i 0)) (i 1) : Vec Ideal S8192x128 .f32) := by
  refine (dats m 0 c).arrAt_eq_of_covers 9 _ (by decide +kernel) fun t hf y => ?_
  blk_simp
  rw [after0_9]
  exact point_dkc m c t y _ (by blk_simp [idx t]) (by blk_simp [idx t])

theorem final_kp (c : Dev nD) : (dats m 0 c).arrAt 10 (cfgs 0).N = (fun i => DK (argA m c) (argB m c) (argS m c) (argO m c) (blkOf (i 0)) (prevSlot (i 0)) (i 1) : Vec Ideal S8192x128 .f32) := by
  refine (dats m 0 c).arrAt_eq_of_covers 10 _ (by decide +kernel) fun t hf y => ?_
  blk_simp
  rw [after0_10]
  exact point_dkp m c t y _ (by blk_simp [idx t]) (by blk_simp [idx t])

theorem final_vc (c : Dev nD) : (dats m 0 c).arrAt 11 (cfgs 0).N = (fun i => DV (argA m c) (argB m c) (argS m c) (argO m c) (blkOf (i 0)) (curSlot (i 0)) (i 1) : Vec Ideal S8192x128 .f32) := by
  refine (dats m 0 c).arrAt_eq_of_covers 11 _ (by decide +kernel) fun t hf y => ?_
  blk_simp
  rw [after0_11]
  exact point_dvc m c t y _ (by blk_simp [idx t]) (by blk_simp [idx t])

theorem final_vp (c : Dev nD) : (dats m 0 c).arrAt 12 (cfgs 0).N = (fun i => DV (argA m c) (argB m c) (argS m c) (argO m c) (blkOf (i 0)) (prevSlot (i 0)) (i 1) : Vec Ideal S8192x128 .f32) := by
  refine (dats m 0 c).arrAt_eq_of_covers 12 _ (by decide +kernel) fun t hf y => ?_
  blk_simp
  rw [after0_12]
  exact point_dvp m c t y _ (by blk_simp [idx t]) (by blk_simp [idx t])

theorem final_b (c : Dev nD) : (dats m 0 c).arrAt 13 (cfgs 0).N = (fun y => ∑ n : Fin 64, DW (argA m c) (argB m c) (argS m c) (argO m c) n (y 0) (y 1) (y 2) : Vec Ideal S16x128x256 .f32) := by
  obtain ⟨X, hX⟩ : ∃ X : Vec Ideal S16x128x256 .f32, X = (fun y => ∑ n : Fin 64, DW (argA m c) (argB m c) (argS m c) (argO m c) n (y 0) (y 1) (y 2) : Vec Ideal S16x128x256 .f32) := ⟨_, rfl⟩
  rw [← hX]
  refine (dats m 0 c).arrAt_eq_of_covers 13 _ (by decide +kernel) fun t hf y => ?_
  have h3 := (flush0_13 t).mp hf
  have ht : t.val < 64 := (nn t).isLt
  have key : ∀ z : S16x128x256.Idx, (outsAt0 m c t.val t.isLt).2.2.2.2.2.1 z = X z := fun z => by
    rw [hX]
    refine (Pipeline.eq_sum_fin_of_reset_step_apply_of_flush (M := EReal) (ι := S16x128x256.Idx) (fun n h => (outsAt0 m c n h).2.2.2.2.2.1) 64 (fun _ => 0) _
      (fun t h j => point_dbA m c t h j) (fun t h j => point_dbB m c t h j) t h3 z).trans ((zero_add _).trans (Finset.sum_congr rfl fun s _ => ?_))
    have e : nn ⟨64 * (t.val / 64) + s.val, Pipeline.run_point_lt_of_flush t h3 s⟩ = s := Fin.ext (by show 64 * (t.val / 64) + s.val = s.val; omega)
    rw [e]
  blk_simp
  rw [after0_13]
  refine (key y).trans ?_
  blk_ext [idx t]

theorem final_s (c : Dev nD) : (dats m 0 c).arrAt 14 (cfgs 0).N = (fun y => ∑ n : Fin 64, TS (argA m c) (argB m c) (argS m c) (argO m c) n (y 1) : Vec Ideal S1x128 .f32) := by
  obtain ⟨X, hX⟩ : ∃ X : Vec Ideal S1x128 .f32, X = (fun y => ∑ n : Fin 64, TS (argA m c) (argB m c) (argS m c) (argO m c) n (y 1) : Vec Ideal S1x128 .f32) := ⟨_, rfl⟩
  rw [← hX]
  refine (dats m 0 c).arrAt_eq_of_covers 14 _ (by decide +kernel) fun t hf y => ?_
  have h3 := (flush0_14 t).mp hf
  have ht : t.val < 64 := (nn t).isLt
  have key : ∀ z : S1x128.Idx, (outsAt0 m c t.val t.isLt).2.2.2.2.2.2 z = X z := fun z => by
    rw [hX]
    refine (Pipeline.eq_sum_fin_of_reset_step_apply_of_flush (M := EReal) (ι := S1x128.Idx) (fun n h => (outsAt0 m c n h).2.2.2.2.2.2) 64 (fun _ => 0) _
      (fun t h j => point_dsA m c t h j) (fun t h j => point_dsB m c t h j) t h3 z).trans ((zero_add _).trans (Finset.sum_congr rfl fun s _ => ?_))
    have e : nn ⟨64 * (t.val / 64) + s.val, Pipeline.run_point_lt_of_flush t h3 s⟩ = s := Fin.ext (by show 64 * (t.val / 64) + s.val = s.val; omega)
    rw [e]
  blk_simp
  rw [after0_14]
  refine (key y).trans ?_
  blk_ext [idx t]

end Cert.SwaIdeal.Value

end
-- ==== Proof.SwaSoft.lean ====
/- A row of masked scores with a sink beside them: the kernel's weights and gradients, written over the scores and the sink apart,
   are those of the reference's softmax over the row of 257. -/
module

public import proofs.«01_k».proof.Proof.SwaHead

@[expose] public section

noncomputable section

namespace Cert.SwaIdeal.Value

open Idealize.ShloMosaic Cert.Soft

/-- A row of 256 with one more entry behind it. -/
def cat (a : Fin 256 → EReal) (s : EReal) (k : Fin 257) : EReal := if h : k.val < 256 then a ⟨k.val, h⟩ else s

theorem cat_slot (a : Fin 256 → EReal) (s : EReal) (j : Fin 256) : cat a s j.castSucc = a j := dif_pos j.isLt
theorem cat_last (a : Fin 256 → EReal) (s : EReal) : cat a s (Fin.last 256) = s := dif_neg (by simp)

theorem top_cat (a : Fin 256 → EReal) (s : EReal) : top (cat a s) = rtop a s := by
  refine eq_of_forall_ge_iff fun c => ?_
  rw [top, rtop, top, max_le_iff, Finset.fold_max_le, Finset.fold_max_le]
  constructor
  · rintro ⟨h0, h⟩
    refine ⟨⟨h0, fun j _ => ?_⟩, ?_⟩
    · rw [← cat_slot a s j]; exact h _ (Finset.mem_univ _)
    · rw [← cat_last a s]; exact h _ (Finset.mem_univ _)
  · rintro ⟨⟨h0, h⟩, hs⟩
    refine ⟨h0, fun k _ => ?_⟩
    rw [cat]
    split
    · exact h _ (Finset.mem_univ _)
    · exact hs

theorem ex_slot (a : Fin 256 → EReal) (s : EReal) (j : Fin 256) : Ideal.exp (a j - rtop a s) = ex (cat a s) j.castSucc := by
  rw [ex, top_cat, cat_slot]
theorem ex_last (a : Fin 256 → EReal) (s : EReal) : Ideal.exp (s - rtop a s) = ex (cat a s) (Fin.last 256) := by
  rw [ex, top_cat, cat_last]
theorem rinv_eq (a : Fin 256 → EReal) (s : EReal) : rinv a s = Ideal.div 1 (tot (cat a s)) := by
  have e : tot (cat a s) = (∑ j : Fin 256, ex (cat a s) j.castSucc) + ex (cat a s) (Fin.last 256) := Fin.sum_univ_castSucc _
  rw [rinv, e, ex_last]
  simp only [ex_slot]

section Row

variable {a : Fin 256 → EReal} {s : EReal} (ha : ∀ j, a j = ⊥ ∨ Fin' (a j)) (hs : Fin' s)
include ha hs

theorem top_row : ∃ t : ℝ, rtop a s = (t : EReal) := by
  obtain ⟨r, hr⟩ := hs
  have key : ∀ u : Finset (Fin 256), u.fold max ⊥ a = ⊥ ∨ Fin' (u.fold max ⊥ a) := by
    intro u
    induction u using Finset.induction_on with
    | empty => left; rfl
    | insert i u hi ih =>
      rw [Finset.fold_insert hi]
      rcases ha i with h | ⟨x, hx⟩ <;> rcases ih with h' | ⟨x', hx'⟩
      · left; rw [h, h']; simp
      · right; rw [h, hx']; exact ⟨x', by simp⟩
      · right; rw [hx, h']; exact ⟨x, by simp⟩
      · right; rw [hx, hx']; exact ⟨max x x', (EReal.coe_strictMono.monotone.map_max).symm⟩
  rw [rtop, hr]
  rcases key Finset.univ with h | ⟨x, hx⟩
  · exact ⟨r, by rw [top, h]; simp⟩
  · exact ⟨max x r, by rw [top, hx]; exact (EReal.coe_strictMono.monotone.map_max).symm⟩

theorem row_real : ∃ e : Fin 256 → ℝ, ∃ f : ℝ, (∀ j, 0 ≤ e j) ∧ 0 < f ∧ (∀ j, a j = ⊥ → e j = 0) ∧ (∀ j, ex (cat a s) j.castSucc = (e j : EReal))
    ∧ ex (cat a s) (Fin.last 256) = (f : EReal) := by
  obtain ⟨t, ht⟩ := top_row ha hs
  obtain ⟨r, hr⟩ := hs
  have h : ∀ j, ∃ x : ℝ, 0 ≤ x ∧ (a j = ⊥ → x = 0) ∧ ex (cat a s) j.castSucc = (x : EReal) := by
    intro j
    rcases ha j with h | ⟨y, hy⟩
    · refine ⟨0, le_refl _, fun _ => rfl, ?_⟩
      rw [← ex_slot, ht, h, EReal.bot_sub]
      exact Ideal.exp_bot
    · refine ⟨Real.exp (y - t), (Real.exp_pos _).le, fun h => ?_, ?_⟩
      · rw [hy] at h
        exact absurd h (EReal.coe_ne_bot y)
      · rw [← ex_slot, ht, hy, ← EReal.coe_sub, Ideal.exp_coe]
  choose e h1 h2 h3 using h
  exact ⟨e, Real.exp (r - t), h1, Real.exp_pos _, h2, h3, by rw [← ex_last, ht, hr, ← EReal.coe_sub, Ideal.exp_coe]⟩

variable {d d' : Fin 256 → EReal} (hd : ∀ j, Fin' (d j)) (hd' : ∀ j, Fin' (d' j)) (hdd : ∀ j, a j ≠ ⊥ → d' j = d j)

theorem pr_slot (j : Fin 256) : pr (cat a s) j.castSucc = rP a s j := by
  obtain ⟨e, f, h0, hf, hm, he, hl⟩ := row_real ha hs
  have hL : (0 : ℝ) < (∑ j, e j) + f := add_pos_of_nonneg_of_pos (Finset.sum_nonneg fun j _ => h0 j) hf
  have ht : tot (cat a s) = (((∑ j, e j) + f : ℝ) : EReal) := by
    rw [tot, Fin.sum_univ_castSucc, hl, EReal.coe_add, coe_sum]
    exact congrArg (· + _) (Finset.sum_congr rfl fun j _ => he j)
  rw [pr, rP, rinv_eq, ex_slot, ht, he, div_coe_coe _ _ hL.ne', ← EReal.coe_one, div_coe_coe _ _ hL.ne', ← EReal.coe_mul, mul_one_div]

omit ha hs in
theorem rP_masked (ha : ∀ j, a j = ⊥ ∨ Fin' (a j)) (hs : Fin' s) (j : Fin 256) (h : a j = ⊥) : rP a s j = 0 := by
  obtain ⟨e, f, h0, hf, hm, he, hl⟩ := row_real ha hs
  rw [rP, ex_slot, he, hm j h, EReal.coe_zero, zero_mul]

omit ha hs in
theorem rD_masked (ha : ∀ j, a j = ⊥ ∨ Fin' (a j)) (hs : Fin' s) (j : Fin 256) (h : a j = ⊥) : rD a s d j = 0 := by
  rw [rD, rP_masked ha hs j h, zero_mul]

include hd hd' hdd in
theorem row_grad : (∀ j : Fin 256, dsRef (cat a s) (cat d' 0) j.castSucc = rD a s d j) ∧ dsRef (cat a s) (cat d' 0) (Fin.last 256) = -(rT a s d)
    ∧ Fin' (rT a s d) ∧ ∀ j, Fin' (rD a s d j) := by
  obtain ⟨e, f, h0, hf, hm, he, hl⟩ := row_real ha hs
  have hL : (0 : ℝ) < (∑ j, e j) + f := add_pos_of_nonneg_of_pos (Finset.sum_nonneg fun j _ => h0 j) hf
  have ht : tot (cat a s) = (((∑ j, e j) + f : ℝ) : EReal) := by
    rw [tot, Fin.sum_univ_castSucc, hl, EReal.coe_add, coe_sum]
    exact congrArg (· + _) (Finset.sum_congr rfl fun j _ => he j)
  choose g hg using hd
  choose g' hg' using hd'
  have hgg : ∀ j, e j * g' j = e j * g j := by
    intro j
    by_cases h : a j = ⊥
    · rw [hm j h, zero_mul, zero_mul]
    · have := hdd j h
      rw [hg, hg', EReal.coe_eq_coe_iff] at this
      rw [this]
  set L : ℝ := (∑ j, e j) + f with hLdef
  have hi : rinv a s = ((1 / L : ℝ) : EReal) := by rw [rinv_eq, ht, ← EReal.coe_one, div_coe_coe _ _ hL.ne']
  have hp : ∀ i, rP a s i = ((e i * (1 / L) : ℝ) : EReal) := fun i => by rw [rP, ex_slot, he, hi, ← EReal.coe_mul]
  have h1 : Ideal.div 1 (tot (cat a s) * tot (cat a s)) = ((1 / (L * L) : ℝ) : EReal) := by
    rw [ht, ← EReal.coe_mul, ← EReal.coe_one, div_coe_coe _ _ (mul_pos hL hL).ne']
  have hsum : ∑ i, rP a s i * d i = ((∑ i, e i * (1 / L) * g i : ℝ) : EReal) := by
    rw [coe_sum]; exact Finset.sum_congr rfl fun i _ => by rw [hp, hg, ← EReal.coe_mul]
  have hsum' : ∑ i, cat d' 0 i * Ideal.div 1 (tot (cat a s) * tot (cat a s)) * ex (cat a s) i = ((∑ i, g' i * (1 / (L * L)) * e i : ℝ) : EReal) := by
    rw [Fin.sum_univ_castSucc, cat_last, zero_mul, zero_mul, add_zero, coe_sum]
    exact Finset.sum_congr rfl fun i _ => by rw [h1, he, cat_slot, hg', ← EReal.coe_mul, ← EReal.coe_mul]
  have hss : ∑ i, g' i * (1 / (L * L)) * e i = (∑ i, e i * (1 / L) * g i) / L := by
    rw [Finset.sum_div]
    refine Finset.sum_congr rfl fun i _ => ?_
    have := hgg i
    have e1 : g' i * (1 / (L * L)) * e i = (e i * g' i) * (1 / (L * L)) := by ring
    rw [e1, this]
    field_simp
  set Z : ℝ := ∑ i, e i * (1 / L) * g i with hZ
  refine ⟨fun j => ?_, ?_, ?_, fun j => ?_⟩
  · rw [dsRef, rD, hsum, hsum', hss, hp, ht, he, cat_slot, hg, hg', div_coe_coe _ _ hL.ne', zero_add, zero_add, ← EReal.coe_neg, ← EReal.coe_add,
      ← EReal.coe_mul, ← EReal.coe_sub, ← EReal.coe_mul]
    congr 1
    have e1 : (g' j / L + -(Z / L)) * e j = (e j * g' j) / L - Z / L * e j := by ring
    rw [e1, hgg]
    field_simp
  · rw [dsRef, rT, hsum, hsum', hss, ex_last, hl, hi, ht, cat_last, ← EReal.coe_zero, div_coe_coe _ _ hL.ne', EReal.coe_zero, zero_add, zero_add,
      ← EReal.coe_neg, ← EReal.coe_add, ← EReal.coe_mul, ← EReal.coe_mul, ← EReal.coe_mul, ← EReal.coe_neg]
    congr 1
    field_simp
    ring
  · exact ⟨f * (1 / L) * Z, by rw [rT, hsum, ex_last, hl, hi, ← EReal.coe_mul, ← EReal.coe_mul]⟩
  · exact ⟨e j * (1 / L) * (g j - Z), by rw [rD, hsum, hp, hg, ← EReal.coe_sub, ← EReal.coe_mul]⟩

end Row

end Cert.SwaIdeal.Value

end
-- ==== Proof.SwaPlain.lean ====
module

public import proofs.«01_k».proof.Proof.SwaAcc
public import proofs.«01_k».proof.Proof.SwaSoft
public import proofs.«01_k».proof.Proof.Gen.SwaRefIdeal.Read

@[expose] public section

set_option maxRecDepth 16384

noncomputable section

namespace Cert.SwaRefIdeal.Value

open Cert.SwaRefIdeal Cert.SwaRefIdeal.Gen Idealize.ShloMosaic
open Cert.SwaRefIdeal.Read
open Cert.SwaIdeal.Value (qrow krow qcol ocol kcol vcol Seen SC WG PW DW TW DQ DK DV TS hd blkOf rowOf headOf laneOf member place curSlot prevSlot cat cat_slot cat_last rP rD rT sc and_iff or_iff dist_int small_int cmpi_iff bits_bot)

variable (A : Vec Ideal S8192x1408 .f32) (B : Vec Ideal S16x128x256 .f32) (S : Vec Ideal S1x16 .f32) (O : Vec Ideal S8192x1024 .f32)

theorem bits_zero : Ideal.ofBits .f32 0x00000000#32 = 0 := by simp [Ideal.ofBits, Ideal.ieee]
theorem bits_one : Ideal.ofBits .f32 0x3F800000#32 = 1 := Ideal.ofBits_one_f32
theorem zero_int : (FloatOps.sitofp (F := Ideal) FTy.f32 0#32 : EReal) = 0 := by
  show (((0#32 : BitVec 32).toInt : ℝ) : EReal) = 0
  simp

theorem krow_prev (n : Fin 64) (j : Fin 256) (h : j.val < 128) : (krow n j).val = (n.val - 1) * 128 + j.val := if_pos h
theorem krow_cur (n : Fin 64) (j : Fin 256) (h : ¬ j.val < 128) : (krow n j).val = n.val * 128 + (j.val - 128) := if_neg h

/-- The rows of a band; before the first block there is nothing. -/
theorem at_v6 (n : Fin 64) (j : Fin 256) (g : Fin 2) (d : Fin 64) (e : Fin 8) :
    val_main_v6 (F := Ideal) A (ix4 n j g d) = if 0 < n.val ∨ 128 ≤ j.val then A (ix2 (krow n j) (kcol (hd g e) d)) else 0 := by
  pointwise [val_main_v6, val_main_v5, val_main_v4, val_main_v3, val_main_v1, val_main_call0_v0, val_main_c]
  have hcol : (kcol (hd g e) d).val = 1024 + (g.val * 64 + d.val) := by
    have e1 : (kcol (hd g e) d).val = 1024 + (64 * ((8 * g.val + e.val) / 8) + d.val) := rfl
    omega
  by_cases hj : j.val < 128
  · refine (dif_pos hj).trans ?_
    by_cases hn : 0 < n.val
    · refine (dif_pos ⟨⟨by omega, by omega⟩, hj⟩).trans (Eq.trans ?_ (if_pos (Or.inl hn)).symm)
      exact congrArg A (congrArg₂ ix2 (Fin.ext (krow_prev n j hj).symm) (Fin.ext hcol.symm))
    · refine (dif_neg (by omega)).trans (Eq.trans ?_ (if_neg (by omega)).symm)
      exact zero_int
  · refine (dif_neg hj).trans (Eq.trans ?_ (if_pos (Or.inr (by omega))).symm)
    exact congrArg A (congrArg₂ ix2 (Fin.ext (krow_cur n j hj).symm) (Fin.ext hcol.symm))

theorem at_v10 (n : Fin 64) (j : Fin 256) (g : Fin 2) (d : Fin 64) (e : Fin 8) :
    val_main_v10 (F := Ideal) A (ix4 n j g d) = if 0 < n.val ∨ 128 ≤ j.val then A (ix2 (krow n j) (vcol (hd g e) d)) else 0 := by
  pointwise [val_main_v10, val_main_v9, val_main_v8, val_main_v7, val_main_v2, val_main_call1_v0, val_main_c_0]
  have hcol : (vcol (hd g e) d).val = 1152 + (g.val * 64 + d.val) := by
    have e1 : (vcol (hd g e) d).val = 1152 + (64 * ((8 * g.val + e.val) / 8) + d.val) := rfl
    omega
  by_cases hj : j.val < 128
  · refine (dif_pos hj).trans ?_
    by_cases hn : 0 < n.val
    · refine (dif_pos ⟨⟨by omega, by omega⟩, hj⟩).trans (Eq.trans ?_ (if_pos (Or.inl hn)).symm)
      exact congrArg A (congrArg₂ ix2 (Fin.ext (krow_prev n j hj).symm) (Fin.ext hcol.symm))
    · refine (dif_neg (by omega)).trans (Eq.trans ?_ (if_neg (by omega)).symm)
      exact zero_int
  · refine (dif_neg hj).trans (Eq.trans ?_ (if_pos (Or.inr (by omega))).symm)
    exact congrArg A (congrArg₂ ix2 (Fin.ext (krow_cur n j hj).symm) (Fin.ext hcol.symm))

theorem at_v11 (n : Fin 64) (r : Fin 128) (g : Fin 2) (e : Fin 8) (d : Fin 64) :
    val_main_v11 (F := Ideal) A (ix5 n r g e d) = A (ix2 (qrow n r) (qcol (hd g e) d)) := by
  pointwise [val_main_v11, val_main_v0]
  exact congrArg A (congrArg (ix2 _) (Fin.ext (by show g.val * 512 + e.val * 64 + d.val = 64 * (8 * g.val + e.val) + d.val; omega)))

theorem at_v86 (n : Fin 64) (r : Fin 128) (g : Fin 2) (e : Fin 8) (d : Fin 64) :
    val_main_v86 (F := Ideal) O (ix5 n g d e r) = O (ix2 (qrow n r) (ocol (hd g e) d)) := by
  pointwise [val_main_v86, val_main_v85]
  exact congrArg O (congrArg (ix2 _) (Fin.ext (by show g.val * 512 + e.val * 64 + d.val = 64 * (8 * g.val + e.val) + d.val; omega)))

theorem at_v43 (n : Fin 64) (r : Fin 128) (j : Fin 256) : val_main_v43 (F := Ideal) (ix3 n r j) = 1#1 ↔ Seen n r j := by
  pointwise [val_main_v43, val_main_v42, val_main_v41, val_main_v40, val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20, val_main_v19, val_main_v18, val_main_v17, val_main_v16, val_main_c_1, val_main_c_2, val_main_c_3, val_main_c_4, val_main_c_5]
  simp only [IntOp.andi, IntOp.ori, and_iff, or_iff, IntOp.cmpi, IntOp.subi, IntOp.addi]
  have h1 := dist_int r j
  have h2 := small_int j.val (by omega)
  have z0 : (0#32).toInt = 0 := by decide
  have z1 : (128#32).toInt = 128 := by decide
  have h3 := small_int n.val (by omega)
  simp only [cmpi_iff _ _ Iff.rfl, BitVec.sle_iff_toInt_le, BitVec.slt_iff_toInt_lt, h1, h2, h3, z0, z1]
  rw [Seen]
  omega

theorem at_v13 (n : Fin 64) (g : Fin 2) (e : Fin 8) (r : Fin 128) (j : Fin 256) : val_main_v13 (F := Ideal) A (ix5 n g e r j)
    = ∑ d : Fin 64, val_main_v6 (F := Ideal) A (ix4 n j g d) * val_main_v11 (F := Ideal) A (ix5 n r g e d) := by
  pointwise [val_main_v13, val_main_v12]

theorem at_v87 (n : Fin 64) (g : Fin 2) (e : Fin 8) (r : Fin 128) (j : Fin 256) : val_main_v87 (F := Ideal) A O (ix5 n g e r j)
    = ∑ d : Fin 64, val_main_v86 (F := Ideal) O (ix5 n g d e r) * val_main_v10 (F := Ideal) A (ix4 n j g d) := by
  pointwise [val_main_v87]

theorem at_v52 (n : Fin 64) (g : Fin 2) (e : Fin 8) (r : Fin 128) (k : Fin 257) : val_main_v52 (F := Ideal) A B S (ix5 n g e r k)
    = cat (fun j => val_main_v49_0 (F := Ideal) A B (ix5 n g e r j)) (S (ix2 0 (hd g e))) k := by
  pointwise [val_main_v52, val_main_v51, val_main_v50]
  rw [cat]
  exact dite_congr rfl (fun _ => rfl) (fun _ => congrArg S (congrArg (ix2 0) (Fin.ext (by show g.val * 8 + e.val = 8 * g.val + e.val; omega))))

theorem at_v90 (n : Fin 64) (g : Fin 2) (e : Fin 8) (r : Fin 128) (k : Fin 257) : val_main_v90 (F := Ideal) A O (ix5 n g e r k)
    = cat (fun j => val_main_v87 (F := Ideal) A O (ix5 n g e r j)) 0 k := by
  pointwise [val_main_v90, val_main_cst_17]
  rfl

theorem at_v48 (n : Fin 64) (g : Fin 2) (e : Fin 8) (r : Fin 128) (j : Fin 256) : val_main_v48 (F := Ideal) A B (ix5 n g e r j)
    = val_main_v13 (F := Ideal) A (ix5 n g e r j) * sc + B (ix3 (hd g e) r j) := by
  pointwise [val_main_v48, val_main_v15, val_main_v14, val_main_cst, val_main_v47, val_main_v46, val_main_v44]
  refine congrArg₂ (· + ·) rfl (congrArg B ?_)
  exact congrArg (fun h => ix3 h r j) (Fin.ext (by show g.val * 8 + e.val = 8 * g.val + e.val; omega))

theorem at_v49_1 (n : Fin 64) (g : Fin 2) (e : Fin 8) (r : Fin 128) (j : Fin 256) :
    val_main_v49_1 (F := Ideal) (ix5 n g e r j) = val_main_v43 (F := Ideal) (ix3 n r j) := by
  pointwise [val_main_v49_1, val_main_v45]

/-- The reference's scores, masked. -/
theorem at_v49 (n : Fin 64) (g : Fin 2) (e : Fin 8) (r : Fin 128) (j : Fin 256) :
    val_main_v49_0 (F := Ideal) A B (ix5 n g e r j) = SC A B n (hd g e) r j := by
  pointwise [val_main_v49_0, val_main_v49_2, val_main_cst_6]
  rw [at_v49_1, SC, Scalar.select]
  by_cases h : Seen n r j
  · refine (if_pos ((at_v43 n r j).mpr h)).trans ?_
    rw [if_pos h, at_v48, at_v13]
    refine congrArg (· * sc + _) (Finset.sum_congr rfl fun d _ => ?_)
    rw [at_v6 A n j g d e, at_v11, if_pos h.2.2, mul_comm]
  · refine (if_neg (fun h' => h ((at_v43 n r j).mp h'))).trans ?_
    rw [if_neg h]
    exact bits_bot

/-- What the reference holds for the gradients of the weights. -/
def WR (n : Fin 64) (g : Fin 2) (e : Fin 8) (r : Fin 128) (j : Fin 256) : EReal := val_main_v87 (F := Ideal) A O (ix5 n g e r j)

theorem WR_seen (n : Fin 64) (g : Fin 2) (e : Fin 8) (r : Fin 128) (j : Fin 256) (h : Seen n r j) : WR A O n g e r j = WG A O n (hd g e) r j := by
  rw [WR, at_v87, WG]
  refine Finset.sum_congr rfl fun d _ => ?_
  rw [at_v86, at_v10 A n j g d e, if_pos h.2.2]

/-- A row of the reference's scores, with the sink behind it, and of its gradients. -/
abbrev YR (n : Fin 64) (g : Fin 2) (e : Fin 8) (r : Fin 128) : Fin 257 → EReal := cat (SC A B n (hd g e) r) (S (ix2 0 (hd g e)))
abbrev GR (n : Fin 64) (g : Fin 2) (e : Fin 8) (r : Fin 128) : Fin 257 → EReal := cat (WR A O n g e r) 0

theorem row_v52 (n : Fin 64) (g : Fin 2) (e : Fin 8) (r : Fin 128) (k : Fin 257) :
    val_main_v52 (F := Ideal) A B S (ix5 n g e r k) = YR A B S n g e r k := by
  rw [at_v52]
  simp only [at_v49]

theorem row_v90 (n : Fin 64) (g : Fin 2) (e : Fin 8) (r : Fin 128) (k : Fin 257) :
    val_main_v90 (F := Ideal) A O (ix5 n g e r k) = GR A O n g e r k := at_v90 A O n g e r k

theorem at_v53 (n : Fin 64) (g : Fin 2) (e : Fin 8) (r : Fin 128) : val_main_v53 (F := Ideal) A B S (ix4 n g e r) = Soft.top (YR A B S n g e r) := by
  pointwise [val_main_v53, val_main_cst_7]
  simp only [row_v52, bits_bot]
  rfl

theorem at_v73 (n : Fin 64) (g : Fin 2) (e : Fin 8) (r : Fin 128) (k : Fin 257) :
    val_main_v73 (F := Ideal) A B S (ix5 n g e r k) = Soft.ex (YR A B S n g e r) k := by
  have e1 : val_main_v71 (F := Ideal) A B S (ix5 n g e r k) = val_main_v60 (F := Ideal) A B S (ix4 n g e r) := by
    pointwise [val_main_v71, val_main_v70]
  rw [val_main_v73_apply, val_main_v72_apply, e1, val_main_v60_apply, val_main_v59_apply, val_main_cst_9_apply, at_v53, row_v52]
  show Ideal.exp (YR A B S n g e r k - max (Ideal.ofBits .f32 0xFF800000#32) (Soft.top (YR A B S n g e r))) = _
  rw [bits_bot, max_eq_right bot_le]
  rfl

theorem at_v74 (n : Fin 64) (g : Fin 2) (e : Fin 8) (r : Fin 128) : val_main_v74 (F := Ideal) A B S (ix4 n g e r) = Soft.tot (YR A B S n g e r) := by
  pointwise [val_main_v74, val_main_cst_15]
  simp only [at_v73]
  rfl

theorem at_v75 (n : Fin 64) (g : Fin 2) (e : Fin 8) (r : Fin 128) : val_main_v75 (F := Ideal) A B S (ix5 n g e r 0) = Soft.tot (YR A B S n g e r) := by
  rw [← at_v74]
  pointwise [val_main_v75]

theorem at_v77 (n : Fin 64) (g : Fin 2) (e : Fin 8) (r : Fin 128) (k : Fin 257) :
    val_main_v77 (F := Ideal) A B S (ix5 n g e r k) = Soft.pr (YR A B S n g e r) k := by
  have e1 : val_main_v76 (F := Ideal) A B S (ix5 n g e r k) = val_main_v75 (F := Ideal) A B S (ix5 n g e r 0) := by
    pointwise [val_main_v76]
  rw [val_main_v77_apply, e1, at_v75, at_v73]
  rfl

theorem at_v91 (n : Fin 64) (g : Fin 2) (e : Fin 8) (r : Fin 128) (k : Fin 257) : val_main_v91 (F := Ideal) A B S (ix5 n g e r k)
    = Ideal.div 1 (Soft.tot (YR A B S n g e r) * Soft.tot (YR A B S n g e r)) := by
  have e1 : val_main_v91 (F := Ideal) A B S (ix5 n g e r k) = val_main_v80 (F := Ideal) A B S (ix5 n g e r 0) := by
    pointwise [val_main_v91]
  rw [e1, val_main_v80_apply, val_main_v79_apply, val_main_cst_16_apply, val_main_v78_apply, at_v75]
  show Ideal.div (Ideal.ofBits .f32 0x3F800000#32) _ = _
  rw [bits_one]
  rfl

theorem at_v94 (n : Fin 64) (g : Fin 2) (e : Fin 8) (r : Fin 128) : val_main_v94 (F := Ideal) A B S O (ix4 n g e r)
    = 0 + ∑ k, GR A O n g e r k * Ideal.div 1 (Soft.tot (YR A B S n g e r) * Soft.tot (YR A B S n g e r)) * Soft.ex (YR A B S n g e r) k := by
  have e1 : ∀ k : Fin 257, val_main_v93 (F := Ideal) A B S O (ix5 n g e r k)
      = GR A O n g e r k * Ideal.div 1 (Soft.tot (YR A B S n g e r) * Soft.tot (YR A B S n g e r)) * Soft.ex (YR A B S n g e r) k := fun k => by
    rw [val_main_v93_apply, val_main_v92_apply, row_v90, at_v91, at_v73]
    rfl
  pointwise [val_main_v94, val_main_cst_18]
  simp only [e1, zero_add]

theorem at_v102 (n : Fin 64) (g : Fin 2) (e : Fin 8) (r : Fin 128) (k : Fin 257) :
    val_main_v102 (F := Ideal) A B S O (ix5 n g e r k) = Soft.dsRef (YR A B S n g e r) (GR A O n g e r) k := by
  have e1 : val_main_v97 (F := Ideal) A B S (ix5 n g e r k) = val_main_v75 (F := Ideal) A B S (ix5 n g e r 0) := by
    pointwise [val_main_v97]
  have e2 : val_main_v100 (F := Ideal) A B S O (ix5 n g e r k) = val_main_v96 (F := Ideal) A B S O (ix5 n g e r 0) := by
    pointwise [val_main_v100, val_main_v99, val_main_cst_19]
    rw [Fin.sum_univ_one]
  have e3 : val_main_v95 (F := Ideal) A B S O (ix5 n g e r 0) = val_main_v94 (F := Ideal) A B S O (ix4 n g e r) := by
    pointwise [val_main_v95]
  rw [val_main_v102_apply, val_main_v101_apply, val_main_v98_apply, e1, e2, val_main_v96_apply, e3, at_v94, at_v75, row_v90, at_v73]
  rw [Soft.dsRef, zero_add (-_)]
  rfl

theorem at_v81 (n : Fin 64) (g : Fin 2) (e : Fin 8) (r : Fin 128) (j : Fin 256) :
    val_main_v81 (F := Ideal) A B S (ix5 n g e r j) = Soft.pr (YR A B S n g e r) j.castSucc := by
  rw [← at_v77]
  pointwise [val_main_v81]
  rfl

/-- Every entry of an argument is a real number. -/
def Real' {s : Shape} (x : Vec Ideal s .f32) : Prop := ∀ i, Soft.Fin' (x i)

/-- Every entry of the columns the queries, keys and values lie in is a real number. -/
def RealCols (x : Vec Ideal S8192x1408 .f32) : Prop := ∀ (R : Fin 8192) (k : Fin 1408), k.val < 1280 → Soft.Fin' (x (ix2 R k))

theorem q_lt (h : Fin 16) (d : Fin 64) : (qcol h d).val < 1280 := by show 64 * h.val + d.val < 1280; omega
theorem k_lt (h : Fin 16) (d : Fin 64) : (kcol h d).val < 1280 := by show 1024 + (64 * (h.val / 8) + d.val) < 1280; omega
theorem v_lt (h : Fin 16) (d : Fin 64) : (vcol h d).val < 1280 := by show 1152 + (64 * (h.val / 8) + d.val) < 1280; omega

variable (hA : RealCols A) (hB : Real' B) (hS : Real' S) (hO : Real' O)

include hA hB in
theorem row_SC (n : Fin 64) (h : Fin 16) (r : Fin 128) (j : Fin 256) : SC A B n h r j = ⊥ ∨ Soft.Fin' (SC A B n h r j) := by
  rw [SC]
  split
  · exact Or.inr (((Soft.Fin'.sum fun d => (hA _ _ (q_lt h d)).mul (hA _ _ (k_lt h d))).mul ⟨_, rfl⟩).add (hB _))
  · exact Or.inl rfl

include hA hO in
theorem real_WG (n : Fin 64) (h : Fin 16) (r : Fin 128) (j : Fin 256) : Soft.Fin' (WG A O n h r j) :=
  Soft.Fin'.sum fun d => (hO _).mul (hA _ _ (v_lt h d))

include hA hO in
theorem real_WR (n : Fin 64) (g : Fin 2) (e : Fin 8) (r : Fin 128) (j : Fin 256) : Soft.Fin' (WR A O n g e r j) := by
  rw [WR, at_v87]
  refine Soft.Fin'.sum fun d => ?_
  rw [at_v86, at_v10 A n j g d e]
  refine (hO _).mul ?_
  split
  · exact hA _ _ (v_lt _ d)
  · exact ⟨0, rfl⟩

theorem WR_eq (n : Fin 64) (g : Fin 2) (e : Fin 8) (r : Fin 128) (j : Fin 256) (h : SC A B n (hd g e) r j ≠ ⊥) : WR A O n g e r j = WG A O n (hd g e) r j := by
  refine WR_seen A O n g e r j (by_contra fun h' => h ?_)
  rw [SC, if_neg h']

include hA hB hS in
theorem at_p (n : Fin 64) (g : Fin 2) (e : Fin 8) (r : Fin 128) (j : Fin 256) : val_main_v81 (F := Ideal) A B S (ix5 n g e r j) = PW A B S n (hd g e) r j := by
  rw [at_v81]
  exact Cert.SwaIdeal.Value.pr_slot (row_SC A B hA hB n (hd g e) r) (hS _) j

include hA hB hS hO

theorem grads (n : Fin 64) (g : Fin 2) (e : Fin 8) (r : Fin 128) :
    (∀ j : Fin 256, Soft.dsRef (YR A B S n g e r) (GR A O n g e r) j.castSucc = DW A B S O n (hd g e) r j)
      ∧ Soft.dsRef (YR A B S n g e r) (GR A O n g e r) (Fin.last 256) = -(TW A B S O n (hd g e) r)
      ∧ Soft.Fin' (TW A B S O n (hd g e) r) ∧ ∀ j, Soft.Fin' (DW A B S O n (hd g e) r j) :=
  Cert.SwaIdeal.Value.row_grad (row_SC A B hA hB n (hd g e) r) (hS (ix2 0 (hd g e))) (real_WG A O hA hO n (hd g e) r) (real_WR A O hA hO n g e r) (WR_eq A B O n g e r)

/-- The gradients of the scores. -/
theorem at_v108 (n : Fin 64) (g : Fin 2) (e : Fin 8) (r : Fin 128) (j : Fin 256) : val_main_v108 (F := Ideal) A B S O (ix5 n g e r j) = DW A B S O n (hd g e) r j := by
  have e1 : val_main_v103 (F := Ideal) A B S O (ix5 n g e r j) = val_main_v102 (F := Ideal) A B S O (ix5 n g e r j.castSucc) := by
    pointwise [val_main_v103]
    rfl
  have e2 : val_main_call3_v0 (F := Ideal) (ix5 n g e r j) = 0 := by
    pointwise [val_main_call3_v0, val_main_cst_17]
    try exact bits_zero
  pointwise [val_main_v108]
  rw [e1, e2, at_v102, at_v49_1, Scalar.select]
  by_cases h : Seen n r j
  · exact (if_pos ((at_v43 n r j).mpr h)).trans ((grads A B S O hA hB hS hO n g e r).1 j)
  · refine (if_neg (fun h' => h ((at_v43 n r j).mp h'))).trans ?_
    rw [DW, Cert.SwaIdeal.Value.rD_masked (row_SC A B hA hB n (hd g e) r) (hS _) j (by rw [SC, if_neg h])]

theorem at_v104 (n : Fin 64) (g : Fin 2) (e : Fin 8) (r : Fin 128) : val_main_v104 (F := Ideal) A B S O (ix5 n g e r 0) = -TW A B S O n (hd g e) r := by
  have e1 : val_main_v104 (F := Ideal) A B S O (ix5 n g e r 0) = val_main_v102 (F := Ideal) A B S O (ix5 n g e r (Fin.last 256)) := by
    pointwise [val_main_v104]
    rfl
  rw [e1, at_v102]
  exact (grads A B S O hA hB hS hO n g e r).2.1

theorem at_v115 (n : Fin 64) (g : Fin 2) (e : Fin 8) (r : Fin 128) (j : Fin 256) : val_main_v115 (F := Ideal) A B S O (ix5 n g j r e) = DW A B S O n (hd g e) r j * sc := by
  rw [← at_v108 A B S O hA hB hS hO]
  pointwise [val_main_v115, val_main_v114, val_main_v113, val_main_cst_23]

omit hO in
theorem at_v88 (n : Fin 64) (g : Fin 2) (d : Fin 64) (j : Fin 256) : val_main_v88 (F := Ideal) A B S O (ix4 n g d j)
    = ∑ e : Fin 8, ∑ r : Fin 128, PW A B S n (hd g e) r j * O (ix2 (qrow n r) (ocol (hd g e) d)) := by
  pointwise [val_main_v88]
  refine Finset.sum_congr rfl fun e _ => Finset.sum_congr rfl fun r _ => ?_
  rw [at_v86, at_p A B S hA hB hS, mul_comm]

theorem at_v118 (n : Fin 64) (g : Fin 2) (d : Fin 64) (j : Fin 256) : val_main_v118 (F := Ideal) A B S O (ix4 n g j d)
    = ∑ e : Fin 8, ∑ r : Fin 128, DW A B S O n (hd g e) r j * sc * A (ix2 (qrow n r) (qcol (hd g e) d)) := by
  pointwise [val_main_v118]
  rw [Finset.sum_comm]
  refine Finset.sum_congr rfl fun e _ => Finset.sum_congr rfl fun r _ => ?_
  rw [at_v115 A B S O hA hB hS hO, at_v11]

theorem at_v116 (n : Fin 64) (g : Fin 2) (e : Fin 8) (r : Fin 128) (d : Fin 64) : val_main_v116 (F := Ideal) A B S O (ix5 n g r e d)
    = ∑ j : Fin 256, DW A B S O n (hd g e) r j * sc * A (ix2 (krow n j) (kcol (hd g e) d)) := by
  pointwise [val_main_v116]
  refine Finset.sum_congr rfl fun j _ => ?_
  rw [at_v115 A B S O hA hB hS hO, at_v6 A n j g d e]
  split
  · rfl
  · rename_i h
    rw [DW, Cert.SwaIdeal.Value.rD_masked (row_SC A B hA hB n (hd g e) r) (hS _) j (by rw [SC, if_neg (fun h' => h h'.2.2)]), zero_mul, zero_mul, zero_mul]

theorem at_v120 (R : Fin 8192) (x : Fin 1024) : val_main_v120 (F := Ideal) A B S O (ix2 R x) = DQ A B S O R x := by
  pointwise [val_main_v120, val_main_v117]
  have e : hd ⟨x.val / 512, by omega⟩ ⟨x.val / 64 % 8, by omega⟩ = headOf x := Fin.ext (by show 8 * (x.val / 512) + x.val / 64 % 8 = x.val / 64; omega)
  refine (at_v116 A B S O hA hB hS hO _ _ _ _ _).trans ?_
  rw [e]
  rfl

theorem at_v122 (R : Fin 8192) (x : Fin 128) : val_main_v122 (F := Ideal) A B S O (ix2 R x) = DK A B S O (blkOf R) (curSlot R) x := by
  pointwise [val_main_v122, val_main_v121, val_main_v119]
  exact at_v118 A B S O hA hB hS hO _ _ _ _

theorem at_v124 (R : Fin 8192) (x : Fin 128) : val_main_v124 (F := Ideal) A B S O (ix2 R x) = DK A B S O (blkOf R) (prevSlot R) x := by
  pointwise [val_main_v124, val_main_v123, val_main_v119]
  exact at_v118 A B S O hA hB hS hO _ _ _ _

omit hO in
theorem at_v126 (R : Fin 8192) (x : Fin 128) : val_main_v126 (F := Ideal) A B S O (ix2 R x) = DV A B S O (blkOf R) (curSlot R) x := by
  pointwise [val_main_v126, val_main_v125, val_main_v89]
  exact at_v88 A B S O hA hB hS _ _ _ _

omit hO in
theorem at_v128 (R : Fin 8192) (x : Fin 128) : val_main_v128 (F := Ideal) A B S O (ix2 R x) = DV A B S O (blkOf R) (prevSlot R) x := by
  pointwise [val_main_v128, val_main_v127, val_main_v89]
  exact at_v88 A B S O hA hB hS _ _ _ _

theorem at_v112 (h : Fin 16) (r : Fin 128) (j : Fin 256) : val_main_v112 (F := Ideal) A B S O (ix3 h r j) = ∑ n : Fin 64, DW A B S O n h r j := by
  pointwise [val_main_v112, val_main_v111, val_main_v110, val_main_v109, val_main_cst_21, val_main_cst_22]
  have e : hd ⟨h.val / 8, by omega⟩ ⟨h.val % 8, by omega⟩ = h := Fin.ext (by show 8 * (h.val / 8) + h.val % 8 = h.val; omega)
  rw [Fin.sum_univ_one]
  refine Finset.sum_congr rfl fun n _ => (at_v108 A B S O hA hB hS hO _ _ _ _ _).trans ?_
  rw [e]

omit hA hB hS hO

/-- The sum over the blocks and the rows. -/
theorem sum_block (x : Vec Ideal S64x2x8x128x1 .f32) (g : Fin 2) (e : Fin 8) :
    Ideal.hostReduceAdd reducesTo_S64x2x8x128x1_S2x8_d0_3_4 x 0 (ix2 g e) = ∑ n : Fin 64, ∑ r : Fin 128, x (ix5 n g e r 0) := by
  rw [Ideal.hostReduceAdd, zero_add, ← Finset.sum_product']
  refine Finset.sum_bij' (fun i _ => (i 0, i 3)) (fun p _ => ix5 p.1 g e p.2 0) (fun i _ => Finset.mem_univ _) (fun p _ => ?_) (fun i hi => ?_) (fun p _ => rfl) (fun i hi => ?_)
  · rw [Finset.mem_filter]
    refine ⟨Finset.mem_univ _, ?_⟩
    funext b
    match b with
    | ⟨0, _⟩ => rfl
    | ⟨1, _⟩ => rfl
  · have h := (Finset.mem_filter.mp hi).2
    funext b
    match b with
    | ⟨0, _⟩ => rfl
    | ⟨1, _⟩ => exact (congrFun h 0).symm
    | ⟨2, _⟩ => exact (congrFun h 1).symm
    | ⟨3, _⟩ => rfl
    | ⟨4, _⟩ => exact Subsingleton.elim (α := Fin 1) _ _
  · have h := (Finset.mem_filter.mp hi).2
    refine congrArg x ?_
    funext b
    match b with
    | ⟨0, _⟩ => rfl
    | ⟨1, _⟩ => exact congrFun h 0
    | ⟨2, _⟩ => exact congrFun h 1
    | ⟨3, _⟩ => rfl
    | ⟨4, _⟩ => exact Subsingleton.elim (α := Fin 1) _ _

theorem neg_sum {ι : Type} [Fintype ι] {f : ι → EReal} (h : ∀ i, Soft.Fin' (f i)) : 0 - ∑ i, f i = ∑ i, -f i := by
  choose g hg using h
  have e1 : ∑ i, f i = ((∑ i, g i : ℝ) : EReal) := by rw [Soft.coe_sum]; exact Finset.sum_congr rfl fun i _ => hg i
  have e2 : ∑ i, -f i = ((∑ i, -g i : ℝ) : EReal) := by rw [Soft.coe_sum]; exact Finset.sum_congr rfl fun i _ => by rw [hg i, EReal.coe_neg]
  rw [e1, e2, Finset.sum_neg_distrib, zero_sub, EReal.coe_neg]

theorem TS_lane (n : Fin 64) (l : Fin 128) (hl : l.val < 16) : TS A B S O n l = 0 - ∑ r : Fin 128, TW A B S O n ⟨l.val, hl⟩ r := by
  rw [TS, Finset.sum_eq_single ⟨l.val, hl⟩]
  · exact if_pos rfl
  · exact fun h _ hne => if_neg fun e => hne (Fin.ext e.symm)
  · exact fun h => absurd (Finset.mem_univ _) h

include hA hB hS hO

theorem at_v105 (g : Fin 2) (e : Fin 8) : val_main_v105 (F := Ideal) A B S O (ix2 g e) = ∑ n : Fin 64, ∑ r : Fin 128, -TW A B S O n (hd g e) r := by
  pointwise [val_main_v105, val_main_cst_20]
  refine (sum_block (val_main_v104 (F := Ideal) A B S O) g e).trans (Finset.sum_congr rfl fun n _ => Finset.sum_congr rfl fun r _ => ?_)
  exact at_v104 A B S O hA hB hS hO n g e r

theorem at_v129 (l : Fin 128) : val_main_v129 (F := Ideal) A B S O (ix2 0 l) = ∑ n : Fin 64, TS A B S O n l := by
  pointwise [val_main_v129, val_main_v107, val_main_v106, val_main_call4_v0, val_main_c_24]
  by_cases hl : l.val < 16
  · have e : hd ⟨l.val / 8, by omega⟩ ⟨l.val % 8, by omega⟩ = ⟨l.val, hl⟩ := Fin.ext (by show 8 * (l.val / 8) + l.val % 8 = l.val; omega)
    rw [dif_pos hl]
    refine (at_v105 A B S O hA hB hS hO _ _).trans (Finset.sum_congr rfl fun n _ => ?_)
    rw [e, TS_lane A B S O n l hl]
    have hr : ∀ r, Soft.Fin' (TW A B S O n ⟨l.val, hl⟩ r) := fun r => by
      rw [← e]
      exact (grads A B S O hA hB hS hO n _ _ r).2.2.1
    exact (neg_sum hr).symm
  · rw [dif_neg hl]
    refine zero_int.trans (Finset.sum_eq_zero fun n _ => ?_).symm
    exact Finset.sum_eq_zero fun h _ => if_neg (by omega)

theorem ref_120 : val_main_v120 (F := Ideal) A B S O = (fun i => DQ A B S O (i 0) (i 1) : Vec Ideal S8192x1024 .f32) :=
  funext fun i => (congrArg (val_main_v120 (F := Ideal) A B S O) (show i = ix2 (i 0) (i 1) from funext fun b => match b with | ⟨0, _⟩ => rfl | ⟨1, _⟩ => rfl)).trans
    (at_v120 A B S O hA hB hS hO (i 0) (i 1))

theorem ref_122 : val_main_v122 (F := Ideal) A B S O = (fun i => DK A B S O (blkOf (i 0)) (curSlot (i 0)) (i 1) : Vec Ideal S8192x128 .f32) :=
  funext fun i => (congrArg (val_main_v122 (F := Ideal) A B S O) (show i = ix2 (i 0) (i 1) from funext fun b => match b with | ⟨0, _⟩ => rfl | ⟨1, _⟩ => rfl)).trans
    (at_v122 A B S O hA hB hS hO (i 0) (i 1))

theorem ref_124 : val_main_v124 (F := Ideal) A B S O = (fun i => DK A B S O (blkOf (i 0)) (prevSlot (i 0)) (i 1) : Vec Ideal S8192x128 .f32) :=
  funext fun i => (congrArg (val_main_v124 (F := Ideal) A B S O) (show i = ix2 (i 0) (i 1) from funext fun b => match b with | ⟨0, _⟩ => rfl | ⟨1, _⟩ => rfl)).trans
    (at_v124 A B S O hA hB hS hO (i 0) (i 1))

theorem ref_126 : val_main_v126 (F := Ideal) A B S O = (fun i => DV A B S O (blkOf (i 0)) (curSlot (i 0)) (i 1) : Vec Ideal S8192x128 .f32) :=
  funext fun i => (congrArg (val_main_v126 (F := Ideal) A B S O) (show i = ix2 (i 0) (i 1) from funext fun b => match b with | ⟨0, _⟩ => rfl | ⟨1, _⟩ => rfl)).trans
    (at_v126 A B S O hA hB hS (i 0) (i 1))

theorem ref_128 : val_main_v128 (F := Ideal) A B S O = (fun i => DV A B S O (blkOf (i 0)) (prevSlot (i 0)) (i 1) : Vec Ideal S8192x128 .f32) :=
  funext fun i => (congrArg (val_main_v128 (F := Ideal) A B S O) (show i = ix2 (i 0) (i 1) from funext fun b => match b with | ⟨0, _⟩ => rfl | ⟨1, _⟩ => rfl)).trans
    (at_v128 A B S O hA hB hS (i 0) (i 1))

theorem ref_112 : val_main_v112 (F := Ideal) A B S O = (fun i => ∑ n : Fin 64, DW A B S O n (i 0) (i 1) (i 2) : Vec Ideal S16x128x256 .f32) :=
  funext fun i => (congrArg (val_main_v112 (F := Ideal) A B S O) (show i = ix3 (i 0) (i 1) (i 2) from funext fun b => match b with | ⟨0, _⟩ => rfl | ⟨1, _⟩ => rfl | ⟨2, _⟩ => rfl)).trans
    (at_v112 A B S O hA hB hS hO (i 0) (i 1) (i 2))

theorem ref_129 : val_main_v129 (F := Ideal) A B S O = (fun i => ∑ n : Fin 64, TS A B S O n (i 1) : Vec Ideal S1x128 .f32) :=
  funext fun i => (congrArg (val_main_v129 (F := Ideal) A B S O) (show i = ix2 0 (i 1) from funext fun b => match b with | ⟨0, _⟩ => Subsingleton.elim (α := Fin 1) _ _ | ⟨1, _⟩ => rfl)).trans
    (at_v129 A B S O hA hB hS hO (i 1))

end Cert.SwaRefIdeal.Value

end
-- ==== Proof.SwaReal.lean ====
/- Arguments whose absolute values lie below infinity are arrays of reals. -/
module

public import proofs.«01_k».proof.Pre_swa_real
public import proofs.«01_k».proof.Proof.MemReal
public import proofs.«01_k».proof.Proof.SwaPlain

@[expose] public section

noncomputable section

namespace Cert.SwaRefIdeal.Value

open Idealize.ShloMosaic
open Cert.PlainIdeal.Value (fin_of_cmp)

/-- The shape conditions of the precondition. -/
instance preFacts : Cert.Pre_swa_real.Facts := ⟨by decide, by decide, by decide, by decide, by decide⟩

/-- The precondition says every entry it reads of the four arguments is a real. -/
theorem real_of_pre (A B S O) (h : (Cert.Pre_swa_real.fn (F := Ideal) A B S O).1 = (fun _ => 1#1)
    ∧ (Cert.Pre_swa_real.fn (F := Ideal) A B S O).2.1 = (fun _ => 1#1) ∧ (Cert.Pre_swa_real.fn (F := Ideal) A B S O).2.2.1 = (fun _ => 1#1)
    ∧ (Cert.Pre_swa_real.fn (F := Ideal) A B S O).2.2.2 = (fun _ => 1#1)) :
    RealCols A ∧ Real' B ∧ Real' S ∧ Real' O := by
  obtain ⟨h0, h1, h2, h3⟩ := h
  refine ⟨fun R k hk => ?_, fun i => ?_, fun i => ?_, fun i => ?_⟩
  · have e : extractStridedSlice Cert.Pre_swa_real.S8192x1280 ![0, 0] A Cert.Pre_swa_real.Facts.slices_S8192x1408_S8192x1280_0_0 (ix2 R ⟨k.val, hk⟩) = A (ix2 R k) := by
      pointwise []
    rw [← e]
    exact fin_of_cmp _ (congrFun h0 (ix2 R ⟨k.val, hk⟩))
  · exact fin_of_cmp _ (congrFun h1 i)
  · exact fin_of_cmp _ (congrFun h2 i)
  · exact fin_of_cmp _ (congrFun h3 i)

end Cert.SwaRefIdeal.Value

end
-- ==== Proof.SwaPair.lean ====
/- The kernel of the sliding-window gradient and its reference, side by side. -/
module

public import proofs.«01_k».proof.Defs
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.SwaAcc
public import proofs.«01_k».proof.Proof.SwaReal
public import Idealize.ShloMosaic.Adequacy
public import Idealize.ShloMosaic.Init

@[expose] public section

noncomputable section

namespace Cert.Proof

open Idealize.ShloMosaic Idealize.SL.Sem

/-- A function of four arguments at equal arguments. -/
theorem congr_four {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-- The reference of the sliding-window gradient runs, leaves its arguments as they were, and ends with every counter at zero. -/
theorem frame_SwaRef : Cert.quiescent_SwaRefIdeal := fun m ρ _ =>
  (θ_run Cert.SwaRefIdeal.defs _ _).mono (fun r h => ⟨fun c => (h c).2.2.2.2.2.2.2,
      Idealize.ShloMosaic.sem_eq_zero_of_no_sems (by decide) r.2⟩)
    (Cert.SwaRefIdeal.Value.run (F := Ideal) m ρ)

section

variable (m : (ℓ : Loc Cert.SwaIdeal.nD Cert.SwaIdeal.τ Cert.SwaIdeal.sig) → Buf (Elt Ideal) ℓ)
  (m' : (ℓ : Loc Cert.SwaRefIdeal.nD Cert.SwaRefIdeal.τ Cert.SwaRefIdeal.sig) → Buf (Elt Ideal) ℓ) (c : Dev Cert.SwaIdeal.nD)

open Cert.SwaIdeal.Value (argA argB argS argO) in
/-- The two programs' arguments are the same arrays, with reals where they are read. -/
def Agree : Prop :=
  (m' ((c.tc : Thread Cert.SwaRefIdeal.nD Cert.SwaRefIdeal.τ).loc Cert.SwaRefIdeal.main_arg0) = argA m c
    ∧ m' ((c.tc : Thread Cert.SwaRefIdeal.nD Cert.SwaRefIdeal.τ).loc Cert.SwaRefIdeal.main_arg1) = argB m c
    ∧ m' ((c.tc : Thread Cert.SwaRefIdeal.nD Cert.SwaRefIdeal.τ).loc Cert.SwaRefIdeal.main_arg2) = argS m c
    ∧ m' ((c.tc : Thread Cert.SwaRefIdeal.nD Cert.SwaRefIdeal.τ).loc Cert.SwaRefIdeal.main_arg3) = argO m c)
  ∧ Cert.SwaRefIdeal.Value.RealCols (argA m c) ∧ Cert.SwaRefIdeal.Value.Real' (argB m c)
  ∧ Cert.SwaRefIdeal.Value.Real' (argS m c) ∧ Cert.SwaRefIdeal.Value.Real' (argO m c)

variable (h : Agree m m' c)
include h

theorem same_q : Cert.SwaRefIdeal.Value.res_main_v120 m' c = (Cert.SwaIdeal.Gen.dats m 0 c).arrAt 8 (Cert.SwaIdeal.cfgs 0).N := by
  refine (Cert.SwaRefIdeal.Read.val_main_v120_eq m' c).trans ?_
  refine (congr_four (Cert.SwaRefIdeal.Read.val_main_v120 (F := Ideal)) h.1.1 h.1.2.1 h.1.2.2.1 h.1.2.2.2).trans ?_
  exact (Cert.SwaRefIdeal.Value.ref_120 _ _ _ _ h.2.1 h.2.2.1 h.2.2.2.1 h.2.2.2.2).trans (Cert.SwaIdeal.Value.final_q m c).symm

theorem same_kc : Cert.SwaRefIdeal.Value.res_main_v122 m' c = (Cert.SwaIdeal.Gen.dats m 0 c).arrAt 9 (Cert.SwaIdeal.cfgs 0).N := by
  refine (Cert.SwaRefIdeal.Read.val_main_v122_eq m' c).trans ?_
  refine (congr_four (Cert.SwaRefIdeal.Read.val_main_v122 (F := Ideal)) h.1.1 h.1.2.1 h.1.2.2.1 h.1.2.2.2).trans ?_
  exact (Cert.SwaRefIdeal.Value.ref_122 _ _ _ _ h.2.1 h.2.2.1 h.2.2.2.1 h.2.2.2.2).trans (Cert.SwaIdeal.Value.final_kc m c).symm

theorem same_kp : Cert.SwaRefIdeal.Value.res_main_v124 m' c = (Cert.SwaIdeal.Gen.dats m 0 c).arrAt 10 (Cert.SwaIdeal.cfgs 0).N := by
  refine (Cert.SwaRefIdeal.Read.val_main_v124_eq m' c).trans ?_
  refine (congr_four (Cert.SwaRefIdeal.Read.val_main_v124 (F := Ideal)) h.1.1 h.1.2.1 h.1.2.2.1 h.1.2.2.2).trans ?_
  exact (Cert.SwaRefIdeal.Value.ref_124 _ _ _ _ h.2.1 h.2.2.1 h.2.2.2.1 h.2.2.2.2).trans (Cert.SwaIdeal.Value.final_kp m c).symm

theorem same_vc : Cert.SwaRefIdeal.Value.res_main_v126 m' c = (Cert.SwaIdeal.Gen.dats m 0 c).arrAt 11 (Cert.SwaIdeal.cfgs 0).N := by
  refine (Cert.SwaRefIdeal.Read.val_main_v126_eq m' c).trans ?_
  refine (congr_four (Cert.SwaRefIdeal.Read.val_main_v126 (F := Ideal)) h.1.1 h.1.2.1 h.1.2.2.1 h.1.2.2.2).trans ?_
  exact (Cert.SwaRefIdeal.Value.ref_126 _ _ _ _ h.2.1 h.2.2.1 h.2.2.2.1 h.2.2.2.2).trans (Cert.SwaIdeal.Value.final_vc m c).symm

theorem same_vp : Cert.SwaRefIdeal.Value.res_main_v128 m' c = (Cert.SwaIdeal.Gen.dats m 0 c).arrAt 12 (Cert.SwaIdeal.cfgs 0).N := by
  refine (Cert.SwaRefIdeal.Read.val_main_v128_eq m' c).trans ?_
  refine (congr_four (Cert.SwaRefIdeal.Read.val_main_v128 (F := Ideal)) h.1.1 h.1.2.1 h.1.2.2.1 h.1.2.2.2).trans ?_
  exact (Cert.SwaRefIdeal.Value.ref_128 _ _ _ _ h.2.1 h.2.2.1 h.2.2.2.1 h.2.2.2.2).trans (Cert.SwaIdeal.Value.final_vp m c).symm

theorem same_b : Cert.SwaRefIdeal.Value.res_main_v112 m' c = (Cert.SwaIdeal.Gen.dats m 0 c).arrAt 13 (Cert.SwaIdeal.cfgs 0).N := by
  refine (Cert.SwaRefIdeal.Read.val_main_v112_eq m' c).trans ?_
  refine (congr_four (Cert.SwaRefIdeal.Read.val_main_v112 (F := Ideal)) h.1.1 h.1.2.1 h.1.2.2.1 h.1.2.2.2).trans ?_
  exact (Cert.SwaRefIdeal.Value.ref_112 _ _ _ _ h.2.1 h.2.2.1 h.2.2.2.1 h.2.2.2.2).trans (Cert.SwaIdeal.Value.final_b m c).symm

theorem same_s : Cert.SwaRefIdeal.Value.res_main_v129 m' c = (Cert.SwaIdeal.Gen.dats m 0 c).arrAt 14 (Cert.SwaIdeal.cfgs 0).N := by
  refine (Cert.SwaRefIdeal.Read.val_main_v129_eq m' c).trans ?_
  refine (congr_four (Cert.SwaRefIdeal.Read.val_main_v129 (F := Ideal)) h.1.1 h.1.2.1 h.1.2.2.1 h.1.2.2.2).trans ?_
  exact (Cert.SwaRefIdeal.Value.ref_129 _ _ _ _ h.2.1 h.2.2.1 h.2.2.2.1 h.2.2.2.2).trans (Cert.SwaIdeal.Value.final_s m c).symm

end

set_option maxHeartbeats 4000000 in
/-- The sliding-window gradient's kernel and its reference give the same seven arrays on real arguments. -/
theorem algebraic_Swa : Cert.algebraic_SwaIdeal_SwaRefIdeal_pre_swa_real := by
  pair_intro
  · run_from Cert.SwaIdeal.Gen.run_main m g
  · refine θ_run_mono (Cert.SwaRefIdeal.Value.run (F := Ideal) m' g') ?_
    intro r hr c
    have h := hr c
    have a : Agree m m' c := ⟨hagree c, Cert.SwaRefIdeal.Value.real_of_pre _ _ _ _ (hpre c)⟩
    exact ⟨h.1.trans (same_q m m' c a), h.2.1.trans (same_kc m m' c a), h.2.2.1.trans (same_kp m m' c a),
      h.2.2.2.1.trans (same_vc m m' c a), h.2.2.2.2.1.trans (same_vp m m' c a), h.2.2.2.2.2.1.trans (same_b m m' c a),
      h.2.2.2.2.2.2.1.trans (same_s m m' c a), h.2.2.2.2.2.2.2⟩

end Cert.Proof

end
-- ==== Proof.MergeVal.lean ====
/- The kernel of the branch merge's gradient: every result an entrywise product with the gates' logistic. -/
module

public import proofs.«01_k».proof.Defs
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pay3 (a b) (i) : k0_pay3 (F := Ideal) a b i = a i * Ideal.logistic (b i) := by
  pointwise [k0_pay3, k0_pay1]

theorem pay4 (a b) (i) : k0_pay4 (F := Ideal) a b i = a i * Ideal.logistic (b i) := by
  pointwise [k0_pay4, k0_pay2]

theorem pay5 (a b d) (i) : k0_pay5 (F := Ideal) a b d i = a i * d i * Ideal.logistic (b i) * (1 - Ideal.logistic (b i)) := by
  pointwise [k0_pay5, k0_pay1]

theorem pay6 (a b d) (i) : k0_pay6 (F := Ideal) a b d i = a i * d i * Ideal.logistic (b i) * (1 - Ideal.logistic (b i)) := by
  pointwise [k0_pay6, k0_pay2]

/-- The gate's column of the sliding-window half. -/
abbrev lo (k : Fin 2048) : Fin 4096 := ⟨k.val, by omega⟩

/-- The gate's column of the delta-rule half. -/
abbrev hi (k : Fin 2048) : Fin 4096 := ⟨2048 + k.val, by omega⟩

theorem ref37 (a b) (i) : Cert.MergeRefIdeal.Read.val_main_v37 (F := Ideal) a b i = b i * Ideal.logistic (a (ix2 (i 0) (lo (i 1)))) := by
  pointwise [Cert.MergeRefIdeal.Read.val_main_v37, Cert.MergeRefIdeal.Read.val_main_v31, Cert.MergeRefIdeal.Read.val_main_v26, Cert.MergeRefIdeal.Read.val_main_v10, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v3, Cert.MergeRefIdeal.Read.val_main_v0, Cert.MergeRefIdeal.Read.val_main_cst, Cert.MergeRefIdeal.Read.val_main_cst_0]
  exact mul_comm _ _

theorem ref38 (a b) (i) : Cert.MergeRefIdeal.Read.val_main_v38 (F := Ideal) a b i = b i * Ideal.logistic (a (ix2 (i 0) (hi (i 1)))) := by
  pointwise [Cert.MergeRefIdeal.Read.val_main_v38, Cert.MergeRefIdeal.Read.val_main_v28, Cert.MergeRefIdeal.Read.val_main_v27, Cert.MergeRefIdeal.Read.val_main_v20, Cert.MergeRefIdeal.Read.val_main_v19, Cert.MergeRefIdeal.Read.val_main_v18, Cert.MergeRefIdeal.Read.val_main_v17, Cert.MergeRefIdeal.Read.val_main_v16, Cert.MergeRefIdeal.Read.val_main_v15, Cert.MergeRefIdeal.Read.val_main_v4, Cert.MergeRefIdeal.Read.val_main_v0, Cert.MergeRefIdeal.Read.val_main_cst_2, Cert.MergeRefIdeal.Read.val_main_cst_3]
  exact mul_comm _ _

theorem ref39_lo (a b d e) (i) (k : Fin 2048) (h : (i 1 : ℕ) = k) : Cert.MergeRefIdeal.Read.val_main_v39 (F := Ideal) a b d e i
    = e (ix2 (i 0) k) * b (ix2 (i 0) k) * Ideal.logistic (a i) * (1 - Ideal.logistic (a i)) := by
  pointwise [Cert.MergeRefIdeal.Read.val_main_v39, Cert.MergeRefIdeal.Read.val_main_v36, Cert.MergeRefIdeal.Read.val_main_v34, Cert.MergeRefIdeal.Read.val_main_v35, Cert.MergeRefIdeal.Read.val_main_cst_5, Cert.MergeRefIdeal.Read.val_main_cst_6, Cert.MergeRefIdeal.Read.val_main_v30, Cert.MergeRefIdeal.Read.val_main_v29, Cert.MergeRefIdeal.Read.val_main_v27, Cert.MergeRefIdeal.Read.val_main_v2, Cert.MergeRefIdeal.Read.val_main_v23, Cert.MergeRefIdeal.Read.val_main_v22, Cert.MergeRefIdeal.Read.val_main_v21, Cert.MergeRefIdeal.Read.val_main_cst_4, Cert.MergeRefIdeal.Read.val_main_v20, Cert.MergeRefIdeal.Read.val_main_v19, Cert.MergeRefIdeal.Read.val_main_v18, Cert.MergeRefIdeal.Read.val_main_v17, Cert.MergeRefIdeal.Read.val_main_v16, Cert.MergeRefIdeal.Read.val_main_v15, Cert.MergeRefIdeal.Read.val_main_v4, Cert.MergeRefIdeal.Read.val_main_v0, Cert.MergeRefIdeal.Read.val_main_cst_2, Cert.MergeRefIdeal.Read.val_main_cst_3, Cert.MergeRefIdeal.Read.val_main_v33, Cert.MergeRefIdeal.Read.val_main_v32, Cert.MergeRefIdeal.Read.val_main_v26, Cert.MergeRefIdeal.Read.val_main_v1, Cert.MergeRefIdeal.Read.val_main_v13, Cert.MergeRefIdeal.Read.val_main_v12, Cert.MergeRefIdeal.Read.val_main_v11, Cert.MergeRefIdeal.Read.val_main_cst_1, Cert.MergeRefIdeal.Read.val_main_v10, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v3, Cert.MergeRefIdeal.Read.val_main_cst, Cert.MergeRefIdeal.Read.val_main_cst_0]
  have hk := k.isLt
  have e1 : ∀ q, (⟨(i 1 : ℕ), q⟩ : Fin 2048) = k := fun q => Fin.ext h
  rw [dif_neg (by omega), dif_pos (by omega), zero_add]
  simp only [e1]
  exact (mul_assoc (G := EReal) _ _ _).symm

theorem ref39_hi (a b d e) (i) (k : Fin 2048) (h : (i 1 : ℕ) = 2048 + k) : Cert.MergeRefIdeal.Read.val_main_v39 (F := Ideal) a b d e i
    = e (ix2 (i 0) k) * d (ix2 (i 0) k) * Ideal.logistic (a i) * (1 - Ideal.logistic (a i)) := by
  pointwise [Cert.MergeRefIdeal.Read.val_main_v39, Cert.MergeRefIdeal.Read.val_main_v36, Cert.MergeRefIdeal.Read.val_main_v34, Cert.MergeRefIdeal.Read.val_main_v35, Cert.MergeRefIdeal.Read.val_main_cst_5, Cert.MergeRefIdeal.Read.val_main_cst_6, Cert.MergeRefIdeal.Read.val_main_v30, Cert.MergeRefIdeal.Read.val_main_v29, Cert.MergeRefIdeal.Read.val_main_v27, Cert.MergeRefIdeal.Read.val_main_v2, Cert.MergeRefIdeal.Read.val_main_v23, Cert.MergeRefIdeal.Read.val_main_v22, Cert.MergeRefIdeal.Read.val_main_v21, Cert.MergeRefIdeal.Read.val_main_cst_4, Cert.MergeRefIdeal.Read.val_main_v20, Cert.MergeRefIdeal.Read.val_main_v19, Cert.MergeRefIdeal.Read.val_main_v18, Cert.MergeRefIdeal.Read.val_main_v17, Cert.MergeRefIdeal.Read.val_main_v16, Cert.MergeRefIdeal.Read.val_main_v15, Cert.MergeRefIdeal.Read.val_main_v4, Cert.MergeRefIdeal.Read.val_main_v0, Cert.MergeRefIdeal.Read.val_main_cst_2, Cert.MergeRefIdeal.Read.val_main_cst_3, Cert.MergeRefIdeal.Read.val_main_v33, Cert.MergeRefIdeal.Read.val_main_v32, Cert.MergeRefIdeal.Read.val_main_v26, Cert.MergeRefIdeal.Read.val_main_v1, Cert.MergeRefIdeal.Read.val_main_v13, Cert.MergeRefIdeal.Read.val_main_v12, Cert.MergeRefIdeal.Read.val_main_v11, Cert.MergeRefIdeal.Read.val_main_cst_1, Cert.MergeRefIdeal.Read.val_main_v10, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v3, Cert.MergeRefIdeal.Read.val_main_cst, Cert.MergeRefIdeal.Read.val_main_cst_0]
  have hk := k.isLt
  have e1 : ∀ q, (⟨(i 1 : ℕ) - 2048, q⟩ : Fin 2048) = k := fun q => Fin.ext (by show (i 1 : ℕ) - 2048 = k; omega)
  have e2 : ∀ q, ix2 (i 0) (⟨2048 + ((i 1 : ℕ) - 2048), q⟩ : Fin 4096) = i := fun q => by
    refine Eq.trans (congrArg (ix2 (i 0)) (Fin.ext (by show 2048 + ((i 1 : ℕ) - 2048) = i 1; omega))) (ix2_eta i)
  rw [dif_pos (by omega), dif_neg (by omega), add_zero]
  simp only [e1]
  refine Eq.trans (mul_assoc (G := EReal) _ _ _).symm ?_
  exact congrArg (fun x => e (ix2 (i 0) k) * d (ix2 (i 0) k) * Ideal.logistic (a x) * (1 - Ideal.logistic (a x))) (e2 _)

variable (c : Dev nD)

theorem is0 (t : Fin cfg0.N) (x : S512x4096.Idx) (i : S8192x4096.Idx) (h0 : (i 0 : ℕ) = t.val * 512 + x 0) (h1 : (i 1 : ℕ) = x 1) :
    iblk m c 0 t x = (m ((c : Thread nD τ).loc main_arg0)) i := by
  blk_ext [iblk, V, idx t]

theorem is1 (t : Fin cfg0.N) (x : S512x2048.Idx) (i : S8192x2048.Idx) (h0 : (i 0 : ℕ) = t.val * 512 + x 0) (h1 : (i 1 : ℕ) = x 1) :
    iblk m c 1 t x = (m ((c : Thread nD τ).loc main_arg1)) i := by
  blk_ext [iblk, V, idx t]

theorem is2 (t : Fin cfg0.N) (x : S512x2048.Idx) (i : S8192x2048.Idx) (h0 : (i 0 : ℕ) = t.val * 512 + x 0) (h1 : (i 1 : ℕ) = x 1) :
    iblk m c 2 t x = (m ((c : Thread nD τ).loc main_arg2)) i := by
  blk_ext [iblk, V, idx t]

theorem is3 (t : Fin cfg0.N) (x : S512x2048.Idx) (i : S8192x2048.Idx) (h0 : (i 0 : ℕ) = t.val * 512 + x 0) (h1 : (i 1 : ℕ) = x 1) :
    iblk m c 3 t x = (m ((c : Thread nD τ).loc main_arg3)) i := by
  blk_ext [iblk, V, idx t]

/-- A gate read through the first half of its block. -/
theorem ld_lo (t : Fin cfg0.N) (x : S512x2048.Idx) (i : S8192x4096.Idx) (h0 : (i 0 : ℕ) = t.val * 512 + x 0) (h1 : (i 1 : ℕ) = x 1) :
    View.ld (iblk m c 0 t) r0_1 x = (m ((c : Thread nD τ).loc main_arg0)) i := by
  refine is0 m c t (r0_1.idx x) i (h0.trans (congrArg _ ?_)) (h1.trans ?_)
  · exact ((Rect.idx_unit_val (s := S512x4096) ![0, 0] S512x2048.size inb_S512x4096_S512x2048_0_0 x 0).trans (Nat.zero_add _)).symm
  · exact ((Rect.idx_unit_val (s := S512x4096) ![0, 0] S512x2048.size inb_S512x4096_S512x2048_0_0 x 1).trans (Nat.zero_add _)).symm

/-- A gate read through the second half of its block. -/
theorem ld_hi (t : Fin cfg0.N) (x : S512x2048.Idx) (i : S8192x4096.Idx) (h0 : (i 0 : ℕ) = t.val * 512 + x 0) (h1 : (i 1 : ℕ) = 2048 + x 1) :
    View.ld (iblk m c 0 t) r0_2 x = (m ((c : Thread nD τ).loc main_arg0)) i := by
  refine is0 m c t (r0_2.idx x) i (h0.trans (congrArg _ ?_)) (h1.trans ?_)
  · exact ((Rect.idx_unit_val (s := S512x4096) ![0, 2048] S512x2048.size inb_S512x4096_S512x2048_0_2048 x 0).trans (Nat.zero_add _)).symm
  · exact (Rect.idx_unit_val (s := S512x4096) ![0, 2048] S512x2048.size inb_S512x4096_S512x2048_0_2048 x 1).symm

theorem final_ys : (dats m 0 c).arrAt 4 (cfgs 0).N = Cert.MergeRefIdeal.Read.val_main_v37 (F := Ideal) (m ((c : Thread nD τ).loc main_arg0)) (m ((c : Thread nD τ).loc main_arg3)) := by
  refine (dats m 0 c).arrAt_eq_of_covers 4 _ (by decide +kernel) fun t hf y => ?_
  blk_simp
  rw [after0_4]; frame_out
  rw [pay3, ref37]
  exact congrArg₂ (· * ·) (is3 m c t y _ (by blk_simp [idx t]) (by blk_simp [idx t]))
    (congrArg Ideal.logistic (ld_lo m c t y _ (by blk_simp [idx t]) (by simp only [lo]; blk_simp [idx t])))

theorem final_yg : (dats m 0 c).arrAt 5 (cfgs 0).N = Cert.MergeRefIdeal.Read.val_main_v38 (F := Ideal) (m ((c : Thread nD τ).loc main_arg0)) (m ((c : Thread nD τ).loc main_arg3)) := by
  refine (dats m 0 c).arrAt_eq_of_covers 5 _ (by decide +kernel) fun t hf y => ?_
  blk_simp
  rw [after0_5]; frame_out
  rw [pay4, ref38]
  exact congrArg₂ (· * ·) (is3 m c t y _ (by blk_simp [idx t]) (by blk_simp [idx t]))
    (congrArg Ideal.logistic (ld_hi m c t y _ (by blk_simp [idx t]) (by simp only [hi]; blk_simp [idx t])))

theorem point_gates (t : Fin cfg0.N) (y : S512x4096.Idx) (i : S8192x4096.Idx) (hi0 : (i 0 : ℕ) = t.val * 512 + y 0) (hi1 : (i 1 : ℕ) = y 1) :
    out0_6 (iblk m c 0 t) (iblk m c 1 t) (iblk m c 2 t) (iblk m c 3 t) y = Cert.MergeRefIdeal.Read.val_main_v39 (F := Ideal) (m ((c : Thread nD τ).loc main_arg0)) (m ((c : Thread nD τ).loc main_arg1)) (m ((c : Thread nD τ).loc main_arg2)) (m ((c : Thread nD τ).loc main_arg3)) i := by
  frame_out
  canon_tiles x h
  case piece0 =>
    have e0 : (i 0 : ℕ) = t.val * 512 + x 0 := by omega
    have e1 : (i 1 : ℕ) = 2048 + x 1 := by omega
    rw [pay6, ref39_hi _ _ _ _ i (x 1) e1, ld_hi m c t x i e0 e1, is3 m c t x (ix2 (i 0) (x 1)) e0 rfl, is2 m c t x (ix2 (i 0) (x 1)) e0 rfl]
  case piece1 =>
    have e0 : (i 0 : ℕ) = t.val * 512 + x 0 := by omega
    have e1 : (i 1 : ℕ) = x 1 := by omega
    rw [pay5, ref39_lo _ _ _ _ i (x 1) e1, ld_lo m c t x i e0 e1, is3 m c t x (ix2 (i 0) (x 1)) e0 rfl, is1 m c t x (ix2 (i 0) (x 1)) e0 rfl]

theorem final_gates : (dats m 0 c).arrAt 6 (cfgs 0).N = Cert.MergeRefIdeal.Read.val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  exact point_gates m c t y _ (by blk_simp [idx t]) (by blk_simp [idx t])

end Cert.MergeIdeal.Value

namespace Cert.Proof

open Idealize.ShloMosaic Idealize.SL.Sem

/-- The reference of the merge's gradient runs, leaves its arguments as they were, and ends with every counter at zero. -/
theorem frame_MergeRef : Cert.quiescent_MergeRefIdeal := fun m ρ _ =>
  (θ_run Cert.MergeRefIdeal.defs _ _).mono (fun r h => ⟨fun c => (h c).2.2.2,
      Idealize.ShloMosaic.sem_eq_zero_of_no_sems (by decide) r.2⟩)
    (Cert.MergeRefIdeal.Value.run (F := Ideal) m ρ)

set_option maxHeartbeats 4000000 in
/-- The merge's gradient and its reference give the same three arrays. -/
theorem algebraic_Merge : Cert.algebraic_MergeIdeal_MergeRefIdeal := by
  pair_intro
  · run_from Cert.MergeIdeal.Gen.run_main m g
  · refine θ_run_mono (Cert.MergeRefIdeal.Value.run (F := Ideal) m' g') ?_
    intro r hr c
    have h := hr c
    have a := hagree c
    refine ⟨h.1.trans ?_, h.2.1.trans ?_, h.2.2.1.trans ?_, h.2.2.2⟩
    · refine (Cert.MergeRefIdeal.Read.val_main_v37_eq _ _).trans ?_
      rw [a.1, a.2.2.2]
      exact (Cert.MergeIdeal.Value.final_ys m c).symm
    · refine (Cert.MergeRefIdeal.Read.val_main_v38_eq _ _).trans ?_
      rw [a.1, a.2.2.2]
      exact (Cert.MergeIdeal.Value.final_yg m c).symm
    · refine (Cert.MergeRefIdeal.Read.val_main_v39_eq _ _ _ _).trans ?_
      rw [a.1, a.2.1, a.2.2.1, a.2.2.2]
      exact (Cert.MergeIdeal.Value.final_gates m c).symm

end Cert.Proof

end
-- ==== Proof.SwaFwdHead.lean ====
/- The kernel of the sliding-window attention's output: what each head writes, and the whole array. -/
module

public import proofs.«01_k».proof.Proof.Gen.SwaFwdIdeal.Value
public import proofs.«01_k».proof.Proof.SwaPiece
public import Idealize.ShloMosaic.Lib.Pipeline.ValueKit
public import Idealize.ShloMosaic.Lib.Pipeline.ReadBack

@[expose] public section

set_option maxRecDepth 16384

noncomputable section

namespace Cert.SwaFwdIdeal.Value

open Cert.SwaFwdIdeal Cert.SwaFwdIdeal.Gen Idealize.ShloMosaic Idealize.ShloMosaic.TcCoe Idealize.SL.Sem
open Idealize.ShloMosaic.Pipeline (Dat)
open Cert.SwaIdeal.Value (qrow krow qcol ocol kcol vcol Seen SC PW rP sc bits_bot and_iff or_iff dist_int small_int cmpi_iff blkOf rowOf headOf laneOf)

/- The sixteen heads repeat one another's operations. -/
theorem e12 : k0_pay12 (F := Ideal) = k0_pay11 := rfl
theorem e13 : k0_pay13 (F := Ideal) = k0_pay11 := rfl
theorem e14 : k0_pay14 (F := Ideal) = k0_pay11 := rfl
theorem e15 : k0_pay15 (F := Ideal) = k0_pay11 := rfl
theorem e16 : k0_pay16 (F := Ideal) = k0_pay11 := rfl
theorem e17 : k0_pay17 (F := Ideal) = k0_pay11 := rfl
theorem e18 : k0_pay18 (F := Ideal) = k0_pay11 := rfl
theorem e19 : k0_pay19 (F := Ideal) = k0_pay11 := rfl
theorem e20 : k0_pay20 (F := Ideal) = k0_pay11 := rfl
theorem e21 : k0_pay21 (F := Ideal) = k0_pay11 := rfl
theorem e22 : k0_pay22 (F := Ideal) = k0_pay11 := rfl
theorem e23 : k0_pay23 (F := Ideal) = k0_pay11 := rfl
theorem e24 : k0_pay24 (F := Ideal) = k0_pay11 := rfl
theorem e25 : k0_pay25 (F := Ideal) = k0_pay11 := rfl
theorem e26 : k0_pay26 (F := Ideal) = k0_pay11 := rfl
theorem e28 : k0_pay28 (F := Ideal) = k0_pay27 := rfl
theorem e32 : k0_pay32 (F := Ideal) = k0_pay27 := rfl
theorem e33 : k0_pay33 (F := Ideal) = k0_pay27 := rfl
theorem e34 : k0_pay34 (F := Ideal) = k0_pay27 := rfl
theorem e35 : k0_pay35 (F := Ideal) = k0_pay27 := rfl
theorem e38 : k0_pay38 (F := Ideal) = k0_pay27 := rfl
theorem e39 : k0_pay39 (F := Ideal) = k0_pay27 := rfl
theorem e40 : k0_pay40 (F := Ideal) = k0_pay27 := rfl
theorem e41 : k0_pay41 (F := Ideal) = k0_pay27 := rfl
theorem e42 : k0_pay42 (F := Ideal) = k0_pay27 := rfl
theorem e45 : k0_pay45 (F := Ideal) = k0_pay27 := rfl
theorem e46 : k0_pay46 (F := Ideal) = k0_pay27 := rfl
theorem e48 : k0_pay48 (F := Ideal) = k0_pay47 := rfl
theorem e49 : k0_pay49 (F := Ideal) = k0_pay47 := rfl
theorem e50 : k0_pay50 (F := Ideal) = k0_pay47 := rfl
theorem e51 : k0_pay51 (F := Ideal) = k0_pay47 := rfl
theorem e54 : k0_pay54 (F := Ideal) = k0_pay47 := rfl
theorem e55 : k0_pay55 (F := Ideal) = k0_pay47 := rfl
theorem e56 : k0_pay56 (F := Ideal) = k0_pay47 := rfl
theorem e57 : k0_pay57 (F := Ideal) = k0_pay47 := rfl
theorem e58 : k0_pay58 (F := Ideal) = k0_pay47 := rfl
theorem e59 : k0_pay59 (F := Ideal) = k0_pay47 := rfl
theorem e60 : k0_pay60 (F := Ideal) = k0_pay47 := rfl
theorem e61 : k0_pay61 (F := Ideal) = k0_pay47 := rfl
theorem e62 : k0_pay62 (F := Ideal) = k0_pay47 := rfl
theorem e63 : k0_pay63 (F := Ideal) = k0_pay47 := rfl
theorem e65 : k0_pay65 (F := Ideal) = k0_pay64 := rfl
theorem e68 : k0_pay68 (F := Ideal) = k0_pay64 := rfl
theorem e69 : k0_pay69 (F := Ideal) = k0_pay64 := rfl
theorem e70 : k0_pay70 (F := Ideal) = k0_pay64 := rfl
theorem e71 : k0_pay71 (F := Ideal) = k0_pay64 := rfl
theorem e72 : k0_pay72 (F := Ideal) = k0_pay64 := rfl
theorem e73 : k0_pay73 (F := Ideal) = k0_pay64 := rfl
theorem e74 : k0_pay74 (F := Ideal) = k0_pay64 := rfl
theorem e75 : k0_pay75 (F := Ideal) = k0_pay64 := rfl
theorem e76 : k0_pay76 (F := Ideal) = k0_pay64 := rfl
theorem e77 : k0_pay77 (F := Ideal) = k0_pay64 := rfl
theorem e78 : k0_pay78 (F := Ideal) = k0_pay64 := rfl
theorem e79 : k0_pay79 (F := Ideal) = k0_pay64 := rfl
theorem e80 : k0_pay80 (F := Ideal) = k0_pay64 := rfl
theorem e82 : k0_pay82 (F := Ideal) = k0_pay81 := rfl
theorem e83 : k0_pay83 (F := Ideal) = k0_pay81 := rfl
theorem e84 : k0_pay84 (F := Ideal) = k0_pay81 := rfl
theorem e85 : k0_pay85 (F := Ideal) = k0_pay81 := rfl
theorem e86 : k0_pay86 (F := Ideal) = k0_pay81 := rfl
theorem e89 : k0_pay89 (F := Ideal) = k0_pay81 := rfl
theorem e90 : k0_pay90 (F := Ideal) = k0_pay81 := rfl
theorem e91 : k0_pay91 (F := Ideal) = k0_pay81 := rfl
theorem e92 : k0_pay92 (F := Ideal) = k0_pay81 := rfl
theorem e93 : k0_pay93 (F := Ideal) = k0_pay81 := rfl
theorem e94 : k0_pay94 (F := Ideal) = k0_pay81 := rfl
theorem e95 : k0_pay95 (F := Ideal) = k0_pay81 := rfl
theorem e96 : k0_pay96 (F := Ideal) = k0_pay81 := rfl
theorem e97 : k0_pay97 (F := Ideal) = k0_pay81 := rfl
theorem e99 : k0_pay99 (F := Ideal) = k0_pay98 := rfl
theorem e100 : k0_pay100 (F := Ideal) = k0_pay98 := rfl
theorem e101 : k0_pay101 (F := Ideal) = k0_pay98 := rfl
theorem e104 : k0_pay104 (F := Ideal) = k0_pay98 := rfl
theorem e105 : k0_pay105 (F := Ideal) = k0_pay98 := rfl
theorem e106 : k0_pay106 (F := Ideal) = k0_pay98 := rfl
theorem e107 : k0_pay107 (F := Ideal) = k0_pay98 := rfl
theorem e108 : k0_pay108 (F := Ideal) = k0_pay98 := rfl
theorem e109 : k0_pay109 (F := Ideal) = k0_pay98 := rfl
theorem e110 : k0_pay110 (F := Ideal) = k0_pay98 := rfl
theorem e111 : k0_pay111 (F := Ideal) = k0_pay98 := rfl
theorem e112 : k0_pay112 (F := Ideal) = k0_pay98 := rfl
theorem e113 : k0_pay113 (F := Ideal) = k0_pay98 := rfl
theorem e114 : k0_pay114 (F := Ideal) = k0_pay98 := rfl
theorem e116 : k0_pay116 (F := Ideal) = k0_pay115 := rfl
theorem e117 : k0_pay117 (F := Ideal) = k0_pay115 := rfl
theorem e118 : k0_pay118 (F := Ideal) = k0_pay115 := rfl
theorem e119 : k0_pay119 (F := Ideal) = k0_pay115 := rfl
theorem e120 : k0_pay120 (F := Ideal) = k0_pay115 := rfl
theorem e124 : k0_pay124 (F := Ideal) = k0_pay115 := rfl
theorem e125 : k0_pay125 (F := Ideal) = k0_pay115 := rfl
theorem e126 : k0_pay126 (F := Ideal) = k0_pay115 := rfl
theorem e127 : k0_pay127 (F := Ideal) = k0_pay115 := rfl
theorem e128 : k0_pay128 (F := Ideal) = k0_pay115 := rfl
theorem e129 : k0_pay129 (F := Ideal) = k0_pay115 := rfl
theorem e130 : k0_pay130 (F := Ideal) = k0_pay115 := rfl
theorem e131 : k0_pay131 (F := Ideal) = k0_pay115 := rfl
theorem e132 : k0_pay132 (F := Ideal) = k0_pay115 := rfl
theorem e1 : k0_pay1 (F := Ideal) = k0_pay133 := rfl
theorem e2 : k0_pay2 (F := Ideal) = k0_pay133 := rfl
theorem e3 : k0_pay3 (F := Ideal) = k0_pay133 := rfl
theorem e134 : k0_pay134 (F := Ideal) = k0_pay133 := rfl
theorem e135 : k0_pay135 (F := Ideal) = k0_pay133 := rfl
theorem e136 : k0_pay136 (F := Ideal) = k0_pay133 := rfl
theorem e137 : k0_pay137 (F := Ideal) = k0_pay133 := rfl
theorem e138 : k0_pay138 (F := Ideal) = k0_pay133 := rfl
theorem e139 : k0_pay139 (F := Ideal) = k0_pay133 := rfl
theorem e140 : k0_pay140 (F := Ideal) = k0_pay133 := rfl
theorem e141 : k0_pay141 (F := Ideal) = k0_pay133 := rfl
theorem e142 : k0_pay142 (F := Ideal) = k0_pay133 := rfl
theorem e143 : k0_pay143 (F := Ideal) = k0_pay133 := rfl
theorem e144 : k0_pay144 (F := Ideal) = k0_pay133 := rfl
theorem e145 : k0_pay145 (F := Ideal) = k0_pay133 := rfl
theorem e9 : k0_pay9 (F := Ideal) = k0_pay7 := rfl
theorem e10 : k0_pay10 (F := Ideal) = k0_pay8 := rfl
theorem i31 (w : IVec S128x256 1) (q : Vec Ideal S128x64 .f32) (k : FVec Ideal S256x64 .f32) (b : FVec Ideal S128x256 .f32) :
    k0_pay31 w b (k0_pay29 q) (k0_pay30 k) = k0_pay27 w k q b := rfl
theorem i37 (w : IVec S128x256 1) (q : Vec Ideal S128x64 .f32) (k : FVec Ideal S256x64 .f32) (b : FVec Ideal S128x256 .f32) :
    k0_pay37 w b (k0_pay36 k q) = k0_pay27 w k q b := rfl
theorem i44 (w : IVec S128x256 1) (q : Vec Ideal S128x64 .f32) (k : FVec Ideal S256x64 .f32) (b : FVec Ideal S128x256 .f32) :
    k0_pay44 w k b (k0_pay43 q) = k0_pay27 w k q b := rfl
theorem i53 (s : Vec Ideal S1x1 .f32) (x : FVec Ideal S128x256 .f32) : k0_pay53 s (k0_pay52 x) = k0_pay47 s x := rfl
theorem i67 (x : FVec Ideal S128x256 .f32) (y : FVec Ideal S128x1 .f32) : k0_pay67 (k0_pay66 x y) = k0_pay64 x y := rfl
theorem i88 (s : Vec Ideal S1x1 .f32) (y : FVec Ideal S128x1 .f32) : k0_pay88 (k0_pay87 s y) = k0_pay81 s y := rfl
theorem i103 (x : FVec Ideal S128x256 .f32) (y : FVec Ideal S128x1 .f32) : k0_pay103 (k0_pay102 x y) = k0_pay98 x y := rfl
theorem i123 (v : FVec Ideal S256x64 .f32) (x : FVec Ideal S128x256 .f32) (y : FVec Ideal S128x1 .f32) :
    k0_pay123 (k0_pay121 x y) (k0_pay122 v) = k0_pay115 v x y := rfl

/-- What a head writes, from its scores, its sink and its values. -/
def hO (s : Vec Ideal S1x1 .f32) (S : FVec Ideal S128x256 .f32) (V : FVec Ideal S256x64 .f32) : FVec Ideal S128x64 .bf16 :=
  k0_pay133 (k0_pay115 V (k0_pay64 S (k0_pay47 s S)) (k0_pay98 (k0_pay64 S (k0_pay47 s S)) (k0_pay81 s (k0_pay47 s S))))

theorem fO (s : Vec Ideal S1x1 .f32) (S : FVec Ideal S128x256 .f32) (V : FVec Ideal S256x64 .f32) :
    k0_pay133 (F := Ideal) (k0_pay115 V (k0_pay64 S (k0_pay47 s S)) (k0_pay98 (k0_pay64 S (k0_pay47 s S)) (k0_pay81 s (k0_pay47 s S)))) = hO s S V := rfl

theorem read_O (s : Vec Ideal S1x1 .f32) (S : FVec Ideal S128x256 .f32) (V : FVec Ideal S256x64 .f32) (r : Fin 128) (d : Fin 64) :
    hO s S V (ix2 r d) = ∑ j : Fin 256, rP (fun j => S (ix2 r j)) (s (ix2 0 0)) j * V (ix2 j d) := by
  pointwise [hO, k0_pay133, k0_pay115, k0_pay64, k0_pay47, k0_pay98, k0_pay81]
  rw [bits_bot]
  rfl

theorem read_S (w : IVec S128x256 1) (q : Vec Ideal S128x64 .f32) (k : FVec Ideal S256x64 .f32) (b : FVec Ideal S128x256 .f32) (r : Fin 128) (j : Fin 256) :
    k0_pay27 (F := Ideal) w k q b (ix2 r j) = if w (ix2 r j) = 1#1 then (∑ d : Fin 64, q (ix2 r d) * k (ix2 j d)) * sc + b (ix2 r j) else ⊥ := by
  pointwise [k0_pay27]
  have hm : (Named.named (F := Ideal) (φ := .f32) κ "mask" 0xF149F2CA#32 : EReal) = ⊥ := IdealRules.named_const.ideal_named_scalar _ _ _ _ rfl
  rw [show ∀ x : EReal, Scalar.select (w (ix2 r j)) x (Named.named (F := Ideal) (φ := .f32) κ "mask" 0xF149F2CA#32 : EReal) = if w (ix2 r j) = 1#1 then x else ⊥
    from fun x => congrArg (Scalar.select (w (ix2 r j)) x) hm]

theorem read_b (b : Vec Ideal S1x128x256 .f32) (r : Fin 128) (j : Fin 256) : k0_pay11 (F := Ideal) b (ix2 r j) = b (ix3 0 r j) := by
  pointwise [k0_pay11]

theorem read_g0 (x y : Vec Ideal S128x128 .f32) (j : Fin 256) (d : Fin 64) :
    k0_pay7 (F := Ideal) x y (ix2 j d)
      = if h : j.val < 128 then x (ix2 ⟨j.val, h⟩ ⟨d.val, by omega⟩) else y (ix2 ⟨j.val - 128, by omega⟩ ⟨d.val, by omega⟩) := by
  pointwise [k0_pay7, k0_pay5]

theorem read_g1 (x y : Vec Ideal S128x128 .f32) (j : Fin 256) (d : Fin 64) :
    k0_pay8 (F := Ideal) x y (ix2 j d)
      = if h : j.val < 128 then x (ix2 ⟨j.val, h⟩ ⟨64 + d.val, by omega⟩) else y (ix2 ⟨j.val - 128, by omega⟩ ⟨64 + d.val, by omega⟩) := by
  pointwise [k0_pay8, k0_pay5]

theorem read_mask (i : grid0.Coords) (r : Fin 128) (j : Fin 256) :
    k0_pay4 i (ix2 r j) = 1#1 ↔ (j.val ≤ r.val + 128 ∧ r.val < j.val ∧ (0 < (i 0).val ∨ 128 ≤ j.val)) := by
  pointwise [k0_pay4]
  simp only [IntOp.andi, IntOp.ori, and_iff, or_iff, IntOp.cmpi, Scalar.cmpi, IntOp.subi, IntOp.addi]
  have hi : (i 0).val < 64 := (i 0).isLt
  have h1 := dist_int r j
  have h2 := small_int j.val (by omega)
  have z0 : (0#32).toInt = 0 := by decide
  have z1 : (128#32).toInt = 128 := by decide
  have h3 := small_int (i 0).val (by omega)
  simp only [cmpi_iff _ _ Iff.rfl, BitVec.sle_iff_toInt_le, BitVec.slt_iff_toInt_lt, h1, h2, h3, z0, z1]
  omega

/-- The attention's output. -/
def OUT (A : Vec Ideal S8192x1408 .f32) (B : Vec Ideal S16x128x256 .f32) (S : Vec Ideal S1x16 .f32) (R : Fin 8192) (x : Fin 1024) : EReal :=
  ∑ j : Fin 256, PW A B S (blkOf R) (headOf x) (rowOf R) j * A (ix2 (krow (blkOf R) j) (vcol (headOf x) (laneOf x)))

variable (m : (ℓ : Loc nD τ sig) → Buf (Elt Ideal) ℓ)

/-- The arguments of the call on device `c`. -/
abbrev argA (c : Dev nD) : Vec Ideal S8192x1408 .f32 := m ((c : Thread nD τ).loc main_arg0)
abbrev argB (c : Dev nD) : Vec Ideal S16x128x256 .f32 := m ((c : Thread nD τ).loc main_arg1)
abbrev argS (c : Dev nD) : Vec Ideal S1x16 .f32 := m ((c : Thread nD τ).loc main_arg2)

/-- A point's block. -/
def nn (t : Fin cfg0.N) : Fin 64 := ⟨t.val, by have h := t.isLt; have e : cfg0.N = 64 := N_0; omega⟩

theorem idx : ∀ t : Fin cfg0.N, win0_0.index t = ![t.val, 0] ∧ win0_1.index t = ![t.val - 1, 8] ∧ win0_2.index t = ![t.val, 8]
    ∧ win0_3.index t = ![t.val - 1, 9] ∧ win0_4.index t = ![t.val, 9] ∧ win0_5.index t = ![0, 0, 0] ∧ win0_6.index t = ![0, 0]
    ∧ win0_7.index t = ![t.val, 0] :=
  (by decide +kernel : ∀ t : Fin grid0.N, _)

theorem coords0 : ∀ t : Fin cfg0.N, ((grid0.coords t) 0).val = t.val := (by decide +kernel : ∀ t : Fin grid0.N, _)

theorem blk_q (c : Dev nD) (t : Fin cfg0.N) (x : S128x1024.Idx) (i : S8192x1408.Idx) (h0 : (i 0 : ℕ) = t.val * 128 + x 0) (h1 : (i 1 : ℕ) = x 1) :
    (X0_0 m c t : Vec Ideal S128x1024 .f32) x = argA m c i := by
  unfold X0_0 Pipeline.Window.fill
  rw [dif_pos (moved0_0 t x)]
  blk_ext [iblk, V, idx t]

theorem blk_kp (c : Dev nD) (t : Fin cfg0.N) (x : S128x128.Idx) (i : S8192x1408.Idx) (h0 : (i 0 : ℕ) = (t.val - 1) * 128 + x 0) (h1 : (i 1 : ℕ) = 1024 + x 1) :
    (iblk m c 1 t : Vec Ideal S128x128 .f32) x = argA m c i := by
  blk_ext [iblk, V, idx t]

theorem blk_kc (c : Dev nD) (t : Fin cfg0.N) (x : S128x128.Idx) (i : S8192x1408.Idx) (h0 : (i 0 : ℕ) = t.val * 128 + x 0) (h1 : (i 1 : ℕ) = 1024 + x 1) :
    (iblk m c 2 t : Vec Ideal S128x128 .f32) x = argA m c i := by
  blk_ext [iblk, V, idx t]

theorem blk_vp (c : Dev nD) (t : Fin cfg0.N) (x : S128x128.Idx) (i : S8192x1408.Idx) (h0 : (i 0 : ℕ) = (t.val - 1) * 128 + x 0) (h1 : (i 1 : ℕ) = 1152 + x 1) :
    (iblk m c 3 t : Vec Ideal S128x128 .f32) x = argA m c i := by
  blk_ext [iblk, V, idx t]

theorem blk_vc (c : Dev nD) (t : Fin cfg0.N) (x : S128x128.Idx) (i : S8192x1408.Idx) (h0 : (i 0 : ℕ) = t.val * 128 + x 0) (h1 : (i 1 : ℕ) = 1152 + x 1) :
    (iblk m c 4 t : Vec Ideal S128x128 .f32) x = argA m c i := by
  blk_ext [iblk, V, idx t]

theorem blk_b (c : Dev nD) (t : Fin cfg0.N) (x : S16x128x256.Idx) : (iblk m c 5 t : Vec Ideal S16x128x256 .f32) x = argB m c x := by
  blk_ext [iblk, V, idx t]

theorem blk_s (c : Dev nD) (t : Fin cfg0.N) (x : S1x16.Idx) : (iblk m c 6 t : Vec Ideal S1x16 .f32) x = argS m c x := by
  blk_ext [iblk, V, idx t]

/-- A head's operands, as a point loads them. -/
abbrev qC (c : Dev nD) (t : Fin cfg0.N) (off : ℕ) (iq : ∀ a, ![0, off] a + S128x64.size a ≤ S128x1024.size a) : Vec Ideal S128x64 .f32 :=
  View.ld (X0_0 m c t : Vec Ideal S128x1024 .f32) (Rect.unit ![0, off] ![128, 64] iq)
abbrev sC (c : Dev nD) (t : Fin cfg0.N) (hh : ℕ) (is : ∀ a, ![0, hh] a + S1x1.size a ≤ S1x16.size a) : Vec Ideal S1x1 .f32 :=
  View.ld (iblk m c 6 t : Vec Ideal S1x16 .f32) (Rect.unit ![0, hh] ![1, 1] is)
abbrev bC (c : Dev nD) (t : Fin cfg0.N) (hh : ℕ) (ib : ∀ a, ![hh, 0, 0] a + S1x128x256.size a ≤ S16x128x256.size a) : Vec Ideal S1x128x256 .f32 :=
  View.ld (iblk m c 5 t : Vec Ideal S16x128x256 .f32) (Rect.unit ![hh, 0, 0] ![1, 128, 256] ib)

/-- A head's scores, as a point forms them. -/
abbrev sV (c : Dev nD) (t : Fin cfg0.N) (off hh : ℕ) (K : FVec Ideal S256x64 .f32) (iq : ∀ a, ![0, off] a + S128x64.size a ≤ S128x1024.size a)
    (ib : ∀ a, ![hh, 0, 0] a + S1x128x256.size a ≤ S16x128x256.size a) : FVec Ideal S128x256 .f32 :=
  k0_pay27 (k0_pay4 (grid0.coords t)) K (qC m c t off iq) (k0_pay11 (bC m c t hh ib))

/-- The band's keys and values, of the first group of heads and of the second. -/
abbrev kA (c : Dev nD) (t : Fin cfg0.N) : FVec Ideal S256x64 .f32 := k0_pay7 (F := Ideal) (iblk m c 1 t) (iblk m c 2 t)
abbrev kB (c : Dev nD) (t : Fin cfg0.N) : FVec Ideal S256x64 .f32 := k0_pay8 (F := Ideal) (iblk m c 1 t) (iblk m c 2 t)
abbrev vA (c : Dev nD) (t : Fin cfg0.N) : FVec Ideal S256x64 .f32 := k0_pay7 (F := Ideal) (iblk m c 3 t) (iblk m c 4 t)
abbrev vB (c : Dev nD) (t : Fin cfg0.N) : FVec Ideal S256x64 .f32 := k0_pay8 (F := Ideal) (iblk m c 3 t) (iblk m c 4 t)

theorem is_kA (c : Dev nD) (t : Fin cfg0.N) (h : Fin 16) (hg : h.val / 8 = 0) (j : Fin 256) (d : Fin 64) :
    kA m c t (ix2 j d) = argA m c (ix2 (krow (nn t) j) (kcol h d)) := by
  refine (read_g0 _ _ j d).trans ?_
  split
  · exact blk_kp m c t _ _ (by show (if j.val < 128 then (t.val - 1) * 128 + j.val else _) = (t.val - 1) * 128 + j.val; rw [if_pos (by omega)])
      (by show 1024 + (64 * (h.val / 8) + d.val) = 1024 + d.val; omega)
  · exact blk_kc m c t _ _ (by show (if j.val < 128 then _ else t.val * 128 + (j.val - 128)) = t.val * 128 + (j.val - 128); rw [if_neg (by omega)])
      (by show 1024 + (64 * (h.val / 8) + d.val) = 1024 + d.val; omega)

theorem is_kB (c : Dev nD) (t : Fin cfg0.N) (h : Fin 16) (hg : h.val / 8 = 1) (j : Fin 256) (d : Fin 64) :
    kB m c t (ix2 j d) = argA m c (ix2 (krow (nn t) j) (kcol h d)) := by
  refine (read_g1 _ _ j d).trans ?_
  split
  · exact blk_kp m c t _ _ (by show (if j.val < 128 then (t.val - 1) * 128 + j.val else _) = (t.val - 1) * 128 + j.val; rw [if_pos (by omega)])
      (by show 1024 + (64 * (h.val / 8) + d.val) = 1024 + (64 + d.val); omega)
  · exact blk_kc m c t _ _ (by show (if j.val < 128 then _ else t.val * 128 + (j.val - 128)) = t.val * 128 + (j.val - 128); rw [if_neg (by omega)])
      (by show 1024 + (64 * (h.val / 8) + d.val) = 1024 + (64 + d.val); omega)

theorem is_vA (c : Dev nD) (t : Fin cfg0.N) (h : Fin 16) (hg : h.val / 8 = 0) (j : Fin 256) (d : Fin 64) :
    vA m c t (ix2 j d) = argA m c (ix2 (krow (nn t) j) (vcol h d)) := by
  refine (read_g0 _ _ j d).trans ?_
  split
  · exact blk_vp m c t _ _ (by show (if j.val < 128 then (t.val - 1) * 128 + j.val else _) = (t.val - 1) * 128 + j.val; rw [if_pos (by omega)])
      (by show 1152 + (64 * (h.val / 8) + d.val) = 1152 + d.val; omega)
  · exact blk_vc m c t _ _ (by show (if j.val < 128 then _ else t.val * 128 + (j.val - 128)) = t.val * 128 + (j.val - 128); rw [if_neg (by omega)])
      (by show 1152 + (64 * (h.val / 8) + d.val) = 1152 + d.val; omega)

theorem is_vB (c : Dev nD) (t : Fin cfg0.N) (h : Fin 16) (hg : h.val / 8 = 1) (j : Fin 256) (d : Fin 64) :
    vB m c t (ix2 j d) = argA m c (ix2 (krow (nn t) j) (vcol h d)) := by
  refine (read_g1 _ _ j d).trans ?_
  split
  · exact blk_vp m c t _ _ (by show (if j.val < 128 then (t.val - 1) * 128 + j.val else _) = (t.val - 1) * 128 + j.val; rw [if_pos (by omega)])
      (by show 1152 + (64 * (h.val / 8) + d.val) = 1152 + (64 + d.val); omega)
  · exact blk_vc m c t _ _ (by show (if j.val < 128 then _ else t.val * 128 + (j.val - 128)) = t.val * 128 + (j.val - 128); rw [if_neg (by omega)])
      (by show 1152 + (64 * (h.val / 8) + d.val) = 1152 + (64 + d.val); omega)

section Head

variable (c : Dev nD) (t : Fin cfg0.N) (h : Fin 16) (off hh : ℕ) (hoff : off = 64 * h.val) (hhh : hh = h.val)
  (K V' : FVec Ideal S256x64 .f32)
  (hK : ∀ j d, K (ix2 j d) = argA m c (ix2 (krow (nn t) j) (kcol h d)))
  (hV : ∀ j d, V' (ix2 j d) = argA m c (ix2 (krow (nn t) j) (vcol h d)))
  (iq : ∀ a, ![0, off] a + S128x64.size a ≤ S128x1024.size a) (is : ∀ a, ![0, hh] a + S1x1.size a ≤ S1x16.size a)
  (ib : ∀ a, ![hh, 0, 0] a + S1x128x256.size a ≤ S16x128x256.size a)

theorem at_cols (X : Vec Ideal S128x1024 .f32) (r : Fin 128) (d : Fin 64) (e : Fin 1024) (he : e.val = off + d.val) :
    View.ld X (Rect.unit ![0, off] ![128, 64] iq) (ix2 r d) = X (ix2 r e) :=
  View.ld_unit_apply_of X ![0, off] ![128, 64] iq (ix2 r d) (ix2 r e) (fun a => match a with
    | ⟨0, _⟩ => by show r.val = 0 + r.val; omega
    | ⟨1, _⟩ => by show e.val = off + d.val; omega)

include hoff in
theorem ld_q (r : Fin 128) (d : Fin 64) : qC m c t off iq (ix2 r d) = argA m c (ix2 (qrow (nn t) r) (qcol h d)) :=
  (at_cols off iq (X0_0 m c t) r d (ocol h d) (by show 64 * h.val + d.val = _; omega)).trans (blk_q m c t _ _ rfl rfl)

include hhh in
theorem ld_s : sC m c t hh is (ix2 0 0) = argS m c (ix2 0 h) :=
  (View.ld_unit_apply_of (iblk m c 6 t : Vec Ideal S1x16 .f32) ![0, hh] ![1, 1] is (ix2 0 0) (ix2 0 h) (fun a => match a with
    | ⟨0, _⟩ => rfl
    | ⟨1, _⟩ => by show h.val = hh + 0; omega)).trans (blk_s m c t _)

include hhh in
theorem ld_b (r : Fin 128) (j : Fin 256) : bC m c t hh ib (ix3 0 r j) = argB m c (ix3 h r j) :=
  (View.ld_unit_apply_of (iblk m c 5 t : Vec Ideal S16x128x256 .f32) ![hh, 0, 0] ![1, 128, 256] ib (ix3 0 r j) (ix3 h r j) (fun a => match a with
    | ⟨0, _⟩ => by show h.val = hh + 0; omega
    | ⟨1, _⟩ => by show r.val = 0 + r.val; omega
    | ⟨2, _⟩ => by show j.val = 0 + j.val; omega)).trans (blk_b m c t _)

include hoff hhh hK in
theorem rowS (r : Fin 128) : (fun j => sV m c t off hh K iq ib (ix2 r j)) = SC (argA m c) (argB m c) (nn t) h r := by
  funext j
  refine (read_S _ _ _ _ r j).trans ?_
  rw [SC]
  refine if_congr ((read_mask _ r j).trans (by rw [coords0 t]; exact Iff.rfl)) ?_ rfl
  rw [read_b, ld_b m c t h hh hhh ib r j]
  simp only [hK, ld_q m c t h off hoff iq r]

include hoff hhh hK hV in
theorem tile_o (r : Fin 128) (d : Fin 64) :
    hO (sC m c t hh is) (sV m c t off hh K iq ib) V' (ix2 r d)
      = ∑ j : Fin 256, PW (argA m c) (argB m c) (argS m c) (nn t) h r j * argA m c (ix2 (krow (nn t) j) (vcol h d)) := by
  refine (read_O _ _ _ r d).trans (Finset.sum_congr rfl fun j _ => ?_)
  rw [rowS m c t h off hh hoff hhh K hK iq ib r, ld_s m c t h hh hhh is, hV]
  rfl

include hoff hhh hK hV in
theorem piece_o (x : S128x64.Idx) (i : S8192x1024.Idx) (h0 : (i 0 : ℕ) = t.val * 128 + x 0) (h1 : (i 1 : ℕ) = off + x 1) :
    hO (sC m c t hh is) (sV m c t off hh K iq ib) V' x
      = OUT (argA m c) (argB m c) (argS m c) (i 0) (i 1) := by
  have hx : x = ix2 (x 0) (x 1) := funext fun a => match a with | ⟨0, _⟩ => rfl | ⟨1, _⟩ => rfl
  have hx0 : (x 0 : ℕ) < 128 := (x 0).isLt
  have hx1 : (x 1 : ℕ) < 64 := (x 1).isLt
  have e1 : headOf (i 1) = h := Fin.ext (by show (i 1 : ℕ) / 64 = h; omega)
  have e2 : laneOf (i 1) = x 1 := Fin.ext (by show (i 1 : ℕ) % 64 = x 1; omega)
  have e3 : blkOf (i 0) = nn t := Fin.ext (by show (i 0 : ℕ) / 128 = t.val; omega)
  have e4 : rowOf (i 0) = x 0 := Fin.ext (by show (i 0 : ℕ) % 128 = x 0; omega)
  refine (congrArg _ hx).trans ((tile_o m c t h off hh hoff hhh K V' hK hV iq is ib (x 0) (x 1)).trans ?_)
  rw [← e1, ← e2, ← e3, ← e4]
  rfl

end Head

theorem point_o (c : Dev nD) (t : Fin cfg0.N) (y : S128x1024.Idx) (i : S8192x1024.Idx) (hi0 : (i 0 : ℕ) = t.val * 128 + y 0) (hi1 : (i 1 : ℕ) = y 1) :
    outsAt0 m c t y = OUT (argA m c) (argB m c) (argS m c) (i 0) (i 1) := by
  unfold outsAt0
  frame_open
  frame_out
  simp only [e12, e13, e14, e15, e16, e17, e18, e19, e20, e21, e22, e23, e24, e25, e26, e28, e32, e33, e34, e35, e38, e39, e40, e41, e42, e45, e46, e48, e49, e50, e51, e54, e55, e56, e57, e58, e59, e60, e61, e62, e63, e65, e68, e69, e70, e71, e72, e73, e74, e75, e76, e77, e78, e79, e80, e82, e83, e84, e85, e86, e89, e90, e91, e92, e93, e94, e95, e96, e97, e99, e100, e101, e104, e105, e106, e107, e108, e109, e110, e111, e112, e113, e114, e116, e117, e118, e119, e120, e124, e125, e126, e127, e128, e129, e130, e131, e132, e1, e2, e3, e134, e135, e136, e137, e138, e139, e140, e141, e142, e143, e144, e145, e9, e10, i31, i37, i44, i53, i67, i88, i103, i123, fO]
  canon_tiles x h
  case piece0 => exact piece_o m c t 15 960 15 rfl rfl _ _ (is_kB m c t 15 rfl) (is_vB m c t 15 rfl) _ _ _ x i (by omega) (by omega)
  case piece1 => exact piece_o m c t 14 896 14 rfl rfl _ _ (is_kB m c t 14 rfl) (is_vB m c t 14 rfl) _ _ _ x i (by omega) (by omega)
  case piece2 => exact piece_o m c t 13 832 13 rfl rfl _ _ (is_kB m c t 13 rfl) (is_vB m c t 13 rfl) _ _ _ x i (by omega) (by omega)
  case piece3 => exact piece_o m c t 12 768 12 rfl rfl _ _ (is_kB m c t 12 rfl) (is_vB m c t 12 rfl) _ _ _ x i (by omega) (by omega)
  case piece4 => exact piece_o m c t 11 704 11 rfl rfl _ _ (is_kB m c t 11 rfl) (is_vB m c t 11 rfl) _ _ _ x i (by omega) (by omega)
  case piece5 => exact piece_o m c t 10 640 10 rfl rfl _ _ (is_kB m c t 10 rfl) (is_vB m c t 10 rfl) _ _ _ x i (by omega) (by omega)
  case piece6 => exact piece_o m c t 9 576 9 rfl rfl _ _ (is_kB m c t 9 rfl) (is_vB m c t 9 rfl) _ _ _ x i (by omega) (by omega)
  case piece7 => exact piece_o m c t 8 512 8 rfl rfl _ _ (is_kB m c t 8 rfl) (is_vB m c t 8 rfl) _ _ _ x i (by omega) (by omega)
  case piece8 => exact piece_o m c t 7 448 7 rfl rfl _ _ (is_kA m c t 7 rfl) (is_vA m c t 7 rfl) _ _ _ x i (by omega) (by omega)
  case piece9 => exact piece_o m c t 6 384 6 rfl rfl _ _ (is_kA m c t 6 rfl) (is_vA m c t 6 rfl) _ _ _ x i (by omega) (by omega)
  case piece10 => exact piece_o m c t 5 320 5 rfl rfl _ _ (is_kA m c t 5 rfl) (is_vA m c t 5 rfl) _ _ _ x i (by omega) (by omega)
  case piece11 => exact piece_o m c t 4 256 4 rfl rfl _ _ (is_kA m c t 4 rfl) (is_vA m c t 4 rfl) _ _ _ x i (by omega) (by omega)
  case piece12 => exact piece_o m c t 3 192 3 rfl rfl _ _ (is_kA m c t 3 rfl) (is_vA m c t 3 rfl) _ _ _ x i (by omega) (by omega)
  case piece13 => exact piece_o m c t 2 128 2 rfl rfl _ _ (is_kA m c t 2 rfl) (is_vA m c t 2 rfl) _ _ _ x i (by omega) (by omega)
  case piece14 => exact piece_o m c t 1 64 1 rfl rfl _ _ (is_kA m c t 1 rfl) (is_vA m c t 1 rfl) _ _ _ x i (by omega) (by omega)
  case piece15 => exact piece_o m c t 0 0 0 rfl rfl _ _ (is_kA m c t 0 rfl) (is_vA m c t 0 rfl) _ _ _ x i (by omega) (by omega)

theorem final (c : Dev nD) : (dats m 0 c).arrAt 7 (cfgs 0).N = (fun i => OUT (argA m c) (argB m c) (argS m c) (i 0) (i 1) : Vec Ideal S8192x1024 .bf16) := by
  refine (dats m 0 c).arrAt_eq_of_covers 7 _ (by decide +kernel) fun t hf y => ?_
  blk_simp
  rw [after0_7]
  exact point_o m c t y _ (by blk_simp [idx t]) (by blk_simp [idx t])

end Cert.SwaFwdIdeal.Value

end
-- ==== Proof.SwaFwdPlain.lean ====
/- The reference of the sliding-window attention's output computes the array the kernel leaves. -/
module

public import proofs.«01_k».proof.Pre_swafwd_real
public import proofs.«01_k».proof.Proof.SwaReal
public import proofs.«01_k».proof.Proof.SwaFwdHead
public import proofs.«01_k».proof.Proof.Gen.SwaFwdRefIdeal.Read

@[expose] public section

set_option maxRecDepth 16384

noncomputable section

namespace Cert.SwaFwdRefIdeal.Value

open Cert.SwaFwdRefIdeal Cert.SwaFwdRefIdeal.Gen Idealize.ShloMosaic
open Cert.SwaFwdRefIdeal.Read
open Cert.SwaIdeal.Value (qrow krow qcol ocol kcol vcol Seen SC PW hd blkOf rowOf headOf laneOf)
open Cert.SwaRefIdeal.Value (Real')
open Cert.SwaFwdIdeal.Value (OUT)
open Cert.PlainIdeal.Value (fin_of_cmp)

variable (A : Vec Ideal S8192x1408 .f32) (B : Vec Ideal S16x128x256 .f32) (S : Vec Ideal S1x16 .f32)

/- The weights are computed as the gradient's reference computes them. -/
theorem same_v10 : val_main_v10 (F := Ideal) A = Cert.SwaRefIdeal.Read.val_main_v10 (F := Ideal) A := rfl
theorem same_v49 : val_main_v49 (F := Ideal) A B = Cert.SwaRefIdeal.Read.val_main_v49_0 (F := Ideal) A B := rfl
theorem same_v52 : val_main_v52 (F := Ideal) A B S = Cert.SwaRefIdeal.Read.val_main_v52 (F := Ideal) A B S := rfl
theorem same_v59 : val_main_v59 (F := Ideal) A B S = Cert.SwaRefIdeal.Read.val_main_v73 (F := Ideal) A B S := rfl
theorem same_v63 : val_main_v63 (F := Ideal) A B S = Cert.SwaRefIdeal.Read.val_main_v77 (F := Ideal) A B S := rfl
theorem same_v64 : val_main_v64 (F := Ideal) A B S = Cert.SwaRefIdeal.Read.val_main_v81 (F := Ideal) A B S := rfl

theorem at_v65 (n : Fin 64) (g : Fin 2) (e : Fin 8) (r : Fin 128) (d : Fin 64) : val_main_v65 (F := Ideal) A B S (ix5 n g d e r)
    = ∑ j : Fin 256, val_main_v10 (F := Ideal) A (ix4 n j g d) * val_main_v64 (F := Ideal) A B S (ix5 n g e r j) := by
  pointwise [val_main_v65]

/-- Every entry of the columns the queries and keys lie in is a real number. -/
def RealQk (x : Vec Ideal S8192x1408 .f32) : Prop := ∀ (R : Fin 8192) (k : Fin 1408), k.val < 1152 → Soft.Fin' (x (ix2 R k))

theorem q_lt (h : Fin 16) (d : Fin 64) : (qcol h d).val < 1152 := by show 64 * h.val + d.val < 1152; omega
theorem k_lt (h : Fin 16) (d : Fin 64) : (kcol h d).val < 1152 := by show 1024 + (64 * (h.val / 8) + d.val) < 1152; omega

variable (hA : RealQk A) (hB : Real' B) (hS : Real' S)

include hA hB in
theorem row_SC (n : Fin 64) (h : Fin 16) (r : Fin 128) (j : Fin 256) : SC A B n h r j = ⊥ ∨ Soft.Fin' (SC A B n h r j) := by
  rw [SC]
  split
  · exact Or.inr (((Soft.Fin'.sum fun d => (hA _ _ (q_lt h d)).mul (hA _ _ (k_lt h d))).mul ⟨_, rfl⟩).add (hB _))
  · exact Or.inl rfl

include hA hB hS

theorem at_p (n : Fin 64) (g : Fin 2) (e : Fin 8) (r : Fin 128) (j : Fin 256) :
    val_main_v64 (F := Ideal) A B S (ix5 n g e r j) = PW A B S n (hd g e) r j := by
  rw [same_v64, Cert.SwaRefIdeal.Value.at_v81]
  exact Cert.SwaIdeal.Value.pr_slot (row_SC A B hA hB n (hd g e) r) (hS _) j

theorem at_o (n : Fin 64) (g : Fin 2) (e : Fin 8) (r : Fin 128) (d : Fin 64) : val_main_v65 (F := Ideal) A B S (ix5 n g d e r)
    = ∑ j : Fin 256, PW A B S n (hd g e) r j * A (ix2 (krow n j) (vcol (hd g e) d)) := by
  rw [at_v65]
  refine Finset.sum_congr rfl fun j _ => ?_
  rw [at_p A B S hA hB hS, same_v10, Cert.SwaRefIdeal.Value.at_v10 A n j g d e]
  split
  · exact mul_comm _ _
  · rename_i h
    rw [PW, Cert.SwaIdeal.Value.rP_masked (row_SC A B hA hB n (hd g e) r) (hS _) j (by rw [SC, if_neg (fun h' => h h'.2.2)]), zero_mul, zero_mul]

theorem at_v68 (R : Fin 8192) (x : Fin 1024) : val_main_v68 (F := Ideal) A B S (ix2 R x) = OUT A B S R x := by
  pointwise [val_main_v68, val_main_v67, val_main_v66]
  have e : hd ⟨x.val / 512, by omega⟩ ⟨x.val / 64 % 8, by omega⟩ = headOf x := Fin.ext (by show 8 * (x.val / 512) + x.val / 64 % 8 = x.val / 64; omega)
  refine (at_o A B S hA hB hS _ _ _ _ _).trans ?_
  rw [e]
  rfl

theorem ref_68 : val_main_v68 (F := Ideal) A B S = (fun i => OUT A B S (i 0) (i 1) : Vec Ideal S8192x1024 .bf16) := by
  funext i
  have hi : i = ix2 (i 0) (i 1) := funext fun a => match a with | ⟨0, _⟩ => rfl | ⟨1, _⟩ => rfl
  exact (congrArg _ hi).trans (at_v68 A B S hA hB hS (i 0) (i 1))

omit hA hB hS

/-- The shape conditions of the precondition. -/
instance preFacts : Cert.Pre_swafwd_real.Facts := ⟨by decide, by decide, by decide, by decide⟩

/-- The precondition says every entry it reads of the three arguments is a real. -/
theorem real_of_pre (A B S) (h : (Cert.Pre_swafwd_real.fn (F := Ideal) A B S).1 = (fun _ => 1#1)
    ∧ (Cert.Pre_swafwd_real.fn (F := Ideal) A B S).2.1 = (fun _ => 1#1) ∧ (Cert.Pre_swafwd_real.fn (F := Ideal) A B S).2.2 = (fun _ => 1#1)) :
    RealQk A ∧ Real' B ∧ Real' S := by
  obtain ⟨h0, h1, h2⟩ := h
  refine ⟨fun R k hk => ?_, fun i => ?_, fun i => ?_⟩
  · have e : extractStridedSlice Cert.Pre_swafwd_real.S8192x1152 ![0, 0] A Cert.Pre_swafwd_real.Facts.slices_S8192x1408_S8192x1152_0_0 (ix2 R ⟨k.val, hk⟩) = A (ix2 R k) := by
      pointwise []
    rw [← e]
    exact fin_of_cmp _ (congrFun h0 (ix2 R ⟨k.val, hk⟩))
  · exact fin_of_cmp _ (congrFun h1 i)
  · exact fin_of_cmp _ (congrFun h2 i)

end Cert.SwaFwdRefIdeal.Value

end
-- ==== Proof.SwaFwdVal.lean ====
/- The kernel of the sliding-window attention's output and its reference, side by side. -/
module

public import proofs.«01_k».proof.Defs
public import proofs.«01_k».proof.Proof.Gen.SwaFwdIdeal
public import proofs.«01_k».proof.Proof.Gen.SwaFwdIdeal.Skeleton
public import proofs.«01_k».proof.Proof.Gen.SwaFwdIdeal.Launch
public import proofs.«01_k».proof.Proof.Gen.SwaFwdIdeal.Points
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.SwaFwdPlain
public import Idealize.ShloMosaic.Adequacy
public import Idealize.ShloMosaic.Init

@[expose] public section

noncomputable section

namespace Cert.Proof

open Idealize.ShloMosaic Idealize.SL.Sem

/-- The reference of the sliding-window attention runs, leaves its arguments as they were, and ends with every counter at zero. -/
theorem frame_SwaFwdRef : Cert.quiescent_SwaFwdRefIdeal := fun m ρ _ =>
  (θ_run Cert.SwaFwdRefIdeal.defs _ _).mono (fun r h => ⟨fun c => (h c).2,
      Idealize.ShloMosaic.sem_eq_zero_of_no_sems (by decide) r.2⟩)
    (Cert.SwaFwdRefIdeal.Value.run (F := Ideal) m ρ)

/-- A function of three arguments at equal arguments. -/
theorem congr_three {α β γ δ : Type} (f : α → β → γ → δ) {a a' : α} {b b' : β} {c c' : γ}
    (ha : a = a') (hb : b = b') (hc : c = c') : f a b c = f a' b' c' := by
  subst ha hb hc; rfl

set_option maxHeartbeats 4000000 in
/-- The sliding-window attention's kernel and its reference give the same array on real arguments. -/
theorem algebraic_SwaFwd : Cert.algebraic_SwaFwdIdeal_SwaFwdRefIdeal_pre_swafwd_real := by
  pair_intro
  · run_from Cert.SwaFwdIdeal.Gen.run_main m g
  · refine θ_run_mono (Cert.SwaFwdRefIdeal.Value.run (F := Ideal) m' g') ?_
    intro r hr c
    have h := hr c
    have a := hagree c
    have p := Cert.SwaFwdRefIdeal.Value.real_of_pre _ _ _ (hpre c)
    refine ⟨h.1.trans ?_, h.2⟩
    refine (Cert.SwaFwdRefIdeal.Read.val_main_v68_eq m' c).trans ?_
    refine (congr_three (Cert.SwaFwdRefIdeal.Read.val_main_v68 (F := Ideal)) a.1 a.2.1 a.2.2).trans ?_
    exact (Cert.SwaFwdRefIdeal.Value.ref_68 _ _ _ p.1 p.2.1 p.2.2).trans (Cert.SwaFwdIdeal.Value.final m c).symm

end Cert.Proof

end
-- ==== Proof.LnFwdVal.lean ====
/- The kernel of the layer norm: its two results are the normalised rows and the same rows again, cast. -/
module

public import proofs.«01_k».proof.Defs
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdIdeal.Value
public import proofs.«01_k».proof.Proof.Gen.LnFwdRefIdeal
public import proofs.«01_k».proof.Proof.Gen.LnFwdRefIdeal.Run
public import proofs.«01_k».proof.Proof.Gen.LnFwdRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.LnFwdIdeal.Value

open Cert.LnFwdIdeal Cert.LnFwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The length of a row, and the term that keeps the variance off zero. -/
abbrev len : EReal := Ideal.ofBits .f32 0x45000000#32
abbrev eps : EReal := Ideal.ofBits .f32 0x3727C5AC#32

/-- The mean of a row. -/
def mean (z : Fin 2048 → EReal) : EReal := Ideal.div (∑ k : Fin 2048, z k) len

/-- An entry of a row normalised: the row's mean taken off, over the row's deviation. -/
def norm (z : Fin 2048 → EReal) (w : EReal) : EReal :=
  (w - mean z) * Ideal.rsqrt (mean (fun j => (z j - mean z) * (z j - mean z)) + eps)

theorem pay (z g b) (i : S512x2048.Idx) : k0_pay1 (F := Ideal) z g b i
    = norm (fun k => z (ix2 (i 0) k)) (z i) * g (ix2 0 (i 1)) + b (ix2 0 (i 1)) := by
  pointwise [k0_pay1]
  rfl

theorem pay' (z g b) (i : S512x2048.Idx) : k0_pay2 (F := Ideal) z g b i = k0_pay1 (F := Ideal) z g b i := rfl

theorem ref (z g b) (i : S8192x2048.Idx) : Cert.LnFwdRefIdeal.Read.val_main_v21 (F := Ideal) z g b i
    = norm (fun k => z (ix2 (i 0) k)) (z i) * g (ix2 0 (i 1)) + b (ix2 0 (i 1)) := by
  pointwise [Cert.LnFwdRefIdeal.Read.val_main_v0, Cert.LnFwdRefIdeal.Read.val_main_v1, Cert.LnFwdRefIdeal.Read.val_main_v2, Cert.LnFwdRefIdeal.Read.val_main_v3, Cert.LnFwdRefIdeal.Read.val_main_v4, Cert.LnFwdRefIdeal.Read.val_main_v5, Cert.LnFwdRefIdeal.Read.val_main_v6, Cert.LnFwdRefIdeal.Read.val_main_v7, Cert.LnFwdRefIdeal.Read.val_main_v8, Cert.LnFwdRefIdeal.Read.val_main_v9, Cert.LnFwdRefIdeal.Read.val_main_v10, Cert.LnFwdRefIdeal.Read.val_main_v11, Cert.LnFwdRefIdeal.Read.val_main_v12, Cert.LnFwdRefIdeal.Read.val_main_v13, Cert.LnFwdRefIdeal.Read.val_main_v14, Cert.LnFwdRefIdeal.Read.val_main_v15, Cert.LnFwdRefIdeal.Read.val_main_v16, Cert.LnFwdRefIdeal.Read.val_main_v17, Cert.LnFwdRefIdeal.Read.val_main_v18, Cert.LnFwdRefIdeal.Read.val_main_v19, Cert.LnFwdRefIdeal.Read.val_main_v20, Cert.LnFwdRefIdeal.Read.val_main_v21, Cert.LnFwdRefIdeal.Read.val_main_cst, Cert.LnFwdRefIdeal.Read.val_main_cst_0, Cert.LnFwdRefIdeal.Read.val_main_cst_1, Cert.LnFwdRefIdeal.Read.val_main_cst_2, Cert.LnFwdRefIdeal.Read.val_main_cst_3]
  rfl

theorem ref' (z g b) (i : S8192x2048.Idx) : Cert.LnFwdRefIdeal.Read.val_main_v22 (F := Ideal) z g b i = Cert.LnFwdRefIdeal.Read.val_main_v21 (F := Ideal) z g b i := rfl

variable (c : Dev nD)

theorem is0 (t : Fin cfg0.N) (x : S512x2048.Idx) (i : S8192x2048.Idx) (h0 : (i 0 : ℕ) = t.val * 512 + x 0) (h1 : (i 1 : ℕ) = x 1) :
    iblk m c 0 t x = (m ((c : Thread nD τ).loc main_arg0)) i := by
  blk_ext [iblk, V, idx t]

theorem is1 (t : Fin cfg0.N) (x i : S1x2048.Idx) (h0 : (i 0 : ℕ) = x 0) (h1 : (i 1 : ℕ) = x 1) :
    iblk m c 1 t x = (m ((c : Thread nD τ).loc main_arg1)) i := by
  blk_ext [iblk, V, idx t]

theorem is2 (t : Fin cfg0.N) (x i : S1x2048.Idx) (h0 : (i 0 : ℕ) = x 0) (h1 : (i 1 : ℕ) = x 1) :
    iblk m c 2 t x = (m ((c : Thread nD τ).loc main_arg2)) i := by
  blk_ext [iblk, V, idx t]

theorem point (t : Fin cfg0.N) (y : S512x2048.Idx) (i : S8192x2048.Idx) (h0 : (i 0 : ℕ) = t.val * 512 + y 0) (h1 : (i 1 : ℕ) = y 1) :
    k0_pay1 (F := Ideal) (iblk m c 0 t) (iblk m c 1 t) (iblk m c 2 t) y = Cert.LnFwdRefIdeal.Read.val_main_v21 (F := Ideal) (m ((c : Thread nD τ).loc main_arg0)) (m ((c : Thread nD τ).loc main_arg1)) (m ((c : Thread nD τ).loc main_arg2)) i := by
  have e : i 1 = y 1 := Fin.ext h1
  rw [pay, ref, e]
  refine congrArg₂ (· + ·) (congrArg₂ (· * ·) (congrArg₂ norm (funext fun k => ?_) ?_) ?_) ?_
  · exact is0 m c t _ _ h0 rfl
  · exact is0 m c t _ _ h0 h1
  · exact is1 m c t _ _ rfl rfl
  · exact is2 m c t _ _ rfl rfl

theorem final_out : (dats m 0 c).arrAt 3 (cfgs 0).N = Cert.LnFwdRefIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y _ (by blk_simp [idx t]) (by blk_simp [idx t])

theorem final_cast : (dats m 0 c).arrAt 4 (cfgs 0).N = Cert.LnFwdRefIdeal.Read.val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  exact (pay' _ _ _ y).trans ((point m c t y _ (by blk_simp [idx t]) (by blk_simp [idx t])).trans (ref' _ _ _ _).symm)

end Cert.LnFwdIdeal.Value

namespace Cert.Proof

open Idealize.ShloMosaic Idealize.SL.Sem

/-- The reference of the layer norm runs, leaves its arguments as they were, and ends with every counter at zero. -/
theorem frame_LnFwdRef : Cert.quiescent_LnFwdRefIdeal := fun m ρ _ =>
  (θ_run Cert.LnFwdRefIdeal.defs _ _).mono (fun r h => ⟨fun c => (h c).2.2,
      Idealize.ShloMosaic.sem_eq_zero_of_no_sems (by decide) r.2⟩)
    (Cert.LnFwdRefIdeal.Value.run (F := Ideal) m ρ)

set_option maxHeartbeats 4000000 in
/-- The layer norm and its reference give the same two arrays. -/
theorem algebraic_LnFwd : Cert.algebraic_LnFwdIdeal_LnFwdRefIdeal := by
  pair_intro
  · run_from Cert.LnFwdIdeal.Gen.run_main m g
  · refine θ_run_mono (Cert.LnFwdRefIdeal.Value.run (F := Ideal) m' g') ?_
    intro r hr c
    have h := hr c
    have a := hagree c
    refine ⟨h.1.trans ?_, h.2.1.trans ?_, h.2.2⟩
    · refine (Cert.LnFwdRefIdeal.Read.val_main_v21_eq _ _ _).trans ?_
      rw [a.1, a.2.1, a.2.2]
      exact (Cert.LnFwdIdeal.Value.final_out m c).symm
    · refine (Cert.LnFwdRefIdeal.Read.val_main_v22_eq _ _ _).trans ?_
      rw [a.1, a.2.1, a.2.2]
      exact (Cert.LnFwdIdeal.Value.final_cast m c).symm

end Cert.Proof

end
-- ==== Proof.AdamInVal.lean ====
/- The kernel of AdamW's step of the input projection from its gradient's four parts. -/
module

public import proofs.«01_k».proof.Defs
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamInIdeal.Value

open Cert.AdamInIdeal Cert.AdamInIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S2048x1186.Idx) : S4x2048x1280.Idx := ix3 k (i 0) ⟨(i 1).val, by have h : (i 1).val < 1186 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x1186.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x1186.Idx) : k0_pay3 (F := Ideal) p q r s u y = avg (k0_pay2 (F := Ideal) p q r s y) (u y) := rfl
theorem pay_v (p q r s u) (y : S256x1186.Idx) : k0_pay4 (F := Ideal) p q r s u y = avg2 (k0_pay2 (F := Ideal) p q r s y) (u y) := rfl
theorem pay_d (p q r s w u v) (y : S256x1186.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S2048x1186.Idx) : Cert.AdamInRefIdeal.Read.val_main_v2 (F := Ideal) p i = 0 + ∑ k : Fin 4, p (at_ k i) := by
  pointwise [Cert.AdamInRefIdeal.Read.val_main_v0, Cert.AdamInRefIdeal.Read.val_main_v1, Cert.AdamInRefIdeal.Read.val_main_v2, Cert.AdamInRefIdeal.Read.val_main_cst]
  try rfl

theorem ref_m (p u) (i : S2048x1186.Idx) : Cert.AdamInRefIdeal.Read.val_main_v7 (F := Ideal) p u i = avg (Cert.AdamInRefIdeal.Read.val_main_v2 (F := Ideal) p i) (u i) := by
  pointwise [Cert.AdamInRefIdeal.Read.val_main_v3, Cert.AdamInRefIdeal.Read.val_main_v4, Cert.AdamInRefIdeal.Read.val_main_v5, Cert.AdamInRefIdeal.Read.val_main_v6, Cert.AdamInRefIdeal.Read.val_main_v7, Cert.AdamInRefIdeal.Read.val_main_cst_0, Cert.AdamInRefIdeal.Read.val_main_cst_1]
  try rfl

theorem ref_v (p u) (i : S2048x1186.Idx) : Cert.AdamInRefIdeal.Read.val_main_v13 (F := Ideal) p u i = avg2 (Cert.AdamInRefIdeal.Read.val_main_v2 (F := Ideal) p i) (u i) := by
  pointwise [Cert.AdamInRefIdeal.Read.val_main_v8, Cert.AdamInRefIdeal.Read.val_main_v9, Cert.AdamInRefIdeal.Read.val_main_v10, Cert.AdamInRefIdeal.Read.val_main_v11, Cert.AdamInRefIdeal.Read.val_main_v12, Cert.AdamInRefIdeal.Read.val_main_v13, Cert.AdamInRefIdeal.Read.val_main_cst_2, Cert.AdamInRefIdeal.Read.val_main_cst_3]
  try rfl

theorem ref_d (w p u v) (i : S2048x1186.Idx) : Cert.AdamInRefIdeal.Read.val_main_v26 (F := Ideal) w p u v i = step (w i) (Cert.AdamInRefIdeal.Read.val_main_v7 (F := Ideal) p u i) (Cert.AdamInRefIdeal.Read.val_main_v13 (F := Ideal) p v i) := by
  pointwise [Cert.AdamInRefIdeal.Read.val_main_v14, Cert.AdamInRefIdeal.Read.val_main_v15, Cert.AdamInRefIdeal.Read.val_main_v16, Cert.AdamInRefIdeal.Read.val_main_v17, Cert.AdamInRefIdeal.Read.val_main_v18, Cert.AdamInRefIdeal.Read.val_main_v19, Cert.AdamInRefIdeal.Read.val_main_v20, Cert.AdamInRefIdeal.Read.val_main_v21, Cert.AdamInRefIdeal.Read.val_main_v22, Cert.AdamInRefIdeal.Read.val_main_v23, Cert.AdamInRefIdeal.Read.val_main_v24, Cert.AdamInRefIdeal.Read.val_main_v25, Cert.AdamInRefIdeal.Read.val_main_v26, Cert.AdamInRefIdeal.Read.val_main_cst_4, Cert.AdamInRefIdeal.Read.val_main_cst_5, Cert.AdamInRefIdeal.Read.val_main_cst_6, Cert.AdamInRefIdeal.Read.val_main_cst_7, Cert.AdamInRefIdeal.Read.val_main_cst_8]
  try rfl

variable (c : Dev nD)

theorem is0 (t : Fin cfg0.N) (x : S256x1186.Idx) (i : S2048x1186.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x1186.Idx) (i : S2048x1186.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x1186.Idx) (i : S2048x1186.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x1280.Idx) (i : S4x2048x1280.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x1186.Idx) (i : S2048x1186.Idx) (h0 : (i 0 : ℕ) = t.val * 256 + y 0) (h1 : (i 1 : ℕ) = y 1) :
    View.ld (iblk m c 1 t) (Rect.unit (s := S4x256x1280) ![0, 0, 0] S1x256x1186.size inb_S4x256x1280_S1x256x1186_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x1280) ![0, 0, 0] S1x256x1186.size inb_S4x256x1280_S1x256x1186_0_0_0 (ix3 0 (y 0) (y 1)) 0).symm
  · exact ((Rect.idx_unit_val (s := S4x256x1280) ![0, 0, 0] S1x256x1186.size inb_S4x256x1280_S1x256x1186_0_0_0 (ix3 0 (y 0) (y 1)) 1).trans (Nat.zero_add _)).symm
  · exact ((Rect.idx_unit_val (s := S4x256x1280) ![0, 0, 0] S1x256x1186.size inb_S4x256x1280_S1x256x1186_0_0_0 (ix3 0 (y 0) (y 1)) 2).trans (Nat.zero_add _)).symm

theorem ld1 (t : Fin cfg0.N) (y : S256x1186.Idx) (i : S2048x1186.Idx) (h0 : (i 0 : ℕ) = t.val * 256 + y 0) (h1 : (i 1 : ℕ) = y 1) :
    View.ld (iblk m c 1 t) (Rect.unit (s := S4x256x1280) ![1, 0, 0] S1x256x1186.size inb_S4x256x1280_S1x256x1186_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x1280) ![1, 0, 0] S1x256x1186.size inb_S4x256x1280_S1x256x1186_1_0_0 (ix3 0 (y 0) (y 1)) 0).symm
  · exact ((Rect.idx_unit_val (s := S4x256x1280) ![1, 0, 0] S1x256x1186.size inb_S4x256x1280_S1x256x1186_1_0_0 (ix3 0 (y 0) (y 1)) 1).trans (Nat.zero_add _)).symm
  · exact ((Rect.idx_unit_val (s := S4x256x1280) ![1, 0, 0] S1x256x1186.size inb_S4x256x1280_S1x256x1186_1_0_0 (ix3 0 (y 0) (y 1)) 2).trans (Nat.zero_add _)).symm

theorem ld2 (t : Fin cfg0.N) (y : S256x1186.Idx) (i : S2048x1186.Idx) (h0 : (i 0 : ℕ) = t.val * 256 + y 0) (h1 : (i 1 : ℕ) = y 1) :
    View.ld (iblk m c 1 t) (Rect.unit (s := S4x256x1280) ![2, 0, 0] S1x256x1186.size inb_S4x256x1280_S1x256x1186_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x1280) ![2, 0, 0] S1x256x1186.size inb_S4x256x1280_S1x256x1186_2_0_0 (ix3 0 (y 0) (y 1)) 0).symm
  · exact ((Rect.idx_unit_val (s := S4x256x1280) ![2, 0, 0] S1x256x1186.size inb_S4x256x1280_S1x256x1186_2_0_0 (ix3 0 (y 0) (y 1)) 1).trans (Nat.zero_add _)).symm
  · exact ((Rect.idx_unit_val (s := S4x256x1280) ![2, 0, 0] S1x256x1186.size inb_S4x256x1280_S1x256x1186_2_0_0 (ix3 0 (y 0) (y 1)) 2).trans (Nat.zero_add _)).symm

theorem ld3 (t : Fin cfg0.N) (y : S256x1186.Idx) (i : S2048x1186.Idx) (h0 : (i 0 : ℕ) = t.val * 256 + y 0) (h1 : (i 1 : ℕ) = y 1) :
    View.ld (iblk m c 1 t) (Rect.unit (s := S4x256x1280) ![3, 0, 0] S1x256x1186.size inb_S4x256x1280_S1x256x1186_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x1280) ![3, 0, 0] S1x256x1186.size inb_S4x256x1280_S1x256x1186_3_0_0 (ix3 0 (y 0) (y 1)) 0).symm
  · exact ((Rect.idx_unit_val (s := S4x256x1280) ![3, 0, 0] S1x256x1186.size inb_S4x256x1280_S1x256x1186_3_0_0 (ix3 0 (y 0) (y 1)) 1).trans (Nat.zero_add _)).symm
  · exact ((Rect.idx_unit_val (s := S4x256x1280) ![3, 0, 0] S1x256x1186.size inb_S4x256x1280_S1x256x1186_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x1186.Idx) (i : S2048x1186.Idx) (h0 : (i 0 : ℕ) = t.val * 256 + y 0) (h1 : (i 1 : ℕ) = y 1) :
    k0_pay2 (F := Ideal) (View.ld (iblk m c 1 t) (Rect.unit (s := S4x256x1280) ![0, 0, 0] S1x256x1186.size inb_S4x256x1280_S1x256x1186_0_0_0)) (View.ld (iblk m c 1 t) (Rect.unit (s := S4x256x1280) ![1, 0, 0] S1x256x1186.size inb_S4x256x1280_S1x256x1186_1_0_0)) (View.ld (iblk m c 1 t) (Rect.unit (s := S4x256x1280) ![2, 0, 0] S1x256x1186.size inb_S4x256x1280_S1x256x1186_2_0_0)) (View.ld (iblk m c 1 t) (Rect.unit (s := S4x256x1280) ![3, 0, 0] S1x256x1186.size inb_S4x256x1280_S1x256x1186_3_0_0)) y = Cert.AdamInRefIdeal.Read.val_main_v2 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x1186.Idx) (i : S2048x1186.Idx) (h0 : (i 0 : ℕ) = t.val * 256 + y 0) (h1 : (i 1 : ℕ) = y 1) :
    k0_pay3 (F := Ideal) (View.ld (iblk m c 1 t) (Rect.unit (s := S4x256x1280) ![0, 0, 0] S1x256x1186.size inb_S4x256x1280_S1x256x1186_0_0_0)) (View.ld (iblk m c 1 t) (Rect.unit (s := S4x256x1280) ![1, 0, 0] S1x256x1186.size inb_S4x256x1280_S1x256x1186_1_0_0)) (View.ld (iblk m c 1 t) (Rect.unit (s := S4x256x1280) ![2, 0, 0] S1x256x1186.size inb_S4x256x1280_S1x256x1186_2_0_0)) (View.ld (iblk m c 1 t) (Rect.unit (s := S4x256x1280) ![3, 0, 0] S1x256x1186.size inb_S4x256x1280_S1x256x1186_3_0_0)) (iblk m c 2 t) y = Cert.AdamInRefIdeal.Read.val_main_v7 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x1186.Idx) (i : S2048x1186.Idx) (h0 : (i 0 : ℕ) = t.val * 256 + y 0) (h1 : (i 1 : ℕ) = y 1) :
    k0_pay4 (F := Ideal) (View.ld (iblk m c 1 t) (Rect.unit (s := S4x256x1280) ![0, 0, 0] S1x256x1186.size inb_S4x256x1280_S1x256x1186_0_0_0)) (View.ld (iblk m c 1 t) (Rect.unit (s := S4x256x1280) ![1, 0, 0] S1x256x1186.size inb_S4x256x1280_S1x256x1186_1_0_0)) (View.ld (iblk m c 1 t) (Rect.unit (s := S4x256x1280) ![2, 0, 0] S1x256x1186.size inb_S4x256x1280_S1x256x1186_2_0_0)) (View.ld (iblk m c 1 t) (Rect.unit (s := S4x256x1280) ![3, 0, 0] S1x256x1186.size inb_S4x256x1280_S1x256x1186_3_0_0)) (iblk m c 3 t) y = Cert.AdamInRefIdeal.Read.val_main_v13 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x1186.Idx) (i : S2048x1186.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x1280) ![0, 0, 0] S1x256x1186.size inb_S4x256x1280_S1x256x1186_0_0_0)) (View.ld (iblk m c 1 t) (Rect.unit (s := S4x256x1280) ![1, 0, 0] S1x256x1186.size inb_S4x256x1280_S1x256x1186_1_0_0)) (View.ld (iblk m c 1 t) (Rect.unit (s := S4x256x1280) ![2, 0, 0] S1x256x1186.size inb_S4x256x1280_S1x256x1186_2_0_0)) (View.ld (iblk m c 1 t) (Rect.unit (s := S4x256x1280) ![3, 0, 0] S1x256x1186.size inb_S4x256x1280_S1x256x1186_3_0_0)) (iblk m c 3 t)) (k0_pay5 (F := Ideal) (View.ld (iblk m c 1 t) (Rect.unit (s := S4x256x1280) ![0, 0, 0] S1x256x1186.size inb_S4x256x1280_S1x256x1186_0_0_0)) (View.ld (iblk m c 1 t) (Rect.unit (s := S4x256x1280) ![1, 0, 0] S1x256x1186.size inb_S4x256x1280_S1x256x1186_1_0_0)) (View.ld (iblk m c 1 t) (Rect.unit (s := S4x256x1280) ![2, 0, 0] S1x256x1186.size inb_S4x256x1280_S1x256x1186_2_0_0)) (View.ld (iblk m c 1 t) (Rect.unit (s := S4x256x1280) ![3, 0, 0] S1x256x1186.size inb_S4x256x1280_S1x256x1186_3_0_0)) (iblk m c 2 t)) (Ideal.ofBits .f32 0x3C231ACC#32) y
      = Cert.AdamInRefIdeal.Read.val_main_v26 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamInRefIdeal.Read.val_main_v2 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamInRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamInRefIdeal.Read.val_main_v7 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamInRefIdeal.Read.val_main_v13 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamInIdeal.Value

namespace Cert.Proof

open Idealize.ShloMosaic Idealize.SL.Sem

/-- The reference of the step of the input projection runs, leaves its arguments as they were, and ends with every counter at zero. -/
theorem frame_AdamInRef : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

set_option maxHeartbeats 4000000 in
/-- The step of the input projection and its reference give the same four arrays. -/
theorem algebraic_AdamIn : Cert.algebraic_AdamInIdeal_AdamInRefIdeal := by
  pair_intro
  · run_from Cert.AdamInIdeal.Gen.run_main m g
  · refine θ_run_mono (Cert.AdamInRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamInRefIdeal.Read.val_main_v2_eq _).trans ?_
      rw [a.2.1]
      exact (Cert.AdamInIdeal.Value.final_g m c).symm
    · refine (Cert.AdamInRefIdeal.Read.val_main_v26_eq _ _ _ _).trans ?_
      rw [a.1, a.2.1, a.2.2.1, a.2.2.2]
      exact (Cert.AdamInIdeal.Value.final_d m c).symm
    · refine (Cert.AdamInRefIdeal.Read.val_main_v7_eq _ _).trans ?_
      rw [a.2.1, a.2.2.1]
      exact (Cert.AdamInIdeal.Value.final_m m c).symm
    · refine (Cert.AdamInRefIdeal.Read.val_main_v13_eq _ _).trans ?_
      rw [a.2.1, a.2.2.2]
      exact (Cert.AdamInIdeal.Value.final_v m c).symm

end Cert.Proof

end
-- ==== Proof.AdamBrVal.lean ====
/- The kernel of AdamW's step of a branch's output projection from its gradient's four parts. -/
module

public import proofs.«01_k».proof.Defs
public import proofs.«01_k».proof.Proof.Gen.AdamBrIdeal
public import proofs.«01_k».proof.Proof.Gen.AdamBrIdeal.Skeleton
public import proofs.«01_k».proof.Proof.Gen.AdamBrIdeal.Launch
public import proofs.«01_k».proof.Proof.Gen.AdamBrIdeal.Points
public import proofs.«01_k».proof.Proof.Gen.AdamBrIdeal.Frame
public import proofs.«01_k».proof.Proof.Gen.AdamBrIdeal.Value
public import proofs.«01_k».proof.Proof.Gen.AdamBrRefIdeal
public import proofs.«01_k».proof.Proof.Gen.AdamBrRefIdeal.Run
public import proofs.«01_k».proof.Proof.Gen.AdamBrRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamBrIdeal.Value

open Cert.AdamBrIdeal Cert.AdamBrIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S1024x256.Idx) : S4x1024x256.Idx := ix3 k (i 0) ⟨(i 1).val, by have h : (i 1).val < 256 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x256.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x256.Idx) : k0_pay3 (F := Ideal) p q r s u y = avg (k0_pay2 (F := Ideal) p q r s y) (u y) := rfl
theorem pay_v (p q r s u) (y : S256x256.Idx) : k0_pay4 (F := Ideal) p q r s u y = avg2 (k0_pay2 (F := Ideal) p q r s y) (u y) := rfl
theorem pay_d (p q r s w u v) (y : S256x256.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S1024x256.Idx) : Cert.AdamBrRefIdeal.Read.val_main_v1 (F := Ideal) p i = 0 + ∑ k : Fin 4, p (at_ k i) := by
  pointwise [Cert.AdamBrRefIdeal.Read.val_main_v0, Cert.AdamBrRefIdeal.Read.val_main_v1, Cert.AdamBrRefIdeal.Read.val_main_cst]
  try rfl

theorem ref_m (p u) (i : S1024x256.Idx) : Cert.AdamBrRefIdeal.Read.val_main_v6 (F := Ideal) p u i = avg (Cert.AdamBrRefIdeal.Read.val_main_v1 (F := Ideal) p i) (u i) := by
  pointwise [Cert.AdamBrRefIdeal.Read.val_main_v2, Cert.AdamBrRefIdeal.Read.val_main_v3, Cert.AdamBrRefIdeal.Read.val_main_v4, Cert.AdamBrRefIdeal.Read.val_main_v5, Cert.AdamBrRefIdeal.Read.val_main_v6, Cert.AdamBrRefIdeal.Read.val_main_cst_0, Cert.AdamBrRefIdeal.Read.val_main_cst_1]
  try rfl

theorem ref_v (p u) (i : S1024x256.Idx) : Cert.AdamBrRefIdeal.Read.val_main_v12 (F := Ideal) p u i = avg2 (Cert.AdamBrRefIdeal.Read.val_main_v1 (F := Ideal) p i) (u i) := by
  pointwise [Cert.AdamBrRefIdeal.Read.val_main_v7, Cert.AdamBrRefIdeal.Read.val_main_v8, Cert.AdamBrRefIdeal.Read.val_main_v9, Cert.AdamBrRefIdeal.Read.val_main_v10, Cert.AdamBrRefIdeal.Read.val_main_v11, Cert.AdamBrRefIdeal.Read.val_main_v12, Cert.AdamBrRefIdeal.Read.val_main_cst_2, Cert.AdamBrRefIdeal.Read.val_main_cst_3]
  try rfl

theorem ref_d (w p u v) (i : S1024x256.Idx) : Cert.AdamBrRefIdeal.Read.val_main_v25 (F := Ideal) w p u v i = step (w i) (Cert.AdamBrRefIdeal.Read.val_main_v6 (F := Ideal) p u i) (Cert.AdamBrRefIdeal.Read.val_main_v12 (F := Ideal) p v i) := by
  pointwise [Cert.AdamBrRefIdeal.Read.val_main_v13, Cert.AdamBrRefIdeal.Read.val_main_v14, Cert.AdamBrRefIdeal.Read.val_main_v15, Cert.AdamBrRefIdeal.Read.val_main_v16, Cert.AdamBrRefIdeal.Read.val_main_v17, Cert.AdamBrRefIdeal.Read.val_main_v18, Cert.AdamBrRefIdeal.Read.val_main_v19, Cert.AdamBrRefIdeal.Read.val_main_v20, Cert.AdamBrRefIdeal.Read.val_main_v21, Cert.AdamBrRefIdeal.Read.val_main_v22, Cert.AdamBrRefIdeal.Read.val_main_v23, Cert.AdamBrRefIdeal.Read.val_main_v24, Cert.AdamBrRefIdeal.Read.val_main_v25, Cert.AdamBrRefIdeal.Read.val_main_cst_4, Cert.AdamBrRefIdeal.Read.val_main_cst_5, Cert.AdamBrRefIdeal.Read.val_main_cst_6, Cert.AdamBrRefIdeal.Read.val_main_cst_7, Cert.AdamBrRefIdeal.Read.val_main_cst_8]
  try rfl

variable (c : Dev nD)

theorem is0 (t : Fin cfg0.N) (x : S256x256.Idx) (i : S1024x256.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x256.Idx) (i : S1024x256.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x256.Idx) (i : S1024x256.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x256.Idx) (i : S4x1024x256.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x256.Idx) (i : S1024x256.Idx) (h0 : (i 0 : ℕ) = t.val * 256 + y 0) (h1 : (i 1 : ℕ) = y 1) :
    View.ld (iblk m c 1 t) (Rect.unit (s := S4x256x256) ![0, 0, 0] S1x256x256.size inb_S4x256x256_S1x256x256_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x256) ![0, 0, 0] S1x256x256.size inb_S4x256x256_S1x256x256_0_0_0 (ix3 0 (y 0) (y 1)) 0).symm
  · exact ((Rect.idx_unit_val (s := S4x256x256) ![0, 0, 0] S1x256x256.size inb_S4x256x256_S1x256x256_0_0_0 (ix3 0 (y 0) (y 1)) 1).trans (Nat.zero_add _)).symm
  · exact ((Rect.idx_unit_val (s := S4x256x256) ![0, 0, 0] S1x256x256.size inb_S4x256x256_S1x256x256_0_0_0 (ix3 0 (y 0) (y 1)) 2).trans (Nat.zero_add _)).symm

theorem ld1 (t : Fin cfg0.N) (y : S256x256.Idx) (i : S1024x256.Idx) (h0 : (i 0 : ℕ) = t.val * 256 + y 0) (h1 : (i 1 : ℕ) = y 1) :
    View.ld (iblk m c 1 t) (Rect.unit (s := S4x256x256) ![1, 0, 0] S1x256x256.size inb_S4x256x256_S1x256x256_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x256) ![1, 0, 0] S1x256x256.size inb_S4x256x256_S1x256x256_1_0_0 (ix3 0 (y 0) (y 1)) 0).symm
  · exact ((Rect.idx_unit_val (s := S4x256x256) ![1, 0, 0] S1x256x256.size inb_S4x256x256_S1x256x256_1_0_0 (ix3 0 (y 0) (y 1)) 1).trans (Nat.zero_add _)).symm
  · exact ((Rect.idx_unit_val (s := S4x256x256) ![1, 0, 0] S1x256x256.size inb_S4x256x256_S1x256x256_1_0_0 (ix3 0 (y 0) (y 1)) 2).trans (Nat.zero_add _)).symm

theorem ld2 (t : Fin cfg0.N) (y : S256x256.Idx) (i : S1024x256.Idx) (h0 : (i 0 : ℕ) = t.val * 256 + y 0) (h1 : (i 1 : ℕ) = y 1) :
    View.ld (iblk m c 1 t) (Rect.unit (s := S4x256x256) ![2, 0, 0] S1x256x256.size inb_S4x256x256_S1x256x256_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x256) ![2, 0, 0] S1x256x256.size inb_S4x256x256_S1x256x256_2_0_0 (ix3 0 (y 0) (y 1)) 0).symm
  · exact ((Rect.idx_unit_val (s := S4x256x256) ![2, 0, 0] S1x256x256.size inb_S4x256x256_S1x256x256_2_0_0 (ix3 0 (y 0) (y 1)) 1).trans (Nat.zero_add _)).symm
  · exact ((Rect.idx_unit_val (s := S4x256x256) ![2, 0, 0] S1x256x256.size inb_S4x256x256_S1x256x256_2_0_0 (ix3 0 (y 0) (y 1)) 2).trans (Nat.zero_add _)).symm

theorem ld3 (t : Fin cfg0.N) (y : S256x256.Idx) (i : S1024x256.Idx) (h0 : (i 0 : ℕ) = t.val * 256 + y 0) (h1 : (i 1 : ℕ) = y 1) :
    View.ld (iblk m c 1 t) (Rect.unit (s := S4x256x256) ![3, 0, 0] S1x256x256.size inb_S4x256x256_S1x256x256_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x256) ![3, 0, 0] S1x256x256.size inb_S4x256x256_S1x256x256_3_0_0 (ix3 0 (y 0) (y 1)) 0).symm
  · exact ((Rect.idx_unit_val (s := S4x256x256) ![3, 0, 0] S1x256x256.size inb_S4x256x256_S1x256x256_3_0_0 (ix3 0 (y 0) (y 1)) 1).trans (Nat.zero_add _)).symm
  · exact ((Rect.idx_unit_val (s := S4x256x256) ![3, 0, 0] S1x256x256.size inb_S4x256x256_S1x256x256_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x256.Idx) (i : S1024x256.Idx) (h0 : (i 0 : ℕ) = t.val * 256 + y 0) (h1 : (i 1 : ℕ) = y 1) :
    k0_pay2 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) y = Cert.AdamBrRefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x256.Idx) (i : S1024x256.Idx) (h0 : (i 0 : ℕ) = t.val * 256 + y 0) (h1 : (i 1 : ℕ) = y 1) :
    k0_pay3 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 2 t) y = Cert.AdamBrRefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x256.Idx) (i : S1024x256.Idx) (h0 : (i 0 : ℕ) = t.val * 256 + y 0) (h1 : (i 1 : ℕ) = y 1) :
    k0_pay4 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 3 t) y = Cert.AdamBrRefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x256.Idx) (i : S1024x256.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 3 t)) (k0_pay5 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 2 t)) (Ideal.ofBits .f32 0x3C231ACC#32) y
      = Cert.AdamBrRefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamBrRefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamBrRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamBrRefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamBrRefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamBrIdeal.Value

namespace Cert.Proof

open Idealize.ShloMosaic Idealize.SL.Sem

/-- The reference of the step of a branch's output projection runs, leaves its arguments as they were, and ends with every counter at zero. -/
theorem frame_AdamBrRef : Cert.quiescent_AdamBrRefIdeal := fun m ρ _ =>
  (θ_run Cert.AdamBrRefIdeal.defs _ _).mono (fun r h => ⟨fun c => (h c).2.2.2.2,
      Idealize.ShloMosaic.sem_eq_zero_of_no_sems (by decide) r.2⟩)
    (Cert.AdamBrRefIdeal.Value.run (F := Ideal) m ρ)

set_option maxHeartbeats 4000000 in
/-- The step of a branch's output projection and its reference give the same four arrays. -/
theorem algebraic_AdamBr : Cert.algebraic_AdamBrIdeal_AdamBrRefIdeal := by
  pair_intro
  · run_from Cert.AdamBrIdeal.Gen.run_main m g
  · refine θ_run_mono (Cert.AdamBrRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamBrRefIdeal.Read.val_main_v1_eq _).trans ?_
      rw [a.2.1]
      exact (Cert.AdamBrIdeal.Value.final_g m c).symm
    · refine (Cert.AdamBrRefIdeal.Read.val_main_v25_eq _ _ _ _).trans ?_
      rw [a.1, a.2.1, a.2.2.1, a.2.2.2]
      exact (Cert.AdamBrIdeal.Value.final_d m c).symm
    · refine (Cert.AdamBrRefIdeal.Read.val_main_v6_eq _ _).trans ?_
      rw [a.2.1, a.2.2.1]
      exact (Cert.AdamBrIdeal.Value.final_m m c).symm
    · refine (Cert.AdamBrRefIdeal.Read.val_main_v12_eq _ _).trans ?_
      rw [a.2.1, a.2.2.2]
      exact (Cert.AdamBrIdeal.Value.final_v m c).symm

end Cert.Proof

end
-- ==== Proof.AdamMixVal.lean ====
/- The kernel of AdamW's step of the mixing projection from its gradient's four parts. -/
module

public import proofs.«01_k».proof.Defs
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixIdeal.Value
public import proofs.«01_k».proof.Proof.Gen.AdamMixRefIdeal
public import proofs.«01_k».proof.Proof.Gen.AdamMixRefIdeal.Run
public import proofs.«01_k».proof.Proof.Gen.AdamMixRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamMixIdeal.Value

open Cert.AdamMixIdeal Cert.AdamMixIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S256x2048.Idx) : S4x256x2048.Idx := ix3 k (i 0) ⟨(i 1).val, by have h : (i 1).val < 2048 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x2048.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x2048.Idx) : k0_pay3 (F := Ideal) p q r s u y = avg (k0_pay2 (F := Ideal) p q r s y) (u y) := rfl
theorem pay_v (p q r s u) (y : S256x2048.Idx) : k0_pay4 (F := Ideal) p q r s u y = avg2 (k0_pay2 (F := Ideal) p q r s y) (u y) := rfl
theorem pay_d (p q r s w u v) (y : S256x2048.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S256x2048.Idx) : Cert.AdamMixRefIdeal.Read.val_main_v1 (F := Ideal) p i = 0 + ∑ k : Fin 4, p (at_ k i) := by
  pointwise [Cert.AdamMixRefIdeal.Read.val_main_v0, Cert.AdamMixRefIdeal.Read.val_main_v1, Cert.AdamMixRefIdeal.Read.val_main_cst]
  try rfl

theorem ref_m (p u) (i : S256x2048.Idx) : Cert.AdamMixRefIdeal.Read.val_main_v6 (F := Ideal) p u i = avg (Cert.AdamMixRefIdeal.Read.val_main_v1 (F := Ideal) p i) (u i) := by
  pointwise [Cert.AdamMixRefIdeal.Read.val_main_v2, Cert.AdamMixRefIdeal.Read.val_main_v3, Cert.AdamMixRefIdeal.Read.val_main_v4, Cert.AdamMixRefIdeal.Read.val_main_v5, Cert.AdamMixRefIdeal.Read.val_main_v6, Cert.AdamMixRefIdeal.Read.val_main_cst_0, Cert.AdamMixRefIdeal.Read.val_main_cst_1]
  try rfl

theorem ref_v (p u) (i : S256x2048.Idx) : Cert.AdamMixRefIdeal.Read.val_main_v12 (F := Ideal) p u i = avg2 (Cert.AdamMixRefIdeal.Read.val_main_v1 (F := Ideal) p i) (u i) := by
  pointwise [Cert.AdamMixRefIdeal.Read.val_main_v7, Cert.AdamMixRefIdeal.Read.val_main_v8, Cert.AdamMixRefIdeal.Read.val_main_v9, Cert.AdamMixRefIdeal.Read.val_main_v10, Cert.AdamMixRefIdeal.Read.val_main_v11, Cert.AdamMixRefIdeal.Read.val_main_v12, Cert.AdamMixRefIdeal.Read.val_main_cst_2, Cert.AdamMixRefIdeal.Read.val_main_cst_3]
  try rfl

theorem ref_d (w p u v) (i : S256x2048.Idx) : Cert.AdamMixRefIdeal.Read.val_main_v25 (F := Ideal) w p u v i = step (w i) (Cert.AdamMixRefIdeal.Read.val_main_v6 (F := Ideal) p u i) (Cert.AdamMixRefIdeal.Read.val_main_v12 (F := Ideal) p v i) := by
  pointwise [Cert.AdamMixRefIdeal.Read.val_main_v13, Cert.AdamMixRefIdeal.Read.val_main_v14, Cert.AdamMixRefIdeal.Read.val_main_v15, Cert.AdamMixRefIdeal.Read.val_main_v16, Cert.AdamMixRefIdeal.Read.val_main_v17, Cert.AdamMixRefIdeal.Read.val_main_v18, Cert.AdamMixRefIdeal.Read.val_main_v19, Cert.AdamMixRefIdeal.Read.val_main_v20, Cert.AdamMixRefIdeal.Read.val_main_v21, Cert.AdamMixRefIdeal.Read.val_main_v22, Cert.AdamMixRefIdeal.Read.val_main_v23, Cert.AdamMixRefIdeal.Read.val_main_v24, Cert.AdamMixRefIdeal.Read.val_main_v25, Cert.AdamMixRefIdeal.Read.val_main_cst_4, Cert.AdamMixRefIdeal.Read.val_main_cst_5, Cert.AdamMixRefIdeal.Read.val_main_cst_6, Cert.AdamMixRefIdeal.Read.val_main_cst_7, Cert.AdamMixRefIdeal.Read.val_main_cst_8]
  try rfl

variable (c : Dev nD)

theorem is0 (t : Fin cfg0.N) (x : S256x2048.Idx) (i : S256x2048.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x2048.Idx) (i : S256x2048.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x2048.Idx) (i : S256x2048.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x2048.Idx) (i : S4x256x2048.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x2048.Idx) (i : S256x2048.Idx) (h0 : (i 0 : ℕ) = t.val * 256 + y 0) (h1 : (i 1 : ℕ) = y 1) :
    View.ld (iblk m c 1 t) (Rect.unit (s := S4x256x2048) ![0, 0, 0] S1x256x2048.size inb_S4x256x2048_S1x256x2048_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x2048) ![0, 0, 0] S1x256x2048.size inb_S4x256x2048_S1x256x2048_0_0_0 (ix3 0 (y 0) (y 1)) 0).symm
  · exact ((Rect.idx_unit_val (s := S4x256x2048) ![0, 0, 0] S1x256x2048.size inb_S4x256x2048_S1x256x2048_0_0_0 (ix3 0 (y 0) (y 1)) 1).trans (Nat.zero_add _)).symm
  · exact ((Rect.idx_unit_val (s := S4x256x2048) ![0, 0, 0] S1x256x2048.size inb_S4x256x2048_S1x256x2048_0_0_0 (ix3 0 (y 0) (y 1)) 2).trans (Nat.zero_add _)).symm

theorem ld1 (t : Fin cfg0.N) (y : S256x2048.Idx) (i : S256x2048.Idx) (h0 : (i 0 : ℕ) = t.val * 256 + y 0) (h1 : (i 1 : ℕ) = y 1) :
    View.ld (iblk m c 1 t) (Rect.unit (s := S4x256x2048) ![1, 0, 0] S1x256x2048.size inb_S4x256x2048_S1x256x2048_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x2048) ![1, 0, 0] S1x256x2048.size inb_S4x256x2048_S1x256x2048_1_0_0 (ix3 0 (y 0) (y 1)) 0).symm
  · exact ((Rect.idx_unit_val (s := S4x256x2048) ![1, 0, 0] S1x256x2048.size inb_S4x256x2048_S1x256x2048_1_0_0 (ix3 0 (y 0) (y 1)) 1).trans (Nat.zero_add _)).symm
  · exact ((Rect.idx_unit_val (s := S4x256x2048) ![1, 0, 0] S1x256x2048.size inb_S4x256x2048_S1x256x2048_1_0_0 (ix3 0 (y 0) (y 1)) 2).trans (Nat.zero_add _)).symm

theorem ld2 (t : Fin cfg0.N) (y : S256x2048.Idx) (i : S256x2048.Idx) (h0 : (i 0 : ℕ) = t.val * 256 + y 0) (h1 : (i 1 : ℕ) = y 1) :
    View.ld (iblk m c 1 t) (Rect.unit (s := S4x256x2048) ![2, 0, 0] S1x256x2048.size inb_S4x256x2048_S1x256x2048_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x2048) ![2, 0, 0] S1x256x2048.size inb_S4x256x2048_S1x256x2048_2_0_0 (ix3 0 (y 0) (y 1)) 0).symm
  · exact ((Rect.idx_unit_val (s := S4x256x2048) ![2, 0, 0] S1x256x2048.size inb_S4x256x2048_S1x256x2048_2_0_0 (ix3 0 (y 0) (y 1)) 1).trans (Nat.zero_add _)).symm
  · exact ((Rect.idx_unit_val (s := S4x256x2048) ![2, 0, 0] S1x256x2048.size inb_S4x256x2048_S1x256x2048_2_0_0 (ix3 0 (y 0) (y 1)) 2).trans (Nat.zero_add _)).symm

theorem ld3 (t : Fin cfg0.N) (y : S256x2048.Idx) (i : S256x2048.Idx) (h0 : (i 0 : ℕ) = t.val * 256 + y 0) (h1 : (i 1 : ℕ) = y 1) :
    View.ld (iblk m c 1 t) (Rect.unit (s := S4x256x2048) ![3, 0, 0] S1x256x2048.size inb_S4x256x2048_S1x256x2048_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x2048) ![3, 0, 0] S1x256x2048.size inb_S4x256x2048_S1x256x2048_3_0_0 (ix3 0 (y 0) (y 1)) 0).symm
  · exact ((Rect.idx_unit_val (s := S4x256x2048) ![3, 0, 0] S1x256x2048.size inb_S4x256x2048_S1x256x2048_3_0_0 (ix3 0 (y 0) (y 1)) 1).trans (Nat.zero_add _)).symm
  · exact ((Rect.idx_unit_val (s := S4x256x2048) ![3, 0, 0] S1x256x2048.size inb_S4x256x2048_S1x256x2048_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x2048.Idx) (i : S256x2048.Idx) (h0 : (i 0 : ℕ) = t.val * 256 + y 0) (h1 : (i 1 : ℕ) = y 1) :
    k0_pay2 (F := Ideal) (View.ld (iblk m c 1 t) (Rect.unit (s := S4x256x2048) ![0, 0, 0] S1x256x2048.size inb_S4x256x2048_S1x256x2048_0_0_0)) (View.ld (iblk m c 1 t) (Rect.unit (s := S4x256x2048) ![1, 0, 0] S1x256x2048.size inb_S4x256x2048_S1x256x2048_1_0_0)) (View.ld (iblk m c 1 t) (Rect.unit (s := S4x256x2048) ![2, 0, 0] S1x256x2048.size inb_S4x256x2048_S1x256x2048_2_0_0)) (View.ld (iblk m c 1 t) (Rect.unit (s := S4x256x2048) ![3, 0, 0] S1x256x2048.size inb_S4x256x2048_S1x256x2048_3_0_0)) y = Cert.AdamMixRefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x2048.Idx) (i : S256x2048.Idx) (h0 : (i 0 : ℕ) = t.val * 256 + y 0) (h1 : (i 1 : ℕ) = y 1) :
    k0_pay3 (F := Ideal) (View.ld (iblk m c 1 t) (Rect.unit (s := S4x256x2048) ![0, 0, 0] S1x256x2048.size inb_S4x256x2048_S1x256x2048_0_0_0)) (View.ld (iblk m c 1 t) (Rect.unit (s := S4x256x2048) ![1, 0, 0] S1x256x2048.size inb_S4x256x2048_S1x256x2048_1_0_0)) (View.ld (iblk m c 1 t) (Rect.unit (s := S4x256x2048) ![2, 0, 0] S1x256x2048.size inb_S4x256x2048_S1x256x2048_2_0_0)) (View.ld (iblk m c 1 t) (Rect.unit (s := S4x256x2048) ![3, 0, 0] S1x256x2048.size inb_S4x256x2048_S1x256x2048_3_0_0)) (iblk m c 2 t) y = Cert.AdamMixRefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x2048.Idx) (i : S256x2048.Idx) (h0 : (i 0 : ℕ) = t.val * 256 + y 0) (h1 : (i 1 : ℕ) = y 1) :
    k0_pay4 (F := Ideal) (View.ld (iblk m c 1 t) (Rect.unit (s := S4x256x2048) ![0, 0, 0] S1x256x2048.size inb_S4x256x2048_S1x256x2048_0_0_0)) (View.ld (iblk m c 1 t) (Rect.unit (s := S4x256x2048) ![1, 0, 0] S1x256x2048.size inb_S4x256x2048_S1x256x2048_1_0_0)) (View.ld (iblk m c 1 t) (Rect.unit (s := S4x256x2048) ![2, 0, 0] S1x256x2048.size inb_S4x256x2048_S1x256x2048_2_0_0)) (View.ld (iblk m c 1 t) (Rect.unit (s := S4x256x2048) ![3, 0, 0] S1x256x2048.size inb_S4x256x2048_S1x256x2048_3_0_0)) (iblk m c 3 t) y = Cert.AdamMixRefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x2048.Idx) (i : S256x2048.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x2048) ![0, 0, 0] S1x256x2048.size inb_S4x256x2048_S1x256x2048_0_0_0)) (View.ld (iblk m c 1 t) (Rect.unit (s := S4x256x2048) ![1, 0, 0] S1x256x2048.size inb_S4x256x2048_S1x256x2048_1_0_0)) (View.ld (iblk m c 1 t) (Rect.unit (s := S4x256x2048) ![2, 0, 0] S1x256x2048.size inb_S4x256x2048_S1x256x2048_2_0_0)) (View.ld (iblk m c 1 t) (Rect.unit (s := S4x256x2048) ![3, 0, 0] S1x256x2048.size inb_S4x256x2048_S1x256x2048_3_0_0)) (iblk m c 3 t)) (k0_pay5 (F := Ideal) (View.ld (iblk m c 1 t) (Rect.unit (s := S4x256x2048) ![0, 0, 0] S1x256x2048.size inb_S4x256x2048_S1x256x2048_0_0_0)) (View.ld (iblk m c 1 t) (Rect.unit (s := S4x256x2048) ![1, 0, 0] S1x256x2048.size inb_S4x256x2048_S1x256x2048_1_0_0)) (View.ld (iblk m c 1 t) (Rect.unit (s := S4x256x2048) ![2, 0, 0] S1x256x2048.size inb_S4x256x2048_S1x256x2048_2_0_0)) (View.ld (iblk m c 1 t) (Rect.unit (s := S4x256x2048) ![3, 0, 0] S1x256x2048.size inb_S4x256x2048_S1x256x2048_3_0_0)) (iblk m c 2 t)) (Ideal.ofBits .f32 0x3C231ACC#32) y
      = Cert.AdamMixRefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamMixRefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamMixRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamMixRefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamMixRefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamMixIdeal.Value

namespace Cert.Proof

open Idealize.ShloMosaic Idealize.SL.Sem

/-- The reference of the step of the mixing projection runs, leaves its arguments as they were, and ends with every counter at zero. -/
theorem frame_AdamMixRef : Cert.quiescent_AdamMixRefIdeal := fun m ρ _ =>
  (θ_run Cert.AdamMixRefIdeal.defs _ _).mono (fun r h => ⟨fun c => (h c).2.2.2.2,
      Idealize.ShloMosaic.sem_eq_zero_of_no_sems (by decide) r.2⟩)
    (Cert.AdamMixRefIdeal.Value.run (F := Ideal) m ρ)

set_option maxHeartbeats 4000000 in
/-- The step of the mixing projection and its reference give the same four arrays. -/
theorem algebraic_AdamMix : Cert.algebraic_AdamMixIdeal_AdamMixRefIdeal := by
  pair_intro
  · run_from Cert.AdamMixIdeal.Gen.run_main m g
  · refine θ_run_mono (Cert.AdamMixRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamMixRefIdeal.Read.val_main_v1_eq _).trans ?_
      rw [a.2.1]
      exact (Cert.AdamMixIdeal.Value.final_g m c).symm
    · refine (Cert.AdamMixRefIdeal.Read.val_main_v25_eq _ _ _ _).trans ?_
      rw [a.1, a.2.1, a.2.2.1, a.2.2.2]
      exact (Cert.AdamMixIdeal.Value.final_d m c).symm
    · refine (Cert.AdamMixRefIdeal.Read.val_main_v6_eq _ _).trans ?_
      rw [a.2.1, a.2.2.1]
      exact (Cert.AdamMixIdeal.Value.final_m m c).symm
    · refine (Cert.AdamMixRefIdeal.Read.val_main_v12_eq _ _).trans ?_
      rw [a.2.1, a.2.2.2]
      exact (Cert.AdamMixIdeal.Value.final_v m c).symm

end Cert.Proof

end
-- ==== Proof.AdamQVal.lean ====
/- The kernel of AdamW's step of the memory's query projection from its gradient's four parts. -/
module

public import proofs.«01_k».proof.Defs
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQIdeal.Value
public import proofs.«01_k».proof.Proof.Gen.AdamQRefIdeal
public import proofs.«01_k».proof.Proof.Gen.AdamQRefIdeal.Run
public import proofs.«01_k».proof.Proof.Gen.AdamQRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamQIdeal.Value

open Cert.AdamQIdeal Cert.AdamQIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S256x512.Idx) : S4x256x512.Idx := ix3 k (i 0) ⟨(i 1).val, by have h : (i 1).val < 512 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x512.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x512.Idx) : k0_pay3 (F := Ideal) p q r s u y = avg (k0_pay2 (F := Ideal) p q r s y) (u y) := rfl
theorem pay_v (p q r s u) (y : S256x512.Idx) : k0_pay4 (F := Ideal) p q r s u y = avg2 (k0_pay2 (F := Ideal) p q r s y) (u y) := rfl
theorem pay_d (p q r s w u v) (y : S256x512.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S256x512.Idx) : Cert.AdamQRefIdeal.Read.val_main_v1 (F := Ideal) p i = 0 + ∑ k : Fin 4, p (at_ k i) := by
  pointwise [Cert.AdamQRefIdeal.Read.val_main_v0, Cert.AdamQRefIdeal.Read.val_main_v1, Cert.AdamQRefIdeal.Read.val_main_cst]
  try rfl

theorem ref_m (p u) (i : S256x512.Idx) : Cert.AdamQRefIdeal.Read.val_main_v6 (F := Ideal) p u i = avg (Cert.AdamQRefIdeal.Read.val_main_v1 (F := Ideal) p i) (u i) := by
  pointwise [Cert.AdamQRefIdeal.Read.val_main_v2, Cert.AdamQRefIdeal.Read.val_main_v3, Cert.AdamQRefIdeal.Read.val_main_v4, Cert.AdamQRefIdeal.Read.val_main_v5, Cert.AdamQRefIdeal.Read.val_main_v6, Cert.AdamQRefIdeal.Read.val_main_cst_0, Cert.AdamQRefIdeal.Read.val_main_cst_1]
  try rfl

theorem ref_v (p u) (i : S256x512.Idx) : Cert.AdamQRefIdeal.Read.val_main_v12 (F := Ideal) p u i = avg2 (Cert.AdamQRefIdeal.Read.val_main_v1 (F := Ideal) p i) (u i) := by
  pointwise [Cert.AdamQRefIdeal.Read.val_main_v7, Cert.AdamQRefIdeal.Read.val_main_v8, Cert.AdamQRefIdeal.Read.val_main_v9, Cert.AdamQRefIdeal.Read.val_main_v10, Cert.AdamQRefIdeal.Read.val_main_v11, Cert.AdamQRefIdeal.Read.val_main_v12, Cert.AdamQRefIdeal.Read.val_main_cst_2, Cert.AdamQRefIdeal.Read.val_main_cst_3]
  try rfl

theorem ref_d (w p u v) (i : S256x512.Idx) : Cert.AdamQRefIdeal.Read.val_main_v25 (F := Ideal) w p u v i = step (w i) (Cert.AdamQRefIdeal.Read.val_main_v6 (F := Ideal) p u i) (Cert.AdamQRefIdeal.Read.val_main_v12 (F := Ideal) p v i) := by
  pointwise [Cert.AdamQRefIdeal.Read.val_main_v13, Cert.AdamQRefIdeal.Read.val_main_v14, Cert.AdamQRefIdeal.Read.val_main_v15, Cert.AdamQRefIdeal.Read.val_main_v16, Cert.AdamQRefIdeal.Read.val_main_v17, Cert.AdamQRefIdeal.Read.val_main_v18, Cert.AdamQRefIdeal.Read.val_main_v19, Cert.AdamQRefIdeal.Read.val_main_v20, Cert.AdamQRefIdeal.Read.val_main_v21, Cert.AdamQRefIdeal.Read.val_main_v22, Cert.AdamQRefIdeal.Read.val_main_v23, Cert.AdamQRefIdeal.Read.val_main_v24, Cert.AdamQRefIdeal.Read.val_main_v25, Cert.AdamQRefIdeal.Read.val_main_cst_4, Cert.AdamQRefIdeal.Read.val_main_cst_5, Cert.AdamQRefIdeal.Read.val_main_cst_6, Cert.AdamQRefIdeal.Read.val_main_cst_7, Cert.AdamQRefIdeal.Read.val_main_cst_8]
  try rfl

variable (c : Dev nD)

theorem is0 (t : Fin cfg0.N) (x : S256x512.Idx) (i : S256x512.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x512.Idx) (i : S256x512.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x512.Idx) (i : S256x512.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x512.Idx) (i : S4x256x512.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x512.Idx) (i : S256x512.Idx) (h0 : (i 0 : ℕ) = t.val * 256 + y 0) (h1 : (i 1 : ℕ) = y 1) :
    View.ld (iblk m c 1 t) (Rect.unit (s := S4x256x512) ![0, 0, 0] S1x256x512.size inb_S4x256x512_S1x256x512_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x512) ![0, 0, 0] S1x256x512.size inb_S4x256x512_S1x256x512_0_0_0 (ix3 0 (y 0) (y 1)) 0).symm
  · exact ((Rect.idx_unit_val (s := S4x256x512) ![0, 0, 0] S1x256x512.size inb_S4x256x512_S1x256x512_0_0_0 (ix3 0 (y 0) (y 1)) 1).trans (Nat.zero_add _)).symm
  · exact ((Rect.idx_unit_val (s := S4x256x512) ![0, 0, 0] S1x256x512.size inb_S4x256x512_S1x256x512_0_0_0 (ix3 0 (y 0) (y 1)) 2).trans (Nat.zero_add _)).symm

theorem ld1 (t : Fin cfg0.N) (y : S256x512.Idx) (i : S256x512.Idx) (h0 : (i 0 : ℕ) = t.val * 256 + y 0) (h1 : (i 1 : ℕ) = y 1) :
    View.ld (iblk m c 1 t) (Rect.unit (s := S4x256x512) ![1, 0, 0] S1x256x512.size inb_S4x256x512_S1x256x512_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x512) ![1, 0, 0] S1x256x512.size inb_S4x256x512_S1x256x512_1_0_0 (ix3 0 (y 0) (y 1)) 0).symm
  · exact ((Rect.idx_unit_val (s := S4x256x512) ![1, 0, 0] S1x256x512.size inb_S4x256x512_S1x256x512_1_0_0 (ix3 0 (y 0) (y 1)) 1).trans (Nat.zero_add _)).symm
  · exact ((Rect.idx_unit_val (s := S4x256x512) ![1, 0, 0] S1x256x512.size inb_S4x256x512_S1x256x512_1_0_0 (ix3 0 (y 0) (y 1)) 2).trans (Nat.zero_add _)).symm

theorem ld2 (t : Fin cfg0.N) (y : S256x512.Idx) (i : S256x512.Idx) (h0 : (i 0 : ℕ) = t.val * 256 + y 0) (h1 : (i 1 : ℕ) = y 1) :
    View.ld (iblk m c 1 t) (Rect.unit (s := S4x256x512) ![2, 0, 0] S1x256x512.size inb_S4x256x512_S1x256x512_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x512) ![2, 0, 0] S1x256x512.size inb_S4x256x512_S1x256x512_2_0_0 (ix3 0 (y 0) (y 1)) 0).symm
  · exact ((Rect.idx_unit_val (s := S4x256x512) ![2, 0, 0] S1x256x512.size inb_S4x256x512_S1x256x512_2_0_0 (ix3 0 (y 0) (y 1)) 1).trans (Nat.zero_add _)).symm
  · exact ((Rect.idx_unit_val (s := S4x256x512) ![2, 0, 0] S1x256x512.size inb_S4x256x512_S1x256x512_2_0_0 (ix3 0 (y 0) (y 1)) 2).trans (Nat.zero_add _)).symm

theorem ld3 (t : Fin cfg0.N) (y : S256x512.Idx) (i : S256x512.Idx) (h0 : (i 0 : ℕ) = t.val * 256 + y 0) (h1 : (i 1 : ℕ) = y 1) :
    View.ld (iblk m c 1 t) (Rect.unit (s := S4x256x512) ![3, 0, 0] S1x256x512.size inb_S4x256x512_S1x256x512_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x512) ![3, 0, 0] S1x256x512.size inb_S4x256x512_S1x256x512_3_0_0 (ix3 0 (y 0) (y 1)) 0).symm
  · exact ((Rect.idx_unit_val (s := S4x256x512) ![3, 0, 0] S1x256x512.size inb_S4x256x512_S1x256x512_3_0_0 (ix3 0 (y 0) (y 1)) 1).trans (Nat.zero_add _)).symm
  · exact ((Rect.idx_unit_val (s := S4x256x512) ![3, 0, 0] S1x256x512.size inb_S4x256x512_S1x256x512_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x512.Idx) (i : S256x512.Idx) (h0 : (i 0 : ℕ) = t.val * 256 + y 0) (h1 : (i 1 : ℕ) = y 1) :
    k0_pay2 (F := Ideal) (View.ld (iblk m c 1 t) (Rect.unit (s := S4x256x512) ![0, 0, 0] S1x256x512.size inb_S4x256x512_S1x256x512_0_0_0)) (View.ld (iblk m c 1 t) (Rect.unit (s := S4x256x512) ![1, 0, 0] S1x256x512.size inb_S4x256x512_S1x256x512_1_0_0)) (View.ld (iblk m c 1 t) (Rect.unit (s := S4x256x512) ![2, 0, 0] S1x256x512.size inb_S4x256x512_S1x256x512_2_0_0)) (View.ld (iblk m c 1 t) (Rect.unit (s := S4x256x512) ![3, 0, 0] S1x256x512.size inb_S4x256x512_S1x256x512_3_0_0)) y = Cert.AdamQRefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x512.Idx) (i : S256x512.Idx) (h0 : (i 0 : ℕ) = t.val * 256 + y 0) (h1 : (i 1 : ℕ) = y 1) :
    k0_pay3 (F := Ideal) (View.ld (iblk m c 1 t) (Rect.unit (s := S4x256x512) ![0, 0, 0] S1x256x512.size inb_S4x256x512_S1x256x512_0_0_0)) (View.ld (iblk m c 1 t) (Rect.unit (s := S4x256x512) ![1, 0, 0] S1x256x512.size inb_S4x256x512_S1x256x512_1_0_0)) (View.ld (iblk m c 1 t) (Rect.unit (s := S4x256x512) ![2, 0, 0] S1x256x512.size inb_S4x256x512_S1x256x512_2_0_0)) (View.ld (iblk m c 1 t) (Rect.unit (s := S4x256x512) ![3, 0, 0] S1x256x512.size inb_S4x256x512_S1x256x512_3_0_0)) (iblk m c 2 t) y = Cert.AdamQRefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x512.Idx) (i : S256x512.Idx) (h0 : (i 0 : ℕ) = t.val * 256 + y 0) (h1 : (i 1 : ℕ) = y 1) :
    k0_pay4 (F := Ideal) (View.ld (iblk m c 1 t) (Rect.unit (s := S4x256x512) ![0, 0, 0] S1x256x512.size inb_S4x256x512_S1x256x512_0_0_0)) (View.ld (iblk m c 1 t) (Rect.unit (s := S4x256x512) ![1, 0, 0] S1x256x512.size inb_S4x256x512_S1x256x512_1_0_0)) (View.ld (iblk m c 1 t) (Rect.unit (s := S4x256x512) ![2, 0, 0] S1x256x512.size inb_S4x256x512_S1x256x512_2_0_0)) (View.ld (iblk m c 1 t) (Rect.unit (s := S4x256x512) ![3, 0, 0] S1x256x512.size inb_S4x256x512_S1x256x512_3_0_0)) (iblk m c 3 t) y = Cert.AdamQRefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x512.Idx) (i : S256x512.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x512) ![0, 0, 0] S1x256x512.size inb_S4x256x512_S1x256x512_0_0_0)) (View.ld (iblk m c 1 t) (Rect.unit (s := S4x256x512) ![1, 0, 0] S1x256x512.size inb_S4x256x512_S1x256x512_1_0_0)) (View.ld (iblk m c 1 t) (Rect.unit (s := S4x256x512) ![2, 0, 0] S1x256x512.size inb_S4x256x512_S1x256x512_2_0_0)) (View.ld (iblk m c 1 t) (Rect.unit (s := S4x256x512) ![3, 0, 0] S1x256x512.size inb_S4x256x512_S1x256x512_3_0_0)) (iblk m c 3 t)) (k0_pay5 (F := Ideal) (View.ld (iblk m c 1 t) (Rect.unit (s := S4x256x512) ![0, 0, 0] S1x256x512.size inb_S4x256x512_S1x256x512_0_0_0)) (View.ld (iblk m c 1 t) (Rect.unit (s := S4x256x512) ![1, 0, 0] S1x256x512.size inb_S4x256x512_S1x256x512_1_0_0)) (View.ld (iblk m c 1 t) (Rect.unit (s := S4x256x512) ![2, 0, 0] S1x256x512.size inb_S4x256x512_S1x256x512_2_0_0)) (View.ld (iblk m c 1 t) (Rect.unit (s := S4x256x512) ![3, 0, 0] S1x256x512.size inb_S4x256x512_S1x256x512_3_0_0)) (iblk m c 2 t)) (Ideal.ofBits .f32 0x3C231ACC#32) y
      = Cert.AdamQRefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamQRefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamQRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamQRefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamQRefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamQIdeal.Value

namespace Cert.Proof

open Idealize.ShloMosaic Idealize.SL.Sem

/-- The reference of the step of the memory's query projection runs, leaves its arguments as they were, and ends with every counter at zero. -/
theorem frame_AdamQRef : Cert.quiescent_AdamQRefIdeal := fun m ρ _ =>
  (θ_run Cert.AdamQRefIdeal.defs _ _).mono (fun r h => ⟨fun c => (h c).2.2.2.2,
      Idealize.ShloMosaic.sem_eq_zero_of_no_sems (by decide) r.2⟩)
    (Cert.AdamQRefIdeal.Value.run (F := Ideal) m ρ)

set_option maxHeartbeats 4000000 in
/-- The step of the memory's query projection and its reference give the same four arrays. -/
theorem algebraic_AdamQ : Cert.algebraic_AdamQIdeal_AdamQRefIdeal := by
  pair_intro
  · run_from Cert.AdamQIdeal.Gen.run_main m g
  · refine θ_run_mono (Cert.AdamQRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamQRefIdeal.Read.val_main_v1_eq _).trans ?_
      rw [a.2.1]
      exact (Cert.AdamQIdeal.Value.final_g m c).symm
    · refine (Cert.AdamQRefIdeal.Read.val_main_v25_eq _ _ _ _).trans ?_
      rw [a.1, a.2.1, a.2.2.1, a.2.2.2]
      exact (Cert.AdamQIdeal.Value.final_d m c).symm
    · refine (Cert.AdamQRefIdeal.Read.val_main_v6_eq _ _).trans ?_
      rw [a.2.1, a.2.2.1]
      exact (Cert.AdamQIdeal.Value.final_m m c).symm
    · refine (Cert.AdamQRefIdeal.Read.val_main_v12_eq _ _).trans ?_
      rw [a.2.1, a.2.2.2]
      exact (Cert.AdamQIdeal.Value.final_v m c).symm

end Cert.Proof

end
-- ==== Proof.AdamKvVal.lean ====
/- The kernel of AdamW's step of the memory's key and value projection from its gradient's four parts. -/
module

public import proofs.«01_k».proof.Defs
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamKvIdeal.Value

open Cert.AdamKvIdeal Cert.AdamKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S256x1024.Idx) : S4x256x1024.Idx := ix3 k (i 0) ⟨(i 1).val, by have h : (i 1).val < 1024 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x1024.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x1024.Idx) : k0_pay3 (F := Ideal) p q r s u y = avg (k0_pay2 (F := Ideal) p q r s y) (u y) := rfl
theorem pay_v (p q r s u) (y : S256x1024.Idx) : k0_pay4 (F := Ideal) p q r s u y = avg2 (k0_pay2 (F := Ideal) p q r s y) (u y) := rfl
theorem pay_d (p q r s w u v) (y : S256x1024.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S256x1024.Idx) : Cert.AdamKvRefIdeal.Read.val_main_v1 (F := Ideal) p i = 0 + ∑ k : Fin 4, p (at_ k i) := by
  pointwise [Cert.AdamKvRefIdeal.Read.val_main_v0, Cert.AdamKvRefIdeal.Read.val_main_v1, Cert.AdamKvRefIdeal.Read.val_main_cst]
  try rfl

theorem ref_m (p u) (i : S256x1024.Idx) : Cert.AdamKvRefIdeal.Read.val_main_v6 (F := Ideal) p u i = avg (Cert.AdamKvRefIdeal.Read.val_main_v1 (F := Ideal) p i) (u i) := by
  pointwise [Cert.AdamKvRefIdeal.Read.val_main_v2, Cert.AdamKvRefIdeal.Read.val_main_v3, Cert.AdamKvRefIdeal.Read.val_main_v4, Cert.AdamKvRefIdeal.Read.val_main_v5, Cert.AdamKvRefIdeal.Read.val_main_v6, Cert.AdamKvRefIdeal.Read.val_main_cst_0, Cert.AdamKvRefIdeal.Read.val_main_cst_1]
  try rfl

theorem ref_v (p u) (i : S256x1024.Idx) : Cert.AdamKvRefIdeal.Read.val_main_v12 (F := Ideal) p u i = avg2 (Cert.AdamKvRefIdeal.Read.val_main_v1 (F := Ideal) p i) (u i) := by
  pointwise [Cert.AdamKvRefIdeal.Read.val_main_v7, Cert.AdamKvRefIdeal.Read.val_main_v8, Cert.AdamKvRefIdeal.Read.val_main_v9, Cert.AdamKvRefIdeal.Read.val_main_v10, Cert.AdamKvRefIdeal.Read.val_main_v11, Cert.AdamKvRefIdeal.Read.val_main_v12, Cert.AdamKvRefIdeal.Read.val_main_cst_2, Cert.AdamKvRefIdeal.Read.val_main_cst_3]
  try rfl

theorem ref_d (w p u v) (i : S256x1024.Idx) : Cert.AdamKvRefIdeal.Read.val_main_v25 (F := Ideal) w p u v i = step (w i) (Cert.AdamKvRefIdeal.Read.val_main_v6 (F := Ideal) p u i) (Cert.AdamKvRefIdeal.Read.val_main_v12 (F := Ideal) p v i) := by
  pointwise [Cert.AdamKvRefIdeal.Read.val_main_v13, Cert.AdamKvRefIdeal.Read.val_main_v14, Cert.AdamKvRefIdeal.Read.val_main_v15, Cert.AdamKvRefIdeal.Read.val_main_v16, Cert.AdamKvRefIdeal.Read.val_main_v17, Cert.AdamKvRefIdeal.Read.val_main_v18, Cert.AdamKvRefIdeal.Read.val_main_v19, Cert.AdamKvRefIdeal.Read.val_main_v20, Cert.AdamKvRefIdeal.Read.val_main_v21, Cert.AdamKvRefIdeal.Read.val_main_v22, Cert.AdamKvRefIdeal.Read.val_main_v23, Cert.AdamKvRefIdeal.Read.val_main_v24, Cert.AdamKvRefIdeal.Read.val_main_v25, Cert.AdamKvRefIdeal.Read.val_main_cst_4, Cert.AdamKvRefIdeal.Read.val_main_cst_5, Cert.AdamKvRefIdeal.Read.val_main_cst_6, Cert.AdamKvRefIdeal.Read.val_main_cst_7, Cert.AdamKvRefIdeal.Read.val_main_cst_8]
  try rfl

variable (c : Dev nD)

theorem is0 (t : Fin cfg0.N) (x : S256x1024.Idx) (i : S256x1024.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x1024.Idx) (i : S256x1024.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x1024.Idx) (i : S256x1024.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x1024.Idx) (i : S4x256x1024.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x1024.Idx) (i : S256x1024.Idx) (h0 : (i 0 : ℕ) = t.val * 256 + y 0) (h1 : (i 1 : ℕ) = y 1) :
    View.ld (iblk m c 1 t) (Rect.unit (s := S4x256x1024) ![0, 0, 0] S1x256x1024.size inb_S4x256x1024_S1x256x1024_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x1024) ![0, 0, 0] S1x256x1024.size inb_S4x256x1024_S1x256x1024_0_0_0 (ix3 0 (y 0) (y 1)) 0).symm
  · exact ((Rect.idx_unit_val (s := S4x256x1024) ![0, 0, 0] S1x256x1024.size inb_S4x256x1024_S1x256x1024_0_0_0 (ix3 0 (y 0) (y 1)) 1).trans (Nat.zero_add _)).symm
  · exact ((Rect.idx_unit_val (s := S4x256x1024) ![0, 0, 0] S1x256x1024.size inb_S4x256x1024_S1x256x1024_0_0_0 (ix3 0 (y 0) (y 1)) 2).trans (Nat.zero_add _)).symm

theorem ld1 (t : Fin cfg0.N) (y : S256x1024.Idx) (i : S256x1024.Idx) (h0 : (i 0 : ℕ) = t.val * 256 + y 0) (h1 : (i 1 : ℕ) = y 1) :
    View.ld (iblk m c 1 t) (Rect.unit (s := S4x256x1024) ![1, 0, 0] S1x256x1024.size inb_S4x256x1024_S1x256x1024_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x1024) ![1, 0, 0] S1x256x1024.size inb_S4x256x1024_S1x256x1024_1_0_0 (ix3 0 (y 0) (y 1)) 0).symm
  · exact ((Rect.idx_unit_val (s := S4x256x1024) ![1, 0, 0] S1x256x1024.size inb_S4x256x1024_S1x256x1024_1_0_0 (ix3 0 (y 0) (y 1)) 1).trans (Nat.zero_add _)).symm
  · exact ((Rect.idx_unit_val (s := S4x256x1024) ![1, 0, 0] S1x256x1024.size inb_S4x256x1024_S1x256x1024_1_0_0 (ix3 0 (y 0) (y 1)) 2).trans (Nat.zero_add _)).symm

theorem ld2 (t : Fin cfg0.N) (y : S256x1024.Idx) (i : S256x1024.Idx) (h0 : (i 0 : ℕ) = t.val * 256 + y 0) (h1 : (i 1 : ℕ) = y 1) :
    View.ld (iblk m c 1 t) (Rect.unit (s := S4x256x1024) ![2, 0, 0] S1x256x1024.size inb_S4x256x1024_S1x256x1024_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x1024) ![2, 0, 0] S1x256x1024.size inb_S4x256x1024_S1x256x1024_2_0_0 (ix3 0 (y 0) (y 1)) 0).symm
  · exact ((Rect.idx_unit_val (s := S4x256x1024) ![2, 0, 0] S1x256x1024.size inb_S4x256x1024_S1x256x1024_2_0_0 (ix3 0 (y 0) (y 1)) 1).trans (Nat.zero_add _)).symm
  · exact ((Rect.idx_unit_val (s := S4x256x1024) ![2, 0, 0] S1x256x1024.size inb_S4x256x1024_S1x256x1024_2_0_0 (ix3 0 (y 0) (y 1)) 2).trans (Nat.zero_add _)).symm

theorem ld3 (t : Fin cfg0.N) (y : S256x1024.Idx) (i : S256x1024.Idx) (h0 : (i 0 : ℕ) = t.val * 256 + y 0) (h1 : (i 1 : ℕ) = y 1) :
    View.ld (iblk m c 1 t) (Rect.unit (s := S4x256x1024) ![3, 0, 0] S1x256x1024.size inb_S4x256x1024_S1x256x1024_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x1024) ![3, 0, 0] S1x256x1024.size inb_S4x256x1024_S1x256x1024_3_0_0 (ix3 0 (y 0) (y 1)) 0).symm
  · exact ((Rect.idx_unit_val (s := S4x256x1024) ![3, 0, 0] S1x256x1024.size inb_S4x256x1024_S1x256x1024_3_0_0 (ix3 0 (y 0) (y 1)) 1).trans (Nat.zero_add _)).symm
  · exact ((Rect.idx_unit_val (s := S4x256x1024) ![3, 0, 0] S1x256x1024.size inb_S4x256x1024_S1x256x1024_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x1024.Idx) (i : S256x1024.Idx) (h0 : (i 0 : ℕ) = t.val * 256 + y 0) (h1 : (i 1 : ℕ) = y 1) :
    k0_pay2 (F := Ideal) (View.ld (iblk m c 1 t) (Rect.unit (s := S4x256x1024) ![0, 0, 0] S1x256x1024.size inb_S4x256x1024_S1x256x1024_0_0_0)) (View.ld (iblk m c 1 t) (Rect.unit (s := S4x256x1024) ![1, 0, 0] S1x256x1024.size inb_S4x256x1024_S1x256x1024_1_0_0)) (View.ld (iblk m c 1 t) (Rect.unit (s := S4x256x1024) ![2, 0, 0] S1x256x1024.size inb_S4x256x1024_S1x256x1024_2_0_0)) (View.ld (iblk m c 1 t) (Rect.unit (s := S4x256x1024) ![3, 0, 0] S1x256x1024.size inb_S4x256x1024_S1x256x1024_3_0_0)) y = Cert.AdamKvRefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x1024.Idx) (i : S256x1024.Idx) (h0 : (i 0 : ℕ) = t.val * 256 + y 0) (h1 : (i 1 : ℕ) = y 1) :
    k0_pay3 (F := Ideal) (View.ld (iblk m c 1 t) (Rect.unit (s := S4x256x1024) ![0, 0, 0] S1x256x1024.size inb_S4x256x1024_S1x256x1024_0_0_0)) (View.ld (iblk m c 1 t) (Rect.unit (s := S4x256x1024) ![1, 0, 0] S1x256x1024.size inb_S4x256x1024_S1x256x1024_1_0_0)) (View.ld (iblk m c 1 t) (Rect.unit (s := S4x256x1024) ![2, 0, 0] S1x256x1024.size inb_S4x256x1024_S1x256x1024_2_0_0)) (View.ld (iblk m c 1 t) (Rect.unit (s := S4x256x1024) ![3, 0, 0] S1x256x1024.size inb_S4x256x1024_S1x256x1024_3_0_0)) (iblk m c 2 t) y = Cert.AdamKvRefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x1024.Idx) (i : S256x1024.Idx) (h0 : (i 0 : ℕ) = t.val * 256 + y 0) (h1 : (i 1 : ℕ) = y 1) :
    k0_pay4 (F := Ideal) (View.ld (iblk m c 1 t) (Rect.unit (s := S4x256x1024) ![0, 0, 0] S1x256x1024.size inb_S4x256x1024_S1x256x1024_0_0_0)) (View.ld (iblk m c 1 t) (Rect.unit (s := S4x256x1024) ![1, 0, 0] S1x256x1024.size inb_S4x256x1024_S1x256x1024_1_0_0)) (View.ld (iblk m c 1 t) (Rect.unit (s := S4x256x1024) ![2, 0, 0] S1x256x1024.size inb_S4x256x1024_S1x256x1024_2_0_0)) (View.ld (iblk m c 1 t) (Rect.unit (s := S4x256x1024) ![3, 0, 0] S1x256x1024.size inb_S4x256x1024_S1x256x1024_3_0_0)) (iblk m c 3 t) y = Cert.AdamKvRefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x1024.Idx) (i : S256x1024.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x1024) ![0, 0, 0] S1x256x1024.size inb_S4x256x1024_S1x256x1024_0_0_0)) (View.ld (iblk m c 1 t) (Rect.unit (s := S4x256x1024) ![1, 0, 0] S1x256x1024.size inb_S4x256x1024_S1x256x1024_1_0_0)) (View.ld (iblk m c 1 t) (Rect.unit (s := S4x256x1024) ![2, 0, 0] S1x256x1024.size inb_S4x256x1024_S1x256x1024_2_0_0)) (View.ld (iblk m c 1 t) (Rect.unit (s := S4x256x1024) ![3, 0, 0] S1x256x1024.size inb_S4x256x1024_S1x256x1024_3_0_0)) (iblk m c 3 t)) (k0_pay5 (F := Ideal) (View.ld (iblk m c 1 t) (Rect.unit (s := S4x256x1024) ![0, 0, 0] S1x256x1024.size inb_S4x256x1024_S1x256x1024_0_0_0)) (View.ld (iblk m c 1 t) (Rect.unit (s := S4x256x1024) ![1, 0, 0] S1x256x1024.size inb_S4x256x1024_S1x256x1024_1_0_0)) (View.ld (iblk m c 1 t) (Rect.unit (s := S4x256x1024) ![2, 0, 0] S1x256x1024.size inb_S4x256x1024_S1x256x1024_2_0_0)) (View.ld (iblk m c 1 t) (Rect.unit (s := S4x256x1024) ![3, 0, 0] S1x256x1024.size inb_S4x256x1024_S1x256x1024_3_0_0)) (iblk m c 2 t)) (Ideal.ofBits .f32 0x3C231ACC#32) y
      = Cert.AdamKvRefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamKvRefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamKvRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamKvRefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamKvRefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamKvIdeal.Value

namespace Cert.Proof

open Idealize.ShloMosaic Idealize.SL.Sem

/-- The reference of the step of the memory's key and value projection runs, leaves its arguments as they were, and ends with every counter at zero. -/
theorem frame_AdamKvRef : Cert.quiescent_AdamKvRefIdeal := fun m ρ _ =>
  (θ_run Cert.AdamKvRefIdeal.defs _ _).mono (fun r h => ⟨fun c => (h c).2.2.2.2,
      Idealize.ShloMosaic.sem_eq_zero_of_no_sems (by decide) r.2⟩)
    (Cert.AdamKvRefIdeal.Value.run (F := Ideal) m ρ)

set_option maxHeartbeats 4000000 in
/-- The step of the memory's key and value projection and its reference give the same four arrays. -/
theorem algebraic_AdamKv : Cert.algebraic_AdamKvIdeal_AdamKvRefIdeal := by
  pair_intro
  · run_from Cert.AdamKvIdeal.Gen.run_main m g
  · refine θ_run_mono (Cert.AdamKvRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamKvRefIdeal.Read.val_main_v1_eq _).trans ?_
      rw [a.2.1]
      exact (Cert.AdamKvIdeal.Value.final_g m c).symm
    · refine (Cert.AdamKvRefIdeal.Read.val_main_v25_eq _ _ _ _).trans ?_
      rw [a.1, a.2.1, a.2.2.1, a.2.2.2]
      exact (Cert.AdamKvIdeal.Value.final_d m c).symm
    · refine (Cert.AdamKvRefIdeal.Read.val_main_v6_eq _ _).trans ?_
      rw [a.2.1, a.2.2.1]
      exact (Cert.AdamKvIdeal.Value.final_m m c).symm
    · refine (Cert.AdamKvRefIdeal.Read.val_main_v12_eq _ _).trans ?_
      rw [a.2.1, a.2.2.2]
      exact (Cert.AdamKvIdeal.Value.final_v m c).symm

end Cert.Proof

end
-- ==== Proof.AdamOVal.lean ====
/- The kernel of AdamW's step of the memory's output projection from its gradient's four parts. -/
module

public import proofs.«01_k».proof.Defs
public import proofs.«01_k».proof.Proof.Gen.AdamOIdeal
public import proofs.«01_k».proof.Proof.Gen.AdamOIdeal.Skeleton
public import proofs.«01_k».proof.Proof.Gen.AdamOIdeal.Launch
public import proofs.«01_k».proof.Proof.Gen.AdamOIdeal.Points
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamOIdeal.Value

open Cert.AdamOIdeal Cert.AdamOIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S512x256.Idx) : S4x512x256.Idx := ix3 k (i 0) ⟨(i 1).val, by have h : (i 1).val < 256 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x256.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x256.Idx) : k0_pay3 (F := Ideal) p q r s u y = avg (k0_pay2 (F := Ideal) p q r s y) (u y) := rfl
theorem pay_v (p q r s u) (y : S256x256.Idx) : k0_pay4 (F := Ideal) p q r s u y = avg2 (k0_pay2 (F := Ideal) p q r s y) (u y) := rfl
theorem pay_d (p q r s w u v) (y : S256x256.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S512x256.Idx) : Cert.AdamORefIdeal.Read.val_main_v1 (F := Ideal) p i = 0 + ∑ k : Fin 4, p (at_ k i) := by
  pointwise [Cert.AdamORefIdeal.Read.val_main_v0, Cert.AdamORefIdeal.Read.val_main_v1, Cert.AdamORefIdeal.Read.val_main_cst]
  try rfl

theorem ref_m (p u) (i : S512x256.Idx) : Cert.AdamORefIdeal.Read.val_main_v6 (F := Ideal) p u i = avg (Cert.AdamORefIdeal.Read.val_main_v1 (F := Ideal) p i) (u i) := by
  pointwise [Cert.AdamORefIdeal.Read.val_main_v2, Cert.AdamORefIdeal.Read.val_main_v3, Cert.AdamORefIdeal.Read.val_main_v4, Cert.AdamORefIdeal.Read.val_main_v5, Cert.AdamORefIdeal.Read.val_main_v6, Cert.AdamORefIdeal.Read.val_main_cst_0, Cert.AdamORefIdeal.Read.val_main_cst_1]
  try rfl

theorem ref_v (p u) (i : S512x256.Idx) : Cert.AdamORefIdeal.Read.val_main_v12 (F := Ideal) p u i = avg2 (Cert.AdamORefIdeal.Read.val_main_v1 (F := Ideal) p i) (u i) := by
  pointwise [Cert.AdamORefIdeal.Read.val_main_v7, Cert.AdamORefIdeal.Read.val_main_v8, Cert.AdamORefIdeal.Read.val_main_v9, Cert.AdamORefIdeal.Read.val_main_v10, Cert.AdamORefIdeal.Read.val_main_v11, Cert.AdamORefIdeal.Read.val_main_v12, Cert.AdamORefIdeal.Read.val_main_cst_2, Cert.AdamORefIdeal.Read.val_main_cst_3]
  try rfl

theorem ref_d (w p u v) (i : S512x256.Idx) : Cert.AdamORefIdeal.Read.val_main_v25 (F := Ideal) w p u v i = step (w i) (Cert.AdamORefIdeal.Read.val_main_v6 (F := Ideal) p u i) (Cert.AdamORefIdeal.Read.val_main_v12 (F := Ideal) p v i) := by
  pointwise [Cert.AdamORefIdeal.Read.val_main_v13, Cert.AdamORefIdeal.Read.val_main_v14, Cert.AdamORefIdeal.Read.val_main_v15, Cert.AdamORefIdeal.Read.val_main_v16, Cert.AdamORefIdeal.Read.val_main_v17, Cert.AdamORefIdeal.Read.val_main_v18, Cert.AdamORefIdeal.Read.val_main_v19, Cert.AdamORefIdeal.Read.val_main_v20, Cert.AdamORefIdeal.Read.val_main_v21, Cert.AdamORefIdeal.Read.val_main_v22, Cert.AdamORefIdeal.Read.val_main_v23, Cert.AdamORefIdeal.Read.val_main_v24, Cert.AdamORefIdeal.Read.val_main_v25, Cert.AdamORefIdeal.Read.val_main_cst_4, Cert.AdamORefIdeal.Read.val_main_cst_5, Cert.AdamORefIdeal.Read.val_main_cst_6, Cert.AdamORefIdeal.Read.val_main_cst_7, Cert.AdamORefIdeal.Read.val_main_cst_8]
  try rfl

variable (c : Dev nD)

theorem is0 (t : Fin cfg0.N) (x : S256x256.Idx) (i : S512x256.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x256.Idx) (i : S512x256.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x256.Idx) (i : S512x256.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x256.Idx) (i : S4x512x256.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x256.Idx) (i : S512x256.Idx) (h0 : (i 0 : ℕ) = t.val * 256 + y 0) (h1 : (i 1 : ℕ) = y 1) :
    View.ld (iblk m c 1 t) (Rect.unit (s := S4x256x256) ![0, 0, 0] S1x256x256.size inb_S4x256x256_S1x256x256_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x256) ![0, 0, 0] S1x256x256.size inb_S4x256x256_S1x256x256_0_0_0 (ix3 0 (y 0) (y 1)) 0).symm
  · exact ((Rect.idx_unit_val (s := S4x256x256) ![0, 0, 0] S1x256x256.size inb_S4x256x256_S1x256x256_0_0_0 (ix3 0 (y 0) (y 1)) 1).trans (Nat.zero_add _)).symm
  · exact ((Rect.idx_unit_val (s := S4x256x256) ![0, 0, 0] S1x256x256.size inb_S4x256x256_S1x256x256_0_0_0 (ix3 0 (y 0) (y 1)) 2).trans (Nat.zero_add _)).symm

theorem ld1 (t : Fin cfg0.N) (y : S256x256.Idx) (i : S512x256.Idx) (h0 : (i 0 : ℕ) = t.val * 256 + y 0) (h1 : (i 1 : ℕ) = y 1) :
    View.ld (iblk m c 1 t) (Rect.unit (s := S4x256x256) ![1, 0, 0] S1x256x256.size inb_S4x256x256_S1x256x256_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x256) ![1, 0, 0] S1x256x256.size inb_S4x256x256_S1x256x256_1_0_0 (ix3 0 (y 0) (y 1)) 0).symm
  · exact ((Rect.idx_unit_val (s := S4x256x256) ![1, 0, 0] S1x256x256.size inb_S4x256x256_S1x256x256_1_0_0 (ix3 0 (y 0) (y 1)) 1).trans (Nat.zero_add _)).symm
  · exact ((Rect.idx_unit_val (s := S4x256x256) ![1, 0, 0] S1x256x256.size inb_S4x256x256_S1x256x256_1_0_0 (ix3 0 (y 0) (y 1)) 2).trans (Nat.zero_add _)).symm

theorem ld2 (t : Fin cfg0.N) (y : S256x256.Idx) (i : S512x256.Idx) (h0 : (i 0 : ℕ) = t.val * 256 + y 0) (h1 : (i 1 : ℕ) = y 1) :
    View.ld (iblk m c 1 t) (Rect.unit (s := S4x256x256) ![2, 0, 0] S1x256x256.size inb_S4x256x256_S1x256x256_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x256) ![2, 0, 0] S1x256x256.size inb_S4x256x256_S1x256x256_2_0_0 (ix3 0 (y 0) (y 1)) 0).symm
  · exact ((Rect.idx_unit_val (s := S4x256x256) ![2, 0, 0] S1x256x256.size inb_S4x256x256_S1x256x256_2_0_0 (ix3 0 (y 0) (y 1)) 1).trans (Nat.zero_add _)).symm
  · exact ((Rect.idx_unit_val (s := S4x256x256) ![2, 0, 0] S1x256x256.size inb_S4x256x256_S1x256x256_2_0_0 (ix3 0 (y 0) (y 1)) 2).trans (Nat.zero_add _)).symm

theorem ld3 (t : Fin cfg0.N) (y : S256x256.Idx) (i : S512x256.Idx) (h0 : (i 0 : ℕ) = t.val * 256 + y 0) (h1 : (i 1 : ℕ) = y 1) :
    View.ld (iblk m c 1 t) (Rect.unit (s := S4x256x256) ![3, 0, 0] S1x256x256.size inb_S4x256x256_S1x256x256_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x256) ![3, 0, 0] S1x256x256.size inb_S4x256x256_S1x256x256_3_0_0 (ix3 0 (y 0) (y 1)) 0).symm
  · exact ((Rect.idx_unit_val (s := S4x256x256) ![3, 0, 0] S1x256x256.size inb_S4x256x256_S1x256x256_3_0_0 (ix3 0 (y 0) (y 1)) 1).trans (Nat.zero_add _)).symm
  · exact ((Rect.idx_unit_val (s := S4x256x256) ![3, 0, 0] S1x256x256.size inb_S4x256x256_S1x256x256_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x256.Idx) (i : S512x256.Idx) (h0 : (i 0 : ℕ) = t.val * 256 + y 0) (h1 : (i 1 : ℕ) = y 1) :
    k0_pay2 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) y = Cert.AdamORefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x256.Idx) (i : S512x256.Idx) (h0 : (i 0 : ℕ) = t.val * 256 + y 0) (h1 : (i 1 : ℕ) = y 1) :
    k0_pay3 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 2 t) y = Cert.AdamORefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x256.Idx) (i : S512x256.Idx) (h0 : (i 0 : ℕ) = t.val * 256 + y 0) (h1 : (i 1 : ℕ) = y 1) :
    k0_pay4 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 3 t) y = Cert.AdamORefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x256.Idx) (i : S512x256.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 3 t)) (k0_pay5 (F := Ideal) (View.ld (iblk m c 1 t) (Rect.unit (s := S4x256x256) ![0, 0, 0] S1x256x256.size inb_S4x256x256_S1x256x256_0_0_0)) (View.ld (iblk m c 1 t) (Rect.unit (s := S4x256x256) ![1, 0, 0] S1x256x256.size inb_S4x256x256_S1x256x256_1_0_0)) (View.ld (iblk m c 1 t) (Rect.unit (s := S4x256x256) ![2, 0, 0] S1x256x256.size inb_S4x256x256_S1x256x256_2_0_0)) (View.ld (iblk m c 1 t) (Rect.unit (s := S4x256x256) ![3, 0, 0] S1x256x256.size inb_S4x256x256_S1x256x256_3_0_0)) (iblk m c 2 t)) (Ideal.ofBits .f32 0x3C231ACC#32) y
      = Cert.AdamORefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamORefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamORefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamORefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamORefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamOIdeal.Value

namespace Cert.Proof

open Idealize.ShloMosaic Idealize.SL.Sem

/-- The reference of the step of the memory's output projection runs, leaves its arguments as they were, and ends with every counter at zero. -/
theorem frame_AdamORef : Cert.quiescent_AdamORefIdeal := fun m ρ _ =>
  (θ_run Cert.AdamORefIdeal.defs _ _).mono (fun r h => ⟨fun c => (h c).2.2.2.2,
      Idealize.ShloMosaic.sem_eq_zero_of_no_sems (by decide) r.2⟩)
    (Cert.AdamORefIdeal.Value.run (F := Ideal) m ρ)

set_option maxHeartbeats 4000000 in
/-- The step of the memory's output projection and its reference give the same four arrays. -/
theorem algebraic_AdamO : Cert.algebraic_AdamOIdeal_AdamORefIdeal := by
  pair_intro
  · run_from Cert.AdamOIdeal.Gen.run_main m g
  · refine θ_run_mono (Cert.AdamORefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamORefIdeal.Read.val_main_v1_eq _).trans ?_
      rw [a.2.1]
      exact (Cert.AdamOIdeal.Value.final_g m c).symm
    · refine (Cert.AdamORefIdeal.Read.val_main_v25_eq _ _ _ _).trans ?_
      rw [a.1, a.2.1, a.2.2.1, a.2.2.2]
      exact (Cert.AdamOIdeal.Value.final_d m c).symm
    · refine (Cert.AdamORefIdeal.Read.val_main_v6_eq _ _).trans ?_
      rw [a.2.1, a.2.2.1]
      exact (Cert.AdamOIdeal.Value.final_m m c).symm
    · refine (Cert.AdamORefIdeal.Read.val_main_v12_eq _ _).trans ?_
      rw [a.2.1, a.2.2.2]
      exact (Cert.AdamOIdeal.Value.final_v m c).symm

end Cert.Proof

end
-- ==== Proof.AdamUpVal.lean ====
/- The kernel of AdamW's step of the feed-forward's first projection from its gradient's four parts. -/
module

public import proofs.«01_k».proof.Defs
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamUpIdeal.Value

open Cert.AdamUpIdeal Cert.AdamUpIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S2048x1376.Idx) : S4x2048x1408.Idx := ix3 k (i 0) ⟨(i 1).val, by have h : (i 1).val < 1376 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S256x1376.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S256x1376.Idx) : k0_pay3 (F := Ideal) p q r s u y = avg (k0_pay2 (F := Ideal) p q r s y) (u y) := rfl
theorem pay_v (p q r s u) (y : S256x1376.Idx) : k0_pay4 (F := Ideal) p q r s u y = avg2 (k0_pay2 (F := Ideal) p q r s y) (u y) := rfl
theorem pay_d (p q r s w u v) (y : S256x1376.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S2048x1376.Idx) : Cert.AdamUpRefIdeal.Read.val_main_v2 (F := Ideal) p i = 0 + ∑ k : Fin 4, p (at_ k i) := by
  pointwise [Cert.AdamUpRefIdeal.Read.val_main_v0, Cert.AdamUpRefIdeal.Read.val_main_v1, Cert.AdamUpRefIdeal.Read.val_main_v2, Cert.AdamUpRefIdeal.Read.val_main_cst]
  try rfl

theorem ref_m (p u) (i : S2048x1376.Idx) : Cert.AdamUpRefIdeal.Read.val_main_v7 (F := Ideal) p u i = avg (Cert.AdamUpRefIdeal.Read.val_main_v2 (F := Ideal) p i) (u i) := by
  pointwise [Cert.AdamUpRefIdeal.Read.val_main_v3, Cert.AdamUpRefIdeal.Read.val_main_v4, Cert.AdamUpRefIdeal.Read.val_main_v5, Cert.AdamUpRefIdeal.Read.val_main_v6, Cert.AdamUpRefIdeal.Read.val_main_v7, Cert.AdamUpRefIdeal.Read.val_main_cst_0, Cert.AdamUpRefIdeal.Read.val_main_cst_1]
  try rfl

theorem ref_v (p u) (i : S2048x1376.Idx) : Cert.AdamUpRefIdeal.Read.val_main_v13 (F := Ideal) p u i = avg2 (Cert.AdamUpRefIdeal.Read.val_main_v2 (F := Ideal) p i) (u i) := by
  pointwise [Cert.AdamUpRefIdeal.Read.val_main_v8, Cert.AdamUpRefIdeal.Read.val_main_v9, Cert.AdamUpRefIdeal.Read.val_main_v10, Cert.AdamUpRefIdeal.Read.val_main_v11, Cert.AdamUpRefIdeal.Read.val_main_v12, Cert.AdamUpRefIdeal.Read.val_main_v13, Cert.AdamUpRefIdeal.Read.val_main_cst_2, Cert.AdamUpRefIdeal.Read.val_main_cst_3]
  try rfl

theorem ref_d (w p u v) (i : S2048x1376.Idx) : Cert.AdamUpRefIdeal.Read.val_main_v26 (F := Ideal) w p u v i = step (w i) (Cert.AdamUpRefIdeal.Read.val_main_v7 (F := Ideal) p u i) (Cert.AdamUpRefIdeal.Read.val_main_v13 (F := Ideal) p v i) := by
  pointwise [Cert.AdamUpRefIdeal.Read.val_main_v14, Cert.AdamUpRefIdeal.Read.val_main_v15, Cert.AdamUpRefIdeal.Read.val_main_v16, Cert.AdamUpRefIdeal.Read.val_main_v17, Cert.AdamUpRefIdeal.Read.val_main_v18, Cert.AdamUpRefIdeal.Read.val_main_v19, Cert.AdamUpRefIdeal.Read.val_main_v20, Cert.AdamUpRefIdeal.Read.val_main_v21, Cert.AdamUpRefIdeal.Read.val_main_v22, Cert.AdamUpRefIdeal.Read.val_main_v23, Cert.AdamUpRefIdeal.Read.val_main_v24, Cert.AdamUpRefIdeal.Read.val_main_v25, Cert.AdamUpRefIdeal.Read.val_main_v26, Cert.AdamUpRefIdeal.Read.val_main_cst_4, Cert.AdamUpRefIdeal.Read.val_main_cst_5, Cert.AdamUpRefIdeal.Read.val_main_cst_6, Cert.AdamUpRefIdeal.Read.val_main_cst_7, Cert.AdamUpRefIdeal.Read.val_main_cst_8]
  try rfl

variable (c : Dev nD)

theorem is0 (t : Fin cfg0.N) (x : S256x1376.Idx) (i : S2048x1376.Idx) (h0 : (i 0 : ℕ) = t.val * 256 + x 0) (h1 : (i 1 : ℕ) = x 1) :
    iblk m c 0 t x = (m ((c : Thread nD τ).loc main_arg0)) i := by
  blk_ext [iblk, V, idx t]

theorem is2 (t : Fin cfg0.N) (x : S256x1376.Idx) (i : S2048x1376.Idx) (h0 : (i 0 : ℕ) = t.val * 256 + x 0) (h1 : (i 1 : ℕ) = x 1) :
    iblk m c 2 t x = (m ((c : Thread nD τ).loc main_arg2)) i := by
  blk_ext [iblk, V, idx t]

theorem is3 (t : Fin cfg0.N) (x : S256x1376.Idx) (i : S2048x1376.Idx) (h0 : (i 0 : ℕ) = t.val * 256 + x 0) (h1 : (i 1 : ℕ) = x 1) :
    iblk m c 3 t x = (m ((c : Thread nD τ).loc main_arg3)) i := by
  blk_ext [iblk, V, idx t]

theorem isp (t : Fin cfg0.N) (x : S4x256x1408.Idx) (i : S4x2048x1408.Idx) (hk : (i 0 : ℕ) = x 0) (h0 : (i 1 : ℕ) = t.val * 256 + x 1) (h1 : (i 2 : ℕ) = x 2) :
    iblk m c 1 t x = (m ((c : Thread nD τ).loc main_arg1)) i := by
  blk_ext [iblk, V, idx t]

theorem ld0 (t : Fin cfg0.N) (y : S256x1376.Idx) (i : S2048x1376.Idx) (h0 : (i 0 : ℕ) = t.val * 256 + y 0) (h1 : (i 1 : ℕ) = y 1) :
    View.ld (iblk m c 1 t) (Rect.unit (s := S4x256x1408) ![0, 0, 0] S1x256x1376.size inb_S4x256x1408_S1x256x1376_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x256x1408) ![0, 0, 0] S1x256x1376.size inb_S4x256x1408_S1x256x1376_0_0_0 (ix3 0 (y 0) (y 1)) 0).symm
  · exact ((Rect.idx_unit_val (s := S4x256x1408) ![0, 0, 0] S1x256x1376.size inb_S4x256x1408_S1x256x1376_0_0_0 (ix3 0 (y 0) (y 1)) 1).trans (Nat.zero_add _)).symm
  · exact ((Rect.idx_unit_val (s := S4x256x1408) ![0, 0, 0] S1x256x1376.size inb_S4x256x1408_S1x256x1376_0_0_0 (ix3 0 (y 0) (y 1)) 2).trans (Nat.zero_add _)).symm

theorem ld1 (t : Fin cfg0.N) (y : S256x1376.Idx) (i : S2048x1376.Idx) (h0 : (i 0 : ℕ) = t.val * 256 + y 0) (h1 : (i 1 : ℕ) = y 1) :
    View.ld (iblk m c 1 t) (Rect.unit (s := S4x256x1408) ![1, 0, 0] S1x256x1376.size inb_S4x256x1408_S1x256x1376_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x256x1408) ![1, 0, 0] S1x256x1376.size inb_S4x256x1408_S1x256x1376_1_0_0 (ix3 0 (y 0) (y 1)) 0).symm
  · exact ((Rect.idx_unit_val (s := S4x256x1408) ![1, 0, 0] S1x256x1376.size inb_S4x256x1408_S1x256x1376_1_0_0 (ix3 0 (y 0) (y 1)) 1).trans (Nat.zero_add _)).symm
  · exact ((Rect.idx_unit_val (s := S4x256x1408) ![1, 0, 0] S1x256x1376.size inb_S4x256x1408_S1x256x1376_1_0_0 (ix3 0 (y 0) (y 1)) 2).trans (Nat.zero_add _)).symm

theorem ld2 (t : Fin cfg0.N) (y : S256x1376.Idx) (i : S2048x1376.Idx) (h0 : (i 0 : ℕ) = t.val * 256 + y 0) (h1 : (i 1 : ℕ) = y 1) :
    View.ld (iblk m c 1 t) (Rect.unit (s := S4x256x1408) ![2, 0, 0] S1x256x1376.size inb_S4x256x1408_S1x256x1376_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x256x1408) ![2, 0, 0] S1x256x1376.size inb_S4x256x1408_S1x256x1376_2_0_0 (ix3 0 (y 0) (y 1)) 0).symm
  · exact ((Rect.idx_unit_val (s := S4x256x1408) ![2, 0, 0] S1x256x1376.size inb_S4x256x1408_S1x256x1376_2_0_0 (ix3 0 (y 0) (y 1)) 1).trans (Nat.zero_add _)).symm
  · exact ((Rect.idx_unit_val (s := S4x256x1408) ![2, 0, 0] S1x256x1376.size inb_S4x256x1408_S1x256x1376_2_0_0 (ix3 0 (y 0) (y 1)) 2).trans (Nat.zero_add _)).symm

theorem ld3 (t : Fin cfg0.N) (y : S256x1376.Idx) (i : S2048x1376.Idx) (h0 : (i 0 : ℕ) = t.val * 256 + y 0) (h1 : (i 1 : ℕ) = y 1) :
    View.ld (iblk m c 1 t) (Rect.unit (s := S4x256x1408) ![3, 0, 0] S1x256x1376.size inb_S4x256x1408_S1x256x1376_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x256x1408) ![3, 0, 0] S1x256x1376.size inb_S4x256x1408_S1x256x1376_3_0_0 (ix3 0 (y 0) (y 1)) 0).symm
  · exact ((Rect.idx_unit_val (s := S4x256x1408) ![3, 0, 0] S1x256x1376.size inb_S4x256x1408_S1x256x1376_3_0_0 (ix3 0 (y 0) (y 1)) 1).trans (Nat.zero_add _)).symm
  · exact ((Rect.idx_unit_val (s := S4x256x1408) ![3, 0, 0] S1x256x1376.size inb_S4x256x1408_S1x256x1376_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S256x1376.Idx) (i : S2048x1376.Idx) (h0 : (i 0 : ℕ) = t.val * 256 + y 0) (h1 : (i 1 : ℕ) = y 1) :
    k0_pay2 (F := Ideal) (View.ld (iblk m c 1 t) (Rect.unit (s := S4x256x1408) ![0, 0, 0] S1x256x1376.size inb_S4x256x1408_S1x256x1376_0_0_0)) (View.ld (iblk m c 1 t) (Rect.unit (s := S4x256x1408) ![1, 0, 0] S1x256x1376.size inb_S4x256x1408_S1x256x1376_1_0_0)) (View.ld (iblk m c 1 t) (Rect.unit (s := S4x256x1408) ![2, 0, 0] S1x256x1376.size inb_S4x256x1408_S1x256x1376_2_0_0)) (View.ld (iblk m c 1 t) (Rect.unit (s := S4x256x1408) ![3, 0, 0] S1x256x1376.size inb_S4x256x1408_S1x256x1376_3_0_0)) y = Cert.AdamUpRefIdeal.Read.val_main_v2 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S256x1376.Idx) (i : S2048x1376.Idx) (h0 : (i 0 : ℕ) = t.val * 256 + y 0) (h1 : (i 1 : ℕ) = y 1) :
    k0_pay3 (F := Ideal) (View.ld (iblk m c 1 t) (Rect.unit (s := S4x256x1408) ![0, 0, 0] S1x256x1376.size inb_S4x256x1408_S1x256x1376_0_0_0)) (View.ld (iblk m c 1 t) (Rect.unit (s := S4x256x1408) ![1, 0, 0] S1x256x1376.size inb_S4x256x1408_S1x256x1376_1_0_0)) (View.ld (iblk m c 1 t) (Rect.unit (s := S4x256x1408) ![2, 0, 0] S1x256x1376.size inb_S4x256x1408_S1x256x1376_2_0_0)) (View.ld (iblk m c 1 t) (Rect.unit (s := S4x256x1408) ![3, 0, 0] S1x256x1376.size inb_S4x256x1408_S1x256x1376_3_0_0)) (iblk m c 2 t) y = Cert.AdamUpRefIdeal.Read.val_main_v7 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S256x1376.Idx) (i : S2048x1376.Idx) (h0 : (i 0 : ℕ) = t.val * 256 + y 0) (h1 : (i 1 : ℕ) = y 1) :
    k0_pay4 (F := Ideal) (View.ld (iblk m c 1 t) (Rect.unit (s := S4x256x1408) ![0, 0, 0] S1x256x1376.size inb_S4x256x1408_S1x256x1376_0_0_0)) (View.ld (iblk m c 1 t) (Rect.unit (s := S4x256x1408) ![1, 0, 0] S1x256x1376.size inb_S4x256x1408_S1x256x1376_1_0_0)) (View.ld (iblk m c 1 t) (Rect.unit (s := S4x256x1408) ![2, 0, 0] S1x256x1376.size inb_S4x256x1408_S1x256x1376_2_0_0)) (View.ld (iblk m c 1 t) (Rect.unit (s := S4x256x1408) ![3, 0, 0] S1x256x1376.size inb_S4x256x1408_S1x256x1376_3_0_0)) (iblk m c 3 t) y = Cert.AdamUpRefIdeal.Read.val_main_v13 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S256x1376.Idx) (i : S2048x1376.Idx) (h0 : (i 0 : ℕ) = t.val * 256 + y 0) (h1 : (i 1 : ℕ) = y 1) :
    k0_pay1 (F := Ideal) (iblk m c 0 t) (k0_pay4 (F := Ideal) (View.ld (iblk m c 1 t) (Rect.unit (s := S4x256x1408) ![0, 0, 0] S1x256x1376.size inb_S4x256x1408_S1x256x1376_0_0_0)) (View.ld (iblk m c 1 t) (Rect.unit (s := S4x256x1408) ![1, 0, 0] S1x256x1376.size inb_S4x256x1408_S1x256x1376_1_0_0)) (View.ld (iblk m c 1 t) (Rect.unit (s := S4x256x1408) ![2, 0, 0] S1x256x1376.size inb_S4x256x1408_S1x256x1376_2_0_0)) (View.ld (iblk m c 1 t) (Rect.unit (s := S4x256x1408) ![3, 0, 0] S1x256x1376.size inb_S4x256x1408_S1x256x1376_3_0_0)) (iblk m c 3 t)) (k0_pay5 (F := Ideal) (View.ld (iblk m c 1 t) (Rect.unit (s := S4x256x1408) ![0, 0, 0] S1x256x1376.size inb_S4x256x1408_S1x256x1376_0_0_0)) (View.ld (iblk m c 1 t) (Rect.unit (s := S4x256x1408) ![1, 0, 0] S1x256x1376.size inb_S4x256x1408_S1x256x1376_1_0_0)) (View.ld (iblk m c 1 t) (Rect.unit (s := S4x256x1408) ![2, 0, 0] S1x256x1376.size inb_S4x256x1408_S1x256x1376_2_0_0)) (View.ld (iblk m c 1 t) (Rect.unit (s := S4x256x1408) ![3, 0, 0] S1x256x1376.size inb_S4x256x1408_S1x256x1376_3_0_0)) (iblk m c 2 t)) (Ideal.ofBits .f32 0x3C231ACC#32) y
      = Cert.AdamUpRefIdeal.Read.val_main_v26 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamUpRefIdeal.Read.val_main_v2 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamUpRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamUpRefIdeal.Read.val_main_v7 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamUpRefIdeal.Read.val_main_v13 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamUpIdeal.Value

namespace Cert.Proof

open Idealize.ShloMosaic Idealize.SL.Sem

/-- The reference of the step of the feed-forward's first projection runs, leaves its arguments as they were, and ends with every counter at zero. -/
theorem frame_AdamUpRef : Cert.quiescent_AdamUpRefIdeal := fun m ρ _ =>
  (θ_run Cert.AdamUpRefIdeal.defs _ _).mono (fun r h => ⟨fun c => (h c).2.2.2.2,
      Idealize.ShloMosaic.sem_eq_zero_of_no_sems (by decide) r.2⟩)
    (Cert.AdamUpRefIdeal.Value.run (F := Ideal) m ρ)

set_option maxHeartbeats 4000000 in
/-- The step of the feed-forward's first projection and its reference give the same four arrays. -/
theorem algebraic_AdamUp : Cert.algebraic_AdamUpIdeal_AdamUpRefIdeal := by
  pair_intro
  · run_from Cert.AdamUpIdeal.Gen.run_main m g
  · refine θ_run_mono (Cert.AdamUpRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamUpRefIdeal.Read.val_main_v2_eq _).trans ?_
      rw [a.2.1]
      exact (Cert.AdamUpIdeal.Value.final_g m c).symm
    · refine (Cert.AdamUpRefIdeal.Read.val_main_v26_eq _ _ _ _).trans ?_
      rw [a.1, a.2.1, a.2.2.1, a.2.2.2]
      exact (Cert.AdamUpIdeal.Value.final_d m c).symm
    · refine (Cert.AdamUpRefIdeal.Read.val_main_v7_eq _ _).trans ?_
      rw [a.2.1, a.2.2.1]
      exact (Cert.AdamUpIdeal.Value.final_m m c).symm
    · refine (Cert.AdamUpRefIdeal.Read.val_main_v13_eq _ _).trans ?_
      rw [a.2.1, a.2.2.2]
      exact (Cert.AdamUpIdeal.Value.final_v m c).symm

end Cert.Proof

end
-- ==== Proof.AdamDownVal.lean ====
/- The kernel of AdamW's step of the feed-forward's second projection from its gradient's four parts. -/
module

public import proofs.«01_k».proof.Defs
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamDownIdeal.Value

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place of an entry in one of the parts. -/
abbrev at_ (k : Fin 4) (i : S688x2048.Idx) : S4x688x2048.Idx := ix3 k (i 0) ⟨(i 1).val, by have h : (i 1).val < 2048 := (i 1).isLt; omega⟩

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_g (p q r s) (y : S16x2048.Idx) : k0_pay2 (F := Ideal) p q r s y
    = s (ix3 0 (y 0) (y 1)) + p (ix3 0 (y 0) (y 1)) + q (ix3 0 (y 0) (y 1)) + r (ix3 0 (y 0) (y 1)) := by
  rw [← ix2_eta y]
  pointwise [k0_pay2]

theorem pay_m (p q r s u) (y : S16x2048.Idx) : k0_pay3 (F := Ideal) p q r s u y = avg (k0_pay2 (F := Ideal) p q r s y) (u y) := rfl
theorem pay_v (p q r s u) (y : S16x2048.Idx) : k0_pay4 (F := Ideal) p q r s u y = avg2 (k0_pay2 (F := Ideal) p q r s y) (u y) := rfl
theorem pay_d (p q r s w u v) (y : S16x2048.Idx) : k0_pay1 (F := Ideal) w (k0_pay4 (F := Ideal) p q r s v) (k0_pay5 (F := Ideal) p q r s u) (Ideal.ofBits .f32 0x3C231ACC#32) y
    = step (w y) (k0_pay3 (F := Ideal) p q r s u y) (k0_pay4 (F := Ideal) p q r s v y) := rfl

theorem ref_g (p) (i : S688x2048.Idx) : Cert.AdamDownRefIdeal.Read.val_main_v1 (F := Ideal) p i = 0 + ∑ k : Fin 4, p (at_ k i) := by
  pointwise [Cert.AdamDownRefIdeal.Read.val_main_v0, Cert.AdamDownRefIdeal.Read.val_main_v1, Cert.AdamDownRefIdeal.Read.val_main_cst]
  try rfl

theorem ref_m (p u) (i : S688x2048.Idx) : Cert.AdamDownRefIdeal.Read.val_main_v6 (F := Ideal) p u i = avg (Cert.AdamDownRefIdeal.Read.val_main_v1 (F := Ideal) p i) (u i) := by
  pointwise [Cert.AdamDownRefIdeal.Read.val_main_v2, Cert.AdamDownRefIdeal.Read.val_main_v3, Cert.AdamDownRefIdeal.Read.val_main_v4, Cert.AdamDownRefIdeal.Read.val_main_v5, Cert.AdamDownRefIdeal.Read.val_main_v6, Cert.AdamDownRefIdeal.Read.val_main_cst_0, Cert.AdamDownRefIdeal.Read.val_main_cst_1]
  try rfl

theorem ref_v (p u) (i : S688x2048.Idx) : Cert.AdamDownRefIdeal.Read.val_main_v12 (F := Ideal) p u i = avg2 (Cert.AdamDownRefIdeal.Read.val_main_v1 (F := Ideal) p i) (u i) := by
  pointwise [Cert.AdamDownRefIdeal.Read.val_main_v7, Cert.AdamDownRefIdeal.Read.val_main_v8, Cert.AdamDownRefIdeal.Read.val_main_v9, Cert.AdamDownRefIdeal.Read.val_main_v10, Cert.AdamDownRefIdeal.Read.val_main_v11, Cert.AdamDownRefIdeal.Read.val_main_v12, Cert.AdamDownRefIdeal.Read.val_main_cst_2, Cert.AdamDownRefIdeal.Read.val_main_cst_3]
  try rfl

theorem ref_d (w p u v) (i : S688x2048.Idx) : Cert.AdamDownRefIdeal.Read.val_main_v25 (F := Ideal) w p u v i = step (w i) (Cert.AdamDownRefIdeal.Read.val_main_v6 (F := Ideal) p u i) (Cert.AdamDownRefIdeal.Read.val_main_v12 (F := Ideal) p v i) := by
  pointwise [Cert.AdamDownRefIdeal.Read.val_main_v13, Cert.AdamDownRefIdeal.Read.val_main_v14, Cert.AdamDownRefIdeal.Read.val_main_v15, Cert.AdamDownRefIdeal.Read.val_main_v16, Cert.AdamDownRefIdeal.Read.val_main_v17, Cert.AdamDownRefIdeal.Read.val_main_v18, Cert.AdamDownRefIdeal.Read.val_main_v19, Cert.AdamDownRefIdeal.Read.val_main_v20, Cert.AdamDownRefIdeal.Read.val_main_v21, Cert.AdamDownRefIdeal.Read.val_main_v22, Cert.AdamDownRefIdeal.Read.val_main_v23, Cert.AdamDownRefIdeal.Read.val_main_v24, Cert.AdamDownRefIdeal.Read.val_main_v25, Cert.AdamDownRefIdeal.Read.val_main_cst_4, Cert.AdamDownRefIdeal.Read.val_main_cst_5, Cert.AdamDownRefIdeal.Read.val_main_cst_6, Cert.AdamDownRefIdeal.Read.val_main_cst_7, Cert.AdamDownRefIdeal.Read.val_main_cst_8]
  try rfl

variable (c : Dev nD)

theorem is0 (t : Fin cfg0.N) (x : S16x2048.Idx) (i : S688x2048.Idx) (h0 : (i 0 : ℕ) = t.val * 16 + x 0) (h1 : (i 1 : ℕ) = x 1) :
    iblk m c 0 t x = (m ((c : Thread nD τ).loc main_arg0)) i := by
  blk_ext [iblk, V, idx t]

theorem is2 (t : Fin cfg0.N) (x : S16x2048.Idx) (i : S688x2048.Idx) (h0 : (i 0 : ℕ) = t.val * 16 + x 0) (h1 : (i 1 : ℕ) = x 1) :
    iblk m c 2 t x = (m ((c : Thread nD τ).loc main_arg2)) i := by
  blk_ext [iblk, V, idx t]

theorem is3 (t : Fin cfg0.N) (x : S16x2048.Idx) (i : S688x2048.Idx) (h0 : (i 0 : ℕ) = t.val * 16 + x 0) (h1 : (i 1 : ℕ) = x 1) :
    iblk m c 3 t x = (m ((c : Thread nD τ).loc main_arg3)) i := by
  blk_ext [iblk, V, idx t]

theorem isp (t : Fin cfg0.N) (x : S4x16x2048.Idx) (i : S4x688x2048.Idx) (hk : (i 0 : ℕ) = x 0) (h0 : (i 1 : ℕ) = t.val * 16 + x 1) (h1 : (i 2 : ℕ) = x 2) :
    iblk m c 1 t x = (m ((c : Thread nD τ).loc main_arg1)) i := by
  blk_ext [iblk, V, idx t]

theorem ld0 (t : Fin cfg0.N) (y : S16x2048.Idx) (i : S688x2048.Idx) (h0 : (i 0 : ℕ) = t.val * 16 + y 0) (h1 : (i 1 : ℕ) = y 1) :
    View.ld (iblk m c 1 t) (Rect.unit (s := S4x16x2048) ![0, 0, 0] S1x16x2048.size inb_S4x16x2048_S1x16x2048_0_0_0) (ix3 0 (y 0) (y 1)) = (m ((c : Thread nD τ).loc main_arg1)) (at_ 0 i) := by
  refine isp m c t _ _ ?_ (h0.trans (congrArg _ ?_)) (h1.trans ?_)
  · exact (Rect.idx_unit_val (s := S4x16x2048) ![0, 0, 0] S1x16x2048.size inb_S4x16x2048_S1x16x2048_0_0_0 (ix3 0 (y 0) (y 1)) 0).symm
  · exact ((Rect.idx_unit_val (s := S4x16x2048) ![0, 0, 0] S1x16x2048.size inb_S4x16x2048_S1x16x2048_0_0_0 (ix3 0 (y 0) (y 1)) 1).trans (Nat.zero_add _)).symm
  · exact ((Rect.idx_unit_val (s := S4x16x2048) ![0, 0, 0] S1x16x2048.size inb_S4x16x2048_S1x16x2048_0_0_0 (ix3 0 (y 0) (y 1)) 2).trans (Nat.zero_add _)).symm

theorem ld1 (t : Fin cfg0.N) (y : S16x2048.Idx) (i : S688x2048.Idx) (h0 : (i 0 : ℕ) = t.val * 16 + y 0) (h1 : (i 1 : ℕ) = y 1) :
    View.ld (iblk m c 1 t) (Rect.unit (s := S4x16x2048) ![1, 0, 0] S1x16x2048.size inb_S4x16x2048_S1x16x2048_1_0_0) (ix3 0 (y 0) (y 1)) = (m ((c : Thread nD τ).loc main_arg1)) (at_ 1 i) := by
  refine isp m c t _ _ ?_ (h0.trans (congrArg _ ?_)) (h1.trans ?_)
  · exact (Rect.idx_unit_val (s := S4x16x2048) ![1, 0, 0] S1x16x2048.size inb_S4x16x2048_S1x16x2048_1_0_0 (ix3 0 (y 0) (y 1)) 0).symm
  · exact ((Rect.idx_unit_val (s := S4x16x2048) ![1, 0, 0] S1x16x2048.size inb_S4x16x2048_S1x16x2048_1_0_0 (ix3 0 (y 0) (y 1)) 1).trans (Nat.zero_add _)).symm
  · exact ((Rect.idx_unit_val (s := S4x16x2048) ![1, 0, 0] S1x16x2048.size inb_S4x16x2048_S1x16x2048_1_0_0 (ix3 0 (y 0) (y 1)) 2).trans (Nat.zero_add _)).symm

theorem ld2 (t : Fin cfg0.N) (y : S16x2048.Idx) (i : S688x2048.Idx) (h0 : (i 0 : ℕ) = t.val * 16 + y 0) (h1 : (i 1 : ℕ) = y 1) :
    View.ld (iblk m c 1 t) (Rect.unit (s := S4x16x2048) ![2, 0, 0] S1x16x2048.size inb_S4x16x2048_S1x16x2048_2_0_0) (ix3 0 (y 0) (y 1)) = (m ((c : Thread nD τ).loc main_arg1)) (at_ 2 i) := by
  refine isp m c t _ _ ?_ (h0.trans (congrArg _ ?_)) (h1.trans ?_)
  · exact (Rect.idx_unit_val (s := S4x16x2048) ![2, 0, 0] S1x16x2048.size inb_S4x16x2048_S1x16x2048_2_0_0 (ix3 0 (y 0) (y 1)) 0).symm
  · exact ((Rect.idx_unit_val (s := S4x16x2048) ![2, 0, 0] S1x16x2048.size inb_S4x16x2048_S1x16x2048_2_0_0 (ix3 0 (y 0) (y 1)) 1).trans (Nat.zero_add _)).symm
  · exact ((Rect.idx_unit_val (s := S4x16x2048) ![2, 0, 0] S1x16x2048.size inb_S4x16x2048_S1x16x2048_2_0_0 (ix3 0 (y 0) (y 1)) 2).trans (Nat.zero_add _)).symm

theorem ld3 (t : Fin cfg0.N) (y : S16x2048.Idx) (i : S688x2048.Idx) (h0 : (i 0 : ℕ) = t.val * 16 + y 0) (h1 : (i 1 : ℕ) = y 1) :
    View.ld (iblk m c 1 t) (Rect.unit (s := S4x16x2048) ![3, 0, 0] S1x16x2048.size inb_S4x16x2048_S1x16x2048_3_0_0) (ix3 0 (y 0) (y 1)) = (m ((c : Thread nD τ).loc main_arg1)) (at_ 3 i) := by
  refine isp m c t _ _ ?_ (h0.trans (congrArg _ ?_)) (h1.trans ?_)
  · exact (Rect.idx_unit_val (s := S4x16x2048) ![3, 0, 0] S1x16x2048.size inb_S4x16x2048_S1x16x2048_3_0_0 (ix3 0 (y 0) (y 1)) 0).symm
  · exact ((Rect.idx_unit_val (s := S4x16x2048) ![3, 0, 0] S1x16x2048.size inb_S4x16x2048_S1x16x2048_3_0_0 (ix3 0 (y 0) (y 1)) 1).trans (Nat.zero_add _)).symm
  · exact ((Rect.idx_unit_val (s := S4x16x2048) ![3, 0, 0] S1x16x2048.size inb_S4x16x2048_S1x16x2048_3_0_0 (ix3 0 (y 0) (y 1)) 2).trans (Nat.zero_add _)).symm

theorem reorder (a b d e : EReal) : e + a + b + d = a + b + d + e := by
  rw [add_assoc, add_assoc, add_comm e, add_assoc a b d]

/-- The gradient: the four parts, added in the kernel's order, which comes to the sum over them. -/
theorem point_g (t : Fin cfg0.N) (y : S16x2048.Idx) (i : S688x2048.Idx) (h0 : (i 0 : ℕ) = t.val * 16 + y 0) (h1 : (i 1 : ℕ) = y 1) :
    k0_pay2 (F := Ideal) (View.ld (iblk m c 1 t) (Rect.unit (s := S4x16x2048) ![0, 0, 0] S1x16x2048.size inb_S4x16x2048_S1x16x2048_0_0_0)) (View.ld (iblk m c 1 t) (Rect.unit (s := S4x16x2048) ![1, 0, 0] S1x16x2048.size inb_S4x16x2048_S1x16x2048_1_0_0)) (View.ld (iblk m c 1 t) (Rect.unit (s := S4x16x2048) ![2, 0, 0] S1x16x2048.size inb_S4x16x2048_S1x16x2048_2_0_0)) (View.ld (iblk m c 1 t) (Rect.unit (s := S4x16x2048) ![3, 0, 0] S1x16x2048.size inb_S4x16x2048_S1x16x2048_3_0_0)) y = Cert.AdamDownRefIdeal.Read.val_main_v1 (F := Ideal) (m ((c : Thread nD τ).loc main_arg1)) i := by
  rw [pay_g, ref_g, ld0 m c t y i h0 h1, ld1 m c t y i h0 h1, ld2 m c t y i h0 h1, ld3 m c t y i h0 h1, Fin.sum_univ_four, zero_add]
  exact reorder _ _ _ _

theorem point_m (t : Fin cfg0.N) (y : S16x2048.Idx) (i : S688x2048.Idx) (h0 : (i 0 : ℕ) = t.val * 16 + y 0) (h1 : (i 1 : ℕ) = y 1) :
    k0_pay3 (F := Ideal) (View.ld (iblk m c 1 t) (Rect.unit (s := S4x16x2048) ![0, 0, 0] S1x16x2048.size inb_S4x16x2048_S1x16x2048_0_0_0)) (View.ld (iblk m c 1 t) (Rect.unit (s := S4x16x2048) ![1, 0, 0] S1x16x2048.size inb_S4x16x2048_S1x16x2048_1_0_0)) (View.ld (iblk m c 1 t) (Rect.unit (s := S4x16x2048) ![2, 0, 0] S1x16x2048.size inb_S4x16x2048_S1x16x2048_2_0_0)) (View.ld (iblk m c 1 t) (Rect.unit (s := S4x16x2048) ![3, 0, 0] S1x16x2048.size inb_S4x16x2048_S1x16x2048_3_0_0)) (iblk m c 2 t) y = Cert.AdamDownRefIdeal.Read.val_main_v6 (F := Ideal) (m ((c : Thread nD τ).loc main_arg1)) (m ((c : Thread nD τ).loc main_arg2)) i := by
  rw [pay_m, ref_m, point_g m c t y i h0 h1, is2 m c t y i h0 h1]

theorem point_v (t : Fin cfg0.N) (y : S16x2048.Idx) (i : S688x2048.Idx) (h0 : (i 0 : ℕ) = t.val * 16 + y 0) (h1 : (i 1 : ℕ) = y 1) :
    k0_pay4 (F := Ideal) (View.ld (iblk m c 1 t) (Rect.unit (s := S4x16x2048) ![0, 0, 0] S1x16x2048.size inb_S4x16x2048_S1x16x2048_0_0_0)) (View.ld (iblk m c 1 t) (Rect.unit (s := S4x16x2048) ![1, 0, 0] S1x16x2048.size inb_S4x16x2048_S1x16x2048_1_0_0)) (View.ld (iblk m c 1 t) (Rect.unit (s := S4x16x2048) ![2, 0, 0] S1x16x2048.size inb_S4x16x2048_S1x16x2048_2_0_0)) (View.ld (iblk m c 1 t) (Rect.unit (s := S4x16x2048) ![3, 0, 0] S1x16x2048.size inb_S4x16x2048_S1x16x2048_3_0_0)) (iblk m c 3 t) y = Cert.AdamDownRefIdeal.Read.val_main_v12 (F := Ideal) (m ((c : Thread nD τ).loc main_arg1)) (m ((c : Thread nD τ).loc main_arg3)) i := by
  rw [pay_v, ref_v, point_g m c t y i h0 h1, is3 m c t y i h0 h1]

theorem point_d (t : Fin cfg0.N) (y : S16x2048.Idx) (i : S688x2048.Idx) (h0 : (i 0 : ℕ) = t.val * 16 + y 0) (h1 : (i 1 : ℕ) = y 1) :
    k0_pay1 (F := Ideal) (iblk m c 0 t) (k0_pay4 (F := Ideal) (View.ld (iblk m c 1 t) (Rect.unit (s := S4x16x2048) ![0, 0, 0] S1x16x2048.size inb_S4x16x2048_S1x16x2048_0_0_0)) (View.ld (iblk m c 1 t) (Rect.unit (s := S4x16x2048) ![1, 0, 0] S1x16x2048.size inb_S4x16x2048_S1x16x2048_1_0_0)) (View.ld (iblk m c 1 t) (Rect.unit (s := S4x16x2048) ![2, 0, 0] S1x16x2048.size inb_S4x16x2048_S1x16x2048_2_0_0)) (View.ld (iblk m c 1 t) (Rect.unit (s := S4x16x2048) ![3, 0, 0] S1x16x2048.size inb_S4x16x2048_S1x16x2048_3_0_0)) (iblk m c 3 t)) (k0_pay5 (F := Ideal) (View.ld (iblk m c 1 t) (Rect.unit (s := S4x16x2048) ![0, 0, 0] S1x16x2048.size inb_S4x16x2048_S1x16x2048_0_0_0)) (View.ld (iblk m c 1 t) (Rect.unit (s := S4x16x2048) ![1, 0, 0] S1x16x2048.size inb_S4x16x2048_S1x16x2048_1_0_0)) (View.ld (iblk m c 1 t) (Rect.unit (s := S4x16x2048) ![2, 0, 0] S1x16x2048.size inb_S4x16x2048_S1x16x2048_2_0_0)) (View.ld (iblk m c 1 t) (Rect.unit (s := S4x16x2048) ![3, 0, 0] S1x16x2048.size inb_S4x16x2048_S1x16x2048_3_0_0)) (iblk m c 2 t)) (Ideal.ofBits .f32 0x3C231ACC#32) y
      = Cert.AdamDownRefIdeal.Read.val_main_v25 (F := Ideal) (m ((c : Thread nD τ).loc main_arg0)) (m ((c : Thread nD τ).loc main_arg1)) (m ((c : Thread nD τ).loc main_arg2)) (m ((c : Thread nD τ).loc main_arg3)) i := by
  rw [pay_d, ref_d, point_m m c t y i h0 h1, point_v m c t y i h0 h1, is0 m c t y i h0 h1]

theorem final_g : (dats m 0 c).arrAt 4 (cfgs 0).N = Cert.AdamDownRefIdeal.Read.val_main_v1 (F := Ideal) (m ((c : Thread nD τ).loc main_arg1)) := by
  refine (dats m 0 c).arrAt_eq_of_covers 4 _ (by decide +kernel) fun t hf y => ?_
  blk_simp
  rw [after0_4]; frame_out
  exact point_g m c t y _ (by blk_simp [idx t]) (by blk_simp [idx t])

set_option maxHeartbeats 1000000 in
theorem final_d : (dats m 0 c).arrAt 5 (cfgs 0).N = Cert.AdamDownRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold_out out0_5; frame_out
  exact point_d m c t y _ (by blk_simp [idx t]) (by blk_simp [idx t])

theorem final_m : (dats m 0 c).arrAt 6 (cfgs 0).N = Cert.AdamDownRefIdeal.Read.val_main_v6 (F := Ideal) (m ((c : Thread nD τ).loc main_arg1)) (m ((c : Thread nD τ).loc main_arg2)) := by
  refine (dats m 0 c).arrAt_eq_of_covers 6 _ (by decide +kernel) fun t hf y => ?_
  blk_simp
  rw [after0_6]; frame_out
  exact point_m m c t y _ (by blk_simp [idx t]) (by blk_simp [idx t])

theorem final_v : (dats m 0 c).arrAt 7 (cfgs 0).N = Cert.AdamDownRefIdeal.Read.val_main_v12 (F := Ideal) (m ((c : Thread nD τ).loc main_arg1)) (m ((c : Thread nD τ).loc main_arg3)) := by
  refine (dats m 0 c).arrAt_eq_of_covers 7 _ (by decide +kernel) fun t hf y => ?_
  blk_simp
  rw [after0_7]; unfold_out out0_7; frame_out
  exact point_v m c t y _ (by blk_simp [idx t]) (by blk_simp [idx t])

end Cert.AdamDownIdeal.Value

namespace Cert.Proof

open Idealize.ShloMosaic Idealize.SL.Sem

/-- The reference of the step of the feed-forward's second projection runs, leaves its arguments as they were, and ends with every counter at zero. -/
theorem frame_AdamDownRef : Cert.quiescent_AdamDownRefIdeal := fun m ρ _ =>
  (θ_run Cert.AdamDownRefIdeal.defs _ _).mono (fun r h => ⟨fun c => (h c).2.2.2.2,
      Idealize.ShloMosaic.sem_eq_zero_of_no_sems (by decide) r.2⟩)
    (Cert.AdamDownRefIdeal.Value.run (F := Ideal) m ρ)

set_option maxHeartbeats 4000000 in
/-- The step of the feed-forward's second projection and its reference give the same four arrays. -/
theorem algebraic_AdamDown : Cert.algebraic_AdamDownIdeal_AdamDownRefIdeal := by
  pair_intro
  · run_from Cert.AdamDownIdeal.Gen.run_main m g
  · refine θ_run_mono (Cert.AdamDownRefIdeal.Value.run (F := Ideal) m' g') ?_
    intro r hr c
    have h := hr c
    have a := hagree c
    refine ⟨h.1.trans ?_, h.2.1.trans ?_, h.2.2.1.trans ?_, h.2.2.2.1.trans ?_, h.2.2.2.2⟩
    · refine (Cert.AdamDownRefIdeal.Read.val_main_v1_eq _).trans ?_
      rw [a.2.1]
      exact (Cert.AdamDownIdeal.Value.final_g m c).symm
    · refine (Cert.AdamDownRefIdeal.Read.val_main_v25_eq _ _ _ _).trans ?_
      rw [a.1, a.2.1, a.2.2.1, a.2.2.2]
      exact (Cert.AdamDownIdeal.Value.final_d m c).symm
    · refine (Cert.AdamDownRefIdeal.Read.val_main_v6_eq _ _).trans ?_
      rw [a.2.1, a.2.2.1]
      exact (Cert.AdamDownIdeal.Value.final_m m c).symm
    · refine (Cert.AdamDownRefIdeal.Read.val_main_v12_eq _ _).trans ?_
      rw [a.2.1, a.2.2.2]
      exact (Cert.AdamDownIdeal.Value.final_v m c).symm

end Cert.Proof

end
-- ==== Proof.AdamSmallVal.lean ====
/- The kernel of AdamW's step of the small weights, packed in one array. -/
module

public import proofs.«01_k».proof.Defs
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdamSmallIdeal.Value

open Cert.AdamSmallIdeal Cert.AdamSmallIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The new average of the gradients and of their squares, from the gradient and the old one. -/
def avg (g u : EReal) : EReal := Ideal.ofBits .f32 0x3F666666#32 * u + Ideal.ofBits .f32 0x3DCCCCCD#32 * g
def avg2 (g u : EReal) : EReal := Ideal.ofBits .f32 0x3F7FBE77#32 * u + Ideal.ofBits .f32 0x3A83126F#32 * (g * g)

/-- The step of a weight from the two averages. -/
def step (w u v : EReal) : EReal := Ideal.ofBits .f32 0xBA83126F#32 *
  (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

theorem pay_m (g u) (y : S32x1024.Idx) : k0_pay1 (F := Ideal) g u y = avg (g y) (u y) := rfl
theorem pay_v (g u) (y : S32x1024.Idx) : k0_pay2 (F := Ideal) g u y = avg2 (g y) (u y) := rfl
theorem pay_d (w g u v) (y : S32x1024.Idx) : k0_pay3 (F := Ideal) w g u v y
    = step (w y) (k0_pay1 (F := Ideal) g u y) (k0_pay2 (F := Ideal) g v y) := rfl

theorem ref_m (g u) (i : S32x1024.Idx) : Cert.AdamSmallRefIdeal.Read.val_main_v4 (F := Ideal) g u i = avg (g i) (u i) := by
  pointwise [Cert.AdamSmallRefIdeal.Read.val_main_v0, Cert.AdamSmallRefIdeal.Read.val_main_v1, Cert.AdamSmallRefIdeal.Read.val_main_v2, Cert.AdamSmallRefIdeal.Read.val_main_v3, Cert.AdamSmallRefIdeal.Read.val_main_v4, Cert.AdamSmallRefIdeal.Read.val_main_cst, Cert.AdamSmallRefIdeal.Read.val_main_cst_0]
  try rfl

theorem ref_v (g u) (i : S32x1024.Idx) : Cert.AdamSmallRefIdeal.Read.val_main_v10 (F := Ideal) g u i = avg2 (g i) (u i) := by
  pointwise [Cert.AdamSmallRefIdeal.Read.val_main_v5, Cert.AdamSmallRefIdeal.Read.val_main_v6, Cert.AdamSmallRefIdeal.Read.val_main_v7, Cert.AdamSmallRefIdeal.Read.val_main_v8, Cert.AdamSmallRefIdeal.Read.val_main_v9, Cert.AdamSmallRefIdeal.Read.val_main_v10, Cert.AdamSmallRefIdeal.Read.val_main_cst_1, Cert.AdamSmallRefIdeal.Read.val_main_cst_2]
  try rfl

theorem ref_d (w g u v) (i : S32x1024.Idx) : Cert.AdamSmallRefIdeal.Read.val_main_v23 (F := Ideal) w g u v i = step (w i) (Cert.AdamSmallRefIdeal.Read.val_main_v4 (F := Ideal) g u i) (Cert.AdamSmallRefIdeal.Read.val_main_v10 (F := Ideal) g v i) := by
  pointwise [Cert.AdamSmallRefIdeal.Read.val_main_v11, Cert.AdamSmallRefIdeal.Read.val_main_v12, Cert.AdamSmallRefIdeal.Read.val_main_v13, Cert.AdamSmallRefIdeal.Read.val_main_v14, Cert.AdamSmallRefIdeal.Read.val_main_v15, Cert.AdamSmallRefIdeal.Read.val_main_v16, Cert.AdamSmallRefIdeal.Read.val_main_v17, Cert.AdamSmallRefIdeal.Read.val_main_v18, Cert.AdamSmallRefIdeal.Read.val_main_v19, Cert.AdamSmallRefIdeal.Read.val_main_v20, Cert.AdamSmallRefIdeal.Read.val_main_v21, Cert.AdamSmallRefIdeal.Read.val_main_v22, Cert.AdamSmallRefIdeal.Read.val_main_v23, Cert.AdamSmallRefIdeal.Read.val_main_cst_3, Cert.AdamSmallRefIdeal.Read.val_main_cst_4, Cert.AdamSmallRefIdeal.Read.val_main_cst_5, Cert.AdamSmallRefIdeal.Read.val_main_cst_6, Cert.AdamSmallRefIdeal.Read.val_main_cst_7]
  try rfl

variable (c : Dev nD)

theorem is0 (t : Fin cfg0.N) (y : S32x1024.Idx) (i : S32x1024.Idx) (h0 : (i 0 : ℕ) = t.val * 32 + y 0) (h1 : (i 1 : ℕ) = y 1) :
    iblk m c 0 t y = (m ((c : Thread nD τ).loc main_arg0)) i := by
  blk_ext [iblk, V, idx t]

theorem is1 (t : Fin cfg0.N) (y : S32x1024.Idx) (i : S32x1024.Idx) (h0 : (i 0 : ℕ) = t.val * 32 + y 0) (h1 : (i 1 : ℕ) = y 1) :
    iblk m c 1 t y = (m ((c : Thread nD τ).loc main_arg1)) i := by
  blk_ext [iblk, V, idx t]

theorem is2 (t : Fin cfg0.N) (y : S32x1024.Idx) (i : S32x1024.Idx) (h0 : (i 0 : ℕ) = t.val * 32 + y 0) (h1 : (i 1 : ℕ) = y 1) :
    iblk m c 2 t y = (m ((c : Thread nD τ).loc main_arg2)) i := by
  blk_ext [iblk, V, idx t]

theorem is3 (t : Fin cfg0.N) (y : S32x1024.Idx) (i : S32x1024.Idx) (h0 : (i 0 : ℕ) = t.val * 32 + y 0) (h1 : (i 1 : ℕ) = y 1) :
    iblk m c 3 t y = (m ((c : Thread nD τ).loc main_arg3)) i := by
  blk_ext [iblk, V, idx t]

theorem final_d : (dats m 0 c).arrAt 4 (cfgs 0).N = Cert.AdamSmallRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; unfold out0_4; frame_out
  rw [ref_d, ref_m, ref_v]
  refine (pay_d _ _ _ _ y).trans ?_
  rw [pay_m, pay_v]
  rw [is0 m c t y ((win0_4.blk t).view.emb y) (by blk_simp [idx t]) (by blk_simp [idx t]), is1 m c t y ((win0_4.blk t).view.emb y) (by blk_simp [idx t]) (by blk_simp [idx t]), is2 m c t y ((win0_4.blk t).view.emb y) (by blk_simp [idx t]) (by blk_simp [idx t]), is3 m c t y ((win0_4.blk t).view.emb y) (by blk_simp [idx t]) (by blk_simp [idx t])]

theorem final_m : (dats m 0 c).arrAt 5 (cfgs 0).N = Cert.AdamSmallRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]; unfold out0_5; frame_out
  rw [ref_m]
  refine (pay_m _ _ y).trans ?_
  rw [is1 m c t y ((win0_5.blk t).view.emb y) (by blk_simp [idx t]) (by blk_simp [idx t]), is2 m c t y ((win0_5.blk t).view.emb y) (by blk_simp [idx t]) (by blk_simp [idx t])]

theorem final_v : (dats m 0 c).arrAt 6 (cfgs 0).N = Cert.AdamSmallRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]; unfold out0_6; frame_out
  rw [ref_v]
  refine (pay_v _ _ y).trans ?_
  rw [is1 m c t y ((win0_6.blk t).view.emb y) (by blk_simp [idx t]) (by blk_simp [idx t]), is3 m c t y ((win0_6.blk t).view.emb y) (by blk_simp [idx t]) (by blk_simp [idx t])]

end Cert.AdamSmallIdeal.Value

namespace Cert.Proof

open Idealize.ShloMosaic Idealize.SL.Sem

/-- The reference of the step of the small weights runs, leaves its arguments as they were, and ends with every counter at zero. -/
theorem frame_AdamSmallRef : Cert.quiescent_AdamSmallRefIdeal := fun m ρ _ =>
  (θ_run Cert.AdamSmallRefIdeal.defs _ _).mono (fun r h => ⟨fun c => (h c).2.2.2,
      Idealize.ShloMosaic.sem_eq_zero_of_no_sems (by decide) r.2⟩)
    (Cert.AdamSmallRefIdeal.Value.run (F := Ideal) m ρ)

set_option maxHeartbeats 4000000 in
/-- The step of the small weights and its reference give the same three arrays. -/
theorem algebraic_AdamSmall : Cert.algebraic_AdamSmallIdeal_AdamSmallRefIdeal := by
  pair_intro
  · run_from Cert.AdamSmallIdeal.Gen.run_main m g
  · refine θ_run_mono (Cert.AdamSmallRefIdeal.Value.run (F := Ideal) m' g') ?_
    intro r hr c
    have h := hr c
    have a := hagree c
    refine ⟨h.1.trans ?_, h.2.1.trans ?_, h.2.2.1.trans ?_, h.2.2.2⟩
    · refine (Cert.AdamSmallRefIdeal.Read.val_main_v23_eq _ _ _ _).trans ?_
      rw [a.1, a.2.1, a.2.2.1, a.2.2.2]
      exact (Cert.AdamSmallIdeal.Value.final_d m c).symm
    · refine (Cert.AdamSmallRefIdeal.Read.val_main_v4_eq _ _).trans ?_
      rw [a.2.1, a.2.2.1]
      exact (Cert.AdamSmallIdeal.Value.final_m m c).symm
    · refine (Cert.AdamSmallRefIdeal.Read.val_main_v10_eq _ _).trans ?_
      rw [a.2.1, a.2.2.2]
      exact (Cert.AdamSmallIdeal.Value.final_v m c).symm

end Cert.Proof

end
-- ==== Proof.lean ====
module

public import proofs.«01_k».proof.Defs
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.PlainIdeal
public import proofs.«01_k».proof.Proof.Gen.MemIdeal.Value
public import proofs.«01_k».proof.Proof.Gen.PlainIdeal.Run
public import proofs.«01_k».proof.Proof.Gen.PlainIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.UpDx
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.UpDw
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.DownDx
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDw
public import proofs.«01_k».proof.Proof.Gen.GatesDw
public import proofs.«01_k».proof.Proof.Gen.GatesDw.Skeleton
public import proofs.«01_k».proof.Proof.Gen.GatesDw.Launch
public import proofs.«01_k».proof.Proof.Gen.GatesDw.Points
public import proofs.«01_k».proof.Proof.Gen.GatesDw.Frame
public import proofs.«01_k».proof.Proof.Gen.GatesDwIdeal
public import proofs.«01_k».proof.Proof.Gen.GatesDwIdeal.Skeleton
public import proofs.«01_k».proof.Proof.Gen.GatesDwIdeal.Launch
public import proofs.«01_k».proof.Proof.Gen.GatesDwIdeal.Points
public import proofs.«01_k».proof.Proof.Gen.GatesDwIdeal.Frame
public import proofs.«01_k».proof.Proof.Gen.GatesDwIdeal.Value
public import proofs.«01_k».proof.Proof.Gen.GatesDwRefIdeal
public import proofs.«01_k».proof.Proof.Gen.GatesDwRefIdeal.Run
public import proofs.«01_k».proof.Proof.Gen.GatesDwRefIdeal.Read
public import proofs.«01_k».proof.Proof.GatesDw
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUp
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.FfnDown
public import proofs.«01_k».proof.Proof.Gen.MixO
public import proofs.«01_k».proof.Proof.Gen.MixO.Skeleton
public import proofs.«01_k».proof.Proof.Gen.MixO.Launch
public import proofs.«01_k».proof.Proof.Gen.MixO.Points
public import proofs.«01_k».proof.Proof.Gen.MixO.Frame
public import proofs.«01_k».proof.Proof.Gen.MixOIdeal
public import proofs.«01_k».proof.Proof.Gen.MixOIdeal.Skeleton
public import proofs.«01_k».proof.Proof.Gen.MixOIdeal.Launch
public import proofs.«01_k».proof.Proof.Gen.MixOIdeal.Points
public import proofs.«01_k».proof.Proof.Gen.MixOIdeal.Frame
public import proofs.«01_k».proof.Proof.Gen.MixOIdeal.Value
public import proofs.«01_k».proof.Proof.Gen.MixORefIdeal
public import proofs.«01_k».proof.Proof.Gen.MixORefIdeal.Run
public import proofs.«01_k».proof.Proof.Gen.MixORefIdeal.Read
public import proofs.«01_k».proof.Proof.MixO
public import proofs.«01_k».proof.Proof.Gen.BrDx
public import proofs.«01_k».proof.Proof.Gen.BrDx.Skeleton
public import proofs.«01_k».proof.Proof.Gen.BrDx.Launch
public import proofs.«01_k».proof.Proof.Gen.BrDx.Points
public import proofs.«01_k».proof.Proof.Gen.BrDx.Frame
public import proofs.«01_k».proof.Proof.Gen.BrDxIdeal
public import proofs.«01_k».proof.Proof.Gen.BrDxIdeal.Skeleton
public import proofs.«01_k».proof.Proof.Gen.BrDxIdeal.Launch
public import proofs.«01_k».proof.Proof.Gen.BrDxIdeal.Points
public import proofs.«01_k».proof.Proof.Gen.BrDxIdeal.Frame
public import proofs.«01_k».proof.Proof.Gen.BrDxIdeal.Value
public import proofs.«01_k».proof.Proof.Gen.BrDxRefIdeal
public import proofs.«01_k».proof.Proof.Gen.BrDxRefIdeal.Run
public import proofs.«01_k».proof.Proof.Gen.BrDxRefIdeal.Read
public import proofs.«01_k».proof.Proof.BrDx
public import proofs.«01_k».proof.Proof.Gen.BrDw
public import proofs.«01_k».proof.Proof.Gen.BrDw.Skeleton
public import proofs.«01_k».proof.Proof.Gen.BrDw.Launch
public import proofs.«01_k».proof.Proof.Gen.BrDw.Points
public import proofs.«01_k».proof.Proof.Gen.BrDw.Frame
public import proofs.«01_k».proof.Proof.Gen.BrDwIdeal
public import proofs.«01_k».proof.Proof.Gen.BrDwIdeal.Skeleton
public import proofs.«01_k».proof.Proof.Gen.BrDwIdeal.Launch
public import proofs.«01_k».proof.Proof.Gen.BrDwIdeal.Points
public import proofs.«01_k».proof.Proof.Gen.BrDwIdeal.Frame
public import proofs.«01_k».proof.Proof.Gen.BrDwIdeal.Value
public import proofs.«01_k».proof.Proof.Gen.BrDwRefIdeal
public import proofs.«01_k».proof.Proof.Gen.BrDwRefIdeal.Run
public import proofs.«01_k».proof.Proof.Gen.BrDwRefIdeal.Read
public import proofs.«01_k».proof.Proof.BrDw
public import proofs.«01_k».proof.Proof.Gen.SwaDw
public import proofs.«01_k».proof.Proof.Gen.SwaDw.Skeleton
public import proofs.«01_k».proof.Proof.Gen.SwaDw.Launch
public import proofs.«01_k».proof.Proof.Gen.SwaDw.Points
public import proofs.«01_k».proof.Proof.Gen.SwaDw.Frame
public import proofs.«01_k».proof.Proof.Gen.SwaDwIdeal
public import proofs.«01_k».proof.Proof.Gen.SwaDwIdeal.Skeleton
public import proofs.«01_k».proof.Proof.Gen.SwaDwIdeal.Launch
public import proofs.«01_k».proof.Proof.Gen.SwaDwIdeal.Points
public import proofs.«01_k».proof.Proof.Gen.SwaDwIdeal.Frame
public import proofs.«01_k».proof.Proof.Gen.SwaDwIdeal.Value
public import proofs.«01_k».proof.Proof.Gen.SwaDwRefIdeal
public import proofs.«01_k».proof.Proof.Gen.SwaDwRefIdeal.Run
public import proofs.«01_k».proof.Proof.Gen.SwaDwRefIdeal.Read
public import proofs.«01_k».proof.Proof.SwaDw
public import proofs.«01_k».proof.Proof.Gen.MemDx
public import proofs.«01_k».proof.Proof.Gen.MemDx.Skeleton
public import proofs.«01_k».proof.Proof.Gen.MemDx.Launch
public import proofs.«01_k».proof.Proof.Gen.MemDx.Points
public import proofs.«01_k».proof.Proof.Gen.MemDx.Frame
public import proofs.«01_k».proof.Proof.Gen.MemDxIdeal
public import proofs.«01_k».proof.Proof.Gen.MemDxIdeal.Skeleton
public import proofs.«01_k».proof.Proof.Gen.MemDxIdeal.Launch
public import proofs.«01_k».proof.Proof.Gen.MemDxIdeal.Points
public import proofs.«01_k».proof.Proof.Gen.MemDxIdeal.Frame
public import proofs.«01_k».proof.Proof.Gen.MemDxIdeal.Value
public import proofs.«01_k».proof.Proof.Gen.MemDxRefIdeal
public import proofs.«01_k».proof.Proof.Gen.MemDxRefIdeal.Run
public import proofs.«01_k».proof.Proof.Gen.MemDxRefIdeal.Read
public import proofs.«01_k».proof.Proof.MemDx
public import proofs.«01_k».proof.Proof.Gen.MemDwQ
public import proofs.«01_k».proof.Proof.Gen.MemDwQ.Skeleton
public import proofs.«01_k».proof.Proof.Gen.MemDwQ.Launch
public import proofs.«01_k».proof.Proof.Gen.MemDwQ.Points
public import proofs.«01_k».proof.Proof.Gen.MemDwQ.Frame
public import proofs.«01_k».proof.Proof.Gen.MemDwQIdeal
public import proofs.«01_k».proof.Proof.Gen.MemDwQIdeal.Skeleton
public import proofs.«01_k».proof.Proof.Gen.MemDwQIdeal.Launch
public import proofs.«01_k».proof.Proof.Gen.MemDwQIdeal.Points
public import proofs.«01_k».proof.Proof.Gen.MemDwQIdeal.Frame
public import proofs.«01_k».proof.Proof.Gen.MemDwQIdeal.Value
public import proofs.«01_k».proof.Proof.Gen.MemDwQRefIdeal
public import proofs.«01_k».proof.Proof.Gen.MemDwQRefIdeal.Run
public import proofs.«01_k».proof.Proof.Gen.MemDwQRefIdeal.Read
public import proofs.«01_k».proof.Proof.MemDwQ
public import proofs.«01_k».proof.Proof.Gen.MemDwKv
public import proofs.«01_k».proof.Proof.Gen.MemDwKv.Skeleton
public import proofs.«01_k».proof.Proof.Gen.MemDwKv.Launch
public import proofs.«01_k».proof.Proof.Gen.MemDwKv.Points
public import proofs.«01_k».proof.Proof.Gen.MemDwKv.Frame
public import proofs.«01_k».proof.Proof.Gen.MemDwKvIdeal
public import proofs.«01_k».proof.Proof.Gen.MemDwKvIdeal.Skeleton
public import proofs.«01_k».proof.Proof.Gen.MemDwKvIdeal.Launch
public import proofs.«01_k».proof.Proof.Gen.MemDwKvIdeal.Points
public import proofs.«01_k».proof.Proof.Gen.MemDwKvIdeal.Frame
public import proofs.«01_k».proof.Proof.Gen.MemDwKvIdeal.Value
public import proofs.«01_k».proof.Proof.Gen.MemDwKvRefIdeal
public import proofs.«01_k».proof.Proof.Gen.MemDwKvRefIdeal.Run
public import proofs.«01_k».proof.Proof.Gen.MemDwKvRefIdeal.Read
public import proofs.«01_k».proof.Proof.MemDwKv
public import proofs.«01_k».proof.Proof.Gen.MemDwO
public import proofs.«01_k».proof.Proof.Gen.MemDwO.Skeleton
public import proofs.«01_k».proof.Proof.Gen.MemDwO.Launch
public import proofs.«01_k».proof.Proof.Gen.MemDwO.Points
public import proofs.«01_k».proof.Proof.Gen.MemDwO.Frame
public import proofs.«01_k».proof.Proof.Gen.MemDwOIdeal
public import proofs.«01_k».proof.Proof.Gen.MemDwOIdeal.Skeleton
public import proofs.«01_k».proof.Proof.Gen.MemDwOIdeal.Launch
public import proofs.«01_k».proof.Proof.Gen.MemDwOIdeal.Points
public import proofs.«01_k».proof.Proof.Gen.MemDwOIdeal.Frame
public import proofs.«01_k».proof.Proof.Gen.MemDwOIdeal.Value
public import proofs.«01_k».proof.Proof.Gen.MemDwORefIdeal
public import proofs.«01_k».proof.Proof.Gen.MemDwORefIdeal.Run
public import proofs.«01_k».proof.Proof.Gen.MemDwORefIdeal.Read
public import proofs.«01_k».proof.Proof.MemDwO
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInIdeal.Value
public import proofs.«01_k».proof.Proof.Gen.SwaInRefIdeal
public import proofs.«01_k».proof.Proof.Gen.SwaInRefIdeal.Run
public import proofs.«01_k».proof.Proof.Gen.SwaInRefIdeal.Read
public import proofs.«01_k».proof.Proof.SwaIn
public import proofs.«01_k».proof.Proof.Gen.MemQ
public import proofs.«01_k».proof.Proof.Gen.MemQ.Skeleton
public import proofs.«01_k».proof.Proof.Gen.MemQ.Launch
public import proofs.«01_k».proof.Proof.Gen.MemQ.Points
public import proofs.«01_k».proof.Proof.Gen.MemQ.Frame
public import proofs.«01_k».proof.Proof.Gen.MemQIdeal
public import proofs.«01_k».proof.Proof.Gen.MemQIdeal.Skeleton
public import proofs.«01_k».proof.Proof.Gen.MemQIdeal.Launch
public import proofs.«01_k».proof.Proof.Gen.MemQIdeal.Points
public import proofs.«01_k».proof.Proof.Gen.MemQIdeal.Frame
public import proofs.«01_k».proof.Proof.Gen.MemQIdeal.Value
public import proofs.«01_k».proof.Proof.Gen.MemQRefIdeal
public import proofs.«01_k».proof.Proof.Gen.MemQRefIdeal.Run
public import proofs.«01_k».proof.Proof.Gen.MemQRefIdeal.Read
public import proofs.«01_k».proof.Proof.MemQ
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.MemKv
public import proofs.«01_k».proof.Proof.Gen.MemO
public import proofs.«01_k».proof.Proof.Gen.MemO.Skeleton
public import proofs.«01_k».proof.Proof.Gen.MemO.Launch
public import proofs.«01_k».proof.Proof.Gen.MemO.Points
public import proofs.«01_k».proof.Proof.Gen.MemO.Frame
public import proofs.«01_k».proof.Proof.Gen.MemOIdeal
public import proofs.«01_k».proof.Proof.Gen.MemOIdeal.Skeleton
public import proofs.«01_k».proof.Proof.Gen.MemOIdeal.Launch
public import proofs.«01_k».proof.Proof.Gen.MemOIdeal.Points
public import proofs.«01_k».proof.Proof.Gen.MemOIdeal.Frame
public import proofs.«01_k».proof.Proof.Gen.MemOIdeal.Value
public import proofs.«01_k».proof.Proof.Gen.MemORefIdeal
public import proofs.«01_k».proof.Proof.Gen.MemORefIdeal.Run
public import proofs.«01_k».proof.Proof.Gen.MemORefIdeal.Read
public import proofs.«01_k».proof.Proof.MemO
public import proofs.«01_k».proof.Proof.Gen.ProjGates
public import proofs.«01_k».proof.Proof.Gen.ProjGates.Skeleton
public import proofs.«01_k».proof.Proof.Gen.ProjGates.Launch
public import proofs.«01_k».proof.Proof.Gen.ProjGates.Points
public import proofs.«01_k».proof.Proof.Gen.ProjGates.Frame
public import proofs.«01_k».proof.Proof.Gen.ProjGatesIdeal
public import proofs.«01_k».proof.Proof.Gen.ProjGatesIdeal.Skeleton
public import proofs.«01_k».proof.Proof.Gen.ProjGatesIdeal.Launch
public import proofs.«01_k».proof.Proof.Gen.ProjGatesIdeal.Points
public import proofs.«01_k».proof.Proof.Gen.ProjGatesIdeal.Frame
public import proofs.«01_k».proof.Proof.Gen.ProjGatesIdeal.Value
public import proofs.«01_k».proof.Proof.Gen.ProjGatesRefIdeal
public import proofs.«01_k».proof.Proof.Gen.ProjGatesRefIdeal.Run
public import proofs.«01_k».proof.Proof.Gen.ProjGatesRefIdeal.Read
public import proofs.«01_k».proof.Proof.ProjGates
public import proofs.«01_k».proof.Proof.Gen.ProjGdn
public import proofs.«01_k».proof.Proof.Gen.ProjGdn.Skeleton
public import proofs.«01_k».proof.Proof.Gen.ProjGdn.Launch
public import proofs.«01_k».proof.Proof.Gen.ProjGdn.Points
public import proofs.«01_k».proof.Proof.Gen.ProjGdn.Frame
public import proofs.«01_k».proof.Proof.Gen.ProjGdnIdeal
public import proofs.«01_k».proof.Proof.Gen.ProjGdnIdeal.Skeleton
public import proofs.«01_k».proof.Proof.Gen.ProjGdnIdeal.Launch
public import proofs.«01_k».proof.Proof.Gen.ProjGdnIdeal.Points
public import proofs.«01_k».proof.Proof.Gen.ProjGdnIdeal.Frame
public import proofs.«01_k».proof.Proof.Gen.ProjGdnIdeal.Value
public import proofs.«01_k».proof.Proof.Gen.ProjGdnRefIdeal
public import proofs.«01_k».proof.Proof.Gen.ProjGdnRefIdeal.Run
public import proofs.«01_k».proof.Proof.Gen.ProjGdnRefIdeal.Read
public import proofs.«01_k».proof.Proof.ProjGdn
public import proofs.«01_k».proof.Proof.Gen.BrFwd
public import proofs.«01_k».proof.Proof.Gen.BrFwd.Skeleton
public import proofs.«01_k».proof.Proof.Gen.BrFwd.Launch
public import proofs.«01_k».proof.Proof.Gen.BrFwd.Points
public import proofs.«01_k».proof.Proof.Gen.BrFwd.Frame
public import proofs.«01_k».proof.Proof.Gen.BrFwdIdeal
public import proofs.«01_k».proof.Proof.Gen.BrFwdIdeal.Skeleton
public import proofs.«01_k».proof.Proof.Gen.BrFwdIdeal.Launch
public import proofs.«01_k».proof.Proof.Gen.BrFwdIdeal.Points
public import proofs.«01_k».proof.Proof.Gen.BrFwdIdeal.Frame
public import proofs.«01_k».proof.Proof.Gen.BrFwdIdeal.Value
public import proofs.«01_k».proof.Proof.Gen.BrFwdRefIdeal
public import proofs.«01_k».proof.Proof.Gen.BrFwdRefIdeal.Run
public import proofs.«01_k».proof.Proof.Gen.BrFwdRefIdeal.Read
public import proofs.«01_k».proof.Proof.BrFwd
public import proofs.«01_k».proof.Proof.Gen.OmDx
public import proofs.«01_k».proof.Proof.Gen.OmDx.Skeleton
public import proofs.«01_k».proof.Proof.Gen.OmDx.Launch
public import proofs.«01_k».proof.Proof.Gen.OmDx.Points
public import proofs.«01_k».proof.Proof.Gen.OmDx.Frame
public import proofs.«01_k».proof.Proof.Gen.OmDxIdeal
public import proofs.«01_k».proof.Proof.Gen.OmDxIdeal.Skeleton
public import proofs.«01_k».proof.Proof.Gen.OmDxIdeal.Launch
public import proofs.«01_k».proof.Proof.Gen.OmDxIdeal.Points
public import proofs.«01_k».proof.Proof.Gen.OmDxIdeal.Frame
public import proofs.«01_k».proof.Proof.Gen.OmDxIdeal.Value
public import proofs.«01_k».proof.Proof.Gen.OmDxRefIdeal
public import proofs.«01_k».proof.Proof.Gen.OmDxRefIdeal.Run
public import proofs.«01_k».proof.Proof.Gen.OmDxRefIdeal.Read
public import proofs.«01_k».proof.Proof.OmDx
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDx.Frame
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxIdeal.Value
public import proofs.«01_k».proof.Proof.Gen.MixDxRefIdeal
public import proofs.«01_k».proof.Proof.Gen.MixDxRefIdeal.Run
public import proofs.«01_k».proof.Proof.Gen.MixDxRefIdeal.Read
public import proofs.«01_k».proof.Proof.MixDx
public import proofs.«01_k».proof.Proof.Gen.MixDw
public import proofs.«01_k».proof.Proof.Gen.MixDw.Skeleton
public import proofs.«01_k».proof.Proof.Gen.MixDw.Launch
public import proofs.«01_k».proof.Proof.Gen.MixDw.Points
public import proofs.«01_k».proof.Proof.Gen.MixDw.Frame
public import proofs.«01_k».proof.Proof.Gen.MixDwIdeal
public import proofs.«01_k».proof.Proof.Gen.MixDwIdeal.Skeleton
public import proofs.«01_k».proof.Proof.Gen.MixDwIdeal.Launch
public import proofs.«01_k».proof.Proof.Gen.MixDwIdeal.Points
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDwRefIdeal.Read
public import proofs.«01_k».proof.Proof.MixDw
public import proofs.«01_k».proof.Proof.Gen.SwaDx
public import proofs.«01_k».proof.Proof.Gen.SwaDx.Skeleton
public import proofs.«01_k».proof.Proof.Gen.SwaDx.Launch
public import proofs.«01_k».proof.Proof.Gen.SwaDx.Points
public import proofs.«01_k».proof.Proof.Gen.SwaDx.Frame
public import proofs.«01_k».proof.Proof.Gen.SwaDxIdeal
public import proofs.«01_k».proof.Proof.Gen.SwaDxIdeal.Skeleton
public import proofs.«01_k».proof.Proof.Gen.SwaDxIdeal.Launch
public import proofs.«01_k».proof.Proof.Gen.SwaDxIdeal.Points
public import proofs.«01_k».proof.Proof.Gen.SwaDxIdeal.Frame
public import proofs.«01_k».proof.Proof.Gen.SwaDxIdeal.Value
public import proofs.«01_k».proof.Proof.Gen.SwaDxRefIdeal
public import proofs.«01_k».proof.Proof.Gen.SwaDxRefIdeal.Run
public import proofs.«01_k».proof.Proof.Gen.SwaDxRefIdeal.Read
public import proofs.«01_k».proof.Proof.SwaDx
public import proofs.«01_k».proof.Proof.Gen.GatesDx
public import proofs.«01_k».proof.Proof.Gen.GatesDx.Skeleton
public import proofs.«01_k».proof.Proof.Gen.GatesDx.Launch
public import proofs.«01_k».proof.Proof.Gen.GatesDx.Points
public import proofs.«01_k».proof.Proof.Gen.GatesDx.Frame
public import proofs.«01_k».proof.Proof.Gen.GatesDxIdeal
public import proofs.«01_k».proof.Proof.Gen.GatesDxIdeal.Skeleton
public import proofs.«01_k».proof.Proof.Gen.GatesDxIdeal.Launch
public import proofs.«01_k».proof.Proof.Gen.GatesDxIdeal.Points
public import proofs.«01_k».proof.Proof.Gen.GatesDxIdeal.Frame
public import proofs.«01_k».proof.Proof.Gen.GatesDxIdeal.Value
public import proofs.«01_k».proof.Proof.Gen.GatesDxRefIdeal
public import proofs.«01_k».proof.Proof.Gen.GatesDxRefIdeal.Run
public import proofs.«01_k».proof.Proof.Gen.GatesDxRefIdeal.Read
public import proofs.«01_k».proof.Proof.GatesDx
public import proofs.«01_k».proof.Proof.Gen.Cols
public import proofs.«01_k».proof.Proof.Gen.Cols.Skeleton
public import proofs.«01_k».proof.Proof.Gen.Cols.Launch
public import proofs.«01_k».proof.Proof.Gen.Cols.Points
public import proofs.«01_k».proof.Proof.Gen.Cols.Frame
public import proofs.«01_k».proof.Proof.Gen.ColsIdeal
public import proofs.«01_k».proof.Proof.Gen.ColsIdeal.Skeleton
public import proofs.«01_k».proof.Proof.Gen.ColsIdeal.Launch
public import proofs.«01_k».proof.Proof.Gen.ColsIdeal.Points
public import proofs.«01_k».proof.Proof.Gen.ColsIdeal.Frame
public import proofs.«01_k».proof.Proof.Gen.ColsIdeal.Value
public import proofs.«01_k».proof.Proof.Gen.ColsRefIdeal
public import proofs.«01_k».proof.Proof.Gen.ColsRefIdeal.Run
public import proofs.«01_k».proof.Proof.Gen.ColsRefIdeal.Read
public import proofs.«01_k».proof.Proof.Cols
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.MergeFwd
public import proofs.«01_k».proof.Proof.Gen.MemFwd
public import proofs.«01_k».proof.Proof.Gen.MemFwd.Skeleton
public import proofs.«01_k».proof.Proof.Gen.MemFwd.Launch
public import proofs.«01_k».proof.Proof.Gen.MemFwd.Points
public import proofs.«01_k».proof.Proof.Gen.MemFwd.Frame
public import proofs.«01_k».proof.Proof.Gen.MemFwdIdeal
public import proofs.«01_k».proof.Proof.Gen.MemFwdIdeal.Skeleton
public import proofs.«01_k».proof.Proof.Gen.MemFwdIdeal.Launch
public import proofs.«01_k».proof.Proof.Gen.MemFwdIdeal.Points
public import proofs.«01_k».proof.Proof.Gen.MemFwdIdeal.Frame
public import proofs.«01_k».proof.Proof.Gen.MemFwdIdeal.Value
public import proofs.«01_k».proof.Proof.Gen.MemFwdRefIdeal
public import proofs.«01_k».proof.Proof.Gen.MemFwdRefIdeal.Run
public import proofs.«01_k».proof.Proof.Gen.MemFwdRefIdeal.Read
public import proofs.«01_k».proof.Proof.MemFwd
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.SwaReal
public import proofs.«01_k».proof.Proof.SwaPair
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeVal
public import proofs.«01_k».proof.Proof.Gen.SwaFwd
public import proofs.«01_k».proof.Proof.Gen.SwaFwd.Skeleton
public import proofs.«01_k».proof.Proof.Gen.SwaFwd.Launch
public import proofs.«01_k».proof.Proof.Gen.SwaFwd.Points
public import proofs.«01_k».proof.Proof.Gen.SwaFwd.Frame
public import proofs.«01_k».proof.Proof.Gen.SwaFwdIdeal
public import proofs.«01_k».proof.Proof.Gen.SwaFwdIdeal.Skeleton
public import proofs.«01_k».proof.Proof.Gen.SwaFwdIdeal.Launch
public import proofs.«01_k».proof.Proof.Gen.SwaFwdIdeal.Points
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.SwaFwdVal
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdIdeal.Value
public import proofs.«01_k».proof.Proof.Gen.LnFwdRefIdeal
public import proofs.«01_k».proof.Proof.Gen.LnFwdRefIdeal.Run
public import proofs.«01_k».proof.Proof.Gen.LnFwdRefIdeal.Read
public import proofs.«01_k».proof.Proof.LnFwdVal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamInVal
public import proofs.«01_k».proof.Proof.Gen.AdamBr
public import proofs.«01_k».proof.Proof.Gen.AdamBr.Skeleton
public import proofs.«01_k».proof.Proof.Gen.AdamBr.Launch
public import proofs.«01_k».proof.Proof.Gen.AdamBr.Points
public import proofs.«01_k».proof.Proof.Gen.AdamBr.Frame
public import proofs.«01_k».proof.Proof.Gen.AdamBrIdeal
public import proofs.«01_k».proof.Proof.Gen.AdamBrIdeal.Skeleton
public import proofs.«01_k».proof.Proof.Gen.AdamBrIdeal.Launch
public import proofs.«01_k».proof.Proof.Gen.AdamBrIdeal.Points
public import proofs.«01_k».proof.Proof.Gen.AdamBrIdeal.Frame
public import proofs.«01_k».proof.Proof.Gen.AdamBrIdeal.Value
public import proofs.«01_k».proof.Proof.Gen.AdamBrRefIdeal
public import proofs.«01_k».proof.Proof.Gen.AdamBrRefIdeal.Run
public import proofs.«01_k».proof.Proof.Gen.AdamBrRefIdeal.Read
public import proofs.«01_k».proof.Proof.AdamBrVal
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixIdeal.Value
public import proofs.«01_k».proof.Proof.Gen.AdamMixRefIdeal
public import proofs.«01_k».proof.Proof.Gen.AdamMixRefIdeal.Run
public import proofs.«01_k».proof.Proof.Gen.AdamMixRefIdeal.Read
public import proofs.«01_k».proof.Proof.AdamMixVal
public import proofs.«01_k».proof.Proof.Gen.AdamQ
public import proofs.«01_k».proof.Proof.Gen.AdamQ.Skeleton
public import proofs.«01_k».proof.Proof.Gen.AdamQ.Launch
public import proofs.«01_k».proof.Proof.Gen.AdamQ.Points
public import proofs.«01_k».proof.Proof.Gen.AdamQ.Frame
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQIdeal.Value
public import proofs.«01_k».proof.Proof.Gen.AdamQRefIdeal
public import proofs.«01_k».proof.Proof.Gen.AdamQRefIdeal.Run
public import proofs.«01_k».proof.Proof.Gen.AdamQRefIdeal.Read
public import proofs.«01_k».proof.Proof.AdamQVal
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.AdamKvVal
public import proofs.«01_k».proof.Proof.Gen.AdamO
public import proofs.«01_k».proof.Proof.Gen.AdamO.Skeleton
public import proofs.«01_k».proof.Proof.Gen.AdamO.Launch
public import proofs.«01_k».proof.Proof.Gen.AdamO.Points
public import proofs.«01_k».proof.Proof.Gen.AdamO.Frame
public import proofs.«01_k».proof.Proof.Gen.AdamOIdeal
public import proofs.«01_k».proof.Proof.Gen.AdamOIdeal.Skeleton
public import proofs.«01_k».proof.Proof.Gen.AdamOIdeal.Launch
public import proofs.«01_k».proof.Proof.Gen.AdamOIdeal.Points
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import proofs.«01_k».proof.Proof.AdamOVal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.AdamUpVal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamDownVal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallVal
public import proofs.«01_k».proof.Proof.MemReal
public import Idealize.ShloMosaic.Adequacy
public import Idealize.ShloMosaic.Init

@[expose] public section

noncomputable section

namespace Cert.Proof

open Idealize.ShloMosaic Idealize.SL.Sem Cert.Mem

/-- The reference runs, leaves its arguments as they were, and ends with every counter at zero. -/
theorem plain_frame (m : (ℓ : Loc Cert.PlainIdeal.nD Cert.PlainIdeal.τ Cert.PlainIdeal.sig) → Buf (Elt Ideal) ℓ) (ρ : Dev Cert.PlainIdeal.nD → PrngReg) :
    θ_run (Cert.PlainIdeal.defs (F := Ideal)) (onTc (τ := Cert.PlainIdeal.τ) (Cert.PlainIdeal.main (F := Ideal))) ⟨m, fun _ => 0, ρ⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0) :=
  (θ_run Cert.PlainIdeal.defs _ _).mono (fun r h => ⟨fun c => (h c).2.2,
      Idealize.ShloMosaic.sem_eq_zero_of_no_sems (by decide) r.2⟩)
    (Cert.PlainIdeal.Value.run (F := Ideal) m ρ)

/-- The kernel's gradients and the reference's are equal on real arguments. -/
theorem algebraic : Cert.algebraic_MemIdeal_PlainIdeal_pre_mem_real := by
  pair_intro
  · run_from Cert.MemIdeal.Gen.run_main m g
  · refine θ_run_mono (Cert.PlainIdeal.Value.run (F := Ideal) m' g') ?_
    intro r hr c
    obtain ⟨hq, hkv, h0, h1, h2⟩ := hr c
    obtain ⟨a0, a1, a2⟩ := hagree c
    obtain ⟨p0, p1, p2⟩ := Cert.PlainIdeal.Value.real_of_pre _ _ _ (hpre c)
    refine ⟨hq.trans ?_, hkv.trans ?_, h0, h1, h2⟩
    · refine (Cert.PlainIdeal.Read.val_main_v69_eq m' c).trans ?_
      rw [a0, a1, a2]
      exact (Cert.PlainIdeal.Value.ref_q _ _ _ p0 p1 p2).trans (Cert.MemIdeal.Value.final_q m c).symm
    · refine (Cert.PlainIdeal.Read.val_main_v67_eq m' c).trans ?_
      rw [a0, a1, a2]
      exact (Cert.PlainIdeal.Value.ref_kv _ _ _ p0 p1 p2).trans (Cert.MemIdeal.Value.final_kv m c).symm

/-- The reference UpDxRef runs, leaves its arguments as they were, and ends with every counter at zero. -/
theorem frame_UpDxRef : Cert.quiescent_UpDxRefIdeal := fun m ρ _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m ρ)

/-- The kernel UpDx and its reference give the same array. -/
theorem algebraic_UpDx : Cert.algebraic_UpDxIdeal_UpDxRefIdeal := by
  pair_intro
  · run_from Cert.UpDxIdeal.Gen.run_main m g
  · refine θ_run_mono (Cert.UpDxRefIdeal.Value.run (F := Ideal) m' g') ?_
    intro r hr c
    obtain ⟨hq, h0, h1, h2⟩ := hr c
    obtain ⟨a0, a1, a2⟩ := hagree c
    refine ⟨(hq.trans (Cert.UpDxRefIdeal.Read.val_main_v11_eq _ _ _)).trans ?_, h0, h1, h2⟩
    rw [a0, a1, a2]
    exact (Cert.UpDxIdeal.Value.final m c).symm

/-- The reference UpDwRef runs, leaves its arguments as they were, and ends with every counter at zero. -/
theorem frame_UpDwRef : Cert.quiescent_UpDwRefIdeal := fun m ρ _ =>
  (θ_run Cert.UpDwRefIdeal.defs _ _).mono (fun r h => ⟨fun c => (h c).2,
      Idealize.ShloMosaic.sem_eq_zero_of_no_sems (by decide) r.2⟩)
    (Cert.UpDwRefIdeal.Value.run (F := Ideal) m ρ)

/-- The kernel UpDw and its reference give the same array. -/
theorem algebraic_UpDw : Cert.algebraic_UpDwIdeal_UpDwRefIdeal := by
  pair_intro
  · run_from Cert.UpDwIdeal.Gen.run_main m g
  · refine θ_run_mono (Cert.UpDwRefIdeal.Value.run (F := Ideal) m' g') ?_
    intro r hr c
    obtain ⟨hq, h0, h1⟩ := hr c
    obtain ⟨a0, a1⟩ := hagree c
    refine ⟨(hq.trans (Cert.UpDwRefIdeal.Read.val_main_v9_eq _ _)).trans ?_, h0, h1⟩
    rw [a0, a1]
    exact (Cert.UpDwIdeal.Value.final m c).symm

/-- The reference DownDxRef runs, leaves its arguments as they were, and ends with every counter at zero. -/
theorem frame_DownDxRef : Cert.quiescent_DownDxRefIdeal := fun m ρ _ =>
  (θ_run Cert.DownDxRefIdeal.defs _ _).mono (fun r h => ⟨fun c => (h c).2,
      Idealize.ShloMosaic.sem_eq_zero_of_no_sems (by decide) r.2⟩)
    (Cert.DownDxRefIdeal.Value.run (F := Ideal) m ρ)

/-- The kernel DownDx and its reference give the same array. -/
theorem algebraic_DownDx : Cert.algebraic_DownDxIdeal_DownDxRefIdeal := by
  pair_intro
  · run_from Cert.DownDxIdeal.Gen.run_main m g
  · refine θ_run_mono (Cert.DownDxRefIdeal.Value.run (F := Ideal) m' g') ?_
    intro r hr c
    obtain ⟨hq, h0, h1⟩ := hr c
    obtain ⟨a0, a1⟩ := hagree c
    refine ⟨(hq.trans (Cert.DownDxRefIdeal.Read.val_main_v5_eq _ _)).trans ?_, h0, h1⟩
    rw [a0, a1]
    exact (Cert.DownDxIdeal.Value.final m c).symm

/-- The reference DownDwRef runs, leaves its arguments as they were, and ends with every counter at zero. -/
theorem frame_DownDwRef : Cert.quiescent_DownDwRefIdeal := fun m ρ _ =>
  (θ_run Cert.DownDwRefIdeal.defs _ _).mono (fun r h => ⟨fun c => (h c).2,
      Idealize.ShloMosaic.sem_eq_zero_of_no_sems (by decide) r.2⟩)
    (Cert.DownDwRefIdeal.Value.run (F := Ideal) m ρ)

/-- The kernel DownDw and its reference give the same array. -/
theorem algebraic_DownDw : Cert.algebraic_DownDwIdeal_DownDwRefIdeal := by
  pair_intro
  · run_from Cert.DownDwIdeal.Gen.run_main m g
  · refine θ_run_mono (Cert.DownDwRefIdeal.Value.run (F := Ideal) m' g') ?_
    intro r hr c
    obtain ⟨hq, h0, h1⟩ := hr c
    obtain ⟨a0, a1⟩ := hagree c
    refine ⟨(hq.trans (Cert.DownDwRefIdeal.Read.val_main_v5_eq _ _)).trans ?_, h0, h1⟩
    rw [a0, a1]
    exact (Cert.DownDwIdeal.Value.final m c).symm

/-- The reference GatesDwRef runs, leaves its arguments as they were, and ends with every counter at zero. -/
theorem frame_GatesDwRef : Cert.quiescent_GatesDwRefIdeal := fun m ρ _ =>
  (θ_run Cert.GatesDwRefIdeal.defs _ _).mono (fun r h => ⟨fun c => (h c).2,
      Idealize.ShloMosaic.sem_eq_zero_of_no_sems (by decide) r.2⟩)
    (Cert.GatesDwRefIdeal.Value.run (F := Ideal) m ρ)

/-- The kernel GatesDw and its reference give the same array. -/
theorem algebraic_GatesDw : Cert.algebraic_GatesDwIdeal_GatesDwRefIdeal := by
  pair_intro
  · run_from Cert.GatesDwIdeal.Gen.run_main m g
  · refine θ_run_mono (Cert.GatesDwRefIdeal.Value.run (F := Ideal) m' g') ?_
    intro r hr c
    obtain ⟨hq, h0, h1⟩ := hr c
    obtain ⟨a0, a1⟩ := hagree c
    refine ⟨(hq.trans (Cert.GatesDwRefIdeal.Read.val_main_v5_eq _ _)).trans ?_, h0, h1⟩
    rw [a0, a1]
    exact (Cert.GatesDwIdeal.Value.final m c).symm

/-- The reference FfnUpRef runs, leaves its arguments as they were, and ends with every counter at zero. -/
theorem frame_FfnUpRef : Cert.quiescent_FfnUpRefIdeal := fun m ρ _ =>
  (θ_run Cert.FfnUpRefIdeal.defs _ _).mono (fun r h => ⟨fun c => (h c).2,
      Idealize.ShloMosaic.sem_eq_zero_of_no_sems (by decide) r.2⟩)
    (Cert.FfnUpRefIdeal.Value.run (F := Ideal) m ρ)

/-- The kernel FfnUp and its reference give the same array. -/
theorem algebraic_FfnUp : Cert.algebraic_FfnUpIdeal_FfnUpRefIdeal := by
  pair_intro
  · run_from Cert.FfnUpIdeal.Gen.run_main m g
  · refine θ_run_mono (Cert.FfnUpRefIdeal.Value.run (F := Ideal) m' g') ?_
    intro r hr c
    obtain ⟨hq, h0, h1⟩ := hr c
    obtain ⟨a0, a1⟩ := hagree c
    refine ⟨(hq.trans (Cert.FfnUpRefIdeal.Read.val_main_v6_eq _ _)).trans ?_, h0, h1⟩
    rw [a0, a1]
    exact (Cert.FfnUpIdeal.Value.final m c).symm

/-- The reference FfnDownRef runs, leaves its arguments as they were, and ends with every counter at zero. -/
theorem frame_FfnDownRef : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

/-- The kernel FfnDown and its reference give the same array. -/
theorem algebraic_FfnDown : Cert.algebraic_FfnDownIdeal_FfnDownRefIdeal := by
  pair_intro
  · run_from Cert.FfnDownIdeal.Gen.run_main m g
  · refine θ_run_mono (Cert.FfnDownRefIdeal.Value.run (F := Ideal) m' g') ?_
    intro r hr c
    obtain ⟨hq, h0, h1, h2⟩ := hr c
    obtain ⟨a0, a1, a2⟩ := hagree c
    refine ⟨(hq.trans (Cert.FfnDownRefIdeal.Read.val_main_v5_eq _ _ _)).trans ?_, h0, h1, h2⟩
    rw [a0, a1, a2]
    exact (Cert.FfnDownIdeal.Value.final m c).symm

/-- The reference MixORef runs, leaves its arguments as they were, and ends with every counter at zero. -/
theorem frame_MixORef : Cert.quiescent_MixORefIdeal := fun m ρ _ =>
  (θ_run Cert.MixORefIdeal.defs _ _).mono (fun r h => ⟨fun c => (h c).2,
      Idealize.ShloMosaic.sem_eq_zero_of_no_sems (by decide) r.2⟩)
    (Cert.MixORefIdeal.Value.run (F := Ideal) m ρ)

/-- The kernel MixO and its reference give the same array. -/
theorem algebraic_MixO : Cert.algebraic_MixOIdeal_MixORefIdeal := by
  pair_intro
  · run_from Cert.MixOIdeal.Gen.run_main m g
  · refine θ_run_mono (Cert.MixORefIdeal.Value.run (F := Ideal) m' g') ?_
    intro r hr c
    obtain ⟨hq, h0, h1, h2⟩ := hr c
    obtain ⟨a0, a1, a2⟩ := hagree c
    refine ⟨(hq.trans (Cert.MixORefIdeal.Read.val_main_v5_eq _ _ _)).trans ?_, h0, h1, h2⟩
    rw [a0, a1, a2]
    exact (Cert.MixOIdeal.Value.final m c).symm

/-- The reference BrDxRef runs, leaves its arguments as they were, and ends with every counter at zero. -/
theorem frame_BrDxRef : Cert.quiescent_BrDxRefIdeal := fun m ρ _ =>
  (θ_run Cert.BrDxRefIdeal.defs _ _).mono (fun r h => ⟨fun c => (h c).2,
      Idealize.ShloMosaic.sem_eq_zero_of_no_sems (by decide) r.2⟩)
    (Cert.BrDxRefIdeal.Value.run (F := Ideal) m ρ)

/-- The kernel BrDx and its reference give the same array. -/
theorem algebraic_BrDx : Cert.algebraic_BrDxIdeal_BrDxRefIdeal := by
  pair_intro
  · run_from Cert.BrDxIdeal.Gen.run_main m g
  · refine θ_run_mono (Cert.BrDxRefIdeal.Value.run (F := Ideal) m' g') ?_
    intro r hr c
    obtain ⟨hq, h0, h1⟩ := hr c
    obtain ⟨a0, a1⟩ := hagree c
    refine ⟨(hq.trans (Cert.BrDxRefIdeal.Read.val_main_v4_eq _ _)).trans ?_, h0, h1⟩
    rw [a0, a1]
    exact (Cert.BrDxIdeal.Value.final m c).symm

/-- The reference BrDwRef runs, leaves its arguments as they were, and ends with every counter at zero. -/
theorem frame_BrDwRef : Cert.quiescent_BrDwRefIdeal := fun m ρ _ =>
  (θ_run Cert.BrDwRefIdeal.defs _ _).mono (fun r h => ⟨fun c => (h c).2,
      Idealize.ShloMosaic.sem_eq_zero_of_no_sems (by decide) r.2⟩)
    (Cert.BrDwRefIdeal.Value.run (F := Ideal) m ρ)

/-- The kernel BrDw and its reference give the same array. -/
theorem algebraic_BrDw : Cert.algebraic_BrDwIdeal_BrDwRefIdeal := by
  pair_intro
  · run_from Cert.BrDwIdeal.Gen.run_main m g
  · refine θ_run_mono (Cert.BrDwRefIdeal.Value.run (F := Ideal) m' g') ?_
    intro r hr c
    obtain ⟨hq, h0, h1⟩ := hr c
    obtain ⟨a0, a1⟩ := hagree c
    refine ⟨(hq.trans (Cert.BrDwRefIdeal.Read.val_main_v5_eq _ _)).trans ?_, h0, h1⟩
    rw [a0, a1]
    exact (Cert.BrDwIdeal.Value.final m c).symm

/-- The reference SwaDwRef runs, leaves its arguments as they were, and ends with every counter at zero. -/
theorem frame_SwaDwRef : Cert.quiescent_SwaDwRefIdeal := fun m ρ _ =>
  (θ_run Cert.SwaDwRefIdeal.defs _ _).mono (fun r h => ⟨fun c => (h c).2,
      Idealize.ShloMosaic.sem_eq_zero_of_no_sems (by decide) r.2⟩)
    (Cert.SwaDwRefIdeal.Value.run (F := Ideal) m ρ)

/-- The kernel SwaDw and its reference give the same array. -/
theorem algebraic_SwaDw : Cert.algebraic_SwaDwIdeal_SwaDwRefIdeal := by
  pair_intro
  · run_from Cert.SwaDwIdeal.Gen.run_main m g
  · refine θ_run_mono (Cert.SwaDwRefIdeal.Value.run (F := Ideal) m' g') ?_
    intro r hr c
    obtain ⟨hq, h0, h1⟩ := hr c
    obtain ⟨a0, a1⟩ := hagree c
    refine ⟨(hq.trans (Cert.SwaDwRefIdeal.Read.val_main_v5_eq _ _)).trans ?_, h0, h1⟩
    rw [a0, a1]
    exact (Cert.SwaDwIdeal.Value.final m c).symm

/-- The reference MemDxRef runs, leaves its arguments as they were, and ends with every counter at zero. -/
theorem frame_MemDxRef : Cert.quiescent_MemDxRefIdeal := fun m ρ _ =>
  (θ_run Cert.MemDxRefIdeal.defs _ _).mono (fun r h => ⟨fun c => (h c).2,
      Idealize.ShloMosaic.sem_eq_zero_of_no_sems (by decide) r.2⟩)
    (Cert.MemDxRefIdeal.Value.run (F := Ideal) m ρ)

/-- The kernel MemDx and its reference give the same array. -/
theorem algebraic_MemDx : Cert.algebraic_MemDxIdeal_MemDxRefIdeal := by
  pair_intro
  · run_from Cert.MemDxIdeal.Gen.run_main m g
  · refine θ_run_mono (Cert.MemDxRefIdeal.Value.run (F := Ideal) m' g') ?_
    intro r hr c
    obtain ⟨hq, h0, h1, h2⟩ := hr c
    obtain ⟨a0, a1, a2⟩ := hagree c
    refine ⟨(hq.trans (Cert.MemDxRefIdeal.Read.val_main_v9_eq _ _ _)).trans ?_, h0, h1, h2⟩
    rw [a0, a1, a2]
    exact (Cert.MemDxIdeal.Value.final m c).symm

/-- The reference MemDwQRef runs, leaves its arguments as they were, and ends with every counter at zero. -/
theorem frame_MemDwQRef : Cert.quiescent_MemDwQRefIdeal := fun m ρ _ =>
  (θ_run Cert.MemDwQRefIdeal.defs _ _).mono (fun r h => ⟨fun c => (h c).2,
      Idealize.ShloMosaic.sem_eq_zero_of_no_sems (by decide) r.2⟩)
    (Cert.MemDwQRefIdeal.Value.run (F := Ideal) m ρ)

/-- The kernel MemDwQ and its reference give the same array. -/
theorem algebraic_MemDwQ : Cert.algebraic_MemDwQIdeal_MemDwQRefIdeal := by
  pair_intro
  · run_from Cert.MemDwQIdeal.Gen.run_main m g
  · refine θ_run_mono (Cert.MemDwQRefIdeal.Value.run (F := Ideal) m' g') ?_
    intro r hr c
    obtain ⟨hq, h0, h1⟩ := hr c
    obtain ⟨a0, a1⟩ := hagree c
    refine ⟨(hq.trans (Cert.MemDwQRefIdeal.Read.val_main_v5_eq _ _)).trans ?_, h0, h1⟩
    rw [a0, a1]
    exact (Cert.MemDwQIdeal.Value.final m c).symm

/-- The reference MemDwKvRef runs, leaves its arguments as they were, and ends with every counter at zero. -/
theorem frame_MemDwKvRef : Cert.quiescent_MemDwKvRefIdeal := fun m ρ _ =>
  (θ_run Cert.MemDwKvRefIdeal.defs _ _).mono (fun r h => ⟨fun c => (h c).2,
      Idealize.ShloMosaic.sem_eq_zero_of_no_sems (by decide) r.2⟩)
    (Cert.MemDwKvRefIdeal.Value.run (F := Ideal) m ρ)

/-- The kernel MemDwKv and its reference give the same array. -/
theorem algebraic_MemDwKv : Cert.algebraic_MemDwKvIdeal_MemDwKvRefIdeal := by
  pair_intro
  · run_from Cert.MemDwKvIdeal.Gen.run_main m g
  · refine θ_run_mono (Cert.MemDwKvRefIdeal.Value.run (F := Ideal) m' g') ?_
    intro r hr c
    obtain ⟨hq, h0, h1⟩ := hr c
    obtain ⟨a0, a1⟩ := hagree c
    refine ⟨(hq.trans (Cert.MemDwKvRefIdeal.Read.val_main_v4_eq _ _)).trans ?_, h0, h1⟩
    rw [a0, a1]
    exact (Cert.MemDwKvIdeal.Value.final m c).symm

/-- The reference MemDwORef runs, leaves its arguments as they were, and ends with every counter at zero. -/
theorem frame_MemDwORef : Cert.quiescent_MemDwORefIdeal := fun m ρ _ =>
  (θ_run Cert.MemDwORefIdeal.defs _ _).mono (fun r h => ⟨fun c => (h c).2,
      Idealize.ShloMosaic.sem_eq_zero_of_no_sems (by decide) r.2⟩)
    (Cert.MemDwORefIdeal.Value.run (F := Ideal) m ρ)

/-- The kernel MemDwO and its reference give the same array. -/
theorem algebraic_MemDwO : Cert.algebraic_MemDwOIdeal_MemDwORefIdeal := by
  pair_intro
  · run_from Cert.MemDwOIdeal.Gen.run_main m g
  · refine θ_run_mono (Cert.MemDwORefIdeal.Value.run (F := Ideal) m' g') ?_
    intro r hr c
    obtain ⟨hq, h0, h1⟩ := hr c
    obtain ⟨a0, a1⟩ := hagree c
    refine ⟨(hq.trans (Cert.MemDwORefIdeal.Read.val_main_v5_eq _ _)).trans ?_, h0, h1⟩
    rw [a0, a1]
    exact (Cert.MemDwOIdeal.Value.final m c).symm

/-- The reference SwaInRef runs, leaves its arguments as they were, and ends with every counter at zero. -/
theorem frame_SwaInRef : Cert.quiescent_SwaInRefIdeal := fun m ρ _ =>
  (θ_run Cert.SwaInRefIdeal.defs _ _).mono (fun r h => ⟨fun c => (h c).2,
      Idealize.ShloMosaic.sem_eq_zero_of_no_sems (by decide) r.2⟩)
    (Cert.SwaInRefIdeal.Value.run (F := Ideal) m ρ)

/-- The kernel SwaIn and its reference give the same array. -/
theorem algebraic_SwaIn : Cert.algebraic_SwaInIdeal_SwaInRefIdeal := by
  pair_intro
  · run_from Cert.SwaInIdeal.Gen.run_main m g
  · refine θ_run_mono (Cert.SwaInRefIdeal.Value.run (F := Ideal) m' g') ?_
    intro r hr c
    obtain ⟨hq, h0, h1⟩ := hr c
    obtain ⟨a0, a1⟩ := hagree c
    refine ⟨(hq.trans (Cert.SwaInRefIdeal.Read.val_main_v2_eq _ _)).trans ?_, h0, h1⟩
    rw [a0, a1]
    exact (Cert.SwaInIdeal.Value.final m c).symm

/-- The reference MemQRef runs, leaves its arguments as they were, and ends with every counter at zero. -/
theorem frame_MemQRef : Cert.quiescent_MemQRefIdeal := fun m ρ _ =>
  (θ_run Cert.MemQRefIdeal.defs _ _).mono (fun r h => ⟨fun c => (h c).2,
      Idealize.ShloMosaic.sem_eq_zero_of_no_sems (by decide) r.2⟩)
    (Cert.MemQRefIdeal.Value.run (F := Ideal) m ρ)

/-- The kernel MemQ and its reference give the same array. -/
theorem algebraic_MemQ : Cert.algebraic_MemQIdeal_MemQRefIdeal := by
  pair_intro
  · run_from Cert.MemQIdeal.Gen.run_main m g
  · refine θ_run_mono (Cert.MemQRefIdeal.Value.run (F := Ideal) m' g') ?_
    intro r hr c
    obtain ⟨hq, h0, h1⟩ := hr c
    obtain ⟨a0, a1⟩ := hagree c
    refine ⟨(hq.trans (Cert.MemQRefIdeal.Read.val_main_v2_eq _ _)).trans ?_, h0, h1⟩
    rw [a0, a1]
    exact (Cert.MemQIdeal.Value.final m c).symm

/-- The reference MemKvRef runs, leaves its arguments as they were, and ends with every counter at zero. -/
theorem frame_MemKvRef : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

/-- The kernel MemKv and its reference give the same array. -/
theorem algebraic_MemKv : Cert.algebraic_MemKvIdeal_MemKvRefIdeal := by
  pair_intro
  · run_from Cert.MemKvIdeal.Gen.run_main m g
  · refine θ_run_mono (Cert.MemKvRefIdeal.Value.run (F := Ideal) m' g') ?_
    intro r hr c
    obtain ⟨hq, h0, h1⟩ := hr c
    obtain ⟨a0, a1⟩ := hagree c
    refine ⟨(hq.trans (Cert.MemKvRefIdeal.Read.val_main_v2_eq _ _)).trans ?_, h0, h1⟩
    rw [a0, a1]
    exact (Cert.MemKvIdeal.Value.final m c).symm

/-- The reference MemORef runs, leaves its arguments as they were, and ends with every counter at zero. -/
theorem frame_MemORef : Cert.quiescent_MemORefIdeal := fun m ρ _ =>
  (θ_run Cert.MemORefIdeal.defs _ _).mono (fun r h => ⟨fun c => (h c).2,
      Idealize.ShloMosaic.sem_eq_zero_of_no_sems (by decide) r.2⟩)
    (Cert.MemORefIdeal.Value.run (F := Ideal) m ρ)

/-- The kernel MemO and its reference give the same array. -/
theorem algebraic_MemO : Cert.algebraic_MemOIdeal_MemORefIdeal := by
  pair_intro
  · run_from Cert.MemOIdeal.Gen.run_main m g
  · refine θ_run_mono (Cert.MemORefIdeal.Value.run (F := Ideal) m' g') ?_
    intro r hr c
    obtain ⟨hq, h0, h1, h2⟩ := hr c
    obtain ⟨a0, a1, a2⟩ := hagree c
    refine ⟨(hq.trans (Cert.MemORefIdeal.Read.val_main_v5_eq _ _ _)).trans ?_, h0, h1, h2⟩
    rw [a0, a1, a2]
    exact (Cert.MemOIdeal.Value.final m c).symm

/-- The reference ProjGatesRef runs, leaves its arguments as they were, and ends with every counter at zero. -/
theorem frame_ProjGatesRef : Cert.quiescent_ProjGatesRefIdeal := fun m ρ _ =>
  (θ_run Cert.ProjGatesRefIdeal.defs _ _).mono (fun r h => ⟨fun c => (h c).2,
      Idealize.ShloMosaic.sem_eq_zero_of_no_sems (by decide) r.2⟩)
    (Cert.ProjGatesRefIdeal.Value.run (F := Ideal) m ρ)

/-- The kernel ProjGates and its reference give the same array. -/
theorem algebraic_ProjGates : Cert.algebraic_ProjGatesIdeal_ProjGatesRefIdeal := by
  pair_intro
  · run_from Cert.ProjGatesIdeal.Gen.run_main m g
  · refine θ_run_mono (Cert.ProjGatesRefIdeal.Value.run (F := Ideal) m' g') ?_
    intro r hr c
    obtain ⟨hq, h0, h1⟩ := hr c
    obtain ⟨a0, a1⟩ := hagree c
    refine ⟨(hq.trans (Cert.ProjGatesRefIdeal.Read.val_main_v3_eq _ _)).trans ?_, h0, h1⟩
    rw [a0, a1]
    exact (Cert.ProjGatesIdeal.Value.final m c).symm

/-- The reference ProjGdnRef runs, leaves its arguments as they were, and ends with every counter at zero. -/
theorem frame_ProjGdnRef : Cert.quiescent_ProjGdnRefIdeal := fun m ρ _ =>
  (θ_run Cert.ProjGdnRefIdeal.defs _ _).mono (fun r h => ⟨fun c => (h c).2,
      Idealize.ShloMosaic.sem_eq_zero_of_no_sems (by decide) r.2⟩)
    (Cert.ProjGdnRefIdeal.Value.run (F := Ideal) m ρ)

/-- The kernel ProjGdn and its reference give the same array. -/
theorem algebraic_ProjGdn : Cert.algebraic_ProjGdnIdeal_ProjGdnRefIdeal := by
  pair_intro
  · run_from Cert.ProjGdnIdeal.Gen.run_main m g
  · refine θ_run_mono (Cert.ProjGdnRefIdeal.Value.run (F := Ideal) m' g') ?_
    intro r hr c
    obtain ⟨hq, h0, h1⟩ := hr c
    obtain ⟨a0, a1⟩ := hagree c
    refine ⟨(hq.trans (Cert.ProjGdnRefIdeal.Read.val_main_v2_eq _ _)).trans ?_, h0, h1⟩
    rw [a0, a1]
    exact (Cert.ProjGdnIdeal.Value.final m c).symm

/-- The reference BrFwdRef runs, leaves its arguments as they were, and ends with every counter at zero. -/
theorem frame_BrFwdRef : Cert.quiescent_BrFwdRefIdeal := fun m ρ _ =>
  (θ_run Cert.BrFwdRefIdeal.defs _ _).mono (fun r h => ⟨fun c => (h c).2,
      Idealize.ShloMosaic.sem_eq_zero_of_no_sems (by decide) r.2⟩)
    (Cert.BrFwdRefIdeal.Value.run (F := Ideal) m ρ)

/-- The kernel BrFwd and its reference give the same array. -/
theorem algebraic_BrFwd : Cert.algebraic_BrFwdIdeal_BrFwdRefIdeal := by
  pair_intro
  · run_from Cert.BrFwdIdeal.Gen.run_main m g
  · refine θ_run_mono (Cert.BrFwdRefIdeal.Value.run (F := Ideal) m' g') ?_
    intro r hr c
    obtain ⟨hq, h0, h1⟩ := hr c
    obtain ⟨a0, a1⟩ := hagree c
    refine ⟨(hq.trans (Cert.BrFwdRefIdeal.Read.val_main_v3_eq _ _)).trans ?_, h0, h1⟩
    rw [a0, a1]
    exact (Cert.BrFwdIdeal.Value.final m c).symm

/-- The reference OmDxRef runs, leaves its arguments as they were, and ends with every counter at zero. -/
theorem frame_OmDxRef : Cert.quiescent_OmDxRefIdeal := fun m ρ _ =>
  (θ_run Cert.OmDxRefIdeal.defs _ _).mono (fun r h => ⟨fun c => (h c).2,
      Idealize.ShloMosaic.sem_eq_zero_of_no_sems (by decide) r.2⟩)
    (Cert.OmDxRefIdeal.Value.run (F := Ideal) m ρ)

/-- The kernel OmDx and its reference give the same array. -/
theorem algebraic_OmDx : Cert.algebraic_OmDxIdeal_OmDxRefIdeal := by
  pair_intro
  · run_from Cert.OmDxIdeal.Gen.run_main m g
  · refine θ_run_mono (Cert.OmDxRefIdeal.Value.run (F := Ideal) m' g') ?_
    intro r hr c
    obtain ⟨hq, h0, h1⟩ := hr c
    obtain ⟨a0, a1⟩ := hagree c
    refine ⟨(hq.trans (Cert.OmDxRefIdeal.Read.val_main_v4_eq _ _)).trans ?_, h0, h1⟩
    rw [a0, a1]
    exact (Cert.OmDxIdeal.Value.final m c).symm

/-- The reference MixDxRef runs, leaves its arguments as they were, and ends with every counter at zero. -/
theorem frame_MixDxRef : Cert.quiescent_MixDxRefIdeal := fun m ρ _ =>
  (θ_run Cert.MixDxRefIdeal.defs _ _).mono (fun r h => ⟨fun c => (h c).2,
      Idealize.ShloMosaic.sem_eq_zero_of_no_sems (by decide) r.2⟩)
    (Cert.MixDxRefIdeal.Value.run (F := Ideal) m ρ)

/-- The kernel MixDx and its reference give the same array. -/
theorem algebraic_MixDx : Cert.algebraic_MixDxIdeal_MixDxRefIdeal := by
  pair_intro
  · run_from Cert.MixDxIdeal.Gen.run_main m g
  · refine θ_run_mono (Cert.MixDxRefIdeal.Value.run (F := Ideal) m' g') ?_
    intro r hr c
    obtain ⟨hq, h0, h1⟩ := hr c
    obtain ⟨a0, a1⟩ := hagree c
    refine ⟨(hq.trans (Cert.MixDxRefIdeal.Read.val_main_v4_eq _ _)).trans ?_, h0, h1⟩
    rw [a0, a1]
    exact (Cert.MixDxIdeal.Value.final m c).symm

/-- The reference MixDwRef runs, leaves its arguments as they were, and ends with every counter at zero. -/
theorem frame_MixDwRef : Cert.quiescent_MixDwRefIdeal := fun m ρ _ =>
  (θ_run Cert.MixDwRefIdeal.defs _ _).mono (fun r h => ⟨fun c => (h c).2,
      Idealize.ShloMosaic.sem_eq_zero_of_no_sems (by decide) r.2⟩)
    (Cert.MixDwRefIdeal.Value.run (F := Ideal) m ρ)

/-- The kernel MixDw and its reference give the same array. -/
theorem algebraic_MixDw : Cert.algebraic_MixDwIdeal_MixDwRefIdeal := by
  pair_intro
  · run_from Cert.MixDwIdeal.Gen.run_main m g
  · refine θ_run_mono (Cert.MixDwRefIdeal.Value.run (F := Ideal) m' g') ?_
    intro r hr c
    obtain ⟨hq, h0, h1⟩ := hr c
    obtain ⟨a0, a1⟩ := hagree c
    refine ⟨(hq.trans (Cert.MixDwRefIdeal.Read.val_main_v5_eq _ _)).trans ?_, h0, h1⟩
    rw [a0, a1]
    exact (Cert.MixDwIdeal.Value.final m c).symm

/-- The reference SwaDxRef runs, leaves its arguments as they were, and ends with every counter at zero. -/
theorem frame_SwaDxRef : Cert.quiescent_SwaDxRefIdeal := fun m ρ _ =>
  (θ_run Cert.SwaDxRefIdeal.defs _ _).mono (fun r h => ⟨fun c => (h c).2,
      Idealize.ShloMosaic.sem_eq_zero_of_no_sems (by decide) r.2⟩)
    (Cert.SwaDxRefIdeal.Value.run (F := Ideal) m ρ)

/-- The kernel SwaDx and its reference give the same array. -/
theorem algebraic_SwaDx : Cert.algebraic_SwaDxIdeal_SwaDxRefIdeal := by
  pair_intro
  · run_from Cert.SwaDxIdeal.Gen.run_main m g
  · refine θ_run_mono (Cert.SwaDxRefIdeal.Value.run (F := Ideal) m' g') ?_
    intro r hr c
    obtain ⟨hq, h0, h1, h2⟩ := hr c
    obtain ⟨a0, a1, a2⟩ := hagree c
    refine ⟨(hq.trans (Cert.SwaDxRefIdeal.Read.val_main_v9_eq _ _ _)).trans ?_, h0, h1, h2⟩
    rw [a0, a1, a2]
    exact (Cert.SwaDxIdeal.Value.final m c).symm

/-- The reference GatesDxRef runs, leaves its arguments as they were, and ends with every counter at zero. -/
theorem frame_GatesDxRef : Cert.quiescent_GatesDxRefIdeal := fun m ρ _ =>
  (θ_run Cert.GatesDxRefIdeal.defs _ _).mono (fun r h => ⟨fun c => (h c).2,
      Idealize.ShloMosaic.sem_eq_zero_of_no_sems (by decide) r.2⟩)
    (Cert.GatesDxRefIdeal.Value.run (F := Ideal) m ρ)

/-- The kernel GatesDx and its reference give the same array. -/
theorem algebraic_GatesDx : Cert.algebraic_GatesDxIdeal_GatesDxRefIdeal := by
  pair_intro
  · run_from Cert.GatesDxIdeal.Gen.run_main m g
  · refine θ_run_mono (Cert.GatesDxRefIdeal.Value.run (F := Ideal) m' g') ?_
    intro r hr c
    obtain ⟨hq, h0, h1, h2⟩ := hr c
    obtain ⟨a0, a1, a2⟩ := hagree c
    refine ⟨(hq.trans (Cert.GatesDxRefIdeal.Read.val_main_v5_eq _ _ _)).trans ?_, h0, h1, h2⟩
    rw [a0, a1, a2]
    exact (Cert.GatesDxIdeal.Value.final m c).symm

/-- The reference ColsRef runs, leaves its arguments as they were, and ends with every counter at zero. -/
theorem frame_ColsRef : Cert.quiescent_ColsRefIdeal := fun m ρ _ =>
  (θ_run Cert.ColsRefIdeal.defs _ _).mono (fun r h => ⟨fun c => (h c).2,
      Idealize.ShloMosaic.sem_eq_zero_of_no_sems (by decide) r.2⟩)
    (Cert.ColsRefIdeal.Value.run (F := Ideal) m ρ)

/-- The kernel Cols and its reference give the same array. -/
theorem algebraic_Cols : Cert.algebraic_ColsIdeal_ColsRefIdeal := by
  pair_intro
  · run_from Cert.ColsIdeal.Gen.run_main m g
  · refine θ_run_mono (Cert.ColsRefIdeal.Value.run (F := Ideal) m' g') ?_
    intro r hr c
    obtain ⟨hq, h0, h1, h2, h3, h4, h5⟩ := hr c
    obtain ⟨a0, a1, a2, a3, a4, a5⟩ := hagree c
    refine ⟨(hq.trans (Cert.ColsRefIdeal.Read.val_main_v46_eq _ _ _ _ _ _)).trans ?_, h0, h1, h2, h3, h4, h5⟩
    rw [a0, a1, a2, a3, a4, a5]
    exact (Cert.ColsIdeal.Value.final m c).symm

/-- The reference MergeFwdRef runs, leaves its arguments as they were, and ends with every counter at zero. -/
theorem frame_MergeFwdRef : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

/-- The kernel MergeFwd and its reference give the same array. -/
theorem algebraic_MergeFwd : Cert.algebraic_MergeFwdIdeal_MergeFwdRefIdeal := by
  pair_intro
  · run_from Cert.MergeFwdIdeal.Gen.run_main m g
  · refine θ_run_mono (Cert.MergeFwdRefIdeal.Value.run (F := Ideal) m' g') ?_
    intro r hr c
    obtain ⟨hq, h0, h1, h2⟩ := hr c
    obtain ⟨a0, a1, a2⟩ := hagree c
    refine ⟨(hq.trans (Cert.MergeFwdRefIdeal.Read.val_main_v20_eq _ _ _)).trans ?_, h0, h1, h2⟩
    rw [a0, a1, a2]
    exact (Cert.MergeFwdIdeal.Value.final m c).symm

/-- The reference MemFwdRef runs, leaves its arguments as they were, and ends with every counter at zero. -/
theorem frame_MemFwdRef : Cert.quiescent_MemFwdRefIdeal := fun m ρ _ =>
  (θ_run Cert.MemFwdRefIdeal.defs _ _).mono (fun r h => ⟨fun c => (h c).2,
      Idealize.ShloMosaic.sem_eq_zero_of_no_sems (by decide) r.2⟩)
    (Cert.MemFwdRefIdeal.Value.run (F := Ideal) m ρ)

/-- The kernel MemFwd and its reference give the same array. -/
theorem algebraic_MemFwd : Cert.algebraic_MemFwdIdeal_MemFwdRefIdeal := by
  pair_intro
  · run_from Cert.MemFwdIdeal.Gen.run_main m g
  · refine θ_run_mono (Cert.MemFwdRefIdeal.Value.run (F := Ideal) m' g') ?_
    intro r hr c
    obtain ⟨hq, h0, h1⟩ := hr c
    obtain ⟨a0, a1⟩ := hagree c
    refine ⟨(hq.trans (Cert.MemFwdRefIdeal.Read.val_main_v23_eq _ _)).trans ?_, h0, h1⟩
    rw [a0, a1]
    exact (Cert.MemFwdIdeal.Value.final m c).symm

theorem claim : Cert.Claim := ⟨Cert.Mem.Gen.facts, Cert.MemIdeal.Gen.facts, Cert.PlainIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.GatesDw.Gen.facts, Cert.GatesDwIdeal.Gen.facts, Cert.GatesDwRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.MixO.Gen.facts, Cert.MixOIdeal.Gen.facts, Cert.MixORefIdeal.Gen.facts, Cert.BrDx.Gen.facts, Cert.BrDxIdeal.Gen.facts, Cert.BrDxRefIdeal.Gen.facts, Cert.BrDw.Gen.facts, Cert.BrDwIdeal.Gen.facts, Cert.BrDwRefIdeal.Gen.facts, Cert.SwaDw.Gen.facts, Cert.SwaDwIdeal.Gen.facts, Cert.SwaDwRefIdeal.Gen.facts, Cert.MemDx.Gen.facts, Cert.MemDxIdeal.Gen.facts, Cert.MemDxRefIdeal.Gen.facts, Cert.MemDwQ.Gen.facts, Cert.MemDwQIdeal.Gen.facts, Cert.MemDwQRefIdeal.Gen.facts, Cert.MemDwKv.Gen.facts, Cert.MemDwKvIdeal.Gen.facts, Cert.MemDwKvRefIdeal.Gen.facts, Cert.MemDwO.Gen.facts, Cert.MemDwOIdeal.Gen.facts, Cert.MemDwORefIdeal.Gen.facts, Cert.SwaIn.Gen.facts, Cert.SwaInIdeal.Gen.facts, Cert.SwaInRefIdeal.Gen.facts, Cert.MemQ.Gen.facts, Cert.MemQIdeal.Gen.facts, Cert.MemQRefIdeal.Gen.facts, Cert.MemKv.Gen.facts, Cert.MemKvIdeal.Gen.facts, Cert.MemKvRefIdeal.Gen.facts, Cert.MemO.Gen.facts, Cert.MemOIdeal.Gen.facts, Cert.MemORefIdeal.Gen.facts, Cert.Swa.Gen.facts, Cert.SwaIdeal.Gen.facts, Cert.SwaRefIdeal.Gen.facts, Cert.ProjGates.Gen.facts, Cert.ProjGatesIdeal.Gen.facts, Cert.ProjGatesRefIdeal.Gen.facts, Cert.ProjGdn.Gen.facts, Cert.ProjGdnIdeal.Gen.facts, Cert.ProjGdnRefIdeal.Gen.facts, Cert.BrFwd.Gen.facts, Cert.BrFwdIdeal.Gen.facts, Cert.BrFwdRefIdeal.Gen.facts, Cert.OmDx.Gen.facts, Cert.OmDxIdeal.Gen.facts, Cert.OmDxRefIdeal.Gen.facts, Cert.MixDx.Gen.facts, Cert.MixDxIdeal.Gen.facts, Cert.MixDxRefIdeal.Gen.facts, Cert.MixDw.Gen.facts, Cert.MixDwIdeal.Gen.facts, Cert.MixDwRefIdeal.Gen.facts, Cert.SwaDx.Gen.facts, Cert.SwaDxIdeal.Gen.facts, Cert.SwaDxRefIdeal.Gen.facts, Cert.GatesDx.Gen.facts, Cert.GatesDxIdeal.Gen.facts, Cert.GatesDxRefIdeal.Gen.facts, Cert.Merge.Gen.facts, Cert.MergeIdeal.Gen.facts, Cert.MergeRefIdeal.Gen.facts, Cert.Cols.Gen.facts, Cert.ColsIdeal.Gen.facts, Cert.ColsRefIdeal.Gen.facts, Cert.MergeFwd.Gen.facts, Cert.MergeFwdIdeal.Gen.facts, Cert.MergeFwdRefIdeal.Gen.facts, Cert.MemFwd.Gen.facts, Cert.MemFwdIdeal.Gen.facts, Cert.MemFwdRefIdeal.Gen.facts, Cert.SwaFwd.Gen.facts, Cert.SwaFwdIdeal.Gen.facts, Cert.SwaFwdRefIdeal.Gen.facts, Cert.LnFwd.Gen.facts, Cert.LnFwdIdeal.Gen.facts, Cert.LnFwdRefIdeal.Gen.facts, Cert.AdamIn.Gen.facts, Cert.AdamInIdeal.Gen.facts, Cert.AdamInRefIdeal.Gen.facts, Cert.AdamBr.Gen.facts, Cert.AdamBrIdeal.Gen.facts, Cert.AdamBrRefIdeal.Gen.facts, Cert.AdamMix.Gen.facts, Cert.AdamMixIdeal.Gen.facts, Cert.AdamMixRefIdeal.Gen.facts, Cert.AdamQ.Gen.facts, Cert.AdamQIdeal.Gen.facts, Cert.AdamQRefIdeal.Gen.facts, Cert.AdamKv.Gen.facts, Cert.AdamKvIdeal.Gen.facts, Cert.AdamKvRefIdeal.Gen.facts, Cert.AdamO.Gen.facts, Cert.AdamOIdeal.Gen.facts, Cert.AdamORefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamSmall.Gen.facts, Cert.AdamSmallIdeal.Gen.facts, Cert.AdamSmallRefIdeal.Gen.facts, Cert.PlainIdeal.Value.preFacts, Cert.SwaRefIdeal.Value.preFacts, Cert.SwaFwdRefIdeal.Value.preFacts,
  fun m ρ _ => Cert.Mem.Gen.frame m ρ, fun m ρ _ => Cert.MemIdeal.Gen.frame m ρ, fun m ρ _ => Cert.MemIdeal.Gen.frame m ρ,
  fun m ρ _ => plain_frame m ρ, fun m ρ _ => plain_frame m ρ,
  fun m ρ _ => Cert.UpDx.Gen.frame m ρ, fun m ρ _ => Cert.UpDxIdeal.Gen.frame m ρ, frame_UpDxRef,
  fun m ρ _ => Cert.UpDw.Gen.frame m ρ, fun m ρ _ => Cert.UpDwIdeal.Gen.frame m ρ, frame_UpDwRef,
  fun m ρ _ => Cert.DownDx.Gen.frame m ρ, fun m ρ _ => Cert.DownDxIdeal.Gen.frame m ρ, frame_DownDxRef,
  fun m ρ _ => Cert.DownDw.Gen.frame m ρ, fun m ρ _ => Cert.DownDwIdeal.Gen.frame m ρ, frame_DownDwRef,
  fun m ρ _ => Cert.GatesDw.Gen.frame m ρ, fun m ρ _ => Cert.GatesDwIdeal.Gen.frame m ρ, frame_GatesDwRef,
  fun m ρ _ => Cert.FfnUp.Gen.frame m ρ, fun m ρ _ => Cert.FfnUpIdeal.Gen.frame m ρ, frame_FfnUpRef,
  fun m ρ _ => Cert.FfnDown.Gen.frame m ρ, fun m ρ _ => Cert.FfnDownIdeal.Gen.frame m ρ, frame_FfnDownRef,
  fun m ρ _ => Cert.MixO.Gen.frame m ρ, fun m ρ _ => Cert.MixOIdeal.Gen.frame m ρ, frame_MixORef,
  fun m ρ _ => Cert.BrDx.Gen.frame m ρ, fun m ρ _ => Cert.BrDxIdeal.Gen.frame m ρ, frame_BrDxRef,
  fun m ρ _ => Cert.BrDw.Gen.frame m ρ, fun m ρ _ => Cert.BrDwIdeal.Gen.frame m ρ, frame_BrDwRef,
  fun m ρ _ => Cert.SwaDw.Gen.frame m ρ, fun m ρ _ => Cert.SwaDwIdeal.Gen.frame m ρ, frame_SwaDwRef,
  fun m ρ _ => Cert.MemDx.Gen.frame m ρ, fun m ρ _ => Cert.MemDxIdeal.Gen.frame m ρ, frame_MemDxRef,
  fun m ρ _ => Cert.MemDwQ.Gen.frame m ρ, fun m ρ _ => Cert.MemDwQIdeal.Gen.frame m ρ, frame_MemDwQRef,
  fun m ρ _ => Cert.MemDwKv.Gen.frame m ρ, fun m ρ _ => Cert.MemDwKvIdeal.Gen.frame m ρ, frame_MemDwKvRef,
  fun m ρ _ => Cert.MemDwO.Gen.frame m ρ, fun m ρ _ => Cert.MemDwOIdeal.Gen.frame m ρ, frame_MemDwORef,
  fun m ρ _ => Cert.SwaIn.Gen.frame m ρ, fun m ρ _ => Cert.SwaInIdeal.Gen.frame m ρ, frame_SwaInRef,
  fun m ρ _ => Cert.MemQ.Gen.frame m ρ, fun m ρ _ => Cert.MemQIdeal.Gen.frame m ρ, frame_MemQRef,
  fun m ρ _ => Cert.MemKv.Gen.frame m ρ, fun m ρ _ => Cert.MemKvIdeal.Gen.frame m ρ, frame_MemKvRef,
  fun m ρ _ => Cert.MemO.Gen.frame m ρ, fun m ρ _ => Cert.MemOIdeal.Gen.frame m ρ, frame_MemORef,
  fun m ρ _ => Cert.Swa.Gen.frame m ρ, fun m ρ _ => Cert.SwaIdeal.Gen.frame m ρ, fun m ρ _ => Cert.SwaIdeal.Gen.frame m ρ,
  frame_SwaRef, fun m ρ _ => frame_SwaRef m ρ trivial,
  fun m ρ _ => Cert.ProjGates.Gen.frame m ρ, fun m ρ _ => Cert.ProjGatesIdeal.Gen.frame m ρ, frame_ProjGatesRef,
  fun m ρ _ => Cert.ProjGdn.Gen.frame m ρ, fun m ρ _ => Cert.ProjGdnIdeal.Gen.frame m ρ, frame_ProjGdnRef,
  fun m ρ _ => Cert.BrFwd.Gen.frame m ρ, fun m ρ _ => Cert.BrFwdIdeal.Gen.frame m ρ, frame_BrFwdRef,
  fun m ρ _ => Cert.OmDx.Gen.frame m ρ, fun m ρ _ => Cert.OmDxIdeal.Gen.frame m ρ, frame_OmDxRef,
  fun m ρ _ => Cert.MixDx.Gen.frame m ρ, fun m ρ _ => Cert.MixDxIdeal.Gen.frame m ρ, frame_MixDxRef,
  fun m ρ _ => Cert.MixDw.Gen.frame m ρ, fun m ρ _ => Cert.MixDwIdeal.Gen.frame m ρ, frame_MixDwRef,
  fun m ρ _ => Cert.SwaDx.Gen.frame m ρ, fun m ρ _ => Cert.SwaDxIdeal.Gen.frame m ρ, frame_SwaDxRef,
  fun m ρ _ => Cert.GatesDx.Gen.frame m ρ, fun m ρ _ => Cert.GatesDxIdeal.Gen.frame m ρ, frame_GatesDxRef,
  fun m ρ _ => Cert.Merge.Gen.frame m ρ, fun m ρ _ => Cert.MergeIdeal.Gen.frame m ρ, frame_MergeRef,
  fun m ρ _ => Cert.Cols.Gen.frame m ρ, fun m ρ _ => Cert.ColsIdeal.Gen.frame m ρ, frame_ColsRef,
  fun m ρ _ => Cert.MergeFwd.Gen.frame m ρ, fun m ρ _ => Cert.MergeFwdIdeal.Gen.frame m ρ, frame_MergeFwdRef,
  fun m ρ _ => Cert.MemFwd.Gen.frame m ρ, fun m ρ _ => Cert.MemFwdIdeal.Gen.frame m ρ, frame_MemFwdRef,
  fun m ρ _ => Cert.SwaFwd.Gen.frame m ρ, fun m ρ _ => Cert.SwaFwdIdeal.Gen.frame m ρ, fun m ρ _ => Cert.SwaFwdIdeal.Gen.frame m ρ,
  frame_SwaFwdRef, fun m ρ _ => frame_SwaFwdRef m ρ trivial,
  fun m ρ _ => Cert.LnFwd.Gen.frame m ρ, fun m ρ _ => Cert.LnFwdIdeal.Gen.frame m ρ, frame_LnFwdRef,
  fun m ρ _ => Cert.AdamIn.Gen.frame m ρ, fun m ρ _ => Cert.AdamInIdeal.Gen.frame m ρ, frame_AdamInRef,
  fun m ρ _ => Cert.AdamBr.Gen.frame m ρ, fun m ρ _ => Cert.AdamBrIdeal.Gen.frame m ρ, frame_AdamBrRef,
  fun m ρ _ => Cert.AdamMix.Gen.frame m ρ, fun m ρ _ => Cert.AdamMixIdeal.Gen.frame m ρ, frame_AdamMixRef,
  fun m ρ _ => Cert.AdamQ.Gen.frame m ρ, fun m ρ _ => Cert.AdamQIdeal.Gen.frame m ρ, frame_AdamQRef,
  fun m ρ _ => Cert.AdamKv.Gen.frame m ρ, fun m ρ _ => Cert.AdamKvIdeal.Gen.frame m ρ, frame_AdamKvRef,
  fun m ρ _ => Cert.AdamO.Gen.frame m ρ, fun m ρ _ => Cert.AdamOIdeal.Gen.frame m ρ, frame_AdamORef,
  fun m ρ _ => Cert.AdamUp.Gen.frame m ρ, fun m ρ _ => Cert.AdamUpIdeal.Gen.frame m ρ, frame_AdamUpRef,
  fun m ρ _ => Cert.AdamDown.Gen.frame m ρ, fun m ρ _ => Cert.AdamDownIdeal.Gen.frame m ρ, frame_AdamDownRef,
  fun m ρ _ => Cert.AdamSmall.Gen.frame m ρ, fun m ρ _ => Cert.AdamSmallIdeal.Gen.frame m ρ, frame_AdamSmallRef,
  trivial, algebraic,
  trivial, algebraic_UpDx,
  trivial, algebraic_UpDw,
  trivial, algebraic_DownDx,
  trivial, algebraic_DownDw,
  trivial, algebraic_GatesDw,
  trivial, algebraic_FfnUp,
  trivial, algebraic_FfnDown,
  trivial, algebraic_MixO,
  trivial, algebraic_BrDx,
  trivial, algebraic_BrDw,
  trivial, algebraic_SwaDw,
  trivial, algebraic_MemDx,
  trivial, algebraic_MemDwQ,
  trivial, algebraic_MemDwKv,
  trivial, algebraic_MemDwO,
  trivial, algebraic_SwaIn,
  trivial, algebraic_MemQ,
  trivial, algebraic_MemKv,
  trivial, algebraic_MemO,
  Idealize.ShloMosaic.IdealRules.named_const.statement Cert.SwaIdeal.κ "mask" .f32 0xF149F2CA#32 ⊥ rfl, algebraic_Swa,
  trivial, algebraic_ProjGates,
  trivial, algebraic_ProjGdn,
  trivial, algebraic_BrFwd,
  trivial, algebraic_OmDx,
  trivial, algebraic_MixDx,
  trivial, algebraic_MixDw,
  trivial, algebraic_SwaDx,
  trivial, algebraic_GatesDx,
  trivial, algebraic_Merge,
  trivial, algebraic_Cols,
  trivial, algebraic_MergeFwd,
  trivial, algebraic_MemFwd,
  Idealize.ShloMosaic.IdealRules.named_const.statement Cert.SwaFwdIdeal.κ "mask" .f32 0xF149F2CA#32 ⊥ rfl, algebraic_SwaFwd,
  trivial, algebraic_LnFwd,
  trivial, algebraic_AdamIn,
  trivial, algebraic_AdamBr,
  trivial, algebraic_AdamMix,
  trivial, algebraic_AdamQ,
  trivial, algebraic_AdamKv,
  trivial, algebraic_AdamO,
  trivial, algebraic_AdamUp,
  trivial, algebraic_AdamDown,
  trivial, algebraic_AdamSmall⟩

end Cert.Proof

end
